-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Merge (m : (ℓ : Loc Cert.Merge.nD Cert.Merge.τ Cert.Merge.sig) → Buf (Elt Bits) ℓ) : Prop :=
  True

def Pre_MergeIdeal (m : (ℓ : Loc Cert.MergeIdeal.nD Cert.MergeIdeal.τ Cert.MergeIdeal.sig) → Buf (Elt Ideal) ℓ) : Prop :=
  True

def Pre_MergeRefIdeal (m : (ℓ : Loc Cert.MergeRefIdeal.nD Cert.MergeRefIdeal.τ Cert.MergeRefIdeal.sig) → Buf (Elt Ideal) ℓ) : Prop :=
  True

def Pre_Inputs (m : (ℓ : Loc Cert.Inputs.nD Cert.Inputs.τ Cert.Inputs.sig) → Buf (Elt Bits) ℓ) : Prop :=
  True

def Pre_InputsIdeal (m : (ℓ : Loc Cert.InputsIdeal.nD Cert.InputsIdeal.τ Cert.InputsIdeal.sig) → Buf (Elt Ideal) ℓ) : Prop :=
  True

def Pre_InputsRefIdeal (m : (ℓ : Loc Cert.InputsRefIdeal.nD Cert.InputsRefIdeal.τ Cert.InputsRefIdeal.sig) → Buf (Elt Ideal) ℓ) : Prop :=
  True

def Pre_Sample (m : (ℓ : Loc Cert.Sample.nD Cert.Sample.τ Cert.Sample.sig) → Buf (Elt Bits) ℓ) : Prop :=
  True

def Pre_SampleIdeal (m : (ℓ : Loc Cert.SampleIdeal.nD Cert.SampleIdeal.τ Cert.SampleIdeal.sig) → Buf (Elt Ideal) ℓ) : Prop :=
  True

def Pre_SampleRefIdeal (m : (ℓ : Loc Cert.SampleRefIdeal.nD Cert.SampleRefIdeal.τ Cert.SampleRefIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_Merge [hMerge : Cert.Merge.Facts] : Prop :=
  ∀ (m : (ℓ : Loc Cert.Merge.nD Cert.Merge.τ Cert.Merge.sig) → Buf (Elt Bits) ℓ) (g : Dev Cert.Merge.nD → PrngReg), Pre_Merge m →
    θ_run (Cert.Merge.defs (F := Bits)) (onTc (τ := Cert.Merge.τ) (Cert.Merge.main (F := Bits))) ⟨m, fun _ => 0, g⟩ (fun r => (∀ c : Dev Cert.Merge.nD,
      r.2.mem ((c.tc : Thread Cert.Merge.nD Cert.Merge.τ).loc Cert.Merge.main_arg0) = m ((c.tc : Thread Cert.Merge.nD Cert.Merge.τ).loc Cert.Merge.main_arg0)
      ∧ r.2.mem ((c.tc : Thread Cert.Merge.nD Cert.Merge.τ).loc Cert.Merge.main_arg1) = m ((c.tc : Thread Cert.Merge.nD Cert.Merge.τ).loc Cert.Merge.main_arg1)
      ∧ r.2.mem ((c.tc : Thread Cert.Merge.nD Cert.Merge.τ).loc Cert.Merge.main_arg2) = m ((c.tc : Thread Cert.Merge.nD Cert.Merge.τ).loc Cert.Merge.main_arg2)
      ∧ r.2.mem ((c.tc : Thread Cert.Merge.nD Cert.Merge.τ).loc Cert.Merge.main_arg3) = m ((c.tc : Thread Cert.Merge.nD Cert.Merge.τ).loc Cert.Merge.main_arg3)
      ∧ r.2.mem ((c.tc : Thread Cert.Merge.nD Cert.Merge.τ).loc Cert.Merge.main_arg4) = m ((c.tc : Thread Cert.Merge.nD Cert.Merge.τ).loc Cert.Merge.main_arg4)
      ∧ r.2.mem ((c.tc : Thread Cert.Merge.nD Cert.Merge.τ).loc Cert.Merge.main_arg5) = m ((c.tc : Thread Cert.Merge.nD Cert.Merge.τ).loc Cert.Merge.main_arg5)
      ∧ r.2.mem ((c.tc : Thread Cert.Merge.nD Cert.Merge.τ).loc Cert.Merge.main_arg6) = m ((c.tc : Thread Cert.Merge.nD Cert.Merge.τ).loc Cert.Merge.main_arg6)
      ∧ r.2.mem ((c.tc : Thread Cert.Merge.nD Cert.Merge.τ).loc Cert.Merge.main_arg7) = m ((c.tc : Thread Cert.Merge.nD Cert.Merge.τ).loc Cert.Merge.main_arg7)
      ∧ r.2.mem ((c.tc : Thread Cert.Merge.nD Cert.Merge.τ).loc Cert.Merge.main_arg8) = m ((c.tc : Thread Cert.Merge.nD Cert.Merge.τ).loc Cert.Merge.main_arg8)
      ∧ r.2.mem ((c.tc : Thread Cert.Merge.nD Cert.Merge.τ).loc Cert.Merge.main_arg9) = m ((c.tc : Thread Cert.Merge.nD Cert.Merge.τ).loc Cert.Merge.main_arg9)
      ∧ r.2.mem ((c.tc : Thread Cert.Merge.nD Cert.Merge.τ).loc Cert.Merge.main_arg10) = m ((c.tc : Thread Cert.Merge.nD Cert.Merge.τ).loc Cert.Merge.main_arg10))
      ∧ r.2.sem = fun _ => 0)

def quiescent_MergeIdeal [hMergeIdeal : Cert.MergeIdeal.Facts] : Prop :=
  ∀ (m : (ℓ : Loc Cert.MergeIdeal.nD Cert.MergeIdeal.τ Cert.MergeIdeal.sig) → Buf (Elt Ideal) ℓ) (g : Dev Cert.MergeIdeal.nD → PrngReg), Pre_MergeIdeal m →
    θ_run (Cert.MergeIdeal.defs (F := Ideal)) (onTc (τ := Cert.MergeIdeal.τ) (Cert.MergeIdeal.main (F := Ideal))) ⟨m, fun _ => 0, g⟩ (fun r => (∀ c : Dev Cert.MergeIdeal.nD,
      r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
      ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
      ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
      ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
      ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
      ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5)
      ∧ r.2.mem ((c.tc : Thread Cert.MergeIdeal.nD Cert.MergeIdeal.τ).loc Cert.MergeIdeal.main_arg6) = m ((c.tc : Thread Cert.MergeIdeal.nD Cert.MergeIdeal.τ).loc Cert.MergeIdeal.main_arg6)
      ∧ r.2.mem ((c.tc : Thread Cert.MergeIdeal.nD Cert.MergeIdeal.τ).loc Cert.MergeIdeal.main_arg7) = m ((c.tc : Thread Cert.MergeIdeal.nD Cert.MergeIdeal.τ).loc Cert.MergeIdeal.main_arg7)
      ∧ r.2.mem ((c.tc : Thread Cert.MergeIdeal.nD Cert.MergeIdeal.τ).loc Cert.MergeIdeal.main_arg8) = m ((c.tc : Thread Cert.MergeIdeal.nD Cert.MergeIdeal.τ).loc Cert.MergeIdeal.main_arg8)
      ∧ r.2.mem ((c.tc : Thread Cert.MergeIdeal.nD Cert.MergeIdeal.τ).loc Cert.MergeIdeal.main_arg9) = m ((c.tc : Thread Cert.MergeIdeal.nD Cert.MergeIdeal.τ).loc Cert.MergeIdeal.main_arg9)
      ∧ r.2.mem ((c.tc : Thread Cert.MergeIdeal.nD Cert.MergeIdeal.τ).loc Cert.MergeIdeal.main_arg10) = m ((c.tc : Thread Cert.MergeIdeal.nD Cert.MergeIdeal.τ).loc Cert.MergeIdeal.main_arg10))
      ∧ r.2.sem = fun _ => 0)

def quiescent_MergeRefIdeal [hMergeRefIdeal : Cert.MergeRefIdeal.Facts] : Prop :=
  ∀ (m : (ℓ : Loc Cert.MergeRefIdeal.nD Cert.MergeRefIdeal.τ Cert.MergeRefIdeal.sig) → Buf (Elt Ideal) ℓ) (g : Dev Cert.MergeRefIdeal.nD → PrngReg), Pre_MergeRefIdeal m →
    θ_run (Cert.MergeRefIdeal.defs (F := Ideal)) (onTc (τ := Cert.MergeRefIdeal.τ) (Cert.MergeRefIdeal.main (F := Ideal))) ⟨m, fun _ => 0, g⟩ (fun r => (∀ c : Dev Cert.MergeRefIdeal.nD,
      r.2.mem ((c.tc : Thread Cert.MergeRefIdeal.nD Cert.MergeRefIdeal.τ).loc Cert.MergeRefIdeal.main_arg0) = m ((c.tc : Thread Cert.MergeRefIdeal.nD Cert.MergeRefIdeal.τ).loc Cert.MergeRefIdeal.main_arg0)
      ∧ r.2.mem ((c.tc : Thread Cert.MergeRefIdeal.nD Cert.MergeRefIdeal.τ).loc Cert.MergeRefIdeal.main_arg1) = m ((c.tc : Thread Cert.MergeRefIdeal.nD Cert.MergeRefIdeal.τ).loc Cert.MergeRefIdeal.main_arg1)
      ∧ r.2.mem ((c.tc : Thread Cert.MergeRefIdeal.nD Cert.MergeRefIdeal.τ).loc Cert.MergeRefIdeal.main_arg2) = m ((c.tc : Thread Cert.MergeRefIdeal.nD Cert.MergeRefIdeal.τ).loc Cert.MergeRefIdeal.main_arg2)
      ∧ r.2.mem ((c.tc : Thread Cert.MergeRefIdeal.nD Cert.MergeRefIdeal.τ).loc Cert.MergeRefIdeal.main_arg3) = m ((c.tc : Thread Cert.MergeRefIdeal.nD Cert.MergeRefIdeal.τ).loc Cert.MergeRefIdeal.main_arg3)
      ∧ r.2.mem ((c.tc : Thread Cert.MergeRefIdeal.nD Cert.MergeRefIdeal.τ).loc Cert.MergeRefIdeal.main_arg4) = m ((c.tc : Thread Cert.MergeRefIdeal.nD Cert.MergeRefIdeal.τ).loc Cert.MergeRefIdeal.main_arg4)
      ∧ r.2.mem ((c.tc : Thread Cert.MergeRefIdeal.nD Cert.MergeRefIdeal.τ).loc Cert.MergeRefIdeal.main_arg5) = m ((c.tc : Thread Cert.MergeRefIdeal.nD Cert.MergeRefIdeal.τ).loc Cert.MergeRefIdeal.main_arg5)
      ∧ r.2.mem ((c.tc : Thread Cert.MergeRefIdeal.nD Cert.MergeRefIdeal.τ).loc Cert.MergeRefIdeal.main_arg6) = m ((c.tc : Thread Cert.MergeRefIdeal.nD Cert.MergeRefIdeal.τ).loc Cert.MergeRefIdeal.main_arg6)
      ∧ r.2.mem ((c.tc : Thread Cert.MergeRefIdeal.nD Cert.MergeRefIdeal.τ).loc Cert.MergeRefIdeal.main_arg7) = m ((c.tc : Thread Cert.MergeRefIdeal.nD Cert.MergeRefIdeal.τ).loc Cert.MergeRefIdeal.main_arg7)
      ∧ r.2.mem ((c.tc : Thread Cert.MergeRefIdeal.nD Cert.MergeRefIdeal.τ).loc Cert.MergeRefIdeal.main_arg8) = m ((c.tc : Thread Cert.MergeRefIdeal.nD Cert.MergeRefIdeal.τ).loc Cert.MergeRefIdeal.main_arg8)
      ∧ r.2.mem ((c.tc : Thread Cert.MergeRefIdeal.nD Cert.MergeRefIdeal.τ).loc Cert.MergeRefIdeal.main_arg9) = m ((c.tc : Thread Cert.MergeRefIdeal.nD Cert.MergeRefIdeal.τ).loc Cert.MergeRefIdeal.main_arg9)
      ∧ r.2.mem ((c.tc : Thread Cert.MergeRefIdeal.nD Cert.MergeRefIdeal.τ).loc Cert.MergeRefIdeal.main_arg10) = m ((c.tc : Thread Cert.MergeRefIdeal.nD Cert.MergeRefIdeal.τ).loc Cert.MergeRefIdeal.main_arg10))
      ∧ r.2.sem = fun _ => 0)

def quiescent_Inputs [hInputs : Cert.Inputs.Facts] : Prop :=
  ∀ (m : (ℓ : Loc Cert.Inputs.nD Cert.Inputs.τ Cert.Inputs.sig) → Buf (Elt Bits) ℓ) (g : Dev Cert.Inputs.nD → PrngReg), Pre_Inputs m →
    θ_run (Cert.Inputs.defs (F := Bits)) (onTc (τ := Cert.Inputs.τ) (Cert.Inputs.main (F := Bits))) ⟨m, fun _ => 0, g⟩ (fun r => (∀ c : Dev Cert.Inputs.nD,
      r.2.mem ((c.tc : Thread Cert.Inputs.nD Cert.Inputs.τ).loc Cert.Inputs.main_arg0) = m ((c.tc : Thread Cert.Inputs.nD Cert.Inputs.τ).loc Cert.Inputs.main_arg0)
      ∧ r.2.mem ((c.tc : Thread Cert.Inputs.nD Cert.Inputs.τ).loc Cert.Inputs.main_arg1) = m ((c.tc : Thread Cert.Inputs.nD Cert.Inputs.τ).loc Cert.Inputs.main_arg1)
      ∧ r.2.mem ((c.tc : Thread Cert.Inputs.nD Cert.Inputs.τ).loc Cert.Inputs.main_arg2) = m ((c.tc : Thread Cert.Inputs.nD Cert.Inputs.τ).loc Cert.Inputs.main_arg2))
      ∧ r.2.sem = fun _ => 0)

def quiescent_InputsIdeal [hInputsIdeal : Cert.InputsIdeal.Facts] : Prop :=
  ∀ (m : (ℓ : Loc Cert.InputsIdeal.nD Cert.InputsIdeal.τ Cert.InputsIdeal.sig) → Buf (Elt Ideal) ℓ) (g : Dev Cert.InputsIdeal.nD → PrngReg), Pre_InputsIdeal m →
    θ_run (Cert.InputsIdeal.defs (F := Ideal)) (onTc (τ := Cert.InputsIdeal.τ) (Cert.InputsIdeal.main (F := Ideal))) ⟨m, fun _ => 0, g⟩ (fun r => (∀ c : Dev Cert.InputsIdeal.nD,
      r.2.mem ((c.tc : Thread Cert.InputsIdeal.nD Cert.InputsIdeal.τ).loc Cert.InputsIdeal.main_arg0) = m ((c.tc : Thread Cert.InputsIdeal.nD Cert.InputsIdeal.τ).loc Cert.InputsIdeal.main_arg0)
      ∧ r.2.mem ((c.tc : Thread Cert.InputsIdeal.nD Cert.InputsIdeal.τ).loc Cert.InputsIdeal.main_arg1) = m ((c.tc : Thread Cert.InputsIdeal.nD Cert.InputsIdeal.τ).loc Cert.InputsIdeal.main_arg1)
      ∧ r.2.mem ((c.tc : Thread Cert.InputsIdeal.nD Cert.InputsIdeal.τ).loc Cert.InputsIdeal.main_arg2) = m ((c.tc : Thread Cert.InputsIdeal.nD Cert.InputsIdeal.τ).loc Cert.InputsIdeal.main_arg2))
      ∧ r.2.sem = fun _ => 0)

def quiescent_InputsRefIdeal [hInputsRefIdeal : Cert.InputsRefIdeal.Facts] : Prop :=
  ∀ (m : (ℓ : Loc Cert.InputsRefIdeal.nD Cert.InputsRefIdeal.τ Cert.InputsRefIdeal.sig) → Buf (Elt Ideal) ℓ) (g : Dev Cert.InputsRefIdeal.nD → PrngReg), Pre_InputsRefIdeal m →
    θ_run (Cert.InputsRefIdeal.defs (F := Ideal)) (onTc (τ := Cert.InputsRefIdeal.τ) (Cert.InputsRefIdeal.main (F := Ideal))) ⟨m, fun _ => 0, g⟩ (fun r => (∀ c : Dev Cert.InputsRefIdeal.nD,
      r.2.mem ((c.tc : Thread Cert.InputsRefIdeal.nD Cert.InputsRefIdeal.τ).loc Cert.InputsRefIdeal.main_arg0) = m ((c.tc : Thread Cert.InputsRefIdeal.nD Cert.InputsRefIdeal.τ).loc Cert.InputsRefIdeal.main_arg0)
      ∧ r.2.mem ((c.tc : Thread Cert.InputsRefIdeal.nD Cert.InputsRefIdeal.τ).loc Cert.InputsRefIdeal.main_arg1) = m ((c.tc : Thread Cert.InputsRefIdeal.nD Cert.InputsRefIdeal.τ).loc Cert.InputsRefIdeal.main_arg1)
      ∧ r.2.mem ((c.tc : Thread Cert.InputsRefIdeal.nD Cert.InputsRefIdeal.τ).loc Cert.InputsRefIdeal.main_arg2) = m ((c.tc : Thread Cert.InputsRefIdeal.nD Cert.InputsRefIdeal.τ).loc Cert.InputsRefIdeal.main_arg2))
      ∧ r.2.sem = fun _ => 0)

def quiescent_Sample [hSample : Cert.Sample.Facts] : Prop :=
  ∀ (m : (ℓ : Loc Cert.Sample.nD Cert.Sample.τ Cert.Sample.sig) → Buf (Elt Bits) ℓ) (g : Dev Cert.Sample.nD → PrngReg), Pre_Sample m →
    θ_run (Cert.Sample.defs (F := Bits)) (onTc (τ := Cert.Sample.τ) (Cert.Sample.main (F := Bits))) ⟨m, fun _ => 0, g⟩ (fun r => (∀ c : Dev Cert.Sample.nD,
      r.2.mem ((c.tc : Thread Cert.Sample.nD Cert.Sample.τ).loc Cert.Sample.main_arg0) = m ((c.tc : Thread Cert.Sample.nD Cert.Sample.τ).loc Cert.Sample.main_arg0)
      ∧ r.2.mem ((c.tc : Thread Cert.Sample.nD Cert.Sample.τ).loc Cert.Sample.main_arg1) = m ((c.tc : Thread Cert.Sample.nD Cert.Sample.τ).loc Cert.Sample.main_arg1)
      ∧ r.2.mem ((c.tc : Thread Cert.Sample.nD Cert.Sample.τ).loc Cert.Sample.main_arg2) = m ((c.tc : Thread Cert.Sample.nD Cert.Sample.τ).loc Cert.Sample.main_arg2)
      ∧ r.2.mem ((c.tc : Thread Cert.Sample.nD Cert.Sample.τ).loc Cert.Sample.main_arg3) = m ((c.tc : Thread Cert.Sample.nD Cert.Sample.τ).loc Cert.Sample.main_arg3)
      ∧ r.2.mem ((c.tc : Thread Cert.Sample.nD Cert.Sample.τ).loc Cert.Sample.main_arg4) = m ((c.tc : Thread Cert.Sample.nD Cert.Sample.τ).loc Cert.Sample.main_arg4))
      ∧ r.2.sem = fun _ => 0)

def quiescent_SampleIdeal [hSampleIdeal : Cert.SampleIdeal.Facts] : Prop :=
  ∀ (m : (ℓ : Loc Cert.SampleIdeal.nD Cert.SampleIdeal.τ Cert.SampleIdeal.sig) → Buf (Elt Ideal) ℓ) (g : Dev Cert.SampleIdeal.nD → PrngReg), Pre_SampleIdeal m →
    θ_run (Cert.SampleIdeal.defs (F := Ideal)) (onTc (τ := Cert.SampleIdeal.τ) (Cert.SampleIdeal.main (F := Ideal))) ⟨m, fun _ => 0, g⟩ (fun r => (∀ c : Dev Cert.SampleIdeal.nD,
      r.2.mem ((c.tc : Thread Cert.SampleIdeal.nD Cert.SampleIdeal.τ).loc Cert.SampleIdeal.main_arg0) = m ((c.tc : Thread Cert.SampleIdeal.nD Cert.SampleIdeal.τ).loc Cert.SampleIdeal.main_arg0)
      ∧ r.2.mem ((c.tc : Thread Cert.SampleIdeal.nD Cert.SampleIdeal.τ).loc Cert.SampleIdeal.main_arg1) = m ((c.tc : Thread Cert.SampleIdeal.nD Cert.SampleIdeal.τ).loc Cert.SampleIdeal.main_arg1)
      ∧ r.2.mem ((c.tc : Thread Cert.SampleIdeal.nD Cert.SampleIdeal.τ).loc Cert.SampleIdeal.main_arg2) = m ((c.tc : Thread Cert.SampleIdeal.nD Cert.SampleIdeal.τ).loc Cert.SampleIdeal.main_arg2)
      ∧ r.2.mem ((c.tc : Thread Cert.SampleIdeal.nD Cert.SampleIdeal.τ).loc Cert.SampleIdeal.main_arg3) = m ((c.tc : Thread Cert.SampleIdeal.nD Cert.SampleIdeal.τ).loc Cert.SampleIdeal.main_arg3)
      ∧ r.2.mem ((c.tc : Thread Cert.SampleIdeal.nD Cert.SampleIdeal.τ).loc Cert.SampleIdeal.main_arg4) = m ((c.tc : Thread Cert.SampleIdeal.nD Cert.SampleIdeal.τ).loc Cert.SampleIdeal.main_arg4))
      ∧ r.2.sem = fun _ => 0)

def quiescent_SampleRefIdeal [hSampleRefIdeal : Cert.SampleRefIdeal.Facts] : Prop :=
  ∀ (m : (ℓ : Loc Cert.SampleRefIdeal.nD Cert.SampleRefIdeal.τ Cert.SampleRefIdeal.sig) → Buf (Elt Ideal) ℓ) (g : Dev Cert.SampleRefIdeal.nD → PrngReg), Pre_SampleRefIdeal m →
    θ_run (Cert.SampleRefIdeal.defs (F := Ideal)) (onTc (τ := Cert.SampleRefIdeal.τ) (Cert.SampleRefIdeal.main (F := Ideal))) ⟨m, fun _ => 0, g⟩ (fun r => (∀ c : Dev Cert.SampleRefIdeal.nD,
      r.2.mem ((c.tc : Thread Cert.SampleRefIdeal.nD Cert.SampleRefIdeal.τ).loc Cert.SampleRefIdeal.main_arg0) = m ((c.tc : Thread Cert.SampleRefIdeal.nD Cert.SampleRefIdeal.τ).loc Cert.SampleRefIdeal.main_arg0)
      ∧ r.2.mem ((c.tc : Thread Cert.SampleRefIdeal.nD Cert.SampleRefIdeal.τ).loc Cert.SampleRefIdeal.main_arg1) = m ((c.tc : Thread Cert.SampleRefIdeal.nD Cert.SampleRefIdeal.τ).loc Cert.SampleRefIdeal.main_arg1)
      ∧ r.2.mem ((c.tc : Thread Cert.SampleRefIdeal.nD Cert.SampleRefIdeal.τ).loc Cert.SampleRefIdeal.main_arg2) = m ((c.tc : Thread Cert.SampleRefIdeal.nD Cert.SampleRefIdeal.τ).loc Cert.SampleRefIdeal.main_arg2)
      ∧ r.2.mem ((c.tc : Thread Cert.SampleRefIdeal.nD Cert.SampleRefIdeal.τ).loc Cert.SampleRefIdeal.main_arg3) = m ((c.tc : Thread Cert.SampleRefIdeal.nD Cert.SampleRefIdeal.τ).loc Cert.SampleRefIdeal.main_arg3)
      ∧ r.2.mem ((c.tc : Thread Cert.SampleRefIdeal.nD Cert.SampleRefIdeal.τ).loc Cert.SampleRefIdeal.main_arg4) = m ((c.tc : Thread Cert.SampleRefIdeal.nD Cert.SampleRefIdeal.τ).loc Cert.SampleRefIdeal.main_arg4))
      ∧ r.2.sem = fun _ => 0)

def preserves_Kernel_KernelIdeal : Prop :=
  IdealRules.named_const.Statement Cert.KernelIdeal.κ "scale_log2e" .f32 0x3E0293EE#32 (((Real.sqrt 128)⁻¹ * (Real.log 2)⁻¹ : ℝ) : EReal)

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v49) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def preserves_Merge_MergeIdeal : Prop :=
  True

def algebraic_MergeIdeal_MergeRefIdeal [hMergeIdeal : Cert.MergeIdeal.Facts] [hMergeRefIdeal : Cert.MergeRefIdeal.Facts] : Prop :=
  ∀ (m : (ℓ : Loc Cert.MergeIdeal.nD Cert.MergeIdeal.τ Cert.MergeIdeal.sig) → Buf (Elt Ideal) ℓ) (g : Dev Cert.MergeIdeal.nD → PrngReg)
    (m' : (ℓ : Loc Cert.MergeRefIdeal.nD Cert.MergeRefIdeal.τ Cert.MergeRefIdeal.sig) → Buf (Elt Ideal) ℓ) (g' : Dev Cert.MergeRefIdeal.nD → PrngReg), Pre_MergeIdeal m →
    (∀ c : Dev Cert.MergeIdeal.nD,
      m' ((c.tc : Thread Cert.MergeRefIdeal.nD Cert.MergeRefIdeal.τ).loc Cert.MergeRefIdeal.main_arg0) = m ((c.tc : Thread Cert.MergeIdeal.nD Cert.MergeIdeal.τ).loc Cert.MergeIdeal.main_arg0)
      ∧ m' ((c.tc : Thread Cert.MergeRefIdeal.nD Cert.MergeRefIdeal.τ).loc Cert.MergeRefIdeal.main_arg1) = m ((c.tc : Thread Cert.MergeIdeal.nD Cert.MergeIdeal.τ).loc Cert.MergeIdeal.main_arg1)
      ∧ m' ((c.tc : Thread Cert.MergeRefIdeal.nD Cert.MergeRefIdeal.τ).loc Cert.MergeRefIdeal.main_arg2) = m ((c.tc : Thread Cert.MergeIdeal.nD Cert.MergeIdeal.τ).loc Cert.MergeIdeal.main_arg2)
      ∧ m' ((c.tc : Thread Cert.MergeRefIdeal.nD Cert.MergeRefIdeal.τ).loc Cert.MergeRefIdeal.main_arg3) = m ((c.tc : Thread Cert.MergeIdeal.nD Cert.MergeIdeal.τ).loc Cert.MergeIdeal.main_arg3)
      ∧ m' ((c.tc : Thread Cert.MergeRefIdeal.nD Cert.MergeRefIdeal.τ).loc Cert.MergeRefIdeal.main_arg4) = m ((c.tc : Thread Cert.MergeIdeal.nD Cert.MergeIdeal.τ).loc Cert.MergeIdeal.main_arg4)
      ∧ m' ((c.tc : Thread Cert.MergeRefIdeal.nD Cert.MergeRefIdeal.τ).loc Cert.MergeRefIdeal.main_arg5) = m ((c.tc : Thread Cert.MergeIdeal.nD Cert.MergeIdeal.τ).loc Cert.MergeIdeal.main_arg5)
      ∧ m' ((c.tc : Thread Cert.MergeRefIdeal.nD Cert.MergeRefIdeal.τ).loc Cert.MergeRefIdeal.main_arg6) = m ((c.tc : Thread Cert.MergeIdeal.nD Cert.MergeIdeal.τ).loc Cert.MergeIdeal.main_arg6)
      ∧ m' ((c.tc : Thread Cert.MergeRefIdeal.nD Cert.MergeRefIdeal.τ).loc Cert.MergeRefIdeal.main_arg7) = m ((c.tc : Thread Cert.MergeIdeal.nD Cert.MergeIdeal.τ).loc Cert.MergeIdeal.main_arg7)
      ∧ m' ((c.tc : Thread Cert.MergeRefIdeal.nD Cert.MergeRefIdeal.τ).loc Cert.MergeRefIdeal.main_arg8) = m ((c.tc : Thread Cert.MergeIdeal.nD Cert.MergeIdeal.τ).loc Cert.MergeIdeal.main_arg8)
      ∧ m' ((c.tc : Thread Cert.MergeRefIdeal.nD Cert.MergeRefIdeal.τ).loc Cert.MergeRefIdeal.main_arg9) = m ((c.tc : Thread Cert.MergeIdeal.nD Cert.MergeIdeal.τ).loc Cert.MergeIdeal.main_arg9)
      ∧ m' ((c.tc : Thread Cert.MergeRefIdeal.nD Cert.MergeRefIdeal.τ).loc Cert.MergeRefIdeal.main_arg10) = m ((c.tc : Thread Cert.MergeIdeal.nD Cert.MergeIdeal.τ).loc Cert.MergeIdeal.main_arg10)) →
    ∃ (v0 : (c : Dev Cert.MergeIdeal.nD) → Buf (Elt Ideal) ((c.tc : Thread Cert.MergeIdeal.nD Cert.MergeIdeal.τ).loc Cert.MergeIdeal.main_v7)),
      θ_run (Cert.MergeIdeal.defs (F := Ideal)) (onTc (τ := Cert.MergeIdeal.τ) (Cert.MergeIdeal.main (F := Ideal))) ⟨m, fun _ => 0, g⟩ (fun r => ∀ c : Dev Cert.MergeIdeal.nD,
          r.2.mem ((c.tc : Thread Cert.MergeIdeal.nD Cert.MergeIdeal.τ).loc Cert.MergeIdeal.main_v7) = v0 c
          ∧ r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
          ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
          ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
          ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
          ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
          ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5)
          ∧ r.2.mem ((c.tc : Thread Cert.MergeIdeal.nD Cert.MergeIdeal.τ).loc Cert.MergeIdeal.main_arg6) = m ((c.tc : Thread Cert.MergeIdeal.nD Cert.MergeIdeal.τ).loc Cert.MergeIdeal.main_arg6)
          ∧ r.2.mem ((c.tc : Thread Cert.MergeIdeal.nD Cert.MergeIdeal.τ).loc Cert.MergeIdeal.main_arg7) = m ((c.tc : Thread Cert.MergeIdeal.nD Cert.MergeIdeal.τ).loc Cert.MergeIdeal.main_arg7)
          ∧ r.2.mem ((c.tc : Thread Cert.MergeIdeal.nD Cert.MergeIdeal.τ).loc Cert.MergeIdeal.main_arg8) = m ((c.tc : Thread Cert.MergeIdeal.nD Cert.MergeIdeal.τ).loc Cert.MergeIdeal.main_arg8)
          ∧ r.2.mem ((c.tc : Thread Cert.MergeIdeal.nD Cert.MergeIdeal.τ).loc Cert.MergeIdeal.main_arg9) = m ((c.tc : Thread Cert.MergeIdeal.nD Cert.MergeIdeal.τ).loc Cert.MergeIdeal.main_arg9)
          ∧ r.2.mem ((c.tc : Thread Cert.MergeIdeal.nD Cert.MergeIdeal.τ).loc Cert.MergeIdeal.main_arg10) = m ((c.tc : Thread Cert.MergeIdeal.nD Cert.MergeIdeal.τ).loc Cert.MergeIdeal.main_arg10))
      ∧ θ_run (Cert.MergeRefIdeal.defs (F := Ideal)) (onTc (τ := Cert.MergeRefIdeal.τ) (Cert.MergeRefIdeal.main (F := Ideal))) ⟨m', fun _ => 0, g'⟩ (fun r => ∀ c : Dev Cert.MergeRefIdeal.nD,
          r.2.mem ((c.tc : Thread Cert.MergeRefIdeal.nD Cert.MergeRefIdeal.τ).loc Cert.MergeRefIdeal.main_v45) = v0 c
          ∧ r.2.mem ((c.tc : Thread Cert.MergeRefIdeal.nD Cert.MergeRefIdeal.τ).loc Cert.MergeRefIdeal.main_arg0) = m' ((c.tc : Thread Cert.MergeRefIdeal.nD Cert.MergeRefIdeal.τ).loc Cert.MergeRefIdeal.main_arg0)
          ∧ r.2.mem ((c.tc : Thread Cert.MergeRefIdeal.nD Cert.MergeRefIdeal.τ).loc Cert.MergeRefIdeal.main_arg1) = m' ((c.tc : Thread Cert.MergeRefIdeal.nD Cert.MergeRefIdeal.τ).loc Cert.MergeRefIdeal.main_arg1)
          ∧ r.2.mem ((c.tc : Thread Cert.MergeRefIdeal.nD Cert.MergeRefIdeal.τ).loc Cert.MergeRefIdeal.main_arg2) = m' ((c.tc : Thread Cert.MergeRefIdeal.nD Cert.MergeRefIdeal.τ).loc Cert.MergeRefIdeal.main_arg2)
          ∧ r.2.mem ((c.tc : Thread Cert.MergeRefIdeal.nD Cert.MergeRefIdeal.τ).loc Cert.MergeRefIdeal.main_arg3) = m' ((c.tc : Thread Cert.MergeRefIdeal.nD Cert.MergeRefIdeal.τ).loc Cert.MergeRefIdeal.main_arg3)
          ∧ r.2.mem ((c.tc : Thread Cert.MergeRefIdeal.nD Cert.MergeRefIdeal.τ).loc Cert.MergeRefIdeal.main_arg4) = m' ((c.tc : Thread Cert.MergeRefIdeal.nD Cert.MergeRefIdeal.τ).loc Cert.MergeRefIdeal.main_arg4)
          ∧ r.2.mem ((c.tc : Thread Cert.MergeRefIdeal.nD Cert.MergeRefIdeal.τ).loc Cert.MergeRefIdeal.main_arg5) = m' ((c.tc : Thread Cert.MergeRefIdeal.nD Cert.MergeRefIdeal.τ).loc Cert.MergeRefIdeal.main_arg5)
          ∧ r.2.mem ((c.tc : Thread Cert.MergeRefIdeal.nD Cert.MergeRefIdeal.τ).loc Cert.MergeRefIdeal.main_arg6) = m' ((c.tc : Thread Cert.MergeRefIdeal.nD Cert.MergeRefIdeal.τ).loc Cert.MergeRefIdeal.main_arg6)
          ∧ r.2.mem ((c.tc : Thread Cert.MergeRefIdeal.nD Cert.MergeRefIdeal.τ).loc Cert.MergeRefIdeal.main_arg7) = m' ((c.tc : Thread Cert.MergeRefIdeal.nD Cert.MergeRefIdeal.τ).loc Cert.MergeRefIdeal.main_arg7)
          ∧ r.2.mem ((c.tc : Thread Cert.MergeRefIdeal.nD Cert.MergeRefIdeal.τ).loc Cert.MergeRefIdeal.main_arg8) = m' ((c.tc : Thread Cert.MergeRefIdeal.nD Cert.MergeRefIdeal.τ).loc Cert.MergeRefIdeal.main_arg8)
          ∧ r.2.mem ((c.tc : Thread Cert.MergeRefIdeal.nD Cert.MergeRefIdeal.τ).loc Cert.MergeRefIdeal.main_arg9) = m' ((c.tc : Thread Cert.MergeRefIdeal.nD Cert.MergeRefIdeal.τ).loc Cert.MergeRefIdeal.main_arg9)
          ∧ r.2.mem ((c.tc : Thread Cert.MergeRefIdeal.nD Cert.MergeRefIdeal.τ).loc Cert.MergeRefIdeal.main_arg10) = m' ((c.tc : Thread Cert.MergeRefIdeal.nD Cert.MergeRefIdeal.τ).loc Cert.MergeRefIdeal.main_arg10))

def preserves_Inputs_InputsIdeal : Prop :=
  True

def algebraic_InputsIdeal_InputsRefIdeal [hInputsIdeal : Cert.InputsIdeal.Facts] [hInputsRefIdeal : Cert.InputsRefIdeal.Facts] : Prop :=
  ∀ (m : (ℓ : Loc Cert.InputsIdeal.nD Cert.InputsIdeal.τ Cert.InputsIdeal.sig) → Buf (Elt Ideal) ℓ) (g : Dev Cert.InputsIdeal.nD → PrngReg)
    (m' : (ℓ : Loc Cert.InputsRefIdeal.nD Cert.InputsRefIdeal.τ Cert.InputsRefIdeal.sig) → Buf (Elt Ideal) ℓ) (g' : Dev Cert.InputsRefIdeal.nD → PrngReg), Pre_InputsIdeal m →
    (∀ c : Dev Cert.InputsIdeal.nD,
      m' ((c.tc : Thread Cert.InputsRefIdeal.nD Cert.InputsRefIdeal.τ).loc Cert.InputsRefIdeal.main_arg0) = m ((c.tc : Thread Cert.InputsIdeal.nD Cert.InputsIdeal.τ).loc Cert.InputsIdeal.main_arg0)
      ∧ m' ((c.tc : Thread Cert.InputsRefIdeal.nD Cert.InputsRefIdeal.τ).loc Cert.InputsRefIdeal.main_arg1) = m ((c.tc : Thread Cert.InputsIdeal.nD Cert.InputsIdeal.τ).loc Cert.InputsIdeal.main_arg1)
      ∧ m' ((c.tc : Thread Cert.InputsRefIdeal.nD Cert.InputsRefIdeal.τ).loc Cert.InputsRefIdeal.main_arg2) = m ((c.tc : Thread Cert.InputsIdeal.nD Cert.InputsIdeal.τ).loc Cert.InputsIdeal.main_arg2)) →
    ∃ (v0 : (c : Dev Cert.InputsIdeal.nD) → Buf (Elt Ideal) ((c.tc : Thread Cert.InputsIdeal.nD Cert.InputsIdeal.τ).loc Cert.InputsIdeal.main_v35)) (v1 : (c : Dev Cert.InputsIdeal.nD) → Buf (Elt Ideal) ((c.tc : Thread Cert.InputsIdeal.nD Cert.InputsIdeal.τ).loc Cert.InputsIdeal.main_v38)) (v2 : (c : Dev Cert.InputsIdeal.nD) → Buf (Elt Ideal) ((c.tc : Thread Cert.InputsIdeal.nD Cert.InputsIdeal.τ).loc Cert.InputsIdeal.main_v40)) (v3 : (c : Dev Cert.InputsIdeal.nD) → Buf (Elt Ideal) ((c.tc : Thread Cert.InputsIdeal.nD Cert.InputsIdeal.τ).loc Cert.InputsIdeal.main_v31_0)) (v4 : (c : Dev Cert.InputsIdeal.nD) → Buf (Elt Ideal) ((c.tc : Thread Cert.InputsIdeal.nD Cert.InputsIdeal.τ).loc Cert.InputsIdeal.main_v31_4)) (v5 : (c : Dev Cert.InputsIdeal.nD) → Buf (Elt Ideal) ((c.tc : Thread Cert.InputsIdeal.nD Cert.InputsIdeal.τ).loc Cert.InputsIdeal.main_v41)) (v6 : (c : Dev Cert.InputsIdeal.nD) → Buf (Elt Ideal) ((c.tc : Thread Cert.InputsIdeal.nD Cert.InputsIdeal.τ).loc Cert.InputsIdeal.main_v31_5)) (v7 : (c : Dev Cert.InputsIdeal.nD) → Buf (Elt Ideal) ((c.tc : Thread Cert.InputsIdeal.nD Cert.InputsIdeal.τ).loc Cert.InputsIdeal.main_v33)),
      θ_run (Cert.InputsIdeal.defs (F := Ideal)) (onTc (τ := Cert.InputsIdeal.τ) (Cert.InputsIdeal.main (F := Ideal))) ⟨m, fun _ => 0, g⟩ (fun r => ∀ c : Dev Cert.InputsIdeal.nD,
          r.2.mem ((c.tc : Thread Cert.InputsIdeal.nD Cert.InputsIdeal.τ).loc Cert.InputsIdeal.main_v35) = v0 c
          ∧ r.2.mem ((c.tc : Thread Cert.InputsIdeal.nD Cert.InputsIdeal.τ).loc Cert.InputsIdeal.main_v38) = v1 c
          ∧ r.2.mem ((c.tc : Thread Cert.InputsIdeal.nD Cert.InputsIdeal.τ).loc Cert.InputsIdeal.main_v40) = v2 c
          ∧ r.2.mem ((c.tc : Thread Cert.InputsIdeal.nD Cert.InputsIdeal.τ).loc Cert.InputsIdeal.main_v31_0) = v3 c
          ∧ r.2.mem ((c.tc : Thread Cert.InputsIdeal.nD Cert.InputsIdeal.τ).loc Cert.InputsIdeal.main_v31_4) = v4 c
          ∧ r.2.mem ((c.tc : Thread Cert.InputsIdeal.nD Cert.InputsIdeal.τ).loc Cert.InputsIdeal.main_v41) = v5 c
          ∧ r.2.mem ((c.tc : Thread Cert.InputsIdeal.nD Cert.InputsIdeal.τ).loc Cert.InputsIdeal.main_v31_5) = v6 c
          ∧ r.2.mem ((c.tc : Thread Cert.InputsIdeal.nD Cert.InputsIdeal.τ).loc Cert.InputsIdeal.main_v33) = v7 c
          ∧ r.2.mem ((c.tc : Thread Cert.InputsIdeal.nD Cert.InputsIdeal.τ).loc Cert.InputsIdeal.main_arg0) = m ((c.tc : Thread Cert.InputsIdeal.nD Cert.InputsIdeal.τ).loc Cert.InputsIdeal.main_arg0)
          ∧ r.2.mem ((c.tc : Thread Cert.InputsIdeal.nD Cert.InputsIdeal.τ).loc Cert.InputsIdeal.main_arg1) = m ((c.tc : Thread Cert.InputsIdeal.nD Cert.InputsIdeal.τ).loc Cert.InputsIdeal.main_arg1)
          ∧ r.2.mem ((c.tc : Thread Cert.InputsIdeal.nD Cert.InputsIdeal.τ).loc Cert.InputsIdeal.main_arg2) = m ((c.tc : Thread Cert.InputsIdeal.nD Cert.InputsIdeal.τ).loc Cert.InputsIdeal.main_arg2))
      ∧ θ_run (Cert.InputsRefIdeal.defs (F := Ideal)) (onTc (τ := Cert.InputsRefIdeal.τ) (Cert.InputsRefIdeal.main (F := Ideal))) ⟨m', fun _ => 0, g'⟩ (fun r => ∀ c : Dev Cert.InputsRefIdeal.nD,
          r.2.mem ((c.tc : Thread Cert.InputsRefIdeal.nD Cert.InputsRefIdeal.τ).loc Cert.InputsRefIdeal.main_v164) = v0 c
          ∧ r.2.mem ((c.tc : Thread Cert.InputsRefIdeal.nD Cert.InputsRefIdeal.τ).loc Cert.InputsRefIdeal.main_v166) = v1 c
          ∧ r.2.mem ((c.tc : Thread Cert.InputsRefIdeal.nD Cert.InputsRefIdeal.τ).loc Cert.InputsRefIdeal.main_v168) = v2 c
          ∧ r.2.mem ((c.tc : Thread Cert.InputsRefIdeal.nD Cert.InputsRefIdeal.τ).loc Cert.InputsRefIdeal.main_v169) = v3 c
          ∧ r.2.mem ((c.tc : Thread Cert.InputsRefIdeal.nD Cert.InputsRefIdeal.τ).loc Cert.InputsRefIdeal.main_v170) = v4 c
          ∧ r.2.mem ((c.tc : Thread Cert.InputsRefIdeal.nD Cert.InputsRefIdeal.τ).loc Cert.InputsRefIdeal.main_v163) = v5 c
          ∧ r.2.mem ((c.tc : Thread Cert.InputsRefIdeal.nD Cert.InputsRefIdeal.τ).loc Cert.InputsRefIdeal.main_v172) = v6 c
          ∧ r.2.mem ((c.tc : Thread Cert.InputsRefIdeal.nD Cert.InputsRefIdeal.τ).loc Cert.InputsRefIdeal.main_v173) = v7 c
          ∧ r.2.mem ((c.tc : Thread Cert.InputsRefIdeal.nD Cert.InputsRefIdeal.τ).loc Cert.InputsRefIdeal.main_arg0) = m' ((c.tc : Thread Cert.InputsRefIdeal.nD Cert.InputsRefIdeal.τ).loc Cert.InputsRefIdeal.main_arg0)
          ∧ r.2.mem ((c.tc : Thread Cert.InputsRefIdeal.nD Cert.InputsRefIdeal.τ).loc Cert.InputsRefIdeal.main_arg1) = m' ((c.tc : Thread Cert.InputsRefIdeal.nD Cert.InputsRefIdeal.τ).loc Cert.InputsRefIdeal.main_arg1)
          ∧ r.2.mem ((c.tc : Thread Cert.InputsRefIdeal.nD Cert.InputsRefIdeal.τ).loc Cert.InputsRefIdeal.main_arg2) = m' ((c.tc : Thread Cert.InputsRefIdeal.nD Cert.InputsRefIdeal.τ).loc Cert.InputsRefIdeal.main_arg2))

def preserves_Sample_SampleIdeal : Prop :=
  True

def algebraic_SampleIdeal_SampleRefIdeal [hSampleIdeal : Cert.SampleIdeal.Facts] [hSampleRefIdeal : Cert.SampleRefIdeal.Facts] : Prop :=
  ∀ (m : (ℓ : Loc Cert.SampleIdeal.nD Cert.SampleIdeal.τ Cert.SampleIdeal.sig) → Buf (Elt Ideal) ℓ) (g : Dev Cert.SampleIdeal.nD → PrngReg)
    (m' : (ℓ : Loc Cert.SampleRefIdeal.nD Cert.SampleRefIdeal.τ Cert.SampleRefIdeal.sig) → Buf (Elt Ideal) ℓ) (g' : Dev Cert.SampleRefIdeal.nD → PrngReg), Pre_SampleIdeal m →
    (∀ c : Dev Cert.SampleIdeal.nD,
      m' ((c.tc : Thread Cert.SampleRefIdeal.nD Cert.SampleRefIdeal.τ).loc Cert.SampleRefIdeal.main_arg0) = m ((c.tc : Thread Cert.SampleIdeal.nD Cert.SampleIdeal.τ).loc Cert.SampleIdeal.main_arg0)
      ∧ m' ((c.tc : Thread Cert.SampleRefIdeal.nD Cert.SampleRefIdeal.τ).loc Cert.SampleRefIdeal.main_arg1) = m ((c.tc : Thread Cert.SampleIdeal.nD Cert.SampleIdeal.τ).loc Cert.SampleIdeal.main_arg1)
      ∧ m' ((c.tc : Thread Cert.SampleRefIdeal.nD Cert.SampleRefIdeal.τ).loc Cert.SampleRefIdeal.main_arg2) = m ((c.tc : Thread Cert.SampleIdeal.nD Cert.SampleIdeal.τ).loc Cert.SampleIdeal.main_arg2)
      ∧ m' ((c.tc : Thread Cert.SampleRefIdeal.nD Cert.SampleRefIdeal.τ).loc Cert.SampleRefIdeal.main_arg3) = m ((c.tc : Thread Cert.SampleIdeal.nD Cert.SampleIdeal.τ).loc Cert.SampleIdeal.main_arg3)
      ∧ m' ((c.tc : Thread Cert.SampleRefIdeal.nD Cert.SampleRefIdeal.τ).loc Cert.SampleRefIdeal.main_arg4) = m ((c.tc : Thread Cert.SampleIdeal.nD Cert.SampleIdeal.τ).loc Cert.SampleIdeal.main_arg4)) →
    ∃ (v0 : (c : Dev Cert.SampleIdeal.nD) → Buf (Elt Ideal) ((c.tc : Thread Cert.SampleIdeal.nD Cert.SampleIdeal.τ).loc Cert.SampleIdeal.main_v37)) (v1 : (c : Dev Cert.SampleIdeal.nD) → Buf (Elt Ideal) ((c.tc : Thread Cert.SampleIdeal.nD Cert.SampleIdeal.τ).loc Cert.SampleIdeal.main_v41)) (v2 : (c : Dev Cert.SampleIdeal.nD) → Buf (Elt Ideal) ((c.tc : Thread Cert.SampleIdeal.nD Cert.SampleIdeal.τ).loc Cert.SampleIdeal.main_v44)) (v3 : (c : Dev Cert.SampleIdeal.nD) → Buf (Elt Ideal) ((c.tc : Thread Cert.SampleIdeal.nD Cert.SampleIdeal.τ).loc Cert.SampleIdeal.main_v33_0)) (v4 : (c : Dev Cert.SampleIdeal.nD) → Buf (Elt Ideal) ((c.tc : Thread Cert.SampleIdeal.nD Cert.SampleIdeal.τ).loc Cert.SampleIdeal.main_v45)) (v5 : (c : Dev Cert.SampleIdeal.nD) → Buf (Elt Ideal) ((c.tc : Thread Cert.SampleIdeal.nD Cert.SampleIdeal.τ).loc Cert.SampleIdeal.main_v33_5)) (v6 : (c : Dev Cert.SampleIdeal.nD) → Buf (Elt Ideal) ((c.tc : Thread Cert.SampleIdeal.nD Cert.SampleIdeal.τ).loc Cert.SampleIdeal.main_v35)),
      θ_run (Cert.SampleIdeal.defs (F := Ideal)) (onTc (τ := Cert.SampleIdeal.τ) (Cert.SampleIdeal.main (F := Ideal))) ⟨m, fun _ => 0, g⟩ (fun r => ∀ c : Dev Cert.SampleIdeal.nD,
          r.2.mem ((c.tc : Thread Cert.SampleIdeal.nD Cert.SampleIdeal.τ).loc Cert.SampleIdeal.main_v37) = v0 c
          ∧ r.2.mem ((c.tc : Thread Cert.SampleIdeal.nD Cert.SampleIdeal.τ).loc Cert.SampleIdeal.main_v41) = v1 c
          ∧ r.2.mem ((c.tc : Thread Cert.SampleIdeal.nD Cert.SampleIdeal.τ).loc Cert.SampleIdeal.main_v44) = v2 c
          ∧ r.2.mem ((c.tc : Thread Cert.SampleIdeal.nD Cert.SampleIdeal.τ).loc Cert.SampleIdeal.main_v33_0) = v3 c
          ∧ r.2.mem ((c.tc : Thread Cert.SampleIdeal.nD Cert.SampleIdeal.τ).loc Cert.SampleIdeal.main_v45) = v4 c
          ∧ r.2.mem ((c.tc : Thread Cert.SampleIdeal.nD Cert.SampleIdeal.τ).loc Cert.SampleIdeal.main_v33_5) = v5 c
          ∧ r.2.mem ((c.tc : Thread Cert.SampleIdeal.nD Cert.SampleIdeal.τ).loc Cert.SampleIdeal.main_v35) = v6 c
          ∧ r.2.mem ((c.tc : Thread Cert.SampleIdeal.nD Cert.SampleIdeal.τ).loc Cert.SampleIdeal.main_arg0) = m ((c.tc : Thread Cert.SampleIdeal.nD Cert.SampleIdeal.τ).loc Cert.SampleIdeal.main_arg0)
          ∧ r.2.mem ((c.tc : Thread Cert.SampleIdeal.nD Cert.SampleIdeal.τ).loc Cert.SampleIdeal.main_arg1) = m ((c.tc : Thread Cert.SampleIdeal.nD Cert.SampleIdeal.τ).loc Cert.SampleIdeal.main_arg1)
          ∧ r.2.mem ((c.tc : Thread Cert.SampleIdeal.nD Cert.SampleIdeal.τ).loc Cert.SampleIdeal.main_arg2) = m ((c.tc : Thread Cert.SampleIdeal.nD Cert.SampleIdeal.τ).loc Cert.SampleIdeal.main_arg2)
          ∧ r.2.mem ((c.tc : Thread Cert.SampleIdeal.nD Cert.SampleIdeal.τ).loc Cert.SampleIdeal.main_arg3) = m ((c.tc : Thread Cert.SampleIdeal.nD Cert.SampleIdeal.τ).loc Cert.SampleIdeal.main_arg3)
          ∧ r.2.mem ((c.tc : Thread Cert.SampleIdeal.nD Cert.SampleIdeal.τ).loc Cert.SampleIdeal.main_arg4) = m ((c.tc : Thread Cert.SampleIdeal.nD Cert.SampleIdeal.τ).loc Cert.SampleIdeal.main_arg4))
      ∧ θ_run (Cert.SampleRefIdeal.defs (F := Ideal)) (onTc (τ := Cert.SampleRefIdeal.τ) (Cert.SampleRefIdeal.main (F := Ideal))) ⟨m', fun _ => 0, g'⟩ (fun r => ∀ c : Dev Cert.SampleRefIdeal.nD,
          r.2.mem ((c.tc : Thread Cert.SampleRefIdeal.nD Cert.SampleRefIdeal.τ).loc Cert.SampleRefIdeal.main_v162) = v0 c
          ∧ r.2.mem ((c.tc : Thread Cert.SampleRefIdeal.nD Cert.SampleRefIdeal.τ).loc Cert.SampleRefIdeal.main_v164) = v1 c
          ∧ r.2.mem ((c.tc : Thread Cert.SampleRefIdeal.nD Cert.SampleRefIdeal.τ).loc Cert.SampleRefIdeal.main_v166) = v2 c
          ∧ r.2.mem ((c.tc : Thread Cert.SampleRefIdeal.nD Cert.SampleRefIdeal.τ).loc Cert.SampleRefIdeal.main_v167) = v3 c
          ∧ r.2.mem ((c.tc : Thread Cert.SampleRefIdeal.nD Cert.SampleRefIdeal.τ).loc Cert.SampleRefIdeal.main_v161) = v4 c
          ∧ r.2.mem ((c.tc : Thread Cert.SampleRefIdeal.nD Cert.SampleRefIdeal.τ).loc Cert.SampleRefIdeal.main_v169) = v5 c
          ∧ r.2.mem ((c.tc : Thread Cert.SampleRefIdeal.nD Cert.SampleRefIdeal.τ).loc Cert.SampleRefIdeal.main_v170) = v6 c
          ∧ r.2.mem ((c.tc : Thread Cert.SampleRefIdeal.nD Cert.SampleRefIdeal.τ).loc Cert.SampleRefIdeal.main_arg0) = m' ((c.tc : Thread Cert.SampleRefIdeal.nD Cert.SampleRefIdeal.τ).loc Cert.SampleRefIdeal.main_arg0)
          ∧ r.2.mem ((c.tc : Thread Cert.SampleRefIdeal.nD Cert.SampleRefIdeal.τ).loc Cert.SampleRefIdeal.main_arg1) = m' ((c.tc : Thread Cert.SampleRefIdeal.nD Cert.SampleRefIdeal.τ).loc Cert.SampleRefIdeal.main_arg1)
          ∧ r.2.mem ((c.tc : Thread Cert.SampleRefIdeal.nD Cert.SampleRefIdeal.τ).loc Cert.SampleRefIdeal.main_arg2) = m' ((c.tc : Thread Cert.SampleRefIdeal.nD Cert.SampleRefIdeal.τ).loc Cert.SampleRefIdeal.main_arg2)
          ∧ r.2.mem ((c.tc : Thread Cert.SampleRefIdeal.nD Cert.SampleRefIdeal.τ).loc Cert.SampleRefIdeal.main_arg3) = m' ((c.tc : Thread Cert.SampleRefIdeal.nD Cert.SampleRefIdeal.τ).loc Cert.SampleRefIdeal.main_arg3)
          ∧ r.2.mem ((c.tc : Thread Cert.SampleRefIdeal.nD Cert.SampleRefIdeal.τ).loc Cert.SampleRefIdeal.main_arg4) = m' ((c.tc : Thread Cert.SampleRefIdeal.nD Cert.SampleRefIdeal.τ).loc Cert.SampleRefIdeal.main_arg4))

def Claim : Prop :=
  ∃ (hKernel : Cert.Kernel.Facts) (hKernelIdeal : Cert.KernelIdeal.Facts) (hReferenceIdeal : Cert.ReferenceIdeal.Facts) (hMerge : Cert.Merge.Facts) (hMergeIdeal : Cert.MergeIdeal.Facts) (hMergeRefIdeal : Cert.MergeRefIdeal.Facts) (hInputs : Cert.Inputs.Facts) (hInputsIdeal : Cert.InputsIdeal.Facts) (hInputsRefIdeal : Cert.InputsRefIdeal.Facts) (hSample : Cert.Sample.Facts) (hSampleIdeal : Cert.SampleIdeal.Facts) (hSampleRefIdeal : Cert.SampleRefIdeal.Facts),
    quiescent_Kernel (hKernel := hKernel)
    ∧ quiescent_KernelIdeal (hKernelIdeal := hKernelIdeal)
    ∧ quiescent_ReferenceIdeal (hReferenceIdeal := hReferenceIdeal)
    ∧ quiescent_Merge (hMerge := hMerge)
    ∧ quiescent_MergeIdeal (hMergeIdeal := hMergeIdeal)
    ∧ quiescent_MergeRefIdeal (hMergeRefIdeal := hMergeRefIdeal)
    ∧ quiescent_Inputs (hInputs := hInputs)
    ∧ quiescent_InputsIdeal (hInputsIdeal := hInputsIdeal)
    ∧ quiescent_InputsRefIdeal (hInputsRefIdeal := hInputsRefIdeal)
    ∧ quiescent_Sample (hSample := hSample)
    ∧ quiescent_SampleIdeal (hSampleIdeal := hSampleIdeal)
    ∧ quiescent_SampleRefIdeal (hSampleRefIdeal := hSampleRefIdeal)
    ∧ preserves_Kernel_KernelIdeal
    ∧ algebraic_KernelIdeal_ReferenceIdeal (hKernelIdeal := hKernelIdeal) (hReferenceIdeal := hReferenceIdeal)
    ∧ preserves_Merge_MergeIdeal
    ∧ algebraic_MergeIdeal_MergeRefIdeal (hMergeIdeal := hMergeIdeal) (hMergeRefIdeal := hMergeRefIdeal)
    ∧ preserves_Inputs_InputsIdeal
    ∧ algebraic_InputsIdeal_InputsRefIdeal (hInputsIdeal := hInputsIdeal) (hInputsRefIdeal := hInputsRefIdeal)
    ∧ preserves_Sample_SampleIdeal
    ∧ algebraic_SampleIdeal_SampleRefIdeal (hSampleIdeal := hSampleIdeal) (hSampleRefIdeal := hSampleRefIdeal)
-- ==== Kernel.lean ====
abbrev S2x8192x2048 : Shape := ⟨3, ![2, 8192, 2048]⟩
abbrev S2x8192x256 : Shape := ⟨3, ![2, 8192, 256]⟩
abbrev S2x8192x1024 : Shape := ⟨3, ![2, 8192, 1024]⟩
abbrev S1x128x1024 : Shape := ⟨3, ![1, 128, 1024]⟩
abbrev S1x128x256 : Shape := ⟨3, ![1, 128, 256]⟩
abbrev S1x8192x512 : Shape := ⟨3, ![1, 8192, 512]⟩
abbrev S128x1 : Shape := ⟨2, ![128, 1]⟩
abbrev S1x512 : Shape := ⟨2, ![1, 512]⟩
abbrev S1x128x128 : Shape := ⟨3, ![1, 128, 128]⟩
abbrev S128x128 : Shape := ⟨2, ![128, 128]⟩
abbrev S512x128 : Shape := ⟨2, ![512, 128]⟩
abbrev S512x1 : Shape := ⟨2, ![512, 1]⟩
abbrev S1x512x128 : Shape := ⟨3, ![1, 512, 128]⟩
abbrev S128x512 : Shape := ⟨2, ![128, 512]⟩
abbrev S512x512 : Shape := ⟨2, ![512, 512]⟩
abbrev S512 : Shape := ⟨1, ![512]⟩

abbrev nBuf : Space → Nat
  | .hbm => 4
  | .vmem => 8
  | .smem => 0
  | _ => 0

abbrev bufTy : (tb : Table) → Fin (tcTables nBuf tb) → BufTy
  | .hbm, ⟨0, _⟩ => ⟨S2x8192x2048, .bf16⟩
  | .hbm, ⟨1, _⟩ => ⟨S2x8192x256, .bf16⟩
  | .hbm, ⟨2, _⟩ => ⟨S2x8192x1024, .bf16⟩
  | .hbm, ⟨3, _⟩ => ⟨S2x8192x1024, .f32⟩
  | .local _ .vmem, ⟨0, _⟩ => ⟨S1x128x1024, .bf16⟩
  | .local _ .vmem, ⟨1, _⟩ => ⟨S1x128x1024, .bf16⟩
  | .local _ .vmem, ⟨2, _⟩ => ⟨S1x128x256, .bf16⟩
  | .local _ .vmem, ⟨3, _⟩ => ⟨S1x128x256, .bf16⟩
  | .local _ .vmem, ⟨4, _⟩ => ⟨S1x8192x512, .bf16⟩
  | .local _ .vmem, ⟨5, _⟩ => ⟨S1x8192x512, .bf16⟩
  | .local _ .vmem, ⟨6, _⟩ => ⟨S1x128x1024, .f32⟩
  | .local _ .vmem, ⟨7, _⟩ => ⟨S1x128x1024, .f32⟩
  | _, _ => ⟨S2x8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![2, 64], ![false, false]⟩

@[reducible] def k0_t1_loop (i : grid0.Coords) : Scf.Loop 32 :=
  let c0_i32_27 : BitVec 32 := 0#32
  let arg1 : BitVec 32 := BitVec.ofNat 32 (i 1).val
  let c128_i32_0 : BitVec 32 := 128#32
  let v4 : BitVec 32 := Scalar.muli arg1 c128_i32_0
  let c128_i32_1 : BitVec 32 := 128#32
  let v5 : BitVec 32 := Scalar.addi v4 c128_i32_1
  let c512_i32 : BitVec 32 := 512#32
  let v6 : BitVec 32 := Scalar.addi v5 c512_i32
  let c1_i32 : BitVec 32 := 1#32
  let v7 : BitVec 32 := Scalar.subi v6 c1_i32
  let c0_i32 : BitVec 32 := 0#32
  let v9 : BitVec 1 := Scalar.cmpi .sgt v7 c0_i32
  let v10 : BitVec 32 := Scalar.extui v9
  let c0_i32_3 : BitVec 32 := 0#32
  let v11 : BitVec 1 := Scalar.cmpi .slt v7 c0_i32_3
  let v12 : BitVec 32 := Scalar.extui v11
  let v13 : BitVec 32 := Scalar.subi v10 v12
  let c512_i32_2 : BitVec 32 := 512#32
  let c0_i32_4 : BitVec 32 := 0#32
  let v14 : BitVec 1 := Scalar.cmpi .sgt c512_i32_2 c0_i32_4
  let v15 : BitVec 32 := Scalar.extui v14
  let c0_i32_5 : BitVec 32 := 0#32
  let v16 : BitVec 1 := Scalar.cmpi .slt c512_i32_2 c0_i32_5
  let v17 : BitVec 32 := Scalar.extui v16
  let v18 : BitVec 32 := Scalar.subi v15 v17
  let v19 : BitVec 1 := Scalar.cmpi .ne v13 v18
  let v20 : BitVec 32 := Scalar.remsi v7 c512_i32_2
  let c0_i32_6 : BitVec 32 := 0#32
  let v21 : BitVec 1 := Scalar.cmpi .ne v20 c0_i32_6
  let v22 : BitVec 1 := Scalar.andi v19 v21
  let v8 : BitVec 32 := Scalar.divsi v7 c512_i32_2
  let c1_i32_7 : BitVec 32 := 1#32
  let v23 : BitVec 32 := Scalar.subi v8 c1_i32_7
  let v24 : BitVec 32 := Scalar.select v22 v23 v8
  let c0_i32_21 : BitVec 32 := 0#32
  let v41 : BitVec 1 := Scalar.cmpi .sgt v24 c0_i32_21
  let v42 : BitVec 32 := Scalar.extui v41
  let c0_i32_22 : BitVec 32 := 0#32
  let v43 : BitVec 1 := Scalar.cmpi .slt v24 c0_i32_22
  let v44 : BitVec 32 := Scalar.extui v43
  let v45 : BitVec 32 := Scalar.subi v42 v44
  let c2_i32 : BitVec 32 := 2#32
  let c0_i32_23 : BitVec 32 := 0#32
  let v46 : BitVec 1 := Scalar.cmpi .sgt c2_i32 c0_i32_23
  let v47 : BitVec 32 := Scalar.extui v46
  let c0_i32_24 : BitVec 32 := 0#32
  let v48 : BitVec 1 := Scalar.cmpi .slt c2_i32 c0_i32_24
  let v49 : BitVec 32 := Scalar.extui v48
  let v50 : BitVec 32 := Scalar.subi v47 v49
  let v51 : BitVec 1 := Scalar.cmpi .ne v45 v50
  let v52 : BitVec 32 := Scalar.remsi v24 c2_i32
  let c0_i32_25 : BitVec 32 := 0#32
  let v53 : BitVec 1 := Scalar.cmpi .ne v52 c0_i32_25
  let v54 : BitVec 1 := Scalar.andi v51 v53
  let v40 : BitVec 32 := Scalar.divsi v24 c2_i32
  let c1_i32_26 : BitVec 32 := 1#32
  let v55 : BitVec 32 := Scalar.subi v40 c1_i32_26
  let v56 : BitVec 32 := Scalar.select v54 v55 v40
  let v57 : BitVec 32 := Scalar.subi v56 c0_i32_27
  let c1_i32_28 : BitVec 32 := 1#32
  let v59 : BitVec 32 := Scalar.divsi v57 c1_i32_28
  let v60 : BitVec 32 := Scalar.muli v59 c1_i32_28
  let v61 : BitVec 32 := Scalar.addi c0_i32_27 v60
  let c1_i32_29 : BitVec 32 := 1#32
  ⟨c0_i32_27, v61, c1_i32_29⟩
def k0_mult1 (i : grid0.Coords) (k0_t1 : Fin (k0_t1_loop i).trips) : BitVec 32 :=
  let c2_i32_102 : BitVec 32 := 2#32
  let c0_i32_27 : BitVec 32 := 0#32
  let c1_i32_29 : BitVec 32 := 1#32
  let arg6 : BitVec 32 := Scf.iv c0_i32_27 c1_i32_29 k0_t1
  let v176 : BitVec 32 := Scalar.muli c2_i32_102 arg6
  let c512_i32_103 : BitVec 32 := 512#32
  let v177 : BitVec 32 := Scalar.muli v176 c512_i32_103
  v177
def k0_off1 (i : grid0.Coords) (k0_t1 : Fin (k0_t1_loop i).trips) : Fin 3 → Nat :=
  let c0_104 : Index := 0#32
  let c2_i32_102 : BitVec 32 := 2#32
  let c0_i32_27 : BitVec 32 := 0#32
  let c1_i32_29 : BitVec 32 := 1#32
  let arg6 : BitVec 32 := Scf.iv c0_i32_27 c1_i32_29 k0_t1
  let v176 : BitVec 32 := Scalar.muli c2_i32_102 arg6
  let c512_i32_103 : BitVec 32 := 512#32
  let v177 : BitVec 32 := Scalar.muli v176 c512_i32_103
  let v178 : BitVec 32 := v177
  let v179 : Index := Scalar.indexCast v178
  let c0_105 : Index := 0#32
  ![0, v179.toNat, 0]
def k0_off2 (i : grid0.Coords) (k0_t1 : Fin (k0_t1_loop i).trips) : Fin 3 → Nat :=
  let c0_106 : Index := 0#32
  let c2_i32_102 : BitVec 32 := 2#32
  let c0_i32_27 : BitVec 32 := 0#32
  let c1_i32_29 : BitVec 32 := 1#32
  let arg6 : BitVec 32 := Scf.iv c0_i32_27 c1_i32_29 k0_t1
  let v176 : BitVec 32 := Scalar.muli c2_i32_102 arg6
  let c512_i32_103 : BitVec 32 := 512#32
  let v177 : BitVec 32 := Scalar.muli v176 c512_i32_103
  let v178 : BitVec 32 := v177
  let v182 : Index := Scalar.indexCast v178
  let c256_107 : Index := 256#32
  ![0, v182.toNat, 256]
def k0_mult2 (i : grid0.Coords) (k0_t1 : Fin (k0_t1_loop i).trips) : BitVec 32 :=
  let c2_i32_100 : BitVec 32 := 2#32
  let c0_i32_27 : BitVec 32 := 0#32
  let c1_i32_29 : BitVec 32 := 1#32
  let arg6 : BitVec 32 := Scf.iv c0_i32_27 c1_i32_29 k0_t1
  let v174 : BitVec 32 := Scalar.muli c2_i32_100 arg6
  let c1_i32_101 : BitVec 32 := 1#32
  let v175 : BitVec 32 := Scalar.addi v174 c1_i32_101
  let c512_i32_128 : BitVec 32 := 512#32
  let v258 : BitVec 32 := Scalar.muli v175 c512_i32_128
  v258
def k0_off3 (i : grid0.Coords) (k0_t1 : Fin (k0_t1_loop i).trips) : Fin 3 → Nat :=
  let c0_129 : Index := 0#32
  let c2_i32_100 : BitVec 32 := 2#32
  let c0_i32_27 : BitVec 32 := 0#32
  let c1_i32_29 : BitVec 32 := 1#32
  let arg6 : BitVec 32 := Scf.iv c0_i32_27 c1_i32_29 k0_t1
  let v174 : BitVec 32 := Scalar.muli c2_i32_100 arg6
  let c1_i32_101 : BitVec 32 := 1#32
  let v175 : BitVec 32 := Scalar.addi v174 c1_i32_101
  let c512_i32_128 : BitVec 32 := 512#32
  let v258 : BitVec 32 := Scalar.muli v175 c512_i32_128
  let v259 : BitVec 32 := v258
  let v260 : Index := Scalar.indexCast v259
  let c0_130 : Index := 0#32
  ![0, v260.toNat, 0]
def k0_off4 (i : grid0.Coords) (k0_t1 : Fin (k0_t1_loop i).trips) : Fin 3 → Nat :=
  let c0_131 : Index := 0#32
  let c2_i32_100 : BitVec 32 := 2#32
  let c0_i32_27 : BitVec 32 := 0#32
  let c1_i32_29 : BitVec 32 := 1#32
  let arg6 : BitVec 32 := Scf.iv c0_i32_27 c1_i32_29 k0_t1
  let v174 : BitVec 32 := Scalar.muli c2_i32_100 arg6
  let c1_i32_101 : BitVec 32 := 1#32
  let v175 : BitVec 32 := Scalar.addi v174 c1_i32_101
  let c512_i32_128 : BitVec 32 := 512#32
  let v258 : BitVec 32 := Scalar.muli v175 c512_i32_128
  let v259 : BitVec 32 := v258
  let v263 : Index := Scalar.indexCast v259
  let c256_132 : Index := 256#32
  ![0, v263.toNat, 256]
@[reducible] def k0_t2_loop (i : grid0.Coords) : Scf.Loop 32 :=
  let c0_i32_27 : BitVec 32 := 0#32
  let arg1 : BitVec 32 := BitVec.ofNat 32 (i 1).val
  let c128_i32_0 : BitVec 32 := 128#32
  let v4 : BitVec 32 := Scalar.muli arg1 c128_i32_0
  let c128_i32_1 : BitVec 32 := 128#32
  let v5 : BitVec 32 := Scalar.addi v4 c128_i32_1
  let c512_i32 : BitVec 32 := 512#32
  let v6 : BitVec 32 := Scalar.addi v5 c512_i32
  let c1_i32 : BitVec 32 := 1#32
  let v7 : BitVec 32 := Scalar.subi v6 c1_i32
  let c0_i32 : BitVec 32 := 0#32
  let v9 : BitVec 1 := Scalar.cmpi .sgt v7 c0_i32
  let v10 : BitVec 32 := Scalar.extui v9
  let c0_i32_3 : BitVec 32 := 0#32
  let v11 : BitVec 1 := Scalar.cmpi .slt v7 c0_i32_3
  let v12 : BitVec 32 := Scalar.extui v11
  let v13 : BitVec 32 := Scalar.subi v10 v12
  let c512_i32_2 : BitVec 32 := 512#32
  let c0_i32_4 : BitVec 32 := 0#32
  let v14 : BitVec 1 := Scalar.cmpi .sgt c512_i32_2 c0_i32_4
  let v15 : BitVec 32 := Scalar.extui v14
  let c0_i32_5 : BitVec 32 := 0#32
  let v16 : BitVec 1 := Scalar.cmpi .slt c512_i32_2 c0_i32_5
  let v17 : BitVec 32 := Scalar.extui v16
  let v18 : BitVec 32 := Scalar.subi v15 v17
  let v19 : BitVec 1 := Scalar.cmpi .ne v13 v18
  let v20 : BitVec 32 := Scalar.remsi v7 c512_i32_2
  let c0_i32_6 : BitVec 32 := 0#32
  let v21 : BitVec 1 := Scalar.cmpi .ne v20 c0_i32_6
  let v22 : BitVec 1 := Scalar.andi v19 v21
  let v8 : BitVec 32 := Scalar.divsi v7 c512_i32_2
  let c1_i32_7 : BitVec 32 := 1#32
  let v23 : BitVec 32 := Scalar.subi v8 c1_i32_7
  let v24 : BitVec 32 := Scalar.select v22 v23 v8
  let c0_i32_21 : BitVec 32 := 0#32
  let v41 : BitVec 1 := Scalar.cmpi .sgt v24 c0_i32_21
  let v42 : BitVec 32 := Scalar.extui v41
  let c0_i32_22 : BitVec 32 := 0#32
  let v43 : BitVec 1 := Scalar.cmpi .slt v24 c0_i32_22
  let v44 : BitVec 32 := Scalar.extui v43
  let v45 : BitVec 32 := Scalar.subi v42 v44
  let c2_i32 : BitVec 32 := 2#32
  let c0_i32_23 : BitVec 32 := 0#32
  let v46 : BitVec 1 := Scalar.cmpi .sgt c2_i32 c0_i32_23
  let v47 : BitVec 32 := Scalar.extui v46
  let c0_i32_24 : BitVec 32 := 0#32
  let v48 : BitVec 1 := Scalar.cmpi .slt c2_i32 c0_i32_24
  let v49 : BitVec 32 := Scalar.extui v48
  let v50 : BitVec 32 := Scalar.subi v47 v49
  let v51 : BitVec 1 := Scalar.cmpi .ne v45 v50
  let v52 : BitVec 32 := Scalar.remsi v24 c2_i32
  let c0_i32_25 : BitVec 32 := 0#32
  let v53 : BitVec 1 := Scalar.cmpi .ne v52 c0_i32_25
  let v54 : BitVec 1 := Scalar.andi v51 v53
  let v40 : BitVec 32 := Scalar.divsi v24 c2_i32
  let c1_i32_26 : BitVec 32 := 1#32
  let v55 : BitVec 32 := Scalar.subi v40 c1_i32_26
  let v56 : BitVec 32 := Scalar.select v54 v55 v40
  let v57 : BitVec 32 := Scalar.subi v56 c0_i32_27
  let c1_i32_28 : BitVec 32 := 1#32
  let v59 : BitVec 32 := Scalar.divsi v57 c1_i32_28
  let v60 : BitVec 32 := Scalar.muli v59 c1_i32_28
  let v61 : BitVec 32 := Scalar.addi c0_i32_27 v60
  let v58 : BitVec 32 := Scalar.addi c0_i32_27 v57
  let c1_i32_30 : BitVec 32 := 1#32
  ⟨v61, v58, c1_i32_30⟩
def k0_mult3 (i : grid0.Coords) (k0_t2 : Fin (k0_t2_loop i).trips) : BitVec 32 :=
  let c2_i32_102 : BitVec 32 := 2#32
  let c0_i32_27 : BitVec 32 := 0#32
  let arg1 : BitVec 32 := BitVec.ofNat 32 (i 1).val
  let c128_i32_0 : BitVec 32 := 128#32
  let v4 : BitVec 32 := Scalar.muli arg1 c128_i32_0
  let c128_i32_1 : BitVec 32 := 128#32
  let v5 : BitVec 32 := Scalar.addi v4 c128_i32_1
  let c512_i32 : BitVec 32 := 512#32
  let v6 : BitVec 32 := Scalar.addi v5 c512_i32
  let c1_i32 : BitVec 32 := 1#32
  let v7 : BitVec 32 := Scalar.subi v6 c1_i32
  let c0_i32 : BitVec 32 := 0#32
  let v9 : BitVec 1 := Scalar.cmpi .sgt v7 c0_i32
  let v10 : BitVec 32 := Scalar.extui v9
  let c0_i32_3 : BitVec 32 := 0#32
  let v11 : BitVec 1 := Scalar.cmpi .slt v7 c0_i32_3
  let v12 : BitVec 32 := Scalar.extui v11
  let v13 : BitVec 32 := Scalar.subi v10 v12
  let c512_i32_2 : BitVec 32 := 512#32
  let c0_i32_4 : BitVec 32 := 0#32
  let v14 : BitVec 1 := Scalar.cmpi .sgt c512_i32_2 c0_i32_4
  let v15 : BitVec 32 := Scalar.extui v14
  let c0_i32_5 : BitVec 32 := 0#32
  let v16 : BitVec 1 := Scalar.cmpi .slt c512_i32_2 c0_i32_5
  let v17 : BitVec 32 := Scalar.extui v16
  let v18 : BitVec 32 := Scalar.subi v15 v17
  let v19 : BitVec 1 := Scalar.cmpi .ne v13 v18
  let v20 : BitVec 32 := Scalar.remsi v7 c512_i32_2
  let c0_i32_6 : BitVec 32 := 0#32
  let v21 : BitVec 1 := Scalar.cmpi .ne v20 c0_i32_6
  let v22 : BitVec 1 := Scalar.andi v19 v21
  let v8 : BitVec 32 := Scalar.divsi v7 c512_i32_2
  let c1_i32_7 : BitVec 32 := 1#32
  let v23 : BitVec 32 := Scalar.subi v8 c1_i32_7
  let v24 : BitVec 32 := Scalar.select v22 v23 v8
  let c0_i32_21 : BitVec 32 := 0#32
  let v41 : BitVec 1 := Scalar.cmpi .sgt v24 c0_i32_21
  let v42 : BitVec 32 := Scalar.extui v41
  let c0_i32_22 : BitVec 32 := 0#32
  let v43 : BitVec 1 := Scalar.cmpi .slt v24 c0_i32_22
  let v44 : BitVec 32 := Scalar.extui v43
  let v45 : BitVec 32 := Scalar.subi v42 v44
  let c2_i32 : BitVec 32 := 2#32
  let c0_i32_23 : BitVec 32 := 0#32
  let v46 : BitVec 1 := Scalar.cmpi .sgt c2_i32 c0_i32_23
  let v47 : BitVec 32 := Scalar.extui v46
  let c0_i32_24 : BitVec 32 := 0#32
  let v48 : BitVec 1 := Scalar.cmpi .slt c2_i32 c0_i32_24
  let v49 : BitVec 32 := Scalar.extui v48
  let v50 : BitVec 32 := Scalar.subi v47 v49
  let v51 : BitVec 1 := Scalar.cmpi .ne v45 v50
  let v52 : BitVec 32 := Scalar.remsi v24 c2_i32
  let c0_i32_25 : BitVec 32 := 0#32
  let v53 : BitVec 1 := Scalar.cmpi .ne v52 c0_i32_25
  let v54 : BitVec 1 := Scalar.andi v51 v53
  let v40 : BitVec 32 := Scalar.divsi v24 c2_i32
  let c1_i32_26 : BitVec 32 := 1#32
  let v55 : BitVec 32 := Scalar.subi v40 c1_i32_26
  let v56 : BitVec 32 := Scalar.select v54 v55 v40
  let v57 : BitVec 32 := Scalar.subi v56 c0_i32_27
  let c1_i32_28 : BitVec 32 := 1#32
  let v59 : BitVec 32 := Scalar.divsi v57 c1_i32_28
  let v60 : BitVec 32 := Scalar.muli v59 c1_i32_28
  let v61 : BitVec 32 := Scalar.addi c0_i32_27 v60
  let c1_i32_30 : BitVec 32 := 1#32
  let arg6 : BitVec 32 := Scf.iv v61 c1_i32_30 k0_t2
  let v176 : BitVec 32 := Scalar.muli c2_i32_102 arg6
  let c512_i32_103 : BitVec 32 := 512#32
  let v177 : BitVec 32 := Scalar.muli v176 c512_i32_103
  v177
def k0_off5 (i : grid0.Coords) (k0_t2 : Fin (k0_t2_loop i).trips) : Fin 3 → Nat :=
  let c0_104 : Index := 0#32
  let c2_i32_102 : BitVec 32 := 2#32
  let c0_i32_27 : BitVec 32 := 0#32
  let arg1 : BitVec 32 := BitVec.ofNat 32 (i 1).val
  let c128_i32_0 : BitVec 32 := 128#32
  let v4 : BitVec 32 := Scalar.muli arg1 c128_i32_0
  let c128_i32_1 : BitVec 32 := 128#32
  let v5 : BitVec 32 := Scalar.addi v4 c128_i32_1
  let c512_i32 : BitVec 32 := 512#32
  let v6 : BitVec 32 := Scalar.addi v5 c512_i32
  let c1_i32 : BitVec 32 := 1#32
  let v7 : BitVec 32 := Scalar.subi v6 c1_i32
  let c0_i32 : BitVec 32 := 0#32
  let v9 : BitVec 1 := Scalar.cmpi .sgt v7 c0_i32
  let v10 : BitVec 32 := Scalar.extui v9
  let c0_i32_3 : BitVec 32 := 0#32
  let v11 : BitVec 1 := Scalar.cmpi .slt v7 c0_i32_3
  let v12 : BitVec 32 := Scalar.extui v11
  let v13 : BitVec 32 := Scalar.subi v10 v12
  let c512_i32_2 : BitVec 32 := 512#32
  let c0_i32_4 : BitVec 32 := 0#32
  let v14 : BitVec 1 := Scalar.cmpi .sgt c512_i32_2 c0_i32_4
  let v15 : BitVec 32 := Scalar.extui v14
  let c0_i32_5 : BitVec 32 := 0#32
  let v16 : BitVec 1 := Scalar.cmpi .slt c512_i32_2 c0_i32_5
  let v17 : BitVec 32 := Scalar.extui v16
  let v18 : BitVec 32 := Scalar.subi v15 v17
  let v19 : BitVec 1 := Scalar.cmpi .ne v13 v18
  let v20 : BitVec 32 := Scalar.remsi v7 c512_i32_2
  let c0_i32_6 : BitVec 32 := 0#32
  let v21 : BitVec 1 := Scalar.cmpi .ne v20 c0_i32_6
  let v22 : BitVec 1 := Scalar.andi v19 v21
  let v8 : BitVec 32 := Scalar.divsi v7 c512_i32_2
  let c1_i32_7 : BitVec 32 := 1#32
  let v23 : BitVec 32 := Scalar.subi v8 c1_i32_7
  let v24 : BitVec 32 := Scalar.select v22 v23 v8
  let c0_i32_21 : BitVec 32 := 0#32
  let v41 : BitVec 1 := Scalar.cmpi .sgt v24 c0_i32_21
  let v42 : BitVec 32 := Scalar.extui v41
  let c0_i32_22 : BitVec 32 := 0#32
  let v43 : BitVec 1 := Scalar.cmpi .slt v24 c0_i32_22
  let v44 : BitVec 32 := Scalar.extui v43
  let v45 : BitVec 32 := Scalar.subi v42 v44
  let c2_i32 : BitVec 32 := 2#32
  let c0_i32_23 : BitVec 32 := 0#32
  let v46 : BitVec 1 := Scalar.cmpi .sgt c2_i32 c0_i32_23
  let v47 : BitVec 32 := Scalar.extui v46
  let c0_i32_24 : BitVec 32 := 0#32
  let v48 : BitVec 1 := Scalar.cmpi .slt c2_i32 c0_i32_24
  let v49 : BitVec 32 := Scalar.extui v48
  let v50 : BitVec 32 := Scalar.subi v47 v49
  let v51 : BitVec 1 := Scalar.cmpi .ne v45 v50
  let v52 : BitVec 32 := Scalar.remsi v24 c2_i32
  let c0_i32_25 : BitVec 32 := 0#32
  let v53 : BitVec 1 := Scalar.cmpi .ne v52 c0_i32_25
  let v54 : BitVec 1 := Scalar.andi v51 v53
  let v40 : BitVec 32 := Scalar.divsi v24 c2_i32
  let c1_i32_26 : BitVec 32 := 1#32
  let v55 : BitVec 32 := Scalar.subi v40 c1_i32_26
  let v56 : BitVec 32 := Scalar.select v54 v55 v40
  let v57 : BitVec 32 := Scalar.subi v56 c0_i32_27
  let c1_i32_28 : BitVec 32 := 1#32
  let v59 : BitVec 32 := Scalar.divsi v57 c1_i32_28
  let v60 : BitVec 32 := Scalar.muli v59 c1_i32_28
  let v61 : BitVec 32 := Scalar.addi c0_i32_27 v60
  let c1_i32_30 : BitVec 32 := 1#32
  let arg6 : BitVec 32 := Scf.iv v61 c1_i32_30 k0_t2
  let v176 : BitVec 32 := Scalar.muli c2_i32_102 arg6
  let c512_i32_103 : BitVec 32 := 512#32
  let v177 : BitVec 32 := Scalar.muli v176 c512_i32_103
  let v178 : BitVec 32 := v177
  let v179 : Index := Scalar.indexCast v178
  let c0_105 : Index := 0#32
  ![0, v179.toNat, 0]
def k0_off6 (i : grid0.Coords) (k0_t2 : Fin (k0_t2_loop i).trips) : Fin 3 → Nat :=
  let c0_106 : Index := 0#32
  let c2_i32_102 : BitVec 32 := 2#32
  let c0_i32_27 : BitVec 32 := 0#32
  let arg1 : BitVec 32 := BitVec.ofNat 32 (i 1).val
  let c128_i32_0 : BitVec 32 := 128#32
  let v4 : BitVec 32 := Scalar.muli arg1 c128_i32_0
  let c128_i32_1 : BitVec 32 := 128#32
  let v5 : BitVec 32 := Scalar.addi v4 c128_i32_1
  let c512_i32 : BitVec 32 := 512#32
  let v6 : BitVec 32 := Scalar.addi v5 c512_i32
  let c1_i32 : BitVec 32 := 1#32
  let v7 : BitVec 32 := Scalar.subi v6 c1_i32
  let c0_i32 : BitVec 32 := 0#32
  let v9 : BitVec 1 := Scalar.cmpi .sgt v7 c0_i32
  let v10 : BitVec 32 := Scalar.extui v9
  let c0_i32_3 : BitVec 32 := 0#32
  let v11 : BitVec 1 := Scalar.cmpi .slt v7 c0_i32_3
  let v12 : BitVec 32 := Scalar.extui v11
  let v13 : BitVec 32 := Scalar.subi v10 v12
  let c512_i32_2 : BitVec 32 := 512#32
  let c0_i32_4 : BitVec 32 := 0#32
  let v14 : BitVec 1 := Scalar.cmpi .sgt c512_i32_2 c0_i32_4
  let v15 : BitVec 32 := Scalar.extui v14
  let c0_i32_5 : BitVec 32 := 0#32
  let v16 : BitVec 1 := Scalar.cmpi .slt c512_i32_2 c0_i32_5
  let v17 : BitVec 32 := Scalar.extui v16
  let v18 : BitVec 32 := Scalar.subi v15 v17
  let v19 : BitVec 1 := Scalar.cmpi .ne v13 v18
  let v20 : BitVec 32 := Scalar.remsi v7 c512_i32_2
  let c0_i32_6 : BitVec 32 := 0#32
  let v21 : BitVec 1 := Scalar.cmpi .ne v20 c0_i32_6
  let v22 : BitVec 1 := Scalar.andi v19 v21
  let v8 : BitVec 32 := Scalar.divsi v7 c512_i32_2
  let c1_i32_7 : BitVec 32 := 1#32
  let v23 : BitVec 32 := Scalar.subi v8 c1_i32_7
  let v24 : BitVec 32 := Scalar.select v22 v23 v8
  let c0_i32_21 : BitVec 32 := 0#32
  let v41 : BitVec 1 := Scalar.cmpi .sgt v24 c0_i32_21
  let v42 : BitVec 32 := Scalar.extui v41
  let c0_i32_22 : BitVec 32 := 0#32
  let v43 : BitVec 1 := Scalar.cmpi .slt v24 c0_i32_22
  let v44 : BitVec 32 := Scalar.extui v43
  let v45 : BitVec 32 := Scalar.subi v42 v44
  let c2_i32 : BitVec 32 := 2#32
  let c0_i32_23 : BitVec 32 := 0#32
  let v46 : BitVec 1 := Scalar.cmpi .sgt c2_i32 c0_i32_23
  let v47 : BitVec 32 := Scalar.extui v46
  let c0_i32_24 : BitVec 32 := 0#32
  let v48 : BitVec 1 := Scalar.cmpi .slt c2_i32 c0_i32_24
  let v49 : BitVec 32 := Scalar.extui v48
  let v50 : BitVec 32 := Scalar.subi v47 v49
  let v51 : BitVec 1 := Scalar.cmpi .ne v45 v50
  let v52 : BitVec 32 := Scalar.remsi v24 c2_i32
  let c0_i32_25 : BitVec 32 := 0#32
  let v53 : BitVec 1 := Scalar.cmpi .ne v52 c0_i32_25
  let v54 : BitVec 1 := Scalar.andi v51 v53
  let v40 : BitVec 32 := Scalar.divsi v24 c2_i32
  let c1_i32_26 : BitVec 32 := 1#32
  let v55 : BitVec 32 := Scalar.subi v40 c1_i32_26
  let v56 : BitVec 32 := Scalar.select v54 v55 v40
  let v57 : BitVec 32 := Scalar.subi v56 c0_i32_27
  let c1_i32_28 : BitVec 32 := 1#32
  let v59 : BitVec 32 := Scalar.divsi v57 c1_i32_28
  let v60 : BitVec 32 := Scalar.muli v59 c1_i32_28
  let v61 : BitVec 32 := Scalar.addi c0_i32_27 v60
  let c1_i32_30 : BitVec 32 := 1#32
  let arg6 : BitVec 32 := Scf.iv v61 c1_i32_30 k0_t2
  let v176 : BitVec 32 := Scalar.muli c2_i32_102 arg6
  let c512_i32_103 : BitVec 32 := 512#32
  let v177 : BitVec 32 := Scalar.muli v176 c512_i32_103
  let v178 : BitVec 32 := v177
  let v182 : Index := Scalar.indexCast v178
  let c256_107 : Index := 256#32
  ![0, v182.toNat, 256]
def k0_mult4 (i : grid0.Coords) (k0_t2 : Fin (k0_t2_loop i).trips) : BitVec 32 :=
  let c2_i32_100 : BitVec 32 := 2#32
  let c0_i32_27 : BitVec 32 := 0#32
  let arg1 : BitVec 32 := BitVec.ofNat 32 (i 1).val
  let c128_i32_0 : BitVec 32 := 128#32
  let v4 : BitVec 32 := Scalar.muli arg1 c128_i32_0
  let c128_i32_1 : BitVec 32 := 128#32
  let v5 : BitVec 32 := Scalar.addi v4 c128_i32_1
  let c512_i32 : BitVec 32 := 512#32
  let v6 : BitVec 32 := Scalar.addi v5 c512_i32
  let c1_i32 : BitVec 32 := 1#32
  let v7 : BitVec 32 := Scalar.subi v6 c1_i32
  let c0_i32 : BitVec 32 := 0#32
  let v9 : BitVec 1 := Scalar.cmpi .sgt v7 c0_i32
  let v10 : BitVec 32 := Scalar.extui v9
  let c0_i32_3 : BitVec 32 := 0#32
  let v11 : BitVec 1 := Scalar.cmpi .slt v7 c0_i32_3
  let v12 : BitVec 32 := Scalar.extui v11
  let v13 : BitVec 32 := Scalar.subi v10 v12
  let c512_i32_2 : BitVec 32 := 512#32
  let c0_i32_4 : BitVec 32 := 0#32
  let v14 : BitVec 1 := Scalar.cmpi .sgt c512_i32_2 c0_i32_4
  let v15 : BitVec 32 := Scalar.extui v14
  let c0_i32_5 : BitVec 32 := 0#32
  let v16 : BitVec 1 := Scalar.cmpi .slt c512_i32_2 c0_i32_5
  let v17 : BitVec 32 := Scalar.extui v16
  let v18 : BitVec 32 := Scalar.subi v15 v17
  let v19 : BitVec 1 := Scalar.cmpi .ne v13 v18
  let v20 : BitVec 32 := Scalar.remsi v7 c512_i32_2
  let c0_i32_6 : BitVec 32 := 0#32
  let v21 : BitVec 1 := Scalar.cmpi .ne v20 c0_i32_6
  let v22 : BitVec 1 := Scalar.andi v19 v21
  let v8 : BitVec 32 := Scalar.divsi v7 c512_i32_2
  let c1_i32_7 : BitVec 32 := 1#32
  let v23 : BitVec 32 := Scalar.subi v8 c1_i32_7
  let v24 : BitVec 32 := Scalar.select v22 v23 v8
  let c0_i32_21 : BitVec 32 := 0#32
  let v41 : BitVec 1 := Scalar.cmpi .sgt v24 c0_i32_21
  let v42 : BitVec 32 := Scalar.extui v41
  let c0_i32_22 : BitVec 32 := 0#32
  let v43 : BitVec 1 := Scalar.cmpi .slt v24 c0_i32_22
  let v44 : BitVec 32 := Scalar.extui v43
  let v45 : BitVec 32 := Scalar.subi v42 v44
  let c2_i32 : BitVec 32 := 2#32
  let c0_i32_23 : BitVec 32 := 0#32
  let v46 : BitVec 1 := Scalar.cmpi .sgt c2_i32 c0_i32_23
  let v47 : BitVec 32 := Scalar.extui v46
  let c0_i32_24 : BitVec 32 := 0#32
  let v48 : BitVec 1 := Scalar.cmpi .slt c2_i32 c0_i32_24
  let v49 : BitVec 32 := Scalar.extui v48
  let v50 : BitVec 32 := Scalar.subi v47 v49
  let v51 : BitVec 1 := Scalar.cmpi .ne v45 v50
  let v52 : BitVec 32 := Scalar.remsi v24 c2_i32
  let c0_i32_25 : BitVec 32 := 0#32
  let v53 : BitVec 1 := Scalar.cmpi .ne v52 c0_i32_25
  let v54 : BitVec 1 := Scalar.andi v51 v53
  let v40 : BitVec 32 := Scalar.divsi v24 c2_i32
  let c1_i32_26 : BitVec 32 := 1#32
  let v55 : BitVec 32 := Scalar.subi v40 c1_i32_26
  let v56 : BitVec 32 := Scalar.select v54 v55 v40
  let v57 : BitVec 32 := Scalar.subi v56 c0_i32_27
  let c1_i32_28 : BitVec 32 := 1#32
  let v59 : BitVec 32 := Scalar.divsi v57 c1_i32_28
  let v60 : BitVec 32 := Scalar.muli v59 c1_i32_28
  let v61 : BitVec 32 := Scalar.addi c0_i32_27 v60
  let c1_i32_30 : BitVec 32 := 1#32
  let arg6 : BitVec 32 := Scf.iv v61 c1_i32_30 k0_t2
  let v174 : BitVec 32 := Scalar.muli c2_i32_100 arg6
  let c1_i32_101 : BitVec 32 := 1#32
  let v175 : BitVec 32 := Scalar.addi v174 c1_i32_101
  let c512_i32_128 : BitVec 32 := 512#32
  let v258 : BitVec 32 := Scalar.muli v175 c512_i32_128
  v258
def k0_off7 (i : grid0.Coords) (k0_t2 : Fin (k0_t2_loop i).trips) : Fin 3 → Nat :=
  let c0_129 : Index := 0#32
  let c2_i32_100 : BitVec 32 := 2#32
  let c0_i32_27 : BitVec 32 := 0#32
  let arg1 : BitVec 32 := BitVec.ofNat 32 (i 1).val
  let c128_i32_0 : BitVec 32 := 128#32
  let v4 : BitVec 32 := Scalar.muli arg1 c128_i32_0
  let c128_i32_1 : BitVec 32 := 128#32
  let v5 : BitVec 32 := Scalar.addi v4 c128_i32_1
  let c512_i32 : BitVec 32 := 512#32
  let v6 : BitVec 32 := Scalar.addi v5 c512_i32
  let c1_i32 : BitVec 32 := 1#32
  let v7 : BitVec 32 := Scalar.subi v6 c1_i32
  let c0_i32 : BitVec 32 := 0#32
  let v9 : BitVec 1 := Scalar.cmpi .sgt v7 c0_i32
  let v10 : BitVec 32 := Scalar.extui v9
  let c0_i32_3 : BitVec 32 := 0#32
  let v11 : BitVec 1 := Scalar.cmpi .slt v7 c0_i32_3
  let v12 : BitVec 32 := Scalar.extui v11
  let v13 : BitVec 32 := Scalar.subi v10 v12
  let c512_i32_2 : BitVec 32 := 512#32
  let c0_i32_4 : BitVec 32 := 0#32
  let v14 : BitVec 1 := Scalar.cmpi .sgt c512_i32_2 c0_i32_4
  let v15 : BitVec 32 := Scalar.extui v14
  let c0_i32_5 : BitVec 32 := 0#32
  let v16 : BitVec 1 := Scalar.cmpi .slt c512_i32_2 c0_i32_5
  let v17 : BitVec 32 := Scalar.extui v16
  let v18 : BitVec 32 := Scalar.subi v15 v17
  let v19 : BitVec 1 := Scalar.cmpi .ne v13 v18
  let v20 : BitVec 32 := Scalar.remsi v7 c512_i32_2
  let c0_i32_6 : BitVec 32 := 0#32
  let v21 : BitVec 1 := Scalar.cmpi .ne v20 c0_i32_6
  let v22 : BitVec 1 := Scalar.andi v19 v21
  let v8 : BitVec 32 := Scalar.divsi v7 c512_i32_2
  let c1_i32_7 : BitVec 32 := 1#32
  let v23 : BitVec 32 := Scalar.subi v8 c1_i32_7
  let v24 : BitVec 32 := Scalar.select v22 v23 v8
  let c0_i32_21 : BitVec 32 := 0#32
  let v41 : BitVec 1 := Scalar.cmpi .sgt v24 c0_i32_21
  let v42 : BitVec 32 := Scalar.extui v41
  let c0_i32_22 : BitVec 32 := 0#32
  let v43 : BitVec 1 := Scalar.cmpi .slt v24 c0_i32_22
  let v44 : BitVec 32 := Scalar.extui v43
  let v45 : BitVec 32 := Scalar.subi v42 v44
  let c2_i32 : BitVec 32 := 2#32
  let c0_i32_23 : BitVec 32 := 0#32
  let v46 : BitVec 1 := Scalar.cmpi .sgt c2_i32 c0_i32_23
  let v47 : BitVec 32 := Scalar.extui v46
  let c0_i32_24 : BitVec 32 := 0#32
  let v48 : BitVec 1 := Scalar.cmpi .slt c2_i32 c0_i32_24
  let v49 : BitVec 32 := Scalar.extui v48
  let v50 : BitVec 32 := Scalar.subi v47 v49
  let v51 : BitVec 1 := Scalar.cmpi .ne v45 v50
  let v52 : BitVec 32 := Scalar.remsi v24 c2_i32
  let c0_i32_25 : BitVec 32 := 0#32
  let v53 : BitVec 1 := Scalar.cmpi .ne v52 c0_i32_25
  let v54 : BitVec 1 := Scalar.andi v51 v53
  let v40 : BitVec 32 := Scalar.divsi v24 c2_i32
  let c1_i32_26 : BitVec 32 := 1#32
  let v55 : BitVec 32 := Scalar.subi v40 c1_i32_26
  let v56 : BitVec 32 := Scalar.select v54 v55 v40
  let v57 : BitVec 32 := Scalar.subi v56 c0_i32_27
  let c1_i32_28 : BitVec 32 := 1#32
  let v59 : BitVec 32 := Scalar.divsi v57 c1_i32_28
  let v60 : BitVec 32 := Scalar.muli v59 c1_i32_28
  let v61 : BitVec 32 := Scalar.addi c0_i32_27 v60
  let c1_i32_30 : BitVec 32 := 1#32
  let arg6 : BitVec 32 := Scf.iv v61 c1_i32_30 k0_t2
  let v174 : BitVec 32 := Scalar.muli c2_i32_100 arg6
  let c1_i32_101 : BitVec 32 := 1#32
  let v175 : BitVec 32 := Scalar.addi v174 c1_i32_101
  let c512_i32_128 : BitVec 32 := 512#32
  let v258 : BitVec 32 := Scalar.muli v175 c512_i32_128
  let v259 : BitVec 32 := v258
  let v260 : Index := Scalar.indexCast v259
  let c0_130 : Index := 0#32
  ![0, v260.toNat, 0]
def k0_off8 (i : grid0.Coords) (k0_t2 : Fin (k0_t2_loop i).trips) : Fin 3 → Nat :=
  let c0_131 : Index := 0#32
  let c2_i32_100 : BitVec 32 := 2#32
  let c0_i32_27 : BitVec 32 := 0#32
  let arg1 : BitVec 32 := BitVec.ofNat 32 (i 1).val
  let c128_i32_0 : BitVec 32 := 128#32
  let v4 : BitVec 32 := Scalar.muli arg1 c128_i32_0
  let c128_i32_1 : BitVec 32 := 128#32
  let v5 : BitVec 32 := Scalar.addi v4 c128_i32_1
  let c512_i32 : BitVec 32 := 512#32
  let v6 : BitVec 32 := Scalar.addi v5 c512_i32
  let c1_i32 : BitVec 32 := 1#32
  let v7 : BitVec 32 := Scalar.subi v6 c1_i32
  let c0_i32 : BitVec 32 := 0#32
  let v9 : BitVec 1 := Scalar.cmpi .sgt v7 c0_i32
  let v10 : BitVec 32 := Scalar.extui v9
  let c0_i32_3 : BitVec 32 := 0#32
  let v11 : BitVec 1 := Scalar.cmpi .slt v7 c0_i32_3
  let v12 : BitVec 32 := Scalar.extui v11
  let v13 : BitVec 32 := Scalar.subi v10 v12
  let c512_i32_2 : BitVec 32 := 512#32
  let c0_i32_4 : BitVec 32 := 0#32
  let v14 : BitVec 1 := Scalar.cmpi .sgt c512_i32_2 c0_i32_4
  let v15 : BitVec 32 := Scalar.extui v14
  let c0_i32_5 : BitVec 32 := 0#32
  let v16 : BitVec 1 := Scalar.cmpi .slt c512_i32_2 c0_i32_5
  let v17 : BitVec 32 := Scalar.extui v16
  let v18 : BitVec 32 := Scalar.subi v15 v17
  let v19 : BitVec 1 := Scalar.cmpi .ne v13 v18
  let v20 : BitVec 32 := Scalar.remsi v7 c512_i32_2
  let c0_i32_6 : BitVec 32 := 0#32
  let v21 : BitVec 1 := Scalar.cmpi .ne v20 c0_i32_6
  let v22 : BitVec 1 := Scalar.andi v19 v21
  let v8 : BitVec 32 := Scalar.divsi v7 c512_i32_2
  let c1_i32_7 : BitVec 32 := 1#32
  let v23 : BitVec 32 := Scalar.subi v8 c1_i32_7
  let v24 : BitVec 32 := Scalar.select v22 v23 v8
  let c0_i32_21 : BitVec 32 := 0#32
  let v41 : BitVec 1 := Scalar.cmpi .sgt v24 c0_i32_21
  let v42 : BitVec 32 := Scalar.extui v41
  let c0_i32_22 : BitVec 32 := 0#32
  let v43 : BitVec 1 := Scalar.cmpi .slt v24 c0_i32_22
  let v44 : BitVec 32 := Scalar.extui v43
  let v45 : BitVec 32 := Scalar.subi v42 v44
  let c2_i32 : BitVec 32 := 2#32
  let c0_i32_23 : BitVec 32 := 0#32
  let v46 : BitVec 1 := Scalar.cmpi .sgt c2_i32 c0_i32_23
  let v47 : BitVec 32 := Scalar.extui v46
  let c0_i32_24 : BitVec 32 := 0#32
  let v48 : BitVec 1 := Scalar.cmpi .slt c2_i32 c0_i32_24
  let v49 : BitVec 32 := Scalar.extui v48
  let v50 : BitVec 32 := Scalar.subi v47 v49
  let v51 : BitVec 1 := Scalar.cmpi .ne v45 v50
  let v52 : BitVec 32 := Scalar.remsi v24 c2_i32
  let c0_i32_25 : BitVec 32 := 0#32
  let v53 : BitVec 1 := Scalar.cmpi .ne v52 c0_i32_25
  let v54 : BitVec 1 := Scalar.andi v51 v53
  let v40 : BitVec 32 := Scalar.divsi v24 c2_i32
  let c1_i32_26 : BitVec 32 := 1#32
  let v55 : BitVec 32 := Scalar.subi v40 c1_i32_26
  let v56 : BitVec 32 := Scalar.select v54 v55 v40
  let v57 : BitVec 32 := Scalar.subi v56 c0_i32_27
  let c1_i32_28 : BitVec 32 := 1#32
  let v59 : BitVec 32 := Scalar.divsi v57 c1_i32_28
  let v60 : BitVec 32 := Scalar.muli v59 c1_i32_28
  let v61 : BitVec 32 := Scalar.addi c0_i32_27 v60
  let c1_i32_30 : BitVec 32 := 1#32
  let arg6 : BitVec 32 := Scf.iv v61 c1_i32_30 k0_t2
  let v174 : BitVec 32 := Scalar.muli c2_i32_100 arg6
  let c1_i32_101 : BitVec 32 := 1#32
  let v175 : BitVec 32 := Scalar.addi v174 c1_i32_101
  let c512_i32_128 : BitVec 32 := 512#32
  let v258 : BitVec 32 := Scalar.muli v175 c512_i32_128
  let v259 : BitVec 32 := v258
  let v263 : Index := Scalar.indexCast v259
  let c256_132 : Index := 256#32
  ![0, v263.toNat, 256]
def k0_cond1 (i : grid0.Coords) : BitVec 1 :=
  let arg1 : BitVec 32 := BitVec.ofNat 32 (i 1).val
  let c128_i32_0 : BitVec 32 := 128#32
  let v4 : BitVec 32 := Scalar.muli arg1 c128_i32_0
  let c128_i32_1 : BitVec 32 := 128#32
  let v5 : BitVec 32 := Scalar.addi v4 c128_i32_1
  let c512_i32 : BitVec 32 := 512#32
  let v6 : BitVec 32 := Scalar.addi v5 c512_i32
  let c1_i32 : BitVec 32 := 1#32
  let v7 : BitVec 32 := Scalar.subi v6 c1_i32
  let c0_i32 : BitVec 32 := 0#32
  let v9 : BitVec 1 := Scalar.cmpi .sgt v7 c0_i32
  let v10 : BitVec 32 := Scalar.extui v9
  let c0_i32_3 : BitVec 32 := 0#32
  let v11 : BitVec 1 := Scalar.cmpi .slt v7 c0_i32_3
  let v12 : BitVec 32 := Scalar.extui v11
  let v13 : BitVec 32 := Scalar.subi v10 v12
  let c512_i32_2 : BitVec 32 := 512#32
  let c0_i32_4 : BitVec 32 := 0#32
  let v14 : BitVec 1 := Scalar.cmpi .sgt c512_i32_2 c0_i32_4
  let v15 : BitVec 32 := Scalar.extui v14
  let c0_i32_5 : BitVec 32 := 0#32
  let v16 : BitVec 1 := Scalar.cmpi .slt c512_i32_2 c0_i32_5
  let v17 : BitVec 32 := Scalar.extui v16
  let v18 : BitVec 32 := Scalar.subi v15 v17
  let v19 : BitVec 1 := Scalar.cmpi .ne v13 v18
  let v20 : BitVec 32 := Scalar.remsi v7 c512_i32_2
  let c0_i32_6 : BitVec 32 := 0#32
  let v21 : BitVec 1 := Scalar.cmpi .ne v20 c0_i32_6
  let v22 : BitVec 1 := Scalar.andi v19 v21
  let v8 : BitVec 32 := Scalar.divsi v7 c512_i32_2
  let c1_i32_7 : BitVec 32 := 1#32
  let v23 : BitVec 32 := Scalar.subi v8 c1_i32_7
  let v24 : BitVec 32 := Scalar.select v22 v23 v8
  let c2_i32_31 : BitVec 32 := 2#32
  let c0_i32_32 : BitVec 32 := 0#32
  let v64 : BitVec 1 := Scalar.cmpi .eq c2_i32_31 c0_i32_32
  let c1_i32_33 : BitVec 32 := 1#32
  let v65 : BitVec 32 := Scalar.select v64 c1_i32_33 c2_i32_31
  let v66 : BitVec 32 := Scalar.remsi v24 v65
  let c0_i32_35 : BitVec 32 := 0#32
  let v68 : BitVec 1 := Scalar.cmpi .slt v66 c0_i32_35
  let c0_i32_36 : BitVec 32 := 0#32
  let v69 : BitVec 1 := Scalar.cmpi .slt v65 c0_i32_36
  let v70 : BitVec 1 := Scalar.xori v68 v69
  let c0_i32_34 : BitVec 32 := 0#32
  let v67 : BitVec 1 := Scalar.cmpi .ne v66 c0_i32_34
  let v71 : BitVec 1 := Scalar.andi v70 v67
  let v72 : BitVec 32 := Scalar.addi v66 v65
  let v73 : BitVec 32 := Scalar.select v71 v72 v66
  let c1_i32_37 : BitVec 32 := 1#32
  let v74 : BitVec 1 := Scalar.cmpi .eq v73 c1_i32_37
  let v75 : BitVec 32 := Scalar.extui v74
  let c0_i32_38 : BitVec 32 := 0#32
  let v76 : BitVec 1 := Scalar.cmpi .ne v75 c0_i32_38
  v76

def k0_mult5 (i : grid0.Coords) : BitVec 32 :=
  let arg1 : BitVec 32 := BitVec.ofNat 32 (i 1).val
  let c128_i32_0 : BitVec 32 := 128#32
  let v4 : BitVec 32 := Scalar.muli arg1 c128_i32_0
  let c128_i32_1 : BitVec 32 := 128#32
  let v5 : BitVec 32 := Scalar.addi v4 c128_i32_1
  let c512_i32 : BitVec 32 := 512#32
  let v6 : BitVec 32 := Scalar.addi v5 c512_i32
  let c1_i32 : BitVec 32 := 1#32
  let v7 : BitVec 32 := Scalar.subi v6 c1_i32
  let c0_i32 : BitVec 32 := 0#32
  let v9 : BitVec 1 := Scalar.cmpi .sgt v7 c0_i32
  let v10 : BitVec 32 := Scalar.extui v9
  let c0_i32_3 : BitVec 32 := 0#32
  let v11 : BitVec 1 := Scalar.cmpi .slt v7 c0_i32_3
  let v12 : BitVec 32 := Scalar.extui v11
  let v13 : BitVec 32 := Scalar.subi v10 v12
  let c512_i32_2 : BitVec 32 := 512#32
  let c0_i32_4 : BitVec 32 := 0#32
  let v14 : BitVec 1 := Scalar.cmpi .sgt c512_i32_2 c0_i32_4
  let v15 : BitVec 32 := Scalar.extui v14
  let c0_i32_5 : BitVec 32 := 0#32
  let v16 : BitVec 1 := Scalar.cmpi .slt c512_i32_2 c0_i32_5
  let v17 : BitVec 32 := Scalar.extui v16
  let v18 : BitVec 32 := Scalar.subi v15 v17
  let v19 : BitVec 1 := Scalar.cmpi .ne v13 v18
  let v20 : BitVec 32 := Scalar.remsi v7 c512_i32_2
  let c0_i32_6 : BitVec 32 := 0#32
  let v21 : BitVec 1 := Scalar.cmpi .ne v20 c0_i32_6
  let v22 : BitVec 1 := Scalar.andi v19 v21
  let v8 : BitVec 32 := Scalar.divsi v7 c512_i32_2
  let c1_i32_7 : BitVec 32 := 1#32
  let v23 : BitVec 32 := Scalar.subi v8 c1_i32_7
  let v24 : BitVec 32 := Scalar.select v22 v23 v8
  let c1_i32_100 : BitVec 32 := 1#32
  let v174 : BitVec 32 := Scalar.subi v24 c1_i32_100
  let c512_i32_101 : BitVec 32 := 512#32
  let v175 : BitVec 32 := Scalar.muli v174 c512_i32_101
  v175
def k0_off9 (i : grid0.Coords) : Fin 3 → Nat :=
  let c0_102 : Index := 0#32
  let arg1 : BitVec 32 := BitVec.ofNat 32 (i 1).val
  let c128_i32_0 : BitVec 32 := 128#32
  let v4 : BitVec 32 := Scalar.muli arg1 c128_i32_0
  let c128_i32_1 : BitVec 32 := 128#32
  let v5 : BitVec 32 := Scalar.addi v4 c128_i32_1
  let c512_i32 : BitVec 32 := 512#32
  let v6 : BitVec 32 := Scalar.addi v5 c512_i32
  let c1_i32 : BitVec 32 := 1#32
  let v7 : BitVec 32 := Scalar.subi v6 c1_i32
  let c0_i32 : BitVec 32 := 0#32
  let v9 : BitVec 1 := Scalar.cmpi .sgt v7 c0_i32
  let v10 : BitVec 32 := Scalar.extui v9
  let c0_i32_3 : BitVec 32 := 0#32
  let v11 : BitVec 1 := Scalar.cmpi .slt v7 c0_i32_3
  let v12 : BitVec 32 := Scalar.extui v11
  let v13 : BitVec 32 := Scalar.subi v10 v12
  let c512_i32_2 : BitVec 32 := 512#32
  let c0_i32_4 : BitVec 32 := 0#32
  let v14 : BitVec 1 := Scalar.cmpi .sgt c512_i32_2 c0_i32_4
  let v15 : BitVec 32 := Scalar.extui v14
  let c0_i32_5 : BitVec 32 := 0#32
  let v16 : BitVec 1 := Scalar.cmpi .slt c512_i32_2 c0_i32_5
  let v17 : BitVec 32 := Scalar.extui v16
  let v18 : BitVec 32 := Scalar.subi v15 v17
  let v19 : BitVec 1 := Scalar.cmpi .ne v13 v18
  let v20 : BitVec 32 := Scalar.remsi v7 c512_i32_2
  let c0_i32_6 : BitVec 32 := 0#32
  let v21 : BitVec 1 := Scalar.cmpi .ne v20 c0_i32_6
  let v22 : BitVec 1 := Scalar.andi v19 v21
  let v8 : BitVec 32 := Scalar.divsi v7 c512_i32_2
  let c1_i32_7 : BitVec 32 := 1#32
  let v23 : BitVec 32 := Scalar.subi v8 c1_i32_7
  let v24 : BitVec 32 := Scalar.select v22 v23 v8
  let c1_i32_100 : BitVec 32 := 1#32
  let v174 : BitVec 32 := Scalar.subi v24 c1_i32_100
  let c512_i32_101 : BitVec 32 := 512#32
  let v175 : BitVec 32 := Scalar.muli v174 c512_i32_101
  let v176 : BitVec 32 := v175
  let v177 : Index := Scalar.indexCast v176
  let c0_103 : Index := 0#32
  ![0, v177.toNat, 0]
def k0_off10 (i : grid0.Coords) : Fin 3 → Nat :=
  let c0_104 : Index := 0#32
  let arg1 : BitVec 32 := BitVec.ofNat 32 (i 1).val
  let c128_i32_0 : BitVec 32 := 128#32
  let v4 : BitVec 32 := Scalar.muli arg1 c128_i32_0
  let c128_i32_1 : BitVec 32 := 128#32
  let v5 : BitVec 32 := Scalar.addi v4 c128_i32_1
  let c512_i32 : BitVec 32 := 512#32
  let v6 : BitVec 32 := Scalar.addi v5 c512_i32
  let c1_i32 : BitVec 32 := 1#32
  let v7 : BitVec 32 := Scalar.subi v6 c1_i32
  let c0_i32 : BitVec 32 := 0#32
  let v9 : BitVec 1 := Scalar.cmpi .sgt v7 c0_i32
  let v10 : BitVec 32 := Scalar.extui v9
  let c0_i32_3 : BitVec 32 := 0#32
  let v11 : BitVec 1 := Scalar.cmpi .slt v7 c0_i32_3
  let v12 : BitVec 32 := Scalar.extui v11
  let v13 : BitVec 32 := Scalar.subi v10 v12
  let c512_i32_2 : BitVec 32 := 512#32
  let c0_i32_4 : BitVec 32 := 0#32
  let v14 : BitVec 1 := Scalar.cmpi .sgt c512_i32_2 c0_i32_4
  let v15 : BitVec 32 := Scalar.extui v14
  let c0_i32_5 : BitVec 32 := 0#32
  let v16 : BitVec 1 := Scalar.cmpi .slt c512_i32_2 c0_i32_5
  let v17 : BitVec 32 := Scalar.extui v16
  let v18 : BitVec 32 := Scalar.subi v15 v17
  let v19 : BitVec 1 := Scalar.cmpi .ne v13 v18
  let v20 : BitVec 32 := Scalar.remsi v7 c512_i32_2
  let c0_i32_6 : BitVec 32 := 0#32
  let v21 : BitVec 1 := Scalar.cmpi .ne v20 c0_i32_6
  let v22 : BitVec 1 := Scalar.andi v19 v21
  let v8 : BitVec 32 := Scalar.divsi v7 c512_i32_2
  let c1_i32_7 : BitVec 32 := 1#32
  let v23 : BitVec 32 := Scalar.subi v8 c1_i32_7
  let v24 : BitVec 32 := Scalar.select v22 v23 v8
  let c1_i32_100 : BitVec 32 := 1#32
  let v174 : BitVec 32 := Scalar.subi v24 c1_i32_100
  let c512_i32_101 : BitVec 32 := 512#32
  let v175 : BitVec 32 := Scalar.muli v174 c512_i32_101
  let v176 : BitVec 32 := v175
  let v180 : Index := Scalar.indexCast v176
  let c256_105 : Index := 256#32
  ![0, v180.toNat, 256]
@[reducible] def k0_t3_loop (i : grid0.Coords) : Scf.Loop 32 :=
  let c0_i32_74 : BitVec 32 := 0#32
  let arg1 : BitVec 32 := BitVec.ofNat 32 (i 1).val
  let c128_i32_0 : BitVec 32 := 128#32
  let v4 : BitVec 32 := Scalar.muli arg1 c128_i32_0
  let c128_i32_1 : BitVec 32 := 128#32
  let v5 : BitVec 32 := Scalar.addi v4 c128_i32_1
  let c512_i32 : BitVec 32 := 512#32
  let v6 : BitVec 32 := Scalar.addi v5 c512_i32
  let c1_i32 : BitVec 32 := 1#32
  let v7 : BitVec 32 := Scalar.subi v6 c1_i32
  let c0_i32 : BitVec 32 := 0#32
  let v9 : BitVec 1 := Scalar.cmpi .sgt v7 c0_i32
  let v10 : BitVec 32 := Scalar.extui v9
  let c0_i32_3 : BitVec 32 := 0#32
  let v11 : BitVec 1 := Scalar.cmpi .slt v7 c0_i32_3
  let v12 : BitVec 32 := Scalar.extui v11
  let v13 : BitVec 32 := Scalar.subi v10 v12
  let c512_i32_2 : BitVec 32 := 512#32
  let c0_i32_4 : BitVec 32 := 0#32
  let v14 : BitVec 1 := Scalar.cmpi .sgt c512_i32_2 c0_i32_4
  let v15 : BitVec 32 := Scalar.extui v14
  let c0_i32_5 : BitVec 32 := 0#32
  let v16 : BitVec 1 := Scalar.cmpi .slt c512_i32_2 c0_i32_5
  let v17 : BitVec 32 := Scalar.extui v16
  let v18 : BitVec 32 := Scalar.subi v15 v17
  let v19 : BitVec 1 := Scalar.cmpi .ne v13 v18
  let v20 : BitVec 32 := Scalar.remsi v7 c512_i32_2
  let c0_i32_6 : BitVec 32 := 0#32
  let v21 : BitVec 1 := Scalar.cmpi .ne v20 c0_i32_6
  let v22 : BitVec 1 := Scalar.andi v19 v21
  let v8 : BitVec 32 := Scalar.divsi v7 c512_i32_2
  let c1_i32_7 : BitVec 32 := 1#32
  let v23 : BitVec 32 := Scalar.subi v8 c1_i32_7
  let v24 : BitVec 32 := Scalar.select v22 v23 v8
  let c0_i32_68 : BitVec 32 := 0#32
  let v115 : BitVec 1 := Scalar.cmpi .sgt v24 c0_i32_68
  let v116 : BitVec 32 := Scalar.extui v115
  let c0_i32_69 : BitVec 32 := 0#32
  let v117 : BitVec 1 := Scalar.cmpi .slt v24 c0_i32_69
  let v118 : BitVec 32 := Scalar.extui v117
  let v119 : BitVec 32 := Scalar.subi v116 v118
  let c2_i32_67 : BitVec 32 := 2#32
  let c0_i32_70 : BitVec 32 := 0#32
  let v120 : BitVec 1 := Scalar.cmpi .sgt c2_i32_67 c0_i32_70
  let v121 : BitVec 32 := Scalar.extui v120
  let c0_i32_71 : BitVec 32 := 0#32
  let v122 : BitVec 1 := Scalar.cmpi .slt c2_i32_67 c0_i32_71
  let v123 : BitVec 32 := Scalar.extui v122
  let v124 : BitVec 32 := Scalar.subi v121 v123
  let v125 : BitVec 1 := Scalar.cmpi .ne v119 v124
  let v126 : BitVec 32 := Scalar.remsi v24 c2_i32_67
  let c0_i32_72 : BitVec 32 := 0#32
  let v127 : BitVec 1 := Scalar.cmpi .ne v126 c0_i32_72
  let v128 : BitVec 1 := Scalar.andi v125 v127
  let v114 : BitVec 32 := Scalar.divsi v24 c2_i32_67
  let c1_i32_73 : BitVec 32 := 1#32
  let v129 : BitVec 32 := Scalar.subi v114 c1_i32_73
  let v130 : BitVec 32 := Scalar.select v128 v129 v114
  let v131 : BitVec 32 := Scalar.subi v130 c0_i32_74
  let c1_i32_75 : BitVec 32 := 1#32
  let v133 : BitVec 32 := Scalar.divsi v131 c1_i32_75
  let v134 : BitVec 32 := Scalar.muli v133 c1_i32_75
  let v135 : BitVec 32 := Scalar.addi c0_i32_74 v134
  let c1_i32_76 : BitVec 32 := 1#32
  ⟨c0_i32_74, v135, c1_i32_76⟩
def k0_mult6 (i : grid0.Coords) (k0_t3 : Fin (k0_t3_loop i).trips) : BitVec 32 :=
  let c2_i32_102 : BitVec 32 := 2#32
  let c0_i32_74 : BitVec 32 := 0#32
  let c1_i32_76 : BitVec 32 := 1#32
  let arg6 : BitVec 32 := Scf.iv c0_i32_74 c1_i32_76 k0_t3
  let v176 : BitVec 32 := Scalar.muli c2_i32_102 arg6
  let c512_i32_103 : BitVec 32 := 512#32
  let v177 : BitVec 32 := Scalar.muli v176 c512_i32_103
  v177
def k0_off11 (i : grid0.Coords) (k0_t3 : Fin (k0_t3_loop i).trips) : Fin 3 → Nat :=
  let c0_104 : Index := 0#32
  let c2_i32_102 : BitVec 32 := 2#32
  let c0_i32_74 : BitVec 32 := 0#32
  let c1_i32_76 : BitVec 32 := 1#32
  let arg6 : BitVec 32 := Scf.iv c0_i32_74 c1_i32_76 k0_t3
  let v176 : BitVec 32 := Scalar.muli c2_i32_102 arg6
  let c512_i32_103 : BitVec 32 := 512#32
  let v177 : BitVec 32 := Scalar.muli v176 c512_i32_103
  let v178 : BitVec 32 := v177
  let v179 : Index := Scalar.indexCast v178
  let c128_105 : Index := 128#32
  ![0, v179.toNat, 128]
def k0_off12 (i : grid0.Coords) (k0_t3 : Fin (k0_t3_loop i).trips) : Fin 3 → Nat :=
  let c0_106 : Index := 0#32
  let c2_i32_102 : BitVec 32 := 2#32
  let c0_i32_74 : BitVec 32 := 0#32
  let c1_i32_76 : BitVec 32 := 1#32
  let arg6 : BitVec 32 := Scf.iv c0_i32_74 c1_i32_76 k0_t3
  let v176 : BitVec 32 := Scalar.muli c2_i32_102 arg6
  let c512_i32_103 : BitVec 32 := 512#32
  let v177 : BitVec 32 := Scalar.muli v176 c512_i32_103
  let v178 : BitVec 32 := v177
  let v182 : Index := Scalar.indexCast v178
  let c384_107 : Index := 384#32
  ![0, v182.toNat, 384]
def k0_mult7 (i : grid0.Coords) (k0_t3 : Fin (k0_t3_loop i).trips) : BitVec 32 :=
  let c2_i32_100 : BitVec 32 := 2#32
  let c0_i32_74 : BitVec 32 := 0#32
  let c1_i32_76 : BitVec 32 := 1#32
  let arg6 : BitVec 32 := Scf.iv c0_i32_74 c1_i32_76 k0_t3
  let v174 : BitVec 32 := Scalar.muli c2_i32_100 arg6
  let c1_i32_101 : BitVec 32 := 1#32
  let v175 : BitVec 32 := Scalar.addi v174 c1_i32_101
  let c512_i32_128 : BitVec 32 := 512#32
  let v258 : BitVec 32 := Scalar.muli v175 c512_i32_128
  v258
def k0_off13 (i : grid0.Coords) (k0_t3 : Fin (k0_t3_loop i).trips) : Fin 3 → Nat :=
  let c0_129 : Index := 0#32
  let c2_i32_100 : BitVec 32 := 2#32
  let c0_i32_74 : BitVec 32 := 0#32
  let c1_i32_76 : BitVec 32 := 1#32
  let arg6 : BitVec 32 := Scf.iv c0_i32_74 c1_i32_76 k0_t3
  let v174 : BitVec 32 := Scalar.muli c2_i32_100 arg6
  let c1_i32_101 : BitVec 32 := 1#32
  let v175 : BitVec 32 := Scalar.addi v174 c1_i32_101
  let c512_i32_128 : BitVec 32 := 512#32
  let v258 : BitVec 32 := Scalar.muli v175 c512_i32_128
  let v259 : BitVec 32 := v258
  let v260 : Index := Scalar.indexCast v259
  let c128_130 : Index := 128#32
  ![0, v260.toNat, 128]
def k0_off14 (i : grid0.Coords) (k0_t3 : Fin (k0_t3_loop i).trips) : Fin 3 → Nat :=
  let c0_131 : Index := 0#32
  let c2_i32_100 : BitVec 32 := 2#32
  let c0_i32_74 : BitVec 32 := 0#32
  let c1_i32_76 : BitVec 32 := 1#32
  let arg6 : BitVec 32 := Scf.iv c0_i32_74 c1_i32_76 k0_t3
  let v174 : BitVec 32 := Scalar.muli c2_i32_100 arg6
  let c1_i32_101 : BitVec 32 := 1#32
  let v175 : BitVec 32 := Scalar.addi v174 c1_i32_101
  let c512_i32_128 : BitVec 32 := 512#32
  let v258 : BitVec 32 := Scalar.muli v175 c512_i32_128
  let v259 : BitVec 32 := v258
  let v263 : Index := Scalar.indexCast v259
  let c384_132 : Index := 384#32
  ![0, v263.toNat, 384]
@[reducible] def k0_t4_loop (i : grid0.Coords) : Scf.Loop 32 :=
  let c0_i32_74 : BitVec 32 := 0#32
  let arg1 : BitVec 32 := BitVec.ofNat 32 (i 1).val
  let c128_i32_0 : BitVec 32 := 128#32
  let v4 : BitVec 32 := Scalar.muli arg1 c128_i32_0
  let c128_i32_1 : BitVec 32 := 128#32
  let v5 : BitVec 32 := Scalar.addi v4 c128_i32_1
  let c512_i32 : BitVec 32 := 512#32
  let v6 : BitVec 32 := Scalar.addi v5 c512_i32
  let c1_i32 : BitVec 32 := 1#32
  let v7 : BitVec 32 := Scalar.subi v6 c1_i32
  let c0_i32 : BitVec 32 := 0#32
  let v9 : BitVec 1 := Scalar.cmpi .sgt v7 c0_i32
  let v10 : BitVec 32 := Scalar.extui v9
  let c0_i32_3 : BitVec 32 := 0#32
  let v11 : BitVec 1 := Scalar.cmpi .slt v7 c0_i32_3
  let v12 : BitVec 32 := Scalar.extui v11
  let v13 : BitVec 32 := Scalar.subi v10 v12
  let c512_i32_2 : BitVec 32 := 512#32
  let c0_i32_4 : BitVec 32 := 0#32
  let v14 : BitVec 1 := Scalar.cmpi .sgt c512_i32_2 c0_i32_4
  let v15 : BitVec 32 := Scalar.extui v14
  let c0_i32_5 : BitVec 32 := 0#32
  let v16 : BitVec 1 := Scalar.cmpi .slt c512_i32_2 c0_i32_5
  let v17 : BitVec 32 := Scalar.extui v16
  let v18 : BitVec 32 := Scalar.subi v15 v17
  let v19 : BitVec 1 := Scalar.cmpi .ne v13 v18
  let v20 : BitVec 32 := Scalar.remsi v7 c512_i32_2
  let c0_i32_6 : BitVec 32 := 0#32
  let v21 : BitVec 1 := Scalar.cmpi .ne v20 c0_i32_6
  let v22 : BitVec 1 := Scalar.andi v19 v21
  let v8 : BitVec 32 := Scalar.divsi v7 c512_i32_2
  let c1_i32_7 : BitVec 32 := 1#32
  let v23 : BitVec 32 := Scalar.subi v8 c1_i32_7
  let v24 : BitVec 32 := Scalar.select v22 v23 v8
  let c0_i32_68 : BitVec 32 := 0#32
  let v115 : BitVec 1 := Scalar.cmpi .sgt v24 c0_i32_68
  let v116 : BitVec 32 := Scalar.extui v115
  let c0_i32_69 : BitVec 32 := 0#32
  let v117 : BitVec 1 := Scalar.cmpi .slt v24 c0_i32_69
  let v118 : BitVec 32 := Scalar.extui v117
  let v119 : BitVec 32 := Scalar.subi v116 v118
  let c2_i32_67 : BitVec 32 := 2#32
  let c0_i32_70 : BitVec 32 := 0#32
  let v120 : BitVec 1 := Scalar.cmpi .sgt c2_i32_67 c0_i32_70
  let v121 : BitVec 32 := Scalar.extui v120
  let c0_i32_71 : BitVec 32 := 0#32
  let v122 : BitVec 1 := Scalar.cmpi .slt c2_i32_67 c0_i32_71
  let v123 : BitVec 32 := Scalar.extui v122
  let v124 : BitVec 32 := Scalar.subi v121 v123
  let v125 : BitVec 1 := Scalar.cmpi .ne v119 v124
  let v126 : BitVec 32 := Scalar.remsi v24 c2_i32_67
  let c0_i32_72 : BitVec 32 := 0#32
  let v127 : BitVec 1 := Scalar.cmpi .ne v126 c0_i32_72
  let v128 : BitVec 1 := Scalar.andi v125 v127
  let v114 : BitVec 32 := Scalar.divsi v24 c2_i32_67
  let c1_i32_73 : BitVec 32 := 1#32
  let v129 : BitVec 32 := Scalar.subi v114 c1_i32_73
  let v130 : BitVec 32 := Scalar.select v128 v129 v114
  let v131 : BitVec 32 := Scalar.subi v130 c0_i32_74
  let c1_i32_75 : BitVec 32 := 1#32
  let v133 : BitVec 32 := Scalar.divsi v131 c1_i32_75
  let v134 : BitVec 32 := Scalar.muli v133 c1_i32_75
  let v135 : BitVec 32 := Scalar.addi c0_i32_74 v134
  let v132 : BitVec 32 := Scalar.addi c0_i32_74 v131
  let c1_i32_77 : BitVec 32 := 1#32
  ⟨v135, v132, c1_i32_77⟩
def k0_mult8 (i : grid0.Coords) (k0_t4 : Fin (k0_t4_loop i).trips) : BitVec 32 :=
  let c2_i32_102 : BitVec 32 := 2#32
  let c0_i32_74 : BitVec 32 := 0#32
  let arg1 : BitVec 32 := BitVec.ofNat 32 (i 1).val
  let c128_i32_0 : BitVec 32 := 128#32
  let v4 : BitVec 32 := Scalar.muli arg1 c128_i32_0
  let c128_i32_1 : BitVec 32 := 128#32
  let v5 : BitVec 32 := Scalar.addi v4 c128_i32_1
  let c512_i32 : BitVec 32 := 512#32
  let v6 : BitVec 32 := Scalar.addi v5 c512_i32
  let c1_i32 : BitVec 32 := 1#32
  let v7 : BitVec 32 := Scalar.subi v6 c1_i32
  let c0_i32 : BitVec 32 := 0#32
  let v9 : BitVec 1 := Scalar.cmpi .sgt v7 c0_i32
  let v10 : BitVec 32 := Scalar.extui v9
  let c0_i32_3 : BitVec 32 := 0#32
  let v11 : BitVec 1 := Scalar.cmpi .slt v7 c0_i32_3
  let v12 : BitVec 32 := Scalar.extui v11
  let v13 : BitVec 32 := Scalar.subi v10 v12
  let c512_i32_2 : BitVec 32 := 512#32
  let c0_i32_4 : BitVec 32 := 0#32
  let v14 : BitVec 1 := Scalar.cmpi .sgt c512_i32_2 c0_i32_4
  let v15 : BitVec 32 := Scalar.extui v14
  let c0_i32_5 : BitVec 32 := 0#32
  let v16 : BitVec 1 := Scalar.cmpi .slt c512_i32_2 c0_i32_5
  let v17 : BitVec 32 := Scalar.extui v16
  let v18 : BitVec 32 := Scalar.subi v15 v17
  let v19 : BitVec 1 := Scalar.cmpi .ne v13 v18
  let v20 : BitVec 32 := Scalar.remsi v7 c512_i32_2
  let c0_i32_6 : BitVec 32 := 0#32
  let v21 : BitVec 1 := Scalar.cmpi .ne v20 c0_i32_6
  let v22 : BitVec 1 := Scalar.andi v19 v21
  let v8 : BitVec 32 := Scalar.divsi v7 c512_i32_2
  let c1_i32_7 : BitVec 32 := 1#32
  let v23 : BitVec 32 := Scalar.subi v8 c1_i32_7
  let v24 : BitVec 32 := Scalar.select v22 v23 v8
  let c0_i32_68 : BitVec 32 := 0#32
  let v115 : BitVec 1 := Scalar.cmpi .sgt v24 c0_i32_68
  let v116 : BitVec 32 := Scalar.extui v115
  let c0_i32_69 : BitVec 32 := 0#32
  let v117 : BitVec 1 := Scalar.cmpi .slt v24 c0_i32_69
  let v118 : BitVec 32 := Scalar.extui v117
  let v119 : BitVec 32 := Scalar.subi v116 v118
  let c2_i32_67 : BitVec 32 := 2#32
  let c0_i32_70 : BitVec 32 := 0#32
  let v120 : BitVec 1 := Scalar.cmpi .sgt c2_i32_67 c0_i32_70
  let v121 : BitVec 32 := Scalar.extui v120
  let c0_i32_71 : BitVec 32 := 0#32
  let v122 : BitVec 1 := Scalar.cmpi .slt c2_i32_67 c0_i32_71
  let v123 : BitVec 32 := Scalar.extui v122
  let v124 : BitVec 32 := Scalar.subi v121 v123
  let v125 : BitVec 1 := Scalar.cmpi .ne v119 v124
  let v126 : BitVec 32 := Scalar.remsi v24 c2_i32_67
  let c0_i32_72 : BitVec 32 := 0#32
  let v127 : BitVec 1 := Scalar.cmpi .ne v126 c0_i32_72
  let v128 : BitVec 1 := Scalar.andi v125 v127
  let v114 : BitVec 32 := Scalar.divsi v24 c2_i32_67
  let c1_i32_73 : BitVec 32 := 1#32
  let v129 : BitVec 32 := Scalar.subi v114 c1_i32_73
  let v130 : BitVec 32 := Scalar.select v128 v129 v114
  let v131 : BitVec 32 := Scalar.subi v130 c0_i32_74
  let c1_i32_75 : BitVec 32 := 1#32
  let v133 : BitVec 32 := Scalar.divsi v131 c1_i32_75
  let v134 : BitVec 32 := Scalar.muli v133 c1_i32_75
  let v135 : BitVec 32 := Scalar.addi c0_i32_74 v134
  let c1_i32_77 : BitVec 32 := 1#32
  let arg6 : BitVec 32 := Scf.iv v135 c1_i32_77 k0_t4
  let v176 : BitVec 32 := Scalar.muli c2_i32_102 arg6
  let c512_i32_103 : BitVec 32 := 512#32
  let v177 : BitVec 32 := Scalar.muli v176 c512_i32_103
  v177
def k0_off15 (i : grid0.Coords) (k0_t4 : Fin (k0_t4_loop i).trips) : Fin 3 → Nat :=
  let c0_104 : Index := 0#32
  let c2_i32_102 : BitVec 32 := 2#32
  let c0_i32_74 : BitVec 32 := 0#32
  let arg1 : BitVec 32 := BitVec.ofNat 32 (i 1).val
  let c128_i32_0 : BitVec 32 := 128#32
  let v4 : BitVec 32 := Scalar.muli arg1 c128_i32_0
  let c128_i32_1 : BitVec 32 := 128#32
  let v5 : BitVec 32 := Scalar.addi v4 c128_i32_1
  let c512_i32 : BitVec 32 := 512#32
  let v6 : BitVec 32 := Scalar.addi v5 c512_i32
  let c1_i32 : BitVec 32 := 1#32
  let v7 : BitVec 32 := Scalar.subi v6 c1_i32
  let c0_i32 : BitVec 32 := 0#32
  let v9 : BitVec 1 := Scalar.cmpi .sgt v7 c0_i32
  let v10 : BitVec 32 := Scalar.extui v9
  let c0_i32_3 : BitVec 32 := 0#32
  let v11 : BitVec 1 := Scalar.cmpi .slt v7 c0_i32_3
  let v12 : BitVec 32 := Scalar.extui v11
  let v13 : BitVec 32 := Scalar.subi v10 v12
  let c512_i32_2 : BitVec 32 := 512#32
  let c0_i32_4 : BitVec 32 := 0#32
  let v14 : BitVec 1 := Scalar.cmpi .sgt c512_i32_2 c0_i32_4
  let v15 : BitVec 32 := Scalar.extui v14
  let c0_i32_5 : BitVec 32 := 0#32
  let v16 : BitVec 1 := Scalar.cmpi .slt c512_i32_2 c0_i32_5
  let v17 : BitVec 32 := Scalar.extui v16
  let v18 : BitVec 32 := Scalar.subi v15 v17
  let v19 : BitVec 1 := Scalar.cmpi .ne v13 v18
  let v20 : BitVec 32 := Scalar.remsi v7 c512_i32_2
  let c0_i32_6 : BitVec 32 := 0#32
  let v21 : BitVec 1 := Scalar.cmpi .ne v20 c0_i32_6
  let v22 : BitVec 1 := Scalar.andi v19 v21
  let v8 : BitVec 32 := Scalar.divsi v7 c512_i32_2
  let c1_i32_7 : BitVec 32 := 1#32
  let v23 : BitVec 32 := Scalar.subi v8 c1_i32_7
  let v24 : BitVec 32 := Scalar.select v22 v23 v8
  let c0_i32_68 : BitVec 32 := 0#32
  let v115 : BitVec 1 := Scalar.cmpi .sgt v24 c0_i32_68
  let v116 : BitVec 32 := Scalar.extui v115
  let c0_i32_69 : BitVec 32 := 0#32
  let v117 : BitVec 1 := Scalar.cmpi .slt v24 c0_i32_69
  let v118 : BitVec 32 := Scalar.extui v117
  let v119 : BitVec 32 := Scalar.subi v116 v118
  let c2_i32_67 : BitVec 32 := 2#32
  let c0_i32_70 : BitVec 32 := 0#32
  let v120 : BitVec 1 := Scalar.cmpi .sgt c2_i32_67 c0_i32_70
  let v121 : BitVec 32 := Scalar.extui v120
  let c0_i32_71 : BitVec 32 := 0#32
  let v122 : BitVec 1 := Scalar.cmpi .slt c2_i32_67 c0_i32_71
  let v123 : BitVec 32 := Scalar.extui v122
  let v124 : BitVec 32 := Scalar.subi v121 v123
  let v125 : BitVec 1 := Scalar.cmpi .ne v119 v124
  let v126 : BitVec 32 := Scalar.remsi v24 c2_i32_67
  let c0_i32_72 : BitVec 32 := 0#32
  let v127 : BitVec 1 := Scalar.cmpi .ne v126 c0_i32_72
  let v128 : BitVec 1 := Scalar.andi v125 v127
  let v114 : BitVec 32 := Scalar.divsi v24 c2_i32_67
  let c1_i32_73 : BitVec 32 := 1#32
  let v129 : BitVec 32 := Scalar.subi v114 c1_i32_73
  let v130 : BitVec 32 := Scalar.select v128 v129 v114
  let v131 : BitVec 32 := Scalar.subi v130 c0_i32_74
  let c1_i32_75 : BitVec 32 := 1#32
  let v133 : BitVec 32 := Scalar.divsi v131 c1_i32_75
  let v134 : BitVec 32 := Scalar.muli v133 c1_i32_75
  let v135 : BitVec 32 := Scalar.addi c0_i32_74 v134
  let c1_i32_77 : BitVec 32 := 1#32
  let arg6 : BitVec 32 := Scf.iv v135 c1_i32_77 k0_t4
  let v176 : BitVec 32 := Scalar.muli c2_i32_102 arg6
  let c512_i32_103 : BitVec 32 := 512#32
  let v177 : BitVec 32 := Scalar.muli v176 c512_i32_103
  let v178 : BitVec 32 := v177
  let v179 : Index := Scalar.indexCast v178
  let c128_105 : Index := 128#32
  ![0, v179.toNat, 128]
def k0_off16 (i : grid0.Coords) (k0_t4 : Fin (k0_t4_loop i).trips) : Fin 3 → Nat :=
  let c0_106 : Index := 0#32
  let c2_i32_102 : BitVec 32 := 2#32
  let c0_i32_74 : BitVec 32 := 0#32
  let arg1 : BitVec 32 := BitVec.ofNat 32 (i 1).val
  let c128_i32_0 : BitVec 32 := 128#32
  let v4 : BitVec 32 := Scalar.muli arg1 c128_i32_0
  let c128_i32_1 : BitVec 32 := 128#32
  let v5 : BitVec 32 := Scalar.addi v4 c128_i32_1
  let c512_i32 : BitVec 32 := 512#32
  let v6 : BitVec 32 := Scalar.addi v5 c512_i32
  let c1_i32 : BitVec 32 := 1#32
  let v7 : BitVec 32 := Scalar.subi v6 c1_i32
  let c0_i32 : BitVec 32 := 0#32
  let v9 : BitVec 1 := Scalar.cmpi .sgt v7 c0_i32
  let v10 : BitVec 32 := Scalar.extui v9
  let c0_i32_3 : BitVec 32 := 0#32
  let v11 : BitVec 1 := Scalar.cmpi .slt v7 c0_i32_3
  let v12 : BitVec 32 := Scalar.extui v11
  let v13 : BitVec 32 := Scalar.subi v10 v12
  let c512_i32_2 : BitVec 32 := 512#32
  let c0_i32_4 : BitVec 32 := 0#32
  let v14 : BitVec 1 := Scalar.cmpi .sgt c512_i32_2 c0_i32_4
  let v15 : BitVec 32 := Scalar.extui v14
  let c0_i32_5 : BitVec 32 := 0#32
  let v16 : BitVec 1 := Scalar.cmpi .slt c512_i32_2 c0_i32_5
  let v17 : BitVec 32 := Scalar.extui v16
  let v18 : BitVec 32 := Scalar.subi v15 v17
  let v19 : BitVec 1 := Scalar.cmpi .ne v13 v18
  let v20 : BitVec 32 := Scalar.remsi v7 c512_i32_2
  let c0_i32_6 : BitVec 32 := 0#32
  let v21 : BitVec 1 := Scalar.cmpi .ne v20 c0_i32_6
  let v22 : BitVec 1 := Scalar.andi v19 v21
  let v8 : BitVec 32 := Scalar.divsi v7 c512_i32_2
  let c1_i32_7 : BitVec 32 := 1#32
  let v23 : BitVec 32 := Scalar.subi v8 c1_i32_7
  let v24 : BitVec 32 := Scalar.select v22 v23 v8
  let c0_i32_68 : BitVec 32 := 0#32
  let v115 : BitVec 1 := Scalar.cmpi .sgt v24 c0_i32_68
  let v116 : BitVec 32 := Scalar.extui v115
  let c0_i32_69 : BitVec 32 := 0#32
  let v117 : BitVec 1 := Scalar.cmpi .slt v24 c0_i32_69
  let v118 : BitVec 32 := Scalar.extui v117
  let v119 : BitVec 32 := Scalar.subi v116 v118
  let c2_i32_67 : BitVec 32 := 2#32
  let c0_i32_70 : BitVec 32 := 0#32
  let v120 : BitVec 1 := Scalar.cmpi .sgt c2_i32_67 c0_i32_70
  let v121 : BitVec 32 := Scalar.extui v120
  let c0_i32_71 : BitVec 32 := 0#32
  let v122 : BitVec 1 := Scalar.cmpi .slt c2_i32_67 c0_i32_71
  let v123 : BitVec 32 := Scalar.extui v122
  let v124 : BitVec 32 := Scalar.subi v121 v123
  let v125 : BitVec 1 := Scalar.cmpi .ne v119 v124
  let v126 : BitVec 32 := Scalar.remsi v24 c2_i32_67
  let c0_i32_72 : BitVec 32 := 0#32
  let v127 : BitVec 1 := Scalar.cmpi .ne v126 c0_i32_72
  let v128 : BitVec 1 := Scalar.andi v125 v127
  let v114 : BitVec 32 := Scalar.divsi v24 c2_i32_67
  let c1_i32_73 : BitVec 32 := 1#32
  let v129 : BitVec 32 := Scalar.subi v114 c1_i32_73
  let v130 : BitVec 32 := Scalar.select v128 v129 v114
  let v131 : BitVec 32 := Scalar.subi v130 c0_i32_74
  let c1_i32_75 : BitVec 32 := 1#32
  let v133 : BitVec 32 := Scalar.divsi v131 c1_i32_75
  let v134 : BitVec 32 := Scalar.muli v133 c1_i32_75
  let v135 : BitVec 32 := Scalar.addi c0_i32_74 v134
  let c1_i32_77 : BitVec 32 := 1#32
  let arg6 : BitVec 32 := Scf.iv v135 c1_i32_77 k0_t4
  let v176 : BitVec 32 := Scalar.muli c2_i32_102 arg6
  let c512_i32_103 : BitVec 32 := 512#32
  let v177 : BitVec 32 := Scalar.muli v176 c512_i32_103
  let v178 : BitVec 32 := v177
  let v182 : Index := Scalar.indexCast v178
  let c384_107 : Index := 384#32
  ![0, v182.toNat, 384]
def k0_mult9 (i : grid0.Coords) (k0_t4 : Fin (k0_t4_loop i).trips) : BitVec 32 :=
  let c2_i32_100 : BitVec 32 := 2#32
  let c0_i32_74 : BitVec 32 := 0#32
  let arg1 : BitVec 32 := BitVec.ofNat 32 (i 1).val
  let c128_i32_0 : BitVec 32 := 128#32
  let v4 : BitVec 32 := Scalar.muli arg1 c128_i32_0
  let c128_i32_1 : BitVec 32 := 128#32
  let v5 : BitVec 32 := Scalar.addi v4 c128_i32_1
  let c512_i32 : BitVec 32 := 512#32
  let v6 : BitVec 32 := Scalar.addi v5 c512_i32
  let c1_i32 : BitVec 32 := 1#32
  let v7 : BitVec 32 := Scalar.subi v6 c1_i32
  let c0_i32 : BitVec 32 := 0#32
  let v9 : BitVec 1 := Scalar.cmpi .sgt v7 c0_i32
  let v10 : BitVec 32 := Scalar.extui v9
  let c0_i32_3 : BitVec 32 := 0#32
  let v11 : BitVec 1 := Scalar.cmpi .slt v7 c0_i32_3
  let v12 : BitVec 32 := Scalar.extui v11
  let v13 : BitVec 32 := Scalar.subi v10 v12
  let c512_i32_2 : BitVec 32 := 512#32
  let c0_i32_4 : BitVec 32 := 0#32
  let v14 : BitVec 1 := Scalar.cmpi .sgt c512_i32_2 c0_i32_4
  let v15 : BitVec 32 := Scalar.extui v14
  let c0_i32_5 : BitVec 32 := 0#32
  let v16 : BitVec 1 := Scalar.cmpi .slt c512_i32_2 c0_i32_5
  let v17 : BitVec 32 := Scalar.extui v16
  let v18 : BitVec 32 := Scalar.subi v15 v17
  let v19 : BitVec 1 := Scalar.cmpi .ne v13 v18
  let v20 : BitVec 32 := Scalar.remsi v7 c512_i32_2
  let c0_i32_6 : BitVec 32 := 0#32
  let v21 : BitVec 1 := Scalar.cmpi .ne v20 c0_i32_6
  let v22 : BitVec 1 := Scalar.andi v19 v21
  let v8 : BitVec 32 := Scalar.divsi v7 c512_i32_2
  let c1_i32_7 : BitVec 32 := 1#32
  let v23 : BitVec 32 := Scalar.subi v8 c1_i32_7
  let v24 : BitVec 32 := Scalar.select v22 v23 v8
  let c0_i32_68 : BitVec 32 := 0#32
  let v115 : BitVec 1 := Scalar.cmpi .sgt v24 c0_i32_68
  let v116 : BitVec 32 := Scalar.extui v115
  let c0_i32_69 : BitVec 32 := 0#32
  let v117 : BitVec 1 := Scalar.cmpi .slt v24 c0_i32_69
  let v118 : BitVec 32 := Scalar.extui v117
  let v119 : BitVec 32 := Scalar.subi v116 v118
  let c2_i32_67 : BitVec 32 := 2#32
  let c0_i32_70 : BitVec 32 := 0#32
  let v120 : BitVec 1 := Scalar.cmpi .sgt c2_i32_67 c0_i32_70
  let v121 : BitVec 32 := Scalar.extui v120
  let c0_i32_71 : BitVec 32 := 0#32
  let v122 : BitVec 1 := Scalar.cmpi .slt c2_i32_67 c0_i32_71
  let v123 : BitVec 32 := Scalar.extui v122
  let v124 : BitVec 32 := Scalar.subi v121 v123
  let v125 : BitVec 1 := Scalar.cmpi .ne v119 v124
  let v126 : BitVec 32 := Scalar.remsi v24 c2_i32_67
  let c0_i32_72 : BitVec 32 := 0#32
  let v127 : BitVec 1 := Scalar.cmpi .ne v126 c0_i32_72
  let v128 : BitVec 1 := Scalar.andi v125 v127
  let v114 : BitVec 32 := Scalar.divsi v24 c2_i32_67
  let c1_i32_73 : BitVec 32 := 1#32
  let v129 : BitVec 32 := Scalar.subi v114 c1_i32_73
  let v130 : BitVec 32 := Scalar.select v128 v129 v114
  let v131 : BitVec 32 := Scalar.subi v130 c0_i32_74
  let c1_i32_75 : BitVec 32 := 1#32
  let v133 : BitVec 32 := Scalar.divsi v131 c1_i32_75
  let v134 : BitVec 32 := Scalar.muli v133 c1_i32_75
  let v135 : BitVec 32 := Scalar.addi c0_i32_74 v134
  let c1_i32_77 : BitVec 32 := 1#32
  let arg6 : BitVec 32 := Scf.iv v135 c1_i32_77 k0_t4
  let v174 : BitVec 32 := Scalar.muli c2_i32_100 arg6
  let c1_i32_101 : BitVec 32 := 1#32
  let v175 : BitVec 32 := Scalar.addi v174 c1_i32_101
  let c512_i32_128 : BitVec 32 := 512#32
  let v258 : BitVec 32 := Scalar.muli v175 c512_i32_128
  v258
def k0_off17 (i : grid0.Coords) (k0_t4 : Fin (k0_t4_loop i).trips) : Fin 3 → Nat :=
  let c0_129 : Index := 0#32
  let c2_i32_100 : BitVec 32 := 2#32
  let c0_i32_74 : BitVec 32 := 0#32
  let arg1 : BitVec 32 := BitVec.ofNat 32 (i 1).val
  let c128_i32_0 : BitVec 32 := 128#32
  let v4 : BitVec 32 := Scalar.muli arg1 c128_i32_0
  let c128_i32_1 : BitVec 32 := 128#32
  let v5 : BitVec 32 := Scalar.addi v4 c128_i32_1
  let c512_i32 : BitVec 32 := 512#32
  let v6 : BitVec 32 := Scalar.addi v5 c512_i32
  let c1_i32 : BitVec 32 := 1#32
  let v7 : BitVec 32 := Scalar.subi v6 c1_i32
  let c0_i32 : BitVec 32 := 0#32
  let v9 : BitVec 1 := Scalar.cmpi .sgt v7 c0_i32
  let v10 : BitVec 32 := Scalar.extui v9
  let c0_i32_3 : BitVec 32 := 0#32
  let v11 : BitVec 1 := Scalar.cmpi .slt v7 c0_i32_3
  let v12 : BitVec 32 := Scalar.extui v11
  let v13 : BitVec 32 := Scalar.subi v10 v12
  let c512_i32_2 : BitVec 32 := 512#32
  let c0_i32_4 : BitVec 32 := 0#32
  let v14 : BitVec 1 := Scalar.cmpi .sgt c512_i32_2 c0_i32_4
  let v15 : BitVec 32 := Scalar.extui v14
  let c0_i32_5 : BitVec 32 := 0#32
  let v16 : BitVec 1 := Scalar.cmpi .slt c512_i32_2 c0_i32_5
  let v17 : BitVec 32 := Scalar.extui v16
  let v18 : BitVec 32 := Scalar.subi v15 v17
  let v19 : BitVec 1 := Scalar.cmpi .ne v13 v18
  let v20 : BitVec 32 := Scalar.remsi v7 c512_i32_2
  let c0_i32_6 : BitVec 32 := 0#32
  let v21 : BitVec 1 := Scalar.cmpi .ne v20 c0_i32_6
  let v22 : BitVec 1 := Scalar.andi v19 v21
  let v8 : BitVec 32 := Scalar.divsi v7 c512_i32_2
  let c1_i32_7 : BitVec 32 := 1#32
  let v23 : BitVec 32 := Scalar.subi v8 c1_i32_7
  let v24 : BitVec 32 := Scalar.select v22 v23 v8
  let c0_i32_68 : BitVec 32 := 0#32
  let v115 : BitVec 1 := Scalar.cmpi .sgt v24 c0_i32_68
  let v116 : BitVec 32 := Scalar.extui v115
  let c0_i32_69 : BitVec 32 := 0#32
  let v117 : BitVec 1 := Scalar.cmpi .slt v24 c0_i32_69
  let v118 : BitVec 32 := Scalar.extui v117
  let v119 : BitVec 32 := Scalar.subi v116 v118
  let c2_i32_67 : BitVec 32 := 2#32
  let c0_i32_70 : BitVec 32 := 0#32
  let v120 : BitVec 1 := Scalar.cmpi .sgt c2_i32_67 c0_i32_70
  let v121 : BitVec 32 := Scalar.extui v120
  let c0_i32_71 : BitVec 32 := 0#32
  let v122 : BitVec 1 := Scalar.cmpi .slt c2_i32_67 c0_i32_71
  let v123 : BitVec 32 := Scalar.extui v122
  let v124 : BitVec 32 := Scalar.subi v121 v123
  let v125 : BitVec 1 := Scalar.cmpi .ne v119 v124
  let v126 : BitVec 32 := Scalar.remsi v24 c2_i32_67
  let c0_i32_72 : BitVec 32 := 0#32
  let v127 : BitVec 1 := Scalar.cmpi .ne v126 c0_i32_72
  let v128 : BitVec 1 := Scalar.andi v125 v127
  let v114 : BitVec 32 := Scalar.divsi v24 c2_i32_67
  let c1_i32_73 : BitVec 32 := 1#32
  let v129 : BitVec 32 := Scalar.subi v114 c1_i32_73
  let v130 : BitVec 32 := Scalar.select v128 v129 v114
  let v131 : BitVec 32 := Scalar.subi v130 c0_i32_74
  let c1_i32_75 : BitVec 32 := 1#32
  let v133 : BitVec 32 := Scalar.divsi v131 c1_i32_75
  let v134 : BitVec 32 := Scalar.muli v133 c1_i32_75
  let v135 : BitVec 32 := Scalar.addi c0_i32_74 v134
  let c1_i32_77 : BitVec 32 := 1#32
  let arg6 : BitVec 32 := Scf.iv v135 c1_i32_77 k0_t4
  let v174 : BitVec 32 := Scalar.muli c2_i32_100 arg6
  let c1_i32_101 : BitVec 32 := 1#32
  let v175 : BitVec 32 := Scalar.addi v174 c1_i32_101
  let c512_i32_128 : BitVec 32 := 512#32
  let v258 : BitVec 32 := Scalar.muli v175 c512_i32_128
  let v259 : BitVec 32 := v258
  let v260 : Index := Scalar.indexCast v259
  let c128_130 : Index := 128#32
  ![0, v260.toNat, 128]
def k0_off18 (i : grid0.Coords) (k0_t4 : Fin (k0_t4_loop i).trips) : Fin 3 → Nat :=
  let c0_131 : Index := 0#32
  let c2_i32_100 : BitVec 32 := 2#32
  let c0_i32_74 : BitVec 32 := 0#32
  let arg1 : BitVec 32 := BitVec.ofNat 32 (i 1).val
  let c128_i32_0 : BitVec 32 := 128#32
  let v4 : BitVec 32 := Scalar.muli arg1 c128_i32_0
  let c128_i32_1 : BitVec 32 := 128#32
  let v5 : BitVec 32 := Scalar.addi v4 c128_i32_1
  let c512_i32 : BitVec 32 := 512#32
  let v6 : BitVec 32 := Scalar.addi v5 c512_i32
  let c1_i32 : BitVec 32 := 1#32
  let v7 : BitVec 32 := Scalar.subi v6 c1_i32
  let c0_i32 : BitVec 32 := 0#32
  let v9 : BitVec 1 := Scalar.cmpi .sgt v7 c0_i32
  let v10 : BitVec 32 := Scalar.extui v9
  let c0_i32_3 : BitVec 32 := 0#32
  let v11 : BitVec 1 := Scalar.cmpi .slt v7 c0_i32_3
  let v12 : BitVec 32 := Scalar.extui v11
  let v13 : BitVec 32 := Scalar.subi v10 v12
  let c512_i32_2 : BitVec 32 := 512#32
  let c0_i32_4 : BitVec 32 := 0#32
  let v14 : BitVec 1 := Scalar.cmpi .sgt c512_i32_2 c0_i32_4
  let v15 : BitVec 32 := Scalar.extui v14
  let c0_i32_5 : BitVec 32 := 0#32
  let v16 : BitVec 1 := Scalar.cmpi .slt c512_i32_2 c0_i32_5
  let v17 : BitVec 32 := Scalar.extui v16
  let v18 : BitVec 32 := Scalar.subi v15 v17
  let v19 : BitVec 1 := Scalar.cmpi .ne v13 v18
  let v20 : BitVec 32 := Scalar.remsi v7 c512_i32_2
  let c0_i32_6 : BitVec 32 := 0#32
  let v21 : BitVec 1 := Scalar.cmpi .ne v20 c0_i32_6
  let v22 : BitVec 1 := Scalar.andi v19 v21
  let v8 : BitVec 32 := Scalar.divsi v7 c512_i32_2
  let c1_i32_7 : BitVec 32 := 1#32
  let v23 : BitVec 32 := Scalar.subi v8 c1_i32_7
  let v24 : BitVec 32 := Scalar.select v22 v23 v8
  let c0_i32_68 : BitVec 32 := 0#32
  let v115 : BitVec 1 := Scalar.cmpi .sgt v24 c0_i32_68
  let v116 : BitVec 32 := Scalar.extui v115
  let c0_i32_69 : BitVec 32 := 0#32
  let v117 : BitVec 1 := Scalar.cmpi .slt v24 c0_i32_69
  let v118 : BitVec 32 := Scalar.extui v117
  let v119 : BitVec 32 := Scalar.subi v116 v118
  let c2_i32_67 : BitVec 32 := 2#32
  let c0_i32_70 : BitVec 32 := 0#32
  let v120 : BitVec 1 := Scalar.cmpi .sgt c2_i32_67 c0_i32_70
  let v121 : BitVec 32 := Scalar.extui v120
  let c0_i32_71 : BitVec 32 := 0#32
  let v122 : BitVec 1 := Scalar.cmpi .slt c2_i32_67 c0_i32_71
  let v123 : BitVec 32 := Scalar.extui v122
  let v124 : BitVec 32 := Scalar.subi v121 v123
  let v125 : BitVec 1 := Scalar.cmpi .ne v119 v124
  let v126 : BitVec 32 := Scalar.remsi v24 c2_i32_67
  let c0_i32_72 : BitVec 32 := 0#32
  let v127 : BitVec 1 := Scalar.cmpi .ne v126 c0_i32_72
  let v128 : BitVec 1 := Scalar.andi v125 v127
  let v114 : BitVec 32 := Scalar.divsi v24 c2_i32_67
  let c1_i32_73 : BitVec 32 := 1#32
  let v129 : BitVec 32 := Scalar.subi v114 c1_i32_73
  let v130 : BitVec 32 := Scalar.select v128 v129 v114
  let v131 : BitVec 32 := Scalar.subi v130 c0_i32_74
  let c1_i32_75 : BitVec 32 := 1#32
  let v133 : BitVec 32 := Scalar.divsi v131 c1_i32_75
  let v134 : BitVec 32 := Scalar.muli v133 c1_i32_75
  let v135 : BitVec 32 := Scalar.addi c0_i32_74 v134
  let c1_i32_77 : BitVec 32 := 1#32
  let arg6 : BitVec 32 := Scf.iv v135 c1_i32_77 k0_t4
  let v174 : BitVec 32 := Scalar.muli c2_i32_100 arg6
  let c1_i32_101 : BitVec 32 := 1#32
  let v175 : BitVec 32 := Scalar.addi v174 c1_i32_101
  let c512_i32_128 : BitVec 32 := 512#32
  let v258 : BitVec 32 := Scalar.muli v175 c512_i32_128
  let v259 : BitVec 32 := v258
  let v263 : Index := Scalar.indexCast v259
  let c384_132 : Index := 384#32
  ![0, v263.toNat, 384]
def k0_cond2 (i : grid0.Coords) : BitVec 1 :=
  let arg1 : BitVec 32 := BitVec.ofNat 32 (i 1).val
  let c128_i32_0 : BitVec 32 := 128#32
  let v4 : BitVec 32 := Scalar.muli arg1 c128_i32_0
  let c128_i32_1 : BitVec 32 := 128#32
  let v5 : BitVec 32 := Scalar.addi v4 c128_i32_1
  let c512_i32 : BitVec 32 := 512#32
  let v6 : BitVec 32 := Scalar.addi v5 c512_i32
  let c1_i32 : BitVec 32 := 1#32
  let v7 : BitVec 32 := Scalar.subi v6 c1_i32
  let c0_i32 : BitVec 32 := 0#32
  let v9 : BitVec 1 := Scalar.cmpi .sgt v7 c0_i32
  let v10 : BitVec 32 := Scalar.extui v9
  let c0_i32_3 : BitVec 32 := 0#32
  let v11 : BitVec 1 := Scalar.cmpi .slt v7 c0_i32_3
  let v12 : BitVec 32 := Scalar.extui v11
  let v13 : BitVec 32 := Scalar.subi v10 v12
  let c512_i32_2 : BitVec 32 := 512#32
  let c0_i32_4 : BitVec 32 := 0#32
  let v14 : BitVec 1 := Scalar.cmpi .sgt c512_i32_2 c0_i32_4
  let v15 : BitVec 32 := Scalar.extui v14
  let c0_i32_5 : BitVec 32 := 0#32
  let v16 : BitVec 1 := Scalar.cmpi .slt c512_i32_2 c0_i32_5
  let v17 : BitVec 32 := Scalar.extui v16
  let v18 : BitVec 32 := Scalar.subi v15 v17
  let v19 : BitVec 1 := Scalar.cmpi .ne v13 v18
  let v20 : BitVec 32 := Scalar.remsi v7 c512_i32_2
  let c0_i32_6 : BitVec 32 := 0#32
  let v21 : BitVec 1 := Scalar.cmpi .ne v20 c0_i32_6
  let v22 : BitVec 1 := Scalar.andi v19 v21
  let v8 : BitVec 32 := Scalar.divsi v7 c512_i32_2
  let c1_i32_7 : BitVec 32 := 1#32
  let v23 : BitVec 32 := Scalar.subi v8 c1_i32_7
  let v24 : BitVec 32 := Scalar.select v22 v23 v8
  let c2_i32_78 : BitVec 32 := 2#32
  let c0_i32_79 : BitVec 32 := 0#32
  let v138 : BitVec 1 := Scalar.cmpi .eq c2_i32_78 c0_i32_79
  let c1_i32_80 : BitVec 32 := 1#32
  let v139 : BitVec 32 := Scalar.select v138 c1_i32_80 c2_i32_78
  let v140 : BitVec 32 := Scalar.remsi v24 v139
  let c0_i32_82 : BitVec 32 := 0#32
  let v142 : BitVec 1 := Scalar.cmpi .slt v140 c0_i32_82
  let c0_i32_83 : BitVec 32 := 0#32
  let v143 : BitVec 1 := Scalar.cmpi .slt v139 c0_i32_83
  let v144 : BitVec 1 := Scalar.xori v142 v143
  let c0_i32_81 : BitVec 32 := 0#32
  let v141 : BitVec 1 := Scalar.cmpi .ne v140 c0_i32_81
  let v145 : BitVec 1 := Scalar.andi v144 v141
  let v146 : BitVec 32 := Scalar.addi v140 v139
  let v147 : BitVec 32 := Scalar.select v145 v146 v140
  let c1_i32_84 : BitVec 32 := 1#32
  let v148 : BitVec 1 := Scalar.cmpi .eq v147 c1_i32_84
  let v149 : BitVec 32 := Scalar.extui v148
  let c0_i32_85 : BitVec 32 := 0#32
  let v150 : BitVec 1 := Scalar.cmpi .ne v149 c0_i32_85
  v150

def k0_mult10 (i : grid0.Coords) : BitVec 32 :=
  let arg1 : BitVec 32 := BitVec.ofNat 32 (i 1).val
  let c128_i32_0 : BitVec 32 := 128#32
  let v4 : BitVec 32 := Scalar.muli arg1 c128_i32_0
  let c128_i32_1 : BitVec 32 := 128#32
  let v5 : BitVec 32 := Scalar.addi v4 c128_i32_1
  let c512_i32 : BitVec 32 := 512#32
  let v6 : BitVec 32 := Scalar.addi v5 c512_i32
  let c1_i32 : BitVec 32 := 1#32
  let v7 : BitVec 32 := Scalar.subi v6 c1_i32
  let c0_i32 : BitVec 32 := 0#32
  let v9 : BitVec 1 := Scalar.cmpi .sgt v7 c0_i32
  let v10 : BitVec 32 := Scalar.extui v9
  let c0_i32_3 : BitVec 32 := 0#32
  let v11 : BitVec 1 := Scalar.cmpi .slt v7 c0_i32_3
  let v12 : BitVec 32 := Scalar.extui v11
  let v13 : BitVec 32 := Scalar.subi v10 v12
  let c512_i32_2 : BitVec 32 := 512#32
  let c0_i32_4 : BitVec 32 := 0#32
  let v14 : BitVec 1 := Scalar.cmpi .sgt c512_i32_2 c0_i32_4
  let v15 : BitVec 32 := Scalar.extui v14
  let c0_i32_5 : BitVec 32 := 0#32
  let v16 : BitVec 1 := Scalar.cmpi .slt c512_i32_2 c0_i32_5
  let v17 : BitVec 32 := Scalar.extui v16
  let v18 : BitVec 32 := Scalar.subi v15 v17
  let v19 : BitVec 1 := Scalar.cmpi .ne v13 v18
  let v20 : BitVec 32 := Scalar.remsi v7 c512_i32_2
  let c0_i32_6 : BitVec 32 := 0#32
  let v21 : BitVec 1 := Scalar.cmpi .ne v20 c0_i32_6
  let v22 : BitVec 1 := Scalar.andi v19 v21
  let v8 : BitVec 32 := Scalar.divsi v7 c512_i32_2
  let c1_i32_7 : BitVec 32 := 1#32
  let v23 : BitVec 32 := Scalar.subi v8 c1_i32_7
  let v24 : BitVec 32 := Scalar.select v22 v23 v8
  let c1_i32_100 : BitVec 32 := 1#32
  let v174 : BitVec 32 := Scalar.subi v24 c1_i32_100
  let c512_i32_101 : BitVec 32 := 512#32
  let v175 : BitVec 32 := Scalar.muli v174 c512_i32_101
  v175
def k0_off19 (i : grid0.Coords) : Fin 3 → Nat :=
  let c0_102 : Index := 0#32
  let arg1 : BitVec 32 := BitVec.ofNat 32 (i 1).val
  let c128_i32_0 : BitVec 32 := 128#32
  let v4 : BitVec 32 := Scalar.muli arg1 c128_i32_0
  let c128_i32_1 : BitVec 32 := 128#32
  let v5 : BitVec 32 := Scalar.addi v4 c128_i32_1
  let c512_i32 : BitVec 32 := 512#32
  let v6 : BitVec 32 := Scalar.addi v5 c512_i32
  let c1_i32 : BitVec 32 := 1#32
  let v7 : BitVec 32 := Scalar.subi v6 c1_i32
  let c0_i32 : BitVec 32 := 0#32
  let v9 : BitVec 1 := Scalar.cmpi .sgt v7 c0_i32
  let v10 : BitVec 32 := Scalar.extui v9
  let c0_i32_3 : BitVec 32 := 0#32
  let v11 : BitVec 1 := Scalar.cmpi .slt v7 c0_i32_3
  let v12 : BitVec 32 := Scalar.extui v11
  let v13 : BitVec 32 := Scalar.subi v10 v12
  let c512_i32_2 : BitVec 32 := 512#32
  let c0_i32_4 : BitVec 32 := 0#32
  let v14 : BitVec 1 := Scalar.cmpi .sgt c512_i32_2 c0_i32_4
  let v15 : BitVec 32 := Scalar.extui v14
  let c0_i32_5 : BitVec 32 := 0#32
  let v16 : BitVec 1 := Scalar.cmpi .slt c512_i32_2 c0_i32_5
  let v17 : BitVec 32 := Scalar.extui v16
  let v18 : BitVec 32 := Scalar.subi v15 v17
  let v19 : BitVec 1 := Scalar.cmpi .ne v13 v18
  let v20 : BitVec 32 := Scalar.remsi v7 c512_i32_2
  let c0_i32_6 : BitVec 32 := 0#32
  let v21 : BitVec 1 := Scalar.cmpi .ne v20 c0_i32_6
  let v22 : BitVec 1 := Scalar.andi v19 v21
  let v8 : BitVec 32 := Scalar.divsi v7 c512_i32_2
  let c1_i32_7 : BitVec 32 := 1#32
  let v23 : BitVec 32 := Scalar.subi v8 c1_i32_7
  let v24 : BitVec 32 := Scalar.select v22 v23 v8
  let c1_i32_100 : BitVec 32 := 1#32
  let v174 : BitVec 32 := Scalar.subi v24 c1_i32_100
  let c512_i32_101 : BitVec 32 := 512#32
  let v175 : BitVec 32 := Scalar.muli v174 c512_i32_101
  let v176 : BitVec 32 := v175
  let v177 : Index := Scalar.indexCast v176
  let c128_103 : Index := 128#32
  ![0, v177.toNat, 128]
def k0_off20 (i : grid0.Coords) : Fin 3 → Nat :=
  let c0_104 : Index := 0#32
  let arg1 : BitVec 32 := BitVec.ofNat 32 (i 1).val
  let c128_i32_0 : BitVec 32 := 128#32
  let v4 : BitVec 32 := Scalar.muli arg1 c128_i32_0
  let c128_i32_1 : BitVec 32 := 128#32
  let v5 : BitVec 32 := Scalar.addi v4 c128_i32_1
  let c512_i32 : BitVec 32 := 512#32
  let v6 : BitVec 32 := Scalar.addi v5 c512_i32
  let c1_i32 : BitVec 32 := 1#32
  let v7 : BitVec 32 := Scalar.subi v6 c1_i32
  let c0_i32 : BitVec 32 := 0#32
  let v9 : BitVec 1 := Scalar.cmpi .sgt v7 c0_i32
  let v10 : BitVec 32 := Scalar.extui v9
  let c0_i32_3 : BitVec 32 := 0#32
  let v11 : BitVec 1 := Scalar.cmpi .slt v7 c0_i32_3
  let v12 : BitVec 32 := Scalar.extui v11
  let v13 : BitVec 32 := Scalar.subi v10 v12
  let c512_i32_2 : BitVec 32 := 512#32
  let c0_i32_4 : BitVec 32 := 0#32
  let v14 : BitVec 1 := Scalar.cmpi .sgt c512_i32_2 c0_i32_4
  let v15 : BitVec 32 := Scalar.extui v14
  let c0_i32_5 : BitVec 32 := 0#32
  let v16 : BitVec 1 := Scalar.cmpi .slt c512_i32_2 c0_i32_5
  let v17 : BitVec 32 := Scalar.extui v16
  let v18 : BitVec 32 := Scalar.subi v15 v17
  let v19 : BitVec 1 := Scalar.cmpi .ne v13 v18
  let v20 : BitVec 32 := Scalar.remsi v7 c512_i32_2
  let c0_i32_6 : BitVec 32 := 0#32
  let v21 : BitVec 1 := Scalar.cmpi .ne v20 c0_i32_6
  let v22 : BitVec 1 := Scalar.andi v19 v21
  let v8 : BitVec 32 := Scalar.divsi v7 c512_i32_2
  let c1_i32_7 : BitVec 32 := 1#32
  let v23 : BitVec 32 := Scalar.subi v8 c1_i32_7
  let v24 : BitVec 32 := Scalar.select v22 v23 v8
  let c1_i32_100 : BitVec 32 := 1#32
  let v174 : BitVec 32 := Scalar.subi v24 c1_i32_100
  let c512_i32_101 : BitVec 32 := 512#32
  let v175 : BitVec 32 := Scalar.muli v174 c512_i32_101
  let v176 : BitVec 32 := v175
  let v180 : Index := Scalar.indexCast v176
  let c384_105 : Index := 384#32
  ![0, v180.toNat, 384]
def cc0_transform_0 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  ![arg0.toNat, arg1.toNat, c1_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x128x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x128x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x8192x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x128x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== KernelIdeal.lean ====
variable {F : FTy → Type} [FloatOps F] [Named F]
def κ : String → Option EReal := fun
  | "scale_log2e" => some (((Real.sqrt 128)⁻¹ * (Real.log 2)⁻¹ : ℝ) : EReal)
  | _ => none
-- ==== ReferenceIdeal.lean ====
abbrev S2x8192x2048 : Shape := ⟨3, ![2, 8192, 2048]⟩
abbrev S2x8192x256 : Shape := ⟨3, ![2, 8192, 256]⟩
abbrev S2x8192x1024 : Shape := ⟨3, ![2, 8192, 1024]⟩
abbrev S_ : Shape := ⟨0, ![]⟩
abbrev S2x8192x2x4x128 : Shape := ⟨5, ![2, 8192, 2, 4, 128]⟩
abbrev S2x8192x4x2x128 : Shape := ⟨5, ![2, 8192, 4, 2, 128]⟩
abbrev S2x8192x1x2x128 : Shape := ⟨5, ![2, 8192, 1, 2, 128]⟩
abbrev S2x8192x2x128 : Shape := ⟨4, ![2, 8192, 2, 128]⟩
abbrev S2x8192x2x128x64 : Shape := ⟨5, ![2, 8192, 2, 128, 64]⟩
abbrev S2x8192x2x8192 : Shape := ⟨4, ![2, 8192, 2, 8192]⟩
abbrev S8192 : Shape := ⟨1, ![8192]⟩
abbrev S1x8192 : Shape := ⟨2, ![1, 8192]⟩
abbrev S8192x1 : Shape := ⟨2, ![8192, 1]⟩
abbrev S8192x8192 : Shape := ⟨2, ![8192, 8192]⟩
abbrev S2x2x8192x8192x4 : Shape := ⟨5, ![2, 2, 8192, 8192, 4]⟩
abbrev S2x8192x2x4x8192 : Shape := ⟨5, ![2, 8192, 2, 4, 8192]⟩
abbrev S1x8192x1x8192 : Shape := ⟨4, ![1, 8192, 1, 8192]⟩
abbrev S2x8192x2x1x8192 : Shape := ⟨5, ![2, 8192, 2, 1, 8192]⟩
abbrev S2x8192x2x4 : Shape := ⟨4, ![2, 8192, 2, 4]⟩
abbrev S2x8192x2x4x1 : Shape := ⟨5, ![2, 8192, 2, 4, 1]⟩
abbrev S2x2x128x8192x4 : Shape := ⟨5, ![2, 2, 128, 8192, 4]⟩

abbrev nBuf : Space → Nat
  | .hbm => 70
  | .vmem => 0
  | .smem => 0
  | _ => 0

abbrev bufTy : (tb : Table) → Fin (tcTables nBuf tb) → BufTy
  | .hbm, ⟨0, _⟩ => ⟨S2x8192x2048, .bf16⟩
  | .hbm, ⟨1, _⟩ => ⟨S2x8192x256, .bf16⟩
  | .hbm, ⟨2, _⟩ => ⟨S2x8192x1024, .bf16⟩
  | .hbm, ⟨3, _⟩ => ⟨S_, .f32⟩
  | .hbm, ⟨4, _⟩ => ⟨S_, .f32⟩
  | .hbm, ⟨5, _⟩ => ⟨S2x8192x2048, .f32⟩
  | .hbm, ⟨6, _⟩ => ⟨S2x8192x1024, .f32⟩
  | .hbm, ⟨7, _⟩ => ⟨S2x8192x2x4x128, .f32⟩
  | .hbm, ⟨8, _⟩ => ⟨S2x8192x1024, .f32⟩
  | .hbm, ⟨9, _⟩ => ⟨S2x8192x4x2x128, .f32⟩
  | .hbm, ⟨10, _⟩ => ⟨S2x8192x1x2x128, .f32⟩
  | .hbm, ⟨11, _⟩ => ⟨S2x8192x2x128, .f32⟩
  | .hbm, ⟨12, _⟩ => ⟨S2x8192x1x2x128, .f32⟩
  | .hbm, ⟨13, _⟩ => ⟨S2x8192x2x128, .f32⟩
  | .hbm, ⟨14, _⟩ => ⟨S2x8192x256, .f32⟩
  | .hbm, ⟨15, _⟩ => ⟨S2x8192x2x128, .f32⟩
  | .hbm, ⟨16, _⟩ => ⟨S_, .f32⟩
  | .hbm, ⟨17, _⟩ => ⟨S2x8192x2x128, .f32⟩
  | .hbm, ⟨18, _⟩ => ⟨S2x8192x2x128, .i1⟩
  | .hbm, ⟨19, _⟩ => ⟨S2x8192x2x128x64, .i1⟩
  | .hbm, ⟨20, _⟩ => ⟨S2x8192x2x8192, .i1⟩
  | .hbm, ⟨21, _⟩ => ⟨S8192, .i32⟩
  | .hbm, ⟨22, _⟩ => ⟨S1x8192, .i32⟩
  | .hbm, ⟨23, _⟩ => ⟨S8192x1, .i32⟩
  | .hbm, ⟨24, _⟩ => ⟨S8192x8192, .i32⟩
  | .hbm, ⟨25, _⟩ => ⟨S8192x8192, .i32⟩
  | .hbm, ⟨26, _⟩ => ⟨S8192x8192, .i1⟩
  | .hbm, ⟨27, _⟩ => ⟨S2x2x8192x8192x4, .f32⟩
  | .hbm, ⟨28, _⟩ => ⟨S2x8192x2x4x8192, .f32⟩
  | .hbm, ⟨29, _⟩ => ⟨S2x8192x2x4x8192, .f32⟩
  | .hbm, ⟨30, _⟩ => ⟨S2x8192x2x4x8192, .f32⟩
  | .hbm, ⟨31, _⟩ => ⟨S1x8192x1x8192, .i1⟩
  | .hbm, ⟨32, _⟩ => ⟨S2x8192x2x8192, .i1⟩
  | .hbm, ⟨33, _⟩ => ⟨S2x8192x2x8192, .i1⟩
  | .hbm, ⟨34, _⟩ => ⟨S2x8192x2x1x8192, .i1⟩
  | .hbm, ⟨35, _⟩ => ⟨S_, .f32⟩
  | .hbm, ⟨36, _⟩ => ⟨S_, .f32⟩
  | .hbm, ⟨37, _⟩ => ⟨S2x8192x2x4x8192, .i1⟩
  | .hbm, ⟨38, _⟩ => ⟨S2x8192x2x4x8192, .f32⟩
  | .hbm, ⟨39, _⟩ => ⟨S2x8192x2x4x8192, .f32⟩
  | .hbm, ⟨40, _⟩ => ⟨S_, .f32⟩
  | .hbm, ⟨41, _⟩ => ⟨S2x8192x2x4, .f32⟩
  | .hbm, ⟨42, _⟩ => ⟨S2x8192x2x4x1, .f32⟩
  | .hbm, ⟨43, _⟩ => ⟨S2x8192x2x4x1, .f32⟩
  | .hbm, ⟨44, _⟩ => ⟨S_, .f32⟩
  | .hbm, ⟨45, _⟩ => ⟨S2x8192x2x4x1, .f32⟩
  | .hbm, ⟨46, _⟩ => ⟨S2x8192x2x4x1, .i1⟩
  | .hbm, ⟨47, _⟩ => ⟨S_, .f32⟩
  | .hbm, ⟨48, _⟩ => ⟨S_, .f32⟩
  | .hbm, ⟨49, _⟩ => ⟨S2x8192x2x4x1, .f32⟩
  | .hbm, ⟨50, _⟩ => ⟨S2x8192x2x4x1, .f32⟩
  | .hbm, ⟨51, _⟩ => ⟨S2x8192x2x4x8192, .f32⟩
  | .hbm, ⟨52, _⟩ => ⟨S2x8192x2x4x8192, .f32⟩
  | .hbm, ⟨53, _⟩ => ⟨S2x8192x2x4x8192, .f32⟩
  | .hbm, ⟨54, _⟩ => ⟨S_, .f32⟩
  | .hbm, ⟨55, _⟩ => ⟨S_, .f32⟩
  | .hbm, ⟨56, _⟩ => ⟨S2x8192x2x4x8192, .i1⟩
  | .hbm, ⟨57, _⟩ => ⟨S2x8192x2x4x8192, .f32⟩
  | .hbm, ⟨58, _⟩ => ⟨S2x8192x2x4x8192, .f32⟩
  | .hbm, ⟨59, _⟩ => ⟨S_, .f32⟩
  | .hbm, ⟨60, _⟩ => ⟨S2x8192x2x4, .f32⟩
  | .hbm, ⟨61, _⟩ => ⟨S2x8192x2x4x1, .f32⟩
  | .hbm, ⟨62, _⟩ => ⟨S_, .f32⟩
  | .hbm, ⟨63, _⟩ => ⟨S2x8192x2x4x1, .f32⟩
  | .hbm, ⟨64, _⟩ => ⟨S2x8192x2x4x1, .f32⟩
  | .hbm, ⟨65, _⟩ => ⟨S2x8192x2x4x8192, .f32⟩
  | .hbm, ⟨66, _⟩ => ⟨S2x8192x2x4x8192, .f32⟩
  | .hbm, ⟨67, _⟩ => ⟨S2x2x128x8192x4, .f32⟩
  | .hbm, ⟨68, _⟩ => ⟨S2x8192x2x4x128, .f32⟩
  | .hbm, ⟨69, _⟩ => ⟨S2x8192x1024, .f32⟩
  | _, _ => ⟨S2x8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_cst_0 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩
abbrev main_v28 : Ref sig .tc := ⟨.hbm, 33, rfl⟩
abbrev main_v29 : Ref sig .tc := ⟨.hbm, 34, rfl⟩
abbrev main_cst_1 : Ref sig .tc := ⟨.hbm, 35, rfl⟩
abbrev main_call0_v0 : Ref sig .tc := ⟨.hbm, 36, rfl⟩
abbrev main_call0_v1 : Ref sig .tc := ⟨.hbm, 37, rfl⟩
abbrev main_call0_v2 : Ref sig .tc := ⟨.hbm, 38, rfl⟩
abbrev main_v30 : Ref sig .tc := ⟨.hbm, 39, rfl⟩
abbrev main_cst_2 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_cst_3 : Ref sig .tc := ⟨.hbm, 44, rfl⟩
abbrev main_v34 : Ref sig .tc := ⟨.hbm, 45, rfl⟩
abbrev main_v35 : Ref sig .tc := ⟨.hbm, 46, rfl⟩
abbrev main_cst_4 : Ref sig .tc := ⟨.hbm, 47, rfl⟩
abbrev main_call1_v0 : Ref sig .tc := ⟨.hbm, 48, rfl⟩
abbrev main_call1_v1 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_cst_5 : Ref sig .tc := ⟨.hbm, 54, rfl⟩
abbrev main_call2_v0 : Ref sig .tc := ⟨.hbm, 55, rfl⟩
abbrev main_call2_v1 : Ref sig .tc := ⟨.hbm, 56, rfl⟩
abbrev main_call2_v2 : Ref sig .tc := ⟨.hbm, 57, rfl⟩
abbrev main_v40 : Ref sig .tc := ⟨.hbm, 58, rfl⟩
abbrev main_cst_6 : Ref sig .tc := ⟨.hbm, 59, rfl⟩
abbrev main_v41 : Ref sig .tc := ⟨.hbm, 60, rfl⟩
abbrev main_v42 : Ref sig .tc := ⟨.hbm, 61, rfl⟩
abbrev main_cst_7 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩

abbrev nD : Nat := 1
abbrev τ : Topo := Topo.v7x

variable {F : FTy → Type} [FloatOps F]
-- ==== Merge.lean ====
abbrev S16384x2048 : Shape := ⟨2, ![16384, 2048]⟩
abbrev S16384x1024 : Shape := ⟨2, ![16384, 1024]⟩
abbrev S16384x128 : Shape := ⟨2, ![16384, 128]⟩
abbrev S2048x7704 : Shape := ⟨2, ![2048, 7704]⟩
abbrev S1024x2048 : Shape := ⟨2, ![1024, 2048]⟩
abbrev S2048x2048 : Shape := ⟨2, ![2048, 2048]⟩
abbrev S2048x4096 : Shape := ⟨2, ![2048, 4096]⟩
abbrev S16384x4096 : Shape := ⟨2, ![16384, 4096]⟩
abbrev S512x2048 : Shape := ⟨2, ![512, 2048]⟩
abbrev S2048x512 : Shape := ⟨2, ![2048, 512]⟩
abbrev S512x512 : Shape := ⟨2, ![512, 512]⟩
abbrev S512x1024 : Shape := ⟨2, ![512, 1024]⟩
abbrev S512x128 : Shape := ⟨2, ![512, 128]⟩
abbrev S512x1 : Shape := ⟨2, ![512, 1]⟩

abbrev nBuf : Space → Nat
  | .hbm => 19
  | .vmem => 31
  | .smem => 0
  | _ => 0

abbrev bufTy : (tb : Table) → Fin (tcTables nBuf tb) → BufTy
  | .hbm, ⟨0, _⟩ => ⟨S16384x2048, .f32⟩
  | .hbm, ⟨1, _⟩ => ⟨S16384x2048, .bf16⟩
  | .hbm, ⟨2, _⟩ => ⟨S16384x1024, .f32⟩
  | .hbm, ⟨3, _⟩ => ⟨S16384x1024, .f32⟩
  | .hbm, ⟨4, _⟩ => ⟨S16384x1024, .f32⟩
  | .hbm, ⟨5, _⟩ => ⟨S16384x128, .f32⟩
  | .hbm, ⟨6, _⟩ => ⟨S16384x1024, .f32⟩
  | .hbm, ⟨7, _⟩ => ⟨S2048x7704, .f32⟩
  | .hbm, ⟨8, _⟩ => ⟨S1024x2048, .f32⟩
  | .hbm, ⟨9, _⟩ => ⟨S1024x2048, .f32⟩
  | .hbm, ⟨10, _⟩ => ⟨S2048x2048, .f32⟩
  | .hbm, ⟨11, _⟩ => ⟨S2048x7704, .bf16⟩
  | .hbm, ⟨12, _⟩ => ⟨S2048x4096, .bf16⟩
  | .hbm, ⟨13, _⟩ => ⟨S16384x4096, .bf16⟩
  | .hbm, ⟨14, _⟩ => ⟨S1024x2048, .bf16⟩
  | .hbm, ⟨15, _⟩ => ⟨S1024x2048, .bf16⟩
  | .hbm, ⟨16, _⟩ => ⟨S16384x2048, .bf16⟩
  | .hbm, ⟨17, _⟩ => ⟨S2048x2048, .bf16⟩
  | .hbm, ⟨18, _⟩ => ⟨S16384x2048, .f32⟩
  | .local _ .vmem, ⟨0, _⟩ => ⟨S512x2048, .bf16⟩
  | .local _ .vmem, ⟨1, _⟩ => ⟨S512x2048, .bf16⟩
  | .local _ .vmem, ⟨2, _⟩ => ⟨S2048x2048, .bf16⟩
  | .local _ .vmem, ⟨3, _⟩ => ⟨S2048x2048, .bf16⟩
  | .local _ .vmem, ⟨4, _⟩ => ⟨S512x2048, .bf16⟩
  | .local _ .vmem, ⟨5, _⟩ => ⟨S512x2048, .bf16⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | .local _ .vmem, ⟨10, _⟩ => ⟨S512x1024, .f32⟩
  | .local _ .vmem, ⟨11, _⟩ => ⟨S512x1024, .f32⟩
  | .local _ .vmem, ⟨12, _⟩ => ⟨S512x128, .f32⟩
  | .local _ .vmem, ⟨13, _⟩ => ⟨S512x128, .f32⟩
  | .local _ .vmem, ⟨14, _⟩ => ⟨S512x1024, .f32⟩
  | .local _ .vmem, ⟨15, _⟩ => ⟨S512x1024, .f32⟩
  | .local _ .vmem, ⟨16, _⟩ => ⟨S512x2048, .bf16⟩
  | .local _ .vmem, ⟨17, _⟩ => ⟨S512x2048, .bf16⟩
  | .local _ .vmem, ⟨18, _⟩ => ⟨S512x2048, .bf16⟩
  | .local _ .vmem, ⟨19, _⟩ => ⟨S512x2048, .bf16⟩
  | .local _ .vmem, ⟨20, _⟩ => ⟨S1024x2048, .bf16⟩
  | .local _ .vmem, ⟨21, _⟩ => ⟨S1024x2048, .bf16⟩
  | .local _ .vmem, ⟨22, _⟩ => ⟨S512x2048, .bf16⟩
  | .local _ .vmem, ⟨23, _⟩ => ⟨S512x2048, .bf16⟩
  | .local _ .vmem, ⟨24, _⟩ => ⟨S512x2048, .f32⟩
  | .local _ .vmem, ⟨25, _⟩ => ⟨S512x2048, .f32⟩
  | .local _ .vmem, ⟨26, _⟩ => ⟨S512x2048, .bf16⟩
  | .local _ .vmem, ⟨27, _⟩ => ⟨S512x2048, .bf16⟩
  | .local _ .vmem, ⟨28, _⟩ => ⟨S2048x2048, .bf16⟩
  | .local _ .vmem, ⟨29, _⟩ => ⟨S512x2048, .f32⟩
  | .local _ .vmem, ⟨30, _⟩ => ⟨S512x2048, .f32⟩
  | _, _ => ⟨S16384x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | _, _ => false

abbrev semScoped : Fin 0 → Bool
  | ⟨_, h⟩ => absurd h (Nat.not_lt_zero _)

abbrev dmaSemScoped : Fin 31 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | _ => false

abbrev sig : RefSig :=
  ofTc nBuf bufTy 0 31 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg2_1 : Ref sig .tc := ⟨.vmem, 11, rfl⟩
abbrev cc1_stg3_0 : Ref sig .tc := ⟨.vmem, 12, rfl⟩
abbrev cc1_stg3_1 : Ref sig .tc := ⟨.vmem, 13, rfl⟩
abbrev cc1_stg4_0 : Ref sig .tc := ⟨.vmem, 14, rfl⟩
abbrev cc1_stg4_1 : Ref sig .tc := ⟨.vmem, 15, rfl⟩
abbrev cc1_stg5_0 : Ref sig .tc := ⟨.vmem, 16, rfl⟩
abbrev cc1_stg5_1 : Ref sig .tc := ⟨.vmem, 17, rfl⟩
abbrev cc1_stg6_0 : Ref sig .tc := ⟨.vmem, 18, rfl⟩
abbrev cc1_stg6_1 : Ref sig .tc := ⟨.vmem, 19, rfl⟩
abbrev cc1_stg7_0 : Ref sig .tc := ⟨.vmem, 20, rfl⟩
abbrev cc1_stg8_0 : Ref sig .tc := ⟨.vmem, 21, rfl⟩
abbrev cc1_stg9_0 : Ref sig .tc := ⟨.vmem, 22, rfl⟩
abbrev cc1_stg9_1 : Ref sig .tc := ⟨.vmem, 23, rfl⟩
abbrev cc2_stg0_0 : Ref sig .tc := ⟨.vmem, 24, rfl⟩
abbrev cc2_stg0_1 : Ref sig .tc := ⟨.vmem, 25, rfl⟩
abbrev cc2_stg1_0 : Ref sig .tc := ⟨.vmem, 26, rfl⟩
abbrev cc2_stg1_1 : Ref sig .tc := ⟨.vmem, 27, rfl⟩
abbrev cc2_stg2_0 : Ref sig .tc := ⟨.vmem, 28, rfl⟩
abbrev cc2_stg3_0 : Ref sig .tc := ⟨.vmem, 29, rfl⟩
abbrev cc2_stg3_1 : Ref sig .tc := ⟨.vmem, 30, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11
abbrev cc1_sem3_0 : DmaSem sig := 12
abbrev cc1_sem3_1 : DmaSem sig := 13
abbrev cc1_sem4_0 : DmaSem sig := 14
abbrev cc1_sem4_1 : DmaSem sig := 15
abbrev cc1_sem5_0 : DmaSem sig := 16
abbrev cc1_sem5_1 : DmaSem sig := 17
abbrev cc1_sem6_0 : DmaSem sig := 18
abbrev cc1_sem6_1 : DmaSem sig := 19
abbrev cc1_sem7_0 : DmaSem sig := 20
abbrev cc1_sem8_0 : DmaSem sig := 21
abbrev cc1_sem9_0 : DmaSem sig := 22
abbrev cc1_sem9_1 : DmaSem sig := 23
abbrev cc2_sem0_0 : DmaSem sig := 24
abbrev cc2_sem0_1 : DmaSem sig := 25
abbrev cc2_sem1_0 : DmaSem sig := 26
abbrev cc2_sem1_1 : DmaSem sig := 27
abbrev cc2_sem2_0 : DmaSem sig := 28
abbrev cc2_sem3_0 : DmaSem sig := 29
abbrev cc2_sem3_1 : DmaSem sig := 30

abbrev nD : Nat := 1
abbrev τ : Topo := Topo.v7x

variable {F : FTy → Type} [FloatOps F]

abbrev grid0 : Pipeline.Grid := ⟨2, ![2, 32], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S2048x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S512x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev grid1 : Pipeline.Grid := ⟨1, ![32], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_6 (i : grid1.Coords) : Fin 2 → Nat :=
  let arg0 : BitVec 32 := BitVec.ofNat 32 (i 0).val
  let c1_i32 : BitVec 32 := 1#32
  let c0_i32 : BitVec 32 := 0#32
  ![arg0.toNat, c1_i32.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_9 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S512x1024 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S512x1024 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S512x1024 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S512x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S512x1024 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 2 → Memref sig .tc .vmem S512x2048 .bf16 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev stage1_6 : Fin 2 → Memref sig .tc .vmem S512x2048 .bf16 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev stage1_7 : Fin 1 → Memref sig .tc .vmem S1024x2048 .bf16 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 1 → Memref sig .tc .vmem S1024x2048 .bf16 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false]

abbrev stage1_9 : Fin 2 → Memref sig .tc .vmem S512x2048 .bf16 := fun | 0 => Memref.whole cc1_stg9_0 | 1 => Memref.whole cc1_stg9_1 | ⟨_ + 2, h⟩ => absurd h (Nat.not_lt.2 (Nat.le_add_left _ _))
abbrev sem1_9 : Fin 2 → DmaSem sig := fun | 0 => cc1_sem9_0 | 1 => cc1_sem9_1 | ⟨_ + 2, h⟩ => absurd h (Nat.not_lt.2 (Nat.le_add_left _ _))
abbrev reads1_9 : Fin grid1.rank → Bool := ![true]

abbrev grid2 : Pipeline.Grid := ⟨1, ![32], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S512x2048 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S512x2048 .bf16 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S2048x2048 .bf16 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S512x2048 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]
-- ==== MergeRefIdeal.lean ====
abbrev S16384x2048 : Shape := ⟨2, ![16384, 2048]⟩
abbrev S16384x1024 : Shape := ⟨2, ![16384, 1024]⟩
abbrev S16384x128 : Shape := ⟨2, ![16384, 128]⟩
abbrev S2048x7704 : Shape := ⟨2, ![2048, 7704]⟩
abbrev S1024x2048 : Shape := ⟨2, ![1024, 2048]⟩
abbrev S2048x2048 : Shape := ⟨2, ![2048, 2048]⟩
abbrev S16384x7704 : Shape := ⟨2, ![16384, 7704]⟩
abbrev S16384x24 : Shape := ⟨2, ![16384, 24]⟩
abbrev S16384x3x8 : Shape := ⟨3, ![16384, 3, 8]⟩
abbrev S16384x8x128 : Shape := ⟨3, ![16384, 8, 128]⟩
abbrev S16384x1x8 : Shape := ⟨3, ![16384, 1, 8]⟩
abbrev S16384x8 : Shape := ⟨2, ![16384, 8]⟩
abbrev S16384x8x1 : Shape := ⟨3, ![16384, 8, 1]⟩
abbrev S_ : Shape := ⟨0, ![]⟩

abbrev nBuf : Space → Nat
  | .hbm => 61
  | .vmem => 0
  | .smem => 0
  | _ => 0

abbrev bufTy : (tb : Table) → Fin (tcTables nBuf tb) → BufTy
  | .hbm, ⟨0, _⟩ => ⟨S16384x2048, .f32⟩
  | .hbm, ⟨1, _⟩ => ⟨S16384x2048, .bf16⟩
  | .hbm, ⟨2, _⟩ => ⟨S16384x1024, .f32⟩
  | .hbm, ⟨3, _⟩ => ⟨S16384x1024, .f32⟩
  | .hbm, ⟨4, _⟩ => ⟨S16384x1024, .f32⟩
  | .hbm, ⟨5, _⟩ => ⟨S16384x128, .f32⟩
  | .hbm, ⟨6, _⟩ => ⟨S16384x1024, .f32⟩
  | .hbm, ⟨7, _⟩ => ⟨S2048x7704, .f32⟩
  | .hbm, ⟨8, _⟩ => ⟨S1024x2048, .f32⟩
  | .hbm, ⟨9, _⟩ => ⟨S1024x2048, .f32⟩
  | .hbm, ⟨10, _⟩ => ⟨S2048x2048, .f32⟩
  | .hbm, ⟨11, _⟩ => ⟨S16384x2048, .f32⟩
  | .hbm, ⟨12, _⟩ => ⟨S16384x7704, .f32⟩
  | .hbm, ⟨13, _⟩ => ⟨S16384x2048, .f32⟩
  | .hbm, ⟨14, _⟩ => ⟨S16384x2048, .f32⟩
  | .hbm, ⟨15, _⟩ => ⟨S16384x24, .f32⟩
  | .hbm, ⟨16, _⟩ => ⟨S16384x3x8, .f32⟩
  | .hbm, ⟨17, _⟩ => ⟨S16384x8x128, .f32⟩
  | .hbm, ⟨18, _⟩ => ⟨S16384x8x128, .f32⟩
  | .hbm, ⟨19, _⟩ => ⟨S16384x8x128, .f32⟩
  | .hbm, ⟨20, _⟩ => ⟨S16384x1x8, .f32⟩
  | .hbm, ⟨21, _⟩ => ⟨S16384x8, .f32⟩
  | .hbm, ⟨22, _⟩ => ⟨S16384x8x1, .f32⟩
  | .hbm, ⟨23, _⟩ => ⟨S16384x8x128, .f32⟩
  | .hbm, ⟨24, _⟩ => ⟨S16384x8x128, .f32⟩
  | .hbm, ⟨25, _⟩ => ⟨S16384x1x8, .f32⟩
  | .hbm, ⟨26, _⟩ => ⟨S16384x8, .f32⟩
  | .hbm, ⟨27, _⟩ => ⟨S16384x8x1, .f32⟩
  | .hbm, ⟨28, _⟩ => ⟨S16384x8x128, .f32⟩
  | .hbm, ⟨29, _⟩ => ⟨S16384x8x128, .f32⟩
  | .hbm, ⟨30, _⟩ => ⟨S16384x8x128, .f32⟩
  | .hbm, ⟨31, _⟩ => ⟨S16384x1x8, .f32⟩
  | .hbm, ⟨32, _⟩ => ⟨S16384x8, .f32⟩
  | .hbm, ⟨33, _⟩ => ⟨S16384x8x1, .f32⟩
  | .hbm, ⟨34, _⟩ => ⟨S16384x8x128, .f32⟩
  | .hbm, ⟨35, _⟩ => ⟨S16384x8x128, .f32⟩
  | .hbm, ⟨36, _⟩ => ⟨S16384x8x128, .f32⟩
  | .hbm, ⟨37, _⟩ => ⟨S16384x1024, .f32⟩
  | .hbm, ⟨38, _⟩ => ⟨S16384x2048, .f32⟩
  | .hbm, ⟨39, _⟩ => ⟨S16384x2048, .f32⟩
  | .hbm, ⟨40, _⟩ => ⟨S16384x2048, .f32⟩
  | .hbm, ⟨41, _⟩ => ⟨S16384x2048, .f32⟩
  | .hbm, ⟨42, _⟩ => ⟨S_, .f32⟩
  | .hbm, ⟨43, _⟩ => ⟨S16384x2048, .f32⟩
  | .hbm, ⟨44, _⟩ => ⟨S16384x2048, .f32⟩
  | .hbm, ⟨45, _⟩ => ⟨S_, .f32⟩
  | .hbm, ⟨46, _⟩ => ⟨S16384x2048, .f32⟩
  | .hbm, ⟨47, _⟩ => ⟨S16384x2048, .f32⟩
  | .hbm, ⟨48, _⟩ => ⟨S16384x2048, .f32⟩
  | .hbm, ⟨49, _⟩ => ⟨S16384x2048, .f32⟩
  | .hbm, ⟨50, _⟩ => ⟨S16384x2048, .f32⟩
  | .hbm, ⟨51, _⟩ => ⟨S_, .f32⟩
  | .hbm, ⟨52, _⟩ => ⟨S16384x2048, .f32⟩
  | .hbm, ⟨53, _⟩ => ⟨S16384x2048, .f32⟩
  | .hbm, ⟨54, _⟩ => ⟨S_, .f32⟩
  | .hbm, ⟨55, _⟩ => ⟨S16384x2048, .f32⟩
  | .hbm, ⟨56, _⟩ => ⟨S16384x2048, .f32⟩
  | .hbm, ⟨57, _⟩ => ⟨S16384x2048, .f32⟩
  | .hbm, ⟨58, _⟩ => ⟨S16384x2048, .f32⟩
  | .hbm, ⟨59, _⟩ => ⟨S16384x2048, .f32⟩
  | .hbm, ⟨60, _⟩ => ⟨S16384x2048, .f32⟩
  | _, _ => ⟨S16384x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_cst : Ref sig .tc := ⟨.hbm, 42, rfl⟩
abbrev main_v31 : Ref sig .tc := ⟨.hbm, 43, rfl⟩
abbrev main_v32 : Ref sig .tc := ⟨.hbm, 44, rfl⟩
abbrev main_cst_0 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_cst_1 : Ref sig .tc := ⟨.hbm, 51, rfl⟩
abbrev main_v38 : Ref sig .tc := ⟨.hbm, 52, rfl⟩
abbrev main_v39 : Ref sig .tc := ⟨.hbm, 53, rfl⟩
abbrev main_cst_2 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩

abbrev nD : Nat := 1
abbrev τ : Topo := Topo.v7x

variable {F : FTy → Type} [FloatOps F]
-- ==== Inputs.lean ====
abbrev S2x8192x2048 : Shape := ⟨3, ![2, 8192, 2048]⟩
abbrev S2048 : Shape := ⟨1, ![2048]⟩
abbrev S2048x7704 : Shape := ⟨2, ![2048, 7704]⟩
abbrev S2048x2560 : Shape := ⟨2, ![2048, 2560]⟩
abbrev S2048x24 : Shape := ⟨2, ![2048, 24]⟩
abbrev S_ : Shape := ⟨0, ![]⟩
abbrev S2048x104 : Shape := ⟨2, ![2048, 104]⟩
abbrev S2048x2688 : Shape := ⟨2, ![2048, 2688]⟩
abbrev S16384x2048 : Shape := ⟨2, ![16384, 2048]⟩
abbrev S8192 : Shape := ⟨1, ![8192]⟩
abbrev S64 : Shape := ⟨1, ![64]⟩
abbrev S8192x1 : Shape := ⟨2, ![8192, 1]⟩
abbrev S1x64 : Shape := ⟨2, ![1, 64]⟩
abbrev S8192x64 : Shape := ⟨2, ![8192, 64]⟩
abbrev S8192x128 : Shape := ⟨2, ![8192, 128]⟩
abbrev S1x8192x1x128 : Shape := ⟨4, ![1, 8192, 1, 128]⟩
abbrev S2x8192x1x128 : Shape := ⟨4, ![2, 8192, 1, 128]⟩
abbrev S16384x128 : Shape := ⟨2, ![16384, 128]⟩
abbrev S1x2048 : Shape := ⟨2, ![1, 2048]⟩
abbrev S131072x128 : Shape := ⟨2, ![131072, 128]⟩
abbrev S65536x128 : Shape := ⟨2, ![65536, 128]⟩
abbrev S16384x1024 : Shape := ⟨2, ![16384, 1024]⟩
abbrev S512x2048 : Shape := ⟨2, ![512, 2048]⟩
abbrev S512x128 : Shape := ⟨2, ![512, 128]⟩
abbrev S4096x128 : Shape := ⟨2, ![4096, 128]⟩
abbrev S2048x128 : Shape := ⟨2, ![2048, 128]⟩
abbrev S512x1024 : Shape := ⟨2, ![512, 1024]⟩
abbrev S512 : Shape := ⟨1, ![512]⟩
abbrev S512x1 : Shape := ⟨2, ![512, 1]⟩
abbrev S2048x512 : Shape := ⟨2, ![2048, 512]⟩
abbrev S512x512 : Shape := ⟨2, ![512, 512]⟩
abbrev S2048x1024 : Shape := ⟨2, ![2048, 1024]⟩
abbrev S2x8192x1024 : Shape := ⟨3, ![2, 8192, 1024]⟩
abbrev S1x2x8192x4x2x128 : Shape := ⟨6, ![1, 2, 8192, 4, 2, 128]⟩
abbrev S2x8192x2x2x128 : Shape := ⟨5, ![2, 8192, 2, 2, 128]⟩
abbrev S2x512x2x2x128 : Shape := ⟨5, ![2, 512, 2, 2, 128]⟩
abbrev S1x2x512x2x2x128 : Shape := ⟨6, ![1, 2, 512, 2, 2, 128]⟩
abbrev S2x15x1024 : Shape := ⟨3, ![2, 15, 1024]⟩
abbrev S1x2x15x1024 : Shape := ⟨4, ![1, 2, 15, 1024]⟩
abbrev S16384x24 : Shape := ⟨2, ![16384, 24]⟩

abbrev nBuf : Space → Nat
  | .hbm => 53
  | .vmem => 25
  | .smem => 0
  | _ => 0

abbrev bufTy : (tb : Table) → Fin (tcTables nBuf tb) → BufTy
  | .hbm, ⟨0, _⟩ => ⟨S2x8192x2048, .f32⟩
  | .hbm, ⟨1, _⟩ => ⟨S2048, .f32⟩
  | .hbm, ⟨2, _⟩ => ⟨S2048x7704, .f32⟩
  | .hbm, ⟨3, _⟩ => ⟨S2048x7704, .bf16⟩
  | .hbm, ⟨4, _⟩ => ⟨S2048x2560, .bf16⟩
  | .hbm, ⟨5, _⟩ => ⟨S2048x24, .bf16⟩
  | .hbm, ⟨6, _⟩ => ⟨S_, .bf16⟩
  | .hbm, ⟨7, _⟩ => ⟨S2048x104, .bf16⟩
  | .hbm, ⟨8, _⟩ => ⟨S2048x2688, .bf16⟩
  | .hbm, ⟨9, _⟩ => ⟨S16384x2048, .f32⟩
  | .hbm, ⟨10, _⟩ => ⟨S8192, .i32⟩
  | .hbm, ⟨11, _⟩ => ⟨S64, .f32⟩
  | .hbm, ⟨12, _⟩ => ⟨S64, .f32⟩
  | .hbm, ⟨13, _⟩ => ⟨S_, .f32⟩
  | .hbm, ⟨14, _⟩ => ⟨S64, .f32⟩
  | .hbm, ⟨15, _⟩ => ⟨S64, .f32⟩
  | .hbm, ⟨16, _⟩ => ⟨S_, .f32⟩
  | .hbm, ⟨17, _⟩ => ⟨S64, .f32⟩
  | .hbm, ⟨18, _⟩ => ⟨S64, .f32⟩
  | .hbm, ⟨19, _⟩ => ⟨S8192, .f32⟩
  | .hbm, ⟨20, _⟩ => ⟨S8192x1, .f32⟩
  | .hbm, ⟨21, _⟩ => ⟨S1x64, .f32⟩
  | .hbm, ⟨22, _⟩ => ⟨S8192x64, .f32⟩
  | .hbm, ⟨23, _⟩ => ⟨S8192x64, .f32⟩
  | .hbm, ⟨24, _⟩ => ⟨S8192x64, .f32⟩
  | .hbm, ⟨25, _⟩ => ⟨S8192x64, .f32⟩
  | .hbm, ⟨26, _⟩ => ⟨S8192x64, .f32⟩
  | .hbm, ⟨27, _⟩ => ⟨S8192x128, .f32⟩
  | .hbm, ⟨28, _⟩ => ⟨S8192x64, .f32⟩
  | .hbm, ⟨29, _⟩ => ⟨S8192x128, .f32⟩
  | .hbm, ⟨30, _⟩ => ⟨S1x8192x1x128, .f32⟩
  | .hbm, ⟨31, _⟩ => ⟨S2x8192x1x128, .f32⟩
  | .hbm, ⟨32, _⟩ => ⟨S16384x128, .f32⟩
  | .hbm, ⟨33, _⟩ => ⟨S1x8192x1x128, .f32⟩
  | .hbm, ⟨34, _⟩ => ⟨S2x8192x1x128, .f32⟩
  | .hbm, ⟨35, _⟩ => ⟨S16384x128, .f32⟩
  | .hbm, ⟨36, _⟩ => ⟨S1x2048, .f32⟩
  | .hbm, ⟨37, _⟩ => ⟨S16384x2048, .bf16⟩
  | .hbm, ⟨38, _⟩ => ⟨S131072x128, .f32⟩
  | .hbm, ⟨39, _⟩ => ⟨S65536x128, .f32⟩
  | .hbm, ⟨40, _⟩ => ⟨S16384x128, .f32⟩
  | .hbm, ⟨41, _⟩ => ⟨S16384x1024, .bf16⟩
  | .hbm, ⟨42, _⟩ => ⟨S16384x2048, .bf16⟩
  | .hbm, ⟨43, _⟩ => ⟨S2048x1024, .bf16⟩
  | .hbm, ⟨44, _⟩ => ⟨S16384x1024, .f32⟩
  | .hbm, ⟨45, _⟩ => ⟨S2x8192x1024, .f32⟩
  | .hbm, ⟨46, _⟩ => ⟨S1x2x8192x4x2x128, .f32⟩
  | .hbm, ⟨47, _⟩ => ⟨S2x8192x2x2x128, .f32⟩
  | .hbm, ⟨48, _⟩ => ⟨S2x512x2x2x128, .f32⟩
  | .hbm, ⟨49, _⟩ => ⟨S1x2x512x2x2x128, .f32⟩
  | .hbm, ⟨50, _⟩ => ⟨S2x15x1024, .f32⟩
  | .hbm, ⟨51, _⟩ => ⟨S1x2x15x1024, .f32⟩
  | .hbm, ⟨52, _⟩ => ⟨S16384x24, .f32⟩
  | .local _ .vmem, ⟨0, _⟩ => ⟨S512x2048, .f32⟩
  | .local _ .vmem, ⟨1, _⟩ => ⟨S512x2048, .f32⟩
  | .local _ .vmem, ⟨2, _⟩ => ⟨S1x2048, .f32⟩
  | .local _ .vmem, ⟨3, _⟩ => ⟨S2048x2688, .bf16⟩
  | .local _ .vmem, ⟨4, _⟩ => ⟨S512x128, .f32⟩
  | .local _ .vmem, ⟨5, _⟩ => ⟨S512x128, .f32⟩
  | .local _ .vmem, ⟨6, _⟩ => ⟨S512x128, .f32⟩
  | .local _ .vmem, ⟨7, _⟩ => ⟨S512x128, .f32⟩
  | .local _ .vmem, ⟨8, _⟩ => ⟨S512x2048, .bf16⟩
  | .local _ .vmem, ⟨9, _⟩ => ⟨S512x2048, .bf16⟩
  | .local _ .vmem, ⟨10, _⟩ => ⟨S4096x128, .f32⟩
  | .local _ .vmem, ⟨11, _⟩ => ⟨S4096x128, .f32⟩
  | .local _ .vmem, ⟨12, _⟩ => ⟨S2048x128, .f32⟩
  | .local _ .vmem, ⟨13, _⟩ => ⟨S2048x128, .f32⟩
  | .local _ .vmem, ⟨14, _⟩ => ⟨S512x128, .f32⟩
  | .local _ .vmem, ⟨15, _⟩ => ⟨S512x128, .f32⟩
  | .local _ .vmem, ⟨16, _⟩ => ⟨S512x1024, .bf16⟩
  | .local _ .vmem, ⟨17, _⟩ => ⟨S512x1024, .bf16⟩
  | .local _ .vmem, ⟨18, _⟩ => ⟨S512x2048, .bf16⟩
  | .local _ .vmem, ⟨19, _⟩ => ⟨S512x2048, .bf16⟩
  | .local _ .vmem, ⟨20, _⟩ => ⟨S512x2048, .bf16⟩
  | .local _ .vmem, ⟨21, _⟩ => ⟨S512x2048, .bf16⟩
  | .local _ .vmem, ⟨22, _⟩ => ⟨S2048x1024, .bf16⟩
  | .local _ .vmem, ⟨23, _⟩ => ⟨S512x1024, .f32⟩
  | .local _ .vmem, ⟨24, _⟩ => ⟨S512x1024, .f32⟩
  | _, _ => ⟨S2x8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | _, _ => false

abbrev semScoped : Fin 0 → Bool
  | ⟨_, h⟩ => absurd h (Nat.not_lt_zero _)

abbrev dmaSemScoped : Fin 25 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | _ => false

abbrev sig : RefSig :=
  ofTc nBuf bufTy 0 25 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_cst_0 : Ref sig .tc := ⟨.hbm, 13, rfl⟩
abbrev main_v9 : Ref sig .tc := ⟨.hbm, 14, rfl⟩
abbrev main_v10 : Ref sig .tc := ⟨.hbm, 15, rfl⟩
abbrev main_cst_1 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev main_v31_0 : Ref sig .tc := ⟨.hbm, 37, rfl⟩
abbrev main_v31_1 : Ref sig .tc := ⟨.hbm, 38, rfl⟩
abbrev main_v31_2 : Ref sig .tc := ⟨.hbm, 39, rfl⟩
abbrev main_v31_3 : Ref sig .tc := ⟨.hbm, 40, rfl⟩
abbrev main_v31_4 : Ref sig .tc := ⟨.hbm, 41, rfl⟩
abbrev main_v31_5 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_stg10_1 : Ref sig .tc := ⟨.vmem, 19, rfl⟩
abbrev cc1_stg0_0 : Ref sig .tc := ⟨.vmem, 20, rfl⟩
abbrev cc1_stg0_1 : Ref sig .tc := ⟨.vmem, 21, rfl⟩
abbrev cc1_stg1_0 : Ref sig .tc := ⟨.vmem, 22, rfl⟩
abbrev cc1_stg2_0 : Ref sig .tc := ⟨.vmem, 23, rfl⟩
abbrev cc1_stg2_1 : Ref sig .tc := ⟨.vmem, 24, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem9_1 : DmaSem sig := 17
abbrev cc0_sem10_0 : DmaSem sig := 18
abbrev cc0_sem10_1 : DmaSem sig := 19
abbrev cc1_sem0_0 : DmaSem sig := 20
abbrev cc1_sem0_1 : DmaSem sig := 21
abbrev cc1_sem1_0 : DmaSem sig := 22
abbrev cc1_sem2_0 : DmaSem sig := 23
abbrev cc1_sem2_1 : DmaSem sig := 24

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S2048x2688 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x2048 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S4096x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S2048x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x2048 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev grid1 : Pipeline.Grid := ⟨2, ![1, 32], ![false, false]⟩

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage1_0 : Fin 2 → Memref sig .tc .vmem S512x2048 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![false, true]

abbrev stage1_1 : Fin 1 → Memref sig .tc .vmem S2048x1024 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![true, false]

abbrev stage1_2 : Fin 2 → Memref sig .tc .vmem S512x1024 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]
-- ==== InputsRefIdeal.lean ====
abbrev S2x8192x2048 : Shape := ⟨3, ![2, 8192, 2048]⟩
abbrev S2048 : Shape := ⟨1, ![2048]⟩
abbrev S2048x7704 : Shape := ⟨2, ![2048, 7704]⟩
abbrev S_ : Shape := ⟨0, ![]⟩
abbrev S2x8192 : Shape := ⟨2, ![2, 8192]⟩
abbrev S2x8192x1 : Shape := ⟨3, ![2, 8192, 1]⟩
abbrev S1x1x2048 : Shape := ⟨3, ![1, 1, 2048]⟩
abbrev S2x8192x7704 : Shape := ⟨3, ![2, 8192, 7704]⟩
abbrev S2x8192x1024 : Shape := ⟨3, ![2, 8192, 1024]⟩
abbrev S2x8192x1536 : Shape := ⟨3, ![2, 8192, 1536]⟩
abbrev S2x8192x24 : Shape := ⟨3, ![2, 8192, 24]⟩
abbrev S2x8192x4096 : Shape := ⟨3, ![2, 8192, 4096]⟩
abbrev S2x8192x8x128 : Shape := ⟨4, ![2, 8192, 8, 128]⟩
abbrev S2x8192x6x2x128 : Shape := ⟨5, ![2, 8192, 6, 2, 128]⟩
abbrev S2x8192x1x2x128 : Shape := ⟨5, ![2, 8192, 1, 2, 128]⟩
abbrev S2x8192x2x128 : Shape := ⟨4, ![2, 8192, 2, 128]⟩
abbrev S64 : Shape := ⟨1, ![64]⟩
abbrev S8192 : Shape := ⟨1, ![8192]⟩
abbrev S8192x1 : Shape := ⟨2, ![8192, 1]⟩
abbrev S1x64 : Shape := ⟨2, ![1, 64]⟩
abbrev S8192x64 : Shape := ⟨2, ![8192, 64]⟩
abbrev S8192x1x64 : Shape := ⟨3, ![8192, 1, 64]⟩
abbrev S2x8192x2x64 : Shape := ⟨4, ![2, 8192, 2, 64]⟩
abbrev S1x8192x1x64 : Shape := ⟨4, ![1, 8192, 1, 64]⟩
abbrev S2x8192x4x2x128 : Shape := ⟨5, ![2, 8192, 4, 2, 128]⟩
abbrev S2x8192x2x2x128 : Shape := ⟨5, ![2, 8192, 2, 2, 128]⟩
abbrev S2x8192x8x64 : Shape := ⟨4, ![2, 8192, 8, 64]⟩
abbrev S2x8192x1x8x128 : Shape := ⟨5, ![2, 8192, 1, 8, 128]⟩
abbrev S2x8192x2x8x128 : Shape := ⟨5, ![2, 8192, 2, 8, 128]⟩
abbrev S16384x2048 : Shape := ⟨2, ![16384, 2048]⟩
abbrev S16384x1024 : Shape := ⟨2, ![16384, 1024]⟩
abbrev S16384x24 : Shape := ⟨2, ![16384, 24]⟩
abbrev S1x2x8192x4x2x128 : Shape := ⟨6, ![1, 2, 8192, 4, 2, 128]⟩
abbrev S2x512x2x2x128 : Shape := ⟨5, ![2, 512, 2, 2, 128]⟩
abbrev S1x2x512x2x2x128 : Shape := ⟨6, ![1, 2, 512, 2, 2, 128]⟩
abbrev S2x15x1024 : Shape := ⟨3, ![2, 15, 1024]⟩
abbrev S1x2x15x1024 : Shape := ⟨4, ![1, 2, 15, 1024]⟩

abbrev nBuf : Space → Nat
  | .hbm => 188
  | .vmem => 0
  | .smem => 0
  | _ => 0

abbrev hbmTy0_0 (i : Nat) : BufTy := match i % 128 with
  | 0 => ⟨S2x8192x2048, .f32⟩
  | 1 => ⟨S2048, .f32⟩
  | 2 => ⟨S2048x7704, .f32⟩
  | 3 => ⟨S2x8192x2048, .f32⟩
  | 4 => ⟨S_, .f32⟩
  | 5 => ⟨S2x8192, .f32⟩
  | 6 => ⟨S2x8192x1, .f32⟩
  | 7 => ⟨S_, .f32⟩
  | 8 => ⟨S2x8192x1, .f32⟩
  | 9 => ⟨S2x8192x1, .f32⟩
  | 10 => ⟨S_, .f32⟩
  | 11 => ⟨S2x8192x1, .f32⟩
  | 12 => ⟨S2x8192x1, .f32⟩
  | 13 => ⟨S2x8192x1, .f32⟩
  | 14 => ⟨S2x8192x2048, .f32⟩
  | 15 => ⟨S2x8192x2048, .f32⟩
  | 16 => ⟨S1x1x2048, .f32⟩
  | 17 => ⟨S2x8192x2048, .f32⟩
  | 18 => ⟨S2x8192x2048, .f32⟩
  | 19 => ⟨S2x8192x7704, .f32⟩
  | 20 => ⟨S2x8192x1024, .f32⟩
  | 21 => ⟨S2x8192x1536, .f32⟩
  | 22 => ⟨S2x8192x24, .f32⟩
  | 23 => ⟨S2x8192x1024, .f32⟩
  | 24 => ⟨S2x8192x4096, .f32⟩
  | 25 => ⟨S2x8192x8x128, .f32⟩
  | 26 => ⟨S2x8192x6x2x128, .f32⟩
  | 27 => ⟨S2x8192x1x2x128, .f32⟩
  | 28 => ⟨S2x8192x2x128, .f32⟩
  | 29 => ⟨S64, .f32⟩
  | 30 => ⟨S64, .f32⟩
  | 31 => ⟨S_, .f32⟩
  | 32 => ⟨S64, .f32⟩
  | 33 => ⟨S64, .f32⟩
  | 34 => ⟨S_, .f32⟩
  | 35 => ⟨S64, .f32⟩
  | 36 => ⟨S64, .f32⟩
  | 37 => ⟨S8192, .i32⟩
  | 38 => ⟨S8192, .f32⟩
  | 39 => ⟨S8192x1, .f32⟩
  | 40 => ⟨S1x64, .f32⟩
  | 41 => ⟨S8192x64, .f32⟩
  | 42 => ⟨S8192x64, .f32⟩
  | 43 => ⟨S8192x64, .f32⟩
  | 44 => ⟨S8192x64, .f32⟩
  | 45 => ⟨S8192x1x64, .f32⟩
  | 46 => ⟨S8192x64, .f32⟩
  | 47 => ⟨S8192x1x64, .f32⟩
  | 48 => ⟨S2x8192x2x64, .f32⟩
  | 49 => ⟨S2x8192x2x64, .f32⟩
  | 50 => ⟨S1x8192x1x64, .f32⟩
  | 51 => ⟨S2x8192x2x64, .f32⟩
  | 52 => ⟨S2x8192x2x64, .f32⟩
  | 53 => ⟨S1x8192x1x64, .f32⟩
  | 54 => ⟨S2x8192x2x64, .f32⟩
  | 55 => ⟨S2x8192x2x64, .f32⟩
  | 56 => ⟨S2x8192x2x64, .f32⟩
  | 57 => ⟨S1x8192x1x64, .f32⟩
  | 58 => ⟨S2x8192x2x64, .f32⟩
  | 59 => ⟨S2x8192x2x64, .f32⟩
  | 60 => ⟨S1x8192x1x64, .f32⟩
  | 61 => ⟨S2x8192x2x64, .f32⟩
  | 62 => ⟨S2x8192x2x64, .f32⟩
  | 63 => ⟨S2x8192x2x64, .f32⟩
  | 64 => ⟨S2x8192x2x128, .f32⟩
  | 65 => ⟨S2x8192x1x2x128, .f32⟩
  | 66 => ⟨S2x8192x2x128, .f32⟩
  | 67 => ⟨S64, .f32⟩
  | 68 => ⟨S64, .f32⟩
  | 69 => ⟨S_, .f32⟩
  | 70 => ⟨S64, .f32⟩
  | 71 => ⟨S64, .f32⟩
  | 72 => ⟨S_, .f32⟩
  | 73 => ⟨S64, .f32⟩
  | 74 => ⟨S64, .f32⟩
  | 75 => ⟨S8192, .i32⟩
  | 76 => ⟨S8192, .f32⟩
  | 77 => ⟨S8192x1, .f32⟩
  | 78 => ⟨S1x64, .f32⟩
  | 79 => ⟨S8192x64, .f32⟩
  | 80 => ⟨S8192x64, .f32⟩
  | 81 => ⟨S8192x64, .f32⟩
  | 82 => ⟨S8192x64, .f32⟩
  | 83 => ⟨S8192x1x64, .f32⟩
  | 84 => ⟨S8192x64, .f32⟩
  | 85 => ⟨S8192x1x64, .f32⟩
  | 86 => ⟨S2x8192x2x64, .f32⟩
  | 87 => ⟨S2x8192x2x64, .f32⟩
  | 88 => ⟨S1x8192x1x64, .f32⟩
  | 89 => ⟨S2x8192x2x64, .f32⟩
  | 90 => ⟨S2x8192x2x64, .f32⟩
  | 91 => ⟨S1x8192x1x64, .f32⟩
  | 92 => ⟨S2x8192x2x64, .f32⟩
  | 93 => ⟨S2x8192x2x64, .f32⟩
  | 94 => ⟨S2x8192x2x64, .f32⟩
  | 95 => ⟨S1x8192x1x64, .f32⟩
  | 96 => ⟨S2x8192x2x64, .f32⟩
  | 97 => ⟨S2x8192x2x64, .f32⟩
  | 98 => ⟨S1x8192x1x64, .f32⟩
  | 99 => ⟨S2x8192x2x64, .f32⟩
  | 100 => ⟨S2x8192x2x64, .f32⟩
  | 101 => ⟨S2x8192x2x64, .f32⟩
  | 102 => ⟨S2x8192x2x128, .f32⟩
  | 103 => ⟨S2x8192x1x2x128, .f32⟩
  | 104 => ⟨S2x8192x2x128, .f32⟩
  | 105 => ⟨S2x8192x1x2x128, .f32⟩
  | 106 => ⟨S2x8192x2x128, .f32⟩
  | 107 => ⟨S2x8192x1x2x128, .f32⟩
  | 108 => ⟨S2x8192x2x128, .f32⟩
  | 109 => ⟨S2x8192x1x2x128, .f32⟩
  | 110 => ⟨S2x8192x1x2x128, .f32⟩
  | 111 => ⟨S2x8192x1x2x128, .f32⟩
  | 112 => ⟨S2x8192x1x2x128, .f32⟩
  | 113 => ⟨S2x8192x4x2x128, .f32⟩
  | 114 => ⟨S2x8192x1x2x128, .f32⟩
  | 115 => ⟨S2x8192x2x128, .f32⟩
  | 116 => ⟨S2x8192x1x2x128, .f32⟩
  | 117 => ⟨S2x8192x1x2x128, .f32⟩
  | 118 => ⟨S2x8192x2x2x128, .f32⟩
  | 119 => ⟨S64, .f32⟩
  | 120 => ⟨S64, .f32⟩
  | 121 => ⟨S_, .f32⟩
  | 122 => ⟨S64, .f32⟩
  | 123 => ⟨S64, .f32⟩
  | 124 => ⟨S_, .f32⟩
  | 125 => ⟨S64, .f32⟩
  | 126 => ⟨S64, .f32⟩
  | 127 => ⟨S8192, .i32⟩
  | _ => ⟨S2x8192x2048, .f32⟩

abbrev hbmTy0_1 (i : Nat) : BufTy := match i % 128 with
  | 0 => ⟨S8192, .f32⟩
  | 1 => ⟨S8192x1, .f32⟩
  | 2 => ⟨S1x64, .f32⟩
  | 3 => ⟨S8192x64, .f32⟩
  | 4 => ⟨S8192x64, .f32⟩
  | 5 => ⟨S8192x64, .f32⟩
  | 6 => ⟨S8192x64, .f32⟩
  | 7 => ⟨S8192x1x64, .f32⟩
  | 8 => ⟨S8192x64, .f32⟩
  | 9 => ⟨S8192x1x64, .f32⟩
  | 10 => ⟨S2x8192x8x64, .f32⟩
  | 11 => ⟨S2x8192x8x64, .f32⟩
  | 12 => ⟨S1x8192x1x64, .f32⟩
  | 13 => ⟨S2x8192x8x64, .f32⟩
  | 14 => ⟨S2x8192x8x64, .f32⟩
  | 15 => ⟨S1x8192x1x64, .f32⟩
  | 16 => ⟨S2x8192x8x64, .f32⟩
  | 17 => ⟨S2x8192x8x64, .f32⟩
  | 18 => ⟨S2x8192x8x64, .f32⟩
  | 19 => ⟨S1x8192x1x64, .f32⟩
  | 20 => ⟨S2x8192x8x64, .f32⟩
  | 21 => ⟨S2x8192x8x64, .f32⟩
  | 22 => ⟨S1x8192x1x64, .f32⟩
  | 23 => ⟨S2x8192x8x64, .f32⟩
  | 24 => ⟨S2x8192x8x64, .f32⟩
  | 25 => ⟨S2x8192x8x64, .f32⟩
  | 26 => ⟨S2x8192x8x128, .f32⟩
  | 27 => ⟨S2x8192x1x8x128, .f32⟩
  | 28 => ⟨S2x8192x1x8x128, .f32⟩
  | 29 => ⟨S2x8192x2x8x128, .f32⟩
  | 30 => ⟨S16384x2048, .f32⟩
  | 31 => ⟨S2x8192x1x2x128, .f32⟩
  | 32 => ⟨S2x8192x2x128, .f32⟩
  | 33 => ⟨S2x8192x1x2x128, .f32⟩
  | 34 => ⟨S2x8192x2x128, .f32⟩
  | 35 => ⟨S2x8192x1x2x128, .f32⟩
  | 36 => ⟨S2x8192x1x2x128, .f32⟩
  | 37 => ⟨S2x8192x1x2x128, .f32⟩
  | 38 => ⟨S2x8192x1x2x128, .f32⟩
  | 39 => ⟨S2x8192x4x2x128, .f32⟩
  | 40 => ⟨S16384x1024, .f32⟩
  | 41 => ⟨S2x8192x24, .f32⟩
  | 42 => ⟨S2x8192x24, .f32⟩
  | 43 => ⟨S_, .f32⟩
  | 44 => ⟨S2x8192x24, .f32⟩
  | 45 => ⟨S2x8192x24, .f32⟩
  | 46 => ⟨S_, .f32⟩
  | 47 => ⟨S2x8192x24, .f32⟩
  | 48 => ⟨S2x8192x24, .f32⟩
  | 49 => ⟨S16384x24, .f32⟩
  | 50 => ⟨S1x2x8192x4x2x128, .f32⟩
  | 51 => ⟨S2x512x2x2x128, .f32⟩
  | 52 => ⟨S1x2x512x2x2x128, .f32⟩
  | 53 => ⟨S2x15x1024, .f32⟩
  | 54 => ⟨S1x2x15x1024, .f32⟩
  | 55 => ⟨S16384x2048, .bf16⟩
  | 56 => ⟨S16384x1024, .bf16⟩
  | 57 => ⟨S16384x2048, .f32⟩
  | 58 => ⟨S16384x2048, .bf16⟩
  | 59 => ⟨S16384x1024, .f32⟩
  | _ => ⟨S2x8192x2048, .f32⟩

abbrev hbmTy (i : Nat) : BufTy := match i / 128 with
  | 0 => hbmTy0_0 i
  | 1 => hbmTy0_1 i
  | _ => ⟨S2x8192x2048, .f32⟩

abbrev bufTy : (tb : Table) → Fin (tcTables nBuf tb) → BufTy
  | .hbm, ⟨i, _⟩ => hbmTy i
  | _, _ => ⟨S2x8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_cst_2 : Ref sig .tc := ⟨.hbm, 31, rfl⟩
abbrev main_v25 : Ref sig .tc := ⟨.hbm, 32, rfl⟩
abbrev main_v26 : Ref sig .tc := ⟨.hbm, 33, rfl⟩
abbrev main_cst_3 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_v35 : Ref sig .tc := ⟨.hbm, 43, rfl⟩
abbrev main_v36 : Ref sig .tc := ⟨.hbm, 44, rfl⟩
abbrev main_v37 : Ref sig .tc := ⟨.hbm, 45, rfl⟩
abbrev main_v38 : Ref sig .tc := ⟨.hbm, 46, rfl⟩
abbrev main_v39 : Ref sig .tc := ⟨.hbm, 47, rfl⟩
abbrev main_v40 : Ref sig .tc := ⟨.hbm, 48, rfl⟩
abbrev main_v41 : Ref sig .tc := ⟨.hbm, 49, rfl⟩
abbrev main_v42 : Ref sig .tc := ⟨.hbm, 50, rfl⟩
abbrev main_v43 : Ref sig .tc := ⟨.hbm, 51, rfl⟩
abbrev main_v44 : Ref sig .tc := ⟨.hbm, 52, rfl⟩
abbrev main_v45 : Ref sig .tc := ⟨.hbm, 53, rfl⟩
abbrev main_v46 : Ref sig .tc := ⟨.hbm, 54, rfl⟩
abbrev main_v47 : Ref sig .tc := ⟨.hbm, 55, rfl⟩
abbrev main_v48 : Ref sig .tc := ⟨.hbm, 56, rfl⟩
abbrev main_v49 : Ref sig .tc := ⟨.hbm, 57, rfl⟩
abbrev main_v50 : Ref sig .tc := ⟨.hbm, 58, rfl⟩
abbrev main_v51 : Ref sig .tc := ⟨.hbm, 59, rfl⟩
abbrev main_v52 : Ref sig .tc := ⟨.hbm, 60, rfl⟩
abbrev main_v53 : Ref sig .tc := ⟨.hbm, 61, rfl⟩
abbrev main_v54 : Ref sig .tc := ⟨.hbm, 62, rfl⟩
abbrev main_v55 : Ref sig .tc := ⟨.hbm, 63, rfl⟩
abbrev main_v56 : Ref sig .tc := ⟨.hbm, 64, rfl⟩
abbrev main_v57 : Ref sig .tc := ⟨.hbm, 65, rfl⟩
abbrev main_v58 : Ref sig .tc := ⟨.hbm, 66, rfl⟩
abbrev main_v59 : Ref sig .tc := ⟨.hbm, 67, rfl⟩
abbrev main_v60 : Ref sig .tc := ⟨.hbm, 68, rfl⟩
abbrev main_cst_4 : Ref sig .tc := ⟨.hbm, 69, rfl⟩
abbrev main_v61 : Ref sig .tc := ⟨.hbm, 70, rfl⟩
abbrev main_v62 : Ref sig .tc := ⟨.hbm, 71, rfl⟩
abbrev main_cst_5 : Ref sig .tc := ⟨.hbm, 72, rfl⟩
abbrev main_v63 : Ref sig .tc := ⟨.hbm, 73, rfl⟩
abbrev main_v64 : Ref sig .tc := ⟨.hbm, 74, rfl⟩
abbrev main_v65 : Ref sig .tc := ⟨.hbm, 75, rfl⟩
abbrev main_v66 : Ref sig .tc := ⟨.hbm, 76, rfl⟩
abbrev main_v67 : Ref sig .tc := ⟨.hbm, 77, rfl⟩
abbrev main_v68 : Ref sig .tc := ⟨.hbm, 78, rfl⟩
abbrev main_v69 : Ref sig .tc := ⟨.hbm, 79, rfl⟩
abbrev main_v70 : Ref sig .tc := ⟨.hbm, 80, rfl⟩
abbrev main_v71 : Ref sig .tc := ⟨.hbm, 81, rfl⟩
abbrev main_v72 : Ref sig .tc := ⟨.hbm, 82, rfl⟩
abbrev main_v73 : Ref sig .tc := ⟨.hbm, 83, rfl⟩
abbrev main_v74 : Ref sig .tc := ⟨.hbm, 84, rfl⟩
abbrev main_v75 : Ref sig .tc := ⟨.hbm, 85, rfl⟩
abbrev main_v76 : Ref sig .tc := ⟨.hbm, 86, rfl⟩
abbrev main_v77 : Ref sig .tc := ⟨.hbm, 87, rfl⟩
abbrev main_v78 : Ref sig .tc := ⟨.hbm, 88, rfl⟩
abbrev main_v79 : Ref sig .tc := ⟨.hbm, 89, rfl⟩
abbrev main_v80 : Ref sig .tc := ⟨.hbm, 90, rfl⟩
abbrev main_v81 : Ref sig .tc := ⟨.hbm, 91, rfl⟩
abbrev main_v82 : Ref sig .tc := ⟨.hbm, 92, rfl⟩
abbrev main_v83 : Ref sig .tc := ⟨.hbm, 93, rfl⟩
abbrev main_v84 : Ref sig .tc := ⟨.hbm, 94, rfl⟩
abbrev main_v85 : Ref sig .tc := ⟨.hbm, 95, rfl⟩
abbrev main_v86 : Ref sig .tc := ⟨.hbm, 96, rfl⟩
abbrev main_v87 : Ref sig .tc := ⟨.hbm, 97, rfl⟩
abbrev main_v88 : Ref sig .tc := ⟨.hbm, 98, rfl⟩
abbrev main_v89 : Ref sig .tc := ⟨.hbm, 99, rfl⟩
abbrev main_v90 : Ref sig .tc := ⟨.hbm, 100, rfl⟩
abbrev main_v91 : Ref sig .tc := ⟨.hbm, 101, rfl⟩
abbrev main_v92 : Ref sig .tc := ⟨.hbm, 102, rfl⟩
abbrev main_v93 : Ref sig .tc := ⟨.hbm, 103, rfl⟩
abbrev main_v94 : Ref sig .tc := ⟨.hbm, 104, rfl⟩
abbrev main_v95 : Ref sig .tc := ⟨.hbm, 105, rfl⟩
abbrev main_v96 : Ref sig .tc := ⟨.hbm, 106, rfl⟩
abbrev main_v97 : Ref sig .tc := ⟨.hbm, 107, rfl⟩
abbrev main_v98 : Ref sig .tc := ⟨.hbm, 108, rfl⟩
abbrev main_v99 : Ref sig .tc := ⟨.hbm, 109, rfl⟩
abbrev main_v100 : Ref sig .tc := ⟨.hbm, 110, rfl⟩
abbrev main_v101 : Ref sig .tc := ⟨.hbm, 111, rfl⟩
abbrev main_v102 : Ref sig .tc := ⟨.hbm, 112, rfl⟩
abbrev main_v103 : Ref sig .tc := ⟨.hbm, 113, rfl⟩
abbrev main_v104 : Ref sig .tc := ⟨.hbm, 114, rfl⟩
abbrev main_v105 : Ref sig .tc := ⟨.hbm, 115, rfl⟩
abbrev main_v106 : Ref sig .tc := ⟨.hbm, 116, rfl⟩
abbrev main_v107 : Ref sig .tc := ⟨.hbm, 117, rfl⟩
abbrev main_v108 : Ref sig .tc := ⟨.hbm, 118, rfl⟩
abbrev main_v109 : Ref sig .tc := ⟨.hbm, 119, rfl⟩
abbrev main_v110 : Ref sig .tc := ⟨.hbm, 120, rfl⟩
abbrev main_cst_6 : Ref sig .tc := ⟨.hbm, 121, rfl⟩
abbrev main_v111 : Ref sig .tc := ⟨.hbm, 122, rfl⟩
abbrev main_v112 : Ref sig .tc := ⟨.hbm, 123, rfl⟩
abbrev main_cst_7 : Ref sig .tc := ⟨.hbm, 124, rfl⟩
abbrev main_v113 : Ref sig .tc := ⟨.hbm, 125, rfl⟩
abbrev main_v114 : Ref sig .tc := ⟨.hbm, 126, rfl⟩
abbrev main_v115 : Ref sig .tc := ⟨.hbm, 127, rfl⟩
abbrev main_v116 : Ref sig .tc := ⟨.hbm, 128, rfl⟩
abbrev main_v117 : Ref sig .tc := ⟨.hbm, 129, rfl⟩
abbrev main_v118 : Ref sig .tc := ⟨.hbm, 130, rfl⟩
abbrev main_v119 : Ref sig .tc := ⟨.hbm, 131, rfl⟩
abbrev main_v120 : Ref sig .tc := ⟨.hbm, 132, rfl⟩
abbrev main_v121 : Ref sig .tc := ⟨.hbm, 133, rfl⟩
abbrev main_v122 : Ref sig .tc := ⟨.hbm, 134, rfl⟩
abbrev main_v123 : Ref sig .tc := ⟨.hbm, 135, rfl⟩
abbrev main_v124 : Ref sig .tc := ⟨.hbm, 136, rfl⟩
abbrev main_v125 : Ref sig .tc := ⟨.hbm, 137, rfl⟩
abbrev main_v126 : Ref sig .tc := ⟨.hbm, 138, rfl⟩
abbrev main_v127 : Ref sig .tc := ⟨.hbm, 139, rfl⟩
abbrev main_v128 : Ref sig .tc := ⟨.hbm, 140, rfl⟩
abbrev main_v129 : Ref sig .tc := ⟨.hbm, 141, rfl⟩
abbrev main_v130 : Ref sig .tc := ⟨.hbm, 142, rfl⟩
abbrev main_v131 : Ref sig .tc := ⟨.hbm, 143, rfl⟩
abbrev main_v132 : Ref sig .tc := ⟨.hbm, 144, rfl⟩
abbrev main_v133 : Ref sig .tc := ⟨.hbm, 145, rfl⟩
abbrev main_v134 : Ref sig .tc := ⟨.hbm, 146, rfl⟩
abbrev main_v135 : Ref sig .tc := ⟨.hbm, 147, rfl⟩
abbrev main_v136 : Ref sig .tc := ⟨.hbm, 148, rfl⟩
abbrev main_v137 : Ref sig .tc := ⟨.hbm, 149, rfl⟩
abbrev main_v138 : Ref sig .tc := ⟨.hbm, 150, rfl⟩
abbrev main_v139 : Ref sig .tc := ⟨.hbm, 151, rfl⟩
abbrev main_v140 : Ref sig .tc := ⟨.hbm, 152, rfl⟩
abbrev main_v141 : Ref sig .tc := ⟨.hbm, 153, rfl⟩
abbrev main_v142 : Ref sig .tc := ⟨.hbm, 154, rfl⟩
abbrev main_v143 : Ref sig .tc := ⟨.hbm, 155, rfl⟩
abbrev main_v144 : Ref sig .tc := ⟨.hbm, 156, rfl⟩
abbrev main_v145 : Ref sig .tc := ⟨.hbm, 157, rfl⟩
abbrev main_v146 : Ref sig .tc := ⟨.hbm, 158, rfl⟩
abbrev main_v147 : Ref sig .tc := ⟨.hbm, 159, rfl⟩
abbrev main_v148 : Ref sig .tc := ⟨.hbm, 160, rfl⟩
abbrev main_v149 : Ref sig .tc := ⟨.hbm, 161, rfl⟩
abbrev main_v150 : Ref sig .tc := ⟨.hbm, 162, rfl⟩
abbrev main_v151 : Ref sig .tc := ⟨.hbm, 163, rfl⟩
abbrev main_v152 : Ref sig .tc := ⟨.hbm, 164, rfl⟩
abbrev main_v153 : Ref sig .tc := ⟨.hbm, 165, rfl⟩
abbrev main_v154 : Ref sig .tc := ⟨.hbm, 166, rfl⟩
abbrev main_v155 : Ref sig .tc := ⟨.hbm, 167, rfl⟩
abbrev main_v156 : Ref sig .tc := ⟨.hbm, 168, rfl⟩
abbrev main_v157 : Ref sig .tc := ⟨.hbm, 169, rfl⟩
abbrev main_v158 : Ref sig .tc := ⟨.hbm, 170, rfl⟩
abbrev main_cst_8 : Ref sig .tc := ⟨.hbm, 171, rfl⟩
abbrev main_v159 : Ref sig .tc := ⟨.hbm, 172, rfl⟩
abbrev main_v160 : Ref sig .tc := ⟨.hbm, 173, rfl⟩
abbrev main_cst_9 : Ref sig .tc := ⟨.hbm, 174, rfl⟩
abbrev main_v161 : Ref sig .tc := ⟨.hbm, 175, rfl⟩
abbrev main_v162 : Ref sig .tc := ⟨.hbm, 176, rfl⟩
abbrev main_v163 : Ref sig .tc := ⟨.hbm, 177, rfl⟩
abbrev main_v164 : Ref sig .tc := ⟨.hbm, 178, rfl⟩
abbrev main_v165 : Ref sig .tc := ⟨.hbm, 179, rfl⟩
abbrev main_v166 : Ref sig .tc := ⟨.hbm, 180, rfl⟩
abbrev main_v167 : Ref sig .tc := ⟨.hbm, 181, rfl⟩
abbrev main_v168 : Ref sig .tc := ⟨.hbm, 182, rfl⟩
abbrev main_v169 : Ref sig .tc := ⟨.hbm, 183, rfl⟩
abbrev main_v170 : Ref sig .tc := ⟨.hbm, 184, rfl⟩
abbrev main_v171 : Ref sig .tc := ⟨.hbm, 185, rfl⟩
abbrev main_v172 : Ref sig .tc := ⟨.hbm, 186, rfl⟩
abbrev main_v173 : Ref sig .tc := ⟨.hbm, 187, rfl⟩

abbrev nD : Nat := 1
abbrev τ : Topo := Topo.v7x

variable {F : FTy → Type} [FloatOps F]
-- ==== Sample.lean ====
abbrev S32x8x2048 : Shape := ⟨3, ![32, 8, 2048]⟩
abbrev S32x512x2x2x128 : Shape := ⟨5, ![32, 512, 2, 2, 128]⟩
abbrev S32x15x1024 : Shape := ⟨3, ![32, 15, 1024]⟩
abbrev S2048 : Shape := ⟨1, ![2048]⟩
abbrev S2048x7704 : Shape := ⟨2, ![2048, 7704]⟩
abbrev S2048x2560 : Shape := ⟨2, ![2048, 2560]⟩
abbrev S2048x24 : Shape := ⟨2, ![2048, 24]⟩
abbrev S_ : Shape := ⟨0, ![]⟩
abbrev S2048x104 : Shape := ⟨2, ![2048, 104]⟩
abbrev S2048x2688 : Shape := ⟨2, ![2048, 2688]⟩
abbrev S256x2048 : Shape := ⟨2, ![256, 2048]⟩
abbrev S8 : Shape := ⟨1, ![8]⟩
abbrev S64 : Shape := ⟨1, ![64]⟩
abbrev S8x1 : Shape := ⟨2, ![8, 1]⟩
abbrev S1x64 : Shape := ⟨2, ![1, 64]⟩
abbrev S8x64 : Shape := ⟨2, ![8, 64]⟩
abbrev S8x128 : Shape := ⟨2, ![8, 128]⟩
abbrev S1x8x1x128 : Shape := ⟨4, ![1, 8, 1, 128]⟩
abbrev S32x8x1x128 : Shape := ⟨4, ![32, 8, 1, 128]⟩
abbrev S256x128 : Shape := ⟨2, ![256, 128]⟩
abbrev S1x2048 : Shape := ⟨2, ![1, 2048]⟩
abbrev S2048x128 : Shape := ⟨2, ![2048, 128]⟩
abbrev S1024x128 : Shape := ⟨2, ![1024, 128]⟩
abbrev S256x1024 : Shape := ⟨2, ![256, 1024]⟩
abbrev S256 : Shape := ⟨1, ![256]⟩
abbrev S256x1 : Shape := ⟨2, ![256, 1]⟩
abbrev S2048x512 : Shape := ⟨2, ![2048, 512]⟩
abbrev S256x512 : Shape := ⟨2, ![256, 512]⟩
abbrev S2048x1024 : Shape := ⟨2, ![2048, 1024]⟩
abbrev S32x8x1024 : Shape := ⟨3, ![32, 8, 1024]⟩
abbrev S1x32x8x4x2x128 : Shape := ⟨6, ![1, 32, 8, 4, 2, 128]⟩
abbrev S32x8x2x2x128 : Shape := ⟨5, ![32, 8, 2, 2, 128]⟩
abbrev S32x520x2x2x128 : Shape := ⟨5, ![32, 520, 2, 2, 128]⟩
abbrev S1x32x520x2x2x128 : Shape := ⟨6, ![1, 32, 520, 2, 2, 128]⟩
abbrev S1x32x512x2x2x128 : Shape := ⟨6, ![1, 32, 512, 2, 2, 128]⟩
abbrev S32x23x1024 : Shape := ⟨3, ![32, 23, 1024]⟩
abbrev S1x32x15x1024 : Shape := ⟨4, ![1, 32, 15, 1024]⟩
abbrev S256x24 : Shape := ⟨2, ![256, 24]⟩

abbrev nBuf : Space → Nat
  | .hbm => 60
  | .vmem => 14
  | .smem => 0
  | _ => 0

abbrev bufTy : (tb : Table) → Fin (tcTables nBuf tb) → BufTy
  | .hbm, ⟨0, _⟩ => ⟨S32x8x2048, .f32⟩
  | .hbm, ⟨1, _⟩ => ⟨S32x512x2x2x128, .f32⟩
  | .hbm, ⟨2, _⟩ => ⟨S32x15x1024, .f32⟩
  | .hbm, ⟨3, _⟩ => ⟨S2048, .f32⟩
  | .hbm, ⟨4, _⟩ => ⟨S2048x7704, .f32⟩
  | .hbm, ⟨5, _⟩ => ⟨S2048x7704, .bf16⟩
  | .hbm, ⟨6, _⟩ => ⟨S2048x2560, .bf16⟩
  | .hbm, ⟨7, _⟩ => ⟨S2048x24, .bf16⟩
  | .hbm, ⟨8, _⟩ => ⟨S_, .bf16⟩
  | .hbm, ⟨9, _⟩ => ⟨S2048x104, .bf16⟩
  | .hbm, ⟨10, _⟩ => ⟨S2048x2688, .bf16⟩
  | .hbm, ⟨11, _⟩ => ⟨S256x2048, .f32⟩
  | .hbm, ⟨12, _⟩ => ⟨S8, .i32⟩
  | .hbm, ⟨13, _⟩ => ⟨S_, .i32⟩
  | .hbm, ⟨14, _⟩ => ⟨S8, .i32⟩
  | .hbm, ⟨15, _⟩ => ⟨S8, .i32⟩
  | .hbm, ⟨16, _⟩ => ⟨S64, .f32⟩
  | .hbm, ⟨17, _⟩ => ⟨S64, .f32⟩
  | .hbm, ⟨18, _⟩ => ⟨S_, .f32⟩
  | .hbm, ⟨19, _⟩ => ⟨S64, .f32⟩
  | .hbm, ⟨20, _⟩ => ⟨S64, .f32⟩
  | .hbm, ⟨21, _⟩ => ⟨S_, .f32⟩
  | .hbm, ⟨22, _⟩ => ⟨S64, .f32⟩
  | .hbm, ⟨23, _⟩ => ⟨S64, .f32⟩
  | .hbm, ⟨24, _⟩ => ⟨S8, .f32⟩
  | .hbm, ⟨25, _⟩ => ⟨S8x1, .f32⟩
  | .hbm, ⟨26, _⟩ => ⟨S1x64, .f32⟩
  | .hbm, ⟨27, _⟩ => ⟨S8x64, .f32⟩
  | .hbm, ⟨28, _⟩ => ⟨S8x64, .f32⟩
  | .hbm, ⟨29, _⟩ => ⟨S8x64, .f32⟩
  | .hbm, ⟨30, _⟩ => ⟨S8x64, .f32⟩
  | .hbm, ⟨31, _⟩ => ⟨S8x64, .f32⟩
  | .hbm, ⟨32, _⟩ => ⟨S8x128, .f32⟩
  | .hbm, ⟨33, _⟩ => ⟨S8x64, .f32⟩
  | .hbm, ⟨34, _⟩ => ⟨S8x128, .f32⟩
  | .hbm, ⟨35, _⟩ => ⟨S1x8x1x128, .f32⟩
  | .hbm, ⟨36, _⟩ => ⟨S32x8x1x128, .f32⟩
  | .hbm, ⟨37, _⟩ => ⟨S256x128, .f32⟩
  | .hbm, ⟨38, _⟩ => ⟨S1x8x1x128, .f32⟩
  | .hbm, ⟨39, _⟩ => ⟨S32x8x1x128, .f32⟩
  | .hbm, ⟨40, _⟩ => ⟨S256x128, .f32⟩
  | .hbm, ⟨41, _⟩ => ⟨S1x2048, .f32⟩
  | .hbm, ⟨42, _⟩ => ⟨S256x2048, .bf16⟩
  | .hbm, ⟨43, _⟩ => ⟨S2048x128, .f32⟩
  | .hbm, ⟨44, _⟩ => ⟨S1024x128, .f32⟩
  | .hbm, ⟨45, _⟩ => ⟨S256x128, .f32⟩
  | .hbm, ⟨46, _⟩ => ⟨S256x1024, .bf16⟩
  | .hbm, ⟨47, _⟩ => ⟨S256x2048, .bf16⟩
  | .hbm, ⟨48, _⟩ => ⟨S2048x1024, .bf16⟩
  | .hbm, ⟨49, _⟩ => ⟨S256x1024, .f32⟩
  | .hbm, ⟨50, _⟩ => ⟨S32x8x1024, .f32⟩
  | .hbm, ⟨51, _⟩ => ⟨S1x32x8x4x2x128, .f32⟩
  | .hbm, ⟨52, _⟩ => ⟨S32x8x2x2x128, .f32⟩
  | .hbm, ⟨53, _⟩ => ⟨S32x520x2x2x128, .f32⟩
  | .hbm, ⟨54, _⟩ => ⟨S1x32x520x2x2x128, .f32⟩
  | .hbm, ⟨55, _⟩ => ⟨S1x32x512x2x2x128, .f32⟩
  | .hbm, ⟨56, _⟩ => ⟨S32x23x1024, .f32⟩
  | .hbm, ⟨57, _⟩ => ⟨S32x15x1024, .f32⟩
  | .hbm, ⟨58, _⟩ => ⟨S1x32x15x1024, .f32⟩
  | .hbm, ⟨59, _⟩ => ⟨S256x24, .f32⟩
  | .local _ .vmem, ⟨0, _⟩ => ⟨S256x2048, .f32⟩
  | .local _ .vmem, ⟨1, _⟩ => ⟨S1x2048, .f32⟩
  | .local _ .vmem, ⟨2, _⟩ => ⟨S2048x2688, .bf16⟩
  | .local _ .vmem, ⟨3, _⟩ => ⟨S256x128, .f32⟩
  | .local _ .vmem, ⟨4, _⟩ => ⟨S256x128, .f32⟩
  | .local _ .vmem, ⟨5, _⟩ => ⟨S256x2048, .bf16⟩
  | .local _ .vmem, ⟨6, _⟩ => ⟨S2048x128, .f32⟩
  | .local _ .vmem, ⟨7, _⟩ => ⟨S1024x128, .f32⟩
  | .local _ .vmem, ⟨8, _⟩ => ⟨S256x128, .f32⟩
  | .local _ .vmem, ⟨9, _⟩ => ⟨S256x1024, .bf16⟩
  | .local _ .vmem, ⟨10, _⟩ => ⟨S256x2048, .bf16⟩
  | .local _ .vmem, ⟨11, _⟩ => ⟨S256x2048, .bf16⟩
  | .local _ .vmem, ⟨12, _⟩ => ⟨S2048x1024, .bf16⟩
  | .local _ .vmem, ⟨13, _⟩ => ⟨S256x1024, .f32⟩
  | _, _ => ⟨S32x8x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_c : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_cst_0 : Ref sig .tc := ⟨.hbm, 18, rfl⟩
abbrev main_v11 : Ref sig .tc := ⟨.hbm, 19, rfl⟩
abbrev main_v12 : Ref sig .tc := ⟨.hbm, 20, rfl⟩
abbrev main_cst_1 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33_0 : Ref sig .tc := ⟨.hbm, 42, rfl⟩
abbrev main_v33_1 : Ref sig .tc := ⟨.hbm, 43, rfl⟩
abbrev main_v33_2 : Ref sig .tc := ⟨.hbm, 44, rfl⟩
abbrev main_v33_3 : Ref sig .tc := ⟨.hbm, 45, rfl⟩
abbrev main_v33_4 : Ref sig .tc := ⟨.hbm, 46, rfl⟩
abbrev main_v33_5 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc1_stg0_0 : Ref sig .tc := ⟨.vmem, 11, rfl⟩
abbrev cc1_stg1_0 : Ref sig .tc := ⟨.vmem, 12, rfl⟩
abbrev cc1_stg2_0 : Ref sig .tc := ⟨.vmem, 13, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc1_sem0_0 : DmaSem sig := 11
abbrev cc1_sem1_0 : DmaSem sig := 12
abbrev cc1_sem2_0 : DmaSem sig := 13

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S256x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S2048x2688 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S256x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S256x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S256x2048 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S2048x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S1024x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]

abbrev stage0_8 : Fin 1 → Memref sig .tc .vmem S256x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![true]

abbrev stage0_9 : Fin 1 → Memref sig .tc .vmem S256x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![true]

abbrev stage0_10 : Fin 1 → Memref sig .tc .vmem S256x2048 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![true]

abbrev grid1 : Pipeline.Grid := ⟨2, ![1, 1], ![false, false]⟩

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage1_0 : Fin 1 → Memref sig .tc .vmem S256x2048 .bf16 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![false, true]

abbrev stage1_1 : Fin 1 → Memref sig .tc .vmem S2048x1024 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![true, false]

abbrev stage1_2 : Fin 1 → Memref sig .tc .vmem S256x1024 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![true, true]
-- ==== SampleRefIdeal.lean ====
abbrev S32x8x2048 : Shape := ⟨3, ![32, 8, 2048]⟩
abbrev S32x512x2x2x128 : Shape := ⟨5, ![32, 512, 2, 2, 128]⟩
abbrev S32x15x1024 : Shape := ⟨3, ![32, 15, 1024]⟩
abbrev S2048 : Shape := ⟨1, ![2048]⟩
abbrev S2048x7704 : Shape := ⟨2, ![2048, 7704]⟩
abbrev S_ : Shape := ⟨0, ![]⟩
abbrev S32x8 : Shape := ⟨2, ![32, 8]⟩
abbrev S32x8x1 : Shape := ⟨3, ![32, 8, 1]⟩
abbrev S1x1x2048 : Shape := ⟨3, ![1, 1, 2048]⟩
abbrev S32x8x7704 : Shape := ⟨3, ![32, 8, 7704]⟩
abbrev S32x8x1024 : Shape := ⟨3, ![32, 8, 1024]⟩
abbrev S32x8x1536 : Shape := ⟨3, ![32, 8, 1536]⟩
abbrev S32x8x24 : Shape := ⟨3, ![32, 8, 24]⟩
abbrev S32x8x4096 : Shape := ⟨3, ![32, 8, 4096]⟩
abbrev S32x8x8x128 : Shape := ⟨4, ![32, 8, 8, 128]⟩
abbrev S32x8x6x2x128 : Shape := ⟨5, ![32, 8, 6, 2, 128]⟩
abbrev S32x8x1x2x128 : Shape := ⟨5, ![32, 8, 1, 2, 128]⟩
abbrev S32x8x2x128 : Shape := ⟨4, ![32, 8, 2, 128]⟩
abbrev S64 : Shape := ⟨1, ![64]⟩
abbrev S8 : Shape := ⟨1, ![8]⟩
abbrev S8x1 : Shape := ⟨2, ![8, 1]⟩
abbrev S1x64 : Shape := ⟨2, ![1, 64]⟩
abbrev S8x64 : Shape := ⟨2, ![8, 64]⟩
abbrev S8x1x64 : Shape := ⟨3, ![8, 1, 64]⟩
abbrev S32x8x2x64 : Shape := ⟨4, ![32, 8, 2, 64]⟩
abbrev S1x8x1x64 : Shape := ⟨4, ![1, 8, 1, 64]⟩
abbrev S32x8x4x2x128 : Shape := ⟨5, ![32, 8, 4, 2, 128]⟩
abbrev S32x8x2x2x128 : Shape := ⟨5, ![32, 8, 2, 2, 128]⟩
abbrev S32x520x2x2x128 : Shape := ⟨5, ![32, 520, 2, 2, 128]⟩
abbrev S32x23x1024 : Shape := ⟨3, ![32, 23, 1024]⟩
abbrev S32x8x8x64 : Shape := ⟨4, ![32, 8, 8, 64]⟩
abbrev S32x8x1x8x128 : Shape := ⟨5, ![32, 8, 1, 8, 128]⟩
abbrev S32x8x2x8x128 : Shape := ⟨5, ![32, 8, 2, 8, 128]⟩
abbrev S256x2048 : Shape := ⟨2, ![256, 2048]⟩
abbrev S256x24 : Shape := ⟨2, ![256, 24]⟩
abbrev S1x32x8x4x2x128 : Shape := ⟨6, ![1, 32, 8, 4, 2, 128]⟩
abbrev S1x32x512x2x2x128 : Shape := ⟨6, ![1, 32, 512, 2, 2, 128]⟩
abbrev S1x32x15x1024 : Shape := ⟨4, ![1, 32, 15, 1024]⟩
abbrev S256x1024 : Shape := ⟨2, ![256, 1024]⟩

abbrev nBuf : Space → Nat
  | .hbm => 190
  | .vmem => 0
  | .smem => 0
  | _ => 0

abbrev hbmTy0_0 (i : Nat) : BufTy := match i % 128 with
  | 0 => ⟨S32x8x2048, .f32⟩
  | 1 => ⟨S32x512x2x2x128, .f32⟩
  | 2 => ⟨S32x15x1024, .f32⟩
  | 3 => ⟨S2048, .f32⟩
  | 4 => ⟨S2048x7704, .f32⟩
  | 5 => ⟨S32x8x2048, .f32⟩
  | 6 => ⟨S_, .f32⟩
  | 7 => ⟨S32x8, .f32⟩
  | 8 => ⟨S32x8x1, .f32⟩
  | 9 => ⟨S_, .f32⟩
  | 10 => ⟨S32x8x1, .f32⟩
  | 11 => ⟨S32x8x1, .f32⟩
  | 12 => ⟨S_, .f32⟩
  | 13 => ⟨S32x8x1, .f32⟩
  | 14 => ⟨S32x8x1, .f32⟩
  | 15 => ⟨S32x8x1, .f32⟩
  | 16 => ⟨S32x8x2048, .f32⟩
  | 17 => ⟨S32x8x2048, .f32⟩
  | 18 => ⟨S1x1x2048, .f32⟩
  | 19 => ⟨S32x8x2048, .f32⟩
  | 20 => ⟨S32x8x2048, .f32⟩
  | 21 => ⟨S32x8x7704, .f32⟩
  | 22 => ⟨S32x8x1024, .f32⟩
  | 23 => ⟨S32x8x1536, .f32⟩
  | 24 => ⟨S32x8x24, .f32⟩
  | 25 => ⟨S32x8x1024, .f32⟩
  | 26 => ⟨S32x8x4096, .f32⟩
  | 27 => ⟨S32x8x8x128, .f32⟩
  | 28 => ⟨S32x8x6x2x128, .f32⟩
  | 29 => ⟨S32x8x1x2x128, .f32⟩
  | 30 => ⟨S32x8x2x128, .f32⟩
  | 31 => ⟨S32x8x1x2x128, .f32⟩
  | 32 => ⟨S32x8x2x128, .f32⟩
  | 33 => ⟨S32x8x1x2x128, .f32⟩
  | 34 => ⟨S32x8x2x128, .f32⟩
  | 35 => ⟨S64, .f32⟩
  | 36 => ⟨S64, .f32⟩
  | 37 => ⟨S_, .f32⟩
  | 38 => ⟨S64, .f32⟩
  | 39 => ⟨S64, .f32⟩
  | 40 => ⟨S_, .f32⟩
  | 41 => ⟨S64, .f32⟩
  | 42 => ⟨S64, .f32⟩
  | 43 => ⟨S8, .i32⟩
  | 44 => ⟨S_, .i32⟩
  | 45 => ⟨S8, .i32⟩
  | 46 => ⟨S8, .i32⟩
  | 47 => ⟨S8, .f32⟩
  | 48 => ⟨S8x1, .f32⟩
  | 49 => ⟨S1x64, .f32⟩
  | 50 => ⟨S8x64, .f32⟩
  | 51 => ⟨S8x64, .f32⟩
  | 52 => ⟨S8x64, .f32⟩
  | 53 => ⟨S8x64, .f32⟩
  | 54 => ⟨S8x1x64, .f32⟩
  | 55 => ⟨S8x64, .f32⟩
  | 56 => ⟨S8x1x64, .f32⟩
  | 57 => ⟨S32x8x2x64, .f32⟩
  | 58 => ⟨S32x8x2x64, .f32⟩
  | 59 => ⟨S1x8x1x64, .f32⟩
  | 60 => ⟨S32x8x2x64, .f32⟩
  | 61 => ⟨S32x8x2x64, .f32⟩
  | 62 => ⟨S1x8x1x64, .f32⟩
  | 63 => ⟨S32x8x2x64, .f32⟩
  | 64 => ⟨S32x8x2x64, .f32⟩
  | 65 => ⟨S32x8x2x64, .f32⟩
  | 66 => ⟨S1x8x1x64, .f32⟩
  | 67 => ⟨S32x8x2x64, .f32⟩
  | 68 => ⟨S32x8x2x64, .f32⟩
  | 69 => ⟨S1x8x1x64, .f32⟩
  | 70 => ⟨S32x8x2x64, .f32⟩
  | 71 => ⟨S32x8x2x64, .f32⟩
  | 72 => ⟨S32x8x2x64, .f32⟩
  | 73 => ⟨S32x8x2x128, .f32⟩
  | 74 => ⟨S32x8x1x2x128, .f32⟩
  | 75 => ⟨S32x8x2x128, .f32⟩
  | 76 => ⟨S32x8x1x2x128, .f32⟩
  | 77 => ⟨S32x8x1x2x128, .f32⟩
  | 78 => ⟨S32x8x1x2x128, .f32⟩
  | 79 => ⟨S32x8x1x2x128, .f32⟩
  | 80 => ⟨S32x8x4x2x128, .f32⟩
  | 81 => ⟨S32x8x1x2x128, .f32⟩
  | 82 => ⟨S32x8x2x128, .f32⟩
  | 83 => ⟨S64, .f32⟩
  | 84 => ⟨S64, .f32⟩
  | 85 => ⟨S_, .f32⟩
  | 86 => ⟨S64, .f32⟩
  | 87 => ⟨S64, .f32⟩
  | 88 => ⟨S_, .f32⟩
  | 89 => ⟨S64, .f32⟩
  | 90 => ⟨S64, .f32⟩
  | 91 => ⟨S8, .i32⟩
  | 92 => ⟨S_, .i32⟩
  | 93 => ⟨S8, .i32⟩
  | 94 => ⟨S8, .i32⟩
  | 95 => ⟨S8, .f32⟩
  | 96 => ⟨S8x1, .f32⟩
  | 97 => ⟨S1x64, .f32⟩
  | 98 => ⟨S8x64, .f32⟩
  | 99 => ⟨S8x64, .f32⟩
  | 100 => ⟨S8x64, .f32⟩
  | 101 => ⟨S8x64, .f32⟩
  | 102 => ⟨S8x1x64, .f32⟩
  | 103 => ⟨S8x64, .f32⟩
  | 104 => ⟨S8x1x64, .f32⟩
  | 105 => ⟨S32x8x2x64, .f32⟩
  | 106 => ⟨S32x8x2x64, .f32⟩
  | 107 => ⟨S1x8x1x64, .f32⟩
  | 108 => ⟨S32x8x2x64, .f32⟩
  | 109 => ⟨S32x8x2x64, .f32⟩
  | 110 => ⟨S1x8x1x64, .f32⟩
  | 111 => ⟨S32x8x2x64, .f32⟩
  | 112 => ⟨S32x8x2x64, .f32⟩
  | 113 => ⟨S32x8x2x64, .f32⟩
  | 114 => ⟨S1x8x1x64, .f32⟩
  | 115 => ⟨S32x8x2x64, .f32⟩
  | 116 => ⟨S32x8x2x64, .f32⟩
  | 117 => ⟨S1x8x1x64, .f32⟩
  | 118 => ⟨S32x8x2x64, .f32⟩
  | 119 => ⟨S32x8x2x64, .f32⟩
  | 120 => ⟨S32x8x2x64, .f32⟩
  | 121 => ⟨S32x8x2x128, .f32⟩
  | 122 => ⟨S32x8x1x2x128, .f32⟩
  | 123 => ⟨S32x8x2x128, .f32⟩
  | 124 => ⟨S32x8x1x2x128, .f32⟩
  | 125 => ⟨S32x8x1x2x128, .f32⟩
  | 126 => ⟨S32x8x2x2x128, .f32⟩
  | 127 => ⟨S32x520x2x2x128, .f32⟩
  | _ => ⟨S32x8x2048, .f32⟩

abbrev hbmTy0_1 (i : Nat) : BufTy := match i % 128 with
  | 0 => ⟨S32x23x1024, .f32⟩
  | 1 => ⟨S64, .f32⟩
  | 2 => ⟨S64, .f32⟩
  | 3 => ⟨S_, .f32⟩
  | 4 => ⟨S64, .f32⟩
  | 5 => ⟨S64, .f32⟩
  | 6 => ⟨S_, .f32⟩
  | 7 => ⟨S64, .f32⟩
  | 8 => ⟨S64, .f32⟩
  | 9 => ⟨S8, .i32⟩
  | 10 => ⟨S_, .i32⟩
  | 11 => ⟨S8, .i32⟩
  | 12 => ⟨S8, .i32⟩
  | 13 => ⟨S8, .f32⟩
  | 14 => ⟨S8x1, .f32⟩
  | 15 => ⟨S1x64, .f32⟩
  | 16 => ⟨S8x64, .f32⟩
  | 17 => ⟨S8x64, .f32⟩
  | 18 => ⟨S8x64, .f32⟩
  | 19 => ⟨S8x64, .f32⟩
  | 20 => ⟨S8x1x64, .f32⟩
  | 21 => ⟨S8x64, .f32⟩
  | 22 => ⟨S8x1x64, .f32⟩
  | 23 => ⟨S32x8x8x64, .f32⟩
  | 24 => ⟨S32x8x8x64, .f32⟩
  | 25 => ⟨S1x8x1x64, .f32⟩
  | 26 => ⟨S32x8x8x64, .f32⟩
  | 27 => ⟨S32x8x8x64, .f32⟩
  | 28 => ⟨S1x8x1x64, .f32⟩
  | 29 => ⟨S32x8x8x64, .f32⟩
  | 30 => ⟨S32x8x8x64, .f32⟩
  | 31 => ⟨S32x8x8x64, .f32⟩
  | 32 => ⟨S1x8x1x64, .f32⟩
  | 33 => ⟨S32x8x8x64, .f32⟩
  | 34 => ⟨S32x8x8x64, .f32⟩
  | 35 => ⟨S1x8x1x64, .f32⟩
  | 36 => ⟨S32x8x8x64, .f32⟩
  | 37 => ⟨S32x8x8x64, .f32⟩
  | 38 => ⟨S32x8x8x64, .f32⟩
  | 39 => ⟨S32x8x8x128, .f32⟩
  | 40 => ⟨S32x8x1x8x128, .f32⟩
  | 41 => ⟨S32x8x1x8x128, .f32⟩
  | 42 => ⟨S32x8x2x8x128, .f32⟩
  | 43 => ⟨S256x2048, .f32⟩
  | 44 => ⟨S32x8x24, .f32⟩
  | 45 => ⟨S32x8x24, .f32⟩
  | 46 => ⟨S_, .f32⟩
  | 47 => ⟨S32x8x24, .f32⟩
  | 48 => ⟨S32x8x24, .f32⟩
  | 49 => ⟨S_, .f32⟩
  | 50 => ⟨S32x8x24, .f32⟩
  | 51 => ⟨S32x8x24, .f32⟩
  | 52 => ⟨S256x24, .f32⟩
  | 53 => ⟨S1x32x8x4x2x128, .f32⟩
  | 54 => ⟨S32x512x2x2x128, .f32⟩
  | 55 => ⟨S1x32x512x2x2x128, .f32⟩
  | 56 => ⟨S32x15x1024, .f32⟩
  | 57 => ⟨S1x32x15x1024, .f32⟩
  | 58 => ⟨S256x2048, .bf16⟩
  | 59 => ⟨S256x2048, .f32⟩
  | 60 => ⟨S256x2048, .bf16⟩
  | 61 => ⟨S256x1024, .f32⟩
  | _ => ⟨S32x8x2048, .f32⟩

abbrev hbmTy (i : Nat) : BufTy := match i / 128 with
  | 0 => hbmTy0_0 i
  | 1 => hbmTy0_1 i
  | _ => ⟨S32x8x2048, .f32⟩

abbrev bufTy : (tb : Table) → Fin (tcTables nBuf tb) → BufTy
  | .hbm, ⟨i, _⟩ => hbmTy i
  | _, _ => ⟨S32x8x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_cst_2 : Ref sig .tc := ⟨.hbm, 37, rfl⟩
abbrev main_v29 : Ref sig .tc := ⟨.hbm, 38, rfl⟩
abbrev main_v30 : Ref sig .tc := ⟨.hbm, 39, rfl⟩
abbrev main_cst_3 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_c : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_v44 : Ref sig .tc := ⟨.hbm, 55, rfl⟩
abbrev main_v45 : Ref sig .tc := ⟨.hbm, 56, rfl⟩
abbrev main_v46 : Ref sig .tc := ⟨.hbm, 57, rfl⟩
abbrev main_v47 : Ref sig .tc := ⟨.hbm, 58, rfl⟩
abbrev main_v48 : Ref sig .tc := ⟨.hbm, 59, rfl⟩
abbrev main_v49 : Ref sig .tc := ⟨.hbm, 60, rfl⟩
abbrev main_v50 : Ref sig .tc := ⟨.hbm, 61, rfl⟩
abbrev main_v51 : Ref sig .tc := ⟨.hbm, 62, rfl⟩
abbrev main_v52 : Ref sig .tc := ⟨.hbm, 63, rfl⟩
abbrev main_v53 : Ref sig .tc := ⟨.hbm, 64, rfl⟩
abbrev main_v54 : Ref sig .tc := ⟨.hbm, 65, rfl⟩
abbrev main_v55 : Ref sig .tc := ⟨.hbm, 66, rfl⟩
abbrev main_v56 : Ref sig .tc := ⟨.hbm, 67, rfl⟩
abbrev main_v57 : Ref sig .tc := ⟨.hbm, 68, rfl⟩
abbrev main_v58 : Ref sig .tc := ⟨.hbm, 69, rfl⟩
abbrev main_v59 : Ref sig .tc := ⟨.hbm, 70, rfl⟩
abbrev main_v60 : Ref sig .tc := ⟨.hbm, 71, rfl⟩
abbrev main_v61 : Ref sig .tc := ⟨.hbm, 72, rfl⟩
abbrev main_v62 : Ref sig .tc := ⟨.hbm, 73, rfl⟩
abbrev main_v63 : Ref sig .tc := ⟨.hbm, 74, rfl⟩
abbrev main_v64 : Ref sig .tc := ⟨.hbm, 75, rfl⟩
abbrev main_v65 : Ref sig .tc := ⟨.hbm, 76, rfl⟩
abbrev main_v66 : Ref sig .tc := ⟨.hbm, 77, rfl⟩
abbrev main_v67 : Ref sig .tc := ⟨.hbm, 78, rfl⟩
abbrev main_v68 : Ref sig .tc := ⟨.hbm, 79, rfl⟩
abbrev main_v69 : Ref sig .tc := ⟨.hbm, 80, rfl⟩
abbrev main_v70 : Ref sig .tc := ⟨.hbm, 81, rfl⟩
abbrev main_v71 : Ref sig .tc := ⟨.hbm, 82, rfl⟩
abbrev main_v72 : Ref sig .tc := ⟨.hbm, 83, rfl⟩
abbrev main_v73 : Ref sig .tc := ⟨.hbm, 84, rfl⟩
abbrev main_cst_4 : Ref sig .tc := ⟨.hbm, 85, rfl⟩
abbrev main_v74 : Ref sig .tc := ⟨.hbm, 86, rfl⟩
abbrev main_v75 : Ref sig .tc := ⟨.hbm, 87, rfl⟩
abbrev main_cst_5 : Ref sig .tc := ⟨.hbm, 88, rfl⟩
abbrev main_v76 : Ref sig .tc := ⟨.hbm, 89, rfl⟩
abbrev main_v77 : Ref sig .tc := ⟨.hbm, 90, rfl⟩
abbrev main_v78 : Ref sig .tc := ⟨.hbm, 91, rfl⟩
abbrev main_c_6 : Ref sig .tc := ⟨.hbm, 92, rfl⟩
abbrev main_v79 : Ref sig .tc := ⟨.hbm, 93, rfl⟩
abbrev main_v80 : Ref sig .tc := ⟨.hbm, 94, rfl⟩
abbrev main_v81 : Ref sig .tc := ⟨.hbm, 95, rfl⟩
abbrev main_v82 : Ref sig .tc := ⟨.hbm, 96, rfl⟩
abbrev main_v83 : Ref sig .tc := ⟨.hbm, 97, rfl⟩
abbrev main_v84 : Ref sig .tc := ⟨.hbm, 98, rfl⟩
abbrev main_v85 : Ref sig .tc := ⟨.hbm, 99, rfl⟩
abbrev main_v86 : Ref sig .tc := ⟨.hbm, 100, rfl⟩
abbrev main_v87 : Ref sig .tc := ⟨.hbm, 101, rfl⟩
abbrev main_v88 : Ref sig .tc := ⟨.hbm, 102, rfl⟩
abbrev main_v89 : Ref sig .tc := ⟨.hbm, 103, rfl⟩
abbrev main_v90 : Ref sig .tc := ⟨.hbm, 104, rfl⟩
abbrev main_v91 : Ref sig .tc := ⟨.hbm, 105, rfl⟩
abbrev main_v92 : Ref sig .tc := ⟨.hbm, 106, rfl⟩
abbrev main_v93 : Ref sig .tc := ⟨.hbm, 107, rfl⟩
abbrev main_v94 : Ref sig .tc := ⟨.hbm, 108, rfl⟩
abbrev main_v95 : Ref sig .tc := ⟨.hbm, 109, rfl⟩
abbrev main_v96 : Ref sig .tc := ⟨.hbm, 110, rfl⟩
abbrev main_v97 : Ref sig .tc := ⟨.hbm, 111, rfl⟩
abbrev main_v98 : Ref sig .tc := ⟨.hbm, 112, rfl⟩
abbrev main_v99 : Ref sig .tc := ⟨.hbm, 113, rfl⟩
abbrev main_v100 : Ref sig .tc := ⟨.hbm, 114, rfl⟩
abbrev main_v101 : Ref sig .tc := ⟨.hbm, 115, rfl⟩
abbrev main_v102 : Ref sig .tc := ⟨.hbm, 116, rfl⟩
abbrev main_v103 : Ref sig .tc := ⟨.hbm, 117, rfl⟩
abbrev main_v104 : Ref sig .tc := ⟨.hbm, 118, rfl⟩
abbrev main_v105 : Ref sig .tc := ⟨.hbm, 119, rfl⟩
abbrev main_v106 : Ref sig .tc := ⟨.hbm, 120, rfl⟩
abbrev main_v107 : Ref sig .tc := ⟨.hbm, 121, rfl⟩
abbrev main_v108 : Ref sig .tc := ⟨.hbm, 122, rfl⟩
abbrev main_v109 : Ref sig .tc := ⟨.hbm, 123, rfl⟩
abbrev main_v110 : Ref sig .tc := ⟨.hbm, 124, rfl⟩
abbrev main_v111 : Ref sig .tc := ⟨.hbm, 125, rfl⟩
abbrev main_v112 : Ref sig .tc := ⟨.hbm, 126, rfl⟩
abbrev main_v113 : Ref sig .tc := ⟨.hbm, 127, rfl⟩
abbrev main_v114 : Ref sig .tc := ⟨.hbm, 128, rfl⟩
abbrev main_v115 : Ref sig .tc := ⟨.hbm, 129, rfl⟩
abbrev main_v116 : Ref sig .tc := ⟨.hbm, 130, rfl⟩
abbrev main_cst_7 : Ref sig .tc := ⟨.hbm, 131, rfl⟩
abbrev main_v117 : Ref sig .tc := ⟨.hbm, 132, rfl⟩
abbrev main_v118 : Ref sig .tc := ⟨.hbm, 133, rfl⟩
abbrev main_cst_8 : Ref sig .tc := ⟨.hbm, 134, rfl⟩
abbrev main_v119 : Ref sig .tc := ⟨.hbm, 135, rfl⟩
abbrev main_v120 : Ref sig .tc := ⟨.hbm, 136, rfl⟩
abbrev main_v121 : Ref sig .tc := ⟨.hbm, 137, rfl⟩
abbrev main_c_9 : Ref sig .tc := ⟨.hbm, 138, rfl⟩
abbrev main_v122 : Ref sig .tc := ⟨.hbm, 139, rfl⟩
abbrev main_v123 : Ref sig .tc := ⟨.hbm, 140, rfl⟩
abbrev main_v124 : Ref sig .tc := ⟨.hbm, 141, rfl⟩
abbrev main_v125 : Ref sig .tc := ⟨.hbm, 142, rfl⟩
abbrev main_v126 : Ref sig .tc := ⟨.hbm, 143, rfl⟩
abbrev main_v127 : Ref sig .tc := ⟨.hbm, 144, rfl⟩
abbrev main_v128 : Ref sig .tc := ⟨.hbm, 145, rfl⟩
abbrev main_v129 : Ref sig .tc := ⟨.hbm, 146, rfl⟩
abbrev main_v130 : Ref sig .tc := ⟨.hbm, 147, rfl⟩
abbrev main_v131 : Ref sig .tc := ⟨.hbm, 148, rfl⟩
abbrev main_v132 : Ref sig .tc := ⟨.hbm, 149, rfl⟩
abbrev main_v133 : Ref sig .tc := ⟨.hbm, 150, rfl⟩
abbrev main_v134 : Ref sig .tc := ⟨.hbm, 151, rfl⟩
abbrev main_v135 : Ref sig .tc := ⟨.hbm, 152, rfl⟩
abbrev main_v136 : Ref sig .tc := ⟨.hbm, 153, rfl⟩
abbrev main_v137 : Ref sig .tc := ⟨.hbm, 154, rfl⟩
abbrev main_v138 : Ref sig .tc := ⟨.hbm, 155, rfl⟩
abbrev main_v139 : Ref sig .tc := ⟨.hbm, 156, rfl⟩
abbrev main_v140 : Ref sig .tc := ⟨.hbm, 157, rfl⟩
abbrev main_v141 : Ref sig .tc := ⟨.hbm, 158, rfl⟩
abbrev main_v142 : Ref sig .tc := ⟨.hbm, 159, rfl⟩
abbrev main_v143 : Ref sig .tc := ⟨.hbm, 160, rfl⟩
abbrev main_v144 : Ref sig .tc := ⟨.hbm, 161, rfl⟩
abbrev main_v145 : Ref sig .tc := ⟨.hbm, 162, rfl⟩
abbrev main_v146 : Ref sig .tc := ⟨.hbm, 163, rfl⟩
abbrev main_v147 : Ref sig .tc := ⟨.hbm, 164, rfl⟩
abbrev main_v148 : Ref sig .tc := ⟨.hbm, 165, rfl⟩
abbrev main_v149 : Ref sig .tc := ⟨.hbm, 166, rfl⟩
abbrev main_v150 : Ref sig .tc := ⟨.hbm, 167, rfl⟩
abbrev main_v151 : Ref sig .tc := ⟨.hbm, 168, rfl⟩
abbrev main_v152 : Ref sig .tc := ⟨.hbm, 169, rfl⟩
abbrev main_v153 : Ref sig .tc := ⟨.hbm, 170, rfl⟩
abbrev main_v154 : Ref sig .tc := ⟨.hbm, 171, rfl⟩
abbrev main_v155 : Ref sig .tc := ⟨.hbm, 172, rfl⟩
abbrev main_v156 : Ref sig .tc := ⟨.hbm, 173, rfl⟩
abbrev main_cst_10 : Ref sig .tc := ⟨.hbm, 174, rfl⟩
abbrev main_v157 : Ref sig .tc := ⟨.hbm, 175, rfl⟩
abbrev main_v158 : Ref sig .tc := ⟨.hbm, 176, rfl⟩
abbrev main_cst_11 : Ref sig .tc := ⟨.hbm, 177, rfl⟩
abbrev main_v159 : Ref sig .tc := ⟨.hbm, 178, rfl⟩
abbrev main_v160 : Ref sig .tc := ⟨.hbm, 179, rfl⟩
abbrev main_v161 : Ref sig .tc := ⟨.hbm, 180, rfl⟩
abbrev main_v162 : Ref sig .tc := ⟨.hbm, 181, rfl⟩
abbrev main_v163 : Ref sig .tc := ⟨.hbm, 182, rfl⟩
abbrev main_v164 : Ref sig .tc := ⟨.hbm, 183, rfl⟩
abbrev main_v165 : Ref sig .tc := ⟨.hbm, 184, rfl⟩
abbrev main_v166 : Ref sig .tc := ⟨.hbm, 185, rfl⟩
abbrev main_v167 : Ref sig .tc := ⟨.hbm, 186, rfl⟩
abbrev main_v168 : Ref sig .tc := ⟨.hbm, 187, rfl⟩
abbrev main_v169 : Ref sig .tc := ⟨.hbm, 188, rfl⟩
abbrev main_v170 : Ref sig .tc := ⟨.hbm, 189, rfl⟩

abbrev nD : Nat := 1
abbrev τ : Topo := Topo.v7x

variable {F : FTy → Type} [FloatOps F]
-- ==== Proof.KernelIdeal.Run.lean ====
module

public import proofs.«01_k».proof.Proof.Gen.KernelIdeal.Frame
public import proofs.«01_k».proof.Proof.Gen.KernelIdeal.Skeleton
public import proofs.«01_k».proof.Proof.Gen.KernelIdeal.Loops
public import Idealize.ShloMosaic.Lib.Claim

@[expose] public section

set_option maxRecDepth 16384

noncomputable section

namespace Cert.Proof.PI

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

set_option maxHeartbeats 4000000 in
/-- The body run at a point whose number of key chunks is odd: the pieces its stores leave in the result's staging buffer, with the proof that from
    whole staging buffers, the inputs' at their contents, it runs to its end and leaves the inputs' buffers as they were. -/
noncomputable def bodyRunOdd (c : Dev nD) (i : grid0.Coords) (arg2 : Memref sig .tc .vmem S1x128x1024 .bf16) (harg2 : arg2.IsWhole) (arg3 : Memref sig .tc .vmem S1x128x256 .bf16) (harg3 : arg3.IsWhole) (arg4 : Memref sig .tc .vmem S1x8192x512 .bf16) (harg4 : arg4.IsWhole) (arg5 : Memref sig .tc .vmem S1x128x1024 .f32) (harg5 : arg5.IsWhole)
    (x0 : Vec F S1x128x1024 .bf16) (x1 : Vec F S1x128x256 .bf16) (x2 : Vec F S1x8192x512 .bf16)
    (hc1 : k0_cond1 i = 1#1) (hc2 : k0_cond2 i = 1#1) :
    { L3 : List (View.Piece (Elt F) S1x128x1024 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d)
            ∗ (iprop(owns (c : Thread nD τ) arg2 fullShare x0 ∗ owns (c : Thread nD τ) arg3 fullShare x1 ∗ owns (c : Thread nD τ) arg4 fullShare x2 ∗ (∃ f, arg5.view.loc (c : Thread nD τ) ↦[arg5.view.set]{fullShare} arg5.view.writes (Elt F) f L3)) -∗ K ⟨⟩))
          ⊢ wp frame (wpE (defs₀ (F := F)) Variants.none c none) E (cc0_sel_prompt i arg2 harg2 arg3 harg3 arg4 harg4 arg5 harg5) K } := by
  refine ⟨?_, fun E K => ?run⟩
  case run =>
    simp only [cc0_sel_prompt_eq_skeleton]; unfold cc0_sel_prompt_skel
    simp only [k0_part7_eq_skeleton, k0_part14_eq_skeleton, k0_part15_eq_skeleton, k0_part16_eq_skeleton, k0_part17_eq_skeleton, k0_part18_eq_skeleton, k0_part19_eq_skeleton]
    unfold owns
    iintro ⟨⟨%f0, %hf0, H0⟩, ⟨%f1, %hf1, H1⟩, ⟨%f2, %hf2, H2⟩, ⟨%d3, %f3, -, H3⟩, Hk⟩
    obtain rfl := harg2.eq_unread hf0; obtain rfl := harg3.eq_unread hf1; obtain rfl := harg4.eq_unread hf2
    sl_exec (disch := first | sl_exact hc1 | sl_exact hc2)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact H3

set_option maxHeartbeats 4000000 in
/-- The body run at a point whose number of key chunks is even: the pieces its stores leave in the result's staging buffer, with the proof that from
    whole staging buffers, the inputs' at their contents, it runs to its end and leaves the inputs' buffers as they were. -/
noncomputable def bodyRunEven (c : Dev nD) (i : grid0.Coords) (arg2 : Memref sig .tc .vmem S1x128x1024 .bf16) (harg2 : arg2.IsWhole) (arg3 : Memref sig .tc .vmem S1x128x256 .bf16) (harg3 : arg3.IsWhole) (arg4 : Memref sig .tc .vmem S1x8192x512 .bf16) (harg4 : arg4.IsWhole) (arg5 : Memref sig .tc .vmem S1x128x1024 .f32) (harg5 : arg5.IsWhole)
    (x0 : Vec F S1x128x1024 .bf16) (x1 : Vec F S1x128x256 .bf16) (x2 : Vec F S1x8192x512 .bf16)
    (hc1 : ¬ k0_cond1 i = 1#1) (hc2 : ¬ k0_cond2 i = 1#1) :
    { L3 : List (View.Piece (Elt F) S1x128x1024 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d)
            ∗ (iprop(owns (c : Thread nD τ) arg2 fullShare x0 ∗ owns (c : Thread nD τ) arg3 fullShare x1 ∗ owns (c : Thread nD τ) arg4 fullShare x2 ∗ (∃ f, arg5.view.loc (c : Thread nD τ) ↦[arg5.view.set]{fullShare} arg5.view.writes (Elt F) f L3)) -∗ K ⟨⟩))
          ⊢ wp frame (wpE (defs₀ (F := F)) Variants.none c none) E (cc0_sel_prompt i arg2 harg2 arg3 harg3 arg4 harg4 arg5 harg5) K } := by
  refine ⟨?_, fun E K => ?run⟩
  case run =>
    simp only [cc0_sel_prompt_eq_skeleton]; unfold cc0_sel_prompt_skel
    simp only [k0_part15_eq_skeleton, k0_part16_eq_skeleton, k0_part17_eq_skeleton, k0_part18_eq_skeleton, k0_part19_eq_skeleton]
    unfold owns
    iintro ⟨⟨%f0, %hf0, H0⟩, ⟨%f1, %hf1, H1⟩, ⟨%f2, %hf2, H2⟩, ⟨%d3, %f3, -, H3⟩, Hk⟩
    obtain rfl := harg2.eq_unread hf0; obtain rfl := harg3.eq_unread hf1; obtain rfl := harg4.eq_unread hf2
    sl_exec (disch := first | sl_exact hc1 | sl_exact hc2)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact H3

end Cert.Proof.PI

end
-- ==== Proof.KernelIdeal.Frame.lean ====
module

public import proofs.«01_k».proof.Proof.KernelIdeal.Run
public import Idealize.ShloMosaic.Lib.Pipeline.Value
public import Idealize.ShloMosaic.Lib.Claim

@[expose] public section

set_option maxRecDepth 16384

noncomputable section

namespace Cert.Proof.PI

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-- One staging buffer of output window 3, through which its contents are stated (`View.read_writes_of_cover`: the
    choice does not matter). -/
abbrev VO0_3 : View sig .tc .vmem S1x128x1024 .f32 := (Memref.whole cc0_stg3_0 : Memref sig .tc .vmem S1x128x1024 .f32).view
/-- Each window's current staging memref at point `t`, spelled as the pipeline passes it (`bodyAt0`), and its wholeness. -/
abbrev ms0_0 (t : Fin cfg0.N) : Memref sig .tc .vmem S1x128x1024 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x128x256 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x8192x512 .bf16 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x128x1024 .f32 := win0_3.stage (cfg0.slots t 3)
abbrev hs0_3 (t : Fin cfg0.N) : (ms0_3 t).IsWhole := hstage0_3 ((cfg0.slots t 3).cast nbuf0_3)

/-- The two conditions of the body, in closed form over the grid: at point `t` the number of key chunks is
    `t % 64 / 4 + 1`, which is odd when `t % 64 / 4` is even. -/
theorem cond1_iff : ∀ t : Fin cfg0.N, k0_cond1 (grid0.coords t) = 1#1 ↔ t.val % 64 / 4 % 2 = 0 :=
  (by decide +kernel : ∀ t : Fin grid0.N, k0_cond1 (grid0.coords t) = 1#1 ↔ t.val % 64 / 4 % 2 = 0)
theorem cond2_iff : ∀ t : Fin cfg0.N, k0_cond2 (grid0.coords t) = 1#1 ↔ t.val % 64 / 4 % 2 = 0 :=
  (by decide +kernel : ∀ t : Fin grid0.N, k0_cond2 (grid0.coords t) = 1#1 ↔ t.val % 64 / 4 % 2 = 0)
/-- The second condition is the first. -/
theorem cond2_of_cond1 (t : Fin cfg0.N) (h : k0_cond1 (grid0.coords t) = 1#1) : k0_cond2 (grid0.coords t) = 1#1 :=
  (cond2_iff t).mpr ((cond1_iff t).mp h)
theorem not_cond2_of_not_cond1 (t : Fin cfg0.N) (h : ¬ k0_cond1 (grid0.coords t) = 1#1) : ¬ k0_cond2 (grid0.coords t) = 1#1 :=
  fun h2 => h ((cond1_iff t).mpr ((cond2_iff t).mp h2))

/-- The eight stores of the body tile the result's block. -/
theorem coverOdd (c : Dev nD) (i : grid0.Coords) (arg2 : Memref sig .tc .vmem S1x128x1024 .bf16) (harg2 : arg2.IsWhole) (arg3 : Memref sig .tc .vmem S1x128x256 .bf16) (harg3 : arg3.IsWhole) (arg4 : Memref sig .tc .vmem S1x8192x512 .bf16) (harg4 : arg4.IsWhole) (arg5 : Memref sig .tc .vmem S1x128x1024 .f32) (harg5 : arg5.IsWhole)
    (x0 : Vec F S1x128x1024 .bf16) (x1 : Vec F S1x128x256 .bf16) (x2 : Vec F S1x8192x512 .bf16)
    (hc1 : k0_cond1 i = 1#1) (hc2 : k0_cond2 i = 1#1) (y : S1x128x1024.Idx) :
    ∃ pc ∈ (bodyRunOdd c i arg2 harg2 arg3 harg3 arg4 harg4 arg5 harg5 x0 x1 x2 hc1 hc2).1, y ∈ pc.1.set :=
  View.cover_of_tiledL (bodyRunOdd c i arg2 harg2 arg3 harg3 arg4 harg4 arg5 harg5 x0 x1 x2 hc1 hc2).1 S1x128x128.size (by sl_kernel_rfl) y

/-- What the body leaves in the result's staging buffer. -/
def outOdd (c : Dev nD) (i : grid0.Coords) (arg2 : Memref sig .tc .vmem S1x128x1024 .bf16) (harg2 : arg2.IsWhole) (arg3 : Memref sig .tc .vmem S1x128x256 .bf16) (harg3 : arg3.IsWhole) (arg4 : Memref sig .tc .vmem S1x8192x512 .bf16) (harg4 : arg4.IsWhole) (arg5 : Memref sig .tc .vmem S1x128x1024 .f32) (harg5 : arg5.IsWhole)
    (x0 : Vec F S1x128x1024 .bf16) (x1 : Vec F S1x128x256 .bf16) (x2 : Vec F S1x8192x512 .bf16)
    (hc1 : k0_cond1 i = 1#1) (hc2 : k0_cond2 i = 1#1) : Vec F S1x128x1024 .f32 :=
  VO0_3.read (Elt F) (VO0_3.writes (Elt F) VO0_3.junk (bodyRunOdd c i arg2 harg2 arg3 harg3 arg4 harg4 arg5 harg5 x0 x1 x2 hc1 hc2).1)

/-- The eight stores of the body tile the result's block. -/
theorem coverEven (c : Dev nD) (i : grid0.Coords) (arg2 : Memref sig .tc .vmem S1x128x1024 .bf16) (harg2 : arg2.IsWhole) (arg3 : Memref sig .tc .vmem S1x128x256 .bf16) (harg3 : arg3.IsWhole) (arg4 : Memref sig .tc .vmem S1x8192x512 .bf16) (harg4 : arg4.IsWhole) (arg5 : Memref sig .tc .vmem S1x128x1024 .f32) (harg5 : arg5.IsWhole)
    (x0 : Vec F S1x128x1024 .bf16) (x1 : Vec F S1x128x256 .bf16) (x2 : Vec F S1x8192x512 .bf16)
    (hc1 : ¬ k0_cond1 i = 1#1) (hc2 : ¬ k0_cond2 i = 1#1) (y : S1x128x1024.Idx) :
    ∃ pc ∈ (bodyRunEven c i arg2 harg2 arg3 harg3 arg4 harg4 arg5 harg5 x0 x1 x2 hc1 hc2).1, y ∈ pc.1.set :=
  View.cover_of_tiledL (bodyRunEven c i arg2 harg2 arg3 harg3 arg4 harg4 arg5 harg5 x0 x1 x2 hc1 hc2).1 S1x128x128.size (by sl_kernel_rfl) y

/-- What the body leaves in the result's staging buffer. -/
def outEven (c : Dev nD) (i : grid0.Coords) (arg2 : Memref sig .tc .vmem S1x128x1024 .bf16) (harg2 : arg2.IsWhole) (arg3 : Memref sig .tc .vmem S1x128x256 .bf16) (harg3 : arg3.IsWhole) (arg4 : Memref sig .tc .vmem S1x8192x512 .bf16) (harg4 : arg4.IsWhole) (arg5 : Memref sig .tc .vmem S1x128x1024 .f32) (harg5 : arg5.IsWhole)
    (x0 : Vec F S1x128x1024 .bf16) (x1 : Vec F S1x128x256 .bf16) (x2 : Vec F S1x8192x512 .bf16)
    (hc1 : ¬ k0_cond1 i = 1#1) (hc2 : ¬ k0_cond2 i = 1#1) : Vec F S1x128x1024 .f32 :=
  VO0_3.read (Elt F) (VO0_3.writes (Elt F) VO0_3.junk (bodyRunEven c i arg2 harg2 arg3 harg3 arg4 harg4 arg5 harg5 x0 x1 x2 hc1 hc2).1)

/-- What the result's staging buffer holds after the body at point `t`. -/
def outsAt0 (c : Dev nD) (t : Fin cfg0.N) : Vec F S1x128x1024 .f32 :=
  if h : k0_cond1 (grid0.coords t) = 1#1 then
    outOdd c (grid0.coords t) (ms0_0 t) (hs0_0 t) (ms0_1 t) (hs0_1 t) (ms0_2 t) (hs0_2 t) (ms0_3 t) (hs0_3 t) (iblk m c 0 t) (iblk m c 1 t) (iblk m c 2 t) h (cond2_of_cond1 t h)
  else
    outEven c (grid0.coords t) (ms0_0 t) (hs0_0 t) (ms0_1 t) (hs0_1 t) (ms0_2 t) (hs0_2 t) (ms0_3 t) (hs0_3 t) (iblk m c 0 t) (iblk m c 1 t) (iblk m c 2 t) h (not_cond2_of_not_cond1 t h)

/-- The proof data of the one pipeline on core `c`: the arrays as the region finds them (`V`); after the body at
    point `t` each input's buffer at its block and the outputs' at `outsAt0`; the invariant that of
    the pipeline's arrays; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => (outsAt0 m c t)
  Φ _ := Pipeline.ΦA spec0 c
  q _ := fullShare
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- What the body leaves, window by window (the proof data's `match` reduced by `dsimp`). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = (outsAt0 m c t) := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d

/-! ## The body obligation, at a generic point -/

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d)))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t))

/-- The body at any point: the inputs' memrefs hold their blocks (`before0_W`); so the
    run applies; the invariant passes through unread; the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2]
  rw [show (dats m 0 c).Φ t.succ = (dats m 0 c).Φ t.castSucc from rfl,
    show (dats m 0 c).owesAt () t.succ = (dats m 0 c).owesAt () t.castSucc from rfl,
    after0_0, after0_1, after0_2, after0_3]
  by_cases h : k0_cond1 (grid0.coords t) = 1#1
  · rw [outsAt0, dif_pos h]
    unfold outOdd
    iintro ⟨HΦ, Ho, ⟨%d0, H0⟩, ⟨%d1, H1⟩, ⟨%d2, H2⟩, ⟨%d3, H3⟩⟩
    iapply ((bodyRunOdd c (grid0.coords t) _ _ _ _ _ _ _ _ (iblk m c 0 t) (iblk m c 1 t) (iblk m c 2 t) h (cond2_of_cond1 t h)).2 Set.univ _)
    isplitl [H0]; · iexact H0
    isplitl [H1]; · iexact H1
    isplitl [H2]; · iexact H2
    isplitl [H3]; · iexists _; iexact H3
    iintro ⟨H0, H1, H2, ⟨%e3, H3⟩⟩
    isplitl [HΦ]; · iexact HΦ
    isplitl [Ho]; · iexact Ho
    isplitl [H0]; · iexact H0
    isplitl [H1]; · iexact H1
    isplitl [H2]; · iexact H2
    unfold owns; iexists _; isplitr
    swap; · iexact H3
    ipureintro; exact View.read_writes_of_cover _ _ _ _ _ (coverOdd c _ _ _ _ _ _ _ _ _ _ _ _ _ _)
  · rw [outsAt0, dif_neg h]
    unfold outEven
    iintro ⟨HΦ, Ho, ⟨%d0, H0⟩, ⟨%d1, H1⟩, ⟨%d2, H2⟩, ⟨%d3, H3⟩⟩
    iapply ((bodyRunEven c (grid0.coords t) _ _ _ _ _ _ _ _ (iblk m c 0 t) (iblk m c 1 t) (iblk m c 2 t) h (not_cond2_of_not_cond1 t h)).2 Set.univ _)
    isplitl [H0]; · iexact H0
    isplitl [H1]; · iexact H1
    isplitl [H2]; · iexact H2
    isplitl [H3]; · iexists _; iexact H3
    iintro ⟨H0, H1, H2, ⟨%e3, H3⟩⟩
    isplitl [HΦ]; · iexact HΦ
    isplitl [Ho]; · iexact Ho
    isplitl [H0]; · iexact H0
    isplitl [H1]; · iexact H1
    isplitl [H2]; · iexact H2
    unfold owns; iexists _; isplitr
    swap; · iexact H3
    ipureintro; exact View.read_writes_of_cover _ _ _ _ _ (coverEven c _ _ _ _ _ _ _ _ _ _ _ _ _ _)

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run and the frame -/

-- `θ_run_frame`'s implicit arguments are found by unifying its conclusion with this one, which takes unfolding plain
-- definitions in a metavariable's type
set_option backward.isDefEq.respectTransparency.types false in
/-- THE LAUNCH: `run_main`'s statement, and every semaphore counter of the machine at zero at every final state. -/
theorem run_main_quiescent : θ_run defs (onTc (τ := τ) (main (F := F))) (s₀ m ρ) (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- At the compiled mesh, for any values, from any memory with zero counters: every weakly fair execution of @main on the
    TensorCores terminates, and every final state has every array of the pipeline at what the library computes from the
    proof data and every other unscoped buffer as the region found it. -/
theorem run_main : θ_run defs (onTc (τ := τ) (main (F := F))) (s₀ m ρ) (Pipeline.FramePost cfgs (dats m) 0 (V m)) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  frame_of m ρ (dats m) (A_eq m) (run_main m ρ)

/-- From any memory with zero counters the program runs to its end, leaves its arguments as they were and every
    semaphore counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  θ_run_and (unchanged m ρ) ((θ_run defs _ _).mono (fun _ h => h.2) (run_main_quiescent m ρ))

/-- The index map sends distinct grid points to distinct block indices (decided over the 128 points). -/
theorem idx_inj3 : ∀ t t' : Fin cfg0.N, win0_3.index t = win0_3.index t' → t = t' :=
  (by decide +kernel : ∀ t t' : Fin grid0.N, win0_3.index t = win0_3.index t' → t = t')

/-- So two flushing points' blocks share no array index. -/
theorem disjoint3 : ∀ t t' : Fin cfg0.N, (cfg0.win 3).flush t = true → (cfg0.win 3).flush t' = true → t ≠ t' →
    Disjoint ((cfg0.win 3).blk t).view.set ((cfg0.win 3).blk t').view.set :=
  fun t t' _ _ hne => (cfg0.win 3).disjoint_blk fun h => hne (idx_inj3 t t' h)

/-- BLOCK `t` OF THE FINAL ARRAY, read back through the window, is what point `t` wrote back (`flushed3`), for every
    point that writes back: no other point's block meets it. -/
theorem blocks3 (c : Dev nD) (t : Fin cfg0.N) (hf : (cfg0.win 3).flush t = true) :
    ((cfg0.win 3).blk t).view.read (Elt F) ((dats m 0 c).arrAt 3 cfg0.N) = (dats m 0 c).flushed 3 t :=
  (dats m 0 c).read_blk_arrAt_eq_flushed 3 disjoint3 cfg0.N t t.isLt hf

/-- After the frame run, output window 3's array is `(dats m 0 c).arrAt 3 N`. -/
theorem post3 (r : PUnit × MemSt nD τ sig (Elt F)) (h : Pipeline.FramePost cfgs (dats m) 0 (V m) r) (c : Dev nD) :
    r.2.mem ((c : Thread nD τ).loc main_v0) = (dats m 0 c).arrAt 3 cfg0.N :=
  (h c).1 3

/-- After the frame run, argument `main_arg0` is as launched: input window 0 stages it and never writes it back. -/
theorem kept_main_arg0 (r : PUnit × MemSt nD τ sig (Elt F)) (h : Pipeline.FramePost cfgs (dats m) 0 (V m) r) (c : Dev nD) :
    r.2.mem ((c : Thread nD τ).loc main_arg0) = m ((c : Thread nD τ).loc main_arg0) :=
  ((h c).1 0).trans (((dats m 0 c).arrAt_in 0 rfl _).trans ((A_eq m c 0).trans (V_main_arg0 m c)))

/-- After the frame run, argument `main_arg1` is as launched: input window 1 stages it and never writes it back. -/
theorem kept_main_arg1 (r : PUnit × MemSt nD τ sig (Elt F)) (h : Pipeline.FramePost cfgs (dats m) 0 (V m) r) (c : Dev nD) :
    r.2.mem ((c : Thread nD τ).loc main_arg1) = m ((c : Thread nD τ).loc main_arg1) :=
  ((h c).1 1).trans (((dats m 0 c).arrAt_in 1 rfl _).trans ((A_eq m c 1).trans (V_main_arg1 m c)))

/-- After the frame run, argument `main_arg2` is as launched: input window 2 stages it and never writes it back. -/
theorem kept_main_arg2 (r : PUnit × MemSt nD τ sig (Elt F)) (h : Pipeline.FramePost cfgs (dats m) 0 (V m) r) (c : Dev nD) :
    r.2.mem ((c : Thread nD τ).loc main_arg2) = m ((c : Thread nD τ).loc main_arg2) :=
  ((h c).1 2).trans (((dats m 0 c).arrAt_in 2 rfl _).trans ((A_eq m c 2).trans (V_main_arg2 m c)))

/-- The frame run with each output array after the run NAMED — `(dats m 0 c).arrAt w N`, which `blocks_w` / `entry_w` read —,
    the arguments unchanged. -/
theorem run_blocks : θ_run defs (onTc (τ := τ) (main (F := F))) ⟨m, fun _ => 0, ρ⟩ fun r => ∀ c : Dev nD,
      r.2.mem ((c : Thread nD τ).loc main_v0) = (dats m 0 c).arrAt 3 cfg0.N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨post3 m r h c,
      kept_main_arg0 m r h c,
      kept_main_arg1 m r h c,
      kept_main_arg2 m r h c⟩)
    (run_main m ρ)

end Cert.Proof.PI

end
-- ==== Proof.KernelIdeal.Chunk.lean ====
module

public import proofs.«01_k».proof.Proof.KernelIdeal.Frame

@[expose] public section

set_option maxRecDepth 16384

noncomputable section

namespace Cert.Proof.PI

open Cert.KernelIdeal Cert.KernelIdeal.Gen
open Idealize.ShloMosaic Idealize.ShloMosaic.TcCoe Idealize.ShloMosaic.Tactic
open Idealize.ShloMosaic.Pipeline (Dat Cfg Window BodyObligation cellOf)

variable {F : FTy → Type} [FloatOps F] [Named F]

/-- What a group's loop carries: the running maximum, the running sum and the accumulator. -/
abbrev St (F : FTy → Type) : Type :=
  FVec F S512x1 .f32 × FVec F S512x1 .f32 × FVec F S512x128 .f32

/-- The float 1. -/
abbrev oneF : F .f32 := Scalar.ofBits .f32 0x3F800000#32

/-- The float 0. -/
abbrev zeroF : F .f32 := Scalar.ofBits .f32 0x00000000#32

/-- Chunk `v174`: at (block, lane), whether the lane's key lies in that block, 8 blocks of 64 keys
   to the chunk. -/
def eqF (v174 : BitVec 32) : IVec S128x512 1 :=
  let v183 : BitVec 32 := Scalar.muli v174 8#32
  have v184 : IVec S128x512 32 := iota .tc S128x512 32 [0] iota_S128x512_d0_w32
  have v185 : IVec S128x512 32 := iota .tc S128x512 32 [1] iota_S128x512_d1_w32
  have v186 : IVec S128x512 32 := broadcast S128x512 64#32
  have v187 : IVec S128x512 32 := divsi v185 v186
  have v188 : IVec S128x512 32 := broadcast S128x512 0#32
  have v189 : IVec S128x512 1 := cmpi .sgt v185 v188
  have v190 : IVec S128x512 32 := extui 32 v189 natLt_1_32
  have v191 : IVec S128x512 32 := broadcast S128x512 0#32
  have v192 : IVec S128x512 1 := cmpi .slt v185 v191
  have v193 : IVec S128x512 32 := extui 32 v192 natLt_1_32
  have v194 : IVec S128x512 32 := subi v190 v193
  let v195 : BitVec 1 := Scalar.cmpi .sgt 64#32 0#32
  let v196 : BitVec 32 := Scalar.extui v195
  let v197 : BitVec 1 := Scalar.cmpi .slt 64#32 0#32
  let v198 : BitVec 32 := Scalar.extui v197
  let v199 : BitVec 32 := Scalar.subi v196 v198
  have v200 : IVec S128x512 32 := broadcast S128x512 v199
  have v201 : IVec S128x512 1 := cmpi .ne v194 v200
  have v202 : IVec S128x512 32 := broadcast S128x512 64#32
  have v203 : IVec S128x512 32 := remsi v185 v202
  have v204 : IVec S128x512 32 := broadcast S128x512 0#32
  have v205 : IVec S128x512 1 := cmpi .ne v203 v204
  have v206 : IVec S128x512 1 := andi v201 v205
  have v207 : IVec S128x512 32 := broadcast S128x512 1#32
  have v208 : IVec S128x512 32 := subi v187 v207
  have v209 : IVec S128x512 32 := select v206 v208 v187
  have v210 : IVec S128x512 32 := broadcast S128x512 v183
  have v211 : IVec S128x512 32 := addi v210 v209
  have v212 : IVec S128x512 1 := cmpi .eq v184 v211
  v212

/-- The carried values after a chunk's keys `k` and values `v`, for queries `q` at positions `pos`
   whose selection rows are `sel`; `c` is the chunk's number, `lane` a lane's place in it. -/
def chunkF (q : FVec F S512x128 .bf16) (sel : FVec F S128x128 .bf16) (pos : IVec S128x1 32)
    (lane : IVec S1x512 32) (k v : FVec F S512x128 .bf16) (c : BitVec 32) (st : St F) : St F :=
  (k0_pay6 pos lane q sel st.1 (Scalar.muli c 512#32) k (eqF c) oneF zeroF,
   k0_pay10 pos lane q sel st.1 st.2.1 (Scalar.muli c 512#32) k (eqF c) oneF zeroF,
   k0_pay11 pos lane q sel st.1 st.2.2 (Scalar.muli c 512#32) k v (eqF c) oneF zeroF)

/-- A group's carried values before the first chunk. -/
def init0 : St F := (k0_pay71, k0_pay72, k0_pay73)

/-- A block of 512 keys' rows, 128 columns, read from the array at an offset. -/
def rowsAt (arg4 : Memref sig .tc .vmem S1x8192x512 .bf16)
    (X : BufTy.Contents (Elt F) arg4.view.ty) (off : Fin 3 → Nat)
    (h : ∀ a, off a + S1x512x128.size a ≤ S1x8192x512.size a) : FVec F S512x128 .bf16 :=
  shapeCast S512x128 (View.readAt (Elt F) arg4.view
    (Rect.unit (s := S1x8192x512) off S1x512x128.size h).toLoadRect X) shapeCasts_S1x512x128_S512x128

/-- A trip of the loop over pairs of chunks is two chunks, the even one first. -/
theorem trip_t1 (𝒱 : Variants) (cd : Dev nD) (bd : Option 𝒱.V) (i : grid0.Coords)
    (arg2 : Memref sig .tc .vmem S1x128x1024 .bf16) (harg2 : arg2.IsWhole)
    (arg3 : Memref sig .tc .vmem S1x128x256 .bf16) (harg3 : arg3.IsWhole)
    (arg4 : Memref sig .tc .vmem S1x8192x512 .bf16) (harg4 : arg4.IsWhole)
    (arg5 : Memref sig .tc .vmem S1x128x1024 .f32) (harg5 : arg5.IsWhole)
    (v3 : IVec S128x1 32) (v24 : BitVec 32) (v25 : IVec S1x512 32)
    (v27 : FVec F S128x128 .bf16) (v29 : FVec F S128x128 .bf16) (v31 : FVec F S128x128 .bf16) (v33 : FVec F S128x128 .bf16) (v35 : Vec F S1x128x128 .bf16)
    (X : BufTy.Contents (Elt F) arg4.view.ty) (k : Fin (k0_t1_loop i).trips) (acc : St F) :
    tripR_k0_t1 (F := F) 𝒱 cd bd i arg2 harg2 arg3 harg3 arg4 harg4 arg5 harg5 v3 v24 v25
      v27 v29 v31 v33 v35 X k acc
    = chunkF (k0_pay69 v27 v29 v31 v33) (k0_pay70 v35) v3 v25
        (rowsAt arg4 X (k0_off3 i k) (k0_off3_inb i k))
        (rowsAt arg4 X (k0_off4 i k) (k0_off4_inb i k))
        (Scalar.addi (Scalar.muli 2#32 (Scf.iv 0#32 1#32 k)) 1#32)
        (chunkF (k0_pay69 v27 v29 v31 v33) (k0_pay70 v35) v3 v25
          (rowsAt arg4 X (k0_off1 i k) (k0_off1_inb i k))
          (rowsAt arg4 X (k0_off2 i k) (k0_off2_inb i k))
          (Scalar.muli 2#32 (Scf.iv 0#32 1#32 k)) acc) := by
  obtain ⟨a, b, d⟩ := acc
  unfold tripR_k0_t1 trip_k0_t1
  rfl

/-- A trip of the loop over pairs of chunks is two chunks, the even one first. -/
theorem trip_t3 (𝒱 : Variants) (cd : Dev nD) (bd : Option 𝒱.V) (i : grid0.Coords)
    (arg2 : Memref sig .tc .vmem S1x128x1024 .bf16) (harg2 : arg2.IsWhole)
    (arg3 : Memref sig .tc .vmem S1x128x256 .bf16) (harg3 : arg3.IsWhole)
    (arg4 : Memref sig .tc .vmem S1x8192x512 .bf16) (harg4 : arg4.IsWhole)
    (arg5 : Memref sig .tc .vmem S1x128x1024 .f32) (harg5 : arg5.IsWhole)
    (v3 : IVec S128x1 32) (v24 : BitVec 32) (v25 : IVec S1x512 32)
    (v101 : FVec F S128x128 .bf16) (v103 : FVec F S128x128 .bf16) (v104 : Vec F S1x128x128 .bf16) (v106 : Vec F S1x128x128 .bf16) (v109 : Vec F S1x128x128 .bf16)
    (X : BufTy.Contents (Elt F) arg4.view.ty) (k : Fin (k0_t3_loop i).trips) (acc : St F) :
    tripR_k0_t3 (F := F) 𝒱 cd bd i arg2 harg2 arg3 harg3 arg4 harg4 arg5 harg5 v3 v24 v25
      v101 v103 v104 v106 v109 X k acc
    = chunkF (k0_pay101 v101 v103 v104 v106) (k0_pay102 v109) v3 v25
        (rowsAt arg4 X (k0_off13 i k) (k0_off13_inb i k))
        (rowsAt arg4 X (k0_off14 i k) (k0_off14_inb i k))
        (Scalar.addi (Scalar.muli 2#32 (Scf.iv 0#32 1#32 k)) 1#32)
        (chunkF (k0_pay101 v101 v103 v104 v106) (k0_pay102 v109) v3 v25
          (rowsAt arg4 X (k0_off11 i k) (k0_off11_inb i k))
          (rowsAt arg4 X (k0_off12 i k) (k0_off12_inb i k))
          (Scalar.muli 2#32 (Scf.iv 0#32 1#32 k)) acc) := by
  obtain ⟨a, b, d⟩ := acc
  unfold tripR_k0_t3 trip_k0_t3
  rfl

end Cert.Proof.PI
-- ==== Proof.KernelIdeal.Group.lean ====
module

public import proofs.«01_k».proof.Proof.KernelIdeal.Chunk

@[expose] public section

set_option maxRecDepth 16384

noncomputable section

namespace Cert.Proof.PI

open Cert.KernelIdeal Cert.KernelIdeal.Gen
open Idealize.ShloMosaic Idealize.ShloMosaic.TcCoe Idealize.ShloMosaic.Tactic
open Idealize.ShloMosaic.Pipeline (Dat Cfg Window BodyObligation cellOf)

variable {F : FTy → Type} [FloatOps F] [Named F]

/-- The positions of a block's queries. -/
abbrev posI (i : grid0.Coords) : IVec S128x1 32 := bodyRunOdd.sl.v3 i

/-- A lane's place in its chunk. -/
abbrev laneI : IVec S1x512 32 := bodyRunOdd.sl.v25

/-- The number of chunks at a grid point. -/
abbrev nI (i : grid0.Coords) : BitVec 32 := bodyRunOdd.sl.v24 i

/-- One head's queries, as loaded. -/
abbrev qLoad (arg2 : Memref sig .tc .vmem S1x128x1024 .bf16) (harg2 : arg2.IsWhole) (x0 : Vec F S1x128x1024 .bf16)
    (off : Fin 3 → Nat) (h : ∀ a, off a + S1x128x128.size a ≤ S1x128x1024.size a) : Vec F S1x128x128 .bf16 :=
  View.readAt (Elt F) arg2.view (Rect.unit (s := S1x128x1024) off S1x128x128.size h).toLoadRect (harg2.unread x0)

/-- One key head's selection rows, as loaded. -/
abbrev sLoad (arg3 : Memref sig .tc .vmem S1x128x256 .bf16) (harg3 : arg3.IsWhole) (x1 : Vec F S1x128x256 .bf16)
    (off : Fin 3 → Nat) (h : ∀ a, off a + S1x128x128.size a ≤ S1x128x256.size a) : Vec F S1x128x128 .bf16 :=
  View.readAt (Elt F) arg3.view (Rect.unit (s := S1x128x256) off S1x128x128.size h).toLoadRect (harg3.unread x1)

/-- One head's queries as a matrix. -/
abbrev qMat (arg2 : Memref sig .tc .vmem S1x128x1024 .bf16) (harg2 : arg2.IsWhole) (x0 : Vec F S1x128x1024 .bf16)
    (off : Fin 3 → Nat) (h : ∀ a, off a + S1x128x128.size a ≤ S1x128x1024.size a) : FVec F S128x128 .bf16 :=
  shapeCast S128x128 (qLoad arg2 harg2 x0 off h) shapeCasts_S1x128x128_S128x128

/-- The queries of key head 0's four heads. -/
def q0 (arg2 : Memref sig .tc .vmem S1x128x1024 .bf16) (harg2 : arg2.IsWhole) (x0 : Vec F S1x128x1024 .bf16) :
    FVec F S512x128 .bf16 :=
  k0_pay69 (qMat arg2 harg2 x0 ![0, 0, 0] inb_S1x128x1024_S1x128x128_0_0_0) (qMat arg2 harg2 x0 ![0, 0, 128] inb_S1x128x1024_S1x128x128_0_0_128) (qMat arg2 harg2 x0 ![0, 0, 256] inb_S1x128x1024_S1x128x128_0_0_256) (qMat arg2 harg2 x0 ![0, 0, 384] inb_S1x128x1024_S1x128x128_0_0_384)

/-- The selection rows of key head 0. -/
def s0 (arg3 : Memref sig .tc .vmem S1x128x256 .bf16) (harg3 : arg3.IsWhole) (x1 : Vec F S1x128x256 .bf16) :
    FVec F S128x128 .bf16 :=
  k0_pay70 (sLoad arg3 harg3 x1 ![0, 0, 0] inb_S1x128x256_S1x128x128_0_0_0)

/-- Key head 0's carried values after the loop over pairs of chunks. -/
def pairs0 (c : Dev nD) (i : grid0.Coords)
    (arg2 : Memref sig .tc .vmem S1x128x1024 .bf16) (harg2 : arg2.IsWhole)
    (arg3 : Memref sig .tc .vmem S1x128x256 .bf16) (harg3 : arg3.IsWhole)
    (arg4 : Memref sig .tc .vmem S1x8192x512 .bf16) (harg4 : arg4.IsWhole)
    (arg5 : Memref sig .tc .vmem S1x128x1024 .f32) (harg5 : arg5.IsWhole)
    (x0 : Vec F S1x128x1024 .bf16) (x1 : Vec F S1x128x256 .bf16) (x2 : Vec F S1x8192x512 .bf16) : St F :=
  st_k0_t1 Variants.none c none i arg2 harg2 arg3 harg3 arg4 harg4 arg5 harg5 (posI i) (nI i) laneI
    (qMat arg2 harg2 x0 ![0, 0, 0] inb_S1x128x1024_S1x128x128_0_0_0) (qMat arg2 harg2 x0 ![0, 0, 128] inb_S1x128x1024_S1x128x128_0_0_128) (qMat arg2 harg2 x0 ![0, 0, 256] inb_S1x128x1024_S1x128x128_0_0_256) (qMat arg2 harg2 x0 ![0, 0, 384] inb_S1x128x1024_S1x128x128_0_0_384)
    (sLoad arg3 harg3 x1 ![0, 0, 0] inb_S1x128x256_S1x128x128_0_0_0) (harg4.unread x2) init0
    (k0_t1_loop i).trips

/-- The same after the loop over the chunks the pairs leave, which has no trips. -/
def mid0 (c : Dev nD) (i : grid0.Coords)
    (arg2 : Memref sig .tc .vmem S1x128x1024 .bf16) (harg2 : arg2.IsWhole)
    (arg3 : Memref sig .tc .vmem S1x128x256 .bf16) (harg3 : arg3.IsWhole)
    (arg4 : Memref sig .tc .vmem S1x8192x512 .bf16) (harg4 : arg4.IsWhole)
    (arg5 : Memref sig .tc .vmem S1x128x1024 .f32) (harg5 : arg5.IsWhole)
    (x0 : Vec F S1x128x1024 .bf16) (x1 : Vec F S1x128x256 .bf16) (x2 : Vec F S1x8192x512 .bf16) : St F :=
  st_k0_t2 Variants.none c none i arg2 harg2 arg3 harg3 arg4 harg4 arg5 harg5 (posI i) (nI i) laneI
    (qMat arg2 harg2 x0 ![0, 0, 0] inb_S1x128x1024_S1x128x128_0_0_0) (qMat arg2 harg2 x0 ![0, 0, 128] inb_S1x128x1024_S1x128x128_0_0_128) (qMat arg2 harg2 x0 ![0, 0, 256] inb_S1x128x1024_S1x128x128_0_0_256) (qMat arg2 harg2 x0 ![0, 0, 384] inb_S1x128x1024_S1x128x128_0_0_384)
    (sLoad arg3 harg3 x1 ![0, 0, 0] inb_S1x128x256_S1x128x128_0_0_0) (bodyRunOdd.sl.v61 i) (harg4.unread x2) (pairs0 c i arg2 harg2 arg3 harg3 arg4 harg4 arg5 harg5 x0 x1 x2)
    (k0_t2_loop i).trips

/-- The same after the last chunk, where the number of chunks is odd. -/
def last0 (c : Dev nD) (i : grid0.Coords)
    (arg2 : Memref sig .tc .vmem S1x128x1024 .bf16) (harg2 : arg2.IsWhole)
    (arg3 : Memref sig .tc .vmem S1x128x256 .bf16) (harg3 : arg3.IsWhole)
    (arg4 : Memref sig .tc .vmem S1x8192x512 .bf16) (harg4 : arg4.IsWhole)
    (arg5 : Memref sig .tc .vmem S1x128x1024 .f32) (harg5 : arg5.IsWhole)
    (x0 : Vec F S1x128x1024 .bf16) (x1 : Vec F S1x128x256 .bf16) (x2 : Vec F S1x8192x512 .bf16) (hc : k0_cond1 i = 1#1) : St F :=
  chunkF (q0 arg2 harg2 x0) (s0 arg3 harg3 x1) (posI i) laneI
    (rowsAt arg4 (harg4.unread x2) (k0_off9 i) (k0_off9_inb i hc))
    (rowsAt arg4 (harg4.unread x2) (k0_off10 i) (k0_off10_inb i hc))
    (Scalar.subi (nI i) 1#32) (mid0 c i arg2 harg2 arg3 harg3 arg4 harg4 arg5 harg5 x0 x1 x2)

/-- The queries of key head 1's four heads. -/
def q1 (arg2 : Memref sig .tc .vmem S1x128x1024 .bf16) (harg2 : arg2.IsWhole) (x0 : Vec F S1x128x1024 .bf16) :
    FVec F S512x128 .bf16 :=
  k0_pay101 (qMat arg2 harg2 x0 ![0, 0, 512] inb_S1x128x1024_S1x128x128_0_0_512) (qMat arg2 harg2 x0 ![0, 0, 640] inb_S1x128x1024_S1x128x128_0_0_640) (qLoad arg2 harg2 x0 ![0, 0, 768] inb_S1x128x1024_S1x128x128_0_0_768) (qLoad arg2 harg2 x0 ![0, 0, 896] inb_S1x128x1024_S1x128x128_0_0_896)

/-- The selection rows of key head 1. -/
def s1 (arg3 : Memref sig .tc .vmem S1x128x256 .bf16) (harg3 : arg3.IsWhole) (x1 : Vec F S1x128x256 .bf16) :
    FVec F S128x128 .bf16 :=
  k0_pay102 (sLoad arg3 harg3 x1 ![0, 0, 128] inb_S1x128x256_S1x128x128_0_0_128)

/-- Key head 1's carried values after the loop over pairs of chunks. -/
def pairs1 (c : Dev nD) (i : grid0.Coords)
    (arg2 : Memref sig .tc .vmem S1x128x1024 .bf16) (harg2 : arg2.IsWhole)
    (arg3 : Memref sig .tc .vmem S1x128x256 .bf16) (harg3 : arg3.IsWhole)
    (arg4 : Memref sig .tc .vmem S1x8192x512 .bf16) (harg4 : arg4.IsWhole)
    (arg5 : Memref sig .tc .vmem S1x128x1024 .f32) (harg5 : arg5.IsWhole)
    (x0 : Vec F S1x128x1024 .bf16) (x1 : Vec F S1x128x256 .bf16) (x2 : Vec F S1x8192x512 .bf16) : St F :=
  st_k0_t3 Variants.none c none i arg2 harg2 arg3 harg3 arg4 harg4 arg5 harg5 (posI i) (nI i) laneI
    (qMat arg2 harg2 x0 ![0, 0, 512] inb_S1x128x1024_S1x128x128_0_0_512) (qMat arg2 harg2 x0 ![0, 0, 640] inb_S1x128x1024_S1x128x128_0_0_640) (qLoad arg2 harg2 x0 ![0, 0, 768] inb_S1x128x1024_S1x128x128_0_0_768) (qLoad arg2 harg2 x0 ![0, 0, 896] inb_S1x128x1024_S1x128x128_0_0_896)
    (sLoad arg3 harg3 x1 ![0, 0, 128] inb_S1x128x256_S1x128x128_0_0_128) (harg4.unread x2) init0
    (k0_t3_loop i).trips

/-- The same after the loop over the chunks the pairs leave, which has no trips. -/
def mid1 (c : Dev nD) (i : grid0.Coords)
    (arg2 : Memref sig .tc .vmem S1x128x1024 .bf16) (harg2 : arg2.IsWhole)
    (arg3 : Memref sig .tc .vmem S1x128x256 .bf16) (harg3 : arg3.IsWhole)
    (arg4 : Memref sig .tc .vmem S1x8192x512 .bf16) (harg4 : arg4.IsWhole)
    (arg5 : Memref sig .tc .vmem S1x128x1024 .f32) (harg5 : arg5.IsWhole)
    (x0 : Vec F S1x128x1024 .bf16) (x1 : Vec F S1x128x256 .bf16) (x2 : Vec F S1x8192x512 .bf16) : St F :=
  st_k0_t4 Variants.none c none i arg2 harg2 arg3 harg3 arg4 harg4 arg5 harg5 (posI i) (nI i) laneI
    (qMat arg2 harg2 x0 ![0, 0, 512] inb_S1x128x1024_S1x128x128_0_0_512) (qMat arg2 harg2 x0 ![0, 0, 640] inb_S1x128x1024_S1x128x128_0_0_640) (qLoad arg2 harg2 x0 ![0, 0, 768] inb_S1x128x1024_S1x128x128_0_0_768) (qLoad arg2 harg2 x0 ![0, 0, 896] inb_S1x128x1024_S1x128x128_0_0_896)
    (sLoad arg3 harg3 x1 ![0, 0, 128] inb_S1x128x256_S1x128x128_0_0_128) (bodyRunOdd.sl.v135 i) (harg4.unread x2) (pairs1 c i arg2 harg2 arg3 harg3 arg4 harg4 arg5 harg5 x0 x1 x2)
    (k0_t4_loop i).trips

/-- The same after the last chunk, where the number of chunks is odd. -/
def last1 (c : Dev nD) (i : grid0.Coords)
    (arg2 : Memref sig .tc .vmem S1x128x1024 .bf16) (harg2 : arg2.IsWhole)
    (arg3 : Memref sig .tc .vmem S1x128x256 .bf16) (harg3 : arg3.IsWhole)
    (arg4 : Memref sig .tc .vmem S1x8192x512 .bf16) (harg4 : arg4.IsWhole)
    (arg5 : Memref sig .tc .vmem S1x128x1024 .f32) (harg5 : arg5.IsWhole)
    (x0 : Vec F S1x128x1024 .bf16) (x1 : Vec F S1x128x256 .bf16) (x2 : Vec F S1x8192x512 .bf16) (hc : k0_cond2 i = 1#1) : St F :=
  chunkF (q1 arg2 harg2 x0) (s1 arg3 harg3 x1) (posI i) laneI
    (rowsAt arg4 (harg4.unread x2) (k0_off19 i) (k0_off19_inb i hc))
    (rowsAt arg4 (harg4.unread x2) (k0_off20 i) (k0_off20_inb i hc))
    (Scalar.subi (nI i) 1#32) (mid1 c i arg2 harg2 arg3 harg3 arg4 harg4 arg5 harg5 x0 x1 x2)

/-- The eight stores of the result, last first, from the two key heads' sums and accumulators. -/
def tiles (l0 : FVec F S512x1 .f32) (a0 : FVec F S512x128 .f32) (l1 : FVec F S512x1 .f32) (a1 : FVec F S512x128 .f32) :
    List (View.Piece (Elt F) S1x128x1024 .f32) :=
  [⟨Rect.unit (s := S1x128x1024) ![0, 0, 896] S1x128x128.size inb_S1x128x1024_S1x128x128_0_0_896, k0_pay1 (k0_pay130 l1 a1)⟩,
   ⟨Rect.unit (s := S1x128x1024) ![0, 0, 768] S1x128x128.size inb_S1x128x1024_S1x128x128_0_0_768, k0_pay129 l1 a1⟩,
   ⟨Rect.unit (s := S1x128x1024) ![0, 0, 640] S1x128x128.size inb_S1x128x1024_S1x128x128_0_0_640, k0_pay128 l1 a1⟩,
   ⟨Rect.unit (s := S1x128x1024) ![0, 0, 512] S1x128x128.size inb_S1x128x1024_S1x128x128_0_0_512, k0_pay127 l1 a1⟩,
   ⟨Rect.unit (s := S1x128x1024) ![0, 0, 384] S1x128x128.size inb_S1x128x1024_S1x128x128_0_0_384, k0_pay98 l0 a0⟩,
   ⟨Rect.unit (s := S1x128x1024) ![0, 0, 256] S1x128x128.size inb_S1x128x1024_S1x128x128_0_0_256, k0_pay97 l0 a0⟩,
   ⟨Rect.unit (s := S1x128x1024) ![0, 0, 128] S1x128x128.size inb_S1x128x1024_S1x128x128_0_0_128, k0_pay96 l0 a0⟩,
   ⟨Rect.unit (s := S1x128x1024) ![0, 0, 0] S1x128x128.size inb_S1x128x1024_S1x128x128_0_0_0, k0_pay95 l0 a0⟩]

/-- The last chunk's sum, key head 0, is a chunk's. -/
theorem pay92_eq (pos : IVec S128x1 32) (lane : IVec S1x512 32) (q : FVec F S512x128 .bf16) (s : FVec F S128x128 .bf16)
    (m l : FVec F S512x1 .f32) (acc : FVec F S512x128 .f32) (n : BitVec 32) (k v : FVec F S512x128 .bf16) :
    k0_pay92 pos lane q s m l (Scalar.muli (Scalar.subi n 1#32) 512#32) k (k0_pay32 n)
        (constant S128x512 .f32 0x00000000#32)
      = (chunkF q s pos lane k v (Scalar.subi n 1#32) (m, l, acc)).2.1 := rfl

/-- Its accumulator. -/
theorem pay93_eq (pos : IVec S128x1 32) (lane : IVec S1x512 32) (q : FVec F S512x128 .bf16) (s : FVec F S128x128 .bf16)
    (m l : FVec F S512x1 .f32) (acc : FVec F S512x128 .f32) (n : BitVec 32) (k v : FVec F S512x128 .bf16) :
    k0_pay93 pos lane q s m acc (Scalar.muli (Scalar.subi n 1#32) 512#32) k v (k0_pay32 n)
        (constant S128x512 .f32 0x00000000#32)
      = (chunkF q s pos lane k v (Scalar.subi n 1#32) (m, l, acc)).2.2 := rfl

/-- The last chunk's sum, key head 1. -/
theorem pay124_eq (pos : IVec S128x1 32) (lane : IVec S1x512 32) (q : FVec F S512x128 .bf16) (s : FVec F S128x128 .bf16)
    (m l : FVec F S512x1 .f32) (acc : FVec F S512x128 .f32) (n : BitVec 32) (k v : FVec F S512x128 .bf16) :
    k0_pay124 pos lane q s m l (Scalar.muli (Scalar.subi n 1#32) 512#32) k (k0_pay32 n)
        (constant S128x512 .f32 0x00000000#32)
      = (chunkF q s pos lane k v (Scalar.subi n 1#32) (m, l, acc)).2.1 := rfl

/-- Its accumulator. -/
theorem pay125_eq (pos : IVec S128x1 32) (lane : IVec S1x512 32) (q : FVec F S512x128 .bf16) (s : FVec F S128x128 .bf16)
    (m l : FVec F S512x1 .f32) (acc : FVec F S512x128 .f32) (n : BitVec 32) (k v : FVec F S512x128 .bf16) :
    k0_pay125 pos lane q s m acc (Scalar.muli (Scalar.subi n 1#32) 512#32) k v (k0_pay32 n)
        (constant S128x512 .f32 0x00000000#32)
      = (chunkF q s pos lane k v (Scalar.subi n 1#32) (m, l, acc)).2.2 := rfl

/-- The sum the stores of key head 0 read, where the number of chunks is odd. -/
theorem word_l0 (c : Dev nD) (i : grid0.Coords)
    (arg2 : Memref sig .tc .vmem S1x128x1024 .bf16) (harg2 : arg2.IsWhole)
    (arg3 : Memref sig .tc .vmem S1x128x256 .bf16) (harg3 : arg3.IsWhole)
    (arg4 : Memref sig .tc .vmem S1x8192x512 .bf16) (harg4 : arg4.IsWhole)
    (arg5 : Memref sig .tc .vmem S1x128x1024 .f32) (harg5 : arg5.IsWhole)
    (x0 : Vec F S1x128x1024 .bf16) (x1 : Vec F S1x128x256 .bf16) (x2 : Vec F S1x8192x512 .bf16) (hc1 : k0_cond1 i = 1#1) :
    k0_pay92 (bodyRunOdd.sl.v3 i) bodyRunOdd.sl.v25
      (bodyRunOdd.sl.r c arg2 harg2 x0) (bodyRunOdd.sl.r_1 c arg3 harg3 x1)
      (bodyRunOdd.sl.r_2 c i arg2 harg2 arg3 harg3 arg4 harg4 arg5 harg5 x0 x1 x2)
      (bodyRunOdd.sl.r_3 c i arg2 harg2 arg3 harg3 arg4 harg4 arg5 harg5 x0 x1 x2)
      (bodyRunOdd.sl.v175 i) (bodyRunOdd.sl.v179 i arg4 harg4 x2 hc1) (bodyRunOdd.sl.v216 i) bodyRunOdd.sl.cst_114
      = (last0 c i arg2 harg2 arg3 harg3 arg4 harg4 arg5 harg5 x0 x1 x2 hc1).2.1 := by
  have h1 : bodyRunOdd.sl.r c arg2 harg2 x0 = q0 arg2 harg2 x0 := rfl
  have h2 : bodyRunOdd.sl.r_1 c arg3 harg3 x1 = s0 arg3 harg3 x1 := rfl
  have h3 : bodyRunOdd.sl.r_2 c i arg2 harg2 arg3 harg3 arg4 harg4 arg5 harg5 x0 x1 x2 = (mid0 c i arg2 harg2 arg3 harg3 arg4 harg4 arg5 harg5 x0 x1 x2).1 := rfl
  have h4 : bodyRunOdd.sl.r_3 c i arg2 harg2 arg3 harg3 arg4 harg4 arg5 harg5 x0 x1 x2 = (mid0 c i arg2 harg2 arg3 harg3 arg4 harg4 arg5 harg5 x0 x1 x2).2.1 := rfl
  have h5 : bodyRunOdd.sl.v216 (F := F) i = k0_pay32 (nI i) := rfl
  rw [h1, h2, h3, h4, h5]
  exact pay92_eq _ _ _ _ _ _ (mid0 c i arg2 harg2 arg3 harg3 arg4 harg4 arg5 harg5 x0 x1 x2).2.2 _ _ _

/-- The accumulator they read. -/
theorem word_a0 (c : Dev nD) (i : grid0.Coords)
    (arg2 : Memref sig .tc .vmem S1x128x1024 .bf16) (harg2 : arg2.IsWhole)
    (arg3 : Memref sig .tc .vmem S1x128x256 .bf16) (harg3 : arg3.IsWhole)
    (arg4 : Memref sig .tc .vmem S1x8192x512 .bf16) (harg4 : arg4.IsWhole)
    (arg5 : Memref sig .tc .vmem S1x128x1024 .f32) (harg5 : arg5.IsWhole)
    (x0 : Vec F S1x128x1024 .bf16) (x1 : Vec F S1x128x256 .bf16) (x2 : Vec F S1x8192x512 .bf16) (hc1 : k0_cond1 i = 1#1) :
    k0_pay93 (bodyRunOdd.sl.v3 i) bodyRunOdd.sl.v25
      (bodyRunOdd.sl.r c arg2 harg2 x0) (bodyRunOdd.sl.r_1 c arg3 harg3 x1)
      (bodyRunOdd.sl.r_2 c i arg2 harg2 arg3 harg3 arg4 harg4 arg5 harg5 x0 x1 x2)
      (bodyRunOdd.sl.r_4 c i arg2 harg2 arg3 harg3 arg4 harg4 arg5 harg5 x0 x1 x2)
      (bodyRunOdd.sl.v175 i) (bodyRunOdd.sl.v179 i arg4 harg4 x2 hc1) (bodyRunOdd.sl.v182 i arg4 harg4 x2 hc1) (bodyRunOdd.sl.v216 i) bodyRunOdd.sl.cst_114
      = (last0 c i arg2 harg2 arg3 harg3 arg4 harg4 arg5 harg5 x0 x1 x2 hc1).2.2 := by
  have h1 : bodyRunOdd.sl.r c arg2 harg2 x0 = q0 arg2 harg2 x0 := rfl
  have h2 : bodyRunOdd.sl.r_1 c arg3 harg3 x1 = s0 arg3 harg3 x1 := rfl
  have h3 : bodyRunOdd.sl.r_2 c i arg2 harg2 arg3 harg3 arg4 harg4 arg5 harg5 x0 x1 x2 = (mid0 c i arg2 harg2 arg3 harg3 arg4 harg4 arg5 harg5 x0 x1 x2).1 := rfl
  have h4 : bodyRunOdd.sl.r_4 c i arg2 harg2 arg3 harg3 arg4 harg4 arg5 harg5 x0 x1 x2 = (mid0 c i arg2 harg2 arg3 harg3 arg4 harg4 arg5 harg5 x0 x1 x2).2.2 := rfl
  have h5 : bodyRunOdd.sl.v216 (F := F) i = k0_pay32 (nI i) := rfl
  rw [h1, h2, h3, h4, h5]
  exact pay93_eq _ _ _ _ _ (mid0 c i arg2 harg2 arg3 harg3 arg4 harg4 arg5 harg5 x0 x1 x2).2.1 _ _ _ _

/-- The sum the stores of key head 1 read, where the number of chunks is odd. -/
theorem word_l1 (c : Dev nD) (i : grid0.Coords)
    (arg2 : Memref sig .tc .vmem S1x128x1024 .bf16) (harg2 : arg2.IsWhole)
    (arg3 : Memref sig .tc .vmem S1x128x256 .bf16) (harg3 : arg3.IsWhole)
    (arg4 : Memref sig .tc .vmem S1x8192x512 .bf16) (harg4 : arg4.IsWhole)
    (arg5 : Memref sig .tc .vmem S1x128x1024 .f32) (harg5 : arg5.IsWhole)
    (x0 : Vec F S1x128x1024 .bf16) (x1 : Vec F S1x128x256 .bf16) (x2 : Vec F S1x8192x512 .bf16) (hc2 : k0_cond2 i = 1#1) :
    k0_pay124 (bodyRunOdd.sl.v3 i) bodyRunOdd.sl.v25
      (bodyRunOdd.sl.r_7 c arg2 harg2 x0) (bodyRunOdd.sl.r_8 c arg3 harg3 x1)
      (bodyRunOdd.sl.r_9 c i arg2 harg2 arg3 harg3 arg4 harg4 arg5 harg5 x0 x1 x2)
      (bodyRunOdd.sl.r_10 c i arg2 harg2 arg3 harg3 arg4 harg4 arg5 harg5 x0 x1 x2)
      (bodyRunOdd.sl.v175_1 i) (bodyRunOdd.sl.v179_1 i arg4 harg4 x2 hc2) (bodyRunOdd.sl.v216_1 i) bodyRunOdd.sl.cst_114_1
      = (last1 c i arg2 harg2 arg3 harg3 arg4 harg4 arg5 harg5 x0 x1 x2 hc2).2.1 := by
  have h1 : bodyRunOdd.sl.r_7 c arg2 harg2 x0 = q1 arg2 harg2 x0 := rfl
  have h2 : bodyRunOdd.sl.r_8 c arg3 harg3 x1 = s1 arg3 harg3 x1 := rfl
  have h3 : bodyRunOdd.sl.r_9 c i arg2 harg2 arg3 harg3 arg4 harg4 arg5 harg5 x0 x1 x2 = (mid1 c i arg2 harg2 arg3 harg3 arg4 harg4 arg5 harg5 x0 x1 x2).1 := rfl
  have h4 : bodyRunOdd.sl.r_10 c i arg2 harg2 arg3 harg3 arg4 harg4 arg5 harg5 x0 x1 x2 = (mid1 c i arg2 harg2 arg3 harg3 arg4 harg4 arg5 harg5 x0 x1 x2).2.1 := rfl
  have h5 : bodyRunOdd.sl.v216_1 (F := F) i = k0_pay32 (nI i) := rfl
  rw [h1, h2, h3, h4, h5]
  exact pay124_eq _ _ _ _ _ _ (mid1 c i arg2 harg2 arg3 harg3 arg4 harg4 arg5 harg5 x0 x1 x2).2.2 _ _ _

/-- The accumulator they read. -/
theorem word_a1 (c : Dev nD) (i : grid0.Coords)
    (arg2 : Memref sig .tc .vmem S1x128x1024 .bf16) (harg2 : arg2.IsWhole)
    (arg3 : Memref sig .tc .vmem S1x128x256 .bf16) (harg3 : arg3.IsWhole)
    (arg4 : Memref sig .tc .vmem S1x8192x512 .bf16) (harg4 : arg4.IsWhole)
    (arg5 : Memref sig .tc .vmem S1x128x1024 .f32) (harg5 : arg5.IsWhole)
    (x0 : Vec F S1x128x1024 .bf16) (x1 : Vec F S1x128x256 .bf16) (x2 : Vec F S1x8192x512 .bf16) (hc2 : k0_cond2 i = 1#1) :
    k0_pay125 (bodyRunOdd.sl.v3 i) bodyRunOdd.sl.v25
      (bodyRunOdd.sl.r_7 c arg2 harg2 x0) (bodyRunOdd.sl.r_8 c arg3 harg3 x1)
      (bodyRunOdd.sl.r_9 c i arg2 harg2 arg3 harg3 arg4 harg4 arg5 harg5 x0 x1 x2)
      (bodyRunOdd.sl.r_11 c i arg2 harg2 arg3 harg3 arg4 harg4 arg5 harg5 x0 x1 x2)
      (bodyRunOdd.sl.v175_1 i) (bodyRunOdd.sl.v179_1 i arg4 harg4 x2 hc2) (bodyRunOdd.sl.v182_1 i arg4 harg4 x2 hc2) (bodyRunOdd.sl.v216_1 i) bodyRunOdd.sl.cst_114_1
      = (last1 c i arg2 harg2 arg3 harg3 arg4 harg4 arg5 harg5 x0 x1 x2 hc2).2.2 := by
  have h1 : bodyRunOdd.sl.r_7 c arg2 harg2 x0 = q1 arg2 harg2 x0 := rfl
  have h2 : bodyRunOdd.sl.r_8 c arg3 harg3 x1 = s1 arg3 harg3 x1 := rfl
  have h3 : bodyRunOdd.sl.r_9 c i arg2 harg2 arg3 harg3 arg4 harg4 arg5 harg5 x0 x1 x2 = (mid1 c i arg2 harg2 arg3 harg3 arg4 harg4 arg5 harg5 x0 x1 x2).1 := rfl
  have h4 : bodyRunOdd.sl.r_11 c i arg2 harg2 arg3 harg3 arg4 harg4 arg5 harg5 x0 x1 x2 = (mid1 c i arg2 harg2 arg3 harg3 arg4 harg4 arg5 harg5 x0 x1 x2).2.2 := rfl
  have h5 : bodyRunOdd.sl.v216_1 (F := F) i = k0_pay32 (nI i) := rfl
  rw [h1, h2, h3, h4, h5]
  exact pay125_eq _ _ _ _ _ (mid1 c i arg2 harg2 arg3 harg3 arg4 harg4 arg5 harg5 x0 x1 x2).2.1 _ _ _ _

/-- Where the number of chunks is odd, the stores are those of the carried values after the last chunk. -/
theorem pieces_odd (c : Dev nD) (i : grid0.Coords)
    (arg2 : Memref sig .tc .vmem S1x128x1024 .bf16) (harg2 : arg2.IsWhole)
    (arg3 : Memref sig .tc .vmem S1x128x256 .bf16) (harg3 : arg3.IsWhole)
    (arg4 : Memref sig .tc .vmem S1x8192x512 .bf16) (harg4 : arg4.IsWhole)
    (arg5 : Memref sig .tc .vmem S1x128x1024 .f32) (harg5 : arg5.IsWhole)
    (x0 : Vec F S1x128x1024 .bf16) (x1 : Vec F S1x128x256 .bf16) (x2 : Vec F S1x8192x512 .bf16) (hc1 : k0_cond1 i = 1#1) (hc2 : k0_cond2 i = 1#1) :
    (bodyRunOdd c i arg2 harg2 arg3 harg3 arg4 harg4 arg5 harg5 x0 x1 x2 hc1 hc2).1
      = tiles (last0 c i arg2 harg2 arg3 harg3 arg4 harg4 arg5 harg5 x0 x1 x2 hc1).2.1 (last0 c i arg2 harg2 arg3 harg3 arg4 harg4 arg5 harg5 x0 x1 x2 hc1).2.2
          (last1 c i arg2 harg2 arg3 harg3 arg4 harg4 arg5 harg5 x0 x1 x2 hc2).2.1 (last1 c i arg2 harg2 arg3 harg3 arg4 harg4 arg5 harg5 x0 x1 x2 hc2).2.2 := by
  unfold bodyRunOdd
  dsimp only
  rw [word_l0, word_a0, word_l1, word_a1]
  rfl

/-- Where it is even, they are those after the pairs. -/
theorem pieces_even (c : Dev nD) (i : grid0.Coords)
    (arg2 : Memref sig .tc .vmem S1x128x1024 .bf16) (harg2 : arg2.IsWhole)
    (arg3 : Memref sig .tc .vmem S1x128x256 .bf16) (harg3 : arg3.IsWhole)
    (arg4 : Memref sig .tc .vmem S1x8192x512 .bf16) (harg4 : arg4.IsWhole)
    (arg5 : Memref sig .tc .vmem S1x128x1024 .f32) (harg5 : arg5.IsWhole)
    (x0 : Vec F S1x128x1024 .bf16) (x1 : Vec F S1x128x256 .bf16) (x2 : Vec F S1x8192x512 .bf16) (hc1 : ¬ k0_cond1 i = 1#1) (hc2 : ¬ k0_cond2 i = 1#1) :
    (bodyRunEven c i arg2 harg2 arg3 harg3 arg4 harg4 arg5 harg5 x0 x1 x2 hc1 hc2).1
      = tiles (mid0 c i arg2 harg2 arg3 harg3 arg4 harg4 arg5 harg5 x0 x1 x2).2.1 (mid0 c i arg2 harg2 arg3 harg3 arg4 harg4 arg5 harg5 x0 x1 x2).2.2
          (mid1 c i arg2 harg2 arg3 harg3 arg4 harg4 arg5 harg5 x0 x1 x2).2.1 (mid1 c i arg2 harg2 arg3 harg3 arg4 harg4 arg5 harg5 x0 x1 x2).2.2 := by
  unfold bodyRunEven
  rfl

end Cert.Proof.PI
-- ==== Proof.KernelIdeal.Online.lean ====
module

public import Idealize.ShloMosaic.Lib.Pointwise
public import Mathlib.Analysis.SpecialFunctions.Pow.Real

@[expose] public section

noncomputable section

namespace Cert.Proof.Online

open Idealize.ShloMosaic
open Finset

/-- The maximum the exponents are taken from: zero where nothing has been seen. -/
def safe (M : EReal) : EReal := if M = ⊥ then 0 else M

/-- A score's weight, taken from the maximum `M`. -/
def wt (s M : EReal) : EReal := Ideal.exp2 (s - safe M)

theorem sub_top' (x : EReal) : x - ⊤ = ⊥ := by
  rw [sub_eq_add_neg, EReal.neg_top, EReal.add_bot]

theorem bot_sub' (r : ℝ) : (⊥ : EReal) - (r : EReal) = ⊥ := by
  rw [sub_eq_add_neg, EReal.bot_add]

theorem wt_top (s : EReal) : wt s ⊤ = 0 := by
  simp [wt, safe, sub_top']

theorem wt_bot : wt ⊥ ⊥ = 0 := by
  simp [wt, safe]

theorem wt_bot_coe (r : ℝ) : wt ⊥ (r : EReal) = 0 := by
  simp [wt, safe]

theorem wt_coe (x r : ℝ) : wt (x : EReal) (r : EReal) = (((2 : ℝ) ^ (x - r) : ℝ) : EReal) := by
  have h : (r : EReal) ≠ ⊥ := EReal.coe_ne_bot r
  simp only [wt, safe, if_neg h, ← EReal.coe_sub, Ideal.exp2_coe]
  rfl

/-- A key below everything has weight zero. -/
theorem wt_of_bot (M : EReal) : wt ⊥ M = 0 := by
  induction M using EReal.rec with
  | bot => exact wt_bot
  | top => exact wt_top _
  | coe r => exact wt_bot_coe r

/-- A weight below its maximum is a real number, not negative. -/
theorem wt_real {s M : EReal} (h : s ≤ M) : ∃ a : ℝ, 0 ≤ a ∧ wt s M = (a : EReal) := by
  induction M using EReal.rec with
  | bot => exact ⟨0, le_rfl, by rw [le_bot_iff.1 h, wt_bot]; rfl⟩
  | top => exact ⟨0, le_rfl, by rw [wt_top]; rfl⟩
  | coe r =>
    induction s using EReal.rec with
    | bot => exact ⟨0, le_rfl, by rw [wt_bot_coe]; rfl⟩
    | top => exact absurd h (by simp)
    | coe x => exact ⟨2 ^ (x - r), by positivity, wt_coe x r⟩

/-- Rescaling a weight from one maximum to a larger one. -/
theorem wt_mul {s m M : EReal} (h : s ≤ m) (h' : m ≤ M) : wt m M * wt s m = wt s M := by
  induction M using EReal.rec with
  | bot =>
    obtain rfl := le_bot_iff.1 h'
    obtain rfl := le_bot_iff.1 h
    rw [wt_bot, zero_mul]
  | top => rw [wt_top, wt_top, zero_mul]
  | coe r =>
    induction m using EReal.rec with
    | bot =>
      obtain rfl := le_bot_iff.1 h
      rw [wt_bot_coe, zero_mul]
    | top => exact absurd h' (by simp)
    | coe y =>
      induction s using EReal.rec with
      | bot => rw [wt_bot_coe, wt_bot_coe, mul_zero]
      | top => exact absurd h (by simp)
      | coe x =>
        rw [wt_coe, wt_coe, wt_coe, ← EReal.coe_mul, ← Real.rpow_add two_pos]
        congr 2; ring

/-- A real factor, not negative, goes into a sum. -/
theorem coe_mul_sum {ι : Type*} (a : ℝ) (ha : 0 ≤ a) (J : Finset ι) (f : ι → EReal) :
    (a : EReal) * ∑ j ∈ J, f j = ∑ j ∈ J, (a : EReal) * f j := by
  classical
  induction J using Finset.induction_on with
  | empty => simp
  | insert i J hi ih =>
    rw [sum_insert hi, sum_insert hi, ← ih]
    exact EReal.left_distrib_of_nonneg_of_ne_top (EReal.coe_nonneg.2 ha) (EReal.coe_ne_top a) _ _

/-- Rescaling a weighted sum from one maximum to a larger one. -/
theorem rescale {ι : Type*} (J : Finset ι) (s v : ι → EReal) {m M : EReal}
    (hs : ∀ j ∈ J, s j ≤ m) (h : m ≤ M) :
    wt m M * ∑ j ∈ J, wt (s j) m * v j = ∑ j ∈ J, wt (s j) M * v j := by
  obtain ⟨a, ha, hw⟩ := wt_real h
  rw [hw, coe_mul_sum a ha, ← hw]
  refine sum_congr rfl fun j hj => ?_
  rw [← mul_assoc, wt_mul (hs j hj) h]

/-- The same with no factor to the weights. -/
theorem rescale_one {ι : Type*} (J : Finset ι) (s : ι → EReal) {m M : EReal}
    (hs : ∀ j ∈ J, s j ≤ m) (h : m ≤ M) :
    wt m M * ∑ j ∈ J, wt (s j) m = ∑ j ∈ J, wt (s j) M := by
  have := rescale J s (fun _ => 1) hs h
  simpa using this

/-- The maximum of the scores of the first `n` keys. -/
def mx (s : ℕ → EReal) (n : ℕ) : EReal := (range n).sup s

/-- The sum of the weights of the first `n` keys. -/
def sm (s : ℕ → EReal) (n : ℕ) : EReal := ∑ j ∈ range n, wt (s j) (mx s n)

/-- The weighted sum of the values of the first `n` keys. -/
def ac (s v : ℕ → EReal) (n : ℕ) : EReal := ∑ j ∈ range n, wt (s j) (mx s n) * v j

theorem mx_zero (s : ℕ → EReal) : mx s 0 = ⊥ := by simp [mx]
theorem sm_zero (s : ℕ → EReal) : sm s 0 = 0 := by simp [sm]
theorem ac_zero (s v : ℕ → EReal) : ac s v 0 = 0 := by simp [ac]

theorem le_mx (s : ℕ → EReal) {n j : ℕ} (h : j < n) : s j ≤ mx s n :=
  le_sup (f := s) (mem_range.2 h)

/-- The maximum after a chunk of `k` more keys. -/
theorem mx_add (s : ℕ → EReal) (n k : ℕ) :
    mx s (n + k) = max (mx s n) ((univ : Finset (Fin k)).fold max ⊥ fun j : Fin k => s (n + j)) := by
  have h2 : ((univ : Finset (Fin k)).fold max ⊥ fun j : Fin k => s (n + j))
      = (univ : Finset (Fin k)).sup fun j => s (n + j) := rfl
  rw [h2]
  refine le_antisymm ?_ (max_le ?_ ?_)
  · refine Finset.sup_le fun j hj => ?_
    rcases lt_or_ge j n with h | h
    · exact le_max_of_le_left (le_mx s h)
    · refine le_max_of_le_right ?_
      have hj' := mem_range.1 hj
      have := le_sup (f := fun j : Fin k => s (n + j)) (mem_univ (⟨j - n, by omega⟩ : Fin k))
      simpa [Nat.add_sub_cancel' h] using this
  · exact Finset.sup_mono (range_mono (Nat.le_add_right n k))
  · exact Finset.sup_le fun j _ => le_mx s (by omega)

theorem mx_mono (s : ℕ → EReal) (n k : ℕ) : mx s n ≤ mx s (n + k) :=
  Finset.sup_mono (range_mono (Nat.le_add_right n k))

/-- The sum of the weights after a chunk of `k` more keys. -/
theorem sm_add (s : ℕ → EReal) (n k : ℕ) :
    sm s (n + k) = wt (mx s n) (mx s (n + k)) * sm s n
      + ∑ j : Fin k, wt (s (n + j)) (mx s (n + k)) := by
  rw [sm, sum_range_add, sm, rescale_one (range n) s (fun j hj => le_mx s (mem_range.1 hj)) (mx_mono s n k),
    sum_range (fun j => wt (s (n + j)) (mx s (n + k)))]

/-- The weighted sum of the values after a chunk of `k` more keys. -/
theorem ac_add (s v : ℕ → EReal) (n k : ℕ) :
    ac s v (n + k) = wt (mx s n) (mx s (n + k)) * ac s v n
      + ∑ j : Fin k, wt (s (n + j)) (mx s (n + k)) * v (n + j) := by
  rw [ac, sum_range_add, ac, rescale (range n) s v (fun j hj => le_mx s (mem_range.1 hj)) (mx_mono s n k),
    sum_range (fun j => wt (s (n + j)) (mx s (n + k)) * v (n + j))]

/-- Keys past the `n`-th whose scores are at the bottom change nothing. -/
theorem mx_tail (s : ℕ → EReal) (n k : ℕ) (h : ∀ j, n ≤ j → j < n + k → s j = ⊥) :
    mx s (n + k) = mx s n := by
  refine le_antisymm (Finset.sup_le fun j hj => ?_) (mx_mono s n k)
  rcases lt_or_ge j n with h' | h'
  · exact le_mx s h'
  · rw [h j h' (mem_range.1 hj)]; exact bot_le

theorem sm_tail (s : ℕ → EReal) (n k : ℕ) (h : ∀ j, n ≤ j → j < n + k → s j = ⊥) :
    sm s (n + k) = sm s n := by
  rw [sm, mx_tail s n k h, sum_range_add, sm]
  refine (congrArg _ (sum_eq_zero fun j hj => ?_)).trans (add_zero _)
  rw [h _ (Nat.le_add_right _ _) (by have := mem_range.1 hj; omega), wt_of_bot]

theorem ac_tail (s v : ℕ → EReal) (n k : ℕ) (h : ∀ j, n ≤ j → j < n + k → s j = ⊥) :
    ac s v (n + k) = ac s v n := by
  rw [ac, mx_tail s n k h, sum_range_add, ac]
  refine (congrArg _ (sum_eq_zero fun j hj => ?_)).trans (add_zero _)
  rw [h _ (Nat.le_add_right _ _) (by have := mem_range.1 hj; omega), wt_of_bot, zero_mul]

/-- Scaling the scores by a positive real scales their maximum. -/
theorem mx_scale (x : ℕ → EReal) (a : ℝ) (ha : 0 < a) (n : ℕ) :
    mx (fun j => x j * (a : EReal)) n = mx x n * (a : EReal) := by
  induction n with
  | zero => rw [mx_zero, mx_zero, EReal.bot_mul_coe_of_pos ha]
  | succ n ih =>
    have h1 : ∀ y : ℕ → EReal, mx y (n + 1) = max (y n) (mx y n) := fun y => by
      rw [mx, range_add_one, sup_insert]; rfl
    rw [h1, h1, ih]
    have hm : Monotone fun z : EReal => z * (a : EReal) := fun u w h =>
      mul_le_mul_of_nonneg_right h (EReal.coe_nonneg.2 ha.le)
    exact (hm.map_max (a := x n) (b := mx x n)).symm

/-- The reference's maximum: zero where it is not finite. -/
def fin (M : EReal) : EReal := if max M (-M) < ⊤ then M else 0

theorem fin_coe (r : ℝ) : fin (r : EReal) = r := by
  rw [fin, if_pos]
  rw [← EReal.coe_neg]
  exact max_lt (EReal.coe_lt_top _) (EReal.coe_lt_top _)

theorem fin_bot : fin ⊥ = 0 := by simp [fin]
theorem fin_top : fin ⊤ = 0 := by simp [fin]

/-- The reference's exponential of a key's score `x`, zero where the key is masked. -/
def ex (b : Bool) (x M : EReal) : EReal := if b then Ideal.exp (x - fin M) else 0

/-- At a finite maximum the two exponentials are the same real number. -/
theorem wt_eq_ex (x : EReal) (b : Bool) (hb : b = false → x = ⊥) (r : ℝ) (hx : x ≤ r) :
    wt (x * ((Real.log 2)⁻¹ : ℝ)) ((r : EReal) * ((Real.log 2)⁻¹ : ℝ)) = ex b x r := by
  have hl : 0 < (Real.log 2)⁻¹ := inv_pos.2 (Real.log_pos one_lt_two)
  rw [← EReal.coe_mul]
  induction x using EReal.rec with
  | bot =>
    rw [EReal.bot_mul_coe_of_pos hl, wt_bot_coe, ex, fin_coe, bot_sub']
    simp
  | top => exact absurd hx (by simp)
  | coe x =>
    have hb' : b = true := by
      cases b
      · exact absurd (hb rfl) (EReal.coe_ne_bot x)
      · rfl
    rw [← EReal.coe_mul, wt_coe, ex, fin_coe, hb', if_pos rfl, ← EReal.coe_sub, Ideal.exp_coe,
      Real.rpow_def_of_pos two_pos]
    congr 2
    have : Real.log 2 ≠ 0 := (Real.log_pos one_lt_two).ne'
    field_simp

theorem coe_sum {ι : Type*} (J : Finset ι) (f : ι → ℝ) :
    ((∑ j ∈ J, f j : ℝ) : EReal) = ∑ j ∈ J, (f j : EReal) := by
  classical
  induction J using Finset.induction_on with
  | empty => simp
  | insert i J hi ih => rw [sum_insert hi, sum_insert hi, EReal.coe_add, ih]

theorem sum_wt_real {ι : Type*} (J : Finset ι) (s : ι → EReal) (M : EReal) (h : ∀ j ∈ J, s j ≤ M) :
    ∃ a : ℝ, ∑ j ∈ J, wt (s j) M = (a : EReal) := by
  classical
  induction J using Finset.induction_on with
  | empty => exact ⟨0, by simp⟩
  | insert i J hi ih =>
    obtain ⟨a, ha⟩ := ih fun j hj => h j (mem_insert_of_mem hj)
    obtain ⟨b, _, hb⟩ := wt_real (h i (mem_insert_self i J))
    exact ⟨b + a, by rw [sum_insert hi, ha, hb, EReal.coe_add]⟩

theorem exp_nonneg (x : EReal) : 0 ≤ Ideal.exp x := by
  induction x using EReal.rec with
  | bot => simp
  | top => simp
  | coe r => rw [Ideal.exp_coe]; exact EReal.coe_nonneg.2 (Real.exp_pos r).le

theorem ex_nonneg (b : Bool) (x M : EReal) : 0 ≤ ex b x M := by
  unfold ex; split
  · exact exp_nonneg _
  · exact le_rfl

/-- One row of the kernel's result is the same row of the reference's: over `N` keys with scores `x`
   (at the bottom where masked), the weighted values divided by the sum of the weights. `ε` is the
   floor of the divisor. -/
theorem row_eq (x v : ℕ → EReal) (b : ℕ → Bool) (N : ℕ) (hb : ∀ j, b j = false → x j = ⊥)
    (ε : EReal) (e : ℝ) (he : ε = (e : EReal)) (hpos : 0 < e) :
    ac (fun j => x j * ((Real.log 2)⁻¹ : ℝ)) v N
        * Ideal.div 1 (max (sm (fun j => x j * ((Real.log 2)⁻¹ : ℝ)) N) ε)
      = ∑ j ∈ range N, v j * Ideal.div (ex (b j) (x j) (mx x N))
          (max (∑ j ∈ range N, ex (b j) (x j) (mx x N)) ε) := by
  have hl : 0 < (Real.log 2)⁻¹ := inv_pos.2 (Real.log_pos one_lt_two)
  have hε : (0 : EReal) < ε := by rw [he]; exact EReal.coe_pos.2 hpos
  rw [ac, sm, mx_scale x _ hl]
  have hle : ∀ j ∈ range N, x j ≤ mx x N := fun j hj => le_mx x (mem_range.1 hj)
  generalize hM : mx x N = M at hle
  induction M using EReal.rec with
  | bot =>
    have hx : ∀ j ∈ range N, x j = ⊥ := fun j hj => le_bot_iff.1 (hle j hj)
    have h0 : ∀ j ∈ range N, ex (b j) (x j) ⊥ = 0 := fun j hj => by
      rw [hx j hj, ex, fin_bot]; simp
    rw [sum_eq_zero (s := range N) (f := fun j => wt _ _ * v j) fun j hj => by
      rw [hx j hj, EReal.bot_mul_coe_of_pos hl, wt_bot, zero_mul], zero_mul]
    refine (sum_eq_zero fun j hj => ?_).symm
    rw [h0 j hj, Ideal.div, if_neg (ne_of_gt (lt_max_of_lt_right hε)), zero_mul, mul_zero]
  | top =>
    rw [EReal.top_mul_coe_of_pos hl]
    simp only [wt_top, zero_mul, sum_const_zero]
    refine (sum_eq_zero fun j hj => ?_).symm
    have hN : (range N).Nonempty := ⟨j, hj⟩
    obtain ⟨i, hi, hi'⟩ := exists_mem_eq_sup (range N) hN x
    have hit : x i = ⊤ := by rw [← hi', ← hM]; rfl
    have hbi : b i = true := by
      cases h : b i
      · exact absurd (hb i h) (by rw [hit]; simp)
      · rfl
    have hden : ∑ j ∈ range N, ex (b j) (x j) ⊤ = ⊤ := by
      refine top_le_iff.1 ?_
      have := single_le_sum (f := fun j => ex (b j) (x j) ⊤) (fun j _ => ex_nonneg (b j) (x j) ⊤) hi
      refine le_trans ?_ this
      simp [ex, hbi, hit, fin_top]
    rw [hden, top_sup_eq, Ideal.div, if_neg (by simp), EReal.inv_top, mul_zero, mul_zero]
  | coe r =>
    have hw : ∀ j ∈ range N, wt (x j * ((Real.log 2)⁻¹ : ℝ)) ((r : EReal) * ((Real.log 2)⁻¹ : ℝ))
        = ex (b j) (x j) r := fun j hj => wt_eq_ex (x j) (b j) (hb j) r (hle j hj)
    obtain ⟨l, hlr⟩ := sum_wt_real (range N) (fun j => x j * ((Real.log 2)⁻¹ : ℝ))
      ((r : EReal) * ((Real.log 2)⁻¹ : ℝ)) fun j hj =>
        mul_le_mul_of_nonneg_right (hle j hj) (EReal.coe_nonneg.2 hl.le)
    rw [hlr, ← sum_congr rfl hw, hlr, he]
    have hmax : max (l : EReal) (e : EReal) = ((max l e : ℝ) : EReal) := by
      rcases le_total l e with h | h
      · rw [max_eq_right h, max_eq_right (EReal.coe_le_coe_iff.2 h)]
      · rw [max_eq_left h, max_eq_left (EReal.coe_le_coe_iff.2 h)]
    have hD : 0 < max l e := lt_max_of_lt_right hpos
    rw [hmax]
    have hdiv : ∀ y : EReal, Ideal.div y ((max l e : ℝ) : EReal) = y * (((max l e)⁻¹ : ℝ) : EReal) := fun y => by
      rw [Ideal.div, if_neg (EReal.coe_ne_zero.2 hD.ne'), EReal.coe_inv]
    simp only [hdiv, one_mul]
    rw [mul_comm, coe_mul_sum _ (inv_nonneg.2 hD.le)]
    refine sum_congr rfl fun j hj => ?_
    rw [hw j hj]
    rw [mul_comm (ex _ _ _) (v j), mul_left_comm, mul_comm (ex _ _ _)]

end Cert.Proof.Online
-- ==== Proof.KernelIdeal.ChunkVal.lean ====
module

public import proofs.«01_k».proof.Proof.KernelIdeal.Chunk
public import proofs.«01_k».proof.Proof.KernelIdeal.Online
public import Idealize.ShloMosaic.Lib.Pointwise
public import Idealize.ShloMosaic.Lib.Pipeline.ValueKit

@[expose] public section

set_option maxRecDepth 16384

noncomputable section

namespace Cert.Proof.PI

open Cert.KernelIdeal Cert.KernelIdeal.Gen
open Idealize.ShloMosaic Idealize.ShloMosaic.TcCoe Idealize.ShloMosaic.Tactic
open Idealize.ShloMosaic.Pipeline (Dat Cfg Window BodyObligation cellOf)

theorem bits_ninf : Ideal.ofBits .f32 0xFF800000#32 = ⊥ := by simp [Ideal.ofBits, Ideal.ieee]
theorem bits_pinf : Ideal.ofBits .f32 0x7F800000#32 = ⊤ := by simp [Ideal.ofBits, Ideal.ieee]

/-- The word of 128 is 128. -/
theorem bits_128 : Ideal.ofBits .f32 0x43000000#32 = ((128 : ℝ) : EReal) := by
  simp [Ideal.ofBits, Ideal.ieee, -EReal.coe_mul]; norm_num

/-- A lane's block inside its chunk: the lane divided by 64. -/
theorem lane_block (l : Fin 512) :
    Scalar.select
      (IntOp.andi
        (IntOp.cmpi CmpIPredicate.ne
          (IntOp.subi (BitVec.setWidth 32 (IntOp.cmpi CmpIPredicate.sgt (BitVec.ofNat 32 ↑l) 0#32))
            (BitVec.setWidth 32 (IntOp.cmpi CmpIPredicate.slt (BitVec.ofNat 32 ↑l) 0#32)))
          (Scalar.subi (Scalar.extui (Scalar.cmpi CmpIPredicate.sgt 64#32 0#32))
            (Scalar.extui (Scalar.cmpi CmpIPredicate.slt 64#32 0#32))))
        (IntOp.cmpi CmpIPredicate.ne (IntOp.remsi ArithUnit.vector (BitVec.ofNat 32 ↑l) 64#32) 0#32))
      (IntOp.subi (IntOp.divsi ArithUnit.vector (BitVec.ofNat 32 ↑l) 64#32) 1#32)
      (IntOp.divsi ArithUnit.vector (BitVec.ofNat 32 ↑l) 64#32) = BitVec.ofNat 32 (l.val / 64) := by
  revert l
  decide +kernel

/-- Whether lane `l` of chunk `j` lies in block `b`. -/
theorem eqF_at (j : ℕ) (hj : j < 16) (b : Fin 128) (l : Fin 512) :
    eqF (BitVec.ofNat 32 j) (ix2 b l) = if b.val = (512 * j + l.val) / 64 then 1#1 else 0#1 := by
  pointwise [eqF]
  rw [lane_block]
  have h1 : IntOp.addi (Scalar.muli (BitVec.ofNat 32 j) 8#32) (BitVec.ofNat 32 (l.val / 64))
      = BitVec.ofNat 32 ((512 * j + l.val) / 64) := by
    apply BitVec.eq_of_toNat_eq
    simp only [IntOp.addi, Scalar.muli, IntOp.muli, BitVec.toNat_add, BitVec.toNat_mul, BitVec.toNat_ofNat]
    have := l.isLt
    omega
  rw [h1]
  have h2 : (BitVec.ofNat 32 b.val == BitVec.ofNat 32 ((512 * j + l.val) / 64))
      = decide (b.val = (512 * j + l.val) / 64) := by
    have := l.isLt
    have := b.isLt
    rw [Bool.eq_iff_iff, beq_iff_eq, decide_eq_true_iff, ← BitVec.toNat_inj, BitVec.toNat_ofNat, BitVec.toNat_ofNat]
    omega
  simp only [IntOp.cmpi, h2]
  split <;> rename_i h <;> simp [h]

/-- What is added to the scores of position `p` against lane `l`: zero where the lane's block is
   selected and the lane is not after the position, the bottom elsewhere. -/
def bias (sel : FVec Ideal S128x128 .bf16) (pos : IVec S128x1 32) (lane : IVec S1x512 32)
    (st : BitVec 32) (e : IVec S128x512 1) (p : Fin 128) (l : Fin 512) : EReal :=
  if Ideal.ofBits .f32 0x3F000000#32 < ∑ x : Fin 128, Scalar.select (e (ix2 x l)) (sel (ix2 p x) : EReal) 0 then
    Scalar.select (IntOp.cmpi .sle (IntOp.addi st (lane (ix2 0 l))) (pos (ix2 p 0))) 0
      (Ideal.ofBits .f32 0xFF800000#32)
  else Ideal.ofBits .f32 0xFF800000#32

/-- A row of the four heads' queries: its position inside the block. -/
def rowPos (r : Fin 512) : Fin 128 := ⟨r.val % 128, Nat.mod_lt _ (by norm_num)⟩

/-- A chunk's scores: the query against the key, scaled, and the mask's addend. -/
theorem pay5_at (q : FVec Ideal S512x128 .bf16) (sel : FVec Ideal S128x128 .bf16) (pos : IVec S128x1 32)
    (lane : IVec S1x512 32) (k : FVec Ideal S512x128 .bf16) (st : BitVec 32) (e : IVec S128x512 1)
    (r : Fin 512) (l : Fin 512) :
    k0_pay5 pos lane q sel st k e oneF zeroF (ix2 r l)
      = ((∑ x : Fin 128, (q (ix2 r x) * k (ix2 l x) : EReal)) * (Named.named (F := Ideal) (φ := .f32) κ "scale_log2e" 0x3E0293EE#32 : EReal)
        + bias sel pos lane st e (rowPos r) l : EReal) := by
  have hr := r.isLt
  pointwise [k0_pay5]
  refine congrArg _ ?_
  unfold bias
  by_cases h1 : r.val < 128
  · rw [dif_pos h1]
    have : (⟨r.val, h1⟩ : Fin 128) = rowPos r := Fin.ext (by simp only [rowPos]; omega)
    rw [this]
  rw [dif_neg h1]
  by_cases h2 : r.val - 128 < 128
  · rw [dif_pos h2]
    have : (⟨r.val - 128, h2⟩ : Fin 128) = rowPos r := Fin.ext (by simp only [rowPos]; omega)
    rw [this]
  rw [dif_neg h2]
  by_cases h3 : r.val - 128 - 128 < 128
  · rw [dif_pos h3]
    have : (⟨r.val - 128 - 128, h3⟩ : Fin 128) = rowPos r := Fin.ext (by simp only [rowPos]; omega)
    rw [this]
  rw [dif_neg h3]
  have : ∀ h, (⟨r.val - 128 - 128 - 128, h⟩ : Fin 128) = rowPos r := fun h => Fin.ext (by simp only [rowPos]; omega)
  simp only [this]

/-- The mask's addend in chunk `j`, on the layout the kernel gives it. -/
theorem bias_at (sel : FVec Ideal S128x128 .bf16) (pos : IVec S128x1 32) (lane : IVec S1x512 32)
    (j : ℕ) (hj : j < 16) (p : Fin 128) (l : Fin 512) (P : ℕ) (hP : P < 8192)
    (hpos : pos (ix2 p 0) = BitVec.ofNat 32 P) (hlane : lane (ix2 0 l) = BitVec.ofNat 32 l.val)
    (b : Fin 128) (hb : b.val = (512 * j + l.val) / 64) :
    bias sel pos lane (Scalar.muli (BitVec.ofNat 32 j) 512#32) (eqF (BitVec.ofNat 32 j)) p l
      = if Ideal.ofBits .f32 0x3F000000#32 < (sel (ix2 p b) : EReal) ∧ 512 * j + l.val ≤ P then 0 else ⊥ := by
  unfold bias
  have h1 : ∀ x : Fin 128, Scalar.select (eqF (BitVec.ofNat 32 j) (ix2 x l)) (sel (ix2 p x) : EReal) 0
      = if x = b then (sel (ix2 p x) : EReal) else 0 := fun x => by
    rw [eqF_at j hj]
    by_cases h : x = b
    · rw [if_pos h, if_pos (by rw [h, hb])]; rfl
    · rw [if_neg h, if_neg (fun h' => h (Fin.ext (h'.trans hb.symm)))]; rfl
  rw [Finset.sum_congr rfl fun x _ => h1 x, Finset.sum_ite_eq' Finset.univ b, if_pos (Finset.mem_univ _), hpos, hlane]
  have h2 : IntOp.addi (Scalar.muli (BitVec.ofNat 32 j) 512#32) (BitVec.ofNat 32 l.val)
      = BitVec.ofNat 32 (512 * j + l.val) := by
    apply BitVec.eq_of_toNat_eq
    simp only [IntOp.addi, Scalar.muli, IntOp.muli, BitVec.toNat_add, BitVec.toNat_mul, BitVec.toNat_ofNat]
    have := l.isLt
    omega
  have h3 : (BitVec.ofNat 32 (512 * j + l.val)).sle (BitVec.ofNat 32 P) = decide (512 * j + l.val ≤ P) := by
    have := l.isLt
    rw [BitVec.sle_eq_decide, BitVec.toInt_eq_toNat_of_lt, BitVec.toInt_eq_toNat_of_lt, BitVec.toNat_ofNat, BitVec.toNat_ofNat,
      Nat.mod_eq_of_lt (by omega), Nat.mod_eq_of_lt (by omega)]
    · exact decide_eq_decide.2 Int.ofNat_le
    · rw [BitVec.toNat_ofNat]; omega
    · rw [BitVec.toNat_ofNat]; omega
  rw [h2, bits_ninf]
  simp only [IntOp.cmpi, h3, Scalar.select]
  by_cases ha : Ideal.ofBits .f32 0x3F000000#32 < (sel (ix2 p b) : EReal) <;>
    by_cases hc : 512 * j + l.val ≤ P <;> simp [ha, hc]

/-- A chunk carries the first `n` keys' maximum, sum and weighted values to those of the first
   `n + 512`, when its scores are those of the next 512 keys. -/
theorem chunkF_step (q : FVec Ideal S512x128 .bf16) (sel : FVec Ideal S128x128 .bf16) (pos : IVec S128x1 32)
    (lane : IVec S1x512 32) (k v : FVec Ideal S512x128 .bf16) (c : BitVec 32) (st : St Ideal) (r : Fin 512)
    (s : ℕ → EReal) (w : Fin 128 → ℕ → EReal) (n : ℕ)
    (h5 : ∀ l : Fin 512, k0_pay5 pos lane q sel (Scalar.muli c 512#32) k (eqF c) oneF zeroF (ix2 r l) = s (n + l.val))
    (hv : ∀ (l : Fin 512) (d : Fin 128), v (ix2 l d) = w d (n + l.val))
    (hm : st.1 (ix2 r 0) = Online.mx s n) (hl : st.2.1 (ix2 r 0) = Online.sm s n)
    (ha : ∀ d, st.2.2 (ix2 r d) = Online.ac s (w d) n) :
    (chunkF q sel pos lane k v c st).1 (ix2 r 0) = Online.mx s (n + 512)
    ∧ (chunkF q sel pos lane k v c st).2.1 (ix2 r 0) = Online.sm s (n + 512)
    ∧ ∀ d, (chunkF q sel pos lane k v c st).2.2 (ix2 r d) = Online.ac s (w d) (n + 512) := by
  have e1 : (oneF : Ideal .f32) = (1 : EReal) := Ideal.ofBits_one_f32
  have e0 : (zeroF : Ideal .f32) = (0 : EReal) := Ideal.ofBits_zero_f32
  rw [e1, e0] at h5
  refine ⟨?_, ?_, fun d => ?_⟩
  · unfold chunkF
    pointwise [k0_pay6]
    simp only [h5, hm, bits_ninf]
    exact (Online.mx_add s n 512).symm
  · unfold chunkF
    pointwise [k0_pay10, k0_pay9, k0_pay8, k0_pay7, k0_pay6]
    simp only [h5, hm, hl, bits_ninf, ← Online.mx_add]
    rw [Online.sm_add]
    rfl
  · unfold chunkF
    pointwise [k0_pay11, k0_pay9, k0_pay8, k0_pay7, k0_pay6]
    simp only [h5, hm, ha, hv, bits_ninf, ← Online.mx_add]
    rw [Online.ac_add]
    rfl

end Cert.Proof.PI
-- ==== Proof.KernelIdeal.GroupVal.lean ====
module

public import proofs.«01_k».proof.Proof.KernelIdeal.Group
public import proofs.«01_k».proof.Proof.KernelIdeal.ChunkVal

@[expose] public section

set_option maxRecDepth 16384

noncomputable section

namespace Cert.Proof.PI

open Cert.KernelIdeal Cert.KernelIdeal.Gen
open Idealize.ShloMosaic Idealize.ShloMosaic.TcCoe Idealize.ShloMosaic.Tactic
open Idealize.ShloMosaic.Pipeline (Dat Cfg Window BodyObligation cellOf)

/-- Chunk `j`'s 512 rows of a batch entry's keys or values, the `g`-th group of 128 columns. -/
def kvRows (x2 : FVec Ideal S1x8192x512 .bf16) (g j : ℕ) : FVec Ideal S512x128 .bf16 := fun y =>
  x2 (ix3 0 (Fin.ofNat 8192 (512 * j + (y 0).val)) (Fin.ofNat 512 (128 * g + (y 1).val)))

/-- A block of rows without its leading unit axis, read at an index. -/
theorem cast_rows (L : FVec Ideal S1x512x128 .bf16) (r : Fin 512) (l : Fin 128) :
    shapeCast S512x128 L shapeCasts_S1x512x128_S512x128 (ix2 r l) = L (ix3 0 r l) := by
  pointwise

/-- The rows a load at chunk `j`'s offset reads. -/
theorem rowsAt_eq (arg4 : Memref sig .tc .vmem S1x8192x512 .bf16) (harg4 : arg4.IsWhole)
    (x2 : FVec Ideal S1x8192x512 .bf16) (off : Fin 3 → Nat)
    (h : ∀ a, off a + S1x512x128.size a ≤ S1x8192x512.size a) (g j : ℕ) (hg : g < 4) (hj : j < 16)
    (hoff : off = ![0, 512 * j, 128 * g]) :
    rowsAt (F := Ideal) arg4 (harg4.unread x2) off h = kvRows x2 g j := by
  subst hoff
  funext y
  obtain ⟨r, l, rfl⟩ : ∃ (r : Fin 512) (l : Fin 128), y = ix2 r l := ⟨y 0, y 1, eq_ix2 y⟩
  have hr := r.isLt
  have hl := l.isLt
  unfold rowsAt
  rw [cast_rows, View.readAt_eq_ld, harg4.read_unread]
  refine View.ld_unit_apply_of _ _ _ _ _ _ fun a => ?_
  fin_cases a
  · rfl
  · show (512 * j + r.val) % 8192 = 512 * j + r.val
    omega
  · show (128 * g + l.val) % 512 = 128 * g + l.val
    omega

/-! ## The loops' extents and the loads' offsets, decided over the grid -/

theorem trips1 : ∀ t : Fin grid0.N, (k0_t1_loop (grid0.coords t)).trips = (t.val % 64 / 4 + 1) / 2 := by decide +kernel
theorem trips2 : ∀ t : Fin grid0.N, (k0_t2_loop (grid0.coords t)).trips = 0 := by decide +kernel
theorem trips3 : ∀ t : Fin grid0.N, (k0_t3_loop (grid0.coords t)).trips = (t.val % 64 / 4 + 1) / 2 := by decide +kernel
theorem trips4 : ∀ t : Fin grid0.N, (k0_t4_loop (grid0.coords t)).trips = 0 := by decide +kernel
theorem nI_eq : ∀ t : Fin grid0.N, nI (grid0.coords t) = BitVec.ofNat 32 (t.val % 64 / 4 + 1) := by decide +kernel
theorem off1_eq : ∀ (t : Fin grid0.N) (k : Fin (k0_t1_loop (grid0.coords t)).trips),
    k0_off1 (grid0.coords t) k = ![0, 512 * (2 * k.val), 128 * 0] := by decide +kernel
theorem off2_eq : ∀ (t : Fin grid0.N) (k : Fin (k0_t1_loop (grid0.coords t)).trips),
    k0_off2 (grid0.coords t) k = ![0, 512 * (2 * k.val), 128 * 2] := by decide +kernel
theorem off3_eq : ∀ (t : Fin grid0.N) (k : Fin (k0_t1_loop (grid0.coords t)).trips),
    k0_off3 (grid0.coords t) k = ![0, 512 * (2 * k.val + 1), 128 * 0] := by decide +kernel
theorem off4_eq : ∀ (t : Fin grid0.N) (k : Fin (k0_t1_loop (grid0.coords t)).trips),
    k0_off4 (grid0.coords t) k = ![0, 512 * (2 * k.val + 1), 128 * 2] := by decide +kernel
theorem off9_eq : ∀ t : Fin grid0.N, k0_off9 (grid0.coords t) = ![0, 512 * (t.val % 64 / 4), 128 * 0] := by decide +kernel
theorem off10_eq : ∀ t : Fin grid0.N, k0_off10 (grid0.coords t) = ![0, 512 * (t.val % 64 / 4), 128 * 2] := by decide +kernel
theorem off11_eq : ∀ (t : Fin grid0.N) (k : Fin (k0_t3_loop (grid0.coords t)).trips),
    k0_off11 (grid0.coords t) k = ![0, 512 * (2 * k.val), 128 * 1] := by decide +kernel
theorem off12_eq : ∀ (t : Fin grid0.N) (k : Fin (k0_t3_loop (grid0.coords t)).trips),
    k0_off12 (grid0.coords t) k = ![0, 512 * (2 * k.val), 128 * 3] := by decide +kernel
theorem off13_eq : ∀ (t : Fin grid0.N) (k : Fin (k0_t3_loop (grid0.coords t)).trips),
    k0_off13 (grid0.coords t) k = ![0, 512 * (2 * k.val + 1), 128 * 1] := by decide +kernel
theorem off14_eq : ∀ (t : Fin grid0.N) (k : Fin (k0_t3_loop (grid0.coords t)).trips),
    k0_off14 (grid0.coords t) k = ![0, 512 * (2 * k.val + 1), 128 * 3] := by decide +kernel
theorem off19_eq : ∀ t : Fin grid0.N, k0_off19 (grid0.coords t) = ![0, 512 * (t.val % 64 / 4), 128 * 1] := by decide +kernel
theorem off20_eq : ∀ t : Fin grid0.N, k0_off20 (grid0.coords t) = ![0, 512 * (t.val % 64 / 4), 128 * 3] := by decide +kernel

/-- A key head's carried values after `n` chunks. -/
def chunkN (q : FVec Ideal S512x128 .bf16) (sel : FVec Ideal S128x128 .bf16) (pos : IVec S128x1 32)
    (lane : IVec S1x512 32) (x2 : FVec Ideal S1x8192x512 .bf16) (g : ℕ) : ℕ → St Ideal
  | 0 => init0
  | n + 1 => chunkF q sel pos lane (kvRows x2 g n) (kvRows x2 (2 + g) n) (BitVec.ofNat 32 n)
      (chunkN q sel pos lane x2 g n)

theorem even_chunk (k : ℕ) (hk : k < 16) :
    Scalar.muli 2#32 (Scf.iv 0#32 1#32 k) = BitVec.ofNat 32 (2 * k) := by
  apply BitVec.eq_of_toNat_eq
  simp only [Scf.iv, Scalar.muli, IntOp.muli, BitVec.toNat_add, BitVec.toNat_mul, BitVec.toNat_ofNat]
  omega

theorem odd_chunk (k : ℕ) (hk : k < 16) :
    Scalar.addi (Scalar.muli 2#32 (Scf.iv 0#32 1#32 k)) 1#32 = BitVec.ofNat 32 (2 * k + 1) := by
  rw [even_chunk k hk]
  apply BitVec.eq_of_toNat_eq
  simp only [Scalar.addi, IntOp.addi, BitVec.toNat_add, BitVec.toNat_ofNat]
  omega

section Loops

variable (c : Dev nD) (t : Fin grid0.N)
    (arg2 : Memref sig .tc .vmem S1x128x1024 .bf16) (harg2 : arg2.IsWhole)
    (arg3 : Memref sig .tc .vmem S1x128x256 .bf16) (harg3 : arg3.IsWhole)
    (arg4 : Memref sig .tc .vmem S1x8192x512 .bf16) (harg4 : arg4.IsWhole)
    (arg5 : Memref sig .tc .vmem S1x128x1024 .f32) (harg5 : arg5.IsWhole)
    (x0 : FVec Ideal S1x128x1024 .bf16) (x1 : FVec Ideal S1x128x256 .bf16) (x2 : FVec Ideal S1x8192x512 .bf16)

/-- The loop over pairs, key head 0: after `n` trips, `2 n` chunks. -/
theorem st_t1 (v3 : IVec S128x1 32) (v24 : BitVec 32) (v25 : IVec S1x512 32)
    (v27 : FVec Ideal S128x128 .bf16) (v29 : FVec Ideal S128x128 .bf16) (v31 : FVec Ideal S128x128 .bf16) (v33 : FVec Ideal S128x128 .bf16) (v35 : FVec Ideal S1x128x128 .bf16) (n : ℕ)
    (hn : n ≤ (k0_t1_loop (grid0.coords t)).trips) :
    st_k0_t1 (F := Ideal) Variants.none c none (grid0.coords t) arg2 harg2 arg3 harg3 arg4 harg4 arg5 harg5 v3 v24 v25
      v27 v29 v31 v33 v35 (harg4.unread x2) init0 n
    = chunkN (k0_pay69 v27 v29 v31 v33) (k0_pay70 v35) v3 v25 x2 0 (2 * n) := by
  have ht := trips1 t
  induction n with
  | zero => exact st_k0_t1_zero ..
  | succ n ih =>
    have hlt : n < (k0_t1_loop (grid0.coords t)).trips := hn
    have hs := st_k0_t1_succ (F := Ideal) Variants.none c none (grid0.coords t) arg2 harg2 arg3 harg3 arg4 harg4 arg5 harg5
      v3 v24 v25 v27 v29 v31 v33 v35 (harg4.unread x2) init0 ⟨n, hlt⟩
    have hk : n < 8 := by omega
    refine hs.trans ?_
    rw [ih (by omega), trip_t1,
      rowsAt_eq arg4 harg4 x2 _ _ 0 (2 * n) (by omega) (by omega) (off1_eq t ⟨n, hlt⟩),
      rowsAt_eq arg4 harg4 x2 _ _ 2 (2 * n) (by omega) (by omega) (off2_eq t ⟨n, hlt⟩),
      rowsAt_eq arg4 harg4 x2 _ _ 0 (2 * n + 1) (by omega) (by omega) (off3_eq t ⟨n, hlt⟩),
      rowsAt_eq arg4 harg4 x2 _ _ 2 (2 * n + 1) (by omega) (by omega) (off4_eq t ⟨n, hlt⟩),
      odd_chunk n (by omega), even_chunk n (by omega)]
    rfl

/-- Key head 0's carried values after the loops. -/
theorem mid0_eq : mid0 (F := Ideal) c (grid0.coords t) arg2 harg2 arg3 harg3 arg4 harg4 arg5 harg5 x0 x1 x2
    = chunkN (q0 arg2 harg2 x0) (s0 arg3 harg3 x1) (posI (grid0.coords t)) laneI x2 0
        (2 * ((t.val % 64 / 4 + 1) / 2)) := by
  unfold mid0
  rw [trips2 t]
  refine (st_k0_t2_zero ..).trans ?_
  unfold pairs0
  refine (st_t1 c t arg2 harg2 arg3 harg3 arg4 harg4 arg5 harg5 x2 _ _ _ _ _ _ _ _ _ le_rfl).trans ?_
  rw [trips1 t]
  rfl

/-- Key head 0's carried values after the last chunk. -/
theorem last0_eq (hc : k0_cond1 (grid0.coords t) = 1#1) :
    last0 (F := Ideal) c (grid0.coords t) arg2 harg2 arg3 harg3 arg4 harg4 arg5 harg5 x0 x1 x2 hc
    = chunkN (q0 arg2 harg2 x0) (s0 arg3 harg3 x1) (posI (grid0.coords t)) laneI x2 0
        (t.val % 64 / 4 + 1) := by
  have hodd := (cond1_iff t).1 hc
  unfold last0
  rw [mid0_eq, rowsAt_eq arg4 harg4 x2 _ _ 0 (t.val % 64 / 4) (by omega) (by omega) (off9_eq t),
    rowsAt_eq arg4 harg4 x2 _ _ 2 (t.val % 64 / 4) (by omega) (by omega) (off10_eq t), nI_eq t]
  have h1 : Scalar.subi (BitVec.ofNat 32 (t.val % 64 / 4 + 1)) 1#32 = BitVec.ofNat 32 (t.val % 64 / 4) := by
    apply BitVec.eq_of_toNat_eq
    simp only [Scalar.subi, IntOp.subi, BitVec.toNat_sub, BitVec.toNat_ofNat]
    omega
  have h2 : 2 * ((t.val % 64 / 4 + 1) / 2) = t.val % 64 / 4 := by omega
  rw [h1, h2]
  rfl

/-- The loop over pairs, key head 1: after `n` trips, `2 n` chunks. -/
theorem st_t3 (v3 : IVec S128x1 32) (v24 : BitVec 32) (v25 : IVec S1x512 32)
    (v101 : FVec Ideal S128x128 .bf16) (v103 : FVec Ideal S128x128 .bf16) (v104 : FVec Ideal S1x128x128 .bf16) (v106 : FVec Ideal S1x128x128 .bf16) (v109 : FVec Ideal S1x128x128 .bf16) (n : ℕ)
    (hn : n ≤ (k0_t3_loop (grid0.coords t)).trips) :
    st_k0_t3 (F := Ideal) Variants.none c none (grid0.coords t) arg2 harg2 arg3 harg3 arg4 harg4 arg5 harg5 v3 v24 v25
      v101 v103 v104 v106 v109 (harg4.unread x2) init0 n
    = chunkN (k0_pay101 v101 v103 v104 v106) (k0_pay102 v109) v3 v25 x2 1 (2 * n) := by
  have ht := trips3 t
  induction n with
  | zero => exact st_k0_t3_zero ..
  | succ n ih =>
    have hlt : n < (k0_t3_loop (grid0.coords t)).trips := hn
    have hs := st_k0_t3_succ (F := Ideal) Variants.none c none (grid0.coords t) arg2 harg2 arg3 harg3 arg4 harg4 arg5 harg5
      v3 v24 v25 v101 v103 v104 v106 v109 (harg4.unread x2) init0 ⟨n, hlt⟩
    have hk : n < 8 := by omega
    refine hs.trans ?_
    rw [ih (by omega), trip_t3,
      rowsAt_eq arg4 harg4 x2 _ _ 1 (2 * n) (by omega) (by omega) (off11_eq t ⟨n, hlt⟩),
      rowsAt_eq arg4 harg4 x2 _ _ 3 (2 * n) (by omega) (by omega) (off12_eq t ⟨n, hlt⟩),
      rowsAt_eq arg4 harg4 x2 _ _ 1 (2 * n + 1) (by omega) (by omega) (off13_eq t ⟨n, hlt⟩),
      rowsAt_eq arg4 harg4 x2 _ _ 3 (2 * n + 1) (by omega) (by omega) (off14_eq t ⟨n, hlt⟩),
      odd_chunk n (by omega), even_chunk n (by omega)]
    rfl

/-- Key head 1's carried values after the loops. -/
theorem mid1_eq : mid1 (F := Ideal) c (grid0.coords t) arg2 harg2 arg3 harg3 arg4 harg4 arg5 harg5 x0 x1 x2
    = chunkN (q1 arg2 harg2 x0) (s1 arg3 harg3 x1) (posI (grid0.coords t)) laneI x2 1
        (2 * ((t.val % 64 / 4 + 1) / 2)) := by
  unfold mid1
  rw [trips4 t]
  refine (st_k0_t4_zero ..).trans ?_
  unfold pairs1
  refine (st_t3 c t arg2 harg2 arg3 harg3 arg4 harg4 arg5 harg5 x2 _ _ _ _ _ _ _ _ _ le_rfl).trans ?_
  rw [trips3 t]
  rfl

/-- Key head 1's carried values after the last chunk. -/
theorem last1_eq (hc : k0_cond2 (grid0.coords t) = 1#1) :
    last1 (F := Ideal) c (grid0.coords t) arg2 harg2 arg3 harg3 arg4 harg4 arg5 harg5 x0 x1 x2 hc
    = chunkN (q1 arg2 harg2 x0) (s1 arg3 harg3 x1) (posI (grid0.coords t)) laneI x2 1
        (t.val % 64 / 4 + 1) := by
  have hodd := (cond2_iff t).1 hc
  unfold last1
  rw [mid1_eq, rowsAt_eq arg4 harg4 x2 _ _ 1 (t.val % 64 / 4) (by omega) (by omega) (off19_eq t),
    rowsAt_eq arg4 harg4 x2 _ _ 3 (t.val % 64 / 4) (by omega) (by omega) (off20_eq t), nI_eq t]
  have h1 : Scalar.subi (BitVec.ofNat 32 (t.val % 64 / 4 + 1)) 1#32 = BitVec.ofNat 32 (t.val % 64 / 4) := by
    apply BitVec.eq_of_toNat_eq
    simp only [Scalar.subi, IntOp.subi, BitVec.toNat_sub, BitVec.toNat_ofNat]
    omega
  have h2 : 2 * ((t.val % 64 / 4 + 1) / 2) = t.val % 64 / 4 := by omega
  rw [h1, h2]
  rfl

end Loops

end Cert.Proof.PI
-- ==== Proof.KernelIdeal.Row.lean ====
module

public import proofs.«01_k».proof.Proof.KernelIdeal.Online

@[expose] public section

noncomputable section

namespace Cert.Proof.Online

open Idealize.ShloMosaic
open Finset

open Classical in
/-- Whether key `j` is seen from position `P`: its block of 64 is selected and it is not later. -/
def seen (sel : ℕ → EReal) (P j : ℕ) : Bool :=
  decide (Ideal.ofBits .f32 0x3F000000#32 < sel (j / 64) ∧ j ≤ P)

/-- Key `j`'s score, at the bottom where it is not seen. -/
def score (q : Fin 128 → EReal) (k : ℕ → Fin 128 → EReal) (sel : ℕ → EReal) (P j : ℕ) : EReal :=
  if seen sel P j = true then (∑ d : Fin 128, q d * k j d) * (((Real.sqrt 128)⁻¹ : ℝ) : EReal) else ⊥

/-- The exponential of key `j`'s score, as the reference takes it. -/
def expo (q : Fin 128 → EReal) (k : ℕ → Fin 128 → EReal) (sel : ℕ → EReal) (P j : ℕ) : EReal :=
  ex (seen sel P j) (score q k sel P j) (mx (score q k sel P) 8192)

/-- One entry of the attention's result: the seen keys' values weighted by the exponentials over
   their sum. -/
def rowOut (q : Fin 128 → EReal) (k : ℕ → Fin 128 → EReal) (sel : ℕ → EReal) (P : ℕ) (v : ℕ → EReal) : EReal :=
  ∑ j ∈ range 8192, v j * Ideal.div (expo q k sel P j)
    (max (∑ j ∈ range 8192, expo q k sel P j) (Ideal.ofBits .f32 0x0DA24260#32))

/-- The kernel's score of key `j`, in base two. -/
def score2 (q : Fin 128 → EReal) (k : ℕ → Fin 128 → EReal) (sel : ℕ → EReal) (P j : ℕ) : EReal :=
  (∑ d : Fin 128, q d * k j d) * (((Real.sqrt 128)⁻¹ * (Real.log 2)⁻¹ : ℝ) : EReal)
    + if Ideal.ofBits .f32 0x3F000000#32 < sel (j / 64) ∧ j ≤ P then 0 else ⊥

theorem score2_eq (q : Fin 128 → EReal) (k : ℕ → Fin 128 → EReal) (sel : ℕ → EReal) (P : ℕ) :
    score2 q k sel P = fun j => score q k sel P j * (((Real.log 2)⁻¹ : ℝ) : EReal) := by
  have hl : 0 < (Real.log 2)⁻¹ := inv_pos.2 (Real.log_pos one_lt_two)
  funext j
  unfold score2 score
  by_cases h : Ideal.ofBits .f32 0x3F000000#32 < sel (j / 64) ∧ j ≤ P
  · rw [if_pos h, if_pos (by simpa [seen] using h), add_zero, EReal.coe_mul, mul_assoc]
  · rw [if_neg h, if_neg (by simpa [seen] using h), EReal.add_bot, EReal.bot_mul_coe_of_pos hl]

/-- The floor of the divisor is a positive real. -/
theorem bits_eps : ∃ e : ℝ, 0 < e ∧ Ideal.ofBits .f32 0x0DA24260#32 = (e : EReal) := by
  refine ⟨(10633824 : ℝ) * (2 : ℝ) ^ (-123 : ℤ), by positivity, ?_⟩
  simp [Ideal.ofBits, Ideal.ieee, -EReal.coe_mul]

/-- What the kernel makes of the first `n` keys, when the keys past them are later than the
   position, is the reference's entry. -/
theorem final_eq (q : Fin 128 → EReal) (k : ℕ → Fin 128 → EReal) (sel : ℕ → EReal) (P : ℕ) (v : ℕ → EReal)
    (n : ℕ) (hn : n ≤ 8192) (hP : P < n) :
    ac (score2 q k sel P) v n
        * Ideal.div 1 (max (sm (score2 q k sel P) n) (Ideal.ofBits .f32 0x0DA24260#32))
      = rowOut q k sel P v := by
  obtain ⟨e, he, hε⟩ := bits_eps
  have htail : ∀ j, n ≤ j → j < n + (8192 - n) → score2 q k sel P j = ⊥ := fun j h1 _ => by
    unfold score2
    rw [if_neg (fun h => by omega), EReal.add_bot]
  have h8 : n + (8192 - n) = 8192 := by omega
  rw [← ac_tail _ _ n (8192 - n) htail, ← sm_tail _ n (8192 - n) htail, h8, score2_eq]
  exact row_eq (score q k sel P) v (seen sel P) 8192 (fun j hj => by unfold score; rw [hj]; rfl) _ e hε he

end Cert.Proof.Online
-- ==== Proof.KernelIdeal.GroupRow.lean ====
module

public import proofs.«01_k».proof.Proof.KernelIdeal.GroupVal
public import proofs.«01_k».proof.Proof.KernelIdeal.Row

@[expose] public section

set_option maxRecDepth 16384

noncomputable section

namespace Cert.Proof.PI

open Cert.KernelIdeal Cert.KernelIdeal.Gen
open Idealize.ShloMosaic Idealize.ShloMosaic.TcCoe Idealize.ShloMosaic.Tactic
open Idealize.ShloMosaic.Pipeline (Dat Cfg Window BodyObligation cellOf)

/-- The scale and the base change, one real number. -/
theorem named_scale : Named.named (F := Ideal) (φ := .f32) κ "scale_log2e" 0x3E0293EE#32
    = (((Real.sqrt 128)⁻¹ * (Real.log 2)⁻¹ : ℝ) : EReal) := rfl

/-- A group's rows after `n` chunks: the running maximum, sum and weighted values of the first
   `512 n` keys. -/
theorem chunkN_at (q : FVec Ideal S512x128 .bf16) (sel : FVec Ideal S128x128 .bf16) (pos : IVec S128x1 32)
    (lane : IVec S1x512 32) (x2 : FVec Ideal S1x8192x512 .bf16) (g : ℕ) (r : Fin 512) (P : ℕ) (hP : P < 8192)
    (hpos : pos (ix2 (rowPos r) 0) = BitVec.ofNat 32 P) (hlane : ∀ l : Fin 512, lane (ix2 0 l) = BitVec.ofNat 32 l.val)
    (qr : Fin 128 → EReal) (hq : ∀ d, q (ix2 r d) = qr d)
    (sr : ℕ → EReal) (hs : ∀ b : Fin 128, sel (ix2 (rowPos r) b) = sr b.val)
    (kr : ℕ → Fin 128 → EReal)
    (hk : ∀ j d, kr j d = x2 (ix3 0 (Fin.ofNat 8192 j) (Fin.ofNat 512 (128 * g + d.val))))
    (vr : Fin 128 → ℕ → EReal)
    (hv : ∀ d j, vr d j = x2 (ix3 0 (Fin.ofNat 8192 j) (Fin.ofNat 512 (128 * (2 + g) + d.val))))
    (n : ℕ) (hn : n ≤ 16) :
    (chunkN q sel pos lane x2 g n).1 (ix2 r 0) = Online.mx (Online.score2 qr kr sr P) (512 * n)
    ∧ (chunkN q sel pos lane x2 g n).2.1 (ix2 r 0) = Online.sm (Online.score2 qr kr sr P) (512 * n)
    ∧ ∀ d, (chunkN q sel pos lane x2 g n).2.2 (ix2 r d) = Online.ac (Online.score2 qr kr sr P) (vr d) (512 * n) := by
  induction n with
  | zero =>
    refine ⟨?_, ?_, fun d => ?_⟩
    · unfold chunkN init0
      pointwise [k0_pay71]
      rw [bits_ninf]; exact (Online.mx_zero _).symm
    · unfold chunkN init0
      pointwise [k0_pay72]
      exact (Online.sm_zero _).symm
    · unfold chunkN init0
      pointwise [k0_pay73]
      exact (Online.ac_zero _ _).symm
  | succ n ih =>
    obtain ⟨hm, hl, ha⟩ := ih (by omega)
    have := chunkF_step q sel pos lane (kvRows x2 g n) (kvRows x2 (2 + g) n) (BitVec.ofNat 32 n)
      (chunkN q sel pos lane x2 g n) r (Online.score2 qr kr sr P) vr (512 * n) (fun l => ?_) (fun l d => ?_) hm hl ha
    · exact this
    · have hb : (512 * n + l.val) / 64 < 128 := by have := l.isLt; omega
      rw [pay5_at, bias_at sel pos lane n (by omega) (rowPos r) l P hP hpos (hlane l) ⟨_, hb⟩ rfl, named_scale, hs]
      unfold Online.score2
      simp only [hq, hk]
      rfl
    · rw [hv]; rfl

/-- The result's tile row: the accumulator over the floored sum. -/
theorem pay94_at (l : FVec Ideal S512x1 .f32) (a : FVec Ideal S512x128 .f32) (r : Fin 512) (d : Fin 128) :
    k0_pay94 l a (ix2 r d) = (a (ix2 r d) : EReal) * Ideal.div 1 (max (l (ix2 r 0)) (Ideal.ofBits .f32 0x0DA24260#32)) := by
  pointwise [k0_pay94]

/-- The second key head's is the same text. -/
theorem pay126_eq (l : FVec Ideal S512x1 .f32) (a : FVec Ideal S512x128 .f32) : k0_pay126 l a = k0_pay94 l a := rfl

/-- A lane's place. -/
theorem laneI_at (l : Fin 512) : laneI (ix2 0 l) = BitVec.ofNat 32 l.val := by
  unfold laneI bodyRunOdd.sl.v25
  pointwise

theorem coord_mod : ∀ t : Fin grid0.N, (grid0.coords t 1).val = t.val % 64 := by decide +kernel

/-- A query's position. -/
theorem posI_at (t : Fin grid0.N) (p : Fin 128) :
    posI (grid0.coords t) (ix2 p 0) = BitVec.ofNat 32 (128 * (t.val % 64) + p.val) := by
  unfold posI bodyRunOdd.sl.v3 bodyRunOdd.sl.v2 bodyRunOdd.sl.v1
  pointwise
  unfold bodyRunOdd.sl.v0
  rw [coord_mod]
  have := p.isLt
  apply BitVec.eq_of_toNat_eq
  simp only [IntOp.addi, Scalar.muli, IntOp.muli, BitVec.toNat_add, BitVec.toNat_mul, BitVec.toNat_ofNat]
  omega

/-- One head's loaded queries, read at an index. -/
theorem qLoad_at (arg2 : Memref sig .tc .vmem S1x128x1024 .bf16) (harg2 : arg2.IsWhole) (x0 : FVec Ideal S1x128x1024 .bf16)
    (col : ℕ) (h : ∀ a, (![0, 0, col] : Fin 3 → Nat) a + S1x128x128.size a ≤ S1x128x1024.size a) (p d : Fin 128)
    (c' : Fin 1024) (hc : c'.val = col + d.val) :
    qLoad (F := Ideal) arg2 harg2 x0 ![0, 0, col] h (ix3 0 p d) = x0 (ix3 0 p c') := by
  unfold qLoad
  rw [View.readAt_eq_ld, harg2.read_unread]
  refine View.ld_unit_apply_of _ _ _ _ _ _ fun a => ?_
  fin_cases a
  · rfl
  · show p.val = 0 + p.val
    omega
  · exact hc

/-- One key head's loaded selection rows, read at an index. -/
theorem sLoad_at (arg3 : Memref sig .tc .vmem S1x128x256 .bf16) (harg3 : arg3.IsWhole) (x1 : FVec Ideal S1x128x256 .bf16)
    (col : ℕ) (h : ∀ a, (![0, 0, col] : Fin 3 → Nat) a + S1x128x128.size a ≤ S1x128x256.size a) (p d : Fin 128)
    (c' : Fin 256) (hc : c'.val = col + d.val) :
    sLoad (F := Ideal) arg3 harg3 x1 ![0, 0, col] h (ix3 0 p d) = x1 (ix3 0 p c') := by
  unfold sLoad
  rw [View.readAt_eq_ld, harg3.read_unread]
  refine View.ld_unit_apply_of _ _ _ _ _ _ fun a => ?_
  fin_cases a
  · rfl
  · show p.val = 0 + p.val
    omega
  · exact hc

/-- The queries of key head 0's four heads, read at a row and a lane. -/
theorem q0_at (arg2 : Memref sig .tc .vmem S1x128x1024 .bf16) (harg2 : arg2.IsWhole) (x0 : FVec Ideal S1x128x1024 .bf16)
    (r : Fin 512) (d : Fin 128) :
    q0 (F := Ideal) arg2 harg2 x0 (ix2 r d)
      = x0 (ix3 0 (rowPos r) (Fin.ofNat 1024 (0 + 128 * (r.val / 128) + d.val))) := by
  have hr := r.isLt
  have hd := d.isLt
  unfold q0
  pointwise [k0_pay69, qMat]
  by_cases h1 : r.val < 128
  · rw [dif_pos h1, (Fin.ext (by simp only [rowPos]; omega) : (⟨r.val, h1⟩ : Fin 128) = rowPos r)]
    exact qLoad_at arg2 harg2 x0 _ _ _ _ _ (by simp only [Fin.val_ofNat]; omega)
  rw [dif_neg h1]
  by_cases h2 : r.val - 128 < 128
  · rw [dif_pos h2, (Fin.ext (by simp only [rowPos]; omega) : (⟨r.val - 128, h2⟩ : Fin 128) = rowPos r)]
    exact qLoad_at arg2 harg2 x0 _ _ _ _ _ (by simp only [Fin.val_ofNat]; omega)
  rw [dif_neg h2]
  by_cases h3 : r.val - 128 - 128 < 128
  · rw [dif_pos h3, (Fin.ext (by simp only [rowPos]; omega) : (⟨r.val - 128 - 128, h3⟩ : Fin 128) = rowPos r)]
    exact qLoad_at arg2 harg2 x0 _ _ _ _ _ (by simp only [Fin.val_ofNat]; omega)
  rw [dif_neg h3, (Fin.ext (by simp only [rowPos]; omega) : (⟨r.val - 128 - 128 - 128, by omega⟩ : Fin 128) = rowPos r)]
  exact qLoad_at arg2 harg2 x0 _ _ _ _ _ (by simp only [Fin.val_ofNat]; omega)

/-- The selection rows of key head 0, read at a position and a block. -/
theorem s0_at (arg3 : Memref sig .tc .vmem S1x128x256 .bf16) (harg3 : arg3.IsWhole) (x1 : FVec Ideal S1x128x256 .bf16)
    (p b : Fin 128) :
    s0 (F := Ideal) arg3 harg3 x1 (ix2 p b) = x1 (ix3 0 p (Fin.ofNat 256 (128 * 0 + b.val))) := by
  have hb := b.isLt
  unfold s0
  pointwise [k0_pay70]
  exact sLoad_at arg3 harg3 x1 _ _ _ _ _ (by simp only [Fin.val_ofNat]; omega)

/-- The queries of key head 1's four heads, read at a row and a lane. -/
theorem q1_at (arg2 : Memref sig .tc .vmem S1x128x1024 .bf16) (harg2 : arg2.IsWhole) (x0 : FVec Ideal S1x128x1024 .bf16)
    (r : Fin 512) (d : Fin 128) :
    q1 (F := Ideal) arg2 harg2 x0 (ix2 r d)
      = x0 (ix3 0 (rowPos r) (Fin.ofNat 1024 (512 + 128 * (r.val / 128) + d.val))) := by
  have hr := r.isLt
  have hd := d.isLt
  unfold q1
  pointwise [k0_pay101, qMat]
  by_cases h1 : r.val < 128
  · rw [dif_pos h1, (Fin.ext (by simp only [rowPos]; omega) : (⟨r.val, h1⟩ : Fin 128) = rowPos r)]
    exact qLoad_at arg2 harg2 x0 _ _ _ _ _ (by simp only [Fin.val_ofNat]; omega)
  rw [dif_neg h1]
  by_cases h2 : r.val - 128 < 128
  · rw [dif_pos h2, (Fin.ext (by simp only [rowPos]; omega) : (⟨r.val - 128, h2⟩ : Fin 128) = rowPos r)]
    exact qLoad_at arg2 harg2 x0 _ _ _ _ _ (by simp only [Fin.val_ofNat]; omega)
  rw [dif_neg h2]
  by_cases h3 : r.val - 128 - 128 < 128
  · rw [dif_pos h3, (Fin.ext (by simp only [rowPos]; omega) : (⟨r.val - 128 - 128, h3⟩ : Fin 128) = rowPos r)]
    exact qLoad_at arg2 harg2 x0 _ _ _ _ _ (by simp only [Fin.val_ofNat]; omega)
  rw [dif_neg h3, (Fin.ext (by simp only [rowPos]; omega) : (⟨r.val - 128 - 128 - 128, by omega⟩ : Fin 128) = rowPos r)]
  exact qLoad_at arg2 harg2 x0 _ _ _ _ _ (by simp only [Fin.val_ofNat]; omega)

/-- The selection rows of key head 1, read at a position and a block. -/
theorem s1_at (arg3 : Memref sig .tc .vmem S1x128x256 .bf16) (harg3 : arg3.IsWhole) (x1 : FVec Ideal S1x128x256 .bf16)
    (p b : Fin 128) :
    s1 (F := Ideal) arg3 harg3 x1 (ix2 p b) = x1 (ix3 0 p (Fin.ofNat 256 (128 * 1 + b.val))) := by
  have hb := b.isLt
  unfold s1
  pointwise [k0_pay102]
  exact sLoad_at arg3 harg3 x1 _ _ _ _ _ (by simp only [Fin.val_ofNat]; omega)

/-- The result's block at position `p` and column `col`: the attention's entry, over a block's queries,
   selection rows and the batch entry's keys and values. -/
def blkOut (x0 : FVec Ideal S1x128x1024 .bf16) (x1 : FVec Ideal S1x128x256 .bf16) (x2 : FVec Ideal S1x8192x512 .bf16)
    (i : ℕ) (p : Fin 128) (col : ℕ) : EReal :=
  Online.rowOut (fun d => x0 (ix3 0 p (Fin.ofNat 1024 (128 * (col / 128) + d.val))))
    (fun j d => x2 (ix3 0 (Fin.ofNat 8192 j) (Fin.ofNat 512 (128 * (col / 512) + d.val))))
    (fun b => x1 (ix3 0 p (Fin.ofNat 256 (128 * (col / 512) + b))))
    (128 * i + p.val)
    (fun j => x2 (ix3 0 (Fin.ofNat 8192 j) (Fin.ofNat 512 (128 * (2 + col / 512) + col % 128))))

section Tiles

variable (t : Fin grid0.N)
    (arg2 : Memref sig .tc .vmem S1x128x1024 .bf16) (harg2 : arg2.IsWhole)
    (arg3 : Memref sig .tc .vmem S1x128x256 .bf16) (harg3 : arg3.IsWhole)
    (x0 : FVec Ideal S1x128x1024 .bf16) (x1 : FVec Ideal S1x128x256 .bf16) (x2 : FVec Ideal S1x8192x512 .bf16)

/-- Key head 0's tiles, from the carried values after all its chunks. -/
theorem tile0 (n : ℕ) (hn : n ≤ 16) (hP : 128 * (t.val % 64) + 128 ≤ 512 * n) (r : Fin 512) (d : Fin 128) :
    k0_pay94 (chunkN (q0 arg2 harg2 x0) (s0 arg3 harg3 x1) (posI (grid0.coords t)) laneI x2 0 n).2.1
        (chunkN (q0 arg2 harg2 x0) (s0 arg3 harg3 x1) (posI (grid0.coords t)) laneI x2 0 n).2.2 (ix2 r d)
      = blkOut x0 x1 x2 (t.val % 64) (rowPos r) (0 + 128 * (r.val / 128) + d.val) := by
  have hr := r.isLt
  have hd := d.isLt
  have hp := (rowPos r).isLt
  have h1 : (0 + 128 * (r.val / 128) + d.val) / 512 = 0 := by omega
  have h2 : 128 * ((0 + 128 * (r.val / 128) + d.val) / 128) = 0 + 128 * (r.val / 128) := by omega
  have h3 : (0 + 128 * (r.val / 128) + d.val) % 128 = d.val := by omega
  obtain ⟨_, hl, ha⟩ := chunkN_at (q0 (F := Ideal) arg2 harg2 x0) (s0 (F := Ideal) arg3 harg3 x1) (posI (grid0.coords t)) laneI x2 0 r
    (128 * (t.val % 64) + (rowPos r).val) (by omega) (posI_at t (rowPos r)) laneI_at
    (fun d => x0 (ix3 0 (rowPos r) (Fin.ofNat 1024 (0 + 128 * (r.val / 128) + d.val)))) (q0_at arg2 harg2 x0 r)
    (fun b => x1 (ix3 0 (rowPos r) (Fin.ofNat 256 (128 * 0 + b)))) (s0_at arg3 harg3 x1 (rowPos r))
    (fun j d => x2 (ix3 0 (Fin.ofNat 8192 j) (Fin.ofNat 512 (128 * 0 + d.val)))) (fun _ _ => rfl)
    (fun d j => x2 (ix3 0 (Fin.ofNat 8192 j) (Fin.ofNat 512 (128 * (2 + 0) + d.val)))) (fun _ _ => rfl)
    n hn
  rw [pay94_at, hl, ha d]
  unfold blkOut
  rw [h1, h2, h3]
  exact Online.final_eq _ _ _ _ _ (512 * n) (by omega) (by omega)

/-- Key head 1's tiles, from the carried values after all its chunks. -/
theorem tile1 (n : ℕ) (hn : n ≤ 16) (hP : 128 * (t.val % 64) + 128 ≤ 512 * n) (r : Fin 512) (d : Fin 128) :
    k0_pay94 (chunkN (q1 arg2 harg2 x0) (s1 arg3 harg3 x1) (posI (grid0.coords t)) laneI x2 1 n).2.1
        (chunkN (q1 arg2 harg2 x0) (s1 arg3 harg3 x1) (posI (grid0.coords t)) laneI x2 1 n).2.2 (ix2 r d)
      = blkOut x0 x1 x2 (t.val % 64) (rowPos r) (512 + 128 * (r.val / 128) + d.val) := by
  have hr := r.isLt
  have hd := d.isLt
  have hp := (rowPos r).isLt
  have h1 : (512 + 128 * (r.val / 128) + d.val) / 512 = 1 := by omega
  have h2 : 128 * ((512 + 128 * (r.val / 128) + d.val) / 128) = 512 + 128 * (r.val / 128) := by omega
  have h3 : (512 + 128 * (r.val / 128) + d.val) % 128 = d.val := by omega
  obtain ⟨_, hl, ha⟩ := chunkN_at (q1 (F := Ideal) arg2 harg2 x0) (s1 (F := Ideal) arg3 harg3 x1) (posI (grid0.coords t)) laneI x2 1 r
    (128 * (t.val % 64) + (rowPos r).val) (by omega) (posI_at t (rowPos r)) laneI_at
    (fun d => x0 (ix3 0 (rowPos r) (Fin.ofNat 1024 (512 + 128 * (r.val / 128) + d.val)))) (q1_at arg2 harg2 x0 r)
    (fun b => x1 (ix3 0 (rowPos r) (Fin.ofNat 256 (128 * 1 + b)))) (s1_at arg3 harg3 x1 (rowPos r))
    (fun j d => x2 (ix3 0 (Fin.ofNat 8192 j) (Fin.ofNat 512 (128 * 1 + d.val)))) (fun _ _ => rfl)
    (fun d j => x2 (ix3 0 (Fin.ofNat 8192 j) (Fin.ofNat 512 (128 * (2 + 1) + d.val)))) (fun _ _ => rfl)
    n hn
  rw [pay94_at, hl, ha d]
  unfold blkOut
  rw [h1, h2, h3]
  exact Online.final_eq _ _ _ _ _ (512 * n) (by omega) (by omega)

/-- One tile's element: the row `o` further down is head `o / 128`'s. -/
theorem tile_at (l : FVec Ideal S512x1 .f32) (a : FVec Ideal S512x128 .f32) (V : Fin 128 → ℕ → EReal) (base : ℕ)
    (h : ∀ r d, k0_pay94 l a (ix2 r d) = V (rowPos r) (base + 128 * (r.val / 128) + d.val))
    (p : Fin 128) (col : Fin 1024) (o : ℕ) (b d : Fin 128) (r : Fin 512) (hp : p.val = b.val) (hr : r.val = o + b.val)
    (ho : o % 128 = 0) (hcol : col.val = base + o + d.val) :
    k0_pay94 l a (ix2 r d) = V p col.val := by
  rw [h]
  have hb := b.isLt
  exact congrArg₂ V (Fin.ext (by simp only [rowPos]; omega)) (by omega)

/-- The eight tiles together are the block. -/
theorem tiles_at (l0 : FVec Ideal S512x1 .f32) (a0 : FVec Ideal S512x128 .f32) (l1 : FVec Ideal S512x1 .f32)
    (a1 : FVec Ideal S512x128 .f32) (V : Fin 128 → ℕ → EReal)
    (H0 : ∀ r d, k0_pay94 l0 a0 (ix2 r d) = V (rowPos r) (0 + 128 * (r.val / 128) + d.val))
    (H1 : ∀ r d, k0_pay94 l1 a1 (ix2 r d) = V (rowPos r) (512 + 128 * (r.val / 128) + d.val))
    (p : Fin 128) (col : Fin 1024) :
    View.canon (tiles (F := Ideal) l0 a0 l1 a1) (ix3 0 p col) = V p col.val := by
  unfold tiles
  canon_tiles x h
  · replace h2 : col.val = 512 + 384 + (x 2).val := by refine h2.trans ?_; omega
    rw [eq_ix3 x]
    pointwise [k0_pay1, k0_pay130]
    rw [pay126_eq]
    exact tile_at _ _ V 512 H1 p col 384 (x 1) (x 2) _ h1 (by simp) rfl h2
  · replace h2 : col.val = 512 + 256 + (x 2).val := by refine h2.trans ?_; omega
    rw [eq_ix3 x]
    pointwise [k0_pay129]
    rw [pay126_eq]
    exact tile_at _ _ V 512 H1 p col 256 (x 1) (x 2) _ h1 (by simp) rfl h2
  · replace h2 : col.val = 512 + 128 + (x 2).val := by refine h2.trans ?_; omega
    rw [eq_ix3 x]
    pointwise [k0_pay128]
    rw [pay126_eq]
    exact tile_at _ _ V 512 H1 p col 128 (x 1) (x 2) _ h1 (by simp) rfl h2
  · replace h2 : col.val = 512 + 0 + (x 2).val := by refine h2.trans ?_; omega
    rw [eq_ix3 x]
    pointwise [k0_pay127]
    rw [pay126_eq]
    exact tile_at _ _ V 512 H1 p col 0 (x 1) (x 2) _ h1 (by simp) rfl h2
  · replace h2 : col.val = 0 + 384 + (x 2).val := by refine h2.trans ?_; omega
    rw [eq_ix3 x]
    pointwise [k0_pay98]
    exact tile_at _ _ V 0 H0 p col 384 (x 1) (x 2) _ h1 (by simp) rfl h2
  · replace h2 : col.val = 0 + 256 + (x 2).val := by refine h2.trans ?_; omega
    rw [eq_ix3 x]
    pointwise [k0_pay97]
    exact tile_at _ _ V 0 H0 p col 256 (x 1) (x 2) _ h1 (by simp) rfl h2
  · replace h2 : col.val = 0 + 128 + (x 2).val := by refine h2.trans ?_; omega
    rw [eq_ix3 x]
    pointwise [k0_pay96]
    exact tile_at _ _ V 0 H0 p col 128 (x 1) (x 2) _ h1 (by simp) rfl h2
  · replace h2 : col.val = 0 + 0 + (x 2).val := by refine h2.trans ?_; omega
    rw [eq_ix3 x]
    pointwise [k0_pay95]
    exact tile_at _ _ V 0 H0 p col 0 (x 1) (x 2) _ h1 (by simp) rfl h2

end Tiles

end Cert.Proof.PI
-- ==== Proof.KernelIdeal.Out.lean ====
module

public import proofs.«01_k».proof.Proof.KernelIdeal.GroupRow
public import Idealize.ShloMosaic.Lib.Pipeline.ValueKit

@[expose] public section

set_option maxRecDepth 16384

noncomputable section

namespace Cert.Proof.PI

open Cert.KernelIdeal Cert.KernelIdeal.Gen
open Idealize.ShloMosaic Idealize.ShloMosaic.TcCoe Idealize.ShloMosaic.Tactic
open Idealize.SL Idealize.SL.Sem

variable (m : (ℓ : Loc nD τ sig) → Buf (Elt Ideal) ℓ)

/-- What the body leaves in the result's buffer at a point: the attention's entries over the point's blocks. -/
theorem outsAt0_at (c : Dev nD) (t : Fin cfg0.N) (p : Fin 128) (col : Fin 1024) :
    outsAt0 (F := Ideal) m c t (ix3 0 p col)
      = blkOut (iblk m c 0 t) (iblk m c 1 t) (iblk m c 2 t) (t.val % 64) p col.val := by
  unfold outsAt0
  split
  next h =>
    unfold outOdd
    rw [View.read_writes_junk_eq_canon, pieces_odd, last0_eq _ t, last1_eq _ t]
    exact tiles_at _ _ _ _ (fun p col => blkOut _ _ _ (t.val % 64) p col)
      (tile0 t _ _ _ _ _ _ _ _ (by omega) (by omega)) (tile1 t _ _ _ _ _ _ _ _ (by omega) (by omega)) p col
  next h =>
    have he : ¬ t.val % 64 / 4 % 2 = 0 := fun e => h ((cond1_iff t).2 e)
    unfold outEven
    rw [View.read_writes_junk_eq_canon, pieces_even, mid0_eq _ t, mid1_eq _ t]
    exact tiles_at _ _ _ _ (fun p col => blkOut _ _ _ (t.val % 64) p col)
      (tile0 t _ _ _ _ _ _ _ _ (by omega) (by omega)) (tile1 t _ _ _ _ _ _ _ _ (by omega) (by omega)) p col

/-- The result's entry at batch entry `b`, position `P` and column `col`, over the argument arrays: the attention of
   query head `col / 128` over key head `col / 512`'s selected keys, read at the value's coordinate `col % 128`. -/
def attn (A0 : FVec Ideal S2x8192x2048 .bf16) (A1 : FVec Ideal S2x8192x256 .bf16) (A2 : FVec Ideal S2x8192x1024 .bf16)
    (b : Fin 2) (P : Fin 8192) (col : ℕ) : EReal :=
  Online.rowOut (fun d => A0 (ix3 b P (Fin.ofNat 2048 (1024 + 128 * (col / 128) + d.val))))
    (fun j d => A2 (ix3 b (Fin.ofNat 8192 j) (Fin.ofNat 1024 (128 * (col / 512) + d.val))))
    (fun e => A1 (ix3 b P (Fin.ofNat 256 (128 * (col / 512) + e))))
    P.val
    (fun j => A2 (ix3 b (Fin.ofNat 8192 j) (Fin.ofNat 1024 (128 * (2 + col / 512) + col % 128))))

/-- The four windows' blocks at a point. -/
theorem idx : ∀ t : Fin cfg0.N, win0_0.index t = ![t.val / 64, t.val % 64, 1] ∧ win0_1.index t = ![t.val / 64, t.val % 64, 0]
    ∧ win0_2.index t = ![t.val / 64, 0, 0] ∧ win0_3.index t = ![t.val / 64, t.val % 64, 0] :=
  (by decide +kernel : ∀ t : Fin grid0.N, _)

/-- The queries' block, read at an index. -/
theorem iblk0_at (c : Dev nD) (t : Fin cfg0.N) (p : Fin 128) (x : Fin 1024) (b : Fin 2) (P : Fin 8192) (X : Fin 2048)
    (hb : b.val = t.val / 64) (hP : P.val = 128 * (t.val % 64) + p.val) (hX : X.val = 1024 + x.val) :
    (iblk m c 0 t : FVec Ideal S1x128x1024 .bf16) (ix3 0 p x) = m ((c : Thread nD τ).loc main_arg0) (ix3 b P X) := by
  blk_ext [iblk, V, idx t]

/-- The selection's block, read at an index. -/
theorem iblk1_at (c : Dev nD) (t : Fin cfg0.N) (p : Fin 128) (x : Fin 256) (b : Fin 2) (P : Fin 8192)
    (hb : b.val = t.val / 64) (hP : P.val = 128 * (t.val % 64) + p.val) :
    (iblk m c 1 t : FVec Ideal S1x128x256 .bf16) (ix3 0 p x) = m ((c : Thread nD τ).loc main_arg1) (ix3 b P x) := by
  blk_ext [iblk, V, idx t]

/-- The keys' and values' block, read at an index. -/
theorem iblk2_at (c : Dev nD) (t : Fin cfg0.N) (j : Fin 8192) (x : Fin 512) (b : Fin 2) (X : Fin 1024)
    (hb : b.val = t.val / 64) (hX : X.val = x.val) :
    (iblk m c 2 t : FVec Ideal S1x8192x512 .bf16) (ix3 0 j x) = m ((c : Thread nD τ).loc main_arg2) (ix3 b j X) := by
  blk_ext [iblk, V, idx t]

/-- The attention over a point's blocks is the attention over the arrays at the point's rows. -/
theorem blkOut_eq (c : Dev nD) (t : Fin cfg0.N) (p : Fin 128) (col : Fin 1024) (b : Fin 2) (P : Fin 8192)
    (hb : b.val = t.val / 64) (hP : P.val = 128 * (t.val % 64) + p.val) :
    blkOut (iblk m c 0 t) (iblk m c 1 t) (iblk m c 2 t) (t.val % 64) p col.val
      = attn (m ((c : Thread nD τ).loc main_arg0)) (m ((c : Thread nD τ).loc main_arg1)) (m ((c : Thread nD τ).loc main_arg2))
          b P col.val := by
  have hc := col.isLt
  unfold blkOut attn
  have e0 : (fun d : Fin 128 => (iblk m c 0 t : FVec Ideal S1x128x1024 .bf16) (ix3 0 p (Fin.ofNat 1024 (128 * (col.val / 128) + d.val))))
      = fun d => m ((c : Thread nD τ).loc main_arg0) (ix3 b P (Fin.ofNat 2048 (1024 + 128 * (col.val / 128) + d.val))) :=
    funext fun d => iblk0_at m c t p _ b P _ hb hP (by simp only [Fin.val_ofNat]; omega)
  have e1 : (fun e : ℕ => (iblk m c 1 t : FVec Ideal S1x128x256 .bf16) (ix3 0 p (Fin.ofNat 256 (128 * (col.val / 512) + e))))
      = fun e => m ((c : Thread nD τ).loc main_arg1) (ix3 b P (Fin.ofNat 256 (128 * (col.val / 512) + e))) :=
    funext fun e => iblk1_at m c t p _ b P hb hP
  have e2 : (fun (j : ℕ) (d : Fin 128) => (iblk m c 2 t : FVec Ideal S1x8192x512 .bf16) (ix3 0 (Fin.ofNat 8192 j) (Fin.ofNat 512 (128 * (col.val / 512) + d.val))))
      = fun j d => m ((c : Thread nD τ).loc main_arg2) (ix3 b (Fin.ofNat 8192 j) (Fin.ofNat 1024 (128 * (col.val / 512) + d.val))) :=
    funext fun j => funext fun d => iblk2_at m c t _ _ b _ hb (by simp only [Fin.val_ofNat]; omega)
  have e3 : (fun (j : ℕ) => (iblk m c 2 t : FVec Ideal S1x8192x512 .bf16) (ix3 0 (Fin.ofNat 8192 j) (Fin.ofNat 512 (128 * (2 + col.val / 512) + col.val % 128))))
      = fun j => m ((c : Thread nD τ).loc main_arg2) (ix3 b (Fin.ofNat 8192 j) (Fin.ofNat 1024 (128 * (2 + col.val / 512) + col.val % 128))) :=
    funext fun j => iblk2_at m c t _ _ b _ hb (by
      have h : 128 * (2 + col.val / 512) + col.val % 128 < 512 := by omega
      simp only [Fin.val_ofNat]
      rw [Nat.mod_eq_of_lt h, Nat.mod_eq_of_lt (h.trans (by norm_num))])
  rw [e0, e1, e2, e3, hP]

/-- The result array after the run: the attention at every entry. -/
theorem final (c : Dev nD) : (dats (F := Ideal) m 0 c).arrAt 3 cfg0.N
    = fun y : S2x8192x1024.Idx => attn (m ((c : Thread nD τ).loc main_arg0)) (m ((c : Thread nD τ).loc main_arg1))
        (m ((c : Thread nD τ).loc main_arg2)) (y 0) (y 1) (y 2).val := by
  refine (dats m 0 c).arrAt_eq_of_covers 3 _ (by decide +kernel) fun t hf y => ?_
  blk_simp
  rw [after0_3]
  have hb : (((win0_3.blk t).view.emb y 0 : Fin 2) : ℕ) = t.val / 64 := by
    blk_simp [idx t]
  have hP : (((win0_3.blk t).view.emb y 1 : Fin 8192) : ℕ) = 128 * (t.val % 64) + (y 1).val := by
    blk_simp [idx t]
    omega
  have hC : win0_3.index t 2 * 1024 + (y 2).val = (y 2).val := by
    rw [(idx t).2.2.2]
    exact Nat.zero_add _
  rw [hC]
  refine Eq.trans ?_ ((outsAt0_at m c t (y 1) (y 2)).trans (blkOut_eq m c t (y 1) (y 2) _ _ hb hP))
  exact congrArg (outsAt0 m c t) ((eq_ix3 (y : S1x128x1024.Idx)).trans (congrArg (fun a => ix3 a (y 1) (y 2)) (Subsingleton.elim (α := Fin 1) _ _)))

end Cert.Proof.PI
-- ==== Proof.ReferenceIdeal.Terms.lean ====
module

public import proofs.«01_k».proof.Proof.Gen.ReferenceIdeal.Run
public import proofs.«01_k».proof.Proof.KernelIdeal.Row
public import proofs.«01_k».proof.Proof.KernelIdeal.ChunkVal
public import Idealize.ShloMosaic.Lib.Pointwise

@[expose] public section

set_option maxRecDepth 16384

noncomputable section

namespace Cert.Proof.RI

open Cert.ReferenceIdeal Cert.ReferenceIdeal.Gen
open Idealize.ShloMosaic Idealize.ShloMosaic.TcCoe Idealize.ShloMosaic.Tactic
open Idealize.SL Idealize.SL.Sem

/-- Which keys a position sees: selected and not later. -/
def maskT (A1 : FVec Ideal S2x8192x256 .bf16) : IVec S2x8192x2x1x8192 1 :=
  broadcastInDim S2x8192x2x1x8192 ![0, 1, 2, 4] bcast_S2x8192x2x8192_S2x8192x2x1x8192_0_1_2_4 (andi (shapeCast _ (broadcastInDim S2x8192x2x128x64 ![0, 1, 2, 3] bcast_S2x8192x2x128_S2x8192x2x128x64_0_1_2_3 (cmpf .ogt (shapeCast _ (extf .f32 A1 bitsLt_bf16_f32) shapeCasts_S2x8192x256_S2x8192x2x128) (broadcastInDim S2x8192x2x128 ![] bcast_S_S2x8192x2x128 (constant S_ .f32 0x3F000000#32)))) shapeCasts_S2x8192x2x128x64_S2x8192x2x8192) (broadcastInDim S2x8192x2x8192 ![0, 1, 2, 3] bcast_S1x8192x1x8192_S2x8192x2x8192_0_1_2_3 (broadcastInDim S1x8192x1x8192 ![1, 3] bcast_S8192x8192_S1x8192x1x8192_1_3 (cmpi .sle (broadcastInDim S8192x8192 ![0, 1] bcast_S1x8192_S8192x8192_0_1 (broadcastInDim S1x8192 ![1] bcast_S8192_S1x8192_1 (iotaInDim S8192 32 0))) (broadcastInDim S8192x8192 ![0, 1] bcast_S8192x1_S8192x8192_0_1 (broadcastInDim S8192x1 ![0] bcast_S8192_S8192x1_0 (iotaInDim S8192 32 0)))))))

/-- The queries' products with the keys, not scaled. -/
def dotT (A0 : FVec Ideal S2x8192x2048 .bf16) (A2 : FVec Ideal S2x8192x1024 .bf16) : FVec Ideal S2x8192x2x4x8192 .f32 :=
  transpose S2x8192x2x4x8192 [0, 3, 1, 4, 2] (Host.dotGeneral (φ₁ := .f32) (φ₂ := .f32) dot_S2x8192x2x128_S2x8192x2x4x128_S2x2x8192x8192x4_3_4_1_13_02_02 none (shapeCast _ (extractStridedSlice S2x8192x1x2x128 ![0, 0, 0, 0, 0] (shapeCast _ (extf .f32 A2 bitsLt_bf16_f32) shapeCasts_S2x8192x1024_S2x8192x4x2x128) slices_S2x8192x4x2x128_S2x8192x1x2x128_0_0_0_0_0) shapeCasts_S2x8192x1x2x128_S2x8192x2x128) (shapeCast _ (extractStridedSlice S2x8192x1024 ![0, 0, 1024] (extf .f32 A0 bitsLt_bf16_f32) slices_S2x8192x2048_S2x8192x1024_0_0_1024) shapeCasts_S2x8192x1024_S2x8192x2x4x128)) transposes_S2x2x8192x8192x4_S2x8192x2x4x8192_0_3_1_4_2

/-- The scores, at the bottom where a key is not seen. -/
def scoreT (mask : IVec S2x8192x2x1x8192 1) (dot : FVec Ideal S2x8192x2x4x8192 .f32) : FVec Ideal S2x8192x2x4x8192 .f32 :=
  select (broadcastInDim S2x8192x2x4x8192 ![0, 1, 2, 3, 4] bcast_S2x8192x2x1x8192_S2x8192x2x4x8192_0_1_2_3_4 mask) (mulf dot (broadcastInDim S2x8192x2x4x8192 ![] bcast_S_S2x8192x2x4x8192 (Host.rsqrt (constant S_ .f32 0x43000000#32)))) (broadcastInDim S2x8192x2x4x8192 ![] bcast_S_S2x8192x2x4x8192 (id (constant S_ .f32 0xFF800000#32)))

/-- Each row's maximum. -/
def maxT (sc : FVec Ideal S2x8192x2x4x8192 .f32) : FVec Ideal S2x8192x2x4x1 .f32 :=
  broadcastInDim S2x8192x2x4x1 ![0, 1, 2, 3] bcast_S2x8192x2x4_S2x8192x2x4x1_0_1_2_3 (Host.reduce FloatOps.maximumf sc (constant S_ .f32 0xFF800000#32) reducesTo_S2x8192x2x4x8192_S2x8192x2x4_d4 h_S_)

/-- The maximum, or zero where it is not finite. -/
def shiftT (mx : FVec Ideal S2x8192x2x4x1 .f32) : FVec Ideal S2x8192x2x4x1 .f32 :=
  select (cmpf .olt (Host.absf mx) (broadcastInDim S2x8192x2x4x1 ![] bcast_S_S2x8192x2x4x1 (constant S_ .f32 0x7F800000#32))) mx (broadcastInDim S2x8192x2x4x1 ![] bcast_S_S2x8192x2x4x1 (id (constant S_ .f32 0x00000000#32)))

/-- The exponentials, zero where a key is not seen. -/
def expT (mask : IVec S2x8192x2x1x8192 1) (sc : FVec Ideal S2x8192x2x4x8192 .f32) (sh : FVec Ideal S2x8192x2x4x1 .f32) :
    FVec Ideal S2x8192x2x4x8192 .f32 :=
  select (broadcastInDim S2x8192x2x4x8192 ![0, 1, 2, 3, 4] bcast_S2x8192x2x1x8192_S2x8192x2x4x8192_0_1_2_3_4 mask) (Host.exp (subf sc (broadcastInDim S2x8192x2x4x8192 ![0, 1, 2, 3, 4] bcast_S2x8192x2x4x1_S2x8192x2x4x8192_0_1_2_3_4 sh))) (broadcastInDim S2x8192x2x4x8192 ![] bcast_S_S2x8192x2x4x8192 (id (constant S_ .f32 0x00000000#32)))

/-- The weights: the exponentials over their floored sum. -/
def weightT (ex : FVec Ideal S2x8192x2x4x8192 .f32) : FVec Ideal S2x8192x2x4x8192 .f32 :=
  Host.divf ex (broadcastInDim S2x8192x2x4x8192 ![0, 1, 2, 3, 4] bcast_S2x8192x2x4x1_S2x8192x2x4x8192_0_1_2_3_4 (maximumf (broadcastInDim S2x8192x2x4x1 ![0, 1, 2, 3] bcast_S2x8192x2x4_S2x8192x2x4x1_0_1_2_3 (Host.reduceAdd ex (constant S_ .f32 0x00000000#32) reducesTo_S2x8192x2x4x8192_S2x8192x2x4_d4 h_S_)) (broadcastInDim S2x8192x2x4x1 ![] bcast_S_S2x8192x2x4x1 (constant S_ .f32 0x0DA24260#32))))

/-- The weighted values. -/
def outT (A2 : FVec Ideal S2x8192x1024 .bf16) (w : FVec Ideal S2x8192x2x4x8192 .f32) : FVec Ideal S2x8192x1024 .f32 :=
  shapeCast _ (transpose S2x8192x2x4x128 [0, 3, 1, 4, 2] (Host.dotGeneral (φ₁ := .f32) (φ₂ := .f32) dot_S2x8192x2x128_S2x8192x2x4x8192_S2x2x128x8192x4_1_4_3_13_02_02 none (shapeCast _ (extractStridedSlice S2x8192x1x2x128 ![0, 0, 1, 0, 0] (shapeCast _ (extf .f32 A2 bitsLt_bf16_f32) shapeCasts_S2x8192x1024_S2x8192x4x2x128) slices_S2x8192x4x2x128_S2x8192x1x2x128_0_0_1_0_0) shapeCasts_S2x8192x1x2x128_S2x8192x2x128) w) transposes_S2x2x128x8192x4_S2x8192x2x4x128_0_3_1_4_2) shapeCasts_S2x8192x2x4x128_S2x8192x1024

/-- The reference's result, from its three arguments. -/
def resT (A0 : FVec Ideal S2x8192x2048 .bf16) (A1 : FVec Ideal S2x8192x256 .bf16) (A2 : FVec Ideal S2x8192x1024 .bf16) :
    FVec Ideal S2x8192x1024 .f32 :=
  outT A2 (weightT (expT (maskT A1) (scoreT (maskT A1) (dotT A0 A2)) (shiftT (maxT (scoreT (maskT A1) (dotT A0 A2))))))

/-- The reference's printed term is that. -/
theorem res_eq (m : (ℓ : Loc nD τ sig) → Buf (Elt Ideal) ℓ) (c : Dev nD) :
    Cert.ReferenceIdeal.Value.res_main_v49 (F := Ideal) m c
      = resT (m ((c.tc : Thread nD τ).loc main_arg0)) (m ((c.tc : Thread nD τ).loc main_arg1)) (m ((c.tc : Thread nD τ).loc main_arg2)) := rfl

/-- Whether a position sees a key. -/
theorem maskT_at (A1 : FVec Ideal S2x8192x256 .bf16) (b : Fin 2) (P : Fin 8192) (g : Fin 2) (j : Fin 8192) :
    maskT A1 (ix5 b P g 0 j)
      = BitVec.ofBool (Online.seen (fun e => A1 (ix3 b P (Fin.ofNat 256 (128 * g.val + e)))) P.val j.val) := by
  pointwise [maskT]
  have hg := g.isLt
  have hj := j.isLt
  have hP := P.isLt
  have h3 : (BitVec.ofNat 32 j.val).sle (BitVec.ofNat 32 P.val) = decide (j.val ≤ P.val) := by
    rw [BitVec.sle_eq_decide, BitVec.toInt_eq_toNat_of_lt, BitVec.toInt_eq_toNat_of_lt, BitVec.toNat_ofNat, BitVec.toNat_ofNat,
      Nat.mod_eq_of_lt (by omega), Nat.mod_eq_of_lt (by omega)]
    · exact decide_eq_decide.2 Int.ofNat_le
    · rw [BitVec.toNat_ofNat]; omega
    · rw [BitVec.toNat_ofNat]; omega
  have h4 : (Fin.ofNat 256 (128 * g.val + j.val / 64)) = (⟨g.val * 128 + j.val / 64, by omega⟩ : Fin 256) :=
    Fin.ext (by simp only [Fin.val_ofNat]; omega)
  simp only [IntOp.cmpi, h3, Online.seen, h4]
  generalize A1 _ = x
  by_cases ha : Ideal.ofBits .f32 0x3F000000#32 < (x : EReal) <;>
    by_cases hc : j.val ≤ P.val <;> simp [ha, hc, IntOp.andi]

/-- A query's product with a key. -/
theorem dotT_at (A0 : FVec Ideal S2x8192x2048 .bf16) (A2 : FVec Ideal S2x8192x1024 .bf16)
    (b : Fin 2) (P : Fin 8192) (g : Fin 2) (h : Fin 4) (j : Fin 8192) :
    dotT A0 A2 (ix5 b P g h j)
      = ∑ d : Fin 128, (A0 (ix3 b P (Fin.ofNat 2048 (1024 + 128 * (4 * g.val + h.val) + d.val))) : EReal)
          * A2 (ix3 b j (Fin.ofNat 1024 (128 * g.val + d.val))) := by
  have hg := g.isLt
  have hh := h.isLt
  pointwise [dotT]
  refine Finset.sum_congr rfl fun x _ => (mul_comm _ _).trans ?_
  have hx := x.isLt
  exact congrArg₂ (fun a b : EReal => a * b)
    (congrArg (fun k => A0 (ix3 b P k)) (Fin.ext (by simp only [Fin.val_ofNat]; omega)))
    (congrArg (fun k => A2 (ix3 b j k)) (Fin.ext (by simp only [Fin.val_ofNat]; omega)))

/-- The scale is the reciprocal of the square root of 128. -/
theorem rsqrt_128 : Ideal.rsqrt (Ideal.ofBits .f32 0x43000000#32) = (((Real.sqrt 128)⁻¹ : ℝ) : EReal) := by
  rw [PI.bits_128]
  show (if (128 : ℝ) < 0 then (⊥ : EReal) else if (128 : ℝ) = 0 then ⊤ else (((Real.sqrt 128)⁻¹ : ℝ) : EReal)) = _
  rw [if_neg (by norm_num), if_neg (by norm_num)]

theorem scoreT_at (mask : IVec S2x8192x2x1x8192 1) (dot : FVec Ideal S2x8192x2x4x8192 .f32)
    (b : Fin 2) (P : Fin 8192) (g : Fin 2) (h : Fin 4) (j : Fin 8192) (s : Bool) (hs : mask (ix5 b P g 0 j) = BitVec.ofBool s) :
    scoreT mask dot (ix5 b P g h j)
      = if s = true then (dot (ix5 b P g h j) : EReal) * (((Real.sqrt 128)⁻¹ : ℝ) : EReal) else ⊥ := by
  unfold scoreT
  simp only [id_eq]
  pointwise
  rw [hs, rsqrt_128, PI.bits_ninf]
  cases s <;> rfl

theorem maxT_at (sc : FVec Ideal S2x8192x2x4x8192 .f32) (b : Fin 2) (P : Fin 8192) (g : Fin 2) (h : Fin 4)
    (f : ℕ → EReal) (hf : ∀ j : Fin 8192, sc (ix5 b P g h j) = f j.val) :
    maxT sc (ix5 b P g h 0) = Online.mx f 8192 := by
  pointwise [maxT]
  simp only [hf]
  rw [PI.bits_ninf]
  have h2 : ((Finset.univ : Finset (Fin 8192)).fold max ⊥ fun j : Fin 8192 => f j.val)
      = (Finset.univ : Finset (Fin 8192)).sup fun j => f j.val := rfl
  rw [h2]
  unfold Online.mx
  refine le_antisymm (Finset.sup_le fun j _ => Finset.le_sup (f := f) (Finset.mem_range.2 j.isLt))
    (Finset.sup_le fun j hj => ?_)
  exact Finset.le_sup (f := fun j : Fin 8192 => f j.val) (Finset.mem_univ (⟨j, Finset.mem_range.1 hj⟩ : Fin 8192))

theorem shiftT_at (mx : FVec Ideal S2x8192x2x4x1 .f32) (b : Fin 2) (P : Fin 8192) (g : Fin 2) (h : Fin 4) :
    shiftT mx (ix5 b P g h 0) = Online.fin (mx (ix5 b P g h 0)) := by
  unfold shiftT
  simp only [id_eq]
  pointwise
  rw [PI.bits_pinf]
  rfl

theorem expT_at (mask : IVec S2x8192x2x1x8192 1) (sc : FVec Ideal S2x8192x2x4x8192 .f32) (sh : FVec Ideal S2x8192x2x4x1 .f32)
    (b : Fin 2) (P : Fin 8192) (g : Fin 2) (h : Fin 4) (j : Fin 8192) (s : Bool) (hs : mask (ix5 b P g 0 j) = BitVec.ofBool s)
    (M : EReal) (hM : sh (ix5 b P g h 0) = Online.fin M) :
    expT mask sc sh (ix5 b P g h j) = Online.ex s (sc (ix5 b P g h j)) M := by
  unfold expT
  simp only [id_eq]
  pointwise
  rw [hs, hM]
  cases s <;> rfl

theorem weightT_at (ex : FVec Ideal S2x8192x2x4x8192 .f32) (b : Fin 2) (P : Fin 8192) (g : Fin 2) (h : Fin 4) (j : Fin 8192)
    (f : ℕ → EReal) (hf : ∀ j : Fin 8192, ex (ix5 b P g h j) = f j.val) :
    weightT ex (ix5 b P g h j)
      = Ideal.div (f j.val) (max (∑ j ∈ Finset.range 8192, f j) (Ideal.ofBits .f32 0x0DA24260#32)) := by
  pointwise [weightT]
  simp only [hf]
  rw [Finset.sum_range]

theorem outT_at (A2 : FVec Ideal S2x8192x1024 .bf16) (w : FVec Ideal S2x8192x2x4x8192 .f32) (b : Fin 2) (P : Fin 8192)
    (col : Fin 1024) (f : ℕ → EReal)
    (hf : ∀ j : Fin 8192, w (ix5 b P ⟨col.val / 512, by omega⟩ ⟨col.val / 128 % 4, by omega⟩ j) = f j.val) :
    outT A2 w (ix3 b P col)
      = ∑ j ∈ Finset.range 8192,
          (A2 (ix3 b (Fin.ofNat 8192 j) (Fin.ofNat 1024 (128 * (2 + col.val / 512) + col.val % 128))) : EReal) * f j := by
  have hcol := col.isLt
  pointwise [outT]
  simp only [hf]
  rw [Finset.sum_range]
  have hk : (Fin.ofNat 1024 (128 * (2 + col.val / 512) + col.val % 128))
      = (⟨256 + col.val / 512 * 128 + col.val % 128, by omega⟩ : Fin 1024) := Fin.ext (by simp only [Fin.val_ofNat]; omega)
  simp only [hk, Fin.ofNat_val_eq_self]

/-- The reference's result at an index: the attention's entry there. -/
theorem resT_at (A0 : FVec Ideal S2x8192x2048 .bf16) (A1 : FVec Ideal S2x8192x256 .bf16) (A2 : FVec Ideal S2x8192x1024 .bf16)
    (b : Fin 2) (P : Fin 8192) (col : Fin 1024) :
    resT A0 A1 A2 (ix3 b P col)
      = Online.rowOut (fun d => A0 (ix3 b P (Fin.ofNat 2048 (1024 + 128 * (col.val / 128) + d.val))))
          (fun j d => A2 (ix3 b (Fin.ofNat 8192 j) (Fin.ofNat 1024 (128 * (col.val / 512) + d.val))))
          (fun e => A1 (ix3 b P (Fin.ofNat 256 (128 * (col.val / 512) + e))))
          P.val
          (fun j => A2 (ix3 b (Fin.ofNat 8192 j) (Fin.ofNat 1024 (128 * (2 + col.val / 512) + col.val % 128)))) := by
  have hcol := col.isLt
  have hh : 4 * (col.val / 512) + col.val / 128 % 4 = col.val / 128 := by omega
  unfold resT
  have hsc : ∀ j : Fin 8192, scoreT (maskT A1) (dotT A0 A2) (ix5 b P ⟨col.val / 512, by omega⟩ ⟨col.val / 128 % 4, by omega⟩ j)
      = Online.score (fun d => A0 (ix3 b P (Fin.ofNat 2048 (1024 + 128 * (col.val / 128) + d.val))))
          (fun j d => A2 (ix3 b (Fin.ofNat 8192 j) (Fin.ofNat 1024 (128 * (col.val / 512) + d.val))))
          (fun e => A1 (ix3 b P (Fin.ofNat 256 (128 * (col.val / 512) + e)))) P.val j.val := fun j => by
    rw [scoreT_at _ _ b P _ _ j _ (maskT_at A1 b P _ j), dotT_at]
    simp only [hh, Online.score, Fin.ofNat_val_eq_self]
  refine outT_at A2 _ b P col _ fun j => ?_
  refine weightT_at _ b P _ _ j _ fun j => ?_
  refine (expT_at _ _ _ b P _ _ j _ (maskT_at A1 b P _ j) _ ((shiftT_at _ b P _ _).trans
    (congrArg Online.fin (maxT_at _ b P _ _ _ hsc)))).trans ?_
  rw [hsc]
  rfl

end Cert.Proof.RI
-- ==== Proof.MergeIdeal.Mix.lean ====
module

public import proofs.«01_k».proof.Proof.Gen.MergeIdeal.Frame
public import Idealize.ShloMosaic.Lib.Pipeline.ValueKit
public import Idealize.ShloMosaic.Lib.Pointwise

@[expose] public section

set_option maxRecDepth 16384

noncomputable section

namespace Cert.Proof.MI

open Cert.MergeIdeal Cert.MergeIdeal.Gen
open Idealize.ShloMosaic Idealize.ShloMosaic.TcCoe Idealize.ShloMosaic.Tactic
open Idealize.SL Idealize.SL.Sem

/-- One entry of the gated sum of three branches: eight heads of 128 columns, each head with a gate of its own in each branch. -/
def gsum (g : Fin 128 → EReal) (a b c : Fin 1024 → EReal) (j : Fin 1024) : EReal :=
  g ⟨j.val / 128, by omega⟩ * a j + g ⟨8 + j.val / 128, by omega⟩ * b j + g ⟨16 + j.val / 128, by omega⟩ * c j

/-- The gated sum, from gates and columns given by their numbers. -/
theorem gsum_of (g : Fin 128 → EReal) (a b c : Fin 1024 → EReal) (j i : Fin 1024) (e0 e1 e2 : Fin 128) (hj : i.val = j.val)
    (h0 : e0.val = j.val / 128) (h1 : e1.val = 8 + j.val / 128) (h2 : e2.val = 16 + j.val / 128) :
    g e0 * a i + g e1 * b i + g e2 * c i = gsum g a b c j := by
  have e : i = j := Fin.ext hj
  subst e
  exact congrArg₂ (fun u v : EReal => u + v) (congrArg₂ (fun u v : EReal => u + v)
    (congrArg (fun e => g e * a i) (Fin.ext h0)) (congrArg (fun e => g e * b i) (Fin.ext h1))) (congrArg (fun e => g e * c i) (Fin.ext h2))

/-- The product of the gated heads with the attention branch's weight, at an entry of a point's block. -/
theorem heads_at (x0 x1 x2 : Vec Ideal S512x1024 .f32) (x3 : Vec Ideal S512x128 .f32) (x7 : Vec Ideal S1024x2048 .bf16)
    (p : Fin 512) (q : Fin 2048) :
    k1_pay11 (F := Ideal) x3 (k1_pay2 x3 (View.ld x0 r1_1) (View.ld x1 r1_1) (View.ld x2 r1_1)) (k1_pay3 x3 (View.ld x0 r1_2) (View.ld x1 r1_2) (View.ld x2 r1_2)) (k1_pay6 (k1_pay4 x3 (View.ld x0 r1_3) (View.ld x1 r1_3)) (k1_pay5 x3) (View.ld x2 r1_3)) (k1_pay7 x3 (View.ld x0 r1_4) (View.ld x1 r1_4) (View.ld x2 r1_4)) (k1_pay8 x3 (View.ld x0 r1_5) (View.ld x1 r1_5) (View.ld x2 r1_5)) (k1_pay9 x3 (View.ld x0 r1_6)) (View.ld x1 r1_6) (k1_pay10 x3) (View.ld x2 r1_6) (View.ld x0 r1_7) (View.ld x1 r1_7) (View.ld x2 r1_7) (View.ld x0 r1_8) (View.ld x1 r1_8) (View.ld x2 r1_8) x7 (ix2 p q)
      = ∑ j : Fin 1024, gsum (fun e => x3 (ix2 p e)) (fun j => x0 (ix2 p j)) (fun j => x1 (ix2 p j)) (fun j => x2 (ix2 p j)) j
          * x7 (ix2 j q) := by
  pointwise [k1_pay11, k1_pay2, k1_pay3, k1_pay4, k1_pay5, k1_pay6, k1_pay7, k1_pay8, k1_pay9, k1_pay10]
  refine Finset.sum_congr rfl fun j _ => ?_
  refine congrArg (· * (x7 (ix2 j q) : EReal)) ?_
  have hj := j.isLt
  split_ifs <;>
    exact gsum_of (fun e => x3 (ix2 p e)) (fun j => x0 (ix2 p j)) (fun j => x1 (ix2 p j)) (fun j => x2 (ix2 p j)) j _ _ _ _
      (by first | omega | (dsimp only; omega)) (by first | omega | (simp; omega)) (by first | omega | (simp; omega))
      (by first | omega | (simp; omega))

/-- The block a point of the mix leaves, entry by entry. -/
theorem out1_9_at (x0 x1 x2 : Vec Ideal S512x1024 .f32) (x3 : Vec Ideal S512x128 .f32) (x4 : Vec Ideal S512x1024 .f32)
    (x5 x6 : Vec Ideal S512x2048 .bf16) (x7 x8 : Vec Ideal S1024x2048 .bf16) (p : Fin 512) (q : Fin 2048) :
    out1_9 x0 x1 x2 x3 x4 x5 x6 x7 x8 (ix2 p q)
      = (x5 (ix2 p q) : EReal) * (∑ j : Fin 1024, gsum (fun e => x3 (ix2 p e)) (fun j => x0 (ix2 p j)) (fun j => x1 (ix2 p j)) (fun j => x2 (ix2 p j)) j
          * x7 (ix2 j q)) + x6 (ix2 p q) * ∑ j : Fin 1024, (x4 (ix2 p j) : EReal) * x8 (ix2 j q) := by
  frame_out
  pointwise [k1_pay1]
  rw [heads_at]

/-- The mix, entry by entry: each gate times its branch's product, summed. -/
def mixE (oc os ow : FVec Ideal S16384x1024 .f32) (g : FVec Ideal S16384x128 .f32) (pool : FVec Ideal S16384x1024 .f32)
    (gab : FVec Ideal S16384x4096 .bf16) (wa wp : FVec Ideal S1024x2048 .bf16) (i : Fin 16384) (q : Fin 2048) : EReal :=
  (gab (ix2 i (⟨q.val, by omega⟩ : Fin 4096)) : EReal)
      * (∑ j : Fin 1024, gsum (fun e => g (ix2 i e)) (fun j => oc (ix2 i j)) (fun j => os (ix2 i j)) (fun j => ow (ix2 i j)) j
          * wa (ix2 j q))
    + gab (ix2 i (⟨2048 + q.val, by omega⟩ : Fin 4096)) * ∑ j : Fin 1024, (pool (ix2 i j) : EReal) * wp (ix2 j q)

/-- The mix as an array. -/
def mixT (oc os ow : FVec Ideal S16384x1024 .f32) (g : FVec Ideal S16384x128 .f32) (pool : FVec Ideal S16384x1024 .f32)
    (gab : FVec Ideal S16384x4096 .bf16) (wa wp : FVec Ideal S1024x2048 .bf16) : FVec Ideal S16384x2048 .bf16 := fun y =>
  mixE oc os ow g pool gab wa wp (y 0) (y 1)

/-- Which blocks the points of the mix read and write. -/
theorem idx1 : ∀ t : Fin cfg1.N, win1_0.index t = ![t.val, 0] ∧ win1_1.index t = ![t.val, 0]
    ∧ win1_2.index t = ![t.val, 0] ∧ win1_3.index t = ![t.val, 0] ∧ win1_4.index t = ![t.val, 0] ∧ win1_5.index t = ![t.val, 0]
    ∧ win1_6.index t = ![t.val, 1] ∧ win1_7.index t = ![0, 0] ∧ win1_8.index t = ![0, 0] ∧ win1_9.index t = ![t.val, 0] :=
  (by decide +kernel : ∀ t : Fin grid1.N, _)

variable (V : (c : Dev nD) → (b : Ref sig .tc) → Buf (Elt Ideal) ((c : Thread nD τ).loc b))

/-- The mix's result array after its region. -/
theorem final1 (c : Dev nD) : (dat1 V c).arrAt 9 cfg1.N
    = mixT (V c main_arg2) (V c main_arg3) (V c main_arg4) (V c main_arg5) (V c main_arg6) (V c main_v2) (V c main_v3) (V c main_v4) := by
  refine (dat1 V c).arrAt_eq_of_covers 9 _ (by decide +kernel) fun t _ y => ?_
  blk_simp
  rw [after1_9]
  refine (congrArg _ (eq_ix2 (y : S512x2048.Idx))).trans ((out1_9_at _ _ _ _ _ _ _ _ _ (y 0) (y 1)).trans ?_)
  pointwise [mixT, mixE, gsum]
  blk_point [iblk1, idx1 t]

end Cert.Proof.MI

end
-- ==== Proof.MergeIdeal.Proj.lean ====
module

public import proofs.«01_k».proof.Proof.Gen.MergeIdeal.Frame
public import Idealize.ShloMosaic.Lib.Pipeline.ValueKit
public import Idealize.ShloMosaic.Lib.Pointwise

@[expose] public section

set_option maxRecDepth 16384

noncomputable section

namespace Cert.Proof.MI

open Cert.MergeIdeal Cert.MergeIdeal.Gen
open Idealize.ShloMosaic Idealize.ShloMosaic.TcCoe Idealize.ShloMosaic.Tactic
open Idealize.SL Idealize.SL.Sem

variable (V : (c : Dev nD) → (b : Ref sig .tc) → Buf (Elt Ideal) ((c : Thread nD τ).loc b))

/-- The gate projection, entry by entry: the logistic function of a row of the hidden state times a column of the weight. -/
def projT (h : FVec Ideal S16384x2048 .bf16) (w : FVec Ideal S2048x4096 .bf16) : FVec Ideal S16384x4096 .bf16 := fun y =>
  Ideal.logistic (∑ k : Fin 2048, (h (ix2 (y 0) k) : EReal) * w (ix2 k (y 1)))

/-- The block a point of the gate projection leaves, entry by entry. -/
theorem out0_2_at (x0 : Vec Ideal S512x2048 .bf16) (x1 : Vec Ideal S2048x2048 .bf16) (p : Fin 512) (q : Fin 2048) :
    out0_2 x0 x1 (ix2 p q) = Ideal.logistic (∑ k : Fin 2048, (x0 (ix2 p k) : EReal) * x1 (ix2 k q)) := by
  unfold out0_2
  canon_tiles x h
  all_goals
    replace h0 : (p : ℕ) = _ := h0
    replace h1 : (q : ℕ) = _ := h1
    rw [eq_ix2 x]
    pointwise [k0_pay1, k0_pay2, k0_pay3, k0_pay4]
    blk_point

/-- Which blocks the points of the gate projection read and write. -/
theorem idx0 : ∀ t : Fin cfg0.N, win0_0.index t = ![t.val % 32, 0] ∧ win0_1.index t = ![0, t.val / 32]
    ∧ win0_2.index t = ![t.val % 32, t.val / 32] ∧ t.val / 32 < 2 :=
  (by decide +kernel : ∀ t : Fin grid0.N, _)

/-- The gate projection's result array after its region. -/
theorem final0 (c : Dev nD) : (dat0 V c).arrAt 2 cfg0.N = projT (V c main_arg1) (V c main_v1) := by
  refine (dat0 V c).arrAt_eq_of_covers 2 _ (by decide +kernel) fun t _ y => ?_
  blk_simp
  rw [after0_2]
  refine (congrArg _ (eq_ix2 (y : S512x2048.Idx))).trans ((out0_2_at _ _ (y 0) (y 1)).trans ?_)
  pointwise [projT]
  blk_point [iblk0, idx0 t]

end Cert.Proof.MI

end
-- ==== Proof.MergeIdeal.OutProj.lean ====
module

public import proofs.«01_k».proof.Proof.Gen.MergeIdeal.Frame
public import Idealize.ShloMosaic.Lib.Pipeline.ValueKit
public import Idealize.ShloMosaic.Lib.Pointwise

@[expose] public section

set_option maxRecDepth 16384

noncomputable section

namespace Cert.Proof.MI

open Cert.MergeIdeal Cert.MergeIdeal.Gen
open Idealize.ShloMosaic Idealize.ShloMosaic.TcCoe Idealize.ShloMosaic.Tactic
open Idealize.SL Idealize.SL.Sem

variable (V : (c : Dev nD) → (b : Ref sig .tc) → Buf (Elt Ideal) ((c : Thread nD τ).loc b))

/-- The output projection, entry by entry: the residual plus a row of the mix times a column of the weight. -/
def outProjT (x : FVec Ideal S16384x2048 .f32) (mix : FVec Ideal S16384x2048 .bf16) (w : FVec Ideal S2048x2048 .bf16) :
    FVec Ideal S16384x2048 .f32 := fun y =>
  (x (ix2 (y 0) (y 1)) : EReal) + ∑ k : Fin 2048, (mix (ix2 (y 0) k) : EReal) * w (ix2 k (y 1))

/-- Which blocks the points of the output projection read and write. -/
theorem idx2 : ∀ t : Fin cfg2.N, win2_0.index t = ![t.val, 0] ∧ win2_1.index t = ![t.val, 0]
    ∧ win2_2.index t = ![0, 0] ∧ win2_3.index t = ![t.val, 0] :=
  (by decide +kernel : ∀ t : Fin grid2.N, _)

/-- The output projection's result array after its region. -/
theorem final2 (c : Dev nD) : (dat2 V c).arrAt 3 cfg2.N = outProjT (V c main_arg0) (V c main_v5) (V c main_v6) := by
  refine (dat2 V c).arrAt_eq_of_covers 3 _ (by decide +kernel) fun t _ y => ?_
  blk_simp
  rw [after2_3]
  frame_out
  pointwise [k2_pay1, outProjT]
  blk_point [iblk2, idx2 t]

end Cert.Proof.MI

end
-- ==== Proof.MergeIdeal.Run.lean ====
module

public import proofs.«01_k».proof.Proof.MergeIdeal.Mix
public import proofs.«01_k».proof.Proof.MergeIdeal.Proj
public import proofs.«01_k».proof.Proof.MergeIdeal.OutProj

@[expose] public section

set_option maxRecDepth 16384

noncomputable section

namespace Cert.Proof.MI

open Cert.MergeIdeal Cert.MergeIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

local notation "𝕄" => MT nD τ sig Unit (Elt Ideal) ℕ (UR sig nD τ) ℕ

variable (m : (ℓ : Loc nD τ sig) → Buf (Elt Ideal) ℓ) (ρ : Dev nD → PrngReg)

set_option backward.isDefEq.respectTransparency.types false in
/-- The program runs to its end, with its result array at what the last region leaves and its arguments as they were. -/
theorem run_blocks : θ_run defs (onTc (τ := τ) (main (F := Ideal))) ⟨m, fun _ => 0, ρ⟩ (fun r => ∀ c : Dev nD,
      r.2.mem ((c.tc : Thread nD τ).loc main_v7) = W6 m ρ c (Proc.devRef .tc main_v7)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  Pipeline.θ_run_regions_kit_sems (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h hz c =>
      ⟨h c _ (mem_uc main_v7 (by decide)),
       (h c _ (mem_uc main_arg0 (by decide))).trans (W6_main_arg0 m ρ c),
       (h c _ (mem_uc main_arg1 (by decide))).trans (W6_main_arg1 m ρ c),
       (h c _ (mem_uc main_arg2 (by decide))).trans (W6_main_arg2 m ρ c),
       (h c _ (mem_uc main_arg3 (by decide))).trans (W6_main_arg3 m ρ c),
       (h c _ (mem_uc main_arg4 (by decide))).trans (W6_main_arg4 m ρ c),
       (h c _ (mem_uc main_arg5 (by decide))).trans (W6_main_arg5 m ρ c),
       (h c _ (mem_uc main_arg6 (by decide))).trans (W6_main_arg6 m ρ c),
       (h c _ (mem_uc main_arg7 (by decide))).trans (W6_main_arg7 m ρ c),
       (h c _ (mem_uc main_arg8 (by decide))).trans (W6_main_arg8 m ρ c),
       (h c _ (mem_uc main_arg9 (by decide))).trans (W6_main_arg9 m ρ c),
       (h c _ (mem_uc main_arg10 (by decide))).trans (W6_main_arg10 m ρ c)⟩)

/-- The gates' weight: the input weight's columns from 3608 on. -/
def wgT (A7 : FVec Ideal S2048x7704 .f32) : FVec Ideal S2048x4096 .bf16 :=
  extractStridedSlice S2048x4096 ![0, 3608] (truncf .bf16 A7 bitsLt_bf16_f32) slices_S2048x7704_S2048x4096_0_3608

/-- A branch weight at the kernels' format. -/
def wbT (A : FVec Ideal S1024x2048 .f32) : FVec Ideal S1024x2048 .bf16 := truncf .bf16 A bitsLt_bf16_f32

/-- The output weight at the kernels' format. -/
def woT (A : FVec Ideal S2048x2048 .f32) : FVec Ideal S2048x2048 .bf16 := truncf .bf16 A bitsLt_bf16_f32

/-- An entry of the gates' weight. -/
theorem wgT_at (A7 : FVec Ideal S2048x7704 .f32) (k : Fin 2048) (q : Fin 4096) :
    wgT A7 (ix2 k q) = A7 (ix2 k ⟨3608 + q.val, by omega⟩) := by
  pointwise [wgT]

theorem V1_arg1 (c : Dev nD) : V1 m ρ c main_arg1 = m ((c : Thread nD τ).loc main_arg1) := W1_args m ρ c _ (by decide)
theorem V1_v1 (c : Dev nD) : V1 m ρ c main_v1 = wgT (m ((c : Thread nD τ).loc main_arg7)) := by
  show StableHlo.after hostOps0 (W0 m ρ c) (Proc.devRef .tc main_v1) = _
  after_results_simp <;> rfl

theorem V3_arg2 (c : Dev nD) : V3 m ρ c main_arg2 = m ((c : Thread nD τ).loc main_arg2) := W3_args m ρ c _ (by decide)
theorem V3_arg3 (c : Dev nD) : V3 m ρ c main_arg3 = m ((c : Thread nD τ).loc main_arg3) := W3_args m ρ c _ (by decide)
theorem V3_arg4 (c : Dev nD) : V3 m ρ c main_arg4 = m ((c : Thread nD τ).loc main_arg4) := W3_args m ρ c _ (by decide)
theorem V3_arg5 (c : Dev nD) : V3 m ρ c main_arg5 = m ((c : Thread nD τ).loc main_arg5) := W3_args m ρ c _ (by decide)
theorem V3_arg6 (c : Dev nD) : V3 m ρ c main_arg6 = m ((c : Thread nD τ).loc main_arg6) := W3_args m ρ c _ (by decide)

/-- The gates as the mix finds them. -/
theorem V3_v2 (c : Dev nD) : V3 m ρ c main_v2
    = projT (m ((c : Thread nD τ).loc main_arg1)) (wgT (m ((c : Thread nD τ).loc main_arg7))) :=
  (W3_of m ρ c main_v2 (by decide)).trans ((W2_arr m ρ c 2).trans
    ((final0 (V1 m ρ) c).trans (congrArg₂ projT (V1_arg1 m ρ c) (V1_v1 m ρ c))))

/-- The attention branch's weight as the mix finds it. -/
theorem V3_v3 (c : Dev nD) : V3 m ρ c main_v3 = wbT (m ((c : Thread nD τ).loc main_arg8)) := by
  refine Eq.trans (?_ : _ = wbT (W2 m ρ c (Proc.devRef .tc main_arg8))) (congrArg wbT (W2_args m ρ c _ (by decide)))
  show StableHlo.after hostOps1 (W2 m ρ c) (Proc.devRef .tc main_v3) = _
  after_results_simp <;> rfl

/-- The pool branch's weight as the mix finds it. -/
theorem V3_v4 (c : Dev nD) : V3 m ρ c main_v4 = wbT (m ((c : Thread nD τ).loc main_arg9)) := by
  refine Eq.trans (?_ : _ = wbT (W2 m ρ c (Proc.devRef .tc main_arg9))) (congrArg wbT (W2_args m ρ c _ (by decide)))
  show StableHlo.after hostOps1 (W2 m ρ c) (Proc.devRef .tc main_v4) = _
  after_results_simp <;> rfl

/-- The mix as the output projection finds it. -/
theorem V5_v5 (c : Dev nD) : V5 m ρ c main_v5
    = mixT (m ((c : Thread nD τ).loc main_arg2)) (m ((c : Thread nD τ).loc main_arg3)) (m ((c : Thread nD τ).loc main_arg4))
        (m ((c : Thread nD τ).loc main_arg5)) (m ((c : Thread nD τ).loc main_arg6))
        (projT (m ((c : Thread nD τ).loc main_arg1)) (wgT (m ((c : Thread nD τ).loc main_arg7))))
        (wbT (m ((c : Thread nD τ).loc main_arg8))) (wbT (m ((c : Thread nD τ).loc main_arg9))) := by
  refine (W5_of m ρ c main_v5 (by decide)).trans ((W4_arr m ρ c 9).trans ((final1 (V3 m ρ) c).trans ?_))
  rw [V3_arg2, V3_arg3, V3_arg4, V3_arg5, V3_arg6, V3_v2, V3_v3, V3_v4]

/-- The output weight as the output projection finds it. -/
theorem V5_v6 (c : Dev nD) : V5 m ρ c main_v6 = woT (m ((c : Thread nD τ).loc main_arg10)) := by
  refine Eq.trans (?_ : _ = woT (W4 m ρ c (Proc.devRef .tc main_arg10))) (congrArg woT (W4_args m ρ c _ (by decide)))
  show StableHlo.after hostOps2 (W4 m ρ c) (Proc.devRef .tc main_v6) = _
  after_results_simp <;> rfl

/-- The result array after the run: the three stages one after the other. -/
theorem result (c : Dev nD) : W6 m ρ c (Proc.devRef .tc main_v7)
    = outProjT (m ((c : Thread nD τ).loc main_arg0))
        (mixT (m ((c : Thread nD τ).loc main_arg2)) (m ((c : Thread nD τ).loc main_arg3)) (m ((c : Thread nD τ).loc main_arg4))
          (m ((c : Thread nD τ).loc main_arg5)) (m ((c : Thread nD τ).loc main_arg6))
          (projT (m ((c : Thread nD τ).loc main_arg1)) (wgT (m ((c : Thread nD τ).loc main_arg7))))
          (wbT (m ((c : Thread nD τ).loc main_arg8))) (wbT (m ((c : Thread nD τ).loc main_arg9))))
        (woT (m ((c : Thread nD τ).loc main_arg10))) := by
  refine (W6_arr m ρ c 3).trans ((final2 (V5 m ρ) c).trans ?_)
  rw [V5_v5, V5_v6, show V5 m ρ c main_arg0 = _ from W5_args m ρ c main_arg0 (by decide)]

end Cert.Proof.MI

end
-- ==== Proof.MergeRefIdeal.Terms.lean ====
module

public import proofs.«01_k».proof.Proof.Gen.MergeRefIdeal.Run
public import proofs.«01_k».proof.Proof.MergeIdeal.Mix
public import proofs.«01_k».proof.Proof.MergeIdeal.Proj
public import proofs.«01_k».proof.Proof.MergeIdeal.OutProj
public import Idealize.ShloMosaic.Lib.Pointwise

@[expose] public section

set_option maxRecDepth 16384

noncomputable section

namespace Cert.Proof.MR

open Cert.MergeRefIdeal Cert.MergeRefIdeal.Gen
open Idealize.ShloMosaic Idealize.ShloMosaic.TcCoe Idealize.ShloMosaic.Tactic
open Idealize.SL Idealize.SL.Sem

/-- The hidden state times the input weight. -/
def zT (A1 : FVec Ideal S16384x2048 .bf16) (A7 : FVec Ideal S2048x7704 .f32) : FVec Ideal S16384x7704 .f32 :=
  Host.dotGeneral (φ₁ := .f32) (φ₂ := .f32) dot_S16384x2048_S2048x7704_S16384x7704_1_0_0_1_n_n none (extf .f32 A1 bitsLt_bf16_f32) A7

/-- The logistic function as the reference spells it. -/
def sigT (z : FVec Ideal S16384x2048 .f32) : FVec Ideal S16384x2048 .f32 :=
  Host.divf (broadcastInDim S16384x2048 ![] bcast_S_S16384x2048 (constant S_ .f32 0x3F800000#32)) (addf (broadcastInDim S16384x2048 ![] bcast_S_S16384x2048 (constant S_ .f32 0x3F800000#32)) (Host.exp (Host.negf z)))

/-- The gated sum of the three branches. -/
def branchT (A2 A3 A4 : FVec Ideal S16384x1024 .f32) (A5 : FVec Ideal S16384x128 .f32) : FVec Ideal S16384x1024 .f32 :=
  shapeCast _ (addf (addf (mulf (broadcastInDim S16384x8x128 ![0, 1, 2] bcast_S16384x8x1_S16384x8x128_0_1_2 (broadcastInDim S16384x8x1 ![0, 1] bcast_S16384x8_S16384x8x1_0_1 (shapeCast _ (extractStridedSlice S16384x1x8 ![0, 0, 0] (shapeCast _ (extractStridedSlice S16384x24 ![0, 0] A5 slices_S16384x128_S16384x24_0_0) shapeCasts_S16384x24_S16384x3x8) slices_S16384x3x8_S16384x1x8_0_0_0) shapeCasts_S16384x1x8_S16384x8))) (shapeCast _ A2 shapeCasts_S16384x1024_S16384x8x128)) (mulf (broadcastInDim S16384x8x128 ![0, 1, 2] bcast_S16384x8x1_S16384x8x128_0_1_2 (broadcastInDim S16384x8x1 ![0, 1] bcast_S16384x8_S16384x8x1_0_1 (shapeCast _ (extractStridedSlice S16384x1x8 ![0, 1, 0] (shapeCast _ (extractStridedSlice S16384x24 ![0, 0] A5 slices_S16384x128_S16384x24_0_0) shapeCasts_S16384x24_S16384x3x8) slices_S16384x3x8_S16384x1x8_0_1_0) shapeCasts_S16384x1x8_S16384x8))) (shapeCast _ A3 shapeCasts_S16384x1024_S16384x8x128))) (mulf (broadcastInDim S16384x8x128 ![0, 1, 2] bcast_S16384x8x1_S16384x8x128_0_1_2 (broadcastInDim S16384x8x1 ![0, 1] bcast_S16384x8_S16384x8x1_0_1 (shapeCast _ (extractStridedSlice S16384x1x8 ![0, 2, 0] (shapeCast _ (extractStridedSlice S16384x24 ![0, 0] A5 slices_S16384x128_S16384x24_0_0) shapeCasts_S16384x24_S16384x3x8) slices_S16384x3x8_S16384x1x8_0_2_0) shapeCasts_S16384x1x8_S16384x8))) (shapeCast _ A4 shapeCasts_S16384x1024_S16384x8x128))) shapeCasts_S16384x8x128_S16384x1024

/-- The two gated branch products, summed. -/
def mixRT (z : FVec Ideal S16384x7704 .f32) (o A6 : FVec Ideal S16384x1024 .f32) (A8 A9 : FVec Ideal S1024x2048 .f32) :
    FVec Ideal S16384x2048 .f32 :=
  addf (mulf (sigT (extractStridedSlice S16384x2048 ![0, 3608] z slices_S16384x7704_S16384x2048_0_3608)) (Host.dotGeneral (φ₁ := .f32) (φ₂ := .f32) dot_S16384x1024_S1024x2048_S16384x2048_1_0_0_1_n_n none o A8)) (mulf (sigT (extractStridedSlice S16384x2048 ![0, 5656] z slices_S16384x7704_S16384x2048_0_5656)) (Host.dotGeneral (φ₁ := .f32) (φ₂ := .f32) dot_S16384x1024_S1024x2048_S16384x2048_1_0_0_1_n_n none A6 A9))

/-- The reference's result, from its arguments. -/
def resT (A0 : FVec Ideal S16384x2048 .f32) (A1 : FVec Ideal S16384x2048 .bf16) (A2 A3 A4 : FVec Ideal S16384x1024 .f32)
    (A5 : FVec Ideal S16384x128 .f32) (A6 : FVec Ideal S16384x1024 .f32) (A7 : FVec Ideal S2048x7704 .f32)
    (A8 A9 : FVec Ideal S1024x2048 .f32) (A10 : FVec Ideal S2048x2048 .f32) : FVec Ideal S16384x2048 .f32 :=
  addf A0 (Host.dotGeneral (φ₁ := .f32) (φ₂ := .f32) dot_S16384x2048_S2048x2048_S16384x2048_1_0_0_1_n_n none (mixRT (zT A1 A7) (branchT A2 A3 A4 A5) A6 A8 A9) A10)

/-- An entry of the gated sum. -/
theorem branchT_at (A2 A3 A4 : FVec Ideal S16384x1024 .f32) (A5 : FVec Ideal S16384x128 .f32) (i : Fin 16384) (j : Fin 1024) :
    branchT A2 A3 A4 A5 (ix2 i j)
      = MI.gsum (fun e => A5 (ix2 i e)) (fun j => A2 (ix2 i j)) (fun j => A3 (ix2 i j)) (fun j => A4 (ix2 i j)) j := by
  have hj := j.isLt
  pointwise [branchT]
  rfl

/-- The logistic function at an entry. -/
theorem sigT_at (z : FVec Ideal S16384x2048 .f32) (y : S16384x2048.Idx) : sigT z y = Ideal.logistic (z y) := by
  pointwise [sigT]
  rfl

/-- An entry of the mix. -/
theorem mixRT_at (A1 : FVec Ideal S16384x2048 .bf16) (A7 : FVec Ideal S2048x7704 .f32) (A2 A3 A4 A6 : FVec Ideal S16384x1024 .f32)
    (A5 : FVec Ideal S16384x128 .f32) (A8 A9 : FVec Ideal S1024x2048 .f32) (w : FVec Ideal Cert.MergeIdeal.S2048x4096 .bf16)
    (hw : ∀ (k : Fin 2048) (q : Fin 4096), w (ix2 k q) = A7 (ix2 k ⟨3608 + q.val, by omega⟩))
    (i : Fin 16384) (q : Fin 2048) :
    mixRT (zT A1 A7) (branchT A2 A3 A4 A5) A6 A8 A9 (ix2 i q)
      = MI.mixE A2 A3 A4 A5 A6 (MI.projT A1 w) A8 A9 i q := by
  unfold mixRT MI.mixE
  pointwise [MI.projT, zT]
  simp only [sigT_at, branchT_at, hw]
  pointwise
  simp only [← Nat.add_assoc, Nat.reduceAdd]

/-- The reference's result is the three stages one after the other. -/
theorem resT_eq (A0 : FVec Ideal S16384x2048 .f32) (A1 : FVec Ideal S16384x2048 .bf16) (A2 A3 A4 : FVec Ideal S16384x1024 .f32)
    (A5 : FVec Ideal S16384x128 .f32) (A6 : FVec Ideal S16384x1024 .f32) (A7 : FVec Ideal S2048x7704 .f32)
    (A8 A9 : FVec Ideal S1024x2048 .f32) (A10 : FVec Ideal S2048x2048 .f32) (w : FVec Ideal Cert.MergeIdeal.S2048x4096 .bf16)
    (hw : ∀ (k : Fin 2048) (q : Fin 4096), w (ix2 k q) = A7 (ix2 k ⟨3608 + q.val, by omega⟩)) :
    resT A0 A1 A2 A3 A4 A5 A6 A7 A8 A9 A10 = MI.outProjT A0 (MI.mixT A2 A3 A4 A5 A6 (MI.projT A1 w) A8 A9) A10 := by
  funext y
  rw [eq_ix2 (y : S16384x2048.Idx)]
  pointwise [resT, MI.outProjT, MI.mixT]
  refine congrArg (fun s : EReal => (A0 y : EReal) + s) (Finset.sum_congr rfl fun k _ => ?_)
  exact congrArg (fun s : EReal => s * (A10 (ix2 k (y 1)) : EReal)) (mixRT_at A1 A7 A2 A3 A4 A6 A5 A8 A9 w hw (y 0) k)

end Cert.Proof.MR

end
-- ==== Proof.InputsIdeal.Qkv.lean ====
module

public import proofs.«01_k».proof.Proof.Gen.InputsIdeal.Launch
public import proofs.«01_k».proof.Proof.Gen.InputsIdeal.Skeleton
public import proofs.«01_k».proof.Proof.Gen.InputsIdeal.Points
public import Idealize.ShloMosaic.Lib.Pipeline.FrameBody
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.WordCmp

@[expose] public section

set_option maxRecDepth 16384

noncomputable section

namespace Cert.Proof.II

open Cert.InputsIdeal Cert.InputsIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
section Regions
-- the TensorCore's buffer contents when a region is entered: the parameter every region's half is stated at, which
-- the run instantiates per region
variable (V : (c : Dev nD) → (b : Ref sig .tc) → Buf (Elt F) ((c : Thread nD τ).loc b))

/-! # REGION 0 of @main: custom_call 0, `cc0_qkv_proj` (pipeline 0), at the entry contents `V` -/

/-! ## The windows' blocks -/

/-- Window `w`'s block at point `t`, read off its array as the region finds it (`V`). -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, fetched there or not, for ANY proof
    data whose array is `V`'s (`hA`) and whose body leaves the block in place (`hafter`):
    `Dat.before_in_eq_fetched` (unfetched, the index has not moved), the window uncut and never idle. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
/-- Input window 1's current staging buffer holds its block at every point, fetched there or not, for ANY proof
    data whose array is `V`'s (`hA`) and whose body leaves the block in place (`hafter`):
    `Dat.before_in_eq_fetched` (unfetched, the index has not moved), the window uncut and never idle. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
/-- Input window 2's current staging buffer holds its block at every point, fetched there or not, for ANY proof
    data whose array is `V`'s (`hA`) and whose body leaves the block in place (`hafter`):
    `Dat.before_in_eq_fetched` (unfetched, the index has not moved), the window uncut and never idle. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)
/-- Input window 3's current staging buffer holds its block at every point, fetched there or not, for ANY proof
    data whose array is `V`'s (`hA`) and whose body leaves the block in place (`hafter`):
    `Dat.before_in_eq_fetched` (unfetched, the index has not moved), the window uncut and never idle. -/
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)
/-- Input window 4's current staging buffer holds its block at every point, fetched there or not, for ANY proof
    data whose array is `V`'s (`hA`) and whose body leaves the block in place (`hafter`):
    `Dat.before_in_eq_fetched` (unfetched, the index has not moved), the window uncut and never idle. -/
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses -/

abbrev r0_0 : Rect S512x2048 := Rect.unit (s := S512x2048) ![0, 0] S512x2048.size inb_S512x2048_S512x2048_0_0
abbrev r0_1 : Rect S1x2048 := Rect.unit (s := S1x2048) ![0, 0] S1x2048.size inb_S1x2048_S1x2048_0_0
abbrev r0_2 : Rect S512x128 := Rect.unit (s := S512x128) ![0, 0] S512x128.size inb_S512x128_S512x128_0_0
abbrev r0_3 : Rect S2048x2688 := Rect.unit (s := S2048x2688) ![0, 0] S2048x512.size inb_S2048x2688_S2048x512_0_0
abbrev r0_4 : Rect S512x2048 := Rect.unit (s := S512x2048) ![0, 0] S512x128.size inb_S512x2048_S512x128_0_0
abbrev r0_5 : Rect S512x2048 := Rect.unit (s := S512x2048) ![0, 1024] S512x128.size inb_S512x2048_S512x128_0_1024
abbrev r0_6 : Rect S512x2048 := Rect.unit (s := S512x2048) ![0, 128] S512x128.size inb_S512x2048_S512x128_0_128
abbrev r0_7 : Rect S512x2048 := Rect.unit (s := S512x2048) ![0, 1152] S512x128.size inb_S512x2048_S512x128_0_1152
abbrev r0_8 : Rect S512x2048 := Rect.unit (s := S512x2048) ![0, 256] S512x128.size inb_S512x2048_S512x128_0_256
abbrev r0_9 : Rect S512x2048 := Rect.unit (s := S512x2048) ![0, 1280] S512x128.size inb_S512x2048_S512x128_0_1280
abbrev r0_10 : Rect S512x2048 := Rect.unit (s := S512x2048) ![0, 384] S512x128.size inb_S512x2048_S512x128_0_384
abbrev r0_11 : Rect S512x2048 := Rect.unit (s := S512x2048) ![0, 1408] S512x128.size inb_S512x2048_S512x128_0_1408
abbrev r0_12 : Rect S2048x2688 := Rect.unit (s := S2048x2688) ![0, 512] S2048x512.size inb_S2048x2688_S2048x512_0_512
abbrev r0_13 : Rect S512x2048 := Rect.unit (s := S512x2048) ![0, 512] S512x128.size inb_S512x2048_S512x128_0_512
abbrev r0_14 : Rect S512x2048 := Rect.unit (s := S512x2048) ![0, 1536] S512x128.size inb_S512x2048_S512x128_0_1536
abbrev r0_15 : Rect S512x2048 := Rect.unit (s := S512x2048) ![0, 640] S512x128.size inb_S512x2048_S512x128_0_640
abbrev r0_16 : Rect S512x2048 := Rect.unit (s := S512x2048) ![0, 1664] S512x128.size inb_S512x2048_S512x128_0_1664
abbrev r0_17 : Rect S512x2048 := Rect.unit (s := S512x2048) ![0, 768] S512x128.size inb_S512x2048_S512x128_0_768
abbrev r0_18 : Rect S512x2048 := Rect.unit (s := S512x2048) ![0, 1792] S512x128.size inb_S512x2048_S512x128_0_1792
abbrev r0_19 : Rect S512x2048 := Rect.unit (s := S512x2048) ![0, 896] S512x128.size inb_S512x2048_S512x128_0_896
abbrev r0_20 : Rect S512x2048 := Rect.unit (s := S512x2048) ![0, 1920] S512x128.size inb_S512x2048_S512x128_0_1920
abbrev r0_21 : Rect S2048x2688 := Rect.unit (s := S2048x2688) ![0, 1024] S2048x512.size inb_S2048x2688_S2048x512_0_1024
abbrev r0_22 : Rect S4096x128 := ⟨(⟨![0, 0], S512x128.size, ![8, 1], inb_S4096x128_S512x128_0_0_s_8_1⟩ : LoadRect S4096x128), spos_8_1⟩
abbrev r0_23 : Rect S4096x128 := ⟨(⟨![2, 0], S512x128.size, ![8, 1], inb_S4096x128_S512x128_2_0_s_8_1⟩ : LoadRect S4096x128), spos_8_1⟩
abbrev r0_24 : Rect S4096x128 := ⟨(⟨![1, 0], S512x128.size, ![8, 1], inb_S4096x128_S512x128_1_0_s_8_1⟩ : LoadRect S4096x128), spos_8_1⟩
abbrev r0_25 : Rect S4096x128 := ⟨(⟨![3, 0], S512x128.size, ![8, 1], inb_S4096x128_S512x128_3_0_s_8_1⟩ : LoadRect S4096x128), spos_8_1⟩
abbrev r0_26 : Rect S2048x2688 := Rect.unit (s := S2048x2688) ![0, 1536] S2048x512.size inb_S2048x2688_S2048x512_0_1536
abbrev r0_27 : Rect S4096x128 := ⟨(⟨![4, 0], S512x128.size, ![8, 1], inb_S4096x128_S512x128_4_0_s_8_1⟩ : LoadRect S4096x128), spos_8_1⟩
abbrev r0_28 : Rect S4096x128 := ⟨(⟨![6, 0], S512x128.size, ![8, 1], inb_S4096x128_S512x128_6_0_s_8_1⟩ : LoadRect S4096x128), spos_8_1⟩
abbrev r0_29 : Rect S512x1024 := Rect.unit (s := S512x1024) ![0, 0] S512x128.size inb_S512x1024_S512x128_0_0
abbrev r0_30 : Rect S512x1024 := Rect.unit (s := S512x1024) ![0, 256] S512x128.size inb_S512x1024_S512x128_0_256
abbrev r0_31 : Rect S4096x128 := ⟨(⟨![5, 0], S512x128.size, ![8, 1], inb_S4096x128_S512x128_5_0_s_8_1⟩ : LoadRect S4096x128), spos_8_1⟩
abbrev r0_32 : Rect S4096x128 := ⟨(⟨![7, 0], S512x128.size, ![8, 1], inb_S4096x128_S512x128_7_0_s_8_1⟩ : LoadRect S4096x128), spos_8_1⟩
abbrev r0_33 : Rect S512x1024 := Rect.unit (s := S512x1024) ![0, 128] S512x128.size inb_S512x1024_S512x128_0_128
abbrev r0_34 : Rect S512x1024 := Rect.unit (s := S512x1024) ![0, 384] S512x128.size inb_S512x1024_S512x128_0_384
abbrev r0_35 : Rect S2048x2688 := Rect.unit (s := S2048x2688) ![0, 2048] S2048x512.size inb_S2048x2688_S2048x512_0_2048
abbrev r0_36 : Rect S2048x128 := ⟨(⟨![0, 0], S512x128.size, ![4, 1], inb_S2048x128_S512x128_0_0_s_4_1⟩ : LoadRect S2048x128), spos_4_1⟩
abbrev r0_37 : Rect S2048x128 := ⟨(⟨![2, 0], S512x128.size, ![4, 1], inb_S2048x128_S512x128_2_0_s_4_1⟩ : LoadRect S2048x128), spos_4_1⟩
abbrev r0_38 : Rect S512x1024 := Rect.unit (s := S512x1024) ![0, 512] S512x128.size inb_S512x1024_S512x128_0_512
abbrev r0_39 : Rect S512x1024 := Rect.unit (s := S512x1024) ![0, 768] S512x128.size inb_S512x1024_S512x128_0_768
abbrev r0_40 : Rect S2048x128 := ⟨(⟨![1, 0], S512x128.size, ![4, 1], inb_S2048x128_S512x128_1_0_s_4_1⟩ : LoadRect S2048x128), spos_4_1⟩
abbrev r0_41 : Rect S2048x128 := ⟨(⟨![3, 0], S512x128.size, ![4, 1], inb_S2048x128_S512x128_3_0_s_4_1⟩ : LoadRect S2048x128), spos_4_1⟩
abbrev r0_42 : Rect S512x1024 := Rect.unit (s := S512x1024) ![0, 640] S512x128.size inb_S512x1024_S512x128_0_640
abbrev r0_43 : Rect S512x1024 := Rect.unit (s := S512x1024) ![0, 896] S512x128.size inb_S512x1024_S512x128_0_896
abbrev r0_44 : Rect S2048x2688 := Rect.unit (s := S2048x2688) ![0, 2560] S2048x128.size inb_S2048x2688_S2048x128_0_2560

/-! ## What the body leaves in each output window's buffer -/

/-! ### Values of the body that the stores' payloads, spelt out, would write more than once
    Each is a vector the body binds (often a part call's result), stated over the input windows' blocks and
    numbered on from the skeleton's payload functions (`k0_pay58` …, after `k0_pay57`), so that
    `out0_W` and the values after it name it instead of spelling it out (`unfold_out out0_W` opens a canon
    with them, `unfold_payloads` opens them with the payloads); the comment after each is the printed function's
    name for the value (a count appended where that name is bound again). -/

def k0_pay58 (x0 : Vec F S512x2048 .f32) (x1 : Vec F S1x2048 .f32) (x2 : Vec F S2048x2688 .bf16) (x3 : Vec F S512x128 .f32) (x4 : Vec F S512x128 .f32) : FVec F S512x2048 .bf16 :=
  k0_pay4 (View.ld x0 r0_0) (View.ld x1 r0_1) -- `v16`
def k0_pay59 (x0 : Vec F S512x2048 .f32) (x1 : Vec F S1x2048 .f32) (x2 : Vec F S2048x2688 .bf16) (x3 : Vec F S512x128 .f32) (x4 : Vec F S512x128 .f32) : FVec F S512x128 .f32 :=
  k0_pay5 (View.ld x3 r0_2) -- `v19`
def k0_pay60 (x0 : Vec F S512x2048 .f32) (x1 : Vec F S1x2048 .f32) (x2 : Vec F S2048x2688 .bf16) (x3 : Vec F S512x128 .f32) (x4 : Vec F S512x128 .f32) : FVec F S512x128 .f32 :=
  k0_pay6 (View.ld x4 r0_2) -- `v21`
def k0_pay61 (x0 : Vec F S512x2048 .f32) (x1 : Vec F S1x2048 .f32) (x2 : Vec F S2048x2688 .bf16) (x3 : Vec F S512x128 .f32) (x4 : Vec F S512x128 .f32) : FVec F S512x512 .f32 :=
  k0_pay7 (View.ld x0 r0_0) (View.ld x1 r0_1) (View.ld x2 r0_3) -- `v24`
def k0_pay62 (x0 : Vec F S512x2048 .f32) (x1 : Vec F S1x2048 .f32) (x2 : Vec F S2048x2688 .bf16) (x3 : Vec F S512x128 .f32) (x4 : Vec F S512x128 .f32) : FVec F S512x128 .f32 :=
  k0_pay11 (View.ld x0 r0_0) (View.ld x1 r0_1) (View.ld x2 r0_3) -- `v34`
def k0_pay63 (x0 : Vec F S512x2048 .f32) (x1 : Vec F S1x2048 .f32) (x2 : Vec F S2048x2688 .bf16) (x3 : Vec F S512x128 .f32) (x4 : Vec F S512x128 .f32) : FVec F S512x512 .f32 :=
  k0_pay20 (k0_pay58 x0 x1 x2 x3 x4) (View.ld x2 r0_12) -- `v63`
def k0_pay64 (x0 : Vec F S512x2048 .f32) (x1 : Vec F S1x2048 .f32) (x2 : Vec F S2048x2688 .bf16) (x3 : Vec F S512x128 .f32) (x4 : Vec F S512x128 .f32) : FVec F S512x128 .f32 :=
  k0_pay45 (k0_pay58 x0 x1 x2 x3 x4) (View.ld x2 r0_26) -- `v127`
def k0_pay65 (x0 : Vec F S512x2048 .f32) (x1 : Vec F S1x2048 .f32) (x2 : Vec F S2048x2688 .bf16) (x3 : Vec F S512x128 .f32) (x4 : Vec F S512x128 .f32) : FVec F S512x128 .f32 :=
  k0_pay46 (k0_pay58 x0 x1 x2 x3 x4) (k0_pay59 x0 x1 x2 x3 x4) (View.ld x2 r0_26) -- `v128`
def k0_pay66 (x0 : Vec F S512x2048 .f32) (x1 : Vec F S1x2048 .f32) (x2 : Vec F S2048x2688 .bf16) (x3 : Vec F S512x128 .f32) (x4 : Vec F S512x128 .f32) : FVec F S512x128 .f32 :=
  k0_pay47 (k0_pay58 x0 x1 x2 x3 x4) (k0_pay60 x0 x1 x2 x3 x4) (View.ld x2 r0_26) -- `v130`
def k0_pay67 (x0 : Vec F S512x2048 .f32) (x1 : Vec F S1x2048 .f32) (x2 : Vec F S2048x2688 .bf16) (x3 : Vec F S512x128 .f32) (x4 : Vec F S512x128 .f32) : FVec F S512x128 .f32 :=
  k0_pay56 (k0_pay58 x0 x1 x2 x3 x4) (View.ld x2 r0_35) -- `v154`
def k0_pay68 (x0 : Vec F S512x2048 .f32) (x1 : Vec F S1x2048 .f32) (x2 : Vec F S2048x2688 .bf16) (x3 : Vec F S512x128 .f32) (x4 : Vec F S512x128 .f32) : FVec F S512x128 .f32 :=
  k0_pay57 (k0_pay58 x0 x1 x2 x3 x4) (k0_pay59 x0 x1 x2 x3 x4) (k0_pay60 x0 x1 x2 x3 x4) (View.ld x2 r0_35) -- `v158`

/-- Window 5's staging buffer after the body, from the input windows' blocks: its 16 stores as pieces, LAST
    FIRST. -/
def out0_5 (x0 : Vec F S512x2048 .f32) (x1 : Vec F S1x2048 .f32) (x2 : Vec F S2048x2688 .bf16) (x3 : Vec F S512x128 .f32) (x4 : Vec F S512x128 .f32) : Vec F S512x2048 .bf16 :=
  View.canon [⟨r0_20, k0_pay33 (k0_pay59 x0 x1 x2 x3 x4) (k0_pay60 x0 x1 x2 x3 x4) (k0_pay63 x0 x1 x2 x3 x4)⟩,
    ⟨r0_19, k0_pay32 (k0_pay63 x0 x1 x2 x3 x4)⟩,
    ⟨r0_18, k0_pay30 (k0_pay59 x0 x1 x2 x3 x4) (k0_pay60 x0 x1 x2 x3 x4) (k0_pay63 x0 x1 x2 x3 x4)⟩,
    ⟨r0_17, k0_pay29 (k0_pay63 x0 x1 x2 x3 x4)⟩,
    ⟨r0_16, k0_pay27 (k0_pay59 x0 x1 x2 x3 x4) (k0_pay60 x0 x1 x2 x3 x4) (k0_pay63 x0 x1 x2 x3 x4)⟩,
    ⟨r0_15, k0_pay26 (k0_pay63 x0 x1 x2 x3 x4)⟩,
    ⟨r0_14, k0_pay24 (k0_pay60 x0 x1 x2 x3 x4) (k0_pay21 (k0_pay58 x0 x1 x2 x3 x4) (View.ld x2 r0_12)) (k0_pay23 (k0_pay58 x0 x1 x2 x3 x4) (k0_pay59 x0 x1 x2 x3 x4) (View.ld x2 r0_12))⟩,
    ⟨r0_13, k0_pay22 (k0_pay58 x0 x1 x2 x3 x4) (View.ld x2 r0_12)⟩,
    ⟨r0_11, k0_pay19 (k0_pay59 x0 x1 x2 x3 x4) (k0_pay60 x0 x1 x2 x3 x4) (k0_pay61 x0 x1 x2 x3 x4)⟩,
    ⟨r0_10, k0_pay18 (k0_pay61 x0 x1 x2 x3 x4)⟩,
    ⟨r0_9, k0_pay16 (k0_pay59 x0 x1 x2 x3 x4) (k0_pay60 x0 x1 x2 x3 x4) (k0_pay61 x0 x1 x2 x3 x4)⟩,
    ⟨r0_8, k0_pay15 (k0_pay61 x0 x1 x2 x3 x4)⟩,
    ⟨r0_7, k0_pay13 (k0_pay59 x0 x1 x2 x3 x4) (k0_pay60 x0 x1 x2 x3 x4) (k0_pay62 x0 x1 x2 x3 x4)⟩,
    ⟨r0_6, k0_pay12 (k0_pay62 x0 x1 x2 x3 x4)⟩,
    ⟨r0_5, k0_pay10 (View.ld x0 r0_0) (View.ld x1 r0_1) (View.ld x3 r0_2) (View.ld x4 r0_2) (View.ld x2 r0_3)⟩,
    ⟨r0_4, k0_pay9 (View.ld x0 r0_0) (View.ld x1 r0_1) (View.ld x2 r0_3)⟩]

/-- Its stores tile the buffer (checked by evaluation), so they cover it. -/
theorem cover0_5 (p0 : Vec F S512x128 .bf16) (p1 : Vec F S512x128 .bf16) (p2 : Vec F S512x128 .bf16) (p3 : Vec F S512x128 .bf16) (p4 : Vec F S512x128 .bf16) (p5 : Vec F S512x128 .bf16) (p6 : Vec F S512x128 .bf16) (p7 : Vec F S512x128 .bf16) (p8 : Vec F S512x128 .bf16) (p9 : Vec F S512x128 .bf16) (p10 : Vec F S512x128 .bf16) (p11 : Vec F S512x128 .bf16) (p12 : Vec F S512x128 .bf16) (p13 : Vec F S512x128 .bf16) (p14 : Vec F S512x128 .bf16) (p15 : Vec F S512x128 .bf16) (y : S512x2048.Idx) :
    ∃ pc ∈ ([⟨r0_20, p0⟩, ⟨r0_19, p1⟩, ⟨r0_18, p2⟩, ⟨r0_17, p3⟩, ⟨r0_16, p4⟩, ⟨r0_15, p5⟩, ⟨r0_14, p6⟩, ⟨r0_13, p7⟩, ⟨r0_11, p8⟩, ⟨r0_10, p9⟩, ⟨r0_9, p10⟩, ⟨r0_8, p11⟩, ⟨r0_7, p12⟩, ⟨r0_6, p13⟩, ⟨r0_5, p14⟩, ⟨r0_4, p15⟩] : List (View.Piece (Elt F) S512x2048 .bf16)), y ∈ pc.1.set :=
  View.cover_of_tiled [⟨r0_20, p0⟩, ⟨r0_19, p1⟩, ⟨r0_18, p2⟩, ⟨r0_17, p3⟩, ⟨r0_16, p4⟩, ⟨r0_15, p5⟩, ⟨r0_14, p6⟩, ⟨r0_13, p7⟩, ⟨r0_11, p8⟩, ⟨r0_10, p9⟩, ⟨r0_9, p10⟩, ⟨r0_8, p11⟩, ⟨r0_7, p12⟩, ⟨r0_6, p13⟩, ⟨r0_5, p14⟩, ⟨r0_4, p15⟩] S512x128.size (by rfl) y

/-- Window 6's staging buffer after the body, from the input windows' blocks: its 8 stores as pieces, LAST
    FIRST. -/
def out0_6 (x0 : Vec F S512x2048 .f32) (x1 : Vec F S1x2048 .f32) (x2 : Vec F S2048x2688 .bf16) (x3 : Vec F S512x128 .f32) (x4 : Vec F S512x128 .f32) : Vec F S4096x128 .f32 :=
  View.canon [⟨r0_32, k0_pay64 x0 x1 x2 x3 x4⟩,
    ⟨r0_31, k0_pay48 (k0_pay65 x0 x1 x2 x3 x4) (k0_pay66 x0 x1 x2 x3 x4)⟩,
    ⟨r0_28, k0_pay40 (k0_pay58 x0 x1 x2 x3 x4) (View.ld x2 r0_26)⟩,
    ⟨r0_27, k0_pay41 (k0_pay58 x0 x1 x2 x3 x4) (k0_pay59 x0 x1 x2 x3 x4) (k0_pay60 x0 x1 x2 x3 x4) (View.ld x2 r0_26)⟩,
    ⟨r0_25, k0_pay38 (k0_pay58 x0 x1 x2 x3 x4) (View.ld x2 r0_21)⟩,
    ⟨r0_24, k0_pay37 (k0_pay58 x0 x1 x2 x3 x4) (View.ld x2 r0_21)⟩,
    ⟨r0_23, k0_pay36 (k0_pay58 x0 x1 x2 x3 x4) (View.ld x2 r0_21)⟩,
    ⟨r0_22, k0_pay35 (k0_pay58 x0 x1 x2 x3 x4) (View.ld x2 r0_21)⟩]

/-- The stores' rows, one residue of the row number each, cover the buffer. -/
theorem cover0_6 (p0 : Vec F S512x128 .f32) (p1 : Vec F S512x128 .f32) (p2 : Vec F S512x128 .f32) (p3 : Vec F S512x128 .f32) (p4 : Vec F S512x128 .f32) (p5 : Vec F S512x128 .f32) (p6 : Vec F S512x128 .f32) (p7 : Vec F S512x128 .f32) (y : S4096x128.Idx) :
    ∃ pc ∈ ([⟨r0_32, p0⟩, ⟨r0_31, p1⟩, ⟨r0_28, p2⟩, ⟨r0_27, p3⟩, ⟨r0_25, p4⟩, ⟨r0_24, p5⟩, ⟨r0_23, p6⟩, ⟨r0_22, p7⟩] : List (View.Piece (Elt F) S4096x128 .f32)), y ∈ pc.1.set :=
  by
  have h0 : ((y 0 : Fin _) : ℕ) < 4096 := (y 0).isLt
  have h1 : ((y 1 : Fin _) : ℕ) < 128 := (y 1).isLt
  have hk : ∀ k < 8, (y 0 : ℕ) % 8 = k → ∀ a : Fin 2, ∃ j < S512x128.size a,
      (y a : ℕ) = (![k, 0] : Fin 2 → ℕ) a + (![8, 1] : Fin 2 → ℕ) a * j := by
    intro k _ hkk a
    fin_cases a
    · exact ⟨(y 0 : ℕ) / 8, (by show _ < 512; omega), (by show (y 0 : ℕ) = k + 8 * _; omega)⟩
    · exact ⟨(y 1 : ℕ), h1, (by show (y 1 : ℕ) = 0 + 1 * _; omega)⟩
  have hr : (y 0 : ℕ) % 8 < 8 := Nat.mod_lt _ (by decide)
  rcases (by omega : (y 0 : ℕ) % 8 = 0 ∨ (y 0 : ℕ) % 8 = 1 ∨ (y 0 : ℕ) % 8 = 2 ∨ (y 0 : ℕ) % 8 = 3 ∨ (y 0 : ℕ) % 8 = 4 ∨ (y 0 : ℕ) % 8 = 5 ∨ (y 0 : ℕ) % 8 = 6 ∨ (y 0 : ℕ) % 8 = 7) with h | h | h | h | h | h | h | h
  · exact ⟨⟨r0_22, p7⟩, List.mem_cons_of_mem _ (List.mem_cons_of_mem _ (List.mem_cons_of_mem _ (List.mem_cons_of_mem _ (List.mem_cons_of_mem _ (List.mem_cons_of_mem _ (List.mem_cons_of_mem _ (List.mem_cons_self))))))), (r0_22).toLoadRect.mem_set.mpr (hk 0 (by decide) h)⟩
  · exact ⟨⟨r0_24, p5⟩, List.mem_cons_of_mem _ (List.mem_cons_of_mem _ (List.mem_cons_of_mem _ (List.mem_cons_of_mem _ (List.mem_cons_of_mem _ (List.mem_cons_self))))), (r0_24).toLoadRect.mem_set.mpr (hk 1 (by decide) h)⟩
  · exact ⟨⟨r0_23, p6⟩, List.mem_cons_of_mem _ (List.mem_cons_of_mem _ (List.mem_cons_of_mem _ (List.mem_cons_of_mem _ (List.mem_cons_of_mem _ (List.mem_cons_of_mem _ (List.mem_cons_self)))))), (r0_23).toLoadRect.mem_set.mpr (hk 2 (by decide) h)⟩
  · exact ⟨⟨r0_25, p4⟩, List.mem_cons_of_mem _ (List.mem_cons_of_mem _ (List.mem_cons_of_mem _ (List.mem_cons_of_mem _ (List.mem_cons_self)))), (r0_25).toLoadRect.mem_set.mpr (hk 3 (by decide) h)⟩
  · exact ⟨⟨r0_27, p3⟩, List.mem_cons_of_mem _ (List.mem_cons_of_mem _ (List.mem_cons_of_mem _ (List.mem_cons_self))), (r0_27).toLoadRect.mem_set.mpr (hk 4 (by decide) h)⟩
  · exact ⟨⟨r0_31, p1⟩, List.mem_cons_of_mem _ (List.mem_cons_self), (r0_31).toLoadRect.mem_set.mpr (hk 5 (by decide) h)⟩
  · exact ⟨⟨r0_28, p2⟩, List.mem_cons_of_mem _ (List.mem_cons_of_mem _ (List.mem_cons_self)), (r0_28).toLoadRect.mem_set.mpr (hk 6 (by decide) h)⟩
  · exact ⟨⟨r0_32, p0⟩, List.mem_cons_self, (r0_32).toLoadRect.mem_set.mpr (hk 7 (by decide) h)⟩

/-- Window 7's staging buffer after the body, from the input windows' blocks: its 4 stores as pieces, LAST
    FIRST. -/
def out0_7 (x0 : Vec F S512x2048 .f32) (x1 : Vec F S1x2048 .f32) (x2 : Vec F S2048x2688 .bf16) (x3 : Vec F S512x128 .f32) (x4 : Vec F S512x128 .f32) : Vec F S2048x128 .f32 :=
  View.canon [⟨r0_41, k0_pay67 x0 x1 x2 x3 x4⟩,
    ⟨r0_40, k0_pay68 x0 x1 x2 x3 x4⟩,
    ⟨r0_37, k0_pay52 (k0_pay58 x0 x1 x2 x3 x4) (View.ld x2 r0_35)⟩,
    ⟨r0_36, k0_pay53 (k0_pay58 x0 x1 x2 x3 x4) (k0_pay59 x0 x1 x2 x3 x4) (k0_pay60 x0 x1 x2 x3 x4) (View.ld x2 r0_35)⟩]

/-- The stores' rows, one residue of the row number each, cover the buffer. -/
theorem cover0_7 (p0 : Vec F S512x128 .f32) (p1 : Vec F S512x128 .f32) (p2 : Vec F S512x128 .f32) (p3 : Vec F S512x128 .f32) (y : S2048x128.Idx) :
    ∃ pc ∈ ([⟨r0_41, p0⟩, ⟨r0_40, p1⟩, ⟨r0_37, p2⟩, ⟨r0_36, p3⟩] : List (View.Piece (Elt F) S2048x128 .f32)), y ∈ pc.1.set :=
  by
  have h0 : ((y 0 : Fin _) : ℕ) < 2048 := (y 0).isLt
  have h1 : ((y 1 : Fin _) : ℕ) < 128 := (y 1).isLt
  have hk : ∀ k < 4, (y 0 : ℕ) % 4 = k → ∀ a : Fin 2, ∃ j < S512x128.size a,
      (y a : ℕ) = (![k, 0] : Fin 2 → ℕ) a + (![4, 1] : Fin 2 → ℕ) a * j := by
    intro k _ hkk a
    fin_cases a
    · exact ⟨(y 0 : ℕ) / 4, (by show _ < 512; omega), (by show (y 0 : ℕ) = k + 4 * _; omega)⟩
    · exact ⟨(y 1 : ℕ), h1, (by show (y 1 : ℕ) = 0 + 1 * _; omega)⟩
  have hr : (y 0 : ℕ) % 4 < 4 := Nat.mod_lt _ (by decide)
  rcases (by omega : (y 0 : ℕ) % 4 = 0 ∨ (y 0 : ℕ) % 4 = 1 ∨ (y 0 : ℕ) % 4 = 2 ∨ (y 0 : ℕ) % 4 = 3) with h | h | h | h
  · exact ⟨⟨r0_36, p3⟩, List.mem_cons_of_mem _ (List.mem_cons_of_mem _ (List.mem_cons_of_mem _ (List.mem_cons_self))), (r0_36).toLoadRect.mem_set.mpr (hk 0 (by decide) h)⟩
  · exact ⟨⟨r0_40, p1⟩, List.mem_cons_of_mem _ (List.mem_cons_self), (r0_40).toLoadRect.mem_set.mpr (hk 1 (by decide) h)⟩
  · exact ⟨⟨r0_37, p2⟩, List.mem_cons_of_mem _ (List.mem_cons_of_mem _ (List.mem_cons_self)), (r0_37).toLoadRect.mem_set.mpr (hk 2 (by decide) h)⟩
  · exact ⟨⟨r0_41, p0⟩, List.mem_cons_self, (r0_41).toLoadRect.mem_set.mpr (hk 3 (by decide) h)⟩

/-- Window 8's staging buffer after the body, from the input windows' blocks: its 1 store as pieces, LAST
    FIRST. -/
def out0_8 (x0 : Vec F S512x2048 .f32) (x1 : Vec F S1x2048 .f32) (x2 : Vec F S2048x2688 .bf16) (x3 : Vec F S512x128 .f32) (x4 : Vec F S512x128 .f32) : Vec F S512x128 .f32 :=
  View.canon [⟨r0_2, k0_pay3 (k0_pay58 x0 x1 x2 x3 x4) (View.ld x2 r0_44)⟩]

/-- Its stores tile the buffer (checked by evaluation), so they cover it. -/
theorem cover0_8 (p0 : Vec F S512x128 .f32) (y : S512x128.Idx) :
    ∃ pc ∈ ([⟨r0_2, p0⟩] : List (View.Piece (Elt F) S512x128 .f32)), y ∈ pc.1.set :=
  View.cover_of_tiled [⟨r0_2, p0⟩] S512x128.size (by rfl) y

/-- Window 9's staging buffer after the body, from the input windows' blocks: its 8 stores as pieces, LAST
    FIRST. -/
def out0_9 (x0 : Vec F S512x2048 .f32) (x1 : Vec F S1x2048 .f32) (x2 : Vec F S2048x2688 .bf16) (x3 : Vec F S512x128 .f32) (x4 : Vec F S512x128 .f32) : Vec F S512x1024 .bf16 :=
  View.canon [⟨r0_43, k0_pay2 (k0_pay67 x0 x1 x2 x3 x4)⟩,
    ⟨r0_42, k0_pay1 (k0_pay68 x0 x1 x2 x3 x4)⟩,
    ⟨r0_39, k0_pay55 (k0_pay58 x0 x1 x2 x3 x4) (View.ld x2 r0_35)⟩,
    ⟨r0_38, k0_pay54 (k0_pay58 x0 x1 x2 x3 x4) (k0_pay59 x0 x1 x2 x3 x4) (k0_pay60 x0 x1 x2 x3 x4) (View.ld x2 r0_35)⟩,
    ⟨r0_34, k0_pay50 (k0_pay64 x0 x1 x2 x3 x4)⟩,
    ⟨r0_33, k0_pay49 (k0_pay65 x0 x1 x2 x3 x4) (k0_pay66 x0 x1 x2 x3 x4)⟩,
    ⟨r0_30, k0_pay43 (k0_pay58 x0 x1 x2 x3 x4) (View.ld x2 r0_26)⟩,
    ⟨r0_29, k0_pay42 (k0_pay58 x0 x1 x2 x3 x4) (k0_pay59 x0 x1 x2 x3 x4) (k0_pay60 x0 x1 x2 x3 x4) (View.ld x2 r0_26)⟩]

/-- Its stores tile the buffer (checked by evaluation), so they cover it. -/
theorem cover0_9 (p0 : Vec F S512x128 .bf16) (p1 : Vec F S512x128 .bf16) (p2 : Vec F S512x128 .bf16) (p3 : Vec F S512x128 .bf16) (p4 : Vec F S512x128 .bf16) (p5 : Vec F S512x128 .bf16) (p6 : Vec F S512x128 .bf16) (p7 : Vec F S512x128 .bf16) (y : S512x1024.Idx) :
    ∃ pc ∈ ([⟨r0_43, p0⟩, ⟨r0_42, p1⟩, ⟨r0_39, p2⟩, ⟨r0_38, p3⟩, ⟨r0_34, p4⟩, ⟨r0_33, p5⟩, ⟨r0_30, p6⟩, ⟨r0_29, p7⟩] : List (View.Piece (Elt F) S512x1024 .bf16)), y ∈ pc.1.set :=
  View.cover_of_tiled [⟨r0_43, p0⟩, ⟨r0_42, p1⟩, ⟨r0_39, p2⟩, ⟨r0_38, p3⟩, ⟨r0_34, p4⟩, ⟨r0_33, p5⟩, ⟨r0_30, p6⟩, ⟨r0_29, p7⟩] S512x128.size (by rfl) y

/-- Window 10's staging buffer after the body, from the input windows' blocks: its 1 store as pieces, LAST
    FIRST. -/
def out0_10 (x0 : Vec F S512x2048 .f32) (x1 : Vec F S1x2048 .f32) (x2 : Vec F S2048x2688 .bf16) (x3 : Vec F S512x128 .f32) (x4 : Vec F S512x128 .f32) : Vec F S512x2048 .bf16 :=
  View.canon [⟨r0_0, k0_pay4 (View.ld x0 r0_0) (View.ld x1 r0_1)⟩]

/-- Its stores tile the buffer (checked by evaluation), so they cover it. -/
theorem cover0_10 (p0 : Vec F S512x2048 .bf16) (y : S512x2048.Idx) :
    ∃ pc ∈ ([⟨r0_0, p0⟩] : List (View.Piece (Elt F) S512x2048 .bf16)), y ∈ pc.1.set :=
  View.cover_of_tiled [⟨r0_0, p0⟩] S512x2048.size (by rfl) y

/-! ## The body's triple -/

set_option maxHeartbeats 1000000 in
/-- The kernel body on whole staging memrefs, the inputs' at read contents `xW` and the outputs' at anything, runs to
    the continuation holding the inputs' as they were and each output's at `out0_W` of the inputs': the printed functions
    are their skeletons (`*_eq_skeleton`), which `sl_exec` runs, through every part call. -/
theorem sound_kernel0 (c : Dev nD) (E : Set ℕ) (i : grid0.Coords) (arg1 : Memref sig .tc .vmem S512x2048 .f32) (harg1 : arg1.IsWhole) (arg2 : Memref sig .tc .vmem S1x2048 .f32) (harg2 : arg2.IsWhole) (arg3 : Memref sig .tc .vmem S2048x2688 .bf16) (harg3 : arg3.IsWhole) (arg4 : Memref sig .tc .vmem S512x128 .f32) (harg4 : arg4.IsWhole) (arg5 : Memref sig .tc .vmem S512x128 .f32) (harg5 : arg5.IsWhole) (arg6 : Memref sig .tc .vmem S512x2048 .bf16) (harg6 : arg6.IsWhole) (arg7 : Memref sig .tc .vmem S4096x128 .f32) (harg7 : arg7.IsWhole) (arg8 : Memref sig .tc .vmem S2048x128 .f32) (harg8 : arg8.IsWhole) (arg9 : Memref sig .tc .vmem S512x128 .f32) (harg9 : arg9.IsWhole) (arg10 : Memref sig .tc .vmem S512x1024 .bf16) (harg10 : arg10.IsWhole) (arg11 : Memref sig .tc .vmem S512x2048 .bf16) (harg11 : arg11.IsWhole)
    (x0 : Vec F S512x2048 .f32) (x1 : Vec F S1x2048 .f32) (x2 : Vec F S2048x2688 .bf16) (x3 : Vec F S512x128 .f32) (x4 : Vec F S512x128 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare (out0_5 x0 x1 x2 x3 x4) ∗ owns (c : Thread nD τ) arg7 fullShare (out0_6 x0 x1 x2 x3 x4) ∗ owns (c : Thread nD τ) arg8 fullShare (out0_7 x0 x1 x2 x3 x4) ∗ owns (c : Thread nD τ) arg9 fullShare (out0_8 x0 x1 x2 x3 x4) ∗ owns (c : Thread nD τ) arg10 fullShare (out0_9 x0 x1 x2 x3 x4) ∗ owns (c : Thread nD τ) arg11 fullShare (out0_10 x0 x1 x2 x3 x4)) -∗ K ⟨⟩))
      ⊢ wp frame (wpE (defs₀ (F := F)) Variants.none c none) E (cc0_qkv_proj i arg1 harg1 arg2 harg2 arg3 harg3 arg4 harg4 arg5 harg5 arg6 harg6 arg7 harg7 arg8 harg8 arg9 harg9 arg10 harg10 arg11 harg11) K := by
  simp only [cc0_qkv_proj_eq_skeleton]; unfold cc0_qkv_proj_skel
  simp only [k0_part1_eq_skeleton, k0_part2_eq_skeleton, k0_part3_eq_skeleton, k0_part4_eq_skeleton, k0_part5_eq_skeleton]
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, ⟨%d7, %f7, -, H7⟩, ⟨%d8, %f8, -, H8⟩, ⟨%d9, %f9, -, H9⟩, ⟨%d10, %f10, -, H10⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists _; isplitr
    swap; · iexact H5
    ipureintro
    refine (View.read_writes_eq_canon _ _ _ (cover0_5 _ _ _ _ _ _ _ _ _ _ _ _ _ _ _ _)).trans ?_
    rfl
  isplitl [H6]
  · iexists _; isplitr
    swap; · iexact H6
    ipureintro
    refine (View.read_writes_eq_canon _ _ _ (cover0_6 _ _ _ _ _ _ _ _)).trans ?_
    rfl
  isplitl [H7]
  · iexists _; isplitr
    swap; · iexact H7
    ipureintro
    refine (View.read_writes_eq_canon _ _ _ (cover0_7 _ _ _ _)).trans ?_
    rfl
  isplitl [H8]
  · iexists _; isplitr
    swap; · iexact H8
    ipureintro
    refine (View.read_writes_eq_canon _ _ _ (cover0_8 _)).trans ?_
    rfl
  isplitl [H9]
  · iexists _; isplitr
    swap; · iexact H9
    ipureintro
    refine (View.read_writes_eq_canon _ _ _ (cover0_9 _ _ _ _ _ _ _ _)).trans ?_
    rfl
  iexists _; isplitr
  swap; · iexact H10
  ipureintro
  refine (View.read_writes_eq_canon _ _ _ (cover0_10 _)).trans ?_
  rfl

/-! ## The pipeline's proof data -/

/-- The proof data of pipeline 0 on core `c`: the arrays as the region finds them (`V`); after the body at
    point `t` each input's buffer at its block and each output's at `out0_W` of the input blocks; the invariant the
    class's; nothing owed;
    full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => out0_5 (iblk0 V c 0 t) (iblk0 V c 1 t) (iblk0 V c 2 t) (iblk0 V c 3 t) (iblk0 V c 4 t)
    | ⟨6, _⟩ => out0_6 (iblk0 V c 0 t) (iblk0 V c 1 t) (iblk0 V c 2 t) (iblk0 V c 3 t) (iblk0 V c 4 t)
    | ⟨7, _⟩ => out0_7 (iblk0 V c 0 t) (iblk0 V c 1 t) (iblk0 V c 2 t) (iblk0 V c 3 t) (iblk0 V c 4 t)
    | ⟨8, _⟩ => out0_8 (iblk0 V c 0 t) (iblk0 V c 1 t) (iblk0 V c 2 t) (iblk0 V c 3 t) (iblk0 V c 4 t)
    | ⟨9, _⟩ => out0_9 (iblk0 V c 0 t) (iblk0 V c 1 t) (iblk0 V c 2 t) (iblk0 V c 3 t) (iblk0 V c 4 t)
    | ⟨10, _⟩ => out0_10 (iblk0 V c 0 t) (iblk0 V c 1 t) (iblk0 V c 2 t) (iblk0 V c 3 t) (iblk0 V c 4 t)
  Φ _ := Pipeline.ΦA spec0 c
  q _ := fullShare
  owed _ := 0

/-- The proof data's arrays are the region-entry contents, by projecting the definition (`dsimp`): a region record cites
    this for its arrays rather than have Lean unfold `V`, the fold through @main up to the region's entry. -/
theorem A_eq0 (c : Dev nD) (w : Fin cfg0.W) : (dat0 V c).A w = V c (Pipeline.arrRef spec0 w) := by
  dsimp only [dat0]

/-- What the body leaves, window by window (the proof data's `match` reduced by `dsimp`, never `rfl`: `Dat`). -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = out0_5 (iblk0 V c 0 t) (iblk0 V c 1 t) (iblk0 V c 2 t) (iblk0 V c 3 t) (iblk0 V c 4 t) := by dsimp only [dat0]
theorem after0_6 (c : Dev nD) (t : Fin cfg0.N) : (dat0 V c).after 6 t = out0_6 (iblk0 V c 0 t) (iblk0 V c 1 t) (iblk0 V c 2 t) (iblk0 V c 3 t) (iblk0 V c 4 t) := by dsimp only [dat0]
theorem after0_7 (c : Dev nD) (t : Fin cfg0.N) : (dat0 V c).after 7 t = out0_7 (iblk0 V c 0 t) (iblk0 V c 1 t) (iblk0 V c 2 t) (iblk0 V c 3 t) (iblk0 V c 4 t) := by dsimp only [dat0]
theorem after0_8 (c : Dev nD) (t : Fin cfg0.N) : (dat0 V c).after 8 t = out0_8 (iblk0 V c 0 t) (iblk0 V c 1 t) (iblk0 V c 2 t) (iblk0 V c 3 t) (iblk0 V c 4 t) := by dsimp only [dat0]
theorem after0_9 (c : Dev nD) (t : Fin cfg0.N) : (dat0 V c).after 9 t = out0_9 (iblk0 V c 0 t) (iblk0 V c 1 t) (iblk0 V c 2 t) (iblk0 V c 3 t) (iblk0 V c 4 t) := by dsimp only [dat0]
theorem after0_10 (c : Dev nD) (t : Fin cfg0.N) : (dat0 V c).after 10 t = out0_10 (iblk0 V c 0 t) (iblk0 V c 1 t) (iblk0 V c 2 t) (iblk0 V c 3 t) (iblk0 V c 4 t) := by dsimp only [dat0]

/-- Each input's current staging buffer holds its block at every point, fetched there or not (`beforeK_W_of`). -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d

/-! ## The body obligation, at a generic point -/

/-- What the body is called with at point `t`, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d))
    ∗ (∃ d, owns (c : Thread nD τ) (st0_7 t) fullShare ((dat0 V c).before 7 t d))
    ∗ (∃ d, owns (c : Thread nD τ) (st0_8 t) fullShare ((dat0 V c).before 8 t d))
    ∗ (∃ d, owns (c : Thread nD τ) (st0_9 t) fullShare ((dat0 V c).before 9 t d))
    ∗ (∃ d, owns (c : Thread nD τ) (st0_10 t) fullShare ((dat0 V c).before 10 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t)
    ∗ owns (c : Thread nD τ) (st0_7 t) fullShare ((dat0 V c).after 7 t)
    ∗ owns (c : Thread nD τ) (st0_8 t) fullShare ((dat0 V c).after 8 t)
    ∗ owns (c : Thread nD τ) (st0_9 t) fullShare ((dat0 V c).after 9 t)
    ∗ owns (c : Thread nD τ) (st0_10 t) fullShare ((dat0 V c).after 10 t))

/-- The body at any point: the inputs' memrefs hold their blocks (`before0_W`), so `sound_kernel0` applies; the invariant and
    the core's `owes` pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4]
  rw [show (dat0 V c).Φ t.succ = (dat0 V c).Φ t.castSucc from rfl,
    show (dat0 V c).owesAt () t.succ = (dat0 V c).owesAt () t.castSucc from rfl,
    after0_0, after0_1, after0_2, after0_3, after0_4, after0_5, after0_6, after0_7, after0_8, after0_9, after0_10]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
  iapply (sound_kernel0 c Set.univ (grid0.coords t) _ _ _ _ _ _ _ _ _ _ _ _ _ _ _ _ _ _ _ _ _ _ (iblk0 V c 0 t) (iblk0 V c 1 t) (iblk0 V c 2 t) (iblk0 V c 3 t) (iblk0 V c 4 t) _)
  isplitl [H0]; · iexact H0
  isplitl [H1]; · iexact H1
  isplitl [H2]; · iexact H2
  isplitl [H3]; · iexact H3
  isplitl [H4]; · iexact H4
  isplitl [H5]; · iexists _; iexact H5
  isplitl [H6]; · iexists _; iexact H6
  isplitl [H7]; · iexists _; iexact H7
  isplitl [H8]; · iexists _; iexact H8
  isplitl [H9]; · iexists _; iexact H9
  isplitl [H10]; · iexists _; iexact H10
  iintro ⟨H0, H1, H2, H3, H4, H5, H6, H7, H8, H9, H10⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  iexact H10

/-- The body table's row at point `t`'s slots is the body as `bodyAt0` spells it. -/
theorem defs₀_row0 (t : Fin cfg0.N) :
    defs₀ (F := F) .tc cfg0.body (cfg0.bodyArgs t (cfg0.slots t)) = bodyAt0 t := by
  unfold defs₀; rw [Defs.onTc_tc]

/-- The library's body obligation, at every point: the body's triple restated. -/
theorem body_obligation0 (c : Dev nD) : BodyObligation (dat0 (F := F) V c) (defs₀ (F := F)) Variants.none () Set.univ := fun t => by
  rw [bigSep_W0, bigSep_W0, defs₀_row0]
  exact triple_restated (sound_body0 V c t) rfl .rfl fun _ => .rfl

end Regions

end Cert.Proof.II
-- ==== Proof.InputsIdeal.Frame.lean ====
module

public import proofs.«01_k».proof.Proof.Gen.InputsIdeal.Launch
public import proofs.«01_k».proof.Proof.Gen.InputsIdeal.Skeleton
public import proofs.«01_k».proof.Proof.Gen.InputsIdeal.Points
public import proofs.«01_k».proof.Proof.InputsIdeal.Qkv
public import Idealize.ShloMosaic.Lib.Pipeline.FrameBody
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.WordCmp

@[expose] public section

set_option maxRecDepth 16384

noncomputable section

namespace Cert.Proof.II

open Cert.InputsIdeal Cert.InputsIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
section Regions
-- the TensorCore's buffer contents when a region is entered: the parameter every region's half is stated at, which
-- the run instantiates per region
variable (V : (c : Dev nD) → (b : Ref sig .tc) → Buf (Elt F) ((c : Thread nD τ).loc b))

/-! # REGION 1 of @main: custom_call 1, `cc1_mixer_proj` (pipeline 1), at the entry contents `V` -/

/-! ## The windows' blocks -/

/-- Window `w`'s block at point `t`, read off its array as the region finds it (`V`). -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, fetched there or not, for ANY proof
    data whose array is `V`'s (`hA`) and whose body leaves the block in place (`hafter`):
    `Dat.before_in_eq_fetched` (unfetched, the index has not moved), the window uncut and never idle. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
/-- Input window 1's current staging buffer holds its block at every point, fetched there or not, for ANY proof
    data whose array is `V`'s (`hA`) and whose body leaves the block in place (`hafter`):
    `Dat.before_in_eq_fetched` (unfetched, the index has not moved), the window uncut and never idle. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses -/

abbrev r1_0 : Rect S512x2048 := Rect.unit (s := S512x2048) ![0, 0] S512x2048.size inb_S512x2048_S512x2048_0_0
abbrev r1_1 : Rect S2048x1024 := Rect.unit (s := S2048x1024) ![0, 0] S2048x512.size inb_S2048x1024_S2048x512_0_0
abbrev r1_2 : Rect S512x1024 := Rect.unit (s := S512x1024) ![0, 0] S512x512.size inb_S512x1024_S512x512_0_0
abbrev r1_3 : Rect S2048x1024 := Rect.unit (s := S2048x1024) ![0, 512] S2048x512.size inb_S2048x1024_S2048x512_0_512
abbrev r1_4 : Rect S512x1024 := Rect.unit (s := S512x1024) ![0, 512] S512x512.size inb_S512x1024_S512x512_0_512

/-! ## What the body leaves in each output window's buffer -/

/-- Window 2's staging buffer after the body, from the input windows' blocks: its 2 stores as pieces, LAST
    FIRST. -/
def out1_2 (x0 : Vec F S512x2048 .bf16) (x1 : Vec F S2048x1024 .bf16) : Vec F S512x1024 .f32 :=
  View.canon [⟨r1_4, k1_pay3 (View.ld x0 r1_0) (View.ld x1 r1_3)⟩,
    ⟨r1_2, k1_pay2 (View.ld x0 r1_0) (View.ld x1 r1_1)⟩]

/-- Its stores tile the buffer (checked by evaluation), so they cover it. -/
theorem cover1_2 (p0 : Vec F S512x512 .f32) (p1 : Vec F S512x512 .f32) (y : S512x1024.Idx) :
    ∃ pc ∈ ([⟨r1_4, p0⟩, ⟨r1_2, p1⟩] : List (View.Piece (Elt F) S512x1024 .f32)), y ∈ pc.1.set :=
  View.cover_of_tiled [⟨r1_4, p0⟩, ⟨r1_2, p1⟩] S512x512.size (by rfl) y

/-! ## The body's triple -/

set_option maxHeartbeats 1000000 in
/-- The kernel body on whole staging memrefs, the inputs' at read contents `xW` and the outputs' at anything, runs to
    the continuation holding the inputs' as they were and each output's at `out1_W` of the inputs': the printed functions
    are their skeletons (`*_eq_skeleton`), which `sl_exec` runs, through every part call. -/
theorem sound_kernel1 (c : Dev nD) (E : Set ℕ) (i : grid1.Coords) (arg2 : Memref sig .tc .vmem S512x2048 .bf16) (harg2 : arg2.IsWhole) (arg3 : Memref sig .tc .vmem S2048x1024 .bf16) (harg3 : arg3.IsWhole) (arg4 : Memref sig .tc .vmem S512x1024 .f32) (harg4 : arg4.IsWhole)
    (x0 : Vec F S512x2048 .bf16) (x1 : Vec F S2048x1024 .bf16) (K : PUnit → sProp 𝕄) :
    iprop(owns (c : Thread nD τ) arg2 fullShare x0 ∗ owns (c : Thread nD τ) arg3 fullShare x1 ∗ (∃ d, owns (c : Thread nD τ) arg4 fullShare d)
        ∗ (iprop(owns (c : Thread nD τ) arg2 fullShare x0 ∗ owns (c : Thread nD τ) arg3 fullShare x1 ∗ owns (c : Thread nD τ) arg4 fullShare (out1_2 x0 x1)) -∗ K ⟨⟩))
      ⊢ wp frame (wpE (defs₀ (F := F)) Variants.none c none) E (cc1_mixer_proj i arg2 harg2 arg3 harg3 arg4 harg4) K := by
  simp only [cc1_mixer_proj_eq_skeleton]; unfold cc1_mixer_proj_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover1_2 _ _)

/-! ## The pipeline's proof data -/

/-- The proof data of pipeline 1 on core `c`: the arrays as the region finds them (`V`); after the body at
    point `t` each input's buffer at its block and each output's at `out1_W` of the input blocks; the invariant the
    class's; nothing owed;
    full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => out1_2 (iblk1 V c 0 t) (iblk1 V c 1 t)
  Φ _ := Pipeline.ΦA spec1 c
  q _ := fullShare
  owed _ := 0

/-- The proof data's arrays are the region-entry contents, by projecting the definition (`dsimp`): a region record cites
    this for its arrays rather than have Lean unfold `V`, the fold through @main up to the region's entry. -/
theorem A_eq1 (c : Dev nD) (w : Fin cfg1.W) : (dat1 V c).A w = V c (Pipeline.arrRef spec1 w) := by
  dsimp only [dat1]

/-- What the body leaves, window by window (the proof data's `match` reduced by `dsimp`, never `rfl`: `Dat`). -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = out1_2 (iblk1 V c 0 t) (iblk1 V c 1 t) := by dsimp only [dat1]

/-- Each input's current staging buffer holds its block at every point, fetched there or not (`beforeK_W_of`). -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d

/-! ## The body obligation, at a generic point -/

/-- What the body is called with at point `t`, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t))

/-- The body at any point: the inputs' memrefs hold their blocks (`before1_W`), so `sound_kernel1` applies; the invariant and
    the core's `owes` pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).Φ t.succ = (dat1 V c).Φ t.castSucc from rfl,
    show (dat1 V c).owesAt () t.succ = (dat1 V c).owesAt () t.castSucc from rfl,
    after1_0, after1_1, after1_2]
  iintro ⟨HΦ, Ho, ⟨%d0, H0⟩, ⟨%d1, H1⟩, ⟨%d2, H2⟩⟩
  iapply (sound_kernel1 c Set.univ (grid1.coords t) _ _ _ _ _ _ (iblk1 V c 0 t) (iblk1 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The body table's row at point `t`'s slots is the body as `bodyAt1` spells it. -/
theorem defs₀_row1 (t : Fin cfg1.N) :
    defs₀ (F := F) .tc cfg1.body (cfg1.bodyArgs t (cfg1.slots t)) = bodyAt1 t := by
  unfold defs₀; rw [Defs.onTc_tc]

/-- The library's body obligation, at every point: the body's triple restated. -/
theorem body_obligation1 (c : Dev nD) : BodyObligation (dat1 (F := F) V c) (defs₀ (F := F)) Variants.none () Set.univ := fun t => by
  rw [bigSep_W1, bigSep_W1, defs₀_row1]
  exact triple_restated (sound_body1 V c t) rfl .rfl fun _ => .rfl

end Regions

/-! # THE RUN: @main's segments from the launch to the return -/

/-- @main's argument arrays, as TensorCore references: what the frame claim reads back. -/
abbrev argRefs : List (Ref sig .tc) := [main_arg0, main_arg1, main_arg2]

/-! ## The host stretches: none allocates a buffer, and each lists the references its operations write, in order,
    so that a reference absent from the list keeps its contents across the stretch -/

/-- No operation of `hostOps0` allocates a buffer. -/
theorem hostOps0_fresh : (hostOps0 : List (HloOp τ sig (Elt F))).Forall fun op => op.fresh = ∅ := by
  simp only [List.Forall]; repeat' constructor
/-- The reference each operation of `hostOps0` writes, in order. -/
abbrev hostOps0_W : List (Ref sig .tc) := [main_v0, main_v1, main_v2, main_cst, main_v3, main_v4, main_v5, main_v6, main_v7, main_v8, main_cst_0, main_v9, main_v10, main_cst_1, main_v11, main_v12, main_v13, main_v14, main_v15, main_v16, main_v17, main_v18, main_v19, main_v20, main_v21, main_v22, main_v23, main_v24, main_v25, main_v26, main_v27, main_v28, main_v29, main_v30]
theorem hostOps0_writes : (hostOps0 : List (HloOp τ sig (Elt F))).Forall fun op => op.writes ⊆ (hostOps0_W.map (Proc.devRef (τ := τ) .tc)).toFinset :=
  StableHlo.forall_writes_sub_of_map rfl
/-- `hostOps0` writes none of the argument arrays (checked: each argument against each reference it writes). -/
theorem hostOps0_args : ∀ a ∈ argRefs, a ∉ hostOps0_W := ListAll.forall_mem_of_all_decide (by decide +kernel)

/-- No operation of `hostOps1` allocates a buffer. -/
theorem hostOps1_fresh : (hostOps1 : List (HloOp τ sig (Elt F))).Forall fun op => op.fresh = ∅ := by
  simp only [List.Forall]; repeat' constructor
/-- The reference each operation of `hostOps1` writes, in order. -/
abbrev hostOps1_W : List (Ref sig .tc) := [main_v32]
theorem hostOps1_writes : (hostOps1 : List (HloOp τ sig (Elt F))).Forall fun op => op.writes ⊆ (hostOps1_W.map (Proc.devRef (τ := τ) .tc)).toFinset :=
  StableHlo.forall_writes_sub_of_map rfl
/-- `hostOps1` writes none of the argument arrays (checked: each argument against each reference it writes). -/
theorem hostOps1_args : ∀ a ∈ argRefs, a ∉ hostOps1_W := ListAll.forall_mem_of_all_decide (by decide +kernel)

/-- No operation of `hostOps2` allocates a buffer. -/
theorem hostOps2_fresh : (hostOps2 : List (HloOp τ sig (Elt F))).Forall fun op => op.fresh = ∅ := by
  simp only [List.Forall]; repeat' constructor
/-- The reference each operation of `hostOps2` writes, in order. -/
abbrev hostOps2_W : List (Ref sig .tc) := [main_v34, main_v35, main_v36, main_v37, main_v38, main_v39, main_v40, main_v41]
theorem hostOps2_writes : (hostOps2 : List (HloOp τ sig (Elt F))).Forall fun op => op.writes ⊆ (hostOps2_W.map (Proc.devRef (τ := τ) .tc)).toFinset :=
  StableHlo.forall_writes_sub_of_map rfl
/-- `hostOps2` writes none of the argument arrays (checked: each argument against each reference it writes). -/
theorem hostOps2_args : ∀ a ∈ argRefs, a ∉ hostOps2_W := ListAll.forall_mem_of_all_decide (by decide +kernel)

/-! ## The buffer contents at each segment boundary: a fold through @main, and what each item leaves unchanged -/

/-- Core `c`'s buffers at launch. -/
abbrev W0 : Dev nD → Valuation τ sig (Elt F) := fun c b => (s₀ m ρ).mem ((c : Dev nD), b)
theorem W0_args (c : Dev nD) : ∀ a ∈ argRefs, W0 m ρ c (Proc.devRef .tc a) = m ((c : Thread nD τ).loc a) := fun _ _ => rfl
/-- After `hostOps0` (region 0's entry). -/
abbrev W1 : Dev nD → Valuation τ sig (Elt F) := fun c => StableHlo.after hostOps0 (W0 m ρ c)
/-- A reference `hostOps0` does not write keeps its contents across it. -/
theorem W1_of (c : Dev nD) (r : Ref sig .tc) (h : r ∉ hostOps0_W) : W1 m ρ c (Proc.devRef .tc r) = W0 m ρ c (Proc.devRef .tc r) :=
  StableHlo.after_of_writes_sub hostOps0 _ hostOps0_writes h
theorem W1_args (c : Dev nD) : ∀ a ∈ argRefs, W1 m ρ c (Proc.devRef .tc a) = m ((c : Thread nD τ).loc a) :=
  fun a ha => (W1_of m ρ c a (hostOps0_args a ha)).trans (W0_args m ρ c a ha)
/-- The same read at the TensorCore's references (what region 0's proof data take). -/
abbrev V1 : (c : Dev nD) → (b : Ref sig .tc) → Buf (Elt F) ((c : Thread nD τ).loc b) := fun c b => W1 m ρ c b
/-- At region 0's exit: its arrays at what the pipeline leaves (the inputs as entered, each output's write-backs
    folded: `Dat.arrAt … N`), every other buffer as entered. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
/-- A reference that is none of region 0's OUTPUT arrays keeps its entry contents across it: an input window's
    array is never written back (`Dat.arrAt_in`, `A_eq0`); any other buffer is left as is. -/
theorem W2_of (c : Dev nD) (r : Ref sig .tc) (h : ∀ w : Fin cfg0.W, Pipeline.arrRef spec0 w = r → (cfg0.win w).isOut = false) :
    W2 m ρ c (Proc.devRef .tc r) = W1 m ρ c (Proc.devRef .tc r) := by
  by_cases hw : ∃ w : Fin cfg0.W, Pipeline.arrRef spec0 w = r
  · obtain ⟨w, rfl⟩ := hw
    exact (W2_arr m ρ c w).trans (((dat0 (V1 m ρ) c).arrAt_in w (h w rfl) _).trans (A_eq0 (V1 m ρ) c w))
  · exact W2_of_ne m ρ c r fun w e => hw ⟨w, e⟩
/-- Every argument among region 0's arrays is an input window's (checked: each argument against each window). -/
theorem argsIn0 : ∀ a ∈ argRefs, ∀ w : Fin cfg0.W, Pipeline.arrRef spec0 w = a → (cfg0.win w).isOut = false :=
  ListAll.forall_mem_of_all_decide (by decide +kernel)
theorem W2_args (c : Dev nD) : ∀ a ∈ argRefs, W2 m ρ c (Proc.devRef .tc a) = m ((c : Thread nD τ).loc a) :=
  fun a ha => (W2_of m ρ c a (argsIn0 a ha)).trans (W1_args m ρ c a ha)
/-- The same read at the TensorCore's references (region 0's exit contents). -/
abbrev V2 : (c : Dev nD) → (b : Ref sig .tc) → Buf (Elt F) ((c : Thread nD τ).loc b) := fun c b => W2 m ρ c b
/-- At region 0's exit each of its arrays holds what the pipeline leaves (`hF0`) and every other buffer what it
    held at entry (`hrest0`): the two hypotheses of `unscopedBufs_of_arrays`. -/
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- After `hostOps1` (region 1's entry). -/
abbrev W3 : Dev nD → Valuation τ sig (Elt F) := fun c => StableHlo.after hostOps1 (W2 m ρ c)
/-- A reference `hostOps1` does not write keeps its contents across it. -/
theorem W3_of (c : Dev nD) (r : Ref sig .tc) (h : r ∉ hostOps1_W) : W3 m ρ c (Proc.devRef .tc r) = W2 m ρ c (Proc.devRef .tc r) :=
  StableHlo.after_of_writes_sub hostOps1 _ hostOps1_writes h
theorem W3_args (c : Dev nD) : ∀ a ∈ argRefs, W3 m ρ c (Proc.devRef .tc a) = m ((c : Thread nD τ).loc a) :=
  fun a ha => (W3_of m ρ c a (hostOps1_args a ha)).trans (W2_args m ρ c a ha)
/-- The same read at the TensorCore's references (what region 1's proof data take). -/
abbrev V3 : (c : Dev nD) → (b : Ref sig .tc) → Buf (Elt F) ((c : Thread nD τ).loc b) := fun c b => W3 m ρ c b
/-- At region 1's exit: its arrays at what the pipeline leaves (the inputs as entered, each output's write-backs
    folded: `Dat.arrAt … N`), every other buffer as entered. -/
def W4 (c : Dev nD) : Valuation τ sig (Elt F) :=
  Pipeline.withArrays spec1 c (W3 m ρ c) fun w => (dat1 (V3 m ρ) c).arrAt w cfg1.N
theorem W4_arr (c : Dev nD) (w : Fin cfg1.W) :
    W4 m ρ c (Proc.devRef .tc (Pipeline.arrRef spec1 w)) = (dat1 (V3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
/-- A reference that is none of region 1's OUTPUT arrays keeps its entry contents across it: an input window's
    array is never written back (`Dat.arrAt_in`, `A_eq1`); any other buffer is left as is. -/
theorem W4_of (c : Dev nD) (r : Ref sig .tc) (h : ∀ w : Fin cfg1.W, Pipeline.arrRef spec1 w = r → (cfg1.win w).isOut = false) :
    W4 m ρ c (Proc.devRef .tc r) = W3 m ρ c (Proc.devRef .tc r) := by
  by_cases hw : ∃ w : Fin cfg1.W, Pipeline.arrRef spec1 w = r
  · obtain ⟨w, rfl⟩ := hw
    exact (W4_arr m ρ c w).trans (((dat1 (V3 m ρ) c).arrAt_in w (h w rfl) _).trans (A_eq1 (V3 m ρ) c w))
  · exact W4_of_ne m ρ c r fun w e => hw ⟨w, e⟩
/-- Every argument among region 1's arrays is an input window's (checked: each argument against each window). -/
theorem argsIn1 : ∀ a ∈ argRefs, ∀ w : Fin cfg1.W, Pipeline.arrRef spec1 w = a → (cfg1.win w).isOut = false :=
  ListAll.forall_mem_of_all_decide (by decide +kernel)
theorem W4_args (c : Dev nD) : ∀ a ∈ argRefs, W4 m ρ c (Proc.devRef .tc a) = m ((c : Thread nD τ).loc a) :=
  fun a ha => (W4_of m ρ c a (argsIn1 a ha)).trans (W3_args m ρ c a ha)
/-- The same read at the TensorCore's references (region 1's exit contents). -/
abbrev V4 : (c : Dev nD) → (b : Ref sig .tc) → Buf (Elt F) ((c : Thread nD τ).loc b) := fun c b => W4 m ρ c b
/-- At region 1's exit each of its arrays holds what the pipeline leaves (`hF1`) and every other buffer what it
    held at entry (`hrest1`): the two hypotheses of `unscopedBufs_of_arrays`. -/
theorem hF1 (c : Dev nD) (w : Fin cfg1.W) : (dat1 (V3 m ρ) c).arrAt w cfg1.N = V4 m ρ c (Pipeline.arrRef spec1 w) :=
  (W4_arr m ρ c w).symm
theorem hrest1 (c : Dev nD) : ∀ b, b ∉ Finset.univ.image (Pipeline.arrRef spec1) → V4 m ρ c b = V3 m ρ c b :=
  fun b hb => W4_of_ne m ρ c b fun w e => hb (Finset.mem_image.mpr ⟨w, Finset.mem_univ _, e⟩)

/-- After `hostOps2`. -/
abbrev W5 : Dev nD → Valuation τ sig (Elt F) := fun c => StableHlo.after hostOps2 (W4 m ρ c)
/-- A reference `hostOps2` does not write keeps its contents across it. -/
theorem W5_of (c : Dev nD) (r : Ref sig .tc) (h : r ∉ hostOps2_W) : W5 m ρ c (Proc.devRef .tc r) = W4 m ρ c (Proc.devRef .tc r) :=
  StableHlo.after_of_writes_sub hostOps2 _ hostOps2_writes h
theorem W5_args (c : Dev nD) : ∀ a ∈ argRefs, W5 m ρ c (Proc.devRef .tc a) = m ((c : Thread nD τ).loc a) :=
  fun a ha => (W5_of m ρ c a (hostOps2_args a ha)).trans (W4_args m ρ c a ha)

/-! ### The arguments end as launched: no host stretch writes one and no region may change one (a region reads it
    through an input window or bypasses it) -/

theorem W5_main_arg0 (c : Dev nD) : W5 m ρ c (Proc.devRef .tc main_arg0) = m ((c : Thread nD τ).loc main_arg0) :=
  W5_args m ρ c main_arg0 (by decide)
theorem W5_main_arg1 (c : Dev nD) : W5 m ρ c (Proc.devRef .tc main_arg1) = m ((c : Thread nD τ).loc main_arg1) :=
  W5_args m ρ c main_arg1 (by decide)
theorem W5_main_arg2 (c : Dev nD) : W5 m ρ c (Proc.devRef .tc main_arg2) = m ((c : Thread nD τ).loc main_arg2) :=
  W5_args m ρ c main_arg2 (by decide)

/-! ## The proof data family and the thread state -/

/-- The prefetched tables' admissible contents: no pipeline has a table. -/
abbrev adm : (p : Fin 2) → (pcfgs (F := F) p).Adm := fun p => (cfgs p).toPCfg_adm
/-- Every pipeline's proof data, each at its region's entry contents — a literal `match`, so that the kit's
    `Pipeline.pin pcfgs adm p` at a numeral reduces to the printed configuration. -/
def pdats : (p : Fin 2) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V3 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the core's generator register at some state (the class-A
    invariant takes it in and gives it back) and its `owes`, at nothing. -/
abbrev R (c : Dev nD) : sProp 𝕄 := iprop((∃ r, prngReg c r) ∗ ∃ W, owes (c : Thread nD τ) (0 : CellTallies nD τ sig Unit) W)
/-- A host stretch as a segment: `HostSeg.ofOps` over the unscoped references from the contents `W`, `R` riding along
    (its `post` is then those references at `StableHlo.after ops (W c)`: the next boundary's contents by name). -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes` (the kit's chain ends at it BESIDE the core owing nothing): every unscoped
    buffer at the last boundary's contents `W5`, the generator register at some state. -/
abbrev Tₙ (c : Dev nD) : sProp 𝕄 := iprop(StableHlo.held (c : Thread nD τ) (Pipeline.ucRefs τ sig) (W5 m ρ c) ∗ ∃ r, prngReg c r)

/-! ## The regions as segments -/

-- `iapply` of a library lemma stated over `pin pcs a p` unifies with the pinned configuration only when unification may
-- unfold plain definitions in a metavariable's type
set_option backward.isDefEq.respectTransparency.types false in
/-- REGION 0 (custom_call 0) over the thread state: entered from every unscoped buffer at `W1`, left at `W2`
    (what the next segment is entered from). Its arrays split out of the unscoped buffers
    (`arrays_of_unscopedBufs`) and put back at the exit contents (`unscopedBufs_of_arrays`); the generator register into the
    class invariant `ΦA` and out; nothing owed; no semaphore of the kernel's own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) (A_eq0 (V1 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- `iapply` of a library lemma stated over `pin pcs a p` unifies with the pinned configuration only when unification may
-- unfold plain definitions in a metavariable's type
set_option backward.isDefEq.respectTransparency.types false in
/-- REGION 1 (custom_call 1) over the thread state: entered from every unscoped buffer at `W3`, left at `W4`
    (what the next segment is entered from). Its arrays split out of the unscoped buffers
    (`arrays_of_unscopedBufs`) and put back at the exit contents (`unscopedBufs_of_arrays`); the generator register into the
    class invariant `ΦA` and out; nothing owed; no semaphore of the kernel's own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V3 m ρ c) (A_eq1 (V3 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V3 m ρ c) (V4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the launch -/

/-- @main's 5 segments in order: a host segment per stretch from its boundary's contents, a region per pallas_call. -/
abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ),
    .host (hseg hostOps2 hostOps2_sub hostOps2_fresh (W4 m ρ)) ]
/-- @main IS the run of the segments: `main_chain`, then the segments' run against that chain by the kernel's
    definitional check (`chain_rfl`). -/
theorem main_run (c : Dev nD) : main (F := F) c = Pipeline.Seg.run (segs m ρ) := (main_chain c).trans (by chain_rfl)

/-- The TensorCore has no unscoped semaphore. -/
theorem no_unscoped : ∀ sm : SemLoc sig, sm.isScoped .tc = true := by decide

-- `θ_run_regions_kit_sems`'s implicit arguments are found by unifying its conclusion with this one, which takes unfolding
-- plain definitions in a metavariable's type
set_option backward.isDefEq.respectTransparency.types false in
/-- THE FRAME: `Cert.quiescent_InputsIdeal`'s statement (Defs.lean) at any `F` — at the compiled mesh, from any
    memory with zero counters, every weakly fair execution of @main on the TensorCores terminates, nothing faulting, and every
    final state has the argument arrays as launched and every semaphore counter of the machine at zero: the kit's launch over
    the segments, the last thread state read against the final state (`pointsTo_read_all`), each argument by `W5_<arg>`;
    the kit shows every counter at zero except the TensorCores' unscoped ones, of which there are none. Proof.lean cites it at `Bits`:
    `theorem Cert.Proof.claim : Cert.Claim := ⟨Cert.InputsIdeal.facts, fun m ρ _ => Cert.InputsIdeal.frame m ρ⟩`. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h hz => ⟨(fun c =>
      ⟨(h c _ (mem_uc main_arg0 (by decide))).trans (W5_main_arg0 m ρ c),
       (h c _ (mem_uc main_arg1 (by decide))).trans (W5_main_arg1 m ρ c),
       (h c _ (mem_uc main_arg2 (by decide))).trans (W5_main_arg2 m ρ c)⟩), funext fun g => hz g (.inr (no_unscoped g.2))⟩)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h => h.1) (frame m ρ)

end Cert.Proof.II
-- ==== Proof.Inputs.Frame.lean ====
module

public import proofs.«01_k».proof.Defs
public import proofs.«01_k».proof.Proof.Gen.Inputs
public import proofs.«01_k».proof.Proof.InputsIdeal.Frame

@[expose] public section

set_option maxRecDepth 16384

noncomputable section
namespace Cert.Proof
open Idealize.ShloMosaic Idealize.SL.Sem
attribute [local instance] Cert.Inputs.Gen.facts Cert.InputsIdeal.Gen.facts

set_option maxHeartbeats 2000000 in
/-- The two programs' kernel bodies are the same functions. -/
theorem bodies_inputs : Cert.InputsIdeal.defs₀ (F := Bits) = Cert.Inputs.defs₀ (F := Bits) := by
  unfold Cert.InputsIdeal.defs₀ Cert.Inputs.defs₀
  refine congrArg Defs.onTc (funext fun l => funext fun a => ?_)
  match l, a with
  | ⟨0, _⟩, (t, s) => rfl
  | ⟨1, _⟩, (t, s) => rfl

/-- The two programs' body tables are the same. -/
theorem defs_inputs : Cert.InputsIdeal.defs (F := Bits) = Cert.Inputs.defs (F := Bits) :=
  congrArg (Pipeline.defs (Cert.Inputs.pcfgs (F := Bits))) bodies_inputs

set_option maxHeartbeats 2000000 in
/-- The two programs' host texts are the same. -/
theorem main_inputs : Cert.InputsIdeal.main (F := Bits) = Cert.Inputs.main (F := Bits) := rfl

set_option maxHeartbeats 2000000 in
/-- The third program runs to its end at the machine's floats too, leaves its arguments as they were and every
    semaphore counter at zero: its text is the idealized program's, whose run is over any float values. -/
theorem frame_inputs : Cert.quiescent_Inputs (hInputs := Cert.Inputs.Gen.facts) := fun m ρ _ => by
  have h := Cert.Proof.II.frame (F := Bits) m ρ
  rw [defs_inputs, main_inputs] at h
  exact h

end Cert.Proof
end
-- ==== Proof.InputsIdeal.Entries.lean ====
module

public import proofs.«01_k».proof.Proof.InputsIdeal.Qkv
public import Idealize.ShloMosaic.Lib.Pipeline.ValueKit
public import Idealize.ShloMosaic.Lib.Pointwise

@[expose] public section

set_option maxRecDepth 16384

noncomputable section

namespace Cert.Proof.II

open Cert.InputsIdeal Cert.InputsIdeal.Gen
open Idealize.ShloMosaic Idealize.ShloMosaic.TcCoe Idealize.ShloMosaic.Tactic
open Idealize.SL Idealize.SL.Sem

section Blocks
variable (x0 : Vec Ideal S512x2048 .f32) (x1 : Vec Ideal S1x2048 .f32) (x2 : Vec Ideal S2048x2688 .bf16) (x3 x4 : Vec Ideal S512x128 .f32)

/-- The normalised rows of a block of the input. -/
def hB : FVec Ideal S512x2048 .bf16 := k0_pay4 (View.ld x0 r0_0) (View.ld x1 r0_1)

/-- A normalised row times a column of the weight. -/
def zB (i : Fin 512) (q : Fin 2688) : EReal := ∑ k : Fin 2048, (hB x0 x1 (ix2 i k) : EReal) * x2 (ix2 k q)

/-- Column `q` rotated with the column half a head away. -/
def ropeB (i : Fin 512) (q : ℕ) (hq : q < 2560) : EReal :=
  zB x0 x1 x2 i ⟨q, by omega⟩ * x3 (ix2 i ⟨q % 128, by omega⟩)
    + zB x0 x1 x2 i ⟨q / 128 * 128 + (q % 128 + 64) % 128, by omega⟩ * x4 (ix2 i ⟨q % 128, by omega⟩)

/-- The block of unrotated and rotated queries, entry by entry. -/
theorem out0_5_at (p : Fin 512) (q : Fin 2048) : out0_5 x0 x1 x2 x3 x4 (ix2 p q)
    = if h : (q : ℕ) < 1024 then zB x0 x1 x2 p ⟨q, by omega⟩ else ropeB x0 x1 x2 x3 x4 p (q - 1024) (by omega) := by
  unfold out0_5
  canon_tiles x h
  all_goals
    replace h0 : (p : ℕ) = _ := h0
    replace h1 : (q : ℕ) = _ := h1
    have hx : ((x 1 : Fin 128) : ℕ) < 128 := (x 1).isLt
    rw [eq_ix2 x]
    first | rw [dif_pos (by omega)] | rw [dif_neg (by omega)]
    pointwise [k0_pay9, k0_pay10, k0_pay12, k0_pay13, k0_pay15, k0_pay16, k0_pay18, k0_pay19, k0_pay22, k0_pay24, k0_pay26,
      k0_pay27, k0_pay29, k0_pay30, k0_pay32, k0_pay33, k0_pay8, k0_pay11, k0_pay14, k0_pay17, k0_pay21, k0_pay23, k0_pay25,
      k0_pay28, k0_pay31, k0_pay20, k0_pay7, k0_pay5, k0_pay6, k0_pay58, k0_pay59, k0_pay60, k0_pay61, k0_pay62, k0_pay63,
      ropeB, zB, hB]
    blk_point

/-- The block of selected and window keys and values, entry by entry: in each run of 512 columns the keys are rotated. -/
theorem out0_9_at (p : Fin 512) (q : Fin 1024) : out0_9 x0 x1 x2 x3 x4 (ix2 p q)
    = if h : (q : ℕ) % 512 < 256 then ropeB x0 x1 x2 x3 x4 p (1536 + q) (by omega) else zB x0 x1 x2 p ⟨1536 + q, by omega⟩ := by
  unfold out0_9
  canon_tiles x h
  all_goals
    replace h0 : (p : ℕ) = _ := h0
    replace h1 : (q : ℕ) = _ := h1
    have hx : ((x 1 : Fin 128) : ℕ) < 128 := (x 1).isLt
    rw [eq_ix2 x]
    first | rw [dif_pos (by omega)] | rw [dif_neg (by omega)]
    pointwise [k0_pay1, k0_pay2, k0_pay39, k0_pay40, k0_pay41, k0_pay42, k0_pay43, k0_pay44, k0_pay45, k0_pay46, k0_pay47, k0_pay48,
      k0_pay49, k0_pay50, k0_pay51, k0_pay52, k0_pay53, k0_pay54, k0_pay55, k0_pay56, k0_pay57, k0_pay5, k0_pay6, k0_pay58,
      k0_pay59, k0_pay60, k0_pay64, k0_pay65, k0_pay66, k0_pay67, k0_pay68, ropeB, zB, hB]
    blk_point

/-- The block of cached keys and values, entry by entry: row `8 i + s` holds component `s` of position `i`, components
    4 and 5 rotated. -/
theorem out0_6_at (r : Fin 4096) (e : Fin 128) : out0_6 x0 x1 x2 x3 x4 (ix2 r e)
    = if (r : ℕ) % 8 = 4 ∨ (r : ℕ) % 8 = 5 then
        ropeB x0 x1 x2 x3 x4 ⟨r / 8, by omega⟩ (1024 + (r % 8) * 128 + e) (by omega)
      else zB x0 x1 x2 ⟨r / 8, by omega⟩ ⟨1024 + (r % 8) * 128 + e, by omega⟩ := by
  unfold out0_6
  refine View.canon_eq_of_allAt _ _ _ (cover0_6 _ _ _ _ _ _ _ _ _) fun pc hpc x hx => ?_
  simp only [List.mem_cons, List.not_mem_nil, or_false] at hpc
  rcases hpc with rfl | rfl | rfl | rfl | rfl | rfl | rfl | rfl
  all_goals
    have h0 : _ = (r : ℕ) := congrArg (fun y : S4096x128.Idx => ((y 0 : Fin 4096) : ℕ)) hx
    have h1 : _ = (e : ℕ) := congrArg (fun y : S4096x128.Idx => ((y 1 : Fin 128) : ℕ)) hx
    replace h0 := h0.symm
    first
      | replace h0 : (r : ℕ) = 0 + 8 * ((x 0 : Fin 512) : ℕ) := h0
      | replace h0 : (r : ℕ) = 1 + 8 * ((x 0 : Fin 512) : ℕ) := h0
      | replace h0 : (r : ℕ) = 2 + 8 * ((x 0 : Fin 512) : ℕ) := h0
      | replace h0 : (r : ℕ) = 3 + 8 * ((x 0 : Fin 512) : ℕ) := h0
      | replace h0 : (r : ℕ) = 4 + 8 * ((x 0 : Fin 512) : ℕ) := h0
      | replace h0 : (r : ℕ) = 5 + 8 * ((x 0 : Fin 512) : ℕ) := h0
      | replace h0 : (r : ℕ) = 6 + 8 * ((x 0 : Fin 512) : ℕ) := h0
      | replace h0 : (r : ℕ) = 7 + 8 * ((x 0 : Fin 512) : ℕ) := h0
    replace h1 : (e : ℕ) = 0 + 1 * ((x 1 : Fin 128) : ℕ) := h1.symm
    clear hx
    have hx : ((x 1 : Fin 128) : ℕ) < 128 := (x 1).isLt
    rw [eq_ix2 x]
    first | rw [if_pos (by omega)] | rw [if_neg (by omega)]
    pointwise [k0_pay34, k0_pay35, k0_pay36, k0_pay37, k0_pay38, k0_pay39, k0_pay40, k0_pay41, k0_pay44, k0_pay45, k0_pay46,
      k0_pay47, k0_pay48, k0_pay51, k0_pay52, k0_pay53, k0_pay56, k0_pay57, k0_pay5, k0_pay6, k0_pay58, k0_pay59, k0_pay60,
      k0_pay64, k0_pay65, k0_pay66, k0_pay67, k0_pay68, ropeB, zB, hB]
    blk_point

/-- The block of window keys and values, entry by entry: row `4 i + s` holds component `s` of position `i`, components 0
    and 1 rotated. -/
theorem out0_7_at (r : Fin 2048) (e : Fin 128) : out0_7 x0 x1 x2 x3 x4 (ix2 r e)
    = if (r : ℕ) % 4 < 2 then ropeB x0 x1 x2 x3 x4 ⟨r / 4, by omega⟩ (2048 + (r % 4) * 128 + e) (by omega)
      else zB x0 x1 x2 ⟨r / 4, by omega⟩ ⟨2048 + (r % 4) * 128 + e, by omega⟩ := by
  unfold out0_7
  refine View.canon_eq_of_allAt _ _ _ (cover0_7 _ _ _ _ _) fun pc hpc x hx => ?_
  simp only [List.mem_cons, List.not_mem_nil, or_false] at hpc
  rcases hpc with rfl | rfl | rfl | rfl
  all_goals
    have h0 : _ = (r : ℕ) := congrArg (fun y : S2048x128.Idx => ((y 0 : Fin 2048) : ℕ)) hx
    have h1 : _ = (e : ℕ) := congrArg (fun y : S2048x128.Idx => ((y 1 : Fin 128) : ℕ)) hx
    replace h0 := h0.symm
    first
      | replace h0 : (r : ℕ) = 0 + 4 * ((x 0 : Fin 512) : ℕ) := h0
      | replace h0 : (r : ℕ) = 1 + 4 * ((x 0 : Fin 512) : ℕ) := h0
      | replace h0 : (r : ℕ) = 2 + 4 * ((x 0 : Fin 512) : ℕ) := h0
      | replace h0 : (r : ℕ) = 3 + 4 * ((x 0 : Fin 512) : ℕ) := h0
    replace h1 : (e : ℕ) = 0 + 1 * ((x 1 : Fin 128) : ℕ) := h1.symm
    clear hx
    have hx : ((x 1 : Fin 128) : ℕ) < 128 := (x 1).isLt
    rw [eq_ix2 x]
    first | rw [if_pos (by omega)] | rw [if_neg (by omega)]
    pointwise [k0_pay34, k0_pay35, k0_pay36, k0_pay37, k0_pay38, k0_pay39, k0_pay40, k0_pay41, k0_pay44, k0_pay45, k0_pay46,
      k0_pay47, k0_pay48, k0_pay51, k0_pay52, k0_pay53, k0_pay56, k0_pay57, k0_pay5, k0_pay6, k0_pay58, k0_pay59, k0_pay60,
      k0_pay64, k0_pay65, k0_pay66, k0_pay67, k0_pay68, ropeB, zB, hB]
    blk_point

/-- The block of gates, entry by entry. -/
theorem out0_8_at (p : Fin 512) (e : Fin 128) : out0_8 x0 x1 x2 x3 x4 (ix2 p e)
    = Ideal.logistic (zB x0 x1 x2 p ⟨2560 + e, by omega⟩) := by
  unfold out0_8
  canon_tiles x h
  all_goals
    replace h0 : (p : ℕ) = _ := h0
    replace h1 : (e : ℕ) = _ := h1
    rw [eq_ix2 x]
    pointwise [k0_pay3, k0_pay58, zB, hB]
    blk_point

/-- A normalised row of the input. -/
theorem hB_at (p : Fin 512) (k : Fin 2048) : hB x0 x1 (ix2 p k)
    = (x0 (ix2 p k) : EReal) * Ideal.rsqrt (Ideal.div (∑ j : Fin 2048, (x0 (ix2 p j) : EReal) * x0 (ix2 p j)) (Ideal.ofBits .f32 0x45000000#32)
        + Ideal.ofBits .f32 0x358637BD#32) * x1 (ix2 0 k) := by
  pointwise [hB, k0_pay4]

/-- The block of normalised rows. -/
theorem out0_10_at (p : Fin 512) (k : Fin 2048) : out0_10 x0 x1 x2 x3 x4 (ix2 p k) = hB x0 x1 (ix2 p k) := by
  unfold out0_10
  canon_tiles x h
  all_goals
    replace h0 : (p : ℕ) = _ := h0
    replace h1 : (k : ℕ) = _ := h1
    rw [eq_ix2 x]
    unfold hB
    blk_point

end Blocks

end Cert.Proof.II

end
-- ==== Proof.InputsIdeal.Arrays.lean ====
module

public import proofs.«01_k».proof.Proof.InputsIdeal.Entries
public import proofs.«01_k».proof.Proof.InputsIdeal.Frame

@[expose] public section

set_option maxRecDepth 16384

noncomputable section

namespace Cert.Proof.II

open Cert.InputsIdeal Cert.InputsIdeal.Gen
open Idealize.ShloMosaic Idealize.ShloMosaic.TcCoe Idealize.ShloMosaic.Tactic
open Idealize.SL Idealize.SL.Sem

section Specs
variable (X : FVec Ideal S16384x2048 .f32) (G : FVec Ideal S1x2048 .f32) (W : FVec Ideal S2048x2688 .bf16)
  (C S : FVec Ideal S16384x128 .f32)

/-- A row of the input divided by its root mean square and scaled. -/
def hE (i : Fin 16384) (k : Fin 2048) : EReal :=
  (X (ix2 i k) : EReal) * Ideal.rsqrt (Ideal.div (∑ j : Fin 2048, (X (ix2 i j) : EReal) * X (ix2 i j)) (Ideal.ofBits .f32 0x45000000#32)
    + Ideal.ofBits .f32 0x358637BD#32) * G (ix2 0 k)

/-- A normalised row times a column of the weight. -/
def zE (i : Fin 16384) (q : Fin 2688) : EReal := ∑ k : Fin 2048, hE X G i k * W (ix2 k q)

/-- Column `q` rotated with the column half a head away. -/
def ropeE (i : Fin 16384) (q : ℕ) (hq : q < 2560) : EReal :=
  zE X G W i ⟨q, by omega⟩ * C (ix2 i ⟨q % 128, by omega⟩)
    + zE X G W i ⟨q / 128 * 128 + (q % 128 + 64) % 128, by omega⟩ * S (ix2 i ⟨q % 128, by omega⟩)

/-- The unrotated and the rotated queries, entry by entry. -/
def qqE (i : Fin 16384) (q : Fin 2048) : EReal :=
  if h : (q : ℕ) < 1024 then zE X G W i ⟨q, by omega⟩ else ropeE X G W C S i (q - 1024) (by omega)

/-- The cached keys and values, entry by entry: row `8 i + s` is component `s` of position `i`. -/
def nsaE (r : Fin 131072) (e : Fin 128) : EReal :=
  if (r : ℕ) % 8 = 4 ∨ (r : ℕ) % 8 = 5 then ropeE X G W C S ⟨r / 8, by omega⟩ (1024 + (r % 8) * 128 + e) (by omega)
  else zE X G W ⟨r / 8, by omega⟩ ⟨1024 + (r % 8) * 128 + e, by omega⟩

/-- The window keys and values, entry by entry: row `4 i + s` is component `s` of position `i`. -/
def winE (r : Fin 65536) (e : Fin 128) : EReal :=
  if (r : ℕ) % 4 < 2 then ropeE X G W C S ⟨r / 4, by omega⟩ (2048 + (r % 4) * 128 + e) (by omega)
  else zE X G W ⟨r / 4, by omega⟩ ⟨2048 + (r % 4) * 128 + e, by omega⟩

/-- The selected and window keys and values of the attention kernels, entry by entry. -/
def kvbE (i : Fin 16384) (q : Fin 1024) : EReal :=
  if h : (q : ℕ) % 512 < 256 then ropeE X G W C S i (1536 + q) (by omega) else zE X G W i ⟨1536 + q, by omega⟩

/-- The gates, entry by entry. -/
def gateE (i : Fin 16384) (e : Fin 128) : EReal := Ideal.logistic (zE X G W i ⟨2560 + e, by omega⟩)

/-- The queries as an array. -/
def qqT : FVec Ideal S16384x2048 .bf16 := fun y => qqE X G W C S (y 0) (y 1)

/-- The cached keys and values as an array. -/
def nsaT : FVec Ideal S131072x128 .f32 := fun y => nsaE X G W C S (y 0) (y 1)

/-- The window keys and values as an array. -/
def winT : FVec Ideal S65536x128 .f32 := fun y => winE X G W C S (y 0) (y 1)

/-- The gates as an array. -/
def gateT : FVec Ideal S16384x128 .f32 := fun y => gateE X G W (y 0) (y 1)

/-- The attention kernels' keys and values as an array. -/
def kvbT : FVec Ideal S16384x1024 .bf16 := fun y => kvbE X G W C S (y 0) (y 1)

/-- The normalised rows as an array. -/
def hT : FVec Ideal S16384x2048 .bf16 := fun y => hE X G (y 0) (y 1)

end Specs

variable (V : (c : Dev nD) → (b : Ref sig .tc) → Buf (Elt Ideal) ((c : Thread nD τ).loc b))

/-- Which blocks the points of the first region read and write. -/
theorem idx0 : ∀ t : Fin cfg0.N, win0_0.index t = ![t.val, 0] ∧ win0_1.index t = ![0, 0] ∧ win0_2.index t = ![0, 0]
    ∧ win0_3.index t = ![t.val, 0] ∧ win0_4.index t = ![t.val, 0] ∧ win0_5.index t = ![t.val, 0] ∧ win0_6.index t = ![t.val, 0]
    ∧ win0_7.index t = ![t.val, 0] ∧ win0_8.index t = ![t.val, 0] ∧ win0_9.index t = ![t.val, 0] ∧ win0_10.index t = ![t.val, 0]
    ∧ t.val < 32 :=
  (by decide +kernel : ∀ t : Fin grid0.N, _)

/-- Position `i` of block `t`. -/
abbrev posB (t : Fin cfg0.N) (i : Fin 512) : Fin 16384 := ⟨t.val * 512 + i, by have := (idx0 t).2.2.2.2.2.2.2.2.2.2.2; omega⟩

/-- A normalised row of a block is the array's. -/
theorem hB_blk (c : Dev nD) (t : Fin cfg0.N) (i : Fin 512) (k : Fin 2048) :
    hB (iblk0 V c 0 t) (iblk0 V c 1 t) (ix2 i k) = hE (V c main_v5) (V c main_v30) (posB t i) k := by
  refine (hB_at _ _ i k).trans ?_
  pointwise [hE]
  blk_point [iblk0, idx0 t]

/-- A projected entry of a block is the array's. -/
theorem zB_blk (c : Dev nD) (t : Fin cfg0.N) (i : Fin 512) (q : Fin 2688) :
    zB (iblk0 V c 0 t) (iblk0 V c 1 t) (iblk0 V c 2 t) i q = zE (V c main_v5) (V c main_v30) (V c main_v4) (posB t i) q := by
  refine Finset.sum_congr rfl fun k _ => congrArg₂ (fun a b : EReal => a * b) (hB_blk V c t i k) ?_
  blk_point [iblk0, idx0 t]

/-- A rotated entry of a block is the array's. -/
theorem ropeB_blk (c : Dev nD) (t : Fin cfg0.N) (i : Fin 512) (q : ℕ) (hq : q < 2560) :
    ropeB (iblk0 V c 0 t) (iblk0 V c 1 t) (iblk0 V c 2 t) (iblk0 V c 3 t) (iblk0 V c 4 t) i q hq
      = ropeE (V c main_v5) (V c main_v30) (V c main_v4) (V c main_v26) (V c main_v29) (posB t i) q hq := by
  unfold ropeB ropeE
  rw [zB_blk, zB_blk]
  refine congrArg₂ (fun a b : EReal => a + b) (congrArg (fun a : EReal => _ * a) ?_) (congrArg (fun a : EReal => _ * a) ?_)
  · blk_point [iblk0, idx0 t]
  · blk_point [iblk0, idx0 t]

/-- The block of queries is the array's. -/
theorem out0_5_blk (c : Dev nD) (t : Fin cfg0.N) (i : Fin 512) (e : Fin 2048) :
    out0_5 (iblk0 V c 0 t) (iblk0 V c 1 t) (iblk0 V c 2 t) (iblk0 V c 3 t) (iblk0 V c 4 t) (ix2 i e)
      = qqT (V c main_v5) (V c main_v30) (V c main_v4) (V c main_v26) (V c main_v29) (ix2 ⟨t.val * 512 + i, by have := (idx0 t).2.2.2.2.2.2.2.2.2.2.2; omega⟩ e) := by
  show _ = qqE (V c main_v5) (V c main_v30) (V c main_v4) (V c main_v26) (V c main_v29) (posB t i) e
  refine (out0_5_at _ _ _ _ _ i e).trans ?_
  unfold qqE
  by_cases h : (e : ℕ) < 1024
  · rw [dif_pos h, dif_pos h, zB_blk]
  · rw [dif_neg h, dif_neg h, ropeB_blk]

/-- The array of queries after the first region. -/
theorem final0_5 (c : Dev nD) : (dat0 V c).arrAt 5 cfg0.N
    = qqT (V c main_v5) (V c main_v30) (V c main_v4) (V c main_v26) (V c main_v29) := by
  refine (dat0 V c).arrAt_eq_of_covers 5 _ (by decide +kernel) fun t _ y => ?_
  blk_simp
  rw [after0_5]
  refine (congrArg _ (eq_ix2 (y : S512x2048.Idx))).trans ((out0_5_blk V c t (y 0) (y 1)).trans ?_)
  generalize qqT _ _ _ _ _ = Y
  blk_point [idx0 t]

/-- The block of cached keys and values is the array's. -/
theorem out0_6_blk (c : Dev nD) (t : Fin cfg0.N) (i : Fin 4096) (e : Fin 128) :
    out0_6 (iblk0 V c 0 t) (iblk0 V c 1 t) (iblk0 V c 2 t) (iblk0 V c 3 t) (iblk0 V c 4 t) (ix2 i e)
      = nsaT (V c main_v5) (V c main_v30) (V c main_v4) (V c main_v26) (V c main_v29) (ix2 ⟨t.val * 4096 + i, by have := (idx0 t).2.2.2.2.2.2.2.2.2.2.2; omega⟩ e) := by
  show _ = nsaE (V c main_v5) (V c main_v30) (V c main_v4) (V c main_v26) (V c main_v29) ⟨t.val * 4096 + i, _⟩ e
  refine (out0_6_at _ _ _ _ _ i e).trans ?_
  have ht := (idx0 t).2.2.2.2.2.2.2.2.2.2.2
  have hm : (t.val * 4096 + (i : ℕ)) % 8 = (i : ℕ) % 8 := by omega
  have hp : (⟨(t.val * 4096 + (i : ℕ)) / 8, by omega⟩ : Fin 16384) = posB t ⟨(i : ℕ) / 8, by omega⟩ := Fin.ext (by show _ / _ = _ * 512 + _ / _; omega)
  unfold nsaE
  simp only [hm, hp, zB_blk, ropeB_blk]

/-- The array of cached keys and values after the first region. -/
theorem final0_6 (c : Dev nD) : (dat0 V c).arrAt 6 cfg0.N
    = nsaT (V c main_v5) (V c main_v30) (V c main_v4) (V c main_v26) (V c main_v29) := by
  refine (dat0 V c).arrAt_eq_of_covers 6 _ (by decide +kernel) fun t _ y => ?_
  blk_simp
  rw [after0_6]
  refine (congrArg _ (eq_ix2 (y : S4096x128.Idx))).trans ((out0_6_blk V c t (y 0) (y 1)).trans ?_)
  generalize nsaT _ _ _ _ _ = Y
  blk_point [idx0 t]

/-- The block of window keys and values is the array's. -/
theorem out0_7_blk (c : Dev nD) (t : Fin cfg0.N) (i : Fin 2048) (e : Fin 128) :
    out0_7 (iblk0 V c 0 t) (iblk0 V c 1 t) (iblk0 V c 2 t) (iblk0 V c 3 t) (iblk0 V c 4 t) (ix2 i e)
      = winT (V c main_v5) (V c main_v30) (V c main_v4) (V c main_v26) (V c main_v29) (ix2 ⟨t.val * 2048 + i, by have := (idx0 t).2.2.2.2.2.2.2.2.2.2.2; omega⟩ e) := by
  show _ = winE (V c main_v5) (V c main_v30) (V c main_v4) (V c main_v26) (V c main_v29) ⟨t.val * 2048 + i, _⟩ e
  refine (out0_7_at _ _ _ _ _ i e).trans ?_
  have ht := (idx0 t).2.2.2.2.2.2.2.2.2.2.2
  have hm : (t.val * 2048 + (i : ℕ)) % 4 = (i : ℕ) % 4 := by omega
  have hp : (⟨(t.val * 2048 + (i : ℕ)) / 4, by omega⟩ : Fin 16384) = posB t ⟨(i : ℕ) / 4, by omega⟩ := Fin.ext (by show _ / _ = _ * 512 + _ / _; omega)
  unfold winE
  simp only [hm, hp, zB_blk, ropeB_blk]

/-- The array of window keys and values after the first region. -/
theorem final0_7 (c : Dev nD) : (dat0 V c).arrAt 7 cfg0.N
    = winT (V c main_v5) (V c main_v30) (V c main_v4) (V c main_v26) (V c main_v29) := by
  refine (dat0 V c).arrAt_eq_of_covers 7 _ (by decide +kernel) fun t _ y => ?_
  blk_simp
  rw [after0_7]
  refine (congrArg _ (eq_ix2 (y : S2048x128.Idx))).trans ((out0_7_blk V c t (y 0) (y 1)).trans ?_)
  generalize winT _ _ _ _ _ = Y
  blk_point [idx0 t]

/-- The block of gates is the array's. -/
theorem out0_8_blk (c : Dev nD) (t : Fin cfg0.N) (i : Fin 512) (e : Fin 128) :
    out0_8 (iblk0 V c 0 t) (iblk0 V c 1 t) (iblk0 V c 2 t) (iblk0 V c 3 t) (iblk0 V c 4 t) (ix2 i e)
      = gateT (V c main_v5) (V c main_v30) (V c main_v4) (ix2 ⟨t.val * 512 + i, by have := (idx0 t).2.2.2.2.2.2.2.2.2.2.2; omega⟩ e) := by
  show _ = gateE (V c main_v5) (V c main_v30) (V c main_v4) _ e
  exact (out0_8_at _ _ _ _ _ i e).trans (congrArg Ideal.logistic (zB_blk V c t i _))

/-- The array of gates after the first region. -/
theorem final0_8 (c : Dev nD) : (dat0 V c).arrAt 8 cfg0.N
    = gateT (V c main_v5) (V c main_v30) (V c main_v4) := by
  refine (dat0 V c).arrAt_eq_of_covers 8 _ (by decide +kernel) fun t _ y => ?_
  blk_simp
  rw [after0_8]
  refine (congrArg _ (eq_ix2 (y : S512x128.Idx))).trans ((out0_8_blk V c t (y 0) (y 1)).trans ?_)
  generalize gateT _ _ _ = Y
  blk_point [idx0 t]

/-- The block of attention kernels' keys and values is the array's. -/
theorem out0_9_blk (c : Dev nD) (t : Fin cfg0.N) (i : Fin 512) (e : Fin 1024) :
    out0_9 (iblk0 V c 0 t) (iblk0 V c 1 t) (iblk0 V c 2 t) (iblk0 V c 3 t) (iblk0 V c 4 t) (ix2 i e)
      = kvbT (V c main_v5) (V c main_v30) (V c main_v4) (V c main_v26) (V c main_v29) (ix2 ⟨t.val * 512 + i, by have := (idx0 t).2.2.2.2.2.2.2.2.2.2.2; omega⟩ e) := by
  show _ = kvbE (V c main_v5) (V c main_v30) (V c main_v4) (V c main_v26) (V c main_v29) (posB t i) e
  refine (out0_9_at _ _ _ _ _ i e).trans ?_
  unfold kvbE
  by_cases h : (e : ℕ) % 512 < 256
  · rw [dif_pos h, dif_pos h, ropeB_blk]
  · rw [dif_neg h, dif_neg h, zB_blk]

/-- The array of attention kernels' keys and values after the first region. -/
theorem final0_9 (c : Dev nD) : (dat0 V c).arrAt 9 cfg0.N
    = kvbT (V c main_v5) (V c main_v30) (V c main_v4) (V c main_v26) (V c main_v29) := by
  refine (dat0 V c).arrAt_eq_of_covers 9 _ (by decide +kernel) fun t _ y => ?_
  blk_simp
  rw [after0_9]
  refine (congrArg _ (eq_ix2 (y : S512x1024.Idx))).trans ((out0_9_blk V c t (y 0) (y 1)).trans ?_)
  generalize kvbT _ _ _ _ _ = Y
  blk_point [idx0 t]

/-- The block of normalised rows is the array's. -/
theorem out0_10_blk (c : Dev nD) (t : Fin cfg0.N) (i : Fin 512) (e : Fin 2048) :
    out0_10 (iblk0 V c 0 t) (iblk0 V c 1 t) (iblk0 V c 2 t) (iblk0 V c 3 t) (iblk0 V c 4 t) (ix2 i e)
      = hT (V c main_v5) (V c main_v30) (ix2 ⟨t.val * 512 + i, by have := (idx0 t).2.2.2.2.2.2.2.2.2.2.2; omega⟩ e) := by
  show _ = hE (V c main_v5) (V c main_v30) _ e
  exact (out0_10_at _ _ _ _ _ i e).trans (hB_blk V c t i e)

/-- The array of normalised rows after the first region. -/
theorem final0_10 (c : Dev nD) : (dat0 V c).arrAt 10 cfg0.N
    = hT (V c main_v5) (V c main_v30) := by
  refine (dat0 V c).arrAt_eq_of_covers 10 _ (by decide +kernel) fun t _ y => ?_
  blk_simp
  rw [after0_10]
  refine (congrArg _ (eq_ix2 (y : S512x2048.Idx))).trans ((out0_10_blk V c t (y 0) (y 1)).trans ?_)
  generalize hT _ _ = Y
  blk_point [idx0 t]

end Cert.Proof.II

end
-- ==== Proof.InputsIdeal.Proj.lean ====
module

public import proofs.«01_k».proof.Proof.InputsIdeal.Frame
public import Idealize.ShloMosaic.Lib.Pipeline.ValueKit
public import Idealize.ShloMosaic.Lib.Pointwise

@[expose] public section

set_option maxRecDepth 16384

noncomputable section

namespace Cert.Proof.II

open Cert.InputsIdeal Cert.InputsIdeal.Gen
open Idealize.ShloMosaic Idealize.ShloMosaic.TcCoe Idealize.ShloMosaic.Tactic
open Idealize.SL Idealize.SL.Sem

variable (V : (c : Dev nD) → (b : Ref sig .tc) → Buf (Elt Ideal) ((c : Thread nD τ).loc b))

/-- The pool branch's input projection, entry by entry: a normalised row times a column of the weight. -/
def uT (h : FVec Ideal S16384x2048 .bf16) (w : FVec Ideal S2048x1024 .bf16) : FVec Ideal S16384x1024 .f32 := fun y =>
  ∑ k : Fin 2048, (h (ix2 (y 0) k) : EReal) * w (ix2 k (y 1))

/-- The block a point of the second region leaves, entry by entry. -/
theorem out1_2_at (x0 : Vec Ideal S512x2048 .bf16) (x1 : Vec Ideal S2048x1024 .bf16) (p : Fin 512) (q : Fin 1024) :
    out1_2 x0 x1 (ix2 p q) = ∑ k : Fin 2048, (x0 (ix2 p k) : EReal) * x1 (ix2 k q) := by
  unfold out1_2
  canon_tiles x h
  all_goals
    replace h0 : (p : ℕ) = _ := h0
    replace h1 : (q : ℕ) = _ := h1
    rw [eq_ix2 x]
    pointwise [k1_pay1, k1_pay2, k1_pay3]
    blk_point

/-- Which blocks the points of the second region read and write. -/
theorem idx1 : ∀ t : Fin cfg1.N, win1_0.index t = ![t.val, 0] ∧ win1_1.index t = ![0, 0]
    ∧ win1_2.index t = ![t.val, 0] ∧ t.val < 32 :=
  (by decide +kernel : ∀ t : Fin grid1.N, _)

/-- The second region's result array. -/
theorem final1 (c : Dev nD) : (dat1 V c).arrAt 2 cfg1.N = uT (V c main_v31_5) (V c main_v32) := by
  refine (dat1 V c).arrAt_eq_of_covers 2 _ (by decide +kernel) fun t _ y => ?_
  blk_simp
  rw [after1_2]
  refine (congrArg _ (eq_ix2 (y : S512x1024.Idx))).trans ((out1_2_at _ _ (y 0) (y 1)).trans ?_)
  pointwise [uT]
  blk_point [iblk1, idx1 t]

end Cert.Proof.II

end
-- ==== Proof.InputsIdeal.Run.lean ====
module

public import proofs.«01_k».proof.Proof.InputsIdeal.Arrays
public import proofs.«01_k».proof.Proof.InputsIdeal.Proj

@[expose] public section

set_option maxRecDepth 16384

noncomputable section

namespace Cert.Proof.II

open Cert.InputsIdeal Cert.InputsIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

local notation "𝕄" => MT nD τ sig Unit (Elt Ideal) ℕ (UR sig nD τ) ℕ

variable (m : (ℓ : Loc nD τ sig) → Buf (Elt Ideal) ℓ) (ρ : Dev nD → PrngReg)

set_option backward.isDefEq.respectTransparency.types false in
/-- The program runs to its end, with each result array at what the last host stretch leaves and its arguments as they were. -/
theorem run_blocks : θ_run defs (onTc (τ := τ) (main (F := Ideal))) ⟨m, fun _ => 0, ρ⟩ (fun r => ∀ c : Dev nD,
      r.2.mem ((c.tc : Thread nD τ).loc main_v35) = W5 m ρ c (Proc.devRef .tc main_v35)
      ∧ r.2.mem ((c.tc : Thread nD τ).loc main_v38) = W5 m ρ c (Proc.devRef .tc main_v38)
      ∧ r.2.mem ((c.tc : Thread nD τ).loc main_v40) = W5 m ρ c (Proc.devRef .tc main_v40)
      ∧ r.2.mem ((c.tc : Thread nD τ).loc main_v31_0) = W5 m ρ c (Proc.devRef .tc main_v31_0)
      ∧ r.2.mem ((c.tc : Thread nD τ).loc main_v31_4) = W5 m ρ c (Proc.devRef .tc main_v31_4)
      ∧ r.2.mem ((c.tc : Thread nD τ).loc main_v41) = W5 m ρ c (Proc.devRef .tc main_v41)
      ∧ r.2.mem ((c.tc : Thread nD τ).loc main_v31_5) = W5 m ρ c (Proc.devRef .tc main_v31_5)
      ∧ r.2.mem ((c.tc : Thread nD τ).loc main_v33) = W5 m ρ c (Proc.devRef .tc main_v33)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  Pipeline.θ_run_regions_kit_sems (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h hz c =>
      ⟨h c _ (mem_uc main_v35 (by decide)),
       h c _ (mem_uc main_v38 (by decide)),
       h c _ (mem_uc main_v40 (by decide)),
       h c _ (mem_uc main_v31_0 (by decide)),
       h c _ (mem_uc main_v31_4 (by decide)),
       h c _ (mem_uc main_v41 (by decide)),
       h c _ (mem_uc main_v31_5 (by decide)),
       h c _ (mem_uc main_v33 (by decide)),
       (h c _ (mem_uc main_arg0 (by decide))).trans (W5_main_arg0 m ρ c),
       (h c _ (mem_uc main_arg1 (by decide))).trans (W5_main_arg1 m ρ c),
       (h c _ (mem_uc main_arg2 (by decide))).trans (W5_main_arg2 m ρ c)⟩)

section Stages
variable (A0 : FVec Ideal S2x8192x2048 .f32) (A1 : FVec Ideal S2048 .f32) (A2 : FVec Ideal S2048x7704 .f32)

/-- The input's rows: position `p` of batch `b` is row `8192 b + p`. -/
def xT : FVec Ideal S16384x2048 .f32 := shapeCast S16384x2048 A0 shapeCasts_S2x8192x2048_S16384x2048

/-- The norm's scale as a row. -/
def gT : FVec Ideal S1x2048 .f32 := shapeCast S1x2048 A1 shapeCasts_S2048_S1x2048

/-- The input weight at the kernels' format. -/
def w0T : FVec Ideal S2048x7704 .bf16 := truncf .bf16 A2 bitsLt_bf16_f32

/-- The first region's weight: the input weight's first 2584 columns, then 104 columns of zero. -/
def wqT : FVec Ideal S2048x2688 .bf16 :=
  concatenate S2048x2688 1 [⟨S2048x2560, extractStridedSlice S2048x2560 ![0, 0] (w0T A2) slices_S2048x7704_S2048x2560_0_0⟩,
    ⟨S2048x24, extractStridedSlice S2048x24 ![0, 2560] (w0T A2) slices_S2048x7704_S2048x24_0_2560⟩,
    ⟨S2048x104, broadcastInDim S2048x104 ![] bcast_S_S2048x104 (constant S_ .bf16 0x0000#16)⟩]
    concatenates_S2048x2560_S2048x24_S2048x104_S2048x2688_d1

/-- The second region's weight: the input weight's columns from 2584 on. -/
def wuT : FVec Ideal S2048x1024 .bf16 :=
  extractStridedSlice S2048x1024 ![0, 2584] (w0T A2) slices_S2048x7704_S2048x1024_0_2584

/-- The rotary angles: a position times the frequency of a pair of columns. -/
def angT : FVec Ideal S8192x64 .f32 :=
  mulf (broadcastInDim S8192x64 ![0, 1] bcast_S8192x1_S8192x64_0_1 (broadcastInDim S8192x1 ![0] bcast_S8192_S8192x1_0 (sitofp .f32 (iotaInDim S8192 32 0))))
    (broadcastInDim S8192x64 ![0, 1] bcast_S1x64_S8192x64_0_1 (broadcastInDim S1x64 ![1] bcast_S64_S1x64_1
      (Host.powf (broadcastInDim S64 ![] bcast_S_S64 (constant S_ .f32 0x461C4000#32))
        (Host.divf (Host.negf (sitofp .f32 (iotaInDim S64 32 0))) (broadcastInDim S64 ![] bcast_S_S64 (constant S_ .f32 0x42800000#32))))))

/-- A table over the positions of one batch, for both halves of a head's columns and both batches. -/
def tableT (L R : FVec Ideal S8192x64 .f32) : FVec Ideal S16384x128 .f32 :=
  shapeCast S16384x128 (broadcastInDim S2x8192x1x128 ![0, 1, 2, 3] bcast_S1x8192x1x128_S2x8192x1x128_0_1_2_3
    (shapeCast S1x8192x1x128 (concatenate S8192x128 1 [⟨S8192x64, L⟩, ⟨S8192x64, R⟩] concatenates_S8192x64_S8192x64_S8192x128_d1)
      shapeCasts_S8192x128_S1x8192x1x128)) shapeCasts_S2x8192x1x128_S16384x128

/-- The table of cosines. -/
def cosT : FVec Ideal S16384x128 .f32 := tableT (Host.cos angT) (Host.cos angT)

/-- The table of sines, negated in the first half of a head's columns. -/
def sinT : FVec Ideal S16384x128 .f32 := tableT (Host.negf (Host.sin angT)) (Host.sin angT)

/-- The prompt's cached keys and values from the first region's array. -/
def newKvT (y : FVec Ideal S131072x128 .f32) : FVec Ideal S1x2x8192x4x2x128 .f32 :=
  shapeCast S1x2x8192x4x2x128 y shapeCasts_S131072x128_S1x2x8192x4x2x128

/-- The prompt's last 512 window keys and values from the first region's array. -/
def newWinT (y : FVec Ideal S65536x128 .f32) : FVec Ideal S1x2x512x2x2x128 .f32 :=
  broadcastInDim S1x2x512x2x2x128 ![1, 2, 3, 4, 5] bcast_S2x512x2x2x128_S1x2x512x2x2x128_1_2_3_4_5
    (extractStridedSlice S2x512x2x2x128 ![0, 7680, 0, 0, 0] (shapeCast S2x8192x2x2x128 y shapeCasts_S65536x128_S2x8192x2x2x128)
      slices_S2x8192x2x2x128_S2x512x2x2x128_0_7680_0_0_0)

/-- The prompt's last 15 pool inputs from the second region's array. -/
def newPoolT (y : FVec Ideal S16384x1024 .f32) : FVec Ideal S1x2x15x1024 .f32 :=
  broadcastInDim S1x2x15x1024 ![1, 2, 3] bcast_S2x15x1024_S1x2x15x1024_1_2_3
    (extractStridedSlice S2x15x1024 ![0, 8177, 0] (shapeCast S2x8192x1024 y shapeCasts_S16384x1024_S2x8192x1024)
      slices_S2x8192x1024_S2x15x1024_0_8177_0)

/-- The 24 gates that are used. -/
def gate24T (y : FVec Ideal S16384x128 .f32) : FVec Ideal S16384x24 .f32 :=
  extractStridedSlice S16384x24 ![0, 0] y slices_S16384x128_S16384x24_0_0

end Stages

/-- The rows as the first region finds them. -/
theorem V1_v5 (c : Dev nD) : V1 m ρ c main_v5 = xT (m ((c : Thread nD τ).loc main_arg0)) := by
  show StableHlo.after hostOps0 (W0 m ρ c) (Proc.devRef .tc main_v5) = _
  after_results_simp <;> rfl

/-- The scale as the first region finds it. -/
theorem V1_v30 (c : Dev nD) : V1 m ρ c main_v30 = gT (m ((c : Thread nD τ).loc main_arg1)) := by
  show StableHlo.after hostOps0 (W0 m ρ c) (Proc.devRef .tc main_v30) = _
  after_results_simp <;> rfl

/-- The weight as the first region finds it. -/
theorem V1_v4 (c : Dev nD) : V1 m ρ c main_v4 = wqT (m ((c : Thread nD τ).loc main_arg2)) := by
  show StableHlo.after hostOps0 (W0 m ρ c) (Proc.devRef .tc main_v4) = _
  after_results_simp <;> rfl

/-- The cosines as the first region finds them. -/
theorem V1_v26 (c : Dev nD) : V1 m ρ c main_v26 = cosT := by
  show StableHlo.after hostOps0 (W0 m ρ c) (Proc.devRef .tc main_v26) = _
  after_results_simp <;> rfl

/-- The sines as the first region finds them. -/
theorem V1_v29 (c : Dev nD) : V1 m ρ c main_v29 = sinT := by
  show StableHlo.after hostOps0 (W0 m ρ c) (Proc.devRef .tc main_v29) = _
  after_results_simp <;> rfl

/-- The input weight at the kernels' format. -/
theorem V1_v0 (c : Dev nD) : V1 m ρ c main_v0 = w0T (m ((c : Thread nD τ).loc main_arg2)) := by
  show StableHlo.after hostOps0 (W0 m ρ c) (Proc.devRef .tc main_v0) = _
  after_results_simp <;> rfl

/-- The queries after the first region. -/
theorem W2_v31_0 (c : Dev nD) : W2 m ρ c (Proc.devRef .tc main_v31_0) = qqT (xT (m ((c : Thread nD τ).loc main_arg0))) (gT (m ((c : Thread nD τ).loc main_arg1))) (wqT (m ((c : Thread nD τ).loc main_arg2))) cosT sinT := by
  refine (W2_arr m ρ c 5).trans ((final0_5 (V1 m ρ) c).trans ?_)
  rw [V1_v5, V1_v30, V1_v4, V1_v26, V1_v29]

/-- The queries after the second region. -/
theorem W4_v31_0 (c : Dev nD) : W4 m ρ c (Proc.devRef .tc main_v31_0) = qqT (xT (m ((c : Thread nD τ).loc main_arg0))) (gT (m ((c : Thread nD τ).loc main_arg1))) (wqT (m ((c : Thread nD τ).loc main_arg2))) cosT sinT :=
  (W4_of m ρ c main_v31_0 (by decide)).trans ((W3_of m ρ c main_v31_0 (by decide)).trans (W2_v31_0 m ρ c))

/-- The cached keys and values after the first region. -/
theorem W2_v31_1 (c : Dev nD) : W2 m ρ c (Proc.devRef .tc main_v31_1) = nsaT (xT (m ((c : Thread nD τ).loc main_arg0))) (gT (m ((c : Thread nD τ).loc main_arg1))) (wqT (m ((c : Thread nD τ).loc main_arg2))) cosT sinT := by
  refine (W2_arr m ρ c 6).trans ((final0_6 (V1 m ρ) c).trans ?_)
  rw [V1_v5, V1_v30, V1_v4, V1_v26, V1_v29]

/-- The cached keys and values after the second region. -/
theorem W4_v31_1 (c : Dev nD) : W4 m ρ c (Proc.devRef .tc main_v31_1) = nsaT (xT (m ((c : Thread nD τ).loc main_arg0))) (gT (m ((c : Thread nD τ).loc main_arg1))) (wqT (m ((c : Thread nD τ).loc main_arg2))) cosT sinT :=
  (W4_of m ρ c main_v31_1 (by decide)).trans ((W3_of m ρ c main_v31_1 (by decide)).trans (W2_v31_1 m ρ c))

/-- The window keys and values after the first region. -/
theorem W2_v31_2 (c : Dev nD) : W2 m ρ c (Proc.devRef .tc main_v31_2) = winT (xT (m ((c : Thread nD τ).loc main_arg0))) (gT (m ((c : Thread nD τ).loc main_arg1))) (wqT (m ((c : Thread nD τ).loc main_arg2))) cosT sinT := by
  refine (W2_arr m ρ c 7).trans ((final0_7 (V1 m ρ) c).trans ?_)
  rw [V1_v5, V1_v30, V1_v4, V1_v26, V1_v29]

/-- The window keys and values after the second region. -/
theorem W4_v31_2 (c : Dev nD) : W4 m ρ c (Proc.devRef .tc main_v31_2) = winT (xT (m ((c : Thread nD τ).loc main_arg0))) (gT (m ((c : Thread nD τ).loc main_arg1))) (wqT (m ((c : Thread nD τ).loc main_arg2))) cosT sinT :=
  (W4_of m ρ c main_v31_2 (by decide)).trans ((W3_of m ρ c main_v31_2 (by decide)).trans (W2_v31_2 m ρ c))

/-- The gates after the first region. -/
theorem W2_v31_3 (c : Dev nD) : W2 m ρ c (Proc.devRef .tc main_v31_3) = gateT (xT (m ((c : Thread nD τ).loc main_arg0))) (gT (m ((c : Thread nD τ).loc main_arg1))) (wqT (m ((c : Thread nD τ).loc main_arg2))) := by
  refine (W2_arr m ρ c 8).trans ((final0_8 (V1 m ρ) c).trans ?_)
  rw [V1_v5, V1_v30, V1_v4]

/-- The gates after the second region. -/
theorem W4_v31_3 (c : Dev nD) : W4 m ρ c (Proc.devRef .tc main_v31_3) = gateT (xT (m ((c : Thread nD τ).loc main_arg0))) (gT (m ((c : Thread nD τ).loc main_arg1))) (wqT (m ((c : Thread nD τ).loc main_arg2))) :=
  (W4_of m ρ c main_v31_3 (by decide)).trans ((W3_of m ρ c main_v31_3 (by decide)).trans (W2_v31_3 m ρ c))

/-- The attention kernels' keys and values after the first region. -/
theorem W2_v31_4 (c : Dev nD) : W2 m ρ c (Proc.devRef .tc main_v31_4) = kvbT (xT (m ((c : Thread nD τ).loc main_arg0))) (gT (m ((c : Thread nD τ).loc main_arg1))) (wqT (m ((c : Thread nD τ).loc main_arg2))) cosT sinT := by
  refine (W2_arr m ρ c 9).trans ((final0_9 (V1 m ρ) c).trans ?_)
  rw [V1_v5, V1_v30, V1_v4, V1_v26, V1_v29]

/-- The attention kernels' keys and values after the second region. -/
theorem W4_v31_4 (c : Dev nD) : W4 m ρ c (Proc.devRef .tc main_v31_4) = kvbT (xT (m ((c : Thread nD τ).loc main_arg0))) (gT (m ((c : Thread nD τ).loc main_arg1))) (wqT (m ((c : Thread nD τ).loc main_arg2))) cosT sinT :=
  (W4_of m ρ c main_v31_4 (by decide)).trans ((W3_of m ρ c main_v31_4 (by decide)).trans (W2_v31_4 m ρ c))

/-- The normalised rows after the first region. -/
theorem W2_v31_5 (c : Dev nD) : W2 m ρ c (Proc.devRef .tc main_v31_5) = hT (xT (m ((c : Thread nD τ).loc main_arg0))) (gT (m ((c : Thread nD τ).loc main_arg1))) := by
  refine (W2_arr m ρ c 10).trans ((final0_10 (V1 m ρ) c).trans ?_)
  rw [V1_v5, V1_v30]

/-- The normalised rows after the second region. -/
theorem W4_v31_5 (c : Dev nD) : W4 m ρ c (Proc.devRef .tc main_v31_5) = hT (xT (m ((c : Thread nD τ).loc main_arg0))) (gT (m ((c : Thread nD τ).loc main_arg1))) :=
  (W4_of m ρ c main_v31_5 (by decide)).trans ((W3_of m ρ c main_v31_5 (by decide)).trans (W2_v31_5 m ρ c))

/-- The second region's weight as it finds it. -/
theorem V3_v32 (c : Dev nD) : V3 m ρ c main_v32 = wuT (m ((c : Thread nD τ).loc main_arg2)) := by
  refine Eq.trans (?_ : _ = extractStridedSlice S2048x1024 ![0, 2584] (W2 m ρ c (Proc.devRef .tc main_v0)) slices_S2048x7704_S2048x1024_0_2584) ?_
  · show StableHlo.after hostOps1 (W2 m ρ c) (Proc.devRef .tc main_v32) = _
    after_results_simp <;> rfl
  · rw [show W2 m ρ c (Proc.devRef .tc main_v0) = _ from (W2_of m ρ c main_v0 (by decide)).trans (V1_v0 m ρ c)]
    rfl

/-- The pool inputs after the second region. -/
theorem W4_v33 (c : Dev nD) : W4 m ρ c (Proc.devRef .tc main_v33) = uT (hT (xT (m ((c : Thread nD τ).loc main_arg0))) (gT (m ((c : Thread nD τ).loc main_arg1)))) (wuT (m ((c : Thread nD τ).loc main_arg2))) := by
  refine (W4_arr m ρ c 2).trans ((final1 (V3 m ρ) c).trans ?_)
  rw [V3_v32, show V3 m ρ c main_v31_5 = _ from (W3_of m ρ c main_v31_5 (by decide)).trans (W2_v31_5 m ρ c)]

/-- The result array of `newKvT` after the run. -/
theorem W5_v35 (c : Dev nD) : W5 m ρ c (Proc.devRef .tc main_v35) = newKvT (nsaT (xT (m ((c : Thread nD τ).loc main_arg0))) (gT (m ((c : Thread nD τ).loc main_arg1))) (wqT (m ((c : Thread nD τ).loc main_arg2))) cosT sinT) := by
  refine Eq.trans (?_ : _ = newKvT (W4 m ρ c (Proc.devRef .tc main_v31_1))) (congrArg newKvT (W4_v31_1 m ρ c))
  show StableHlo.after hostOps2 (W4 m ρ c) (Proc.devRef .tc main_v35) = _
  after_results_simp <;> rfl

/-- The result array of `newWinT` after the run. -/
theorem W5_v38 (c : Dev nD) : W5 m ρ c (Proc.devRef .tc main_v38) = newWinT (winT (xT (m ((c : Thread nD τ).loc main_arg0))) (gT (m ((c : Thread nD τ).loc main_arg1))) (wqT (m ((c : Thread nD τ).loc main_arg2))) cosT sinT) := by
  refine Eq.trans (?_ : _ = newWinT (W4 m ρ c (Proc.devRef .tc main_v31_2))) (congrArg newWinT (W4_v31_2 m ρ c))
  show StableHlo.after hostOps2 (W4 m ρ c) (Proc.devRef .tc main_v38) = _
  after_results_simp <;> rfl

/-- The result array of `newPoolT` after the run. -/
theorem W5_v40 (c : Dev nD) : W5 m ρ c (Proc.devRef .tc main_v40) = newPoolT (uT (hT (xT (m ((c : Thread nD τ).loc main_arg0))) (gT (m ((c : Thread nD τ).loc main_arg1)))) (wuT (m ((c : Thread nD τ).loc main_arg2)))) := by
  refine Eq.trans (?_ : _ = newPoolT (W4 m ρ c (Proc.devRef .tc main_v33))) (congrArg newPoolT (W4_v33 m ρ c))
  show StableHlo.after hostOps2 (W4 m ρ c) (Proc.devRef .tc main_v40) = _
  after_results_simp <;> rfl

/-- The result array of `gate24T` after the run. -/
theorem W5_v41 (c : Dev nD) : W5 m ρ c (Proc.devRef .tc main_v41) = gate24T (gateT (xT (m ((c : Thread nD τ).loc main_arg0))) (gT (m ((c : Thread nD τ).loc main_arg1))) (wqT (m ((c : Thread nD τ).loc main_arg2)))) := by
  refine Eq.trans (?_ : _ = gate24T (W4 m ρ c (Proc.devRef .tc main_v31_3))) (congrArg gate24T (W4_v31_3 m ρ c))
  show StableHlo.after hostOps2 (W4 m ρ c) (Proc.devRef .tc main_v41) = _
  after_results_simp <;> rfl

/-- The last host stretch leaves this array as it is. -/
theorem W5_v31_0 (c : Dev nD) : W5 m ρ c (Proc.devRef .tc main_v31_0) = qqT (xT (m ((c : Thread nD τ).loc main_arg0))) (gT (m ((c : Thread nD τ).loc main_arg1))) (wqT (m ((c : Thread nD τ).loc main_arg2))) cosT sinT :=
  (W5_of m ρ c main_v31_0 (by decide)).trans (W4_v31_0 m ρ c)

/-- The last host stretch leaves this array as it is. -/
theorem W5_v31_4 (c : Dev nD) : W5 m ρ c (Proc.devRef .tc main_v31_4) = kvbT (xT (m ((c : Thread nD τ).loc main_arg0))) (gT (m ((c : Thread nD τ).loc main_arg1))) (wqT (m ((c : Thread nD τ).loc main_arg2))) cosT sinT :=
  (W5_of m ρ c main_v31_4 (by decide)).trans (W4_v31_4 m ρ c)

/-- The last host stretch leaves this array as it is. -/
theorem W5_v31_5 (c : Dev nD) : W5 m ρ c (Proc.devRef .tc main_v31_5) = hT (xT (m ((c : Thread nD τ).loc main_arg0))) (gT (m ((c : Thread nD τ).loc main_arg1))) :=
  (W5_of m ρ c main_v31_5 (by decide)).trans (W4_v31_5 m ρ c)

/-- The last host stretch leaves this array as it is. -/
theorem W5_v33 (c : Dev nD) : W5 m ρ c (Proc.devRef .tc main_v33) = uT (hT (xT (m ((c : Thread nD τ).loc main_arg0))) (gT (m ((c : Thread nD τ).loc main_arg1)))) (wuT (m ((c : Thread nD τ).loc main_arg2))) :=
  (W5_of m ρ c main_v33 (by decide)).trans (W4_v33 m ρ c)

end Cert.Proof.II

end
-- ==== Proof.InputsRefIdeal.Terms.lean ====
module

public import proofs.«01_k».proof.Proof.Gen.InputsRefIdeal.Run
public import proofs.«01_k».proof.Proof.InputsIdeal.Run
public import Idealize.ShloMosaic.Lib.Pointwise

@[expose] public section

set_option maxRecDepth 16384

noncomputable section

namespace Cert.Proof.IR

open Cert.InputsRefIdeal Cert.InputsRefIdeal.Gen
open Idealize.ShloMosaic Idealize.ShloMosaic.TcCoe Idealize.ShloMosaic.Tactic
open Idealize.SL Idealize.SL.Sem

section Rows
variable (A0 : FVec Ideal S2x8192x2048 .f32) (A1 : FVec Ideal S2048 .f32) (A2 : FVec Ideal S2048x7704 .f32)

/-- Position `p` of batch `b` as a row. -/
abbrev rowF (b : Fin 2) (p : Fin 8192) : Fin 16384 := ⟨b.val * 8192 + p.val, by omega⟩

/-- The reference's normalised rows. -/
def hR : FVec Ideal S2x8192x2048 .f32 :=
  mulf (mulf A0 (broadcastInDim S2x8192x2048 ![0, 1, 2] bcast_S2x8192x1_S2x8192x2048_0_1_2 (Host.rsqrt (addf (Host.divf (broadcastInDim S2x8192x1 ![0, 1] bcast_S2x8192_S2x8192x1_0_1 (Host.reduceAdd (mulf A0 A0) (constant S_ .f32 0x00000000#32) reducesTo_S2x8192x2048_S2x8192_d2 h_S_)) (broadcastInDim S2x8192x1 ![] bcast_S_S2x8192x1 (constant S_ .f32 0x45000000#32))) (broadcastInDim S2x8192x1 ![] bcast_S_S2x8192x1 (constant S_ .f32 0x358637BD#32)))))) (broadcastInDim S2x8192x2048 ![0, 1, 2] bcast_S1x1x2048_S2x8192x2048_0_1_2 (broadcastInDim S1x1x2048 ![2] bcast_S2048_S1x1x2048_2 A1))

/-- A normalised row of the reference is the kernel's. -/
theorem hR_at (b : Fin 2) (p : Fin 8192) (k : Fin 2048) :
    hR A0 A1 (ix3 b p k) = II.hE (II.xT A0) (II.gT A1) (rowF b p) k := by
  pointwise [hR, II.hE, II.xT, II.gT]
  have hp := p.isLt
  have hb := b.isLt
  have e1 : (b.val * 8192 + p.val) / 8192 = b.val := by omega
  have e2 : (b.val * 8192 + p.val) % 8192 = p.val := by omega
  simp only [e1, e2]
  done

/-- A normalised row times a column of the whole input weight. -/
def zF (i : Fin 16384) (q : Fin 7704) : EReal := ∑ k : Fin 2048, II.hE (II.xT A0) (II.gT A1) i k * A2 (ix2 k q)

/-- The reference's projection. -/
def zR : FVec Ideal S2x8192x7704 .f32 :=
  Host.dotGeneral (φ₁ := .f32) (φ₂ := .f32) dot_S2x8192x2048_S2048x7704_S2x8192x7704_2_0_01_1_n_n none (hR A0 A1) A2

/-- An entry of the reference's projection. -/
theorem zR_at (b : Fin 2) (p : Fin 8192) (q : Fin 7704) : zR A0 A1 A2 (ix3 b p q) = zF A0 A1 A2 (rowF b p) q := by
  pointwise [zR]
  simp only [hR_at]
  rfl

/-- The kernel's weight holds the input weight's first 2584 columns. -/
theorem wqT_at (k : Fin 2048) (q : ℕ) (hq : q < 2584) : II.wqT A2 (ix2 k ⟨q, by omega⟩) = A2 (ix2 k ⟨q, by omega⟩) := by
  pointwise [II.wqT, II.w0T]
  by_cases h : q < 2560
  · rw [dif_pos h]
  · have e1 : 2560 + (q - 2560) = q := by omega
    rw [dif_neg h, dif_pos (by omega)]
    simp only [e1]

/-- A projected entry of the kernel is the reference's. -/
theorem zE_eq (i : Fin 16384) (q : ℕ) (hq : q < 2584) :
    II.zE (II.xT A0) (II.gT A1) (II.wqT A2) i ⟨q, by omega⟩ = zF A0 A1 A2 i ⟨q, by omega⟩ :=
  Finset.sum_congr rfl fun k _ => congrArg (fun a : EReal => _ * a) (wqT_at A2 k q hq)

end Rows

/-- An entry of a rotary table. -/
theorem tableT_at (L R : FVec Ideal S8192x64 .f32) (b : Fin 2) (p : Fin 8192) (r : ℕ) (hr : r < 128) :
    II.tableT L R (ix2 (rowF b p) ⟨r, hr⟩) = if h : r < 64 then L (ix2 p ⟨r, h⟩) else R (ix2 p ⟨r - 64, by omega⟩) := by
  pointwise [II.tableT]
  have e2 : (b.val * 8192 + p.val) % 8192 = p.val := by omega
  simp only [e2]

section Rope
variable (A0 : FVec Ideal S2x8192x2048 .f32) (A1 : FVec Ideal S2048 .f32) (A2 : FVec Ideal S2048x7704 .f32)
  (cs sn : FVec Ideal S8192x64 .f32)

/-- Two halves of a head rotated by the angles of a position. -/
def ropeF (p : Fin 8192) (z : Fin 128 → EReal) (e : Fin 128) : EReal :=
  if h : (e : ℕ) < 64 then z e * cs (ix2 p ⟨e, h⟩) - z ⟨e + 64, by omega⟩ * sn (ix2 p ⟨e, h⟩)
  else z e * cs (ix2 p ⟨e - 64, by omega⟩) + z ⟨e - 64, by omega⟩ * sn (ix2 p ⟨e - 64, by omega⟩)

/-- A rotated entry of the kernel is the rotation of the reference's projected entries. -/
theorem ropeE_eq (b : Fin 2) (p : Fin 8192) (g : ℕ) (hg : g < 20) (e : Fin 128) (q : ℕ) (hq : q < 2560) (h : q = g * 128 + e) :
    II.ropeE (II.xT A0) (II.gT A1) (II.wqT A2) (II.tableT cs cs) (II.tableT (Host.negf sn) sn) (rowF b p) q hq
      = ropeF cs sn p (fun e => zF A0 A1 A2 (rowF b p) ⟨g * 128 + e, by omega⟩) e := by
  subst h
  have e1 : (g * 128 + (e : ℕ)) % 128 = e := by omega
  have e2 : (g * 128 + (e : ℕ)) / 128 = g := by omega
  unfold II.ropeE ropeF
  simp only [e1, e2]
  rw [zE_eq A0 A1 A2 _ _ (by omega), zE_eq A0 A1 A2 _ _ (by omega), tableT_at, tableT_at]
  by_cases he : (e : ℕ) < 64
  · have e3 : ((e : ℕ) + 64) % 128 = e + 64 := by omega
    rw [dif_pos he, dif_pos he, dif_pos he]
    simp only [e3]
    show _ + _ * -(sn _) = _
    rw [mul_neg, ← sub_eq_add_neg]
  · have e3 : ((e : ℕ) + 64) % 128 = e - 64 := by omega
    rw [dif_neg he, dif_neg he, dif_neg he]
    simp only [e3]

/-- The reference's rotation of two heads. -/
def rope2R (x : FVec Ideal S2x8192x2x128 .f32) : FVec Ideal S2x8192x2x128 .f32 :=
  concatenate S2x8192x2x128 3 [⟨S2x8192x2x64, (subf (mulf (extractStridedSlice S2x8192x2x64 ![0, 0, 0, 0] x slices_S2x8192x2x128_S2x8192x2x64_0_0_0_0) (broadcastInDim S2x8192x2x64 ![0, 1, 2, 3] bcast_S1x8192x1x64_S2x8192x2x64_0_1_2_3 (broadcastInDim S1x8192x1x64 ![1, 2, 3] bcast_S8192x1x64_S1x8192x1x64_1_2_3 (broadcastInDim S8192x1x64 ![0, 2] bcast_S8192x64_S8192x1x64_0_2 cs)))) (mulf (extractStridedSlice S2x8192x2x64 ![0, 0, 0, 64] x slices_S2x8192x2x128_S2x8192x2x64_0_0_0_64) (broadcastInDim S2x8192x2x64 ![0, 1, 2, 3] bcast_S1x8192x1x64_S2x8192x2x64_0_1_2_3 (broadcastInDim S1x8192x1x64 ![1, 2, 3] bcast_S8192x1x64_S1x8192x1x64_1_2_3 (broadcastInDim S8192x1x64 ![0, 2] bcast_S8192x64_S8192x1x64_0_2 sn)))))⟩, ⟨S2x8192x2x64, (addf (mulf (extractStridedSlice S2x8192x2x64 ![0, 0, 0, 64] x slices_S2x8192x2x128_S2x8192x2x64_0_0_0_64) (broadcastInDim S2x8192x2x64 ![0, 1, 2, 3] bcast_S1x8192x1x64_S2x8192x2x64_0_1_2_3 (broadcastInDim S1x8192x1x64 ![1, 2, 3] bcast_S8192x1x64_S1x8192x1x64_1_2_3 (broadcastInDim S8192x1x64 ![0, 2] bcast_S8192x64_S8192x1x64_0_2 cs)))) (mulf (extractStridedSlice S2x8192x2x64 ![0, 0, 0, 0] x slices_S2x8192x2x128_S2x8192x2x64_0_0_0_0) (broadcastInDim S2x8192x2x64 ![0, 1, 2, 3] bcast_S1x8192x1x64_S2x8192x2x64_0_1_2_3 (broadcastInDim S1x8192x1x64 ![1, 2, 3] bcast_S8192x1x64_S1x8192x1x64_1_2_3 (broadcastInDim S8192x1x64 ![0, 2] bcast_S8192x64_S8192x1x64_0_2 sn)))))⟩] concatenates_S2x8192x2x64_S2x8192x2x64_S2x8192x2x128_d3

/-- The reference's rotation of eight heads. -/
def rope8R (x : FVec Ideal S2x8192x8x128 .f32) : FVec Ideal S2x8192x8x128 .f32 :=
  concatenate S2x8192x8x128 3 [⟨S2x8192x8x64, (subf (mulf (extractStridedSlice S2x8192x8x64 ![0, 0, 0, 0] x slices_S2x8192x8x128_S2x8192x8x64_0_0_0_0) (broadcastInDim S2x8192x8x64 ![0, 1, 2, 3] bcast_S1x8192x1x64_S2x8192x8x64_0_1_2_3 (broadcastInDim S1x8192x1x64 ![1, 2, 3] bcast_S8192x1x64_S1x8192x1x64_1_2_3 (broadcastInDim S8192x1x64 ![0, 2] bcast_S8192x64_S8192x1x64_0_2 cs)))) (mulf (extractStridedSlice S2x8192x8x64 ![0, 0, 0, 64] x slices_S2x8192x8x128_S2x8192x8x64_0_0_0_64) (broadcastInDim S2x8192x8x64 ![0, 1, 2, 3] bcast_S1x8192x1x64_S2x8192x8x64_0_1_2_3 (broadcastInDim S1x8192x1x64 ![1, 2, 3] bcast_S8192x1x64_S1x8192x1x64_1_2_3 (broadcastInDim S8192x1x64 ![0, 2] bcast_S8192x64_S8192x1x64_0_2 sn)))))⟩, ⟨S2x8192x8x64, (addf (mulf (extractStridedSlice S2x8192x8x64 ![0, 0, 0, 64] x slices_S2x8192x8x128_S2x8192x8x64_0_0_0_64) (broadcastInDim S2x8192x8x64 ![0, 1, 2, 3] bcast_S1x8192x1x64_S2x8192x8x64_0_1_2_3 (broadcastInDim S1x8192x1x64 ![1, 2, 3] bcast_S8192x1x64_S1x8192x1x64_1_2_3 (broadcastInDim S8192x1x64 ![0, 2] bcast_S8192x64_S8192x1x64_0_2 cs)))) (mulf (extractStridedSlice S2x8192x8x64 ![0, 0, 0, 0] x slices_S2x8192x8x128_S2x8192x8x64_0_0_0_0) (broadcastInDim S2x8192x8x64 ![0, 1, 2, 3] bcast_S1x8192x1x64_S2x8192x8x64_0_1_2_3 (broadcastInDim S1x8192x1x64 ![1, 2, 3] bcast_S8192x1x64_S1x8192x1x64_1_2_3 (broadcastInDim S8192x1x64 ![0, 2] bcast_S8192x64_S8192x1x64_0_2 sn)))))⟩] concatenates_S2x8192x8x64_S2x8192x8x64_S2x8192x8x128_d3

/-- An entry of the rotation of two heads. -/
theorem rope2R_at (x : FVec Ideal S2x8192x2x128 .f32) (b : Fin 2) (p : Fin 8192) (s : Fin 2) (e : Fin 128) :
    rope2R cs sn x (ix4 b p s e) = ropeF cs sn p (fun e => x (ix4 b p s e)) e := by
  pointwise [rope2R, ropeF]
  by_cases he : (e : ℕ) < 64
  · rw [dif_pos he, dif_pos he]
    simp only [Nat.add_comm]
  · have e3 : 64 + ((e : ℕ) - 64) = e := by omega
    rw [dif_neg he, dif_neg he]
    simp only [e3]

/-- An entry of the rotation of eight heads. -/
theorem rope8R_at (x : FVec Ideal S2x8192x8x128 .f32) (b : Fin 2) (p : Fin 8192) (s : Fin 8) (e : Fin 128) :
    rope8R cs sn x (ix4 b p s e) = ropeF cs sn p (fun e => x (ix4 b p s e)) e := by
  pointwise [rope8R, ropeF]
  by_cases he : (e : ℕ) < 64
  · rw [dif_pos he, dif_pos he]
    simp only [Nat.add_comm]
  · have e3 : 64 + ((e : ℕ) - 64) = e := by omega
    rw [dif_neg he, dif_neg he]
    simp only [e3]

end Rope

section Parts
variable (z : FVec Ideal S2x8192x7704 .f32)

/-- The query heads. -/
def qR : FVec Ideal S2x8192x8x128 .f32 :=
  shapeCast _ (extractStridedSlice S2x8192x1024 ![0, 0, 0] z slices_S2x8192x7704_S2x8192x1024_0_0_0) shapeCasts_S2x8192x1024_S2x8192x8x128

/-- The six components of the keys and values. -/
def kvR : FVec Ideal S2x8192x6x2x128 .f32 :=
  shapeCast _ (extractStridedSlice S2x8192x1536 ![0, 0, 1024] z slices_S2x8192x7704_S2x8192x1536_0_0_1024) shapeCasts_S2x8192x1536_S2x8192x6x2x128

/-- Component 0. -/
def kv0R : FVec Ideal S2x8192x2x128 .f32 :=
  shapeCast _ (extractStridedSlice S2x8192x1x2x128 ![0, 0, 0, 0, 0] (kvR z) slices_S2x8192x6x2x128_S2x8192x1x2x128_0_0_0_0_0) shapeCasts_S2x8192x1x2x128_S2x8192x2x128
/-- Component 1. -/
def kv1R : FVec Ideal S2x8192x2x128 .f32 :=
  shapeCast _ (extractStridedSlice S2x8192x1x2x128 ![0, 0, 1, 0, 0] (kvR z) slices_S2x8192x6x2x128_S2x8192x1x2x128_0_0_1_0_0) shapeCasts_S2x8192x1x2x128_S2x8192x2x128
/-- Component 2. -/
def kv2R : FVec Ideal S2x8192x2x128 .f32 :=
  shapeCast _ (extractStridedSlice S2x8192x1x2x128 ![0, 0, 2, 0, 0] (kvR z) slices_S2x8192x6x2x128_S2x8192x1x2x128_0_0_2_0_0) shapeCasts_S2x8192x1x2x128_S2x8192x2x128
/-- Component 3. -/
def kv3R : FVec Ideal S2x8192x2x128 .f32 :=
  shapeCast _ (extractStridedSlice S2x8192x1x2x128 ![0, 0, 3, 0, 0] (kvR z) slices_S2x8192x6x2x128_S2x8192x1x2x128_0_0_3_0_0) shapeCasts_S2x8192x1x2x128_S2x8192x2x128
/-- Component 4. -/
def kv4R : FVec Ideal S2x8192x2x128 .f32 :=
  shapeCast _ (extractStridedSlice S2x8192x1x2x128 ![0, 0, 4, 0, 0] (kvR z) slices_S2x8192x6x2x128_S2x8192x1x2x128_0_0_4_0_0) shapeCasts_S2x8192x1x2x128_S2x8192x2x128
/-- Component 5. -/
def kv5R : FVec Ideal S2x8192x2x128 .f32 :=
  shapeCast _ (extractStridedSlice S2x8192x1x2x128 ![0, 0, 5, 0, 0] (kvR z) slices_S2x8192x6x2x128_S2x8192x1x2x128_0_0_5_0_0) shapeCasts_S2x8192x1x2x128_S2x8192x2x128

/-- An entry of the query heads. -/
theorem qR_at (b : Fin 2) (p : Fin 8192) (s : Fin 8) (e : Fin 128) : qR z (ix4 b p s e) = z (ix3 b p ⟨s * 128 + e, by omega⟩) := by
  pointwise [qR]
/-- An entry of component 0. -/
theorem kv0R_at (b : Fin 2) (p : Fin 8192) (s : Fin 2) (e : Fin 128) :
    kv0R z (ix4 b p s e) = z (ix3 b p ⟨(8 + s) * 128 + e, by omega⟩) := by
  pointwise [kv0R, kvR]
  exact congrArg (fun q => z (ix3 b p q)) (Fin.ext (by dsimp only; omega))
/-- An entry of component 1. -/
theorem kv1R_at (b : Fin 2) (p : Fin 8192) (s : Fin 2) (e : Fin 128) :
    kv1R z (ix4 b p s e) = z (ix3 b p ⟨(10 + s) * 128 + e, by omega⟩) := by
  pointwise [kv1R, kvR]
  exact congrArg (fun q => z (ix3 b p q)) (Fin.ext (by dsimp only; omega))
/-- An entry of component 2. -/
theorem kv2R_at (b : Fin 2) (p : Fin 8192) (s : Fin 2) (e : Fin 128) :
    kv2R z (ix4 b p s e) = z (ix3 b p ⟨(12 + s) * 128 + e, by omega⟩) := by
  pointwise [kv2R, kvR]
  exact congrArg (fun q => z (ix3 b p q)) (Fin.ext (by dsimp only; omega))
/-- An entry of component 3. -/
theorem kv3R_at (b : Fin 2) (p : Fin 8192) (s : Fin 2) (e : Fin 128) :
    kv3R z (ix4 b p s e) = z (ix3 b p ⟨(14 + s) * 128 + e, by omega⟩) := by
  pointwise [kv3R, kvR]
  exact congrArg (fun q => z (ix3 b p q)) (Fin.ext (by dsimp only; omega))
/-- An entry of component 4. -/
theorem kv4R_at (b : Fin 2) (p : Fin 8192) (s : Fin 2) (e : Fin 128) :
    kv4R z (ix4 b p s e) = z (ix3 b p ⟨(16 + s) * 128 + e, by omega⟩) := by
  pointwise [kv4R, kvR]
  exact congrArg (fun q => z (ix3 b p q)) (Fin.ext (by dsimp only; omega))
/-- An entry of component 5. -/
theorem kv5R_at (b : Fin 2) (p : Fin 8192) (s : Fin 2) (e : Fin 128) :
    kv5R z (ix4 b p s e) = z (ix3 b p ⟨(18 + s) * 128 + e, by omega⟩) := by
  pointwise [kv5R, kvR]
  exact congrArg (fun q => z (ix3 b p q)) (Fin.ext (by dsimp only; omega))

/-- Four arrays side by side. -/
def stack4R (a0 a1 a2 a3 : FVec Ideal S2x8192x2x128 .f32) : FVec Ideal S2x8192x4x2x128 .f32 :=
  concatenate S2x8192x4x2x128 2 [⟨S2x8192x1x2x128, (broadcastInDim S2x8192x1x2x128 ![0, 1, 3, 4] bcast_S2x8192x2x128_S2x8192x1x2x128_0_1_3_4 a0)⟩, ⟨S2x8192x1x2x128, (broadcastInDim S2x8192x1x2x128 ![0, 1, 3, 4] bcast_S2x8192x2x128_S2x8192x1x2x128_0_1_3_4 a1)⟩, ⟨S2x8192x1x2x128, (broadcastInDim S2x8192x1x2x128 ![0, 1, 3, 4] bcast_S2x8192x2x128_S2x8192x1x2x128_0_1_3_4 a2)⟩, ⟨S2x8192x1x2x128, (broadcastInDim S2x8192x1x2x128 ![0, 1, 3, 4] bcast_S2x8192x2x128_S2x8192x1x2x128_0_1_3_4 a3)⟩] concatenates_S2x8192x1x2x128_S2x8192x1x2x128_S2x8192x1x2x128_S2x8192x1x2x128_S2x8192x4x2x128_d2

/-- Two arrays side by side. -/
def stack2R (a0 a1 : FVec Ideal S2x8192x2x128 .f32) : FVec Ideal S2x8192x2x2x128 .f32 :=
  concatenate S2x8192x2x2x128 2 [⟨S2x8192x1x2x128, (broadcastInDim S2x8192x1x2x128 ![0, 1, 3, 4] bcast_S2x8192x2x128_S2x8192x1x2x128_0_1_3_4 a0)⟩, ⟨S2x8192x1x2x128, (broadcastInDim S2x8192x1x2x128 ![0, 1, 3, 4] bcast_S2x8192x2x128_S2x8192x1x2x128_0_1_3_4 a1)⟩] concatenates_S2x8192x1x2x128_S2x8192x1x2x128_S2x8192x2x2x128_d2

/-- An entry of four arrays side by side. -/
theorem stack4R_at (a0 a1 a2 a3 : FVec Ideal S2x8192x2x128 .f32) (b : Fin 2) (p : Fin 8192) (j : Fin 4) (s : Fin 2) (e : Fin 128) :
    stack4R a0 a1 a2 a3 (ix5 b p j s e) = if (j : ℕ) = 0 then a0 (ix4 b p s e) else if (j : ℕ) = 1 then a1 (ix4 b p s e)
      else if (j : ℕ) = 2 then a2 (ix4 b p s e) else a3 (ix4 b p s e) := by
  pointwise [stack4R]
  split_ifs <;> first | rfl | omega

/-- An entry of two arrays side by side. -/
theorem stack2R_at (a0 a1 : FVec Ideal S2x8192x2x128 .f32) (b : Fin 2) (p : Fin 8192) (j : Fin 2) (s : Fin 2) (e : Fin 128) :
    stack2R a0 a1 (ix5 b p j s e) = if (j : ℕ) = 0 then a0 (ix4 b p s e) else a1 (ix4 b p s e) := by
  pointwise [stack2R]
  split_ifs <;> first | rfl | omega

end Parts

section Results
variable (A0 : FVec Ideal S2x8192x2048 .f32) (A1 : FVec Ideal S2048 .f32) (A2 : FVec Ideal S2048x7704 .f32)
  (cs sn : FVec Ideal S8192x64 .f32)

/-- The two heads of columns `128 g` on, as the reference has them. -/
abbrev headsF (b : Fin 2) (p : Fin 8192) (g : ℕ) (hg : g < 20) (e : Fin 128) : EReal := zF A0 A1 A2 (rowF b p) ⟨g * 128 + e, by omega⟩

/-- An unrotated cached key or value of the kernel. -/
theorem nsa_plain (b : Fin 2) (p : Fin 8192) (r : Fin 131072) (m g : ℕ) (hm : m < 8) (hr : r.val = (b.val * 8192 + p.val) * 8 + m)
    (hg : g = 8 + m) (h : ¬(m = 4 ∨ m = 5)) (e : Fin 128) :
    II.nsaE (II.xT A0) (II.gT A1) (II.wqT A2) (II.tableT cs cs) (II.tableT (Host.negf sn) sn) r e = headsF A0 A1 A2 b p g (by omega) e := by
  have e1 : r.val % 8 = m := by omega
  have e2 : r.val / 8 = b.val * 8192 + p.val := by omega
  subst hg
  unfold II.nsaE
  simp only [e1, e2]
  rw [if_neg h, zE_eq A0 A1 A2 _ _ (by omega)]
  exact congrArg (zF A0 A1 A2 _) (Fin.ext (by dsimp only; omega))

/-- A rotated cached key of the kernel. -/
theorem nsa_rope (b : Fin 2) (p : Fin 8192) (r : Fin 131072) (m g : ℕ) (hm : m < 8) (hr : r.val = (b.val * 8192 + p.val) * 8 + m)
    (hg : g = 8 + m) (h : m = 4 ∨ m = 5) (e : Fin 128) :
    II.nsaE (II.xT A0) (II.gT A1) (II.wqT A2) (II.tableT cs cs) (II.tableT (Host.negf sn) sn) r e = ropeF cs sn p (headsF A0 A1 A2 b p g (by omega)) e := by
  have e1 : r.val % 8 = m := by omega
  have e2 : r.val / 8 = b.val * 8192 + p.val := by omega
  subst hg
  unfold II.nsaE
  simp only [e1, e2]
  rw [if_pos h]
  exact ropeE_eq A0 A1 A2 cs sn b p (8 + m) (by omega) e _ _ (by omega)

/-- An unrotated window value of the kernel. -/
theorem win_plain (b : Fin 2) (p : Fin 8192) (r : Fin 65536) (m g : ℕ) (hm : m < 4) (hr : r.val = (b.val * 8192 + p.val) * 4 + m)
    (hg : g = 16 + m) (h : ¬m < 2) (e : Fin 128) :
    II.winE (II.xT A0) (II.gT A1) (II.wqT A2) (II.tableT cs cs) (II.tableT (Host.negf sn) sn) r e = headsF A0 A1 A2 b p g (by omega) e := by
  have e1 : r.val % 4 = m := by omega
  have e2 : r.val / 4 = b.val * 8192 + p.val := by omega
  subst hg
  unfold II.winE
  simp only [e1, e2]
  rw [if_neg h, zE_eq A0 A1 A2 _ _ (by omega)]
  exact congrArg (zF A0 A1 A2 _) (Fin.ext (by dsimp only; omega))

/-- A rotated window key of the kernel. -/
theorem win_rope (b : Fin 2) (p : Fin 8192) (r : Fin 65536) (m g : ℕ) (hm : m < 4) (hr : r.val = (b.val * 8192 + p.val) * 4 + m)
    (hg : g = 16 + m) (h : m < 2) (e : Fin 128) :
    II.winE (II.xT A0) (II.gT A1) (II.wqT A2) (II.tableT cs cs) (II.tableT (Host.negf sn) sn) r e = ropeF cs sn p (headsF A0 A1 A2 b p g (by omega)) e := by
  have e1 : r.val % 4 = m := by omega
  have e2 : r.val / 4 = b.val * 8192 + p.val := by omega
  subst hg
  unfold II.winE
  simp only [e1, e2]
  rw [if_pos h]
  exact ropeE_eq A0 A1 A2 cs sn b p (16 + m) (by omega) e _ _ (by omega)

/-- A component's rotation in the reference, from its entries. -/
theorem rope_heads (x : FVec Ideal S2x8192x2x128 .f32) (b : Fin 2) (p : Fin 8192) (s : Fin 2) (g : ℕ) (hg : g < 20)
    (hx : ∀ e : Fin 128, x (ix4 b p s e) = headsF A0 A1 A2 b p g hg e) (e : Fin 128) :
    rope2R cs sn x (ix4 b p s e) = ropeF cs sn p (headsF A0 A1 A2 b p g hg) e :=
  (rope2R_at cs sn x b p s e).trans (congrArg (fun f => ropeF cs sn p f e) (funext hx))

/-- Component 0 of the reference, entry by entry. -/
theorem kv0_heads (b : Fin 2) (p : Fin 8192) (s : Fin 2) (e : Fin 128) :
    kv0R (zR A0 A1 A2) (ix4 b p s e) = headsF A0 A1 A2 b p (8 + s) (by omega) e := (kv0R_at _ b p s e).trans (zR_at A0 A1 A2 b p _)

/-- Component 1 of the reference, entry by entry. -/
theorem kv1_heads (b : Fin 2) (p : Fin 8192) (s : Fin 2) (e : Fin 128) :
    kv1R (zR A0 A1 A2) (ix4 b p s e) = headsF A0 A1 A2 b p (10 + s) (by omega) e := (kv1R_at _ b p s e).trans (zR_at A0 A1 A2 b p _)

/-- Component 2 of the reference, entry by entry. -/
theorem kv2_heads (b : Fin 2) (p : Fin 8192) (s : Fin 2) (e : Fin 128) :
    kv2R (zR A0 A1 A2) (ix4 b p s e) = headsF A0 A1 A2 b p (12 + s) (by omega) e := (kv2R_at _ b p s e).trans (zR_at A0 A1 A2 b p _)

/-- Component 3 of the reference, entry by entry. -/
theorem kv3_heads (b : Fin 2) (p : Fin 8192) (s : Fin 2) (e : Fin 128) :
    kv3R (zR A0 A1 A2) (ix4 b p s e) = headsF A0 A1 A2 b p (14 + s) (by omega) e := (kv3R_at _ b p s e).trans (zR_at A0 A1 A2 b p _)

/-- Component 4 of the reference, entry by entry. -/
theorem kv4_heads (b : Fin 2) (p : Fin 8192) (s : Fin 2) (e : Fin 128) :
    kv4R (zR A0 A1 A2) (ix4 b p s e) = headsF A0 A1 A2 b p (16 + s) (by omega) e := (kv4R_at _ b p s e).trans (zR_at A0 A1 A2 b p _)

/-- Component 5 of the reference, entry by entry. -/
theorem kv5_heads (b : Fin 2) (p : Fin 8192) (s : Fin 2) (e : Fin 128) :
    kv5R (zR A0 A1 A2) (ix4 b p s e) = headsF A0 A1 A2 b p (18 + s) (by omega) e := (kv5R_at _ b p s e).trans (zR_at A0 A1 A2 b p _)

/-- The reference's new cached keys and values. -/
def nkvR (z : FVec Ideal S2x8192x7704 .f32) : FVec Ideal S1x2x8192x4x2x128 .f32 :=
  broadcastInDim S1x2x8192x4x2x128 ![1, 2, 3, 4, 5] bcast_S2x8192x4x2x128_S1x2x8192x4x2x128_1_2_3_4_5
    (stack4R (kv0R z) (kv1R z) (rope2R cs sn (kv2R z)) (kv3R z))

/-- An entry of the kernel's new cached keys and values. -/
theorem newKvT_at (Y : FVec Ideal Cert.InputsIdeal.S131072x128 .f32) (a : Fin 1) (b : Fin 2) (p : Fin 8192) (j : Fin 4) (s : Fin 2) (e : Fin 128) :
    II.newKvT Y (ix6 a b p j s e) = Y (ix2 ⟨(b.val * 8192 + p.val) * 8 + (j.val * 2 + s.val), by omega⟩ e) := by
  pointwise [II.newKvT]
  try exact congrArg (fun r => Y (ix2 r e)) (Fin.ext (by dsimp only; omega))

/-- An entry of the reference's new cached keys and values is the kernel's. -/
theorem nkvR_at (a : Fin 1) (b : Fin 2) (p : Fin 8192) (j : Fin 4) (s : Fin 2) (e : Fin 128) :
    nkvR cs sn (zR A0 A1 A2) (ix6 a b p j s e)
      = II.nsaE (II.xT A0) (II.gT A1) (II.wqT A2) (II.tableT cs cs) (II.tableT (Host.negf sn) sn) ⟨(b.val * 8192 + p.val) * 8 + (j.val * 2 + s.val), by omega⟩ e := by
  pointwise [nkvR]
  rw [stack4R_at]
  split_ifs with h0 h1 h2
  · rw [nsa_plain A0 A1 A2 cs sn b p _ (j.val * 2 + s.val) (8 + s) (by omega) rfl (by omega) (by omega), kv0_heads]
  · rw [nsa_plain A0 A1 A2 cs sn b p _ (j.val * 2 + s.val) (10 + s) (by omega) rfl (by omega) (by omega), kv1_heads]
  · rw [nsa_rope A0 A1 A2 cs sn b p _ (j.val * 2 + s.val) (12 + s) (by omega) rfl (by omega) (by omega)]
    exact rope_heads A0 A1 A2 cs sn _ b p s _ _ (kv2_heads A0 A1 A2 b p s) e
  · rw [nsa_plain A0 A1 A2 cs sn b p _ (j.val * 2 + s.val) (14 + s) (by omega) rfl (by omega) (by omega), kv3_heads]

/-- The reference's new cached keys and values are the kernel's. -/
theorem nkvR_eq : nkvR cs sn (zR A0 A1 A2) = II.newKvT (II.nsaT (II.xT A0) (II.gT A1) (II.wqT A2) (II.tableT cs cs) (II.tableT (Host.negf sn) sn)) := by
  funext y
  rw [eq_ix6 (y : S1x2x8192x4x2x128.Idx)]
  exact (nkvR_at A0 A1 A2 cs sn (y 0) (y 1) (y 2) (y 3) (y 4) (y 5)).trans (newKvT_at (II.nsaT (II.xT A0) (II.gT A1) (II.wqT A2) (II.tableT cs cs) (II.tableT (Host.negf sn) sn)) (y 0) (y 1) (y 2) (y 3) (y 4) (y 5)).symm

/-- The reference's new window keys and values. -/
def nwinR (z : FVec Ideal S2x8192x7704 .f32) : FVec Ideal S1x2x512x2x2x128 .f32 :=
  broadcastInDim S1x2x512x2x2x128 ![1, 2, 3, 4, 5] bcast_S2x512x2x2x128_S1x2x512x2x2x128_1_2_3_4_5
    (extractStridedSlice S2x512x2x2x128 ![0, 7680, 0, 0, 0] (stack2R (rope2R cs sn (kv4R z)) (kv5R z)) slices_S2x8192x2x2x128_S2x512x2x2x128_0_7680_0_0_0)

/-- An entry of the kernel's new window keys and values. -/
theorem newWinT_at (Y : FVec Ideal Cert.InputsIdeal.S65536x128 .f32) (a : Fin 1) (b : Fin 2) (t : Fin 512) (j : Fin 2) (s : Fin 2) (e : Fin 128) :
    II.newWinT Y (ix6 a b t j s e) = Y (ix2 ⟨(b.val * 8192 + (7680 + t.val)) * 4 + (j.val * 2 + s.val), by omega⟩ e) := by
  pointwise [II.newWinT]
  try exact congrArg (fun r => Y (ix2 r e)) (Fin.ext (by dsimp only; omega))

/-- An entry of the reference's new window keys and values is the kernel's. -/
theorem nwinR_at (a : Fin 1) (b : Fin 2) (t : Fin 512) (j : Fin 2) (s : Fin 2) (e : Fin 128) :
    nwinR cs sn (zR A0 A1 A2) (ix6 a b t j s e)
      = II.winE (II.xT A0) (II.gT A1) (II.wqT A2) (II.tableT cs cs) (II.tableT (Host.negf sn) sn) ⟨(b.val * 8192 + (7680 + t.val)) * 4 + (j.val * 2 + s.val), by omega⟩ e := by
  pointwise [nwinR]
  rw [stack2R_at]
  split_ifs with h0
  · rw [win_rope A0 A1 A2 cs sn b ⟨7680 + t.val, by omega⟩ _ (j.val * 2 + s.val) (16 + s) (by omega) rfl (by omega) (by omega)]
    exact rope_heads A0 A1 A2 cs sn _ b _ s _ _ (kv4_heads A0 A1 A2 b _ s) e
  · rw [win_plain A0 A1 A2 cs sn b ⟨7680 + t.val, by omega⟩ _ (j.val * 2 + s.val) (18 + s) (by omega) rfl (by omega) (by omega), kv5_heads]

/-- The reference's new window keys and values are the kernel's. -/
theorem nwinR_eq : nwinR cs sn (zR A0 A1 A2) = II.newWinT (II.winT (II.xT A0) (II.gT A1) (II.wqT A2) (II.tableT cs cs) (II.tableT (Host.negf sn) sn)) := by
  funext y
  rw [eq_ix6 (y : S1x2x512x2x2x128.Idx)]
  exact (nwinR_at A0 A1 A2 cs sn (y 0) (y 1) (y 2) (y 3) (y 4) (y 5)).trans (newWinT_at (II.winT (II.xT A0) (II.gT A1) (II.wqT A2) (II.tableT cs cs) (II.tableT (Host.negf sn) sn)) (y 0) (y 1) (y 2) (y 3) (y 4) (y 5)).symm

/-- The pool inputs of the reference. -/
def ubR (z : FVec Ideal S2x8192x7704 .f32) : FVec Ideal S2x8192x1024 .f32 :=
  extractStridedSlice S2x8192x1024 ![0, 0, 2584] z slices_S2x8192x7704_S2x8192x1024_0_0_2584

/-- An entry of the kernel's pool inputs. -/
theorem uT_at (b : Fin 2) (p : Fin 8192) (q : Fin 1024) :
    II.uT (II.hT (II.xT A0) (II.gT A1)) (II.wuT A2) (ix2 (rowF b p) q) = zF A0 A1 A2 (rowF b p) ⟨2584 + q, by omega⟩ := by
  refine Finset.sum_congr rfl fun k _ => ?_
  refine congrArg (fun a : EReal => II.hE (II.xT A0) (II.gT A1) (rowF b p) k * a) ?_
  pointwise [II.wuT, II.w0T]

/-- An entry of the reference's pool inputs is the kernel's. -/
theorem ubR_at (b : Fin 2) (p : Fin 8192) (q : Fin 1024) :
    ubR (zR A0 A1 A2) (ix3 b p q) = II.uT (II.hT (II.xT A0) (II.gT A1)) (II.wuT A2) (ix2 (rowF b p) q) := by
  rw [uT_at]
  pointwise [ubR]
  exact zR_at A0 A1 A2 b p _

/-- The reference's new pool inputs. -/
def npoolR (z : FVec Ideal S2x8192x7704 .f32) : FVec Ideal S1x2x15x1024 .f32 :=
  broadcastInDim S1x2x15x1024 ![1, 2, 3] bcast_S2x15x1024_S1x2x15x1024_1_2_3
    (extractStridedSlice S2x15x1024 ![0, 8177, 0] (ubR z) slices_S2x8192x1024_S2x15x1024_0_8177_0)

/-- An entry of the kernel's new pool inputs. -/
theorem newPoolT_at (Y : FVec Ideal Cert.InputsIdeal.S16384x1024 .f32) (a : Fin 1) (b : Fin 2) (t : Fin 15) (e : Fin 1024) :
    II.newPoolT Y (ix4 a b t e) = Y (ix2 (rowF b ⟨8177 + t.val, by omega⟩) e) := by
  pointwise [II.newPoolT]
  try exact congrArg (fun r => Y (ix2 r e)) (Fin.ext (by dsimp only; omega))

/-- The reference's new pool inputs are the kernel's. -/
theorem npoolR_eq : npoolR (zR A0 A1 A2) = II.newPoolT (II.uT (II.hT (II.xT A0) (II.gT A1)) (II.wuT A2)) := by
  funext y
  rw [eq_ix4 (y : S1x2x15x1024.Idx)]
  refine Eq.trans ?_ (newPoolT_at _ (y 0) (y 1) (y 2) (y 3)).symm
  refine Eq.trans ?_ (ubR_at A0 A1 A2 (y 1) ⟨8177 + (y 2 : Fin 15).val, _⟩ (y 3))
  pointwise [npoolR]

/-- A row is a position of a batch. -/
theorem row_eq (i : Fin 16384) : rowF ⟨i.val / 8192, by omega⟩ ⟨i.val % 8192, by omega⟩ = i := Fin.ext (by dsimp only; omega)

/-- The reference's pool inputs as rows. -/
def uR (z : FVec Ideal S2x8192x7704 .f32) : FVec Ideal S16384x1024 .f32 := shapeCast S16384x1024 (ubR z) shapeCasts_S2x8192x1024_S16384x1024

/-- An entry of the reference's pool inputs as rows. -/
theorem uR_at (z : FVec Ideal S2x8192x7704 .f32) (i : Fin 16384) (q : Fin 1024) :
    uR z (ix2 i q) = ubR z (ix3 ⟨i.val / 8192, by omega⟩ ⟨i.val % 8192, by omega⟩ q) := by
  pointwise [uR]

/-- The reference's pool inputs as rows are the kernel's. -/
theorem uR_eq : uR (zR A0 A1 A2) = II.uT (II.hT (II.xT A0) (II.gT A1)) (II.wuT A2) := by
  have h (i : Fin 16384) (q : Fin 1024) : uR (zR A0 A1 A2) (ix2 i q) = II.uT (II.hT (II.xT A0) (II.gT A1)) (II.wuT A2) (ix2 i q) :=
    (uR_at _ i q).trans ((ubR_at A0 A1 A2 _ _ q).trans (congrArg (fun r => II.uT (II.hT (II.xT A0) (II.gT A1)) (II.wuT A2) (ix2 r q)) (row_eq i)))
  funext y
  rw [eq_ix2 (y : S16384x1024.Idx)]
  exact h (y 0) (y 1)

/-- The reference's normalised rows at the kernels' format. -/
def hrR : FVec Ideal S16384x2048 .bf16 := truncf .bf16 (shapeCast S16384x2048 (hR A0 A1) shapeCasts_S2x8192x2048_S16384x2048) bitsLt_bf16_f32

/-- An entry of the reference's normalised rows at the kernels' format. -/
theorem hrR_at (i : Fin 16384) (q : Fin 2048) : hrR A0 A1 (ix2 i q) = hR A0 A1 (ix3 ⟨i.val / 8192, by omega⟩ ⟨i.val % 8192, by omega⟩ q) := by
  pointwise [hrR]

/-- The reference's normalised rows are the kernel's. -/
theorem hrR_eq : hrR A0 A1 = II.hT (II.xT A0) (II.gT A1) := by
  have h (i : Fin 16384) (q : Fin 2048) : hrR A0 A1 (ix2 i q) = II.hE (II.xT A0) (II.gT A1) i q :=
    (hrR_at A0 A1 i q).trans ((hR_at A0 A1 _ _ q).trans (congrArg (fun r => II.hE (II.xT A0) (II.gT A1) r q) (row_eq i)))
  funext y
  rw [eq_ix2 (y : S16384x2048.Idx)]
  exact h (y 0) (y 1)

/-- The reference's gates. -/
def gateR (z : FVec Ideal S2x8192x7704 .f32) : FVec Ideal S16384x24 .f32 :=
  shapeCast S16384x24 (Host.divf (broadcastInDim S2x8192x24 ![] bcast_S_S2x8192x24 (constant S_ .f32 0x3F800000#32)) (addf (broadcastInDim S2x8192x24 ![] bcast_S_S2x8192x24 (constant S_ .f32 0x3F800000#32)) (Host.exp (Host.negf (extractStridedSlice S2x8192x24 ![0, 0, 2560] z slices_S2x8192x7704_S2x8192x24_0_0_2560))))) shapeCasts_S2x8192x24_S16384x24

/-- An entry of the kernel's gates. -/
theorem gate24T_at (b : Fin 2) (p : Fin 8192) (q : Fin 24) :
    II.gate24T (II.gateT (II.xT A0) (II.gT A1) (II.wqT A2)) (ix2 (rowF b p) q) = Ideal.logistic (zR A0 A1 A2 (ix3 b p ⟨2560 + q, by omega⟩)) := by
  generalize hY : II.gateT (II.xT A0) (II.gT A1) (II.wqT A2) = Y
  pointwise [II.gate24T]
  subst hY
  show Ideal.logistic _ = _
  rw [zR_at]
  exact congrArg Ideal.logistic (zE_eq A0 A1 A2 (rowF b p) (2560 + q) (by omega))

/-- An entry of the reference's gates. -/
theorem gateR_at (z : FVec Ideal S2x8192x7704 .f32) (i : Fin 16384) (q : Fin 24) :
    gateR z (ix2 i q) = Ideal.logistic (z (ix3 ⟨i.val / 8192, by omega⟩ ⟨i.val % 8192, by omega⟩ ⟨2560 + q, by omega⟩)) := by
  pointwise [gateR]
  rfl

/-- The reference's gates are the kernel's. -/
theorem gateR_eq : gateR (zR A0 A1 A2) = II.gate24T (II.gateT (II.xT A0) (II.gT A1) (II.wqT A2)) := by
  have h (i : Fin 16384) (q : Fin 24) : gateR (zR A0 A1 A2) (ix2 i q) = II.gate24T (II.gateT (II.xT A0) (II.gT A1) (II.wqT A2)) (ix2 i q) :=
    (gateR_at _ i q).trans ((gate24T_at A0 A1 A2 _ _ q).symm.trans
      (congrArg (fun r => II.gate24T (II.gateT (II.xT A0) (II.gT A1) (II.wqT A2)) (ix2 r q)) (row_eq i)))
  funext y
  rw [eq_ix2 (y : S16384x24.Idx)]
  exact h (y 0) (y 1)

/-- The reference's unrotated and rotated queries. -/
def stack8R (a0 a1 : FVec Ideal S2x8192x8x128 .f32) : FVec Ideal S2x8192x2x8x128 .f32 :=
  concatenate S2x8192x2x8x128 2 [⟨S2x8192x1x8x128, (broadcastInDim S2x8192x1x8x128 ![0, 1, 3, 4] bcast_S2x8192x8x128_S2x8192x1x8x128_0_1_3_4 a0)⟩, ⟨S2x8192x1x8x128, (broadcastInDim S2x8192x1x8x128 ![0, 1, 3, 4] bcast_S2x8192x8x128_S2x8192x1x8x128_0_1_3_4 a1)⟩] concatenates_S2x8192x1x8x128_S2x8192x1x8x128_S2x8192x2x8x128_d2

/-- An entry of two arrays of eight heads side by side. -/
theorem stack8R_at (a0 a1 : FVec Ideal S2x8192x8x128 .f32) (b : Fin 2) (p : Fin 8192) (j : Fin 2) (s : Fin 8) (e : Fin 128) :
    stack8R a0 a1 (ix5 b p j s e) = if (j : ℕ) = 0 then a0 (ix4 b p s e) else a1 (ix4 b p s e) := by
  pointwise [stack8R]
  split_ifs <;> first | rfl | omega

/-- The reference's queries as rows. -/
def qqR (z : FVec Ideal S2x8192x7704 .f32) : FVec Ideal S16384x2048 .bf16 :=
  truncf .bf16 (shapeCast S16384x2048 (stack8R (qR z) (rope8R cs sn (qR z))) shapeCasts_S2x8192x2x8x128_S16384x2048) bitsLt_bf16_f32

/-- An entry of the reference's queries is the kernel's. -/
theorem stack8R_eq (b : Fin 2) (p : Fin 8192) (j : Fin 2) (s : Fin 8) (e : Fin 128) :
    stack8R (qR (zR A0 A1 A2)) (rope8R cs sn (qR (zR A0 A1 A2))) (ix5 b p j s e)
      = II.qqE (II.xT A0) (II.gT A1) (II.wqT A2) (II.tableT cs cs) (II.tableT (Host.negf sn) sn) (rowF b p) ⟨j.val * 1024 + (s.val * 128 + e.val), by omega⟩ := by
  rw [stack8R_at]
  unfold II.qqE
  by_cases h : (j : ℕ) = 0
  · rw [if_pos h, dif_pos (by dsimp only; omega), qR_at, zR_at, zE_eq A0 A1 A2 _ _ (by dsimp only; omega)]
    exact congrArg (zF A0 A1 A2 _) (Fin.ext (by dsimp only; omega))
  · rw [if_neg h, dif_neg (by dsimp only; omega), rope8R_at,
      ropeE_eq A0 A1 A2 cs sn b p s.val (by omega) e _ _ (by dsimp only; omega)]
    exact congrArg (fun f => ropeF cs sn p f e) (funext fun e => (qR_at _ b p s e).trans (zR_at A0 A1 A2 b p _))

/-- An entry of the reference's queries as rows. -/
theorem qqR_at (z : FVec Ideal S2x8192x7704 .f32) (i : Fin 16384) (q : Fin 2048) :
    qqR cs sn z (ix2 i q) = stack8R (qR z) (rope8R cs sn (qR z))
      (ix5 ⟨i.val / 8192, by omega⟩ ⟨i.val % 8192, by omega⟩ ⟨q.val / 1024, by omega⟩ ⟨q.val / 128 % 8, by omega⟩ ⟨q.val % 128, by omega⟩) := by
  pointwise [qqR]

/-- The reference's queries are the kernel's. -/
theorem qqR_eq : qqR cs sn (zR A0 A1 A2) = II.qqT (II.xT A0) (II.gT A1) (II.wqT A2) (II.tableT cs cs) (II.tableT (Host.negf sn) sn) := by
  have h (i : Fin 16384) (q : Fin 2048) : qqR cs sn (zR A0 A1 A2) (ix2 i q) = II.qqE (II.xT A0) (II.gT A1) (II.wqT A2) (II.tableT cs cs) (II.tableT (Host.negf sn) sn) i q :=
    (qqR_at cs sn _ i q).trans ((stack8R_eq A0 A1 A2 cs sn _ _ _ _ _).trans
      (congrArg₂ (II.qqE (II.xT A0) (II.gT A1) (II.wqT A2) (II.tableT cs cs) (II.tableT (Host.negf sn) sn)) (row_eq i) (Fin.ext (by dsimp only; omega))))
  funext y
  rw [eq_ix2 (y : S16384x2048.Idx)]
  exact h (y 0) (y 1)

/-- The reference's keys and values as rows. -/
def kvbR (z : FVec Ideal S2x8192x7704 .f32) : FVec Ideal S16384x1024 .bf16 :=
  truncf .bf16 (shapeCast S16384x1024 (stack4R (rope2R cs sn (kv2R z)) (kv3R z) (rope2R cs sn (kv4R z)) (kv5R z)) shapeCasts_S2x8192x4x2x128_S16384x1024) bitsLt_bf16_f32

/-- An entry of the reference's keys and values is the kernel's. -/
theorem kvbR_at (b : Fin 2) (p : Fin 8192) (j : Fin 4) (s : Fin 2) (e : Fin 128) :
    stack4R (rope2R cs sn (kv2R (zR A0 A1 A2))) (kv3R (zR A0 A1 A2)) (rope2R cs sn (kv4R (zR A0 A1 A2))) (kv5R (zR A0 A1 A2)) (ix5 b p j s e)
      = II.kvbE (II.xT A0) (II.gT A1) (II.wqT A2) (II.tableT cs cs) (II.tableT (Host.negf sn) sn) (rowF b p) ⟨j.val * 256 + (s.val * 128 + e.val), by omega⟩ := by
  rw [stack4R_at]
  unfold II.kvbE
  split_ifs with h0 h1 h2 h3 h4 h5 h6
  all_goals first
    | (exfalso; dsimp only at *; omega)
    | skip
  · rw [ropeE_eq A0 A1 A2 cs sn b p (12 + s.val) (by omega) e _ _ (by dsimp only; omega)]
    exact rope_heads A0 A1 A2 cs sn _ b p s _ _ (kv2_heads A0 A1 A2 b p s) e
  · rw [zE_eq A0 A1 A2 _ _ (by dsimp only; omega), kv3_heads]
    exact congrArg (zF A0 A1 A2 _) (Fin.ext (by dsimp only; omega))
  · rw [ropeE_eq A0 A1 A2 cs sn b p (16 + s.val) (by omega) e _ _ (by dsimp only; omega)]
    exact rope_heads A0 A1 A2 cs sn _ b p s _ _ (kv4_heads A0 A1 A2 b p s) e
  · rw [zE_eq A0 A1 A2 _ _ (by dsimp only; omega), kv5_heads]
    exact congrArg (zF A0 A1 A2 _) (Fin.ext (by dsimp only; omega))

/-- An entry of the reference's keys and values as rows. -/
theorem kvbR_row (z : FVec Ideal S2x8192x7704 .f32) (i : Fin 16384) (q : Fin 1024) :
    kvbR cs sn z (ix2 i q) = stack4R (rope2R cs sn (kv2R z)) (kv3R z) (rope2R cs sn (kv4R z)) (kv5R z)
      (ix5 ⟨i.val / 8192, by omega⟩ ⟨i.val % 8192, by omega⟩ ⟨q.val / 256, by omega⟩ ⟨q.val / 128 % 2, by omega⟩ ⟨q.val % 128, by omega⟩) := by
  pointwise [kvbR]

/-- The reference's keys and values are the kernel's. -/
theorem kvbR_eq : kvbR cs sn (zR A0 A1 A2) = II.kvbT (II.xT A0) (II.gT A1) (II.wqT A2) (II.tableT cs cs) (II.tableT (Host.negf sn) sn) := by
  have h (i : Fin 16384) (q : Fin 1024) : kvbR cs sn (zR A0 A1 A2) (ix2 i q) = II.kvbE (II.xT A0) (II.gT A1) (II.wqT A2) (II.tableT cs cs) (II.tableT (Host.negf sn) sn) i q :=
    (kvbR_row cs sn _ i q).trans ((kvbR_at A0 A1 A2 cs sn _ _ _ _ _).trans
      (congrArg₂ (II.kvbE (II.xT A0) (II.gT A1) (II.wqT A2) (II.tableT cs cs) (II.tableT (Host.negf sn) sn)) (row_eq i) (Fin.ext (by dsimp only; omega))))
  funext y
  rw [eq_ix2 (y : S16384x1024.Idx)]
  exact h (y 0) (y 1)

end Results

end Cert.Proof.IR

end
-- ==== Proof.InputsRefIdeal.Results.lean ====
module

public import proofs.«01_k».proof.Proof.InputsRefIdeal.Terms

@[expose] public section

set_option maxRecDepth 16384

noncomputable section

namespace Cert.Proof.IR

open Cert.InputsRefIdeal Cert.InputsRefIdeal.Gen
open Idealize.ShloMosaic Idealize.ShloMosaic.TcCoe Idealize.ShloMosaic.Tactic
open Idealize.SL Idealize.SL.Sem

variable (m : (ℓ : Loc nD τ sig) → Buf (Elt Ideal) ℓ) (ρ : Dev nD → PrngReg)

set_option maxHeartbeats 2000000 in
/-- The reference runs to its end, with each result at its stages and its arguments as they were. -/
theorem run_stages : θ_run defs (onTc (τ := τ) (main (F := Ideal))) ⟨m, fun _ => 0, ρ⟩ (fun r => ∀ c : Dev nD,
      r.2.mem ((c.tc : Thread nD τ).loc main_v164) = nkvR (Host.cos II.angT) (Host.sin II.angT) (zR (m ((c.tc : Thread nD τ).loc main_arg0)) (m ((c.tc : Thread nD τ).loc main_arg1)) (m ((c.tc : Thread nD τ).loc main_arg2)))
      ∧ r.2.mem ((c.tc : Thread nD τ).loc main_v166) = nwinR (Host.cos II.angT) (Host.sin II.angT) (zR (m ((c.tc : Thread nD τ).loc main_arg0)) (m ((c.tc : Thread nD τ).loc main_arg1)) (m ((c.tc : Thread nD τ).loc main_arg2)))
      ∧ r.2.mem ((c.tc : Thread nD τ).loc main_v168) = npoolR (zR (m ((c.tc : Thread nD τ).loc main_arg0)) (m ((c.tc : Thread nD τ).loc main_arg1)) (m ((c.tc : Thread nD τ).loc main_arg2)))
      ∧ r.2.mem ((c.tc : Thread nD τ).loc main_v169) = qqR (Host.cos II.angT) (Host.sin II.angT) (zR (m ((c.tc : Thread nD τ).loc main_arg0)) (m ((c.tc : Thread nD τ).loc main_arg1)) (m ((c.tc : Thread nD τ).loc main_arg2)))
      ∧ r.2.mem ((c.tc : Thread nD τ).loc main_v170) = kvbR (Host.cos II.angT) (Host.sin II.angT) (zR (m ((c.tc : Thread nD τ).loc main_arg0)) (m ((c.tc : Thread nD τ).loc main_arg1)) (m ((c.tc : Thread nD τ).loc main_arg2)))
      ∧ r.2.mem ((c.tc : Thread nD τ).loc main_v163) = gateR (zR (m ((c.tc : Thread nD τ).loc main_arg0)) (m ((c.tc : Thread nD τ).loc main_arg1)) (m ((c.tc : Thread nD τ).loc main_arg2)))
      ∧ r.2.mem ((c.tc : Thread nD τ).loc main_v172) = hrR (m ((c.tc : Thread nD τ).loc main_arg0)) (m ((c.tc : Thread nD τ).loc main_arg1))
      ∧ r.2.mem ((c.tc : Thread nD τ).loc main_v173) = uR (zR (m ((c.tc : Thread nD τ).loc main_arg0)) (m ((c.tc : Thread nD τ).loc main_arg1)) (m ((c.tc : Thread nD τ).loc main_arg2)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun r h c => ⟨(h c).1, (h c).2.1, (h c).2.2.1, (h c).2.2.2.1, (h c).2.2.2.2.1, (h c).2.2.2.2.2.1, (h c).2.2.2.2.2.2.1, (h c).2.2.2.2.2.2.2.1, (h c).2.2.2.2.2.2.2.2⟩) (Value.run m ρ)

/-- The reference's results are the arrays the kernel's program leaves, of the reference's arguments. -/
theorem run_arrays : θ_run defs (onTc (τ := τ) (main (F := Ideal))) ⟨m, fun _ => 0, ρ⟩ (fun r => ∀ c : Dev nD,
      r.2.mem ((c.tc : Thread nD τ).loc main_v164) = II.newKvT (II.nsaT (II.xT (m ((c.tc : Thread nD τ).loc main_arg0))) (II.gT (m ((c.tc : Thread nD τ).loc main_arg1))) (II.wqT (m ((c.tc : Thread nD τ).loc main_arg2))) II.cosT II.sinT)
      ∧ r.2.mem ((c.tc : Thread nD τ).loc main_v166) = II.newWinT (II.winT (II.xT (m ((c.tc : Thread nD τ).loc main_arg0))) (II.gT (m ((c.tc : Thread nD τ).loc main_arg1))) (II.wqT (m ((c.tc : Thread nD τ).loc main_arg2))) II.cosT II.sinT)
      ∧ r.2.mem ((c.tc : Thread nD τ).loc main_v168) = II.newPoolT (II.uT (II.hT (II.xT (m ((c.tc : Thread nD τ).loc main_arg0))) (II.gT (m ((c.tc : Thread nD τ).loc main_arg1)))) (II.wuT (m ((c.tc : Thread nD τ).loc main_arg2))))
      ∧ r.2.mem ((c.tc : Thread nD τ).loc main_v169) = II.qqT (II.xT (m ((c.tc : Thread nD τ).loc main_arg0))) (II.gT (m ((c.tc : Thread nD τ).loc main_arg1))) (II.wqT (m ((c.tc : Thread nD τ).loc main_arg2))) II.cosT II.sinT
      ∧ r.2.mem ((c.tc : Thread nD τ).loc main_v170) = II.kvbT (II.xT (m ((c.tc : Thread nD τ).loc main_arg0))) (II.gT (m ((c.tc : Thread nD τ).loc main_arg1))) (II.wqT (m ((c.tc : Thread nD τ).loc main_arg2))) II.cosT II.sinT
      ∧ r.2.mem ((c.tc : Thread nD τ).loc main_v163) = II.gate24T (II.gateT (II.xT (m ((c.tc : Thread nD τ).loc main_arg0))) (II.gT (m ((c.tc : Thread nD τ).loc main_arg1))) (II.wqT (m ((c.tc : Thread nD τ).loc main_arg2))))
      ∧ r.2.mem ((c.tc : Thread nD τ).loc main_v172) = II.hT (II.xT (m ((c.tc : Thread nD τ).loc main_arg0))) (II.gT (m ((c.tc : Thread nD τ).loc main_arg1)))
      ∧ r.2.mem ((c.tc : Thread nD τ).loc main_v173) = II.uT (II.hT (II.xT (m ((c.tc : Thread nD τ).loc main_arg0))) (II.gT (m ((c.tc : Thread nD τ).loc main_arg1)))) (II.wuT (m ((c.tc : Thread nD τ).loc main_arg2)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun r h c => ⟨(h c).1.trans (nkvR_eq _ _ _ _ _),
      (h c).2.1.trans (nwinR_eq _ _ _ _ _),
      (h c).2.2.1.trans (npoolR_eq _ _ _),
      (h c).2.2.2.1.trans (qqR_eq _ _ _ _ _),
      (h c).2.2.2.2.1.trans (kvbR_eq _ _ _ _ _),
      (h c).2.2.2.2.2.1.trans (gateR_eq _ _ _),
      (h c).2.2.2.2.2.2.1.trans (hrR_eq _ _),
      (h c).2.2.2.2.2.2.2.1.trans (uR_eq _ _ _), (h c).2.2.2.2.2.2.2.2⟩) (run_stages m ρ)

end Cert.Proof.IR

end
-- ==== Proof.SampleIdeal.Qkv.lean ====
module

public import proofs.«01_k».proof.Proof.Gen.SampleIdeal.Launch
public import proofs.«01_k».proof.Proof.Gen.SampleIdeal.Skeleton
public import proofs.«01_k».proof.Proof.Gen.SampleIdeal.Points
public import Idealize.ShloMosaic.Lib.Pipeline.FrameBody
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.WordCmp

@[expose] public section

set_option maxRecDepth 16384

noncomputable section

namespace Cert.Proof.SI

open Cert.SampleIdeal Cert.SampleIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
section Regions
-- the TensorCore's buffer contents when a region is entered: the parameter every region's half is stated at, which
-- the run instantiates per region
variable (V : (c : Dev nD) → (b : Ref sig .tc) → Buf (Elt F) ((c : Thread nD τ).loc b))

/-! # REGION 0 of @main: custom_call 0, `cc0_qkv_proj` (pipeline 0), at the entry contents `V` -/

/-! ## The windows' blocks -/

/-- Window `w`'s block at point `t`, read off its array as the region finds it (`V`). -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, fetched there or not, for ANY proof
    data whose array is `V`'s (`hA`) and whose body leaves the block in place (`hafter`):
    `Dat.before_in_eq_fetched` (unfetched, the index has not moved), the window uncut and never idle. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
/-- Input window 1's current staging buffer holds its block at every point, fetched there or not, for ANY proof
    data whose array is `V`'s (`hA`) and whose body leaves the block in place (`hafter`):
    `Dat.before_in_eq_fetched` (unfetched, the index has not moved), the window uncut and never idle. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
/-- Input window 2's current staging buffer holds its block at every point, fetched there or not, for ANY proof
    data whose array is `V`'s (`hA`) and whose body leaves the block in place (`hafter`):
    `Dat.before_in_eq_fetched` (unfetched, the index has not moved), the window uncut and never idle. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)
/-- Input window 3's current staging buffer holds its block at every point, fetched there or not, for ANY proof
    data whose array is `V`'s (`hA`) and whose body leaves the block in place (`hafter`):
    `Dat.before_in_eq_fetched` (unfetched, the index has not moved), the window uncut and never idle. -/
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)
/-- Input window 4's current staging buffer holds its block at every point, fetched there or not, for ANY proof
    data whose array is `V`'s (`hA`) and whose body leaves the block in place (`hafter`):
    `Dat.before_in_eq_fetched` (unfetched, the index has not moved), the window uncut and never idle. -/
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses -/

abbrev r0_0 : Rect S256x2048 := Rect.unit (s := S256x2048) ![0, 0] S256x2048.size inb_S256x2048_S256x2048_0_0
abbrev r0_1 : Rect S1x2048 := Rect.unit (s := S1x2048) ![0, 0] S1x2048.size inb_S1x2048_S1x2048_0_0
abbrev r0_2 : Rect S256x128 := Rect.unit (s := S256x128) ![0, 0] S256x128.size inb_S256x128_S256x128_0_0
abbrev r0_3 : Rect S2048x2688 := Rect.unit (s := S2048x2688) ![0, 0] S2048x512.size inb_S2048x2688_S2048x512_0_0
abbrev r0_4 : Rect S256x2048 := Rect.unit (s := S256x2048) ![0, 0] S256x128.size inb_S256x2048_S256x128_0_0
abbrev r0_5 : Rect S256x2048 := Rect.unit (s := S256x2048) ![0, 1024] S256x128.size inb_S256x2048_S256x128_0_1024
abbrev r0_6 : Rect S256x2048 := Rect.unit (s := S256x2048) ![0, 128] S256x128.size inb_S256x2048_S256x128_0_128
abbrev r0_7 : Rect S256x2048 := Rect.unit (s := S256x2048) ![0, 1152] S256x128.size inb_S256x2048_S256x128_0_1152
abbrev r0_8 : Rect S256x2048 := Rect.unit (s := S256x2048) ![0, 256] S256x128.size inb_S256x2048_S256x128_0_256
abbrev r0_9 : Rect S256x2048 := Rect.unit (s := S256x2048) ![0, 1280] S256x128.size inb_S256x2048_S256x128_0_1280
abbrev r0_10 : Rect S256x2048 := Rect.unit (s := S256x2048) ![0, 384] S256x128.size inb_S256x2048_S256x128_0_384
abbrev r0_11 : Rect S256x2048 := Rect.unit (s := S256x2048) ![0, 1408] S256x128.size inb_S256x2048_S256x128_0_1408
abbrev r0_12 : Rect S2048x2688 := Rect.unit (s := S2048x2688) ![0, 512] S2048x512.size inb_S2048x2688_S2048x512_0_512
abbrev r0_13 : Rect S256x2048 := Rect.unit (s := S256x2048) ![0, 512] S256x128.size inb_S256x2048_S256x128_0_512
abbrev r0_14 : Rect S256x2048 := Rect.unit (s := S256x2048) ![0, 1536] S256x128.size inb_S256x2048_S256x128_0_1536
abbrev r0_15 : Rect S256x2048 := Rect.unit (s := S256x2048) ![0, 640] S256x128.size inb_S256x2048_S256x128_0_640
abbrev r0_16 : Rect S256x2048 := Rect.unit (s := S256x2048) ![0, 1664] S256x128.size inb_S256x2048_S256x128_0_1664
abbrev r0_17 : Rect S256x2048 := Rect.unit (s := S256x2048) ![0, 768] S256x128.size inb_S256x2048_S256x128_0_768
abbrev r0_18 : Rect S256x2048 := Rect.unit (s := S256x2048) ![0, 1792] S256x128.size inb_S256x2048_S256x128_0_1792
abbrev r0_19 : Rect S256x2048 := Rect.unit (s := S256x2048) ![0, 896] S256x128.size inb_S256x2048_S256x128_0_896
abbrev r0_20 : Rect S256x2048 := Rect.unit (s := S256x2048) ![0, 1920] S256x128.size inb_S256x2048_S256x128_0_1920
abbrev r0_21 : Rect S2048x2688 := Rect.unit (s := S2048x2688) ![0, 1024] S2048x512.size inb_S2048x2688_S2048x512_0_1024
abbrev r0_22 : Rect S2048x128 := ⟨(⟨![0, 0], S256x128.size, ![8, 1], inb_S2048x128_S256x128_0_0_s_8_1⟩ : LoadRect S2048x128), spos_8_1⟩
abbrev r0_23 : Rect S2048x128 := ⟨(⟨![2, 0], S256x128.size, ![8, 1], inb_S2048x128_S256x128_2_0_s_8_1⟩ : LoadRect S2048x128), spos_8_1⟩
abbrev r0_24 : Rect S2048x128 := ⟨(⟨![1, 0], S256x128.size, ![8, 1], inb_S2048x128_S256x128_1_0_s_8_1⟩ : LoadRect S2048x128), spos_8_1⟩
abbrev r0_25 : Rect S2048x128 := ⟨(⟨![3, 0], S256x128.size, ![8, 1], inb_S2048x128_S256x128_3_0_s_8_1⟩ : LoadRect S2048x128), spos_8_1⟩
abbrev r0_26 : Rect S2048x2688 := Rect.unit (s := S2048x2688) ![0, 1536] S2048x512.size inb_S2048x2688_S2048x512_0_1536
abbrev r0_27 : Rect S2048x128 := ⟨(⟨![4, 0], S256x128.size, ![8, 1], inb_S2048x128_S256x128_4_0_s_8_1⟩ : LoadRect S2048x128), spos_8_1⟩
abbrev r0_28 : Rect S2048x128 := ⟨(⟨![6, 0], S256x128.size, ![8, 1], inb_S2048x128_S256x128_6_0_s_8_1⟩ : LoadRect S2048x128), spos_8_1⟩
abbrev r0_29 : Rect S256x1024 := Rect.unit (s := S256x1024) ![0, 0] S256x128.size inb_S256x1024_S256x128_0_0
abbrev r0_30 : Rect S256x1024 := Rect.unit (s := S256x1024) ![0, 256] S256x128.size inb_S256x1024_S256x128_0_256
abbrev r0_31 : Rect S2048x128 := ⟨(⟨![5, 0], S256x128.size, ![8, 1], inb_S2048x128_S256x128_5_0_s_8_1⟩ : LoadRect S2048x128), spos_8_1⟩
abbrev r0_32 : Rect S2048x128 := ⟨(⟨![7, 0], S256x128.size, ![8, 1], inb_S2048x128_S256x128_7_0_s_8_1⟩ : LoadRect S2048x128), spos_8_1⟩
abbrev r0_33 : Rect S256x1024 := Rect.unit (s := S256x1024) ![0, 128] S256x128.size inb_S256x1024_S256x128_0_128
abbrev r0_34 : Rect S256x1024 := Rect.unit (s := S256x1024) ![0, 384] S256x128.size inb_S256x1024_S256x128_0_384
abbrev r0_35 : Rect S2048x2688 := Rect.unit (s := S2048x2688) ![0, 2048] S2048x512.size inb_S2048x2688_S2048x512_0_2048
abbrev r0_36 : Rect S1024x128 := ⟨(⟨![0, 0], S256x128.size, ![4, 1], inb_S1024x128_S256x128_0_0_s_4_1⟩ : LoadRect S1024x128), spos_4_1⟩
abbrev r0_37 : Rect S1024x128 := ⟨(⟨![2, 0], S256x128.size, ![4, 1], inb_S1024x128_S256x128_2_0_s_4_1⟩ : LoadRect S1024x128), spos_4_1⟩
abbrev r0_38 : Rect S256x1024 := Rect.unit (s := S256x1024) ![0, 512] S256x128.size inb_S256x1024_S256x128_0_512
abbrev r0_39 : Rect S256x1024 := Rect.unit (s := S256x1024) ![0, 768] S256x128.size inb_S256x1024_S256x128_0_768
abbrev r0_40 : Rect S1024x128 := ⟨(⟨![1, 0], S256x128.size, ![4, 1], inb_S1024x128_S256x128_1_0_s_4_1⟩ : LoadRect S1024x128), spos_4_1⟩
abbrev r0_41 : Rect S1024x128 := ⟨(⟨![3, 0], S256x128.size, ![4, 1], inb_S1024x128_S256x128_3_0_s_4_1⟩ : LoadRect S1024x128), spos_4_1⟩
abbrev r0_42 : Rect S256x1024 := Rect.unit (s := S256x1024) ![0, 640] S256x128.size inb_S256x1024_S256x128_0_640
abbrev r0_43 : Rect S256x1024 := Rect.unit (s := S256x1024) ![0, 896] S256x128.size inb_S256x1024_S256x128_0_896
abbrev r0_44 : Rect S2048x2688 := Rect.unit (s := S2048x2688) ![0, 2560] S2048x128.size inb_S2048x2688_S2048x128_0_2560

/-! ## What the body leaves in each output window's buffer -/

/-! ### Values of the body that the stores' payloads, spelt out, would write more than once
    Each is a vector the body binds (often a part call's result), stated over the input windows' blocks and
    numbered on from the skeleton's payload functions (`k0_pay58` …, after `k0_pay57`), so that
    `out0_W` and the values after it name it instead of spelling it out (`unfold_out out0_W` opens a canon
    with them, `unfold_payloads` opens them with the payloads); the comment after each is the printed function's
    name for the value (a count appended where that name is bound again). -/

def k0_pay58 (x0 : Vec F S256x2048 .f32) (x1 : Vec F S1x2048 .f32) (x2 : Vec F S2048x2688 .bf16) (x3 : Vec F S256x128 .f32) (x4 : Vec F S256x128 .f32) : FVec F S256x2048 .bf16 :=
  k0_pay4 (View.ld x0 r0_0) (View.ld x1 r0_1) -- `v16`
def k0_pay59 (x0 : Vec F S256x2048 .f32) (x1 : Vec F S1x2048 .f32) (x2 : Vec F S2048x2688 .bf16) (x3 : Vec F S256x128 .f32) (x4 : Vec F S256x128 .f32) : FVec F S256x128 .f32 :=
  k0_pay5 (View.ld x3 r0_2) -- `v19`
def k0_pay60 (x0 : Vec F S256x2048 .f32) (x1 : Vec F S1x2048 .f32) (x2 : Vec F S2048x2688 .bf16) (x3 : Vec F S256x128 .f32) (x4 : Vec F S256x128 .f32) : FVec F S256x128 .f32 :=
  k0_pay6 (View.ld x4 r0_2) -- `v21`
def k0_pay61 (x0 : Vec F S256x2048 .f32) (x1 : Vec F S1x2048 .f32) (x2 : Vec F S2048x2688 .bf16) (x3 : Vec F S256x128 .f32) (x4 : Vec F S256x128 .f32) : FVec F S256x512 .f32 :=
  k0_pay7 (View.ld x0 r0_0) (View.ld x1 r0_1) (View.ld x2 r0_3) -- `v24`
def k0_pay62 (x0 : Vec F S256x2048 .f32) (x1 : Vec F S1x2048 .f32) (x2 : Vec F S2048x2688 .bf16) (x3 : Vec F S256x128 .f32) (x4 : Vec F S256x128 .f32) : FVec F S256x128 .f32 :=
  k0_pay11 (View.ld x0 r0_0) (View.ld x1 r0_1) (View.ld x2 r0_3) -- `v34`
def k0_pay63 (x0 : Vec F S256x2048 .f32) (x1 : Vec F S1x2048 .f32) (x2 : Vec F S2048x2688 .bf16) (x3 : Vec F S256x128 .f32) (x4 : Vec F S256x128 .f32) : FVec F S256x512 .f32 :=
  k0_pay20 (k0_pay58 x0 x1 x2 x3 x4) (View.ld x2 r0_12) -- `v63`
def k0_pay64 (x0 : Vec F S256x2048 .f32) (x1 : Vec F S1x2048 .f32) (x2 : Vec F S2048x2688 .bf16) (x3 : Vec F S256x128 .f32) (x4 : Vec F S256x128 .f32) : FVec F S256x128 .f32 :=
  k0_pay45 (k0_pay58 x0 x1 x2 x3 x4) (View.ld x2 r0_26) -- `v127`
def k0_pay65 (x0 : Vec F S256x2048 .f32) (x1 : Vec F S1x2048 .f32) (x2 : Vec F S2048x2688 .bf16) (x3 : Vec F S256x128 .f32) (x4 : Vec F S256x128 .f32) : FVec F S256x128 .f32 :=
  k0_pay46 (k0_pay58 x0 x1 x2 x3 x4) (k0_pay59 x0 x1 x2 x3 x4) (View.ld x2 r0_26) -- `v128`
def k0_pay66 (x0 : Vec F S256x2048 .f32) (x1 : Vec F S1x2048 .f32) (x2 : Vec F S2048x2688 .bf16) (x3 : Vec F S256x128 .f32) (x4 : Vec F S256x128 .f32) : FVec F S256x128 .f32 :=
  k0_pay47 (k0_pay58 x0 x1 x2 x3 x4) (k0_pay60 x0 x1 x2 x3 x4) (View.ld x2 r0_26) -- `v130`
def k0_pay67 (x0 : Vec F S256x2048 .f32) (x1 : Vec F S1x2048 .f32) (x2 : Vec F S2048x2688 .bf16) (x3 : Vec F S256x128 .f32) (x4 : Vec F S256x128 .f32) : FVec F S256x128 .f32 :=
  k0_pay56 (k0_pay58 x0 x1 x2 x3 x4) (View.ld x2 r0_35) -- `v154`
def k0_pay68 (x0 : Vec F S256x2048 .f32) (x1 : Vec F S1x2048 .f32) (x2 : Vec F S2048x2688 .bf16) (x3 : Vec F S256x128 .f32) (x4 : Vec F S256x128 .f32) : FVec F S256x128 .f32 :=
  k0_pay57 (k0_pay58 x0 x1 x2 x3 x4) (k0_pay59 x0 x1 x2 x3 x4) (k0_pay60 x0 x1 x2 x3 x4) (View.ld x2 r0_35) -- `v158`

/-- Window 5's staging buffer after the body, from the input windows' blocks: its 16 stores as pieces, LAST
    FIRST. -/
def out0_5 (x0 : Vec F S256x2048 .f32) (x1 : Vec F S1x2048 .f32) (x2 : Vec F S2048x2688 .bf16) (x3 : Vec F S256x128 .f32) (x4 : Vec F S256x128 .f32) : Vec F S256x2048 .bf16 :=
  View.canon [⟨r0_20, k0_pay33 (k0_pay59 x0 x1 x2 x3 x4) (k0_pay60 x0 x1 x2 x3 x4) (k0_pay63 x0 x1 x2 x3 x4)⟩,
    ⟨r0_19, k0_pay32 (k0_pay63 x0 x1 x2 x3 x4)⟩,
    ⟨r0_18, k0_pay30 (k0_pay59 x0 x1 x2 x3 x4) (k0_pay60 x0 x1 x2 x3 x4) (k0_pay63 x0 x1 x2 x3 x4)⟩,
    ⟨r0_17, k0_pay29 (k0_pay63 x0 x1 x2 x3 x4)⟩,
    ⟨r0_16, k0_pay27 (k0_pay59 x0 x1 x2 x3 x4) (k0_pay60 x0 x1 x2 x3 x4) (k0_pay63 x0 x1 x2 x3 x4)⟩,
    ⟨r0_15, k0_pay26 (k0_pay63 x0 x1 x2 x3 x4)⟩,
    ⟨r0_14, k0_pay24 (k0_pay60 x0 x1 x2 x3 x4) (k0_pay21 (k0_pay58 x0 x1 x2 x3 x4) (View.ld x2 r0_12)) (k0_pay23 (k0_pay58 x0 x1 x2 x3 x4) (k0_pay59 x0 x1 x2 x3 x4) (View.ld x2 r0_12))⟩,
    ⟨r0_13, k0_pay22 (k0_pay58 x0 x1 x2 x3 x4) (View.ld x2 r0_12)⟩,
    ⟨r0_11, k0_pay19 (k0_pay59 x0 x1 x2 x3 x4) (k0_pay60 x0 x1 x2 x3 x4) (k0_pay61 x0 x1 x2 x3 x4)⟩,
    ⟨r0_10, k0_pay18 (k0_pay61 x0 x1 x2 x3 x4)⟩,
    ⟨r0_9, k0_pay16 (k0_pay59 x0 x1 x2 x3 x4) (k0_pay60 x0 x1 x2 x3 x4) (k0_pay61 x0 x1 x2 x3 x4)⟩,
    ⟨r0_8, k0_pay15 (k0_pay61 x0 x1 x2 x3 x4)⟩,
    ⟨r0_7, k0_pay13 (k0_pay59 x0 x1 x2 x3 x4) (k0_pay60 x0 x1 x2 x3 x4) (k0_pay62 x0 x1 x2 x3 x4)⟩,
    ⟨r0_6, k0_pay12 (k0_pay62 x0 x1 x2 x3 x4)⟩,
    ⟨r0_5, k0_pay10 (View.ld x0 r0_0) (View.ld x1 r0_1) (View.ld x3 r0_2) (View.ld x4 r0_2) (View.ld x2 r0_3)⟩,
    ⟨r0_4, k0_pay9 (View.ld x0 r0_0) (View.ld x1 r0_1) (View.ld x2 r0_3)⟩]

/-- Its stores tile the buffer (checked by evaluation), so they cover it. -/
theorem cover0_5 (p0 : Vec F S256x128 .bf16) (p1 : Vec F S256x128 .bf16) (p2 : Vec F S256x128 .bf16) (p3 : Vec F S256x128 .bf16) (p4 : Vec F S256x128 .bf16) (p5 : Vec F S256x128 .bf16) (p6 : Vec F S256x128 .bf16) (p7 : Vec F S256x128 .bf16) (p8 : Vec F S256x128 .bf16) (p9 : Vec F S256x128 .bf16) (p10 : Vec F S256x128 .bf16) (p11 : Vec F S256x128 .bf16) (p12 : Vec F S256x128 .bf16) (p13 : Vec F S256x128 .bf16) (p14 : Vec F S256x128 .bf16) (p15 : Vec F S256x128 .bf16) (y : S256x2048.Idx) :
    ∃ pc ∈ ([⟨r0_20, p0⟩, ⟨r0_19, p1⟩, ⟨r0_18, p2⟩, ⟨r0_17, p3⟩, ⟨r0_16, p4⟩, ⟨r0_15, p5⟩, ⟨r0_14, p6⟩, ⟨r0_13, p7⟩, ⟨r0_11, p8⟩, ⟨r0_10, p9⟩, ⟨r0_9, p10⟩, ⟨r0_8, p11⟩, ⟨r0_7, p12⟩, ⟨r0_6, p13⟩, ⟨r0_5, p14⟩, ⟨r0_4, p15⟩] : List (View.Piece (Elt F) S256x2048 .bf16)), y ∈ pc.1.set :=
  View.cover_of_tiled [⟨r0_20, p0⟩, ⟨r0_19, p1⟩, ⟨r0_18, p2⟩, ⟨r0_17, p3⟩, ⟨r0_16, p4⟩, ⟨r0_15, p5⟩, ⟨r0_14, p6⟩, ⟨r0_13, p7⟩, ⟨r0_11, p8⟩, ⟨r0_10, p9⟩, ⟨r0_9, p10⟩, ⟨r0_8, p11⟩, ⟨r0_7, p12⟩, ⟨r0_6, p13⟩, ⟨r0_5, p14⟩, ⟨r0_4, p15⟩] S256x128.size (by rfl) y

/-- Window 6's staging buffer after the body, from the input windows' blocks: its 8 stores as pieces, LAST
    FIRST. -/
def out0_6 (x0 : Vec F S256x2048 .f32) (x1 : Vec F S1x2048 .f32) (x2 : Vec F S2048x2688 .bf16) (x3 : Vec F S256x128 .f32) (x4 : Vec F S256x128 .f32) : Vec F S2048x128 .f32 :=
  View.canon [⟨r0_32, k0_pay64 x0 x1 x2 x3 x4⟩,
    ⟨r0_31, k0_pay48 (k0_pay65 x0 x1 x2 x3 x4) (k0_pay66 x0 x1 x2 x3 x4)⟩,
    ⟨r0_28, k0_pay40 (k0_pay58 x0 x1 x2 x3 x4) (View.ld x2 r0_26)⟩,
    ⟨r0_27, k0_pay41 (k0_pay58 x0 x1 x2 x3 x4) (k0_pay59 x0 x1 x2 x3 x4) (k0_pay60 x0 x1 x2 x3 x4) (View.ld x2 r0_26)⟩,
    ⟨r0_25, k0_pay38 (k0_pay58 x0 x1 x2 x3 x4) (View.ld x2 r0_21)⟩,
    ⟨r0_24, k0_pay37 (k0_pay58 x0 x1 x2 x3 x4) (View.ld x2 r0_21)⟩,
    ⟨r0_23, k0_pay36 (k0_pay58 x0 x1 x2 x3 x4) (View.ld x2 r0_21)⟩,
    ⟨r0_22, k0_pay35 (k0_pay58 x0 x1 x2 x3 x4) (View.ld x2 r0_21)⟩]

/-- The stores' rows, one residue of the row number each, cover the buffer. -/
theorem cover0_6 (p0 : Vec F S256x128 .f32) (p1 : Vec F S256x128 .f32) (p2 : Vec F S256x128 .f32) (p3 : Vec F S256x128 .f32) (p4 : Vec F S256x128 .f32) (p5 : Vec F S256x128 .f32) (p6 : Vec F S256x128 .f32) (p7 : Vec F S256x128 .f32) (y : S2048x128.Idx) :
    ∃ pc ∈ ([⟨r0_32, p0⟩, ⟨r0_31, p1⟩, ⟨r0_28, p2⟩, ⟨r0_27, p3⟩, ⟨r0_25, p4⟩, ⟨r0_24, p5⟩, ⟨r0_23, p6⟩, ⟨r0_22, p7⟩] : List (View.Piece (Elt F) S2048x128 .f32)), y ∈ pc.1.set :=
  by
  have h0 : ((y 0 : Fin _) : ℕ) < 2048 := (y 0).isLt
  have h1 : ((y 1 : Fin _) : ℕ) < 128 := (y 1).isLt
  have hk : ∀ k < 8, (y 0 : ℕ) % 8 = k → ∀ a : Fin 2, ∃ j < S256x128.size a,
      (y a : ℕ) = (![k, 0] : Fin 2 → ℕ) a + (![8, 1] : Fin 2 → ℕ) a * j := by
    intro k _ hkk a
    fin_cases a
    · exact ⟨(y 0 : ℕ) / 8, (by show _ < 256; omega), (by show (y 0 : ℕ) = k + 8 * _; omega)⟩
    · exact ⟨(y 1 : ℕ), h1, (by show (y 1 : ℕ) = 0 + 1 * _; omega)⟩
  have hr : (y 0 : ℕ) % 8 < 8 := Nat.mod_lt _ (by decide)
  rcases (by omega : (y 0 : ℕ) % 8 = 0 ∨ (y 0 : ℕ) % 8 = 1 ∨ (y 0 : ℕ) % 8 = 2 ∨ (y 0 : ℕ) % 8 = 3 ∨ (y 0 : ℕ) % 8 = 4 ∨ (y 0 : ℕ) % 8 = 5 ∨ (y 0 : ℕ) % 8 = 6 ∨ (y 0 : ℕ) % 8 = 7) with h | h | h | h | h | h | h | h
  · exact ⟨⟨r0_22, p7⟩, List.mem_cons_of_mem _ (List.mem_cons_of_mem _ (List.mem_cons_of_mem _ (List.mem_cons_of_mem _ (List.mem_cons_of_mem _ (List.mem_cons_of_mem _ (List.mem_cons_of_mem _ (List.mem_cons_self))))))), (r0_22).toLoadRect.mem_set.mpr (hk 0 (by decide) h)⟩
  · exact ⟨⟨r0_24, p5⟩, List.mem_cons_of_mem _ (List.mem_cons_of_mem _ (List.mem_cons_of_mem _ (List.mem_cons_of_mem _ (List.mem_cons_of_mem _ (List.mem_cons_self))))), (r0_24).toLoadRect.mem_set.mpr (hk 1 (by decide) h)⟩
  · exact ⟨⟨r0_23, p6⟩, List.mem_cons_of_mem _ (List.mem_cons_of_mem _ (List.mem_cons_of_mem _ (List.mem_cons_of_mem _ (List.mem_cons_of_mem _ (List.mem_cons_of_mem _ (List.mem_cons_self)))))), (r0_23).toLoadRect.mem_set.mpr (hk 2 (by decide) h)⟩
  · exact ⟨⟨r0_25, p4⟩, List.mem_cons_of_mem _ (List.mem_cons_of_mem _ (List.mem_cons_of_mem _ (List.mem_cons_of_mem _ (List.mem_cons_self)))), (r0_25).toLoadRect.mem_set.mpr (hk 3 (by decide) h)⟩
  · exact ⟨⟨r0_27, p3⟩, List.mem_cons_of_mem _ (List.mem_cons_of_mem _ (List.mem_cons_of_mem _ (List.mem_cons_self))), (r0_27).toLoadRect.mem_set.mpr (hk 4 (by decide) h)⟩
  · exact ⟨⟨r0_31, p1⟩, List.mem_cons_of_mem _ (List.mem_cons_self), (r0_31).toLoadRect.mem_set.mpr (hk 5 (by decide) h)⟩
  · exact ⟨⟨r0_28, p2⟩, List.mem_cons_of_mem _ (List.mem_cons_of_mem _ (List.mem_cons_self)), (r0_28).toLoadRect.mem_set.mpr (hk 6 (by decide) h)⟩
  · exact ⟨⟨r0_32, p0⟩, List.mem_cons_self, (r0_32).toLoadRect.mem_set.mpr (hk 7 (by decide) h)⟩

/-- Window 7's staging buffer after the body, from the input windows' blocks: its 4 stores as pieces, LAST
    FIRST. -/
def out0_7 (x0 : Vec F S256x2048 .f32) (x1 : Vec F S1x2048 .f32) (x2 : Vec F S2048x2688 .bf16) (x3 : Vec F S256x128 .f32) (x4 : Vec F S256x128 .f32) : Vec F S1024x128 .f32 :=
  View.canon [⟨r0_41, k0_pay67 x0 x1 x2 x3 x4⟩,
    ⟨r0_40, k0_pay68 x0 x1 x2 x3 x4⟩,
    ⟨r0_37, k0_pay52 (k0_pay58 x0 x1 x2 x3 x4) (View.ld x2 r0_35)⟩,
    ⟨r0_36, k0_pay53 (k0_pay58 x0 x1 x2 x3 x4) (k0_pay59 x0 x1 x2 x3 x4) (k0_pay60 x0 x1 x2 x3 x4) (View.ld x2 r0_35)⟩]

/-- The stores' rows, one residue of the row number each, cover the buffer. -/
theorem cover0_7 (p0 : Vec F S256x128 .f32) (p1 : Vec F S256x128 .f32) (p2 : Vec F S256x128 .f32) (p3 : Vec F S256x128 .f32) (y : S1024x128.Idx) :
    ∃ pc ∈ ([⟨r0_41, p0⟩, ⟨r0_40, p1⟩, ⟨r0_37, p2⟩, ⟨r0_36, p3⟩] : List (View.Piece (Elt F) S1024x128 .f32)), y ∈ pc.1.set :=
  by
  have h0 : ((y 0 : Fin _) : ℕ) < 1024 := (y 0).isLt
  have h1 : ((y 1 : Fin _) : ℕ) < 128 := (y 1).isLt
  have hk : ∀ k < 4, (y 0 : ℕ) % 4 = k → ∀ a : Fin 2, ∃ j < S256x128.size a,
      (y a : ℕ) = (![k, 0] : Fin 2 → ℕ) a + (![4, 1] : Fin 2 → ℕ) a * j := by
    intro k _ hkk a
    fin_cases a
    · exact ⟨(y 0 : ℕ) / 4, (by show _ < 256; omega), (by show (y 0 : ℕ) = k + 4 * _; omega)⟩
    · exact ⟨(y 1 : ℕ), h1, (by show (y 1 : ℕ) = 0 + 1 * _; omega)⟩
  have hr : (y 0 : ℕ) % 4 < 4 := Nat.mod_lt _ (by decide)
  rcases (by omega : (y 0 : ℕ) % 4 = 0 ∨ (y 0 : ℕ) % 4 = 1 ∨ (y 0 : ℕ) % 4 = 2 ∨ (y 0 : ℕ) % 4 = 3) with h | h | h | h
  · exact ⟨⟨r0_36, p3⟩, List.mem_cons_of_mem _ (List.mem_cons_of_mem _ (List.mem_cons_of_mem _ (List.mem_cons_self))), (r0_36).toLoadRect.mem_set.mpr (hk 0 (by decide) h)⟩
  · exact ⟨⟨r0_40, p1⟩, List.mem_cons_of_mem _ (List.mem_cons_self), (r0_40).toLoadRect.mem_set.mpr (hk 1 (by decide) h)⟩
  · exact ⟨⟨r0_37, p2⟩, List.mem_cons_of_mem _ (List.mem_cons_of_mem _ (List.mem_cons_self)), (r0_37).toLoadRect.mem_set.mpr (hk 2 (by decide) h)⟩
  · exact ⟨⟨r0_41, p0⟩, List.mem_cons_self, (r0_41).toLoadRect.mem_set.mpr (hk 3 (by decide) h)⟩

/-- Window 8's staging buffer after the body, from the input windows' blocks: its 1 store as pieces, LAST
    FIRST. -/
def out0_8 (x0 : Vec F S256x2048 .f32) (x1 : Vec F S1x2048 .f32) (x2 : Vec F S2048x2688 .bf16) (x3 : Vec F S256x128 .f32) (x4 : Vec F S256x128 .f32) : Vec F S256x128 .f32 :=
  View.canon [⟨r0_2, k0_pay3 (k0_pay58 x0 x1 x2 x3 x4) (View.ld x2 r0_44)⟩]

/-- Its stores tile the buffer (checked by evaluation), so they cover it. -/
theorem cover0_8 (p0 : Vec F S256x128 .f32) (y : S256x128.Idx) :
    ∃ pc ∈ ([⟨r0_2, p0⟩] : List (View.Piece (Elt F) S256x128 .f32)), y ∈ pc.1.set :=
  View.cover_of_tiled [⟨r0_2, p0⟩] S256x128.size (by rfl) y

/-- Window 9's staging buffer after the body, from the input windows' blocks: its 8 stores as pieces, LAST
    FIRST. -/
def out0_9 (x0 : Vec F S256x2048 .f32) (x1 : Vec F S1x2048 .f32) (x2 : Vec F S2048x2688 .bf16) (x3 : Vec F S256x128 .f32) (x4 : Vec F S256x128 .f32) : Vec F S256x1024 .bf16 :=
  View.canon [⟨r0_43, k0_pay2 (k0_pay67 x0 x1 x2 x3 x4)⟩,
    ⟨r0_42, k0_pay1 (k0_pay68 x0 x1 x2 x3 x4)⟩,
    ⟨r0_39, k0_pay55 (k0_pay58 x0 x1 x2 x3 x4) (View.ld x2 r0_35)⟩,
    ⟨r0_38, k0_pay54 (k0_pay58 x0 x1 x2 x3 x4) (k0_pay59 x0 x1 x2 x3 x4) (k0_pay60 x0 x1 x2 x3 x4) (View.ld x2 r0_35)⟩,
    ⟨r0_34, k0_pay50 (k0_pay64 x0 x1 x2 x3 x4)⟩,
    ⟨r0_33, k0_pay49 (k0_pay65 x0 x1 x2 x3 x4) (k0_pay66 x0 x1 x2 x3 x4)⟩,
    ⟨r0_30, k0_pay43 (k0_pay58 x0 x1 x2 x3 x4) (View.ld x2 r0_26)⟩,
    ⟨r0_29, k0_pay42 (k0_pay58 x0 x1 x2 x3 x4) (k0_pay59 x0 x1 x2 x3 x4) (k0_pay60 x0 x1 x2 x3 x4) (View.ld x2 r0_26)⟩]

/-- Its stores tile the buffer (checked by evaluation), so they cover it. -/
theorem cover0_9 (p0 : Vec F S256x128 .bf16) (p1 : Vec F S256x128 .bf16) (p2 : Vec F S256x128 .bf16) (p3 : Vec F S256x128 .bf16) (p4 : Vec F S256x128 .bf16) (p5 : Vec F S256x128 .bf16) (p6 : Vec F S256x128 .bf16) (p7 : Vec F S256x128 .bf16) (y : S256x1024.Idx) :
    ∃ pc ∈ ([⟨r0_43, p0⟩, ⟨r0_42, p1⟩, ⟨r0_39, p2⟩, ⟨r0_38, p3⟩, ⟨r0_34, p4⟩, ⟨r0_33, p5⟩, ⟨r0_30, p6⟩, ⟨r0_29, p7⟩] : List (View.Piece (Elt F) S256x1024 .bf16)), y ∈ pc.1.set :=
  View.cover_of_tiled [⟨r0_43, p0⟩, ⟨r0_42, p1⟩, ⟨r0_39, p2⟩, ⟨r0_38, p3⟩, ⟨r0_34, p4⟩, ⟨r0_33, p5⟩, ⟨r0_30, p6⟩, ⟨r0_29, p7⟩] S256x128.size (by rfl) y

/-- Window 10's staging buffer after the body, from the input windows' blocks: its 1 store as pieces, LAST
    FIRST. -/
def out0_10 (x0 : Vec F S256x2048 .f32) (x1 : Vec F S1x2048 .f32) (x2 : Vec F S2048x2688 .bf16) (x3 : Vec F S256x128 .f32) (x4 : Vec F S256x128 .f32) : Vec F S256x2048 .bf16 :=
  View.canon [⟨r0_0, k0_pay4 (View.ld x0 r0_0) (View.ld x1 r0_1)⟩]

/-- Its stores tile the buffer (checked by evaluation), so they cover it. -/
theorem cover0_10 (p0 : Vec F S256x2048 .bf16) (y : S256x2048.Idx) :
    ∃ pc ∈ ([⟨r0_0, p0⟩] : List (View.Piece (Elt F) S256x2048 .bf16)), y ∈ pc.1.set :=
  View.cover_of_tiled [⟨r0_0, p0⟩] S256x2048.size (by rfl) y

/-! ## The body's triple -/

set_option maxHeartbeats 1000000 in
/-- The kernel body on whole staging memrefs, the inputs' at read contents `xW` and the outputs' at anything, runs to
    the continuation holding the inputs' as they were and each output's at `out0_W` of the inputs': the printed functions
    are their skeletons (`*_eq_skeleton`), which `sl_exec` runs, through every part call. -/
theorem sound_kernel0 (c : Dev nD) (E : Set ℕ) (i : grid0.Coords) (arg1 : Memref sig .tc .vmem S256x2048 .f32) (harg1 : arg1.IsWhole) (arg2 : Memref sig .tc .vmem S1x2048 .f32) (harg2 : arg2.IsWhole) (arg3 : Memref sig .tc .vmem S2048x2688 .bf16) (harg3 : arg3.IsWhole) (arg4 : Memref sig .tc .vmem S256x128 .f32) (harg4 : arg4.IsWhole) (arg5 : Memref sig .tc .vmem S256x128 .f32) (harg5 : arg5.IsWhole) (arg6 : Memref sig .tc .vmem S256x2048 .bf16) (harg6 : arg6.IsWhole) (arg7 : Memref sig .tc .vmem S2048x128 .f32) (harg7 : arg7.IsWhole) (arg8 : Memref sig .tc .vmem S1024x128 .f32) (harg8 : arg8.IsWhole) (arg9 : Memref sig .tc .vmem S256x128 .f32) (harg9 : arg9.IsWhole) (arg10 : Memref sig .tc .vmem S256x1024 .bf16) (harg10 : arg10.IsWhole) (arg11 : Memref sig .tc .vmem S256x2048 .bf16) (harg11 : arg11.IsWhole)
    (x0 : Vec F S256x2048 .f32) (x1 : Vec F S1x2048 .f32) (x2 : Vec F S2048x2688 .bf16) (x3 : Vec F S256x128 .f32) (x4 : Vec F S256x128 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare (out0_5 x0 x1 x2 x3 x4) ∗ owns (c : Thread nD τ) arg7 fullShare (out0_6 x0 x1 x2 x3 x4) ∗ owns (c : Thread nD τ) arg8 fullShare (out0_7 x0 x1 x2 x3 x4) ∗ owns (c : Thread nD τ) arg9 fullShare (out0_8 x0 x1 x2 x3 x4) ∗ owns (c : Thread nD τ) arg10 fullShare (out0_9 x0 x1 x2 x3 x4) ∗ owns (c : Thread nD τ) arg11 fullShare (out0_10 x0 x1 x2 x3 x4)) -∗ K ⟨⟩))
      ⊢ wp frame (wpE (defs₀ (F := F)) Variants.none c none) E (cc0_qkv_proj i arg1 harg1 arg2 harg2 arg3 harg3 arg4 harg4 arg5 harg5 arg6 harg6 arg7 harg7 arg8 harg8 arg9 harg9 arg10 harg10 arg11 harg11) K := by
  simp only [cc0_qkv_proj_eq_skeleton]; unfold cc0_qkv_proj_skel
  simp only [k0_part1_eq_skeleton, k0_part2_eq_skeleton, k0_part3_eq_skeleton, k0_part4_eq_skeleton, k0_part5_eq_skeleton]
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, ⟨%d7, %f7, -, H7⟩, ⟨%d8, %f8, -, H8⟩, ⟨%d9, %f9, -, H9⟩, ⟨%d10, %f10, -, H10⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists _; isplitr
    swap; · iexact H5
    ipureintro
    refine (View.read_writes_eq_canon _ _ _ (cover0_5 _ _ _ _ _ _ _ _ _ _ _ _ _ _ _ _)).trans ?_
    rfl
  isplitl [H6]
  · iexists _; isplitr
    swap; · iexact H6
    ipureintro
    refine (View.read_writes_eq_canon _ _ _ (cover0_6 _ _ _ _ _ _ _ _)).trans ?_
    rfl
  isplitl [H7]
  · iexists _; isplitr
    swap; · iexact H7
    ipureintro
    refine (View.read_writes_eq_canon _ _ _ (cover0_7 _ _ _ _)).trans ?_
    rfl
  isplitl [H8]
  · iexists _; isplitr
    swap; · iexact H8
    ipureintro
    refine (View.read_writes_eq_canon _ _ _ (cover0_8 _)).trans ?_
    rfl
  isplitl [H9]
  · iexists _; isplitr
    swap; · iexact H9
    ipureintro
    refine (View.read_writes_eq_canon _ _ _ (cover0_9 _ _ _ _ _ _ _ _)).trans ?_
    rfl
  iexists _; isplitr
  swap; · iexact H10
  ipureintro
  refine (View.read_writes_eq_canon _ _ _ (cover0_10 _)).trans ?_
  rfl

/-! ## The pipeline's proof data -/

/-- The proof data of pipeline 0 on core `c`: the arrays as the region finds them (`V`); after the body at
    point `t` each input's buffer at its block and each output's at `out0_W` of the input blocks; the invariant the
    class's; nothing owed;
    full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => out0_5 (iblk0 V c 0 t) (iblk0 V c 1 t) (iblk0 V c 2 t) (iblk0 V c 3 t) (iblk0 V c 4 t)
    | ⟨6, _⟩ => out0_6 (iblk0 V c 0 t) (iblk0 V c 1 t) (iblk0 V c 2 t) (iblk0 V c 3 t) (iblk0 V c 4 t)
    | ⟨7, _⟩ => out0_7 (iblk0 V c 0 t) (iblk0 V c 1 t) (iblk0 V c 2 t) (iblk0 V c 3 t) (iblk0 V c 4 t)
    | ⟨8, _⟩ => out0_8 (iblk0 V c 0 t) (iblk0 V c 1 t) (iblk0 V c 2 t) (iblk0 V c 3 t) (iblk0 V c 4 t)
    | ⟨9, _⟩ => out0_9 (iblk0 V c 0 t) (iblk0 V c 1 t) (iblk0 V c 2 t) (iblk0 V c 3 t) (iblk0 V c 4 t)
    | ⟨10, _⟩ => out0_10 (iblk0 V c 0 t) (iblk0 V c 1 t) (iblk0 V c 2 t) (iblk0 V c 3 t) (iblk0 V c 4 t)
  Φ _ := Pipeline.ΦA spec0 c
  q _ := fullShare
  owed _ := 0

/-- The proof data's arrays are the region-entry contents, by projecting the definition (`dsimp`): a region record cites
    this for its arrays rather than have Lean unfold `V`, the fold through @main up to the region's entry. -/
theorem A_eq0 (c : Dev nD) (w : Fin cfg0.W) : (dat0 V c).A w = V c (Pipeline.arrRef spec0 w) := by
  dsimp only [dat0]

/-- What the body leaves, window by window (the proof data's `match` reduced by `dsimp`, never `rfl`: `Dat`). -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = out0_5 (iblk0 V c 0 t) (iblk0 V c 1 t) (iblk0 V c 2 t) (iblk0 V c 3 t) (iblk0 V c 4 t) := by dsimp only [dat0]
theorem after0_6 (c : Dev nD) (t : Fin cfg0.N) : (dat0 V c).after 6 t = out0_6 (iblk0 V c 0 t) (iblk0 V c 1 t) (iblk0 V c 2 t) (iblk0 V c 3 t) (iblk0 V c 4 t) := by dsimp only [dat0]
theorem after0_7 (c : Dev nD) (t : Fin cfg0.N) : (dat0 V c).after 7 t = out0_7 (iblk0 V c 0 t) (iblk0 V c 1 t) (iblk0 V c 2 t) (iblk0 V c 3 t) (iblk0 V c 4 t) := by dsimp only [dat0]
theorem after0_8 (c : Dev nD) (t : Fin cfg0.N) : (dat0 V c).after 8 t = out0_8 (iblk0 V c 0 t) (iblk0 V c 1 t) (iblk0 V c 2 t) (iblk0 V c 3 t) (iblk0 V c 4 t) := by dsimp only [dat0]
theorem after0_9 (c : Dev nD) (t : Fin cfg0.N) : (dat0 V c).after 9 t = out0_9 (iblk0 V c 0 t) (iblk0 V c 1 t) (iblk0 V c 2 t) (iblk0 V c 3 t) (iblk0 V c 4 t) := by dsimp only [dat0]
theorem after0_10 (c : Dev nD) (t : Fin cfg0.N) : (dat0 V c).after 10 t = out0_10 (iblk0 V c 0 t) (iblk0 V c 1 t) (iblk0 V c 2 t) (iblk0 V c 3 t) (iblk0 V c 4 t) := by dsimp only [dat0]

/-- Each input's current staging buffer holds its block at every point, fetched there or not (`beforeK_W_of`). -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d

/-! ## The body obligation, at a generic point -/

/-- What the body is called with at point `t`, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d))
    ∗ (∃ d, owns (c : Thread nD τ) (st0_7 t) fullShare ((dat0 V c).before 7 t d))
    ∗ (∃ d, owns (c : Thread nD τ) (st0_8 t) fullShare ((dat0 V c).before 8 t d))
    ∗ (∃ d, owns (c : Thread nD τ) (st0_9 t) fullShare ((dat0 V c).before 9 t d))
    ∗ (∃ d, owns (c : Thread nD τ) (st0_10 t) fullShare ((dat0 V c).before 10 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t)
    ∗ owns (c : Thread nD τ) (st0_7 t) fullShare ((dat0 V c).after 7 t)
    ∗ owns (c : Thread nD τ) (st0_8 t) fullShare ((dat0 V c).after 8 t)
    ∗ owns (c : Thread nD τ) (st0_9 t) fullShare ((dat0 V c).after 9 t)
    ∗ owns (c : Thread nD τ) (st0_10 t) fullShare ((dat0 V c).after 10 t))

/-- The body at any point: the inputs' memrefs hold their blocks (`before0_W`), so `sound_kernel0` applies; the invariant and
    the core's `owes` pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4]
  rw [show (dat0 V c).Φ t.succ = (dat0 V c).Φ t.castSucc from rfl,
    show (dat0 V c).owesAt () t.succ = (dat0 V c).owesAt () t.castSucc from rfl,
    after0_0, after0_1, after0_2, after0_3, after0_4, after0_5, after0_6, after0_7, after0_8, after0_9, after0_10]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
  iapply (sound_kernel0 c Set.univ (grid0.coords t) _ _ _ _ _ _ _ _ _ _ _ _ _ _ _ _ _ _ _ _ _ _ (iblk0 V c 0 t) (iblk0 V c 1 t) (iblk0 V c 2 t) (iblk0 V c 3 t) (iblk0 V c 4 t) _)
  isplitl [H0]; · iexact H0
  isplitl [H1]; · iexact H1
  isplitl [H2]; · iexact H2
  isplitl [H3]; · iexact H3
  isplitl [H4]; · iexact H4
  isplitl [H5]; · iexists _; iexact H5
  isplitl [H6]; · iexists _; iexact H6
  isplitl [H7]; · iexists _; iexact H7
  isplitl [H8]; · iexists _; iexact H8
  isplitl [H9]; · iexists _; iexact H9
  isplitl [H10]; · iexists _; iexact H10
  iintro ⟨H0, H1, H2, H3, H4, H5, H6, H7, H8, H9, H10⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  iexact H10

/-- The body table's row at point `t`'s slots is the body as `bodyAt0` spells it. -/
theorem defs₀_row0 (t : Fin cfg0.N) :
    defs₀ (F := F) .tc cfg0.body (cfg0.bodyArgs t (cfg0.slots t)) = bodyAt0 t := by
  unfold defs₀; rw [Defs.onTc_tc]

/-- The library's body obligation, at every point: the body's triple restated. -/
theorem body_obligation0 (c : Dev nD) : BodyObligation (dat0 (F := F) V c) (defs₀ (F := F)) Variants.none () Set.univ := fun t => by
  rw [bigSep_W0, bigSep_W0, defs₀_row0]
  exact triple_restated (sound_body0 V c t) rfl .rfl fun _ => .rfl

end Regions

end Cert.Proof.SI
-- ==== Proof.SampleIdeal.Frame.lean ====
module

public import proofs.«01_k».proof.Proof.Gen.SampleIdeal.Launch
public import proofs.«01_k».proof.Proof.Gen.SampleIdeal.Skeleton
public import proofs.«01_k».proof.Proof.Gen.SampleIdeal.Points
public import proofs.«01_k».proof.Proof.SampleIdeal.Qkv
public import Idealize.ShloMosaic.Lib.Pipeline.FrameBody
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.WordCmp

@[expose] public section

set_option maxRecDepth 16384

noncomputable section

namespace Cert.Proof.SI

open Cert.SampleIdeal Cert.SampleIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
section Regions
-- the TensorCore's buffer contents when a region is entered: the parameter every region's half is stated at, which
-- the run instantiates per region
variable (V : (c : Dev nD) → (b : Ref sig .tc) → Buf (Elt F) ((c : Thread nD τ).loc b))

/-! # REGION 1 of @main: custom_call 1, `cc1_mixer_proj` (pipeline 1), at the entry contents `V` -/

/-! ## The windows' blocks -/

/-- Window `w`'s block at point `t`, read off its array as the region finds it (`V`). -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, fetched there or not, for ANY proof
    data whose array is `V`'s (`hA`) and whose body leaves the block in place (`hafter`):
    `Dat.before_in_eq_fetched` (unfetched, the index has not moved), the window uncut and never idle. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
/-- Input window 1's current staging buffer holds its block at every point, fetched there or not, for ANY proof
    data whose array is `V`'s (`hA`) and whose body leaves the block in place (`hafter`):
    `Dat.before_in_eq_fetched` (unfetched, the index has not moved), the window uncut and never idle. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses -/

abbrev r1_0 : Rect S256x2048 := Rect.unit (s := S256x2048) ![0, 0] S256x2048.size inb_S256x2048_S256x2048_0_0
abbrev r1_1 : Rect S2048x1024 := Rect.unit (s := S2048x1024) ![0, 0] S2048x512.size inb_S2048x1024_S2048x512_0_0
abbrev r1_2 : Rect S256x1024 := Rect.unit (s := S256x1024) ![0, 0] S256x512.size inb_S256x1024_S256x512_0_0
abbrev r1_3 : Rect S2048x1024 := Rect.unit (s := S2048x1024) ![0, 512] S2048x512.size inb_S2048x1024_S2048x512_0_512
abbrev r1_4 : Rect S256x1024 := Rect.unit (s := S256x1024) ![0, 512] S256x512.size inb_S256x1024_S256x512_0_512

/-! ## What the body leaves in each output window's buffer -/

/-- Window 2's staging buffer after the body, from the input windows' blocks: its 2 stores as pieces, LAST
    FIRST. -/
def out1_2 (x0 : Vec F S256x2048 .bf16) (x1 : Vec F S2048x1024 .bf16) : Vec F S256x1024 .f32 :=
  View.canon [⟨r1_4, k1_pay3 (View.ld x0 r1_0) (View.ld x1 r1_3)⟩,
    ⟨r1_2, k1_pay2 (View.ld x0 r1_0) (View.ld x1 r1_1)⟩]

/-- Its stores tile the buffer (checked by evaluation), so they cover it. -/
theorem cover1_2 (p0 : Vec F S256x512 .f32) (p1 : Vec F S256x512 .f32) (y : S256x1024.Idx) :
    ∃ pc ∈ ([⟨r1_4, p0⟩, ⟨r1_2, p1⟩] : List (View.Piece (Elt F) S256x1024 .f32)), y ∈ pc.1.set :=
  View.cover_of_tiled [⟨r1_4, p0⟩, ⟨r1_2, p1⟩] S256x512.size (by rfl) y

/-! ## The body's triple -/

set_option maxHeartbeats 1000000 in
/-- The kernel body on whole staging memrefs, the inputs' at read contents `xW` and the outputs' at anything, runs to
    the continuation holding the inputs' as they were and each output's at `out1_W` of the inputs': the printed functions
    are their skeletons (`*_eq_skeleton`), which `sl_exec` runs, through every part call. -/
theorem sound_kernel1 (c : Dev nD) (E : Set ℕ) (i : grid1.Coords) (arg2 : Memref sig .tc .vmem S256x2048 .bf16) (harg2 : arg2.IsWhole) (arg3 : Memref sig .tc .vmem S2048x1024 .bf16) (harg3 : arg3.IsWhole) (arg4 : Memref sig .tc .vmem S256x1024 .f32) (harg4 : arg4.IsWhole)
    (x0 : Vec F S256x2048 .bf16) (x1 : Vec F S2048x1024 .bf16) (K : PUnit → sProp 𝕄) :
    iprop(owns (c : Thread nD τ) arg2 fullShare x0 ∗ owns (c : Thread nD τ) arg3 fullShare x1 ∗ (∃ d, owns (c : Thread nD τ) arg4 fullShare d)
        ∗ (iprop(owns (c : Thread nD τ) arg2 fullShare x0 ∗ owns (c : Thread nD τ) arg3 fullShare x1 ∗ owns (c : Thread nD τ) arg4 fullShare (out1_2 x0 x1)) -∗ K ⟨⟩))
      ⊢ wp frame (wpE (defs₀ (F := F)) Variants.none c none) E (cc1_mixer_proj i arg2 harg2 arg3 harg3 arg4 harg4) K := by
  simp only [cc1_mixer_proj_eq_skeleton]; unfold cc1_mixer_proj_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover1_2 _ _)

/-! ## The pipeline's proof data -/

/-- The proof data of pipeline 1 on core `c`: the arrays as the region finds them (`V`); after the body at
    point `t` each input's buffer at its block and each output's at `out1_W` of the input blocks; the invariant the
    class's; nothing owed;
    full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => out1_2 (iblk1 V c 0 t) (iblk1 V c 1 t)
  Φ _ := Pipeline.ΦA spec1 c
  q _ := fullShare
  owed _ := 0

/-- The proof data's arrays are the region-entry contents, by projecting the definition (`dsimp`): a region record cites
    this for its arrays rather than have Lean unfold `V`, the fold through @main up to the region's entry. -/
theorem A_eq1 (c : Dev nD) (w : Fin cfg1.W) : (dat1 V c).A w = V c (Pipeline.arrRef spec1 w) := by
  dsimp only [dat1]

/-- What the body leaves, window by window (the proof data's `match` reduced by `dsimp`, never `rfl`: `Dat`). -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = out1_2 (iblk1 V c 0 t) (iblk1 V c 1 t) := by dsimp only [dat1]

/-- Each input's current staging buffer holds its block at every point, fetched there or not (`beforeK_W_of`). -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d

/-! ## The body obligation, at a generic point -/

/-- What the body is called with at point `t`, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t))

/-- The body at any point: the inputs' memrefs hold their blocks (`before1_W`), so `sound_kernel1` applies; the invariant and
    the core's `owes` pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).Φ t.succ = (dat1 V c).Φ t.castSucc from rfl,
    show (dat1 V c).owesAt () t.succ = (dat1 V c).owesAt () t.castSucc from rfl,
    after1_0, after1_1, after1_2]
  iintro ⟨HΦ, Ho, ⟨%d0, H0⟩, ⟨%d1, H1⟩, ⟨%d2, H2⟩⟩
  iapply (sound_kernel1 c Set.univ (grid1.coords t) _ _ _ _ _ _ (iblk1 V c 0 t) (iblk1 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The body table's row at point `t`'s slots is the body as `bodyAt1` spells it. -/
theorem defs₀_row1 (t : Fin cfg1.N) :
    defs₀ (F := F) .tc cfg1.body (cfg1.bodyArgs t (cfg1.slots t)) = bodyAt1 t := by
  unfold defs₀; rw [Defs.onTc_tc]

/-- The library's body obligation, at every point: the body's triple restated. -/
theorem body_obligation1 (c : Dev nD) : BodyObligation (dat1 (F := F) V c) (defs₀ (F := F)) Variants.none () Set.univ := fun t => by
  rw [bigSep_W1, bigSep_W1, defs₀_row1]
  exact triple_restated (sound_body1 V c t) rfl .rfl fun _ => .rfl

end Regions

/-! # THE RUN: @main's segments from the launch to the return -/

/-- @main's argument arrays, as TensorCore references: what the frame claim reads back. -/
abbrev argRefs : List (Ref sig .tc) := [main_arg0, main_arg1, main_arg2, main_arg3, main_arg4]

/-! ## The host stretches: none allocates a buffer, and each lists the references its operations write, in order,
    so that a reference absent from the list keeps its contents across the stretch -/

/-- No operation of `hostOps0` allocates a buffer. -/
theorem hostOps0_fresh : (hostOps0 : List (HloOp τ sig (Elt F))).Forall fun op => op.fresh = ∅ := by
  simp only [List.Forall]; repeat' constructor
/-- The reference each operation of `hostOps0` writes, in order. -/
abbrev hostOps0_W : List (Ref sig .tc) := [main_v0, main_v1, main_v2, main_cst, main_v3, main_v4, main_v5, main_v6, main_c, main_v7, main_v8, main_v9, main_v10, main_cst_0, main_v11, main_v12, main_cst_1, main_v13, main_v14, main_v15, main_v16, main_v17, main_v18, main_v19, main_v20, main_v21, main_v22, main_v23, main_v24, main_v25, main_v26, main_v27, main_v28, main_v29, main_v30, main_v31, main_v32]
theorem hostOps0_writes : (hostOps0 : List (HloOp τ sig (Elt F))).Forall fun op => op.writes ⊆ (hostOps0_W.map (Proc.devRef (τ := τ) .tc)).toFinset :=
  StableHlo.forall_writes_sub_of_map rfl
/-- `hostOps0` writes none of the argument arrays (checked: each argument against each reference it writes). -/
theorem hostOps0_args : ∀ a ∈ argRefs, a ∉ hostOps0_W := ListAll.forall_mem_of_all_decide (by decide +kernel)

/-- No operation of `hostOps1` allocates a buffer. -/
theorem hostOps1_fresh : (hostOps1 : List (HloOp τ sig (Elt F))).Forall fun op => op.fresh = ∅ := by
  simp only [List.Forall]; repeat' constructor
/-- The reference each operation of `hostOps1` writes, in order. -/
abbrev hostOps1_W : List (Ref sig .tc) := [main_v34]
theorem hostOps1_writes : (hostOps1 : List (HloOp τ sig (Elt F))).Forall fun op => op.writes ⊆ (hostOps1_W.map (Proc.devRef (τ := τ) .tc)).toFinset :=
  StableHlo.forall_writes_sub_of_map rfl
/-- `hostOps1` writes none of the argument arrays (checked: each argument against each reference it writes). -/
theorem hostOps1_args : ∀ a ∈ argRefs, a ∉ hostOps1_W := ListAll.forall_mem_of_all_decide (by decide +kernel)

/-- No operation of `hostOps2` allocates a buffer. -/
theorem hostOps2_fresh : (hostOps2 : List (HloOp τ sig (Elt F))).Forall fun op => op.fresh = ∅ := by
  simp only [List.Forall]; repeat' constructor
/-- The reference each operation of `hostOps2` writes, in order. -/
abbrev hostOps2_W : List (Ref sig .tc) := [main_v36, main_v37, main_v38, main_v39, main_v40, main_v41, main_v42, main_v43, main_v44, main_v45]
theorem hostOps2_writes : (hostOps2 : List (HloOp τ sig (Elt F))).Forall fun op => op.writes ⊆ (hostOps2_W.map (Proc.devRef (τ := τ) .tc)).toFinset :=
  StableHlo.forall_writes_sub_of_map rfl
/-- `hostOps2` writes none of the argument arrays (checked: each argument against each reference it writes). -/
theorem hostOps2_args : ∀ a ∈ argRefs, a ∉ hostOps2_W := ListAll.forall_mem_of_all_decide (by decide +kernel)

/-! ## The buffer contents at each segment boundary: a fold through @main, and what each item leaves unchanged -/

/-- Core `c`'s buffers at launch. -/
abbrev W0 : Dev nD → Valuation τ sig (Elt F) := fun c b => (s₀ m ρ).mem ((c : Dev nD), b)
theorem W0_args (c : Dev nD) : ∀ a ∈ argRefs, W0 m ρ c (Proc.devRef .tc a) = m ((c : Thread nD τ).loc a) := fun _ _ => rfl
/-- After `hostOps0` (region 0's entry). -/
abbrev W1 : Dev nD → Valuation τ sig (Elt F) := fun c => StableHlo.after hostOps0 (W0 m ρ c)
/-- A reference `hostOps0` does not write keeps its contents across it. -/
theorem W1_of (c : Dev nD) (r : Ref sig .tc) (h : r ∉ hostOps0_W) : W1 m ρ c (Proc.devRef .tc r) = W0 m ρ c (Proc.devRef .tc r) :=
  StableHlo.after_of_writes_sub hostOps0 _ hostOps0_writes h
theorem W1_args (c : Dev nD) : ∀ a ∈ argRefs, W1 m ρ c (Proc.devRef .tc a) = m ((c : Thread nD τ).loc a) :=
  fun a ha => (W1_of m ρ c a (hostOps0_args a ha)).trans (W0_args m ρ c a ha)
/-- The same read at the TensorCore's references (what region 0's proof data take). -/
abbrev V1 : (c : Dev nD) → (b : Ref sig .tc) → Buf (Elt F) ((c : Thread nD τ).loc b) := fun c b => W1 m ρ c b
/-- At region 0's exit: its arrays at what the pipeline leaves (the inputs as entered, each output's write-backs
    folded: `Dat.arrAt … N`), every other buffer as entered. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
/-- A reference that is none of region 0's OUTPUT arrays keeps its entry contents across it: an input window's
    array is never written back (`Dat.arrAt_in`, `A_eq0`); any other buffer is left as is. -/
theorem W2_of (c : Dev nD) (r : Ref sig .tc) (h : ∀ w : Fin cfg0.W, Pipeline.arrRef spec0 w = r → (cfg0.win w).isOut = false) :
    W2 m ρ c (Proc.devRef .tc r) = W1 m ρ c (Proc.devRef .tc r) := by
  by_cases hw : ∃ w : Fin cfg0.W, Pipeline.arrRef spec0 w = r
  · obtain ⟨w, rfl⟩ := hw
    exact (W2_arr m ρ c w).trans (((dat0 (V1 m ρ) c).arrAt_in w (h w rfl) _).trans (A_eq0 (V1 m ρ) c w))
  · exact W2_of_ne m ρ c r fun w e => hw ⟨w, e⟩
/-- Every argument among region 0's arrays is an input window's (checked: each argument against each window). -/
theorem argsIn0 : ∀ a ∈ argRefs, ∀ w : Fin cfg0.W, Pipeline.arrRef spec0 w = a → (cfg0.win w).isOut = false :=
  ListAll.forall_mem_of_all_decide (by decide +kernel)
theorem W2_args (c : Dev nD) : ∀ a ∈ argRefs, W2 m ρ c (Proc.devRef .tc a) = m ((c : Thread nD τ).loc a) :=
  fun a ha => (W2_of m ρ c a (argsIn0 a ha)).trans (W1_args m ρ c a ha)
/-- The same read at the TensorCore's references (region 0's exit contents). -/
abbrev V2 : (c : Dev nD) → (b : Ref sig .tc) → Buf (Elt F) ((c : Thread nD τ).loc b) := fun c b => W2 m ρ c b
/-- At region 0's exit each of its arrays holds what the pipeline leaves (`hF0`) and every other buffer what it
    held at entry (`hrest0`): the two hypotheses of `unscopedBufs_of_arrays`. -/
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- After `hostOps1` (region 1's entry). -/
abbrev W3 : Dev nD → Valuation τ sig (Elt F) := fun c => StableHlo.after hostOps1 (W2 m ρ c)
/-- A reference `hostOps1` does not write keeps its contents across it. -/
theorem W3_of (c : Dev nD) (r : Ref sig .tc) (h : r ∉ hostOps1_W) : W3 m ρ c (Proc.devRef .tc r) = W2 m ρ c (Proc.devRef .tc r) :=
  StableHlo.after_of_writes_sub hostOps1 _ hostOps1_writes h
theorem W3_args (c : Dev nD) : ∀ a ∈ argRefs, W3 m ρ c (Proc.devRef .tc a) = m ((c : Thread nD τ).loc a) :=
  fun a ha => (W3_of m ρ c a (hostOps1_args a ha)).trans (W2_args m ρ c a ha)
/-- The same read at the TensorCore's references (what region 1's proof data take). -/
abbrev V3 : (c : Dev nD) → (b : Ref sig .tc) → Buf (Elt F) ((c : Thread nD τ).loc b) := fun c b => W3 m ρ c b
/-- At region 1's exit: its arrays at what the pipeline leaves (the inputs as entered, each output's write-backs
    folded: `Dat.arrAt … N`), every other buffer as entered. -/
def W4 (c : Dev nD) : Valuation τ sig (Elt F) :=
  Pipeline.withArrays spec1 c (W3 m ρ c) fun w => (dat1 (V3 m ρ) c).arrAt w cfg1.N
theorem W4_arr (c : Dev nD) (w : Fin cfg1.W) :
    W4 m ρ c (Proc.devRef .tc (Pipeline.arrRef spec1 w)) = (dat1 (V3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
/-- A reference that is none of region 1's OUTPUT arrays keeps its entry contents across it: an input window's
    array is never written back (`Dat.arrAt_in`, `A_eq1`); any other buffer is left as is. -/
theorem W4_of (c : Dev nD) (r : Ref sig .tc) (h : ∀ w : Fin cfg1.W, Pipeline.arrRef spec1 w = r → (cfg1.win w).isOut = false) :
    W4 m ρ c (Proc.devRef .tc r) = W3 m ρ c (Proc.devRef .tc r) := by
  by_cases hw : ∃ w : Fin cfg1.W, Pipeline.arrRef spec1 w = r
  · obtain ⟨w, rfl⟩ := hw
    exact (W4_arr m ρ c w).trans (((dat1 (V3 m ρ) c).arrAt_in w (h w rfl) _).trans (A_eq1 (V3 m ρ) c w))
  · exact W4_of_ne m ρ c r fun w e => hw ⟨w, e⟩
/-- Every argument among region 1's arrays is an input window's (checked: each argument against each window). -/
theorem argsIn1 : ∀ a ∈ argRefs, ∀ w : Fin cfg1.W, Pipeline.arrRef spec1 w = a → (cfg1.win w).isOut = false :=
  ListAll.forall_mem_of_all_decide (by decide +kernel)
theorem W4_args (c : Dev nD) : ∀ a ∈ argRefs, W4 m ρ c (Proc.devRef .tc a) = m ((c : Thread nD τ).loc a) :=
  fun a ha => (W4_of m ρ c a (argsIn1 a ha)).trans (W3_args m ρ c a ha)
/-- The same read at the TensorCore's references (region 1's exit contents). -/
abbrev V4 : (c : Dev nD) → (b : Ref sig .tc) → Buf (Elt F) ((c : Thread nD τ).loc b) := fun c b => W4 m ρ c b
/-- At region 1's exit each of its arrays holds what the pipeline leaves (`hF1`) and every other buffer what it
    held at entry (`hrest1`): the two hypotheses of `unscopedBufs_of_arrays`. -/
theorem hF1 (c : Dev nD) (w : Fin cfg1.W) : (dat1 (V3 m ρ) c).arrAt w cfg1.N = V4 m ρ c (Pipeline.arrRef spec1 w) :=
  (W4_arr m ρ c w).symm
theorem hrest1 (c : Dev nD) : ∀ b, b ∉ Finset.univ.image (Pipeline.arrRef spec1) → V4 m ρ c b = V3 m ρ c b :=
  fun b hb => W4_of_ne m ρ c b fun w e => hb (Finset.mem_image.mpr ⟨w, Finset.mem_univ _, e⟩)

/-- After `hostOps2`. -/
abbrev W5 : Dev nD → Valuation τ sig (Elt F) := fun c => StableHlo.after hostOps2 (W4 m ρ c)
/-- A reference `hostOps2` does not write keeps its contents across it. -/
theorem W5_of (c : Dev nD) (r : Ref sig .tc) (h : r ∉ hostOps2_W) : W5 m ρ c (Proc.devRef .tc r) = W4 m ρ c (Proc.devRef .tc r) :=
  StableHlo.after_of_writes_sub hostOps2 _ hostOps2_writes h
theorem W5_args (c : Dev nD) : ∀ a ∈ argRefs, W5 m ρ c (Proc.devRef .tc a) = m ((c : Thread nD τ).loc a) :=
  fun a ha => (W5_of m ρ c a (hostOps2_args a ha)).trans (W4_args m ρ c a ha)

/-! ### The arguments end as launched: no host stretch writes one and no region may change one (a region reads it
    through an input window or bypasses it) -/

theorem W5_main_arg0 (c : Dev nD) : W5 m ρ c (Proc.devRef .tc main_arg0) = m ((c : Thread nD τ).loc main_arg0) :=
  W5_args m ρ c main_arg0 (by decide)
theorem W5_main_arg1 (c : Dev nD) : W5 m ρ c (Proc.devRef .tc main_arg1) = m ((c : Thread nD τ).loc main_arg1) :=
  W5_args m ρ c main_arg1 (by decide)
theorem W5_main_arg2 (c : Dev nD) : W5 m ρ c (Proc.devRef .tc main_arg2) = m ((c : Thread nD τ).loc main_arg2) :=
  W5_args m ρ c main_arg2 (by decide)
theorem W5_main_arg3 (c : Dev nD) : W5 m ρ c (Proc.devRef .tc main_arg3) = m ((c : Thread nD τ).loc main_arg3) :=
  W5_args m ρ c main_arg3 (by decide)
theorem W5_main_arg4 (c : Dev nD) : W5 m ρ c (Proc.devRef .tc main_arg4) = m ((c : Thread nD τ).loc main_arg4) :=
  W5_args m ρ c main_arg4 (by decide)

/-! ## The proof data family and the thread state -/

/-- The prefetched tables' admissible contents: no pipeline has a table. -/
abbrev adm : (p : Fin 2) → (pcfgs (F := F) p).Adm := fun p => (cfgs p).toPCfg_adm
/-- Every pipeline's proof data, each at its region's entry contents — a literal `match`, so that the kit's
    `Pipeline.pin pcfgs adm p` at a numeral reduces to the printed configuration. -/
def pdats : (p : Fin 2) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V3 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the core's generator register at some state (the class-A
    invariant takes it in and gives it back) and its `owes`, at nothing. -/
abbrev R (c : Dev nD) : sProp 𝕄 := iprop((∃ r, prngReg c r) ∗ ∃ W, owes (c : Thread nD τ) (0 : CellTallies nD τ sig Unit) W)
/-- A host stretch as a segment: `HostSeg.ofOps` over the unscoped references from the contents `W`, `R` riding along
    (its `post` is then those references at `StableHlo.after ops (W c)`: the next boundary's contents by name). -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes` (the kit's chain ends at it BESIDE the core owing nothing): every unscoped
    buffer at the last boundary's contents `W5`, the generator register at some state. -/
abbrev Tₙ (c : Dev nD) : sProp 𝕄 := iprop(StableHlo.held (c : Thread nD τ) (Pipeline.ucRefs τ sig) (W5 m ρ c) ∗ ∃ r, prngReg c r)

/-! ## The regions as segments -/

-- `iapply` of a library lemma stated over `pin pcs a p` unifies with the pinned configuration only when unification may
-- unfold plain definitions in a metavariable's type
set_option backward.isDefEq.respectTransparency.types false in
/-- REGION 0 (custom_call 0) over the thread state: entered from every unscoped buffer at `W1`, left at `W2`
    (what the next segment is entered from). Its arrays split out of the unscoped buffers
    (`arrays_of_unscopedBufs`) and put back at the exit contents (`unscopedBufs_of_arrays`); the generator register into the
    class invariant `ΦA` and out; nothing owed; no semaphore of the kernel's own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) (A_eq0 (V1 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- `iapply` of a library lemma stated over `pin pcs a p` unifies with the pinned configuration only when unification may
-- unfold plain definitions in a metavariable's type
set_option backward.isDefEq.respectTransparency.types false in
/-- REGION 1 (custom_call 1) over the thread state: entered from every unscoped buffer at `W3`, left at `W4`
    (what the next segment is entered from). Its arrays split out of the unscoped buffers
    (`arrays_of_unscopedBufs`) and put back at the exit contents (`unscopedBufs_of_arrays`); the generator register into the
    class invariant `ΦA` and out; nothing owed; no semaphore of the kernel's own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V3 m ρ c) (A_eq1 (V3 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V3 m ρ c) (V4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the launch -/

/-- @main's 5 segments in order: a host segment per stretch from its boundary's contents, a region per pallas_call. -/
abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ),
    .host (hseg hostOps2 hostOps2_sub hostOps2_fresh (W4 m ρ)) ]
/-- @main IS the run of the segments: `main_chain`, then the segments' run against that chain by the kernel's
    definitional check (`chain_rfl`). -/
theorem main_run (c : Dev nD) : main (F := F) c = Pipeline.Seg.run (segs m ρ) := (main_chain c).trans (by chain_rfl)

/-- The TensorCore has no unscoped semaphore. -/
theorem no_unscoped : ∀ sm : SemLoc sig, sm.isScoped .tc = true := by decide

-- `θ_run_regions_kit_sems`'s implicit arguments are found by unifying its conclusion with this one, which takes unfolding
-- plain definitions in a metavariable's type
set_option backward.isDefEq.respectTransparency.types false in
/-- THE FRAME: `Cert.quiescent_SampleIdeal`'s statement (Defs.lean) at any `F` — at the compiled mesh, from any
    memory with zero counters, every weakly fair execution of @main on the TensorCores terminates, nothing faulting, and every
    final state has the argument arrays as launched and every semaphore counter of the machine at zero: the kit's launch over
    the segments, the last thread state read against the final state (`pointsTo_read_all`), each argument by `W5_<arg>`;
    the kit shows every counter at zero except the TensorCores' unscoped ones, of which there are none. Proof.lean cites it at `Bits`:
    `theorem Cert.Proof.claim : Cert.Claim := ⟨Cert.SampleIdeal.facts, fun m ρ _ => Cert.SampleIdeal.frame m ρ⟩`. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h hz => ⟨(fun c =>
      ⟨(h c _ (mem_uc main_arg0 (by decide))).trans (W5_main_arg0 m ρ c),
       (h c _ (mem_uc main_arg1 (by decide))).trans (W5_main_arg1 m ρ c),
       (h c _ (mem_uc main_arg2 (by decide))).trans (W5_main_arg2 m ρ c),
       (h c _ (mem_uc main_arg3 (by decide))).trans (W5_main_arg3 m ρ c),
       (h c _ (mem_uc main_arg4 (by decide))).trans (W5_main_arg4 m ρ c)⟩), funext fun g => hz g (.inr (no_unscoped g.2))⟩)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h => h.1) (frame m ρ)

end Cert.Proof.SI
-- ==== Proof.Sample.Frame.lean ====
module

public import proofs.«01_k».proof.Defs
public import proofs.«01_k».proof.Proof.Gen.Sample
public import proofs.«01_k».proof.Proof.SampleIdeal.Frame

@[expose] public section

set_option maxRecDepth 16384

noncomputable section
namespace Cert.Proof
open Idealize.ShloMosaic Idealize.SL.Sem
attribute [local instance] Cert.Sample.Gen.facts Cert.SampleIdeal.Gen.facts

set_option maxHeartbeats 2000000 in
/-- The two programs' kernel bodies are the same functions. -/
theorem bodies_sample : Cert.SampleIdeal.defs₀ (F := Bits) = Cert.Sample.defs₀ (F := Bits) := by
  unfold Cert.SampleIdeal.defs₀ Cert.Sample.defs₀
  refine congrArg Defs.onTc (funext fun l => funext fun a => ?_)
  match l, a with
  | ⟨0, _⟩, (t, s) => rfl
  | ⟨1, _⟩, (t, s) => rfl

/-- The two programs' body tables are the same. -/
theorem defs_sample : Cert.SampleIdeal.defs (F := Bits) = Cert.Sample.defs (F := Bits) :=
  congrArg (Pipeline.defs (Cert.Sample.pcfgs (F := Bits))) bodies_sample

set_option maxHeartbeats 2000000 in
/-- The two programs' host texts are the same. -/
theorem main_sample : Cert.SampleIdeal.main (F := Bits) = Cert.Sample.main (F := Bits) := rfl

set_option maxHeartbeats 2000000 in
/-- The fourth program runs to its end at the machine's floats too, leaves its arguments as they were and every
    semaphore counter at zero: its text is the idealized program's, whose run is over any float values. -/
theorem frame_sample : Cert.quiescent_Sample (hSample := Cert.Sample.Gen.facts) := fun m ρ _ => by
  have h := Cert.Proof.SI.frame (F := Bits) m ρ
  rw [defs_sample, main_sample] at h
  exact h

end Cert.Proof
end
-- ==== Proof.SampleIdeal.Entries.lean ====
module

public import proofs.«01_k».proof.Proof.SampleIdeal.Qkv
public import Idealize.ShloMosaic.Lib.Pipeline.ValueKit
public import Idealize.ShloMosaic.Lib.Pointwise

@[expose] public section

set_option maxRecDepth 16384

noncomputable section

namespace Cert.Proof.SI

open Cert.SampleIdeal Cert.SampleIdeal.Gen
open Idealize.ShloMosaic Idealize.ShloMosaic.TcCoe Idealize.ShloMosaic.Tactic
open Idealize.SL Idealize.SL.Sem

section Blocks
variable (x0 : Vec Ideal S256x2048 .f32) (x1 : Vec Ideal S1x2048 .f32) (x2 : Vec Ideal S2048x2688 .bf16) (x3 x4 : Vec Ideal S256x128 .f32)

/-- The normalised rows of a block of the input. -/
def hB : FVec Ideal S256x2048 .bf16 := k0_pay4 (View.ld x0 r0_0) (View.ld x1 r0_1)

/-- A normalised row times a column of the weight. -/
def zB (i : Fin 256) (q : Fin 2688) : EReal := ∑ k : Fin 2048, (hB x0 x1 (ix2 i k) : EReal) * x2 (ix2 k q)

/-- Column `q` rotated with the column half a head away. -/
def ropeB (i : Fin 256) (q : ℕ) (hq : q < 2560) : EReal :=
  zB x0 x1 x2 i ⟨q, by omega⟩ * x3 (ix2 i ⟨q % 128, by omega⟩)
    + zB x0 x1 x2 i ⟨q / 128 * 128 + (q % 128 + 64) % 128, by omega⟩ * x4 (ix2 i ⟨q % 128, by omega⟩)

/-- The block of unrotated and rotated queries, entry by entry. -/
theorem out0_5_at (p : Fin 256) (q : Fin 2048) : out0_5 x0 x1 x2 x3 x4 (ix2 p q)
    = if h : (q : ℕ) < 1024 then zB x0 x1 x2 p ⟨q, by omega⟩ else ropeB x0 x1 x2 x3 x4 p (q - 1024) (by omega) := by
  unfold out0_5
  canon_tiles x h
  all_goals
    replace h0 : (p : ℕ) = _ := h0
    replace h1 : (q : ℕ) = _ := h1
    have hx : ((x 1 : Fin 128) : ℕ) < 128 := (x 1).isLt
    rw [eq_ix2 x]
    first | rw [dif_pos (by omega)] | rw [dif_neg (by omega)]
    pointwise [k0_pay9, k0_pay10, k0_pay12, k0_pay13, k0_pay15, k0_pay16, k0_pay18, k0_pay19, k0_pay22, k0_pay24, k0_pay26,
      k0_pay27, k0_pay29, k0_pay30, k0_pay32, k0_pay33, k0_pay8, k0_pay11, k0_pay14, k0_pay17, k0_pay21, k0_pay23, k0_pay25,
      k0_pay28, k0_pay31, k0_pay20, k0_pay7, k0_pay5, k0_pay6, k0_pay58, k0_pay59, k0_pay60, k0_pay61, k0_pay62, k0_pay63,
      ropeB, zB, hB]
    blk_point

/-- The block of selected and window keys and values, entry by entry: in each run of 512 columns the keys are rotated. -/
theorem out0_9_at (p : Fin 256) (q : Fin 1024) : out0_9 x0 x1 x2 x3 x4 (ix2 p q)
    = if h : (q : ℕ) % 512 < 256 then ropeB x0 x1 x2 x3 x4 p (1536 + q) (by omega) else zB x0 x1 x2 p ⟨1536 + q, by omega⟩ := by
  unfold out0_9
  canon_tiles x h
  all_goals
    replace h0 : (p : ℕ) = _ := h0
    replace h1 : (q : ℕ) = _ := h1
    have hx : ((x 1 : Fin 128) : ℕ) < 128 := (x 1).isLt
    rw [eq_ix2 x]
    first | rw [dif_pos (by omega)] | rw [dif_neg (by omega)]
    pointwise [k0_pay1, k0_pay2, k0_pay39, k0_pay40, k0_pay41, k0_pay42, k0_pay43, k0_pay44, k0_pay45, k0_pay46, k0_pay47, k0_pay48,
      k0_pay49, k0_pay50, k0_pay51, k0_pay52, k0_pay53, k0_pay54, k0_pay55, k0_pay56, k0_pay57, k0_pay5, k0_pay6, k0_pay58,
      k0_pay59, k0_pay60, k0_pay64, k0_pay65, k0_pay66, k0_pay67, k0_pay68, ropeB, zB, hB]
    blk_point

/-- The block of cached keys and values, entry by entry: row `8 i + s` holds component `s` of position `i`, components
    4 and 5 rotated. -/
theorem out0_6_at (r : Fin 2048) (e : Fin 128) : out0_6 x0 x1 x2 x3 x4 (ix2 r e)
    = if (r : ℕ) % 8 = 4 ∨ (r : ℕ) % 8 = 5 then
        ropeB x0 x1 x2 x3 x4 ⟨r / 8, by omega⟩ (1024 + (r % 8) * 128 + e) (by omega)
      else zB x0 x1 x2 ⟨r / 8, by omega⟩ ⟨1024 + (r % 8) * 128 + e, by omega⟩ := by
  unfold out0_6
  refine View.canon_eq_of_allAt _ _ _ (cover0_6 _ _ _ _ _ _ _ _ _) fun pc hpc x hx => ?_
  simp only [List.mem_cons, List.not_mem_nil, or_false] at hpc
  rcases hpc with rfl | rfl | rfl | rfl | rfl | rfl | rfl | rfl
  all_goals
    have h0 : _ = (r : ℕ) := congrArg (fun y : S2048x128.Idx => ((y 0 : Fin 2048) : ℕ)) hx
    have h1 : _ = (e : ℕ) := congrArg (fun y : S2048x128.Idx => ((y 1 : Fin 128) : ℕ)) hx
    replace h0 := h0.symm
    first
      | replace h0 : (r : ℕ) = 0 + 8 * ((x 0 : Fin 256) : ℕ) := h0
      | replace h0 : (r : ℕ) = 1 + 8 * ((x 0 : Fin 256) : ℕ) := h0
      | replace h0 : (r : ℕ) = 2 + 8 * ((x 0 : Fin 256) : ℕ) := h0
      | replace h0 : (r : ℕ) = 3 + 8 * ((x 0 : Fin 256) : ℕ) := h0
      | replace h0 : (r : ℕ) = 4 + 8 * ((x 0 : Fin 256) : ℕ) := h0
      | replace h0 : (r : ℕ) = 5 + 8 * ((x 0 : Fin 256) : ℕ) := h0
      | replace h0 : (r : ℕ) = 6 + 8 * ((x 0 : Fin 256) : ℕ) := h0
      | replace h0 : (r : ℕ) = 7 + 8 * ((x 0 : Fin 256) : ℕ) := h0
    replace h1 : (e : ℕ) = 0 + 1 * ((x 1 : Fin 128) : ℕ) := h1.symm
    clear hx
    have hx : ((x 1 : Fin 128) : ℕ) < 128 := (x 1).isLt
    rw [eq_ix2 x]
    first | rw [if_pos (by omega)] | rw [if_neg (by omega)]
    pointwise [k0_pay34, k0_pay35, k0_pay36, k0_pay37, k0_pay38, k0_pay39, k0_pay40, k0_pay41, k0_pay44, k0_pay45, k0_pay46,
      k0_pay47, k0_pay48, k0_pay51, k0_pay52, k0_pay53, k0_pay56, k0_pay57, k0_pay5, k0_pay6, k0_pay58, k0_pay59, k0_pay60,
      k0_pay64, k0_pay65, k0_pay66, k0_pay67, k0_pay68, ropeB, zB, hB]
    blk_point

/-- The block of window keys and values, entry by entry: row `4 i + s` holds component `s` of position `i`, components 0
    and 1 rotated. -/
theorem out0_7_at (r : Fin 1024) (e : Fin 128) : out0_7 x0 x1 x2 x3 x4 (ix2 r e)
    = if (r : ℕ) % 4 < 2 then ropeB x0 x1 x2 x3 x4 ⟨r / 4, by omega⟩ (2048 + (r % 4) * 128 + e) (by omega)
      else zB x0 x1 x2 ⟨r / 4, by omega⟩ ⟨2048 + (r % 4) * 128 + e, by omega⟩ := by
  unfold out0_7
  refine View.canon_eq_of_allAt _ _ _ (cover0_7 _ _ _ _ _) fun pc hpc x hx => ?_
  simp only [List.mem_cons, List.not_mem_nil, or_false] at hpc
  rcases hpc with rfl | rfl | rfl | rfl
  all_goals
    have h0 : _ = (r : ℕ) := congrArg (fun y : S1024x128.Idx => ((y 0 : Fin 1024) : ℕ)) hx
    have h1 : _ = (e : ℕ) := congrArg (fun y : S1024x128.Idx => ((y 1 : Fin 128) : ℕ)) hx
    replace h0 := h0.symm
    first
      | replace h0 : (r : ℕ) = 0 + 4 * ((x 0 : Fin 256) : ℕ) := h0
      | replace h0 : (r : ℕ) = 1 + 4 * ((x 0 : Fin 256) : ℕ) := h0
      | replace h0 : (r : ℕ) = 2 + 4 * ((x 0 : Fin 256) : ℕ) := h0
      | replace h0 : (r : ℕ) = 3 + 4 * ((x 0 : Fin 256) : ℕ) := h0
    replace h1 : (e : ℕ) = 0 + 1 * ((x 1 : Fin 128) : ℕ) := h1.symm
    clear hx
    have hx : ((x 1 : Fin 128) : ℕ) < 128 := (x 1).isLt
    rw [eq_ix2 x]
    first | rw [if_pos (by omega)] | rw [if_neg (by omega)]
    pointwise [k0_pay34, k0_pay35, k0_pay36, k0_pay37, k0_pay38, k0_pay39, k0_pay40, k0_pay41, k0_pay44, k0_pay45, k0_pay46,
      k0_pay47, k0_pay48, k0_pay51, k0_pay52, k0_pay53, k0_pay56, k0_pay57, k0_pay5, k0_pay6, k0_pay58, k0_pay59, k0_pay60,
      k0_pay64, k0_pay65, k0_pay66, k0_pay67, k0_pay68, ropeB, zB, hB]
    blk_point

/-- The block of gates, entry by entry. -/
theorem out0_8_at (p : Fin 256) (e : Fin 128) : out0_8 x0 x1 x2 x3 x4 (ix2 p e)
    = Ideal.logistic (zB x0 x1 x2 p ⟨2560 + e, by omega⟩) := by
  unfold out0_8
  canon_tiles x h
  all_goals
    replace h0 : (p : ℕ) = _ := h0
    replace h1 : (e : ℕ) = _ := h1
    rw [eq_ix2 x]
    pointwise [k0_pay3, k0_pay58, zB, hB]
    blk_point

/-- A normalised row of the input. -/
theorem hB_at (p : Fin 256) (k : Fin 2048) : hB x0 x1 (ix2 p k)
    = (x0 (ix2 p k) : EReal) * Ideal.rsqrt (Ideal.div (∑ j : Fin 2048, (x0 (ix2 p j) : EReal) * x0 (ix2 p j)) (Ideal.ofBits .f32 0x45000000#32)
        + Ideal.ofBits .f32 0x358637BD#32) * x1 (ix2 0 k) := by
  pointwise [hB, k0_pay4]

/-- The block of normalised rows. -/
theorem out0_10_at (p : Fin 256) (k : Fin 2048) : out0_10 x0 x1 x2 x3 x4 (ix2 p k) = hB x0 x1 (ix2 p k) := by
  unfold out0_10
  canon_tiles x h
  all_goals
    replace h0 : (p : ℕ) = _ := h0
    replace h1 : (k : ℕ) = _ := h1
    rw [eq_ix2 x]
    unfold hB
    blk_point

end Blocks

end Cert.Proof.SI

end
-- ==== Proof.SampleIdeal.Arrays.lean ====
module

public import proofs.«01_k».proof.Proof.SampleIdeal.Entries
public import proofs.«01_k».proof.Proof.SampleIdeal.Frame

@[expose] public section

set_option maxRecDepth 16384

noncomputable section

namespace Cert.Proof.SI

open Cert.SampleIdeal Cert.SampleIdeal.Gen
open Idealize.ShloMosaic Idealize.ShloMosaic.TcCoe Idealize.ShloMosaic.Tactic
open Idealize.SL Idealize.SL.Sem

section Specs
variable (X : FVec Ideal S256x2048 .f32) (G : FVec Ideal S1x2048 .f32) (W : FVec Ideal S2048x2688 .bf16)
  (C S : FVec Ideal S256x128 .f32)

/-- A row of the input divided by its root mean square and scaled. -/
def hE (i : Fin 256) (k : Fin 2048) : EReal :=
  (X (ix2 i k) : EReal) * Ideal.rsqrt (Ideal.div (∑ j : Fin 2048, (X (ix2 i j) : EReal) * X (ix2 i j)) (Ideal.ofBits .f32 0x45000000#32)
    + Ideal.ofBits .f32 0x358637BD#32) * G (ix2 0 k)

/-- A normalised row times a column of the weight. -/
def zE (i : Fin 256) (q : Fin 2688) : EReal := ∑ k : Fin 2048, hE X G i k * W (ix2 k q)

/-- Column `q` rotated with the column half a head away. -/
def ropeE (i : Fin 256) (q : ℕ) (hq : q < 2560) : EReal :=
  zE X G W i ⟨q, by omega⟩ * C (ix2 i ⟨q % 128, by omega⟩)
    + zE X G W i ⟨q / 128 * 128 + (q % 128 + 64) % 128, by omega⟩ * S (ix2 i ⟨q % 128, by omega⟩)

/-- The unrotated and the rotated queries, entry by entry. -/
def qqE (i : Fin 256) (q : Fin 2048) : EReal :=
  if h : (q : ℕ) < 1024 then zE X G W i ⟨q, by omega⟩ else ropeE X G W C S i (q - 1024) (by omega)

/-- The cached keys and values, entry by entry: row `8 i + s` is component `s` of position `i`. -/
def nsaE (r : Fin 2048) (e : Fin 128) : EReal :=
  if (r : ℕ) % 8 = 4 ∨ (r : ℕ) % 8 = 5 then ropeE X G W C S ⟨r / 8, by omega⟩ (1024 + (r % 8) * 128 + e) (by omega)
  else zE X G W ⟨r / 8, by omega⟩ ⟨1024 + (r % 8) * 128 + e, by omega⟩

/-- The window keys and values, entry by entry: row `4 i + s` is component `s` of position `i`. -/
def winE (r : Fin 1024) (e : Fin 128) : EReal :=
  if (r : ℕ) % 4 < 2 then ropeE X G W C S ⟨r / 4, by omega⟩ (2048 + (r % 4) * 128 + e) (by omega)
  else zE X G W ⟨r / 4, by omega⟩ ⟨2048 + (r % 4) * 128 + e, by omega⟩

/-- The selected and window keys and values of the attention kernels, entry by entry. -/
def kvbE (i : Fin 256) (q : Fin 1024) : EReal :=
  if h : (q : ℕ) % 512 < 256 then ropeE X G W C S i (1536 + q) (by omega) else zE X G W i ⟨1536 + q, by omega⟩

/-- The gates, entry by entry. -/
def gateE (i : Fin 256) (e : Fin 128) : EReal := Ideal.logistic (zE X G W i ⟨2560 + e, by omega⟩)

/-- The queries as an array. -/
def qqT : FVec Ideal S256x2048 .bf16 := fun y => qqE X G W C S (y 0) (y 1)

/-- The cached keys and values as an array. -/
def nsaT : FVec Ideal S2048x128 .f32 := fun y => nsaE X G W C S (y 0) (y 1)

/-- The window keys and values as an array. -/
def winT : FVec Ideal S1024x128 .f32 := fun y => winE X G W C S (y 0) (y 1)

/-- The gates as an array. -/
def gateT : FVec Ideal S256x128 .f32 := fun y => gateE X G W (y 0) (y 1)

/-- The attention kernels' keys and values as an array. -/
def kvbT : FVec Ideal S256x1024 .bf16 := fun y => kvbE X G W C S (y 0) (y 1)

/-- The normalised rows as an array. -/
def hT : FVec Ideal S256x2048 .bf16 := fun y => hE X G (y 0) (y 1)

end Specs

variable (V : (c : Dev nD) → (b : Ref sig .tc) → Buf (Elt Ideal) ((c : Thread nD τ).loc b))

/-- Which blocks the points of the first region read and write. -/
theorem idx0 : ∀ t : Fin cfg0.N, win0_0.index t = ![t.val, 0] ∧ win0_1.index t = ![0, 0] ∧ win0_2.index t = ![0, 0]
    ∧ win0_3.index t = ![t.val, 0] ∧ win0_4.index t = ![t.val, 0] ∧ win0_5.index t = ![t.val, 0] ∧ win0_6.index t = ![t.val, 0]
    ∧ win0_7.index t = ![t.val, 0] ∧ win0_8.index t = ![t.val, 0] ∧ win0_9.index t = ![t.val, 0] ∧ win0_10.index t = ![t.val, 0]
    ∧ t.val < 1 :=
  (by decide +kernel : ∀ t : Fin grid0.N, _)

/-- Position `i` of block `t`. -/
abbrev posB (t : Fin cfg0.N) (i : Fin 256) : Fin 256 := ⟨t.val * 256 + i, by have := (idx0 t).2.2.2.2.2.2.2.2.2.2.2; omega⟩

/-- A normalised row of a block is the array's. -/
theorem hB_blk (c : Dev nD) (t : Fin cfg0.N) (i : Fin 256) (k : Fin 2048) :
    hB (iblk0 V c 0 t) (iblk0 V c 1 t) (ix2 i k) = hE (V c main_v5) (V c main_v32) (posB t i) k := by
  refine (hB_at _ _ i k).trans ?_
  pointwise [hE]
  blk_point [iblk0, idx0 t]

/-- A projected entry of a block is the array's. -/
theorem zB_blk (c : Dev nD) (t : Fin cfg0.N) (i : Fin 256) (q : Fin 2688) :
    zB (iblk0 V c 0 t) (iblk0 V c 1 t) (iblk0 V c 2 t) i q = zE (V c main_v5) (V c main_v32) (V c main_v4) (posB t i) q := by
  refine Finset.sum_congr rfl fun k _ => congrArg₂ (fun a b : EReal => a * b) (hB_blk V c t i k) ?_
  blk_point [iblk0, idx0 t]

/-- A rotated entry of a block is the array's. -/
theorem ropeB_blk (c : Dev nD) (t : Fin cfg0.N) (i : Fin 256) (q : ℕ) (hq : q < 2560) :
    ropeB (iblk0 V c 0 t) (iblk0 V c 1 t) (iblk0 V c 2 t) (iblk0 V c 3 t) (iblk0 V c 4 t) i q hq
      = ropeE (V c main_v5) (V c main_v32) (V c main_v4) (V c main_v28) (V c main_v31) (posB t i) q hq := by
  unfold ropeB ropeE
  rw [zB_blk, zB_blk]
  refine congrArg₂ (fun a b : EReal => a + b) (congrArg (fun a : EReal => _ * a) ?_) (congrArg (fun a : EReal => _ * a) ?_)
  · blk_point [iblk0, idx0 t]
  · blk_point [iblk0, idx0 t]

/-- The block of queries is the array's. -/
theorem out0_5_blk (c : Dev nD) (t : Fin cfg0.N) (i : Fin 256) (e : Fin 2048) :
    out0_5 (iblk0 V c 0 t) (iblk0 V c 1 t) (iblk0 V c 2 t) (iblk0 V c 3 t) (iblk0 V c 4 t) (ix2 i e)
      = qqT (V c main_v5) (V c main_v32) (V c main_v4) (V c main_v28) (V c main_v31) (ix2 ⟨t.val * 256 + i, by have := (idx0 t).2.2.2.2.2.2.2.2.2.2.2; omega⟩ e) := by
  show _ = qqE (V c main_v5) (V c main_v32) (V c main_v4) (V c main_v28) (V c main_v31) (posB t i) e
  refine (out0_5_at _ _ _ _ _ i e).trans ?_
  unfold qqE
  by_cases h : (e : ℕ) < 1024
  · rw [dif_pos h, dif_pos h, zB_blk]
  · rw [dif_neg h, dif_neg h, ropeB_blk]

/-- The array of queries after the first region. -/
theorem final0_5 (c : Dev nD) : (dat0 V c).arrAt 5 cfg0.N
    = qqT (V c main_v5) (V c main_v32) (V c main_v4) (V c main_v28) (V c main_v31) := by
  refine (dat0 V c).arrAt_eq_of_covers 5 _ (by decide +kernel) fun t _ y => ?_
  blk_simp
  rw [after0_5]
  refine (congrArg _ (eq_ix2 (y : S256x2048.Idx))).trans ((out0_5_blk V c t (y 0) (y 1)).trans ?_)
  generalize qqT _ _ _ _ _ = Y
  blk_point [idx0 t]

/-- The block of cached keys and values is the array's. -/
theorem out0_6_blk (c : Dev nD) (t : Fin cfg0.N) (i : Fin 2048) (e : Fin 128) :
    out0_6 (iblk0 V c 0 t) (iblk0 V c 1 t) (iblk0 V c 2 t) (iblk0 V c 3 t) (iblk0 V c 4 t) (ix2 i e)
      = nsaT (V c main_v5) (V c main_v32) (V c main_v4) (V c main_v28) (V c main_v31) (ix2 ⟨t.val * 2048 + i, by have := (idx0 t).2.2.2.2.2.2.2.2.2.2.2; omega⟩ e) := by
  show _ = nsaE (V c main_v5) (V c main_v32) (V c main_v4) (V c main_v28) (V c main_v31) ⟨t.val * 2048 + i, _⟩ e
  refine (out0_6_at _ _ _ _ _ i e).trans ?_
  have ht := (idx0 t).2.2.2.2.2.2.2.2.2.2.2
  have hm : (t.val * 2048 + (i : ℕ)) % 8 = (i : ℕ) % 8 := by omega
  have hp : (⟨(t.val * 2048 + (i : ℕ)) / 8, by omega⟩ : Fin 256) = posB t ⟨(i : ℕ) / 8, by omega⟩ := Fin.ext (by show _ / _ = _ * 256 + _ / _; omega)
  unfold nsaE
  simp only [hm, hp, zB_blk, ropeB_blk]

/-- The array of cached keys and values after the first region. -/
theorem final0_6 (c : Dev nD) : (dat0 V c).arrAt 6 cfg0.N
    = nsaT (V c main_v5) (V c main_v32) (V c main_v4) (V c main_v28) (V c main_v31) := by
  refine (dat0 V c).arrAt_eq_of_covers 6 _ (by decide +kernel) fun t _ y => ?_
  blk_simp
  rw [after0_6]
  refine (congrArg _ (eq_ix2 (y : S2048x128.Idx))).trans ((out0_6_blk V c t (y 0) (y 1)).trans ?_)
  generalize nsaT _ _ _ _ _ = Y
  blk_point [idx0 t]

/-- The block of window keys and values is the array's. -/
theorem out0_7_blk (c : Dev nD) (t : Fin cfg0.N) (i : Fin 1024) (e : Fin 128) :
    out0_7 (iblk0 V c 0 t) (iblk0 V c 1 t) (iblk0 V c 2 t) (iblk0 V c 3 t) (iblk0 V c 4 t) (ix2 i e)
      = winT (V c main_v5) (V c main_v32) (V c main_v4) (V c main_v28) (V c main_v31) (ix2 ⟨t.val * 1024 + i, by have := (idx0 t).2.2.2.2.2.2.2.2.2.2.2; omega⟩ e) := by
  show _ = winE (V c main_v5) (V c main_v32) (V c main_v4) (V c main_v28) (V c main_v31) ⟨t.val * 1024 + i, _⟩ e
  refine (out0_7_at _ _ _ _ _ i e).trans ?_
  have ht := (idx0 t).2.2.2.2.2.2.2.2.2.2.2
  have hm : (t.val * 1024 + (i : ℕ)) % 4 = (i : ℕ) % 4 := by omega
  have hp : (⟨(t.val * 1024 + (i : ℕ)) / 4, by omega⟩ : Fin 256) = posB t ⟨(i : ℕ) / 4, by omega⟩ := Fin.ext (by show _ / _ = _ * 256 + _ / _; omega)
  unfold winE
  simp only [hm, hp, zB_blk, ropeB_blk]

/-- The array of window keys and values after the first region. -/
theorem final0_7 (c : Dev nD) : (dat0 V c).arrAt 7 cfg0.N
    = winT (V c main_v5) (V c main_v32) (V c main_v4) (V c main_v28) (V c main_v31) := by
  refine (dat0 V c).arrAt_eq_of_covers 7 _ (by decide +kernel) fun t _ y => ?_
  blk_simp
  rw [after0_7]
  refine (congrArg _ (eq_ix2 (y : S1024x128.Idx))).trans ((out0_7_blk V c t (y 0) (y 1)).trans ?_)
  generalize winT _ _ _ _ _ = Y
  blk_point [idx0 t]

/-- The block of gates is the array's. -/
theorem out0_8_blk (c : Dev nD) (t : Fin cfg0.N) (i : Fin 256) (e : Fin 128) :
    out0_8 (iblk0 V c 0 t) (iblk0 V c 1 t) (iblk0 V c 2 t) (iblk0 V c 3 t) (iblk0 V c 4 t) (ix2 i e)
      = gateT (V c main_v5) (V c main_v32) (V c main_v4) (ix2 ⟨t.val * 256 + i, by have := (idx0 t).2.2.2.2.2.2.2.2.2.2.2; omega⟩ e) := by
  show _ = gateE (V c main_v5) (V c main_v32) (V c main_v4) _ e
  exact (out0_8_at _ _ _ _ _ i e).trans (congrArg Ideal.logistic (zB_blk V c t i _))

/-- The array of gates after the first region. -/
theorem final0_8 (c : Dev nD) : (dat0 V c).arrAt 8 cfg0.N
    = gateT (V c main_v5) (V c main_v32) (V c main_v4) := by
  refine (dat0 V c).arrAt_eq_of_covers 8 _ (by decide +kernel) fun t _ y => ?_
  blk_simp
  rw [after0_8]
  refine (congrArg _ (eq_ix2 (y : S256x128.Idx))).trans ((out0_8_blk V c t (y 0) (y 1)).trans ?_)
  generalize gateT _ _ _ = Y
  blk_point [idx0 t]

/-- The block of attention kernels' keys and values is the array's. -/
theorem out0_9_blk (c : Dev nD) (t : Fin cfg0.N) (i : Fin 256) (e : Fin 1024) :
    out0_9 (iblk0 V c 0 t) (iblk0 V c 1 t) (iblk0 V c 2 t) (iblk0 V c 3 t) (iblk0 V c 4 t) (ix2 i e)
      = kvbT (V c main_v5) (V c main_v32) (V c main_v4) (V c main_v28) (V c main_v31) (ix2 ⟨t.val * 256 + i, by have := (idx0 t).2.2.2.2.2.2.2.2.2.2.2; omega⟩ e) := by
  show _ = kvbE (V c main_v5) (V c main_v32) (V c main_v4) (V c main_v28) (V c main_v31) (posB t i) e
  refine (out0_9_at _ _ _ _ _ i e).trans ?_
  unfold kvbE
  by_cases h : (e : ℕ) % 512 < 256
  · rw [dif_pos h, dif_pos h, ropeB_blk]
  · rw [dif_neg h, dif_neg h, zB_blk]

/-- The array of attention kernels' keys and values after the first region. -/
theorem final0_9 (c : Dev nD) : (dat0 V c).arrAt 9 cfg0.N
    = kvbT (V c main_v5) (V c main_v32) (V c main_v4) (V c main_v28) (V c main_v31) := by
  refine (dat0 V c).arrAt_eq_of_covers 9 _ (by decide +kernel) fun t _ y => ?_
  blk_simp
  rw [after0_9]
  refine (congrArg _ (eq_ix2 (y : S256x1024.Idx))).trans ((out0_9_blk V c t (y 0) (y 1)).trans ?_)
  generalize kvbT _ _ _ _ _ = Y
  blk_point [idx0 t]

/-- The block of normalised rows is the array's. -/
theorem out0_10_blk (c : Dev nD) (t : Fin cfg0.N) (i : Fin 256) (e : Fin 2048) :
    out0_10 (iblk0 V c 0 t) (iblk0 V c 1 t) (iblk0 V c 2 t) (iblk0 V c 3 t) (iblk0 V c 4 t) (ix2 i e)
      = hT (V c main_v5) (V c main_v32) (ix2 ⟨t.val * 256 + i, by have := (idx0 t).2.2.2.2.2.2.2.2.2.2.2; omega⟩ e) := by
  show _ = hE (V c main_v5) (V c main_v32) _ e
  exact (out0_10_at _ _ _ _ _ i e).trans (hB_blk V c t i e)

/-- The array of normalised rows after the first region. -/
theorem final0_10 (c : Dev nD) : (dat0 V c).arrAt 10 cfg0.N
    = hT (V c main_v5) (V c main_v32) := by
  refine (dat0 V c).arrAt_eq_of_covers 10 _ (by decide +kernel) fun t _ y => ?_
  blk_simp
  rw [after0_10]
  refine (congrArg _ (eq_ix2 (y : S256x2048.Idx))).trans ((out0_10_blk V c t (y 0) (y 1)).trans ?_)
  generalize hT _ _ = Y
  blk_point [idx0 t]

end Cert.Proof.SI

end
-- ==== Proof.SampleIdeal.Proj.lean ====
module

public import proofs.«01_k».proof.Proof.SampleIdeal.Frame
public import Idealize.ShloMosaic.Lib.Pipeline.ValueKit
public import Idealize.ShloMosaic.Lib.Pointwise

@[expose] public section

set_option maxRecDepth 16384

noncomputable section

namespace Cert.Proof.SI

open Cert.SampleIdeal Cert.SampleIdeal.Gen
open Idealize.ShloMosaic Idealize.ShloMosaic.TcCoe Idealize.ShloMosaic.Tactic
open Idealize.SL Idealize.SL.Sem

variable (V : (c : Dev nD) → (b : Ref sig .tc) → Buf (Elt Ideal) ((c : Thread nD τ).loc b))

/-- The pool branch's input projection, entry by entry: a normalised row times a column of the weight. -/
def uT (h : FVec Ideal S256x2048 .bf16) (w : FVec Ideal S2048x1024 .bf16) : FVec Ideal S256x1024 .f32 := fun y =>
  ∑ k : Fin 2048, (h (ix2 (y 0) k) : EReal) * w (ix2 k (y 1))

/-- The block a point of the second region leaves, entry by entry. -/
theorem out1_2_at (x0 : Vec Ideal S256x2048 .bf16) (x1 : Vec Ideal S2048x1024 .bf16) (p : Fin 256) (q : Fin 1024) :
    out1_2 x0 x1 (ix2 p q) = ∑ k : Fin 2048, (x0 (ix2 p k) : EReal) * x1 (ix2 k q) := by
  unfold out1_2
  canon_tiles x h
  all_goals
    replace h0 : (p : ℕ) = _ := h0
    replace h1 : (q : ℕ) = _ := h1
    rw [eq_ix2 x]
    pointwise [k1_pay1, k1_pay2, k1_pay3]
    blk_point

/-- Which blocks the points of the second region read and write. -/
theorem idx1 : ∀ t : Fin cfg1.N, win1_0.index t = ![t.val, 0] ∧ win1_1.index t = ![0, 0]
    ∧ win1_2.index t = ![t.val, 0] ∧ t.val < 1 :=
  (by decide +kernel : ∀ t : Fin grid1.N, _)

/-- The second region's result array. -/
theorem final1 (c : Dev nD) : (dat1 V c).arrAt 2 cfg1.N = uT (V c main_v33_5) (V c main_v34) := by
  refine (dat1 V c).arrAt_eq_of_covers 2 _ (by decide +kernel) fun t _ y => ?_
  blk_simp
  rw [after1_2]
  refine (congrArg _ (eq_ix2 (y : S256x1024.Idx))).trans ((out1_2_at _ _ (y 0) (y 1)).trans ?_)
  pointwise [uT]
  blk_point [iblk1, idx1 t]

end Cert.Proof.SI

end
-- ==== Proof.SampleIdeal.Run.lean ====
module

public import proofs.«01_k».proof.Proof.SampleIdeal.Arrays
public import proofs.«01_k».proof.Proof.SampleIdeal.Proj

@[expose] public section

set_option maxRecDepth 16384

noncomputable section

namespace Cert.Proof.SI

open Cert.SampleIdeal Cert.SampleIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

local notation "𝕄" => MT nD τ sig Unit (Elt Ideal) ℕ (UR sig nD τ) ℕ

variable (m : (ℓ : Loc nD τ sig) → Buf (Elt Ideal) ℓ) (ρ : Dev nD → PrngReg)

set_option backward.isDefEq.respectTransparency.types false in
/-- The program runs to its end, with each result array at what the last host stretch leaves and its arguments as they were. -/
theorem run_blocks : θ_run defs (onTc (τ := τ) (main (F := Ideal))) ⟨m, fun _ => 0, ρ⟩ (fun r => ∀ c : Dev nD,
      r.2.mem ((c.tc : Thread nD τ).loc main_v37) = W5 m ρ c (Proc.devRef .tc main_v37)
      ∧ r.2.mem ((c.tc : Thread nD τ).loc main_v41) = W5 m ρ c (Proc.devRef .tc main_v41)
      ∧ r.2.mem ((c.tc : Thread nD τ).loc main_v44) = W5 m ρ c (Proc.devRef .tc main_v44)
      ∧ r.2.mem ((c.tc : Thread nD τ).loc main_v33_0) = W5 m ρ c (Proc.devRef .tc main_v33_0)
      ∧ r.2.mem ((c.tc : Thread nD τ).loc main_v45) = W5 m ρ c (Proc.devRef .tc main_v45)
      ∧ r.2.mem ((c.tc : Thread nD τ).loc main_v33_5) = W5 m ρ c (Proc.devRef .tc main_v33_5)
      ∧ r.2.mem ((c.tc : Thread nD τ).loc main_v35) = W5 m ρ c (Proc.devRef .tc main_v35)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  Pipeline.θ_run_regions_kit_sems (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h hz c =>
      ⟨h c _ (mem_uc main_v37 (by decide)),
       h c _ (mem_uc main_v41 (by decide)),
       h c _ (mem_uc main_v44 (by decide)),
       h c _ (mem_uc main_v33_0 (by decide)),
       h c _ (mem_uc main_v45 (by decide)),
       h c _ (mem_uc main_v33_5 (by decide)),
       h c _ (mem_uc main_v35 (by decide)),
       (h c _ (mem_uc main_arg0 (by decide))).trans (W5_main_arg0 m ρ c),
       (h c _ (mem_uc main_arg1 (by decide))).trans (W5_main_arg1 m ρ c),
       (h c _ (mem_uc main_arg2 (by decide))).trans (W5_main_arg2 m ρ c),
       (h c _ (mem_uc main_arg3 (by decide))).trans (W5_main_arg3 m ρ c),
       (h c _ (mem_uc main_arg4 (by decide))).trans (W5_main_arg4 m ρ c)⟩)

section Stages
variable (A0 : FVec Ideal S32x8x2048 .f32) (A1 : FVec Ideal S2048 .f32) (A2 : FVec Ideal S2048x7704 .f32)

/-- The input's rows: position `p` of batch `b` is row `8 b + p`. -/
def xT : FVec Ideal S256x2048 .f32 := shapeCast S256x2048 A0 shapeCasts_S32x8x2048_S256x2048

/-- The norm's scale as a row. -/
def gT : FVec Ideal S1x2048 .f32 := shapeCast S1x2048 A1 shapeCasts_S2048_S1x2048

/-- The input weight at the kernels' format. -/
def w0T : FVec Ideal S2048x7704 .bf16 := truncf .bf16 A2 bitsLt_bf16_f32

/-- The first region's weight: the input weight's first 2584 columns, then 104 columns of zero. -/
def wqT : FVec Ideal S2048x2688 .bf16 :=
  concatenate S2048x2688 1 [⟨S2048x2560, extractStridedSlice S2048x2560 ![0, 0] (w0T A2) slices_S2048x7704_S2048x2560_0_0⟩,
    ⟨S2048x24, extractStridedSlice S2048x24 ![0, 2560] (w0T A2) slices_S2048x7704_S2048x24_0_2560⟩,
    ⟨S2048x104, broadcastInDim S2048x104 ![] bcast_S_S2048x104 (constant S_ .bf16 0x0000#16)⟩]
    concatenates_S2048x2560_S2048x24_S2048x104_S2048x2688_d1

/-- The second region's weight: the input weight's columns from 2584 on. -/
def wuT : FVec Ideal S2048x1024 .bf16 :=
  extractStridedSlice S2048x1024 ![0, 2584] (w0T A2) slices_S2048x7704_S2048x1024_0_2584

/-- The rotary angles: a position times the frequency of a pair of columns. -/
def angT : FVec Ideal S8x64 .f32 :=
  mulf (broadcastInDim S8x64 ![0, 1] bcast_S8x1_S8x64_0_1 (broadcastInDim S8x1 ![0] bcast_S8_S8x1_0 (sitofp .f32 (addi (broadcastInDim S8 ![] bcast_S_S8 (constantI S_ 32 16384#32)) (iotaInDim S8 32 0)))))
    (broadcastInDim S8x64 ![0, 1] bcast_S1x64_S8x64_0_1 (broadcastInDim S1x64 ![1] bcast_S64_S1x64_1
      (Host.powf (broadcastInDim S64 ![] bcast_S_S64 (constant S_ .f32 0x461C4000#32))
        (Host.divf (Host.negf (sitofp .f32 (iotaInDim S64 32 0))) (broadcastInDim S64 ![] bcast_S_S64 (constant S_ .f32 0x42800000#32))))))

/-- A table over the positions of one batch, for both halves of a head's columns and both batches. -/
def tableT (L R : FVec Ideal S8x64 .f32) : FVec Ideal S256x128 .f32 :=
  shapeCast S256x128 (broadcastInDim S32x8x1x128 ![0, 1, 2, 3] bcast_S1x8x1x128_S32x8x1x128_0_1_2_3
    (shapeCast S1x8x1x128 (concatenate S8x128 1 [⟨S8x64, L⟩, ⟨S8x64, R⟩] concatenates_S8x64_S8x64_S8x128_d1)
      shapeCasts_S8x128_S1x8x1x128)) shapeCasts_S32x8x1x128_S256x128

/-- The table of cosines. -/
def cosT : FVec Ideal S256x128 .f32 := tableT (Host.cos angT) (Host.cos angT)

/-- The table of sines, negated in the first half of a head's columns. -/
def sinT : FVec Ideal S256x128 .f32 := tableT (Host.negf (Host.sin angT)) (Host.sin angT)

/-- The samples' new cached keys and values from the first region's array. -/
def newKvT (y : FVec Ideal S2048x128 .f32) : FVec Ideal S1x32x8x4x2x128 .f32 :=
  shapeCast S1x32x8x4x2x128 y shapeCasts_S2048x128_S1x32x8x4x2x128

/-- The samples' last 512 window keys and values from the state and the first region's array. -/
def newWinT (w : FVec Ideal S32x512x2x2x128 .f32) (y : FVec Ideal S1024x128 .f32) : FVec Ideal S1x32x512x2x2x128 .f32 :=
  extractStridedSlice S1x32x512x2x2x128 ![0, 0, 8, 0, 0, 0]
    (broadcastInDim S1x32x520x2x2x128 ![1, 2, 3, 4, 5] bcast_S32x520x2x2x128_S1x32x520x2x2x128_1_2_3_4_5
      (concatenate S32x520x2x2x128 1 [⟨S32x512x2x2x128, w⟩,
        ⟨S32x8x2x2x128, shapeCast S32x8x2x2x128 y shapeCasts_S1024x128_S32x8x2x2x128⟩]
        concatenates_S32x512x2x2x128_S32x8x2x2x128_S32x520x2x2x128_d1)) slices_S1x32x520x2x2x128_S1x32x512x2x2x128_0_0_8_0_0_0

/-- The samples' last 15 pool inputs from the state and the second region's array. -/
def newPoolT (w : FVec Ideal S32x15x1024 .f32) (y : FVec Ideal S256x1024 .f32) : FVec Ideal S1x32x15x1024 .f32 :=
  broadcastInDim S1x32x15x1024 ![1, 2, 3] bcast_S32x15x1024_S1x32x15x1024_1_2_3
    (extractStridedSlice S32x15x1024 ![0, 8, 0]
      (concatenate S32x23x1024 1 [⟨S32x15x1024, w⟩, ⟨S32x8x1024, shapeCast S32x8x1024 y shapeCasts_S256x1024_S32x8x1024⟩]
        concatenates_S32x15x1024_S32x8x1024_S32x23x1024_d1) slices_S32x23x1024_S32x15x1024_0_8_0)

/-- The 24 gates that are used. -/
def gate24T (y : FVec Ideal S256x128 .f32) : FVec Ideal S256x24 .f32 :=
  extractStridedSlice S256x24 ![0, 0] y slices_S256x128_S256x24_0_0

end Stages

/-- The rows as the first region finds them. -/
theorem V1_v5 (c : Dev nD) : V1 m ρ c main_v5 = xT (m ((c : Thread nD τ).loc main_arg0)) := by
  show StableHlo.after hostOps0 (W0 m ρ c) (Proc.devRef .tc main_v5) = _
  after_results_simp <;> rfl

/-- The scale as the first region finds it. -/
theorem V1_v32 (c : Dev nD) : V1 m ρ c main_v32 = gT (m ((c : Thread nD τ).loc main_arg3)) := by
  show StableHlo.after hostOps0 (W0 m ρ c) (Proc.devRef .tc main_v32) = _
  after_results_simp <;> rfl

/-- The weight as the first region finds it. -/
theorem V1_v4 (c : Dev nD) : V1 m ρ c main_v4 = wqT (m ((c : Thread nD τ).loc main_arg4)) := by
  show StableHlo.after hostOps0 (W0 m ρ c) (Proc.devRef .tc main_v4) = _
  after_results_simp <;> rfl

/-- The cosines as the first region finds them. -/
theorem V1_v28 (c : Dev nD) : V1 m ρ c main_v28 = cosT := by
  show StableHlo.after hostOps0 (W0 m ρ c) (Proc.devRef .tc main_v28) = _
  after_results_simp <;> rfl

/-- The sines as the first region finds them. -/
theorem V1_v31 (c : Dev nD) : V1 m ρ c main_v31 = sinT := by
  show StableHlo.after hostOps0 (W0 m ρ c) (Proc.devRef .tc main_v31) = _
  after_results_simp <;> rfl

/-- The input weight at the kernels' format. -/
theorem V1_v0 (c : Dev nD) : V1 m ρ c main_v0 = w0T (m ((c : Thread nD τ).loc main_arg4)) := by
  show StableHlo.after hostOps0 (W0 m ρ c) (Proc.devRef .tc main_v0) = _
  after_results_simp <;> rfl

/-- The queries after the first region. -/
theorem W2_v33_0 (c : Dev nD) : W2 m ρ c (Proc.devRef .tc main_v33_0) = qqT (xT (m ((c : Thread nD τ).loc main_arg0))) (gT (m ((c : Thread nD τ).loc main_arg3))) (wqT (m ((c : Thread nD τ).loc main_arg4))) cosT sinT := by
  refine (W2_arr m ρ c 5).trans ((final0_5 (V1 m ρ) c).trans ?_)
  rw [V1_v5, V1_v32, V1_v4, V1_v28, V1_v31]

/-- The queries after the second region. -/
theorem W4_v33_0 (c : Dev nD) : W4 m ρ c (Proc.devRef .tc main_v33_0) = qqT (xT (m ((c : Thread nD τ).loc main_arg0))) (gT (m ((c : Thread nD τ).loc main_arg3))) (wqT (m ((c : Thread nD τ).loc main_arg4))) cosT sinT :=
  (W4_of m ρ c main_v33_0 (by decide)).trans ((W3_of m ρ c main_v33_0 (by decide)).trans (W2_v33_0 m ρ c))

/-- The cached keys and values after the first region. -/
theorem W2_v33_1 (c : Dev nD) : W2 m ρ c (Proc.devRef .tc main_v33_1) = nsaT (xT (m ((c : Thread nD τ).loc main_arg0))) (gT (m ((c : Thread nD τ).loc main_arg3))) (wqT (m ((c : Thread nD τ).loc main_arg4))) cosT sinT := by
  refine (W2_arr m ρ c 6).trans ((final0_6 (V1 m ρ) c).trans ?_)
  rw [V1_v5, V1_v32, V1_v4, V1_v28, V1_v31]

/-- The cached keys and values after the second region. -/
theorem W4_v33_1 (c : Dev nD) : W4 m ρ c (Proc.devRef .tc main_v33_1) = nsaT (xT (m ((c : Thread nD τ).loc main_arg0))) (gT (m ((c : Thread nD τ).loc main_arg3))) (wqT (m ((c : Thread nD τ).loc main_arg4))) cosT sinT :=
  (W4_of m ρ c main_v33_1 (by decide)).trans ((W3_of m ρ c main_v33_1 (by decide)).trans (W2_v33_1 m ρ c))

/-- The window keys and values after the first region. -/
theorem W2_v33_2 (c : Dev nD) : W2 m ρ c (Proc.devRef .tc main_v33_2) = winT (xT (m ((c : Thread nD τ).loc main_arg0))) (gT (m ((c : Thread nD τ).loc main_arg3))) (wqT (m ((c : Thread nD τ).loc main_arg4))) cosT sinT := by
  refine (W2_arr m ρ c 7).trans ((final0_7 (V1 m ρ) c).trans ?_)
  rw [V1_v5, V1_v32, V1_v4, V1_v28, V1_v31]

/-- The window keys and values after the second region. -/
theorem W4_v33_2 (c : Dev nD) : W4 m ρ c (Proc.devRef .tc main_v33_2) = winT (xT (m ((c : Thread nD τ).loc main_arg0))) (gT (m ((c : Thread nD τ).loc main_arg3))) (wqT (m ((c : Thread nD τ).loc main_arg4))) cosT sinT :=
  (W4_of m ρ c main_v33_2 (by decide)).trans ((W3_of m ρ c main_v33_2 (by decide)).trans (W2_v33_2 m ρ c))

/-- The gates after the first region. -/
theorem W2_v33_3 (c : Dev nD) : W2 m ρ c (Proc.devRef .tc main_v33_3) = gateT (xT (m ((c : Thread nD τ).loc main_arg0))) (gT (m ((c : Thread nD τ).loc main_arg3))) (wqT (m ((c : Thread nD τ).loc main_arg4))) := by
  refine (W2_arr m ρ c 8).trans ((final0_8 (V1 m ρ) c).trans ?_)
  rw [V1_v5, V1_v32, V1_v4]

/-- The gates after the second region. -/
theorem W4_v33_3 (c : Dev nD) : W4 m ρ c (Proc.devRef .tc main_v33_3) = gateT (xT (m ((c : Thread nD τ).loc main_arg0))) (gT (m ((c : Thread nD τ).loc main_arg3))) (wqT (m ((c : Thread nD τ).loc main_arg4))) :=
  (W4_of m ρ c main_v33_3 (by decide)).trans ((W3_of m ρ c main_v33_3 (by decide)).trans (W2_v33_3 m ρ c))

/-- The attention kernels' keys and values after the first region. -/
theorem W2_v33_4 (c : Dev nD) : W2 m ρ c (Proc.devRef .tc main_v33_4) = kvbT (xT (m ((c : Thread nD τ).loc main_arg0))) (gT (m ((c : Thread nD τ).loc main_arg3))) (wqT (m ((c : Thread nD τ).loc main_arg4))) cosT sinT := by
  refine (W2_arr m ρ c 9).trans ((final0_9 (V1 m ρ) c).trans ?_)
  rw [V1_v5, V1_v32, V1_v4, V1_v28, V1_v31]

/-- The attention kernels' keys and values after the second region. -/
theorem W4_v33_4 (c : Dev nD) : W4 m ρ c (Proc.devRef .tc main_v33_4) = kvbT (xT (m ((c : Thread nD τ).loc main_arg0))) (gT (m ((c : Thread nD τ).loc main_arg3))) (wqT (m ((c : Thread nD τ).loc main_arg4))) cosT sinT :=
  (W4_of m ρ c main_v33_4 (by decide)).trans ((W3_of m ρ c main_v33_4 (by decide)).trans (W2_v33_4 m ρ c))

/-- The normalised rows after the first region. -/
theorem W2_v33_5 (c : Dev nD) : W2 m ρ c (Proc.devRef .tc main_v33_5) = hT (xT (m ((c : Thread nD τ).loc main_arg0))) (gT (m ((c : Thread nD τ).loc main_arg3))) := by
  refine (W2_arr m ρ c 10).trans ((final0_10 (V1 m ρ) c).trans ?_)
  rw [V1_v5, V1_v32]

/-- The normalised rows after the second region. -/
theorem W4_v33_5 (c : Dev nD) : W4 m ρ c (Proc.devRef .tc main_v33_5) = hT (xT (m ((c : Thread nD τ).loc main_arg0))) (gT (m ((c : Thread nD τ).loc main_arg3))) :=
  (W4_of m ρ c main_v33_5 (by decide)).trans ((W3_of m ρ c main_v33_5 (by decide)).trans (W2_v33_5 m ρ c))

/-- The second region's weight as it finds it. -/
theorem V3_v34 (c : Dev nD) : V3 m ρ c main_v34 = wuT (m ((c : Thread nD τ).loc main_arg4)) := by
  refine Eq.trans (?_ : _ = extractStridedSlice S2048x1024 ![0, 2584] (W2 m ρ c (Proc.devRef .tc main_v0)) slices_S2048x7704_S2048x1024_0_2584) ?_
  · show StableHlo.after hostOps1 (W2 m ρ c) (Proc.devRef .tc main_v34) = _
    after_results_simp <;> rfl
  · rw [show W2 m ρ c (Proc.devRef .tc main_v0) = _ from (W2_of m ρ c main_v0 (by decide)).trans (V1_v0 m ρ c)]
    rfl

/-- The pool inputs after the second region. -/
theorem W4_v35 (c : Dev nD) : W4 m ρ c (Proc.devRef .tc main_v35) = uT (hT (xT (m ((c : Thread nD τ).loc main_arg0))) (gT (m ((c : Thread nD τ).loc main_arg3)))) (wuT (m ((c : Thread nD τ).loc main_arg4))) := by
  refine (W4_arr m ρ c 2).trans ((final1 (V3 m ρ) c).trans ?_)
  rw [V3_v34, show V3 m ρ c main_v33_5 = _ from (W3_of m ρ c main_v33_5 (by decide)).trans (W2_v33_5 m ρ c)]

/-- The result array of `newKvT` after the run. -/
theorem W5_v37 (c : Dev nD) : W5 m ρ c (Proc.devRef .tc main_v37) = newKvT (nsaT (xT (m ((c : Thread nD τ).loc main_arg0))) (gT (m ((c : Thread nD τ).loc main_arg3))) (wqT (m ((c : Thread nD τ).loc main_arg4))) cosT sinT) := by
  refine Eq.trans (?_ : _ = newKvT (W4 m ρ c (Proc.devRef .tc main_v33_1))) (congrArg newKvT (W4_v33_1 m ρ c))
  show StableHlo.after hostOps2 (W4 m ρ c) (Proc.devRef .tc main_v37) = _
  after_results_simp <;> rfl

/-- The window state reaches the last host stretch as it was launched. -/
theorem W4_main_arg1 (c : Dev nD) : W4 m ρ c (Proc.devRef .tc main_arg1) = m ((c : Thread nD τ).loc main_arg1) :=
  W4_args m ρ c main_arg1 (by decide)

/-- The pool state reaches the last host stretch as it was launched. -/
theorem W4_main_arg2 (c : Dev nD) : W4 m ρ c (Proc.devRef .tc main_arg2) = m ((c : Thread nD τ).loc main_arg2) :=
  W4_args m ρ c main_arg2 (by decide)

/-- The result array of `newWinT` after the run. -/
theorem W5_v41 (c : Dev nD) : W5 m ρ c (Proc.devRef .tc main_v41) = newWinT (m ((c : Thread nD τ).loc main_arg1)) (winT (xT (m ((c : Thread nD τ).loc main_arg0))) (gT (m ((c : Thread nD τ).loc main_arg3))) (wqT (m ((c : Thread nD τ).loc main_arg4))) cosT sinT) := by
  refine Eq.trans (?_ : _ = newWinT (W4 m ρ c (Proc.devRef .tc main_arg1)) (W4 m ρ c (Proc.devRef .tc main_v33_2)))
    (congrArg₂ newWinT (W4_main_arg1 m ρ c) (W4_v33_2 m ρ c))
  show StableHlo.after hostOps2 (W4 m ρ c) (Proc.devRef .tc main_v41) = _
  after_results_simp <;> rfl

/-- The result array of `newPoolT` after the run. -/
theorem W5_v44 (c : Dev nD) : W5 m ρ c (Proc.devRef .tc main_v44) = newPoolT (m ((c : Thread nD τ).loc main_arg2)) (uT (hT (xT (m ((c : Thread nD τ).loc main_arg0))) (gT (m ((c : Thread nD τ).loc main_arg3)))) (wuT (m ((c : Thread nD τ).loc main_arg4)))) := by
  refine Eq.trans (?_ : _ = newPoolT (W4 m ρ c (Proc.devRef .tc main_arg2)) (W4 m ρ c (Proc.devRef .tc main_v35)))
    (congrArg₂ newPoolT (W4_main_arg2 m ρ c) (W4_v35 m ρ c))
  show StableHlo.after hostOps2 (W4 m ρ c) (Proc.devRef .tc main_v44) = _
  after_results_simp <;> rfl

/-- The result array of `gate24T` after the run. -/
theorem W5_v45 (c : Dev nD) : W5 m ρ c (Proc.devRef .tc main_v45) = gate24T (gateT (xT (m ((c : Thread nD τ).loc main_arg0))) (gT (m ((c : Thread nD τ).loc main_arg3))) (wqT (m ((c : Thread nD τ).loc main_arg4)))) := by
  refine Eq.trans (?_ : _ = gate24T (W4 m ρ c (Proc.devRef .tc main_v33_3))) (congrArg gate24T (W4_v33_3 m ρ c))
  show StableHlo.after hostOps2 (W4 m ρ c) (Proc.devRef .tc main_v45) = _
  after_results_simp <;> rfl

/-- The last host stretch leaves this array as it is. -/
theorem W5_v33_0 (c : Dev nD) : W5 m ρ c (Proc.devRef .tc main_v33_0) = qqT (xT (m ((c : Thread nD τ).loc main_arg0))) (gT (m ((c : Thread nD τ).loc main_arg3))) (wqT (m ((c : Thread nD τ).loc main_arg4))) cosT sinT :=
  (W5_of m ρ c main_v33_0 (by decide)).trans (W4_v33_0 m ρ c)

/-- The last host stretch leaves this array as it is. -/
theorem W5_v33_4 (c : Dev nD) : W5 m ρ c (Proc.devRef .tc main_v33_4) = kvbT (xT (m ((c : Thread nD τ).loc main_arg0))) (gT (m ((c : Thread nD τ).loc main_arg3))) (wqT (m ((c : Thread nD τ).loc main_arg4))) cosT sinT :=
  (W5_of m ρ c main_v33_4 (by decide)).trans (W4_v33_4 m ρ c)

/-- The last host stretch leaves this array as it is. -/
theorem W5_v33_5 (c : Dev nD) : W5 m ρ c (Proc.devRef .tc main_v33_5) = hT (xT (m ((c : Thread nD τ).loc main_arg0))) (gT (m ((c : Thread nD τ).loc main_arg3))) :=
  (W5_of m ρ c main_v33_5 (by decide)).trans (W4_v33_5 m ρ c)

/-- The last host stretch leaves this array as it is. -/
theorem W5_v35 (c : Dev nD) : W5 m ρ c (Proc.devRef .tc main_v35) = uT (hT (xT (m ((c : Thread nD τ).loc main_arg0))) (gT (m ((c : Thread nD τ).loc main_arg3)))) (wuT (m ((c : Thread nD τ).loc main_arg4))) :=
  (W5_of m ρ c main_v35 (by decide)).trans (W4_v35 m ρ c)

end Cert.Proof.SI

end
-- ==== Proof.SampleRefIdeal.Terms.lean ====
module

public import proofs.«01_k».proof.Proof.Gen.SampleRefIdeal.Run
public import proofs.«01_k».proof.Proof.SampleIdeal.Run
public import Idealize.ShloMosaic.Lib.Pointwise

@[expose] public section

set_option maxRecDepth 16384

noncomputable section

namespace Cert.Proof.SR

open Cert.SampleRefIdeal Cert.SampleRefIdeal.Gen
open Idealize.ShloMosaic Idealize.ShloMosaic.TcCoe Idealize.ShloMosaic.Tactic
open Idealize.SL Idealize.SL.Sem

section Rows
variable (A0 : FVec Ideal S32x8x2048 .f32) (A1 : FVec Ideal S2048 .f32) (A2 : FVec Ideal S2048x7704 .f32)

/-- Position `p` of batch `b` as a row. -/
abbrev rowF (b : Fin 32) (p : Fin 8) : Fin 256 := ⟨b.val * 8 + p.val, by omega⟩

/-- The reference's normalised rows. -/
def hR : FVec Ideal S32x8x2048 .f32 :=
  mulf (mulf A0 (broadcastInDim S32x8x2048 ![0, 1, 2] bcast_S32x8x1_S32x8x2048_0_1_2 (Host.rsqrt (addf (Host.divf (broadcastInDim S32x8x1 ![0, 1] bcast_S32x8_S32x8x1_0_1 (Host.reduceAdd (mulf A0 A0) (constant S_ .f32 0x00000000#32) reducesTo_S32x8x2048_S32x8_d2 h_S_)) (broadcastInDim S32x8x1 ![] bcast_S_S32x8x1 (constant S_ .f32 0x45000000#32))) (broadcastInDim S32x8x1 ![] bcast_S_S32x8x1 (constant S_ .f32 0x358637BD#32)))))) (broadcastInDim S32x8x2048 ![0, 1, 2] bcast_S1x1x2048_S32x8x2048_0_1_2 (broadcastInDim S1x1x2048 ![2] bcast_S2048_S1x1x2048_2 A1))

/-- A normalised row of the reference is the kernel's. -/
theorem hR_at (b : Fin 32) (p : Fin 8) (k : Fin 2048) :
    hR A0 A1 (ix3 b p k) = SI.hE (SI.xT A0) (SI.gT A1) (rowF b p) k := by
  pointwise [hR, SI.hE, SI.xT, SI.gT]
  have hp := p.isLt
  have hb := b.isLt
  have e1 : (b.val * 8 + p.val) / 8 = b.val := by omega
  have e2 : (b.val * 8 + p.val) % 8 = p.val := by omega
  simp only [e1, e2]
  done

/-- A normalised row times a column of the whole input weight. -/
def zF (i : Fin 256) (q : Fin 7704) : EReal := ∑ k : Fin 2048, SI.hE (SI.xT A0) (SI.gT A1) i k * A2 (ix2 k q)

/-- The reference's projection. -/
def zR : FVec Ideal S32x8x7704 .f32 :=
  Host.dotGeneral (φ₁ := .f32) (φ₂ := .f32) dot_S32x8x2048_S2048x7704_S32x8x7704_2_0_01_1_n_n none (hR A0 A1) A2

/-- An entry of the reference's projection. -/
theorem zR_at (b : Fin 32) (p : Fin 8) (q : Fin 7704) : zR A0 A1 A2 (ix3 b p q) = zF A0 A1 A2 (rowF b p) q := by
  pointwise [zR]
  simp only [hR_at]
  rfl

/-- The kernel's weight holds the input weight's first 2584 columns. -/
theorem wqT_at (k : Fin 2048) (q : ℕ) (hq : q < 2584) : SI.wqT A2 (ix2 k ⟨q, by omega⟩) = A2 (ix2 k ⟨q, by omega⟩) := by
  pointwise [SI.wqT, SI.w0T]
  by_cases h : q < 2560
  · rw [dif_pos h]
  · have e1 : 2560 + (q - 2560) = q := by omega
    rw [dif_neg h, dif_pos (by omega)]
    simp only [e1]

/-- A projected entry of the kernel is the reference's. -/
theorem zE_eq (i : Fin 256) (q : ℕ) (hq : q < 2584) :
    SI.zE (SI.xT A0) (SI.gT A1) (SI.wqT A2) i ⟨q, by omega⟩ = zF A0 A1 A2 i ⟨q, by omega⟩ :=
  Finset.sum_congr rfl fun k _ => congrArg (fun a : EReal => _ * a) (wqT_at A2 k q hq)

end Rows

/-- An entry of a rotary table. -/
theorem tableT_at (L R : FVec Ideal S8x64 .f32) (b : Fin 32) (p : Fin 8) (r : ℕ) (hr : r < 128) :
    SI.tableT L R (ix2 (rowF b p) ⟨r, hr⟩) = if h : r < 64 then L (ix2 p ⟨r, h⟩) else R (ix2 p ⟨r - 64, by omega⟩) := by
  pointwise [SI.tableT]
  have e2 : (b.val * 8 + p.val) % 8 = p.val := by omega
  simp only [e2]

section Rope
variable (A0 : FVec Ideal S32x8x2048 .f32) (A1 : FVec Ideal S2048 .f32) (A2 : FVec Ideal S2048x7704 .f32)
  (cs sn : FVec Ideal S8x64 .f32)

/-- Two halves of a head rotated by the angles of a position. -/
def ropeF (p : Fin 8) (z : Fin 128 → EReal) (e : Fin 128) : EReal :=
  if h : (e : ℕ) < 64 then z e * cs (ix2 p ⟨e, h⟩) - z ⟨e + 64, by omega⟩ * sn (ix2 p ⟨e, h⟩)
  else z e * cs (ix2 p ⟨e - 64, by omega⟩) + z ⟨e - 64, by omega⟩ * sn (ix2 p ⟨e - 64, by omega⟩)

/-- A rotated entry of the kernel is the rotation of the reference's projected entries. -/
theorem ropeE_eq (b : Fin 32) (p : Fin 8) (g : ℕ) (hg : g < 20) (e : Fin 128) (q : ℕ) (hq : q < 2560) (h : q = g * 128 + e) :
    SI.ropeE (SI.xT A0) (SI.gT A1) (SI.wqT A2) (SI.tableT cs cs) (SI.tableT (Host.negf sn) sn) (rowF b p) q hq
      = ropeF cs sn p (fun e => zF A0 A1 A2 (rowF b p) ⟨g * 128 + e, by omega⟩) e := by
  subst h
  have e1 : (g * 128 + (e : ℕ)) % 128 = e := by omega
  have e2 : (g * 128 + (e : ℕ)) / 128 = g := by omega
  unfold SI.ropeE ropeF
  simp only [e1, e2]
  rw [zE_eq A0 A1 A2 _ _ (by omega), zE_eq A0 A1 A2 _ _ (by omega), tableT_at, tableT_at]
  by_cases he : (e : ℕ) < 64
  · have e3 : ((e : ℕ) + 64) % 128 = e + 64 := by omega
    rw [dif_pos he, dif_pos he, dif_pos he]
    simp only [e3]
    show _ + _ * -(sn _) = _
    rw [mul_neg, ← sub_eq_add_neg]
  · have e3 : ((e : ℕ) + 64) % 128 = e - 64 := by omega
    rw [dif_neg he, dif_neg he, dif_neg he]
    simp only [e3]

/-- The reference's rotation of two heads. -/
def rope2R (x : FVec Ideal S32x8x2x128 .f32) : FVec Ideal S32x8x2x128 .f32 :=
  concatenate S32x8x2x128 3 [⟨S32x8x2x64, (subf (mulf (extractStridedSlice S32x8x2x64 ![0, 0, 0, 0] x slices_S32x8x2x128_S32x8x2x64_0_0_0_0) (broadcastInDim S32x8x2x64 ![0, 1, 2, 3] bcast_S1x8x1x64_S32x8x2x64_0_1_2_3 (broadcastInDim S1x8x1x64 ![1, 2, 3] bcast_S8x1x64_S1x8x1x64_1_2_3 (broadcastInDim S8x1x64 ![0, 2] bcast_S8x64_S8x1x64_0_2 cs)))) (mulf (extractStridedSlice S32x8x2x64 ![0, 0, 0, 64] x slices_S32x8x2x128_S32x8x2x64_0_0_0_64) (broadcastInDim S32x8x2x64 ![0, 1, 2, 3] bcast_S1x8x1x64_S32x8x2x64_0_1_2_3 (broadcastInDim S1x8x1x64 ![1, 2, 3] bcast_S8x1x64_S1x8x1x64_1_2_3 (broadcastInDim S8x1x64 ![0, 2] bcast_S8x64_S8x1x64_0_2 sn)))))⟩, ⟨S32x8x2x64, (addf (mulf (extractStridedSlice S32x8x2x64 ![0, 0, 0, 64] x slices_S32x8x2x128_S32x8x2x64_0_0_0_64) (broadcastInDim S32x8x2x64 ![0, 1, 2, 3] bcast_S1x8x1x64_S32x8x2x64_0_1_2_3 (broadcastInDim S1x8x1x64 ![1, 2, 3] bcast_S8x1x64_S1x8x1x64_1_2_3 (broadcastInDim S8x1x64 ![0, 2] bcast_S8x64_S8x1x64_0_2 cs)))) (mulf (extractStridedSlice S32x8x2x64 ![0, 0, 0, 0] x slices_S32x8x2x128_S32x8x2x64_0_0_0_0) (broadcastInDim S32x8x2x64 ![0, 1, 2, 3] bcast_S1x8x1x64_S32x8x2x64_0_1_2_3 (broadcastInDim S1x8x1x64 ![1, 2, 3] bcast_S8x1x64_S1x8x1x64_1_2_3 (broadcastInDim S8x1x64 ![0, 2] bcast_S8x64_S8x1x64_0_2 sn)))))⟩] concatenates_S32x8x2x64_S32x8x2x64_S32x8x2x128_d3

/-- The reference's rotation of eight heads. -/
def rope8R (x : FVec Ideal S32x8x8x128 .f32) : FVec Ideal S32x8x8x128 .f32 :=
  concatenate S32x8x8x128 3 [⟨S32x8x8x64, (subf (mulf (extractStridedSlice S32x8x8x64 ![0, 0, 0, 0] x slices_S32x8x8x128_S32x8x8x64_0_0_0_0) (broadcastInDim S32x8x8x64 ![0, 1, 2, 3] bcast_S1x8x1x64_S32x8x8x64_0_1_2_3 (broadcastInDim S1x8x1x64 ![1, 2, 3] bcast_S8x1x64_S1x8x1x64_1_2_3 (broadcastInDim S8x1x64 ![0, 2] bcast_S8x64_S8x1x64_0_2 cs)))) (mulf (extractStridedSlice S32x8x8x64 ![0, 0, 0, 64] x slices_S32x8x8x128_S32x8x8x64_0_0_0_64) (broadcastInDim S32x8x8x64 ![0, 1, 2, 3] bcast_S1x8x1x64_S32x8x8x64_0_1_2_3 (broadcastInDim S1x8x1x64 ![1, 2, 3] bcast_S8x1x64_S1x8x1x64_1_2_3 (broadcastInDim S8x1x64 ![0, 2] bcast_S8x64_S8x1x64_0_2 sn)))))⟩, ⟨S32x8x8x64, (addf (mulf (extractStridedSlice S32x8x8x64 ![0, 0, 0, 64] x slices_S32x8x8x128_S32x8x8x64_0_0_0_64) (broadcastInDim S32x8x8x64 ![0, 1, 2, 3] bcast_S1x8x1x64_S32x8x8x64_0_1_2_3 (broadcastInDim S1x8x1x64 ![1, 2, 3] bcast_S8x1x64_S1x8x1x64_1_2_3 (broadcastInDim S8x1x64 ![0, 2] bcast_S8x64_S8x1x64_0_2 cs)))) (mulf (extractStridedSlice S32x8x8x64 ![0, 0, 0, 0] x slices_S32x8x8x128_S32x8x8x64_0_0_0_0) (broadcastInDim S32x8x8x64 ![0, 1, 2, 3] bcast_S1x8x1x64_S32x8x8x64_0_1_2_3 (broadcastInDim S1x8x1x64 ![1, 2, 3] bcast_S8x1x64_S1x8x1x64_1_2_3 (broadcastInDim S8x1x64 ![0, 2] bcast_S8x64_S8x1x64_0_2 sn)))))⟩] concatenates_S32x8x8x64_S32x8x8x64_S32x8x8x128_d3

/-- An entry of the rotation of two heads. -/
theorem rope2R_at (x : FVec Ideal S32x8x2x128 .f32) (b : Fin 32) (p : Fin 8) (s : Fin 2) (e : Fin 128) :
    rope2R cs sn x (ix4 b p s e) = ropeF cs sn p (fun e => x (ix4 b p s e)) e := by
  pointwise [rope2R, ropeF]
  by_cases he : (e : ℕ) < 64
  · rw [dif_pos he, dif_pos he]
    simp only [Nat.add_comm]
  · have e3 : 64 + ((e : ℕ) - 64) = e := by omega
    rw [dif_neg he, dif_neg he]
    simp only [e3]

/-- An entry of the rotation of eight heads. -/
theorem rope8R_at (x : FVec Ideal S32x8x8x128 .f32) (b : Fin 32) (p : Fin 8) (s : Fin 8) (e : Fin 128) :
    rope8R cs sn x (ix4 b p s e) = ropeF cs sn p (fun e => x (ix4 b p s e)) e := by
  pointwise [rope8R, ropeF]
  by_cases he : (e : ℕ) < 64
  · rw [dif_pos he, dif_pos he]
    simp only [Nat.add_comm]
  · have e3 : 64 + ((e : ℕ) - 64) = e := by omega
    rw [dif_neg he, dif_neg he]
    simp only [e3]

end Rope

section Parts
variable (z : FVec Ideal S32x8x7704 .f32)

/-- The query heads. -/
def qR : FVec Ideal S32x8x8x128 .f32 :=
  shapeCast _ (extractStridedSlice S32x8x1024 ![0, 0, 0] z slices_S32x8x7704_S32x8x1024_0_0_0) shapeCasts_S32x8x1024_S32x8x8x128

/-- The six components of the keys and values. -/
def kvR : FVec Ideal S32x8x6x2x128 .f32 :=
  shapeCast _ (extractStridedSlice S32x8x1536 ![0, 0, 1024] z slices_S32x8x7704_S32x8x1536_0_0_1024) shapeCasts_S32x8x1536_S32x8x6x2x128

/-- Component 0. -/
def kv0R : FVec Ideal S32x8x2x128 .f32 :=
  shapeCast _ (extractStridedSlice S32x8x1x2x128 ![0, 0, 0, 0, 0] (kvR z) slices_S32x8x6x2x128_S32x8x1x2x128_0_0_0_0_0) shapeCasts_S32x8x1x2x128_S32x8x2x128
/-- Component 1. -/
def kv1R : FVec Ideal S32x8x2x128 .f32 :=
  shapeCast _ (extractStridedSlice S32x8x1x2x128 ![0, 0, 1, 0, 0] (kvR z) slices_S32x8x6x2x128_S32x8x1x2x128_0_0_1_0_0) shapeCasts_S32x8x1x2x128_S32x8x2x128
/-- Component 2. -/
def kv2R : FVec Ideal S32x8x2x128 .f32 :=
  shapeCast _ (extractStridedSlice S32x8x1x2x128 ![0, 0, 2, 0, 0] (kvR z) slices_S32x8x6x2x128_S32x8x1x2x128_0_0_2_0_0) shapeCasts_S32x8x1x2x128_S32x8x2x128
/-- Component 3. -/
def kv3R : FVec Ideal S32x8x2x128 .f32 :=
  shapeCast _ (extractStridedSlice S32x8x1x2x128 ![0, 0, 3, 0, 0] (kvR z) slices_S32x8x6x2x128_S32x8x1x2x128_0_0_3_0_0) shapeCasts_S32x8x1x2x128_S32x8x2x128
/-- Component 4. -/
def kv4R : FVec Ideal S32x8x2x128 .f32 :=
  shapeCast _ (extractStridedSlice S32x8x1x2x128 ![0, 0, 4, 0, 0] (kvR z) slices_S32x8x6x2x128_S32x8x1x2x128_0_0_4_0_0) shapeCasts_S32x8x1x2x128_S32x8x2x128
/-- Component 5. -/
def kv5R : FVec Ideal S32x8x2x128 .f32 :=
  shapeCast _ (extractStridedSlice S32x8x1x2x128 ![0, 0, 5, 0, 0] (kvR z) slices_S32x8x6x2x128_S32x8x1x2x128_0_0_5_0_0) shapeCasts_S32x8x1x2x128_S32x8x2x128

/-- An entry of the query heads. -/
theorem qR_at (b : Fin 32) (p : Fin 8) (s : Fin 8) (e : Fin 128) : qR z (ix4 b p s e) = z (ix3 b p ⟨s * 128 + e, by omega⟩) := by
  pointwise [qR]
/-- An entry of component 0. -/
theorem kv0R_at (b : Fin 32) (p : Fin 8) (s : Fin 2) (e : Fin 128) :
    kv0R z (ix4 b p s e) = z (ix3 b p ⟨(8 + s) * 128 + e, by omega⟩) := by
  pointwise [kv0R, kvR]
  exact congrArg (fun q => z (ix3 b p q)) (Fin.ext (by dsimp only; omega))
/-- An entry of component 1. -/
theorem kv1R_at (b : Fin 32) (p : Fin 8) (s : Fin 2) (e : Fin 128) :
    kv1R z (ix4 b p s e) = z (ix3 b p ⟨(10 + s) * 128 + e, by omega⟩) := by
  pointwise [kv1R, kvR]
  exact congrArg (fun q => z (ix3 b p q)) (Fin.ext (by dsimp only; omega))
/-- An entry of component 2. -/
theorem kv2R_at (b : Fin 32) (p : Fin 8) (s : Fin 2) (e : Fin 128) :
    kv2R z (ix4 b p s e) = z (ix3 b p ⟨(12 + s) * 128 + e, by omega⟩) := by
  pointwise [kv2R, kvR]
  exact congrArg (fun q => z (ix3 b p q)) (Fin.ext (by dsimp only; omega))
/-- An entry of component 3. -/
theorem kv3R_at (b : Fin 32) (p : Fin 8) (s : Fin 2) (e : Fin 128) :
    kv3R z (ix4 b p s e) = z (ix3 b p ⟨(14 + s) * 128 + e, by omega⟩) := by
  pointwise [kv3R, kvR]
  exact congrArg (fun q => z (ix3 b p q)) (Fin.ext (by dsimp only; omega))
/-- An entry of component 4. -/
theorem kv4R_at (b : Fin 32) (p : Fin 8) (s : Fin 2) (e : Fin 128) :
    kv4R z (ix4 b p s e) = z (ix3 b p ⟨(16 + s) * 128 + e, by omega⟩) := by
  pointwise [kv4R, kvR]
  exact congrArg (fun q => z (ix3 b p q)) (Fin.ext (by dsimp only; omega))
/-- An entry of component 5. -/
theorem kv5R_at (b : Fin 32) (p : Fin 8) (s : Fin 2) (e : Fin 128) :
    kv5R z (ix4 b p s e) = z (ix3 b p ⟨(18 + s) * 128 + e, by omega⟩) := by
  pointwise [kv5R, kvR]
  exact congrArg (fun q => z (ix3 b p q)) (Fin.ext (by dsimp only; omega))

/-- Four arrays side by side. -/
def stack4R (a0 a1 a2 a3 : FVec Ideal S32x8x2x128 .f32) : FVec Ideal S32x8x4x2x128 .f32 :=
  concatenate S32x8x4x2x128 2 [⟨S32x8x1x2x128, (broadcastInDim S32x8x1x2x128 ![0, 1, 3, 4] bcast_S32x8x2x128_S32x8x1x2x128_0_1_3_4 a0)⟩, ⟨S32x8x1x2x128, (broadcastInDim S32x8x1x2x128 ![0, 1, 3, 4] bcast_S32x8x2x128_S32x8x1x2x128_0_1_3_4 a1)⟩, ⟨S32x8x1x2x128, (broadcastInDim S32x8x1x2x128 ![0, 1, 3, 4] bcast_S32x8x2x128_S32x8x1x2x128_0_1_3_4 a2)⟩, ⟨S32x8x1x2x128, (broadcastInDim S32x8x1x2x128 ![0, 1, 3, 4] bcast_S32x8x2x128_S32x8x1x2x128_0_1_3_4 a3)⟩] concatenates_S32x8x1x2x128_S32x8x1x2x128_S32x8x1x2x128_S32x8x1x2x128_S32x8x4x2x128_d2

/-- Two arrays side by side. -/
def stack2R (a0 a1 : FVec Ideal S32x8x2x128 .f32) : FVec Ideal S32x8x2x2x128 .f32 :=
  concatenate S32x8x2x2x128 2 [⟨S32x8x1x2x128, (broadcastInDim S32x8x1x2x128 ![0, 1, 3, 4] bcast_S32x8x2x128_S32x8x1x2x128_0_1_3_4 a0)⟩, ⟨S32x8x1x2x128, (broadcastInDim S32x8x1x2x128 ![0, 1, 3, 4] bcast_S32x8x2x128_S32x8x1x2x128_0_1_3_4 a1)⟩] concatenates_S32x8x1x2x128_S32x8x1x2x128_S32x8x2x2x128_d2

/-- An entry of four arrays side by side. -/
theorem stack4R_at (a0 a1 a2 a3 : FVec Ideal S32x8x2x128 .f32) (b : Fin 32) (p : Fin 8) (j : Fin 4) (s : Fin 2) (e : Fin 128) :
    stack4R a0 a1 a2 a3 (ix5 b p j s e) = if (j : ℕ) = 0 then a0 (ix4 b p s e) else if (j : ℕ) = 1 then a1 (ix4 b p s e)
      else if (j : ℕ) = 2 then a2 (ix4 b p s e) else a3 (ix4 b p s e) := by
  pointwise [stack4R]
  split_ifs <;> first | rfl | omega

/-- An entry of two arrays side by side. -/
theorem stack2R_at (a0 a1 : FVec Ideal S32x8x2x128 .f32) (b : Fin 32) (p : Fin 8) (j : Fin 2) (s : Fin 2) (e : Fin 128) :
    stack2R a0 a1 (ix5 b p j s e) = if (j : ℕ) = 0 then a0 (ix4 b p s e) else a1 (ix4 b p s e) := by
  pointwise [stack2R]
  split_ifs <;> first | rfl | omega

end Parts

section Results
variable (A0 : FVec Ideal S32x8x2048 .f32) (A1 : FVec Ideal S2048 .f32) (A2 : FVec Ideal S2048x7704 .f32)
  (cs sn : FVec Ideal S8x64 .f32)

/-- The two heads of columns `128 g` on, as the reference has them. -/
abbrev headsF (b : Fin 32) (p : Fin 8) (g : ℕ) (hg : g < 20) (e : Fin 128) : EReal := zF A0 A1 A2 (rowF b p) ⟨g * 128 + e, by omega⟩

/-- An unrotated cached key or value of the kernel. -/
theorem nsa_plain (b : Fin 32) (p : Fin 8) (r : Fin 2048) (m g : ℕ) (hm : m < 8) (hr : r.val = (b.val * 8 + p.val) * 8 + m)
    (hg : g = 8 + m) (h : ¬(m = 4 ∨ m = 5)) (e : Fin 128) :
    SI.nsaE (SI.xT A0) (SI.gT A1) (SI.wqT A2) (SI.tableT cs cs) (SI.tableT (Host.negf sn) sn) r e = headsF A0 A1 A2 b p g (by omega) e := by
  have e1 : r.val % 8 = m := by omega
  have e2 : r.val / 8 = b.val * 8 + p.val := by omega
  subst hg
  unfold SI.nsaE
  simp only [e1, e2]
  rw [if_neg h, zE_eq A0 A1 A2 _ _ (by omega)]
  exact congrArg (zF A0 A1 A2 _) (Fin.ext (by dsimp only; omega))

/-- A rotated cached key of the kernel. -/
theorem nsa_rope (b : Fin 32) (p : Fin 8) (r : Fin 2048) (m g : ℕ) (hm : m < 8) (hr : r.val = (b.val * 8 + p.val) * 8 + m)
    (hg : g = 8 + m) (h : m = 4 ∨ m = 5) (e : Fin 128) :
    SI.nsaE (SI.xT A0) (SI.gT A1) (SI.wqT A2) (SI.tableT cs cs) (SI.tableT (Host.negf sn) sn) r e = ropeF cs sn p (headsF A0 A1 A2 b p g (by omega)) e := by
  have e1 : r.val % 8 = m := by omega
  have e2 : r.val / 8 = b.val * 8 + p.val := by omega
  subst hg
  unfold SI.nsaE
  simp only [e1, e2]
  rw [if_pos h]
  exact ropeE_eq A0 A1 A2 cs sn b p (8 + m) (by omega) e _ _ (by omega)

/-- An unrotated window value of the kernel. -/
theorem win_plain (b : Fin 32) (p : Fin 8) (r : Fin 1024) (m g : ℕ) (hm : m < 4) (hr : r.val = (b.val * 8 + p.val) * 4 + m)
    (hg : g = 16 + m) (h : ¬m < 2) (e : Fin 128) :
    SI.winE (SI.xT A0) (SI.gT A1) (SI.wqT A2) (SI.tableT cs cs) (SI.tableT (Host.negf sn) sn) r e = headsF A0 A1 A2 b p g (by omega) e := by
  have e1 : r.val % 4 = m := by omega
  have e2 : r.val / 4 = b.val * 8 + p.val := by omega
  subst hg
  unfold SI.winE
  simp only [e1, e2]
  rw [if_neg h, zE_eq A0 A1 A2 _ _ (by omega)]
  exact congrArg (zF A0 A1 A2 _) (Fin.ext (by dsimp only; omega))

/-- A rotated window key of the kernel. -/
theorem win_rope (b : Fin 32) (p : Fin 8) (r : Fin 1024) (m g : ℕ) (hm : m < 4) (hr : r.val = (b.val * 8 + p.val) * 4 + m)
    (hg : g = 16 + m) (h : m < 2) (e : Fin 128) :
    SI.winE (SI.xT A0) (SI.gT A1) (SI.wqT A2) (SI.tableT cs cs) (SI.tableT (Host.negf sn) sn) r e = ropeF cs sn p (headsF A0 A1 A2 b p g (by omega)) e := by
  have e1 : r.val % 4 = m := by omega
  have e2 : r.val / 4 = b.val * 8 + p.val := by omega
  subst hg
  unfold SI.winE
  simp only [e1, e2]
  rw [if_pos h]
  exact ropeE_eq A0 A1 A2 cs sn b p (16 + m) (by omega) e _ _ (by omega)

/-- A component's rotation in the reference, from its entries. -/
theorem rope_heads (x : FVec Ideal S32x8x2x128 .f32) (b : Fin 32) (p : Fin 8) (s : Fin 2) (g : ℕ) (hg : g < 20)
    (hx : ∀ e : Fin 128, x (ix4 b p s e) = headsF A0 A1 A2 b p g hg e) (e : Fin 128) :
    rope2R cs sn x (ix4 b p s e) = ropeF cs sn p (headsF A0 A1 A2 b p g hg) e :=
  (rope2R_at cs sn x b p s e).trans (congrArg (fun f => ropeF cs sn p f e) (funext hx))

/-- Component 0 of the reference, entry by entry. -/
theorem kv0_heads (b : Fin 32) (p : Fin 8) (s : Fin 2) (e : Fin 128) :
    kv0R (zR A0 A1 A2) (ix4 b p s e) = headsF A0 A1 A2 b p (8 + s) (by omega) e := (kv0R_at _ b p s e).trans (zR_at A0 A1 A2 b p _)

/-- Component 1 of the reference, entry by entry. -/
theorem kv1_heads (b : Fin 32) (p : Fin 8) (s : Fin 2) (e : Fin 128) :
    kv1R (zR A0 A1 A2) (ix4 b p s e) = headsF A0 A1 A2 b p (10 + s) (by omega) e := (kv1R_at _ b p s e).trans (zR_at A0 A1 A2 b p _)

/-- Component 2 of the reference, entry by entry. -/
theorem kv2_heads (b : Fin 32) (p : Fin 8) (s : Fin 2) (e : Fin 128) :
    kv2R (zR A0 A1 A2) (ix4 b p s e) = headsF A0 A1 A2 b p (12 + s) (by omega) e := (kv2R_at _ b p s e).trans (zR_at A0 A1 A2 b p _)

/-- Component 3 of the reference, entry by entry. -/
theorem kv3_heads (b : Fin 32) (p : Fin 8) (s : Fin 2) (e : Fin 128) :
    kv3R (zR A0 A1 A2) (ix4 b p s e) = headsF A0 A1 A2 b p (14 + s) (by omega) e := (kv3R_at _ b p s e).trans (zR_at A0 A1 A2 b p _)

/-- Component 4 of the reference, entry by entry. -/
theorem kv4_heads (b : Fin 32) (p : Fin 8) (s : Fin 2) (e : Fin 128) :
    kv4R (zR A0 A1 A2) (ix4 b p s e) = headsF A0 A1 A2 b p (16 + s) (by omega) e := (kv4R_at _ b p s e).trans (zR_at A0 A1 A2 b p _)

/-- Component 5 of the reference, entry by entry. -/
theorem kv5_heads (b : Fin 32) (p : Fin 8) (s : Fin 2) (e : Fin 128) :
    kv5R (zR A0 A1 A2) (ix4 b p s e) = headsF A0 A1 A2 b p (18 + s) (by omega) e := (kv5R_at _ b p s e).trans (zR_at A0 A1 A2 b p _)

/-- The reference's new cached keys and values. -/
def nkvR (z : FVec Ideal S32x8x7704 .f32) : FVec Ideal S1x32x8x4x2x128 .f32 :=
  broadcastInDim S1x32x8x4x2x128 ![1, 2, 3, 4, 5] bcast_S32x8x4x2x128_S1x32x8x4x2x128_1_2_3_4_5
    (stack4R (kv0R z) (kv1R z) (rope2R cs sn (kv2R z)) (kv3R z))

/-- An entry of the kernel's new cached keys and values. -/
theorem newKvT_at (Y : FVec Ideal Cert.SampleIdeal.S2048x128 .f32) (a : Fin 1) (b : Fin 32) (p : Fin 8) (j : Fin 4) (s : Fin 2) (e : Fin 128) :
    SI.newKvT Y (ix6 a b p j s e) = Y (ix2 ⟨(b.val * 8 + p.val) * 8 + (j.val * 2 + s.val), by omega⟩ e) := by
  pointwise [SI.newKvT]
  try exact congrArg (fun r => Y (ix2 r e)) (Fin.ext (by dsimp only; omega))

/-- An entry of the reference's new cached keys and values is the kernel's. -/
theorem nkvR_at (a : Fin 1) (b : Fin 32) (p : Fin 8) (j : Fin 4) (s : Fin 2) (e : Fin 128) :
    nkvR cs sn (zR A0 A1 A2) (ix6 a b p j s e)
      = SI.nsaE (SI.xT A0) (SI.gT A1) (SI.wqT A2) (SI.tableT cs cs) (SI.tableT (Host.negf sn) sn) ⟨(b.val * 8 + p.val) * 8 + (j.val * 2 + s.val), by omega⟩ e := by
  pointwise [nkvR]
  rw [stack4R_at]
  split_ifs with h0 h1 h2
  · rw [nsa_plain A0 A1 A2 cs sn b p _ (j.val * 2 + s.val) (8 + s) (by omega) rfl (by omega) (by omega), kv0_heads]
  · rw [nsa_plain A0 A1 A2 cs sn b p _ (j.val * 2 + s.val) (10 + s) (by omega) rfl (by omega) (by omega), kv1_heads]
  · rw [nsa_rope A0 A1 A2 cs sn b p _ (j.val * 2 + s.val) (12 + s) (by omega) rfl (by omega) (by omega)]
    exact rope_heads A0 A1 A2 cs sn _ b p s _ _ (kv2_heads A0 A1 A2 b p s) e
  · rw [nsa_plain A0 A1 A2 cs sn b p _ (j.val * 2 + s.val) (14 + s) (by omega) rfl (by omega) (by omega), kv3_heads]

/-- The reference's new cached keys and values are the kernel's. -/
theorem nkvR_eq : nkvR cs sn (zR A0 A1 A2) = SI.newKvT (SI.nsaT (SI.xT A0) (SI.gT A1) (SI.wqT A2) (SI.tableT cs cs) (SI.tableT (Host.negf sn) sn)) := by
  funext y
  rw [eq_ix6 (y : S1x32x8x4x2x128.Idx)]
  exact (nkvR_at A0 A1 A2 cs sn (y 0) (y 1) (y 2) (y 3) (y 4) (y 5)).trans (newKvT_at (SI.nsaT (SI.xT A0) (SI.gT A1) (SI.wqT A2) (SI.tableT cs cs) (SI.tableT (Host.negf sn) sn)) (y 0) (y 1) (y 2) (y 3) (y 4) (y 5)).symm

/-- The window keys and values of the samples' positions as the kernel leaves them. -/
def winK (Y : FVec Ideal Cert.SampleIdeal.S1024x128 .f32) : FVec Ideal S32x8x2x2x128 .f32 :=
  shapeCast Cert.SampleIdeal.S32x8x2x2x128 Y Cert.SampleIdeal.Facts₀.shapeCasts_S1024x128_S32x8x2x2x128

/-- An entry of the kernel's window keys and values. -/
theorem winK_at (Y : FVec Ideal Cert.SampleIdeal.S1024x128 .f32) (b : Fin 32) (p : Fin 8) (j : Fin 2) (s : Fin 2) (e : Fin 128) :
    winK Y (ix5 b p j s e) = Y (ix2 ⟨(b.val * 8 + p.val) * 4 + (j.val * 2 + s.val), by omega⟩ e) := by
  pointwise [winK]
  try exact congrArg (fun r => Y (ix2 r e)) (Fin.ext (by dsimp only; omega))

/-- An entry of the reference's window keys and values is the kernel's. -/
theorem winR_at (b : Fin 32) (p : Fin 8) (j : Fin 2) (s : Fin 2) (e : Fin 128) :
    stack2R (rope2R cs sn (kv4R (zR A0 A1 A2))) (kv5R (zR A0 A1 A2)) (ix5 b p j s e)
      = SI.winE (SI.xT A0) (SI.gT A1) (SI.wqT A2) (SI.tableT cs cs) (SI.tableT (Host.negf sn) sn) ⟨(b.val * 8 + p.val) * 4 + (j.val * 2 + s.val), by omega⟩ e := by
  rw [stack2R_at]
  split_ifs with h0
  · rw [win_rope A0 A1 A2 cs sn b p _ (j.val * 2 + s.val) (16 + s) (by omega) rfl (by omega) (by omega)]
    exact rope_heads A0 A1 A2 cs sn _ b _ s _ _ (kv4_heads A0 A1 A2 b _ s) e
  · rw [win_plain A0 A1 A2 cs sn b p _ (j.val * 2 + s.val) (18 + s) (by omega) rfl (by omega) (by omega), kv5_heads]

/-- The reference's window keys and values are the kernel's. -/
theorem winR_eq : stack2R (rope2R cs sn (kv4R (zR A0 A1 A2))) (kv5R (zR A0 A1 A2))
    = winK (SI.winT (SI.xT A0) (SI.gT A1) (SI.wqT A2) (SI.tableT cs cs) (SI.tableT (Host.negf sn) sn)) := by
  funext y
  rw [eq_ix5 (y : S32x8x2x2x128.Idx)]
  exact (winR_at A0 A1 A2 cs sn (y 0) (y 1) (y 2) (y 3) (y 4)).trans (winK_at (SI.winT (SI.xT A0) (SI.gT A1) (SI.wqT A2) (SI.tableT cs cs) (SI.tableT (Host.negf sn) sn)) (y 0) (y 1) (y 2) (y 3) (y 4)).symm

/-- The window state followed by new keys and values. -/
def winJoin (w : FVec Ideal S32x512x2x2x128 .f32) (n : FVec Ideal S32x8x2x2x128 .f32) : FVec Ideal S32x520x2x2x128 .f32 :=
  concatenate S32x520x2x2x128 1 [⟨S32x512x2x2x128, w⟩, ⟨S32x8x2x2x128, n⟩] concatenates_S32x512x2x2x128_S32x8x2x2x128_S32x520x2x2x128_d1

/-- The last 512 of the reference's joined window. -/
def winTail (x : FVec Ideal S32x520x2x2x128 .f32) : FVec Ideal S1x32x512x2x2x128 .f32 :=
  broadcastInDim S1x32x512x2x2x128 ![1, 2, 3, 4, 5] bcast_S32x512x2x2x128_S1x32x512x2x2x128_1_2_3_4_5
    (extractStridedSlice S32x512x2x2x128 ![0, 8, 0, 0, 0] x slices_S32x520x2x2x128_S32x512x2x2x128_0_8_0_0_0)

/-- The last 512 of the kernel's joined window. -/
def winTailK (x : FVec Ideal S32x520x2x2x128 .f32) : FVec Ideal S1x32x512x2x2x128 .f32 :=
  extractStridedSlice Cert.SampleIdeal.S1x32x512x2x2x128 ![0, 0, 8, 0, 0, 0]
    (broadcastInDim Cert.SampleIdeal.S1x32x520x2x2x128 ![1, 2, 3, 4, 5] Cert.SampleIdeal.Facts₀.bcast_S32x520x2x2x128_S1x32x520x2x2x128_1_2_3_4_5 x)
    Cert.SampleIdeal.Facts₀.slices_S1x32x520x2x2x128_S1x32x512x2x2x128_0_0_8_0_0_0

/-- Taking the last 512 before or after the layer's axis is added is the same. -/
theorem winTail_eq (x : FVec Ideal S32x520x2x2x128 .f32) : winTail x = winTailK x := by
  have h (a : Fin 1) (b : Fin 32) (t : Fin 512) (j : Fin 2) (s : Fin 2) (e : Fin 128) :
      winTail x (ix6 a b t j s e) = winTailK x (ix6 a b t j s e) := by
    pointwise [winTail, winTailK]
  funext y
  rw [eq_ix6 (y : S1x32x512x2x2x128.Idx)]
  exact h (y 0) (y 1) (y 2) (y 3) (y 4) (y 5)

/-- The reference's new window state. -/
def nwinR (w : FVec Ideal S32x512x2x2x128 .f32) (z : FVec Ideal S32x8x7704 .f32) : FVec Ideal S1x32x512x2x2x128 .f32 :=
  winTail (winJoin w (stack2R (rope2R cs sn (kv4R z)) (kv5R z)))

/-- The reference's new window state is the kernel's. -/
theorem nwinR_eq (w : FVec Ideal S32x512x2x2x128 .f32) : nwinR cs sn w (zR A0 A1 A2) = SI.newWinT w (SI.winT (SI.xT A0) (SI.gT A1) (SI.wqT A2) (SI.tableT cs cs) (SI.tableT (Host.negf sn) sn)) :=
  (winTail_eq _).trans (congrArg (fun n => winTailK (winJoin w n)) (winR_eq A0 A1 A2 cs sn))

/-- The pool inputs of the reference. -/
def ubR (z : FVec Ideal S32x8x7704 .f32) : FVec Ideal S32x8x1024 .f32 :=
  extractStridedSlice S32x8x1024 ![0, 0, 2584] z slices_S32x8x7704_S32x8x1024_0_0_2584

/-- An entry of the kernel's pool inputs. -/
theorem uT_at (b : Fin 32) (p : Fin 8) (q : Fin 1024) :
    SI.uT (SI.hT (SI.xT A0) (SI.gT A1)) (SI.wuT A2) (ix2 (rowF b p) q) = zF A0 A1 A2 (rowF b p) ⟨2584 + q, by omega⟩ := by
  refine Finset.sum_congr rfl fun k _ => ?_
  refine congrArg (fun a : EReal => SI.hE (SI.xT A0) (SI.gT A1) (rowF b p) k * a) ?_
  pointwise [SI.wuT, SI.w0T]

/-- An entry of the reference's pool inputs is the kernel's. -/
theorem ubR_at (b : Fin 32) (p : Fin 8) (q : Fin 1024) :
    ubR (zR A0 A1 A2) (ix3 b p q) = SI.uT (SI.hT (SI.xT A0) (SI.gT A1)) (SI.wuT A2) (ix2 (rowF b p) q) := by
  rw [uT_at]
  pointwise [ubR]
  exact zR_at A0 A1 A2 b p _

/-- The pool inputs of the samples' positions as the kernel leaves them. -/
def ubK (Y : FVec Ideal Cert.SampleIdeal.S256x1024 .f32) : FVec Ideal S32x8x1024 .f32 :=
  shapeCast Cert.SampleIdeal.S32x8x1024 Y Cert.SampleIdeal.Facts₀.shapeCasts_S256x1024_S32x8x1024

/-- An entry of the kernel's pool inputs by position. -/
theorem ubK_at (Y : FVec Ideal Cert.SampleIdeal.S256x1024 .f32) (b : Fin 32) (p : Fin 8) (q : Fin 1024) :
    ubK Y (ix3 b p q) = Y (ix2 (rowF b p) q) := by
  pointwise [ubK]
  try exact congrArg (fun r => Y (ix2 r q)) (Fin.ext (by dsimp only; omega))

/-- The reference's pool inputs are the kernel's. -/
theorem ubR_eq : ubR (zR A0 A1 A2) = ubK (SI.uT (SI.hT (SI.xT A0) (SI.gT A1)) (SI.wuT A2)) := by
  funext y
  rw [eq_ix3 (y : S32x8x1024.Idx)]
  exact (ubR_at A0 A1 A2 (y 0) (y 1) (y 2)).trans (ubK_at (SI.uT (SI.hT (SI.xT A0) (SI.gT A1)) (SI.wuT A2)) (y 0) (y 1) (y 2)).symm

/-- The last 15 of the pool state followed by new pool inputs. -/
def poolTail (w : FVec Ideal S32x15x1024 .f32) (n : FVec Ideal S32x8x1024 .f32) : FVec Ideal S1x32x15x1024 .f32 :=
  broadcastInDim S1x32x15x1024 ![1, 2, 3] bcast_S32x15x1024_S1x32x15x1024_1_2_3
    (extractStridedSlice S32x15x1024 ![0, 8, 0]
      (concatenate S32x23x1024 1 [⟨S32x15x1024, w⟩, ⟨S32x8x1024, n⟩] concatenates_S32x15x1024_S32x8x1024_S32x23x1024_d1)
      slices_S32x23x1024_S32x15x1024_0_8_0)

/-- The reference's new pool state. -/
def npoolR (w : FVec Ideal S32x15x1024 .f32) (z : FVec Ideal S32x8x7704 .f32) : FVec Ideal S1x32x15x1024 .f32 := poolTail w (ubR z)

/-- The reference's new pool state is the kernel's. -/
theorem npoolR_eq (w : FVec Ideal S32x15x1024 .f32) :
    npoolR w (zR A0 A1 A2) = SI.newPoolT w (SI.uT (SI.hT (SI.xT A0) (SI.gT A1)) (SI.wuT A2)) :=
  congrArg (poolTail w) (ubR_eq A0 A1 A2)

/-- A row is a position of a batch. -/
theorem row_eq (i : Fin 256) : rowF ⟨i.val / 8, by omega⟩ ⟨i.val % 8, by omega⟩ = i := Fin.ext (by dsimp only; omega)

/-- The reference's pool inputs as rows. -/
def uR (z : FVec Ideal S32x8x7704 .f32) : FVec Ideal S256x1024 .f32 := shapeCast S256x1024 (ubR z) shapeCasts_S32x8x1024_S256x1024

/-- An entry of the reference's pool inputs as rows. -/
theorem uR_at (z : FVec Ideal S32x8x7704 .f32) (i : Fin 256) (q : Fin 1024) :
    uR z (ix2 i q) = ubR z (ix3 ⟨i.val / 8, by omega⟩ ⟨i.val % 8, by omega⟩ q) := by
  pointwise [uR]

/-- The reference's pool inputs as rows are the kernel's. -/
theorem uR_eq : uR (zR A0 A1 A2) = SI.uT (SI.hT (SI.xT A0) (SI.gT A1)) (SI.wuT A2) := by
  have h (i : Fin 256) (q : Fin 1024) : uR (zR A0 A1 A2) (ix2 i q) = SI.uT (SI.hT (SI.xT A0) (SI.gT A1)) (SI.wuT A2) (ix2 i q) :=
    (uR_at _ i q).trans ((ubR_at A0 A1 A2 _ _ q).trans (congrArg (fun r => SI.uT (SI.hT (SI.xT A0) (SI.gT A1)) (SI.wuT A2) (ix2 r q)) (row_eq i)))
  funext y
  rw [eq_ix2 (y : S256x1024.Idx)]
  exact h (y 0) (y 1)

/-- The reference's normalised rows at the kernels' format. -/
def hrR : FVec Ideal S256x2048 .bf16 := truncf .bf16 (shapeCast S256x2048 (hR A0 A1) shapeCasts_S32x8x2048_S256x2048) bitsLt_bf16_f32

/-- An entry of the reference's normalised rows at the kernels' format. -/
theorem hrR_at (i : Fin 256) (q : Fin 2048) : hrR A0 A1 (ix2 i q) = hR A0 A1 (ix3 ⟨i.val / 8, by omega⟩ ⟨i.val % 8, by omega⟩ q) := by
  pointwise [hrR]

/-- The reference's normalised rows are the kernel's. -/
theorem hrR_eq : hrR A0 A1 = SI.hT (SI.xT A0) (SI.gT A1) := by
  have h (i : Fin 256) (q : Fin 2048) : hrR A0 A1 (ix2 i q) = SI.hE (SI.xT A0) (SI.gT A1) i q :=
    (hrR_at A0 A1 i q).trans ((hR_at A0 A1 _ _ q).trans (congrArg (fun r => SI.hE (SI.xT A0) (SI.gT A1) r q) (row_eq i)))
  funext y
  rw [eq_ix2 (y : S256x2048.Idx)]
  exact h (y 0) (y 1)

/-- The reference's gates. -/
def gateR (z : FVec Ideal S32x8x7704 .f32) : FVec Ideal S256x24 .f32 :=
  shapeCast S256x24 (Host.divf (broadcastInDim S32x8x24 ![] bcast_S_S32x8x24 (constant S_ .f32 0x3F800000#32)) (addf (broadcastInDim S32x8x24 ![] bcast_S_S32x8x24 (constant S_ .f32 0x3F800000#32)) (Host.exp (Host.negf (extractStridedSlice S32x8x24 ![0, 0, 2560] z slices_S32x8x7704_S32x8x24_0_0_2560))))) shapeCasts_S32x8x24_S256x24

/-- An entry of the kernel's gates. -/
theorem gate24T_at (b : Fin 32) (p : Fin 8) (q : Fin 24) :
    SI.gate24T (SI.gateT (SI.xT A0) (SI.gT A1) (SI.wqT A2)) (ix2 (rowF b p) q) = Ideal.logistic (zR A0 A1 A2 (ix3 b p ⟨2560 + q, by omega⟩)) := by
  generalize hY : SI.gateT (SI.xT A0) (SI.gT A1) (SI.wqT A2) = Y
  pointwise [SI.gate24T]
  subst hY
  show Ideal.logistic _ = _
  rw [zR_at]
  exact congrArg Ideal.logistic (zE_eq A0 A1 A2 (rowF b p) (2560 + q) (by omega))

/-- An entry of the reference's gates. -/
theorem gateR_at (z : FVec Ideal S32x8x7704 .f32) (i : Fin 256) (q : Fin 24) :
    gateR z (ix2 i q) = Ideal.logistic (z (ix3 ⟨i.val / 8, by omega⟩ ⟨i.val % 8, by omega⟩ ⟨2560 + q, by omega⟩)) := by
  pointwise [gateR]
  rfl

/-- The reference's gates are the kernel's. -/
theorem gateR_eq : gateR (zR A0 A1 A2) = SI.gate24T (SI.gateT (SI.xT A0) (SI.gT A1) (SI.wqT A2)) := by
  have h (i : Fin 256) (q : Fin 24) : gateR (zR A0 A1 A2) (ix2 i q) = SI.gate24T (SI.gateT (SI.xT A0) (SI.gT A1) (SI.wqT A2)) (ix2 i q) :=
    (gateR_at _ i q).trans ((gate24T_at A0 A1 A2 _ _ q).symm.trans
      (congrArg (fun r => SI.gate24T (SI.gateT (SI.xT A0) (SI.gT A1) (SI.wqT A2)) (ix2 r q)) (row_eq i)))
  funext y
  rw [eq_ix2 (y : S256x24.Idx)]
  exact h (y 0) (y 1)

/-- The reference's unrotated and rotated queries. -/
def stack8R (a0 a1 : FVec Ideal S32x8x8x128 .f32) : FVec Ideal S32x8x2x8x128 .f32 :=
  concatenate S32x8x2x8x128 2 [⟨S32x8x1x8x128, (broadcastInDim S32x8x1x8x128 ![0, 1, 3, 4] bcast_S32x8x8x128_S32x8x1x8x128_0_1_3_4 a0)⟩, ⟨S32x8x1x8x128, (broadcastInDim S32x8x1x8x128 ![0, 1, 3, 4] bcast_S32x8x8x128_S32x8x1x8x128_0_1_3_4 a1)⟩] concatenates_S32x8x1x8x128_S32x8x1x8x128_S32x8x2x8x128_d2

/-- An entry of two arrays of eight heads side by side. -/
theorem stack8R_at (a0 a1 : FVec Ideal S32x8x8x128 .f32) (b : Fin 32) (p : Fin 8) (j : Fin 2) (s : Fin 8) (e : Fin 128) :
    stack8R a0 a1 (ix5 b p j s e) = if (j : ℕ) = 0 then a0 (ix4 b p s e) else a1 (ix4 b p s e) := by
  pointwise [stack8R]
  split_ifs <;> first | rfl | omega

/-- The reference's queries as rows. -/
def qqR (z : FVec Ideal S32x8x7704 .f32) : FVec Ideal S256x2048 .bf16 :=
  truncf .bf16 (shapeCast S256x2048 (stack8R (qR z) (rope8R cs sn (qR z))) shapeCasts_S32x8x2x8x128_S256x2048) bitsLt_bf16_f32

/-- An entry of the reference's queries is the kernel's. -/
theorem stack8R_eq (b : Fin 32) (p : Fin 8) (j : Fin 2) (s : Fin 8) (e : Fin 128) :
    stack8R (qR (zR A0 A1 A2)) (rope8R cs sn (qR (zR A0 A1 A2))) (ix5 b p j s e)
      = SI.qqE (SI.xT A0) (SI.gT A1) (SI.wqT A2) (SI.tableT cs cs) (SI.tableT (Host.negf sn) sn) (rowF b p) ⟨j.val * 1024 + (s.val * 128 + e.val), by omega⟩ := by
  rw [stack8R_at]
  unfold SI.qqE
  by_cases h : (j : ℕ) = 0
  · rw [if_pos h, dif_pos (by dsimp only; omega), qR_at, zR_at, zE_eq A0 A1 A2 _ _ (by dsimp only; omega)]
    exact congrArg (zF A0 A1 A2 _) (Fin.ext (by dsimp only; omega))
  · rw [if_neg h, dif_neg (by dsimp only; omega), rope8R_at,
      ropeE_eq A0 A1 A2 cs sn b p s.val (by omega) e _ _ (by dsimp only; omega)]
    exact congrArg (fun f => ropeF cs sn p f e) (funext fun e => (qR_at _ b p s e).trans (zR_at A0 A1 A2 b p _))

/-- An entry of the reference's queries as rows. -/
theorem qqR_at (z : FVec Ideal S32x8x7704 .f32) (i : Fin 256) (q : Fin 2048) :
    qqR cs sn z (ix2 i q) = stack8R (qR z) (rope8R cs sn (qR z))
      (ix5 ⟨i.val / 8, by omega⟩ ⟨i.val % 8, by omega⟩ ⟨q.val / 1024, by omega⟩ ⟨q.val / 128 % 8, by omega⟩ ⟨q.val % 128, by omega⟩) := by
  pointwise [qqR]

/-- The reference's queries are the kernel's. -/
theorem qqR_eq : qqR cs sn (zR A0 A1 A2) = SI.qqT (SI.xT A0) (SI.gT A1) (SI.wqT A2) (SI.tableT cs cs) (SI.tableT (Host.negf sn) sn) := by
  have h (i : Fin 256) (q : Fin 2048) : qqR cs sn (zR A0 A1 A2) (ix2 i q) = SI.qqE (SI.xT A0) (SI.gT A1) (SI.wqT A2) (SI.tableT cs cs) (SI.tableT (Host.negf sn) sn) i q :=
    (qqR_at cs sn _ i q).trans ((stack8R_eq A0 A1 A2 cs sn _ _ _ _ _).trans
      (congrArg₂ (SI.qqE (SI.xT A0) (SI.gT A1) (SI.wqT A2) (SI.tableT cs cs) (SI.tableT (Host.negf sn) sn)) (row_eq i) (Fin.ext (by dsimp only; omega))))
  funext y
  rw [eq_ix2 (y : S256x2048.Idx)]
  exact h (y 0) (y 1)

end Results

end Cert.Proof.SR

end
-- ==== Proof.SampleRefIdeal.Results.lean ====
module

public import proofs.«01_k».proof.Proof.SampleRefIdeal.Terms

@[expose] public section

set_option maxRecDepth 16384

noncomputable section

namespace Cert.Proof.SR

open Cert.SampleRefIdeal Cert.SampleRefIdeal.Gen
open Idealize.ShloMosaic Idealize.ShloMosaic.TcCoe Idealize.ShloMosaic.Tactic
open Idealize.SL Idealize.SL.Sem

variable (m : (ℓ : Loc nD τ sig) → Buf (Elt Ideal) ℓ) (ρ : Dev nD → PrngReg)

set_option maxHeartbeats 2000000 in
/-- The reference runs to its end, with each result at its stages and its arguments as they were. -/
theorem run_stages : θ_run defs (onTc (τ := τ) (main (F := Ideal))) ⟨m, fun _ => 0, ρ⟩ (fun r => ∀ c : Dev nD,
      r.2.mem ((c.tc : Thread nD τ).loc main_v162) = nkvR (Host.cos SI.angT) (Host.sin SI.angT) (zR (m ((c.tc : Thread nD τ).loc main_arg0)) (m ((c.tc : Thread nD τ).loc main_arg3)) (m ((c.tc : Thread nD τ).loc main_arg4)))
      ∧ r.2.mem ((c.tc : Thread nD τ).loc main_v164) = nwinR (Host.cos SI.angT) (Host.sin SI.angT) (m ((c.tc : Thread nD τ).loc main_arg1)) (zR (m ((c.tc : Thread nD τ).loc main_arg0)) (m ((c.tc : Thread nD τ).loc main_arg3)) (m ((c.tc : Thread nD τ).loc main_arg4)))
      ∧ r.2.mem ((c.tc : Thread nD τ).loc main_v166) = npoolR (m ((c.tc : Thread nD τ).loc main_arg2)) (zR (m ((c.tc : Thread nD τ).loc main_arg0)) (m ((c.tc : Thread nD τ).loc main_arg3)) (m ((c.tc : Thread nD τ).loc main_arg4)))
      ∧ r.2.mem ((c.tc : Thread nD τ).loc main_v167) = qqR (Host.cos SI.angT) (Host.sin SI.angT) (zR (m ((c.tc : Thread nD τ).loc main_arg0)) (m ((c.tc : Thread nD τ).loc main_arg3)) (m ((c.tc : Thread nD τ).loc main_arg4)))
      ∧ r.2.mem ((c.tc : Thread nD τ).loc main_v161) = gateR (zR (m ((c.tc : Thread nD τ).loc main_arg0)) (m ((c.tc : Thread nD τ).loc main_arg3)) (m ((c.tc : Thread nD τ).loc main_arg4)))
      ∧ r.2.mem ((c.tc : Thread nD τ).loc main_v169) = hrR (m ((c.tc : Thread nD τ).loc main_arg0)) (m ((c.tc : Thread nD τ).loc main_arg3))
      ∧ r.2.mem ((c.tc : Thread nD τ).loc main_v170) = uR (zR (m ((c.tc : Thread nD τ).loc main_arg0)) (m ((c.tc : Thread nD τ).loc main_arg3)) (m ((c.tc : Thread nD τ).loc main_arg4)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun r h c => ⟨(h c).1, (h c).2.1, (h c).2.2.1, (h c).2.2.2.1, (h c).2.2.2.2.1, (h c).2.2.2.2.2.1, (h c).2.2.2.2.2.2.1, (h c).2.2.2.2.2.2.2⟩) (Value.run m ρ)

/-- The reference's results are the arrays the kernel's program leaves, of the reference's arguments. -/
theorem run_arrays : θ_run defs (onTc (τ := τ) (main (F := Ideal))) ⟨m, fun _ => 0, ρ⟩ (fun r => ∀ c : Dev nD,
      r.2.mem ((c.tc : Thread nD τ).loc main_v162) = SI.newKvT (SI.nsaT (SI.xT (m ((c.tc : Thread nD τ).loc main_arg0))) (SI.gT (m ((c.tc : Thread nD τ).loc main_arg3))) (SI.wqT (m ((c.tc : Thread nD τ).loc main_arg4))) SI.cosT SI.sinT)
      ∧ r.2.mem ((c.tc : Thread nD τ).loc main_v164) = SI.newWinT (m ((c.tc : Thread nD τ).loc main_arg1)) (SI.winT (SI.xT (m ((c.tc : Thread nD τ).loc main_arg0))) (SI.gT (m ((c.tc : Thread nD τ).loc main_arg3))) (SI.wqT (m ((c.tc : Thread nD τ).loc main_arg4))) SI.cosT SI.sinT)
      ∧ r.2.mem ((c.tc : Thread nD τ).loc main_v166) = SI.newPoolT (m ((c.tc : Thread nD τ).loc main_arg2)) (SI.uT (SI.hT (SI.xT (m ((c.tc : Thread nD τ).loc main_arg0))) (SI.gT (m ((c.tc : Thread nD τ).loc main_arg3)))) (SI.wuT (m ((c.tc : Thread nD τ).loc main_arg4))))
      ∧ r.2.mem ((c.tc : Thread nD τ).loc main_v167) = SI.qqT (SI.xT (m ((c.tc : Thread nD τ).loc main_arg0))) (SI.gT (m ((c.tc : Thread nD τ).loc main_arg3))) (SI.wqT (m ((c.tc : Thread nD τ).loc main_arg4))) SI.cosT SI.sinT
      ∧ r.2.mem ((c.tc : Thread nD τ).loc main_v161) = SI.gate24T (SI.gateT (SI.xT (m ((c.tc : Thread nD τ).loc main_arg0))) (SI.gT (m ((c.tc : Thread nD τ).loc main_arg3))) (SI.wqT (m ((c.tc : Thread nD τ).loc main_arg4))))
      ∧ r.2.mem ((c.tc : Thread nD τ).loc main_v169) = SI.hT (SI.xT (m ((c.tc : Thread nD τ).loc main_arg0))) (SI.gT (m ((c.tc : Thread nD τ).loc main_arg3)))
      ∧ r.2.mem ((c.tc : Thread nD τ).loc main_v170) = SI.uT (SI.hT (SI.xT (m ((c.tc : Thread nD τ).loc main_arg0))) (SI.gT (m ((c.tc : Thread nD τ).loc main_arg3)))) (SI.wuT (m ((c.tc : Thread nD τ).loc main_arg4)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun r h c => ⟨(h c).1.trans (nkvR_eq _ _ _ _ _),
      (h c).2.1.trans (nwinR_eq _ _ _ _ _ _),
      (h c).2.2.1.trans (npoolR_eq _ _ _ _),
      (h c).2.2.2.1.trans (qqR_eq _ _ _ _ _),
      (h c).2.2.2.2.1.trans (gateR_eq _ _ _),
      (h c).2.2.2.2.2.1.trans (hrR_eq _ _),
      (h c).2.2.2.2.2.2.1.trans (uR_eq _ _ _), (h c).2.2.2.2.2.2.2⟩) (run_stages m ρ)

end Cert.Proof.SR

end
-- ==== Proof.lean ====
module

public import proofs.«01_k».proof.Defs
public import proofs.«01_k».proof.Proof.Gen.ReferenceIdeal
public import proofs.«01_k».proof.Proof.Gen.ReferenceIdeal.Run
public import proofs.«01_k».proof.Proof.Gen.Kernel
public import proofs.«01_k».proof.Proof.Gen.KernelIdeal
public import proofs.«01_k».proof.Proof.Kernel.Frame
public import proofs.«01_k».proof.Proof.KernelIdeal.Frame
public import proofs.«01_k».proof.Proof.KernelIdeal.Out
public import proofs.«01_k».proof.Proof.ReferenceIdeal.Terms
public import proofs.«01_k».proof.Proof.Gen.Merge
public import proofs.«01_k».proof.Proof.Gen.MergeIdeal
public import proofs.«01_k».proof.Proof.Gen.MergeRefIdeal
public import proofs.«01_k».proof.Proof.Gen.MergeRefIdeal.Run
public import proofs.«01_k».proof.Proof.Gen.MergeIdeal.Frame
public import proofs.«01_k».proof.Proof.Gen.Merge.Frame
public import proofs.«01_k».proof.Proof.MergeIdeal.Run
public import proofs.«01_k».proof.Proof.MergeRefIdeal.Terms
public import proofs.«01_k».proof.Proof.Gen.Inputs
public import proofs.«01_k».proof.Proof.Gen.InputsIdeal
public import proofs.«01_k».proof.Proof.Gen.InputsRefIdeal
public import proofs.«01_k».proof.Proof.Gen.InputsRefIdeal.Run
public import proofs.«01_k».proof.Proof.InputsIdeal.Frame
public import proofs.«01_k».proof.Proof.Inputs.Frame
public import proofs.«01_k».proof.Proof.InputsIdeal.Run
public import proofs.«01_k».proof.Proof.InputsRefIdeal.Results
public import proofs.«01_k».proof.Proof.Gen.Sample
public import proofs.«01_k».proof.Proof.Gen.SampleIdeal
public import proofs.«01_k».proof.Proof.Gen.SampleRefIdeal
public import proofs.«01_k».proof.Proof.Gen.SampleRefIdeal.Run
public import proofs.«01_k».proof.Proof.SampleIdeal.Frame
public import proofs.«01_k».proof.Proof.Sample.Frame
public import proofs.«01_k».proof.Proof.SampleIdeal.Run
public import proofs.«01_k».proof.Proof.SampleRefIdeal.Results
public import Idealize.ShloMosaic.Adequacy
public import Idealize.ShloMosaic.Init

@[expose] public section

noncomputable section

namespace Cert.Proof

open Idealize.ShloMosaic Idealize.ShloMosaic.Tactic Idealize.SL.Sem Cert.Kernel

/-- The reference runs to its end, leaves its arguments as they were and every semaphore counter at zero. -/
theorem frame_ref : Cert.quiescent_ReferenceIdeal (hReferenceIdeal := Cert.ReferenceIdeal.Gen.facts) := fun m ρ _ =>
  (θ_run Cert.ReferenceIdeal.defs _ _).mono
    (fun r h => ⟨fun c => (h c).2, Idealize.ShloMosaic.sem_eq_zero_of_no_sems (by decide) r.2⟩)
    (Cert.ReferenceIdeal.Value.run m ρ)

/-- From equal arguments the kernel's result array and the reference's are equal, entry by entry. -/
theorem algebraic : Cert.algebraic_KernelIdeal_ReferenceIdeal (hKernelIdeal := Cert.KernelIdeal.Gen.facts)
    (hReferenceIdeal := Cert.ReferenceIdeal.Gen.facts) := by
  intro m g m' g' _ h
  refine ⟨_, Cert.Proof.PI.run_blocks m g, ?_⟩
  refine (θ_run Cert.ReferenceIdeal.defs _ _).mono (fun r hr c => ⟨(hr c).1.trans ?_, (hr c).2⟩)
    (Cert.ReferenceIdeal.Value.run m' g')
  refine (Cert.Proof.RI.res_eq m' c).trans ?_
  rw [(h c).1, (h c).2.1, (h c).2.2]
  refine Eq.trans ?_ (Cert.Proof.PI.final m c).symm
  funext y
  exact (congrArg _ (eq_ix3 (y : Cert.ReferenceIdeal.S2x8192x1024.Idx))).trans (Cert.Proof.RI.resT_at _ _ _ (y 0) (y 1) (y 2))

/-- The second program's reference runs to its end, leaves its arguments as they were and every semaphore counter at zero. -/
theorem frame_merge_ref : Cert.quiescent_MergeRefIdeal (hMergeRefIdeal := Cert.MergeRefIdeal.Gen.facts) := fun m ρ _ =>
  (θ_run Cert.MergeRefIdeal.defs _ _).mono
    (fun r h => ⟨fun c => (h c).2, Idealize.ShloMosaic.sem_eq_zero_of_no_sems (by decide) r.2⟩)
    (Cert.MergeRefIdeal.Value.run m ρ)

/-- From equal arguments the second program's result array and its reference's are equal, entry by entry. -/
theorem algebraic_merge : Cert.algebraic_MergeIdeal_MergeRefIdeal (hMergeIdeal := Cert.MergeIdeal.Gen.facts)
    (hMergeRefIdeal := Cert.MergeRefIdeal.Gen.facts) := by
  intro m g m' g' _ h
  refine ⟨_, Cert.Proof.MI.run_blocks m g, ?_⟩
  refine (θ_run Cert.MergeRefIdeal.defs _ _).mono (fun r hr c => ⟨(hr c).1.trans ?_, (hr c).2⟩)
    (Cert.MergeRefIdeal.Value.run m' g')
  obtain ⟨h0, h1, h2, h3, h4, h5, h6, h7, h8, h9, h10⟩ := h c
  rw [h0, h1, h2, h3, h4, h5, h6, h7, h8, h9, h10]
  refine Eq.trans ?_ (Cert.Proof.MI.result m g c).symm
  exact Cert.Proof.MR.resT_eq _ _ _ _ _ _ _ _ _ _ _ _ (Cert.Proof.MI.wgT_at _)

/-- The third program's reference runs to its end, leaves its arguments as they were and every semaphore counter at zero. -/
theorem frame_inputs_ref : Cert.quiescent_InputsRefIdeal (hInputsRefIdeal := Cert.InputsRefIdeal.Gen.facts) := fun m ρ _ =>
  (θ_run Cert.InputsRefIdeal.defs _ _).mono
    (fun r h => ⟨fun c => (h c).2.2.2.2.2.2.2.2, Idealize.ShloMosaic.sem_eq_zero_of_no_sems (by decide) r.2⟩)
    (Cert.Proof.IR.run_stages m ρ)

/-- From equal arguments each of the third program's eight result arrays and its reference's are equal, entry by entry. -/
theorem algebraic_inputs : Cert.algebraic_InputsIdeal_InputsRefIdeal (hInputsIdeal := Cert.InputsIdeal.Gen.facts)
    (hInputsRefIdeal := Cert.InputsRefIdeal.Gen.facts) := by
  intro m g m' g' _ h
  refine ⟨_, _, _, _, _, _, _, _, Cert.Proof.II.run_blocks m g, ?_⟩
  refine (θ_run Cert.InputsRefIdeal.defs _ _).mono (fun r hr c => ?_) (Cert.Proof.IR.run_arrays m' g')
  have hc := hr c
  rw [(h c).1, (h c).2.1, (h c).2.2] at hc
  rw [(h c).1, (h c).2.1, (h c).2.2]
  obtain ⟨r0, r1, r2, r3, r4, r5, r6, r7, ra⟩ := hc
  exact ⟨r0.trans (Cert.Proof.II.W5_v35 m g c).symm, r1.trans (Cert.Proof.II.W5_v38 m g c).symm, r2.trans (Cert.Proof.II.W5_v40 m g c).symm, r3.trans (Cert.Proof.II.W5_v31_0 m g c).symm, r4.trans (Cert.Proof.II.W5_v31_4 m g c).symm, r5.trans (Cert.Proof.II.W5_v41 m g c).symm, r6.trans (Cert.Proof.II.W5_v31_5 m g c).symm, r7.trans (Cert.Proof.II.W5_v33 m g c).symm, ra⟩

/-- The fourth program's reference runs to its end, leaves its arguments as they were and every semaphore counter at zero. -/
theorem frame_sample_ref : Cert.quiescent_SampleRefIdeal (hSampleRefIdeal := Cert.SampleRefIdeal.Gen.facts) := fun m ρ _ =>
  (θ_run Cert.SampleRefIdeal.defs _ _).mono
    (fun r h => ⟨fun c => (h c).2.2.2.2.2.2.2, Idealize.ShloMosaic.sem_eq_zero_of_no_sems (by decide) r.2⟩)
    (Cert.Proof.SR.run_stages m ρ)

/-- From equal arguments each of the fourth program's seven result arrays and its reference's are equal, entry by entry. -/
theorem algebraic_sample : Cert.algebraic_SampleIdeal_SampleRefIdeal (hSampleIdeal := Cert.SampleIdeal.Gen.facts)
    (hSampleRefIdeal := Cert.SampleRefIdeal.Gen.facts) := by
  intro m g m' g' _ h
  refine ⟨_, _, _, _, _, _, _, Cert.Proof.SI.run_blocks m g, ?_⟩
  refine (θ_run Cert.SampleRefIdeal.defs _ _).mono (fun r hr c => ?_) (Cert.Proof.SR.run_arrays m' g')
  have hc := hr c
  rw [(h c).1, (h c).2.1, (h c).2.2.1, (h c).2.2.2.1, (h c).2.2.2.2] at hc
  rw [(h c).1, (h c).2.1, (h c).2.2.1, (h c).2.2.2.1, (h c).2.2.2.2]
  obtain ⟨r0, r1, r2, r3, r4, r5, r6, ra⟩ := hc
  exact ⟨r0.trans (Cert.Proof.SI.W5_v37 m g c).symm, r1.trans (Cert.Proof.SI.W5_v41 m g c).symm, r2.trans (Cert.Proof.SI.W5_v44 m g c).symm, r3.trans (Cert.Proof.SI.W5_v33_0 m g c).symm, r4.trans (Cert.Proof.SI.W5_v45 m g c).symm, r5.trans (Cert.Proof.SI.W5_v33_5 m g c).symm, r6.trans (Cert.Proof.SI.W5_v35 m g c).symm, ra⟩

/-- Everything the certificate claims. -/
theorem claim : Cert.Claim :=
  ⟨Cert.Kernel.Gen.facts, Cert.KernelIdeal.Gen.facts, Cert.ReferenceIdeal.Gen.facts,
    Cert.Merge.Gen.facts, Cert.MergeIdeal.Gen.facts, Cert.MergeRefIdeal.Gen.facts,
    Cert.Inputs.Gen.facts, Cert.InputsIdeal.Gen.facts, Cert.InputsRefIdeal.Gen.facts,
    Cert.Sample.Gen.facts, Cert.SampleIdeal.Gen.facts, Cert.SampleRefIdeal.Gen.facts,
    fun m ρ _ => Cert.Proof.P.frame m ρ, fun m ρ _ => Cert.Proof.PI.frame m ρ, frame_ref,
    fun m ρ _ => Cert.Merge.Gen.frame m ρ, fun m ρ _ => Cert.MergeIdeal.Gen.frame m ρ, frame_merge_ref,
    Cert.Proof.frame_inputs, fun m ρ _ => Cert.Proof.II.frame m ρ, frame_inputs_ref,
    Cert.Proof.frame_sample, fun m ρ _ => Cert.Proof.SI.frame m ρ, frame_sample_ref,
    IdealRules.named_const.statement Cert.KernelIdeal.κ "scale_log2e" .f32 0x3E0293EE#32
      (((Real.sqrt 128)⁻¹ * (Real.log 2)⁻¹ : ℝ) : EReal) rfl,
    algebraic, trivial, algebraic_merge, trivial, algebraic_inputs, trivial, algebraic_sample⟩

end Cert.Proof

end
